-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Down [hPre_planned : Cert.Pre_planned.Facts] (m : (ℓ : Loc Cert.Down.nD Cert.Down.τ Cert.Down.sig) → Buf (Elt Bits) ℓ) : Prop :=
  ∀ c : Dev Cert.Down.nD,
    (Cert.Pre_planned.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4)) (m ((c.tc : Thread Cert.Down.nD Cert.Down.τ).loc Cert.Down.main_arg5)) (m ((c.tc : Thread Cert.Down.nD Cert.Down.τ).loc Cert.Down.main_arg6))) = (fun _ => 1#1)

def Pre_DownIdeal [hPre_planned : Cert.Pre_planned.Facts] (m : (ℓ : Loc Cert.DownIdeal.nD Cert.DownIdeal.τ Cert.DownIdeal.sig) → Buf (Elt Ideal) ℓ) : Prop :=
  ∀ c : Dev Cert.DownIdeal.nD,
    (Cert.Pre_planned.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6))) = (fun _ => 1#1)

def Pre_DownIdeal_padded [hPre_padded : Cert.Pre_padded.Facts] (m : (ℓ : Loc Cert.DownIdeal.nD Cert.DownIdeal.τ Cert.DownIdeal.sig) → Buf (Elt Ideal) ℓ) : Prop :=
  ∀ c : Dev Cert.DownIdeal.nD,
    (Cert.Pre_padded.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_padded [hPre_padded : Cert.Pre_padded.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_padded.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5)) (m ((c.tc : Thread Cert.DownRefIdeal.nD Cert.DownRefIdeal.τ).loc Cert.DownRefIdeal.main_arg6))) = (fun _ => 1#1)

def Pre_Up [hPre_planned_up : Cert.Pre_planned_up.Facts] (m : (ℓ : Loc Cert.Up.nD Cert.Up.τ Cert.Up.sig) → Buf (Elt Bits) ℓ) : Prop :=
  ∀ c : Dev Cert.Up.nD,
    (Cert.Pre_planned_up.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5)) (m ((c.tc : Thread Cert.Up.nD Cert.Up.τ).loc Cert.Up.main_arg6))) = (fun _ => 1#1)

def Pre_UpIdeal [hPre_planned_up : Cert.Pre_planned_up.Facts] (m : (ℓ : Loc Cert.UpIdeal.nD Cert.UpIdeal.τ Cert.UpIdeal.sig) → Buf (Elt Ideal) ℓ) : Prop :=
  ∀ c : Dev Cert.UpIdeal.nD,
    (Cert.Pre_planned_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))) = (fun _ => 1#1)

def Pre_UpIdeal_padded_up [hPre_padded_up : Cert.Pre_padded_up.Facts] (m : (ℓ : Loc Cert.UpIdeal.nD Cert.UpIdeal.τ Cert.UpIdeal.sig) → Buf (Elt Ideal) ℓ) : Prop :=
  ∀ c : Dev Cert.UpIdeal.nD,
    (Cert.Pre_padded_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_padded_up [hPre_padded_up : Cert.Pre_padded_up.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_padded_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6))) = (fun _ => 1#1)

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsRefIdeal (m : (ℓ : Loc Cert.RowsRefIdeal.nD Cert.RowsRefIdeal.τ Cert.RowsRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_RetIn (m : (ℓ : Loc Cert.RetIn.nD Cert.RetIn.τ Cert.RetIn.sig) → Buf (Elt Bits) ℓ) : Prop :=
  True

def Pre_RetInIdeal (m : (ℓ : Loc Cert.RetInIdeal.nD Cert.RetInIdeal.τ Cert.RetInIdeal.sig) → Buf (Elt Ideal) ℓ) : Prop :=
  True

def Pre_RetInRefIdeal (m : (ℓ : Loc Cert.RetInRefIdeal.nD Cert.RetInRefIdeal.τ Cert.RetInRefIdeal.sig) → Buf (Elt Ideal) ℓ) : Prop :=
  True

def Pre_GmlpIn (m : (ℓ : Loc Cert.GmlpIn.nD Cert.GmlpIn.τ Cert.GmlpIn.sig) → Buf (Elt Bits) ℓ) : Prop :=
  True

def Pre_GmlpInIdeal (m : (ℓ : Loc Cert.GmlpInIdeal.nD Cert.GmlpInIdeal.τ Cert.GmlpInIdeal.sig) → Buf (Elt Ideal) ℓ) : Prop :=
  True

def Pre_GmlpInRefIdeal (m : (ℓ : Loc Cert.GmlpInRefIdeal.nD Cert.GmlpInRefIdeal.τ Cert.GmlpInRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_GmlpOut (m : (ℓ : Loc Cert.GmlpOut.nD Cert.GmlpOut.τ Cert.GmlpOut.sig) → Buf (Elt Bits) ℓ) : Prop :=
  True

def Pre_GmlpOutIdeal (m : (ℓ : Loc Cert.GmlpOutIdeal.nD Cert.GmlpOutIdeal.τ Cert.GmlpOutIdeal.sig) → Buf (Elt Ideal) ℓ) : Prop :=
  True

def Pre_GmlpOutRefIdeal (m : (ℓ : Loc Cert.GmlpOutRefIdeal.nD Cert.GmlpOutRefIdeal.τ Cert.GmlpOutRefIdeal.sig) → Buf (Elt Ideal) ℓ) : Prop :=
  True

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetOutRefIdeal (m : (ℓ : Loc Cert.RetOutRefIdeal.nD Cert.RetOutRefIdeal.τ Cert.RetOutRefIdeal.sig) → Buf (Elt Ideal) ℓ) : Prop :=
  True

def Pre_AttOut (m : (ℓ : Loc Cert.AttOut.nD Cert.AttOut.τ Cert.AttOut.sig) → Buf (Elt Bits) ℓ) : Prop :=
  True

def Pre_AttOutIdeal (m : (ℓ : Loc Cert.AttOutIdeal.nD Cert.AttOutIdeal.τ Cert.AttOutIdeal.sig) → Buf (Elt Ideal) ℓ) : Prop :=
  True

def Pre_AttOutRefIdeal (m : (ℓ : Loc Cert.AttOutRefIdeal.nD Cert.AttOutRefIdeal.τ Cert.AttOutRefIdeal.sig) → Buf (Elt Ideal) ℓ) : Prop :=
  True

def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Down [hDown : Cert.Down.Facts] [hPre_planned : Cert.Pre_planned.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6))
      ∧ r.2.sem = fun _ => 0)

def quiescent_DownIdeal [hDownIdeal : Cert.DownIdeal.Facts] [hPre_planned : Cert.Pre_planned.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ r.2.sem = fun _ => 0)

def quiescent_DownIdeal_pre_padded [hDownIdeal : Cert.DownIdeal.Facts] [hPre_padded : Cert.Pre_padded.Facts] : Prop :=
  ∀ (m : (ℓ : Loc Cert.DownIdeal.nD Cert.DownIdeal.τ Cert.DownIdeal.sig) → Buf (Elt Ideal) ℓ) (g : Dev Cert.DownIdeal.nD → PrngReg), Pre_DownIdeal_padded m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6))
      ∧ r.2.sem = fun _ => 0)

def quiescent_DownRefIdeal_pre_padded [hDownRefIdeal : Cert.DownRefIdeal.Facts] [hPre_padded : Cert.Pre_padded.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_padded m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6))
      ∧ r.2.sem = fun _ => 0)

def quiescent_Up [hUp : Cert.Up.Facts] [hPre_planned_up : Cert.Pre_planned_up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5)
      ∧ r.2.mem ((c.tc : Thread Cert.Up.nD Cert.Up.τ).loc Cert.Up.main_arg6) = m ((c.tc : Thread Cert.Up.nD Cert.Up.τ).loc Cert.Up.main_arg6))
      ∧ r.2.sem = fun _ => 0)

def quiescent_UpIdeal [hUpIdeal : Cert.UpIdeal.Facts] [hPre_planned_up : Cert.Pre_planned_up.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ r.2.sem = fun _ => 0)

def quiescent_UpIdeal_pre_padded_up [hUpIdeal : Cert.UpIdeal.Facts] [hPre_padded_up : Cert.Pre_padded_up.Facts] : Prop :=
  ∀ (m : (ℓ : Loc Cert.UpIdeal.nD Cert.UpIdeal.τ Cert.UpIdeal.sig) → Buf (Elt Ideal) ℓ) (g : Dev Cert.UpIdeal.nD → PrngReg), Pre_UpIdeal_padded_up m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6))
      ∧ r.2.sem = fun _ => 0)

def quiescent_UpRefIdeal_pre_padded_up [hUpRefIdeal : Cert.UpRefIdeal.Facts] [hPre_padded_up : Cert.Pre_padded_up.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_padded_up m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ r.2.sem = fun _ => 0)

def quiescent_RowsRefIdeal [hRowsRefIdeal : Cert.RowsRefIdeal.Facts] : Prop :=
  ∀ (m : (ℓ : Loc Cert.RowsRefIdeal.nD Cert.RowsRefIdeal.τ Cert.RowsRefIdeal.sig) → Buf (Elt Ideal) ℓ) (g : Dev Cert.RowsRefIdeal.nD → PrngReg), Pre_RowsRefIdeal m →
    θ_run (Cert.RowsRefIdeal.defs (F := Ideal)) (onTc (τ := Cert.RowsRefIdeal.τ) (Cert.RowsRefIdeal.main (F := Ideal))) ⟨m, fun _ => 0, g⟩ (fun r => (∀ c : Dev Cert.RowsRefIdeal.nD,
      r.2.mem ((c.tc : Thread Cert.RowsRefIdeal.nD Cert.RowsRefIdeal.τ).loc Cert.RowsRefIdeal.main_arg0) = m ((c.tc : Thread Cert.RowsRefIdeal.nD Cert.RowsRefIdeal.τ).loc Cert.RowsRefIdeal.main_arg0)
      ∧ r.2.mem ((c.tc : Thread Cert.RowsRefIdeal.nD Cert.RowsRefIdeal.τ).loc Cert.RowsRefIdeal.main_arg1) = m ((c.tc : Thread Cert.RowsRefIdeal.nD Cert.RowsRefIdeal.τ).loc Cert.RowsRefIdeal.main_arg1))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4)
      ∧ r.2.mem ((c.tc : Thread Cert.FinalRefIdeal.nD Cert.FinalRefIdeal.τ).loc Cert.FinalRefIdeal.main_arg5) = m ((c.tc : Thread Cert.FinalRefIdeal.nD Cert.FinalRefIdeal.τ).loc Cert.FinalRefIdeal.main_arg5))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_RetIn [hRetIn : Cert.RetIn.Facts] : Prop :=
  ∀ (m : (ℓ : Loc Cert.RetIn.nD Cert.RetIn.τ Cert.RetIn.sig) → Buf (Elt Bits) ℓ) (g : Dev Cert.RetIn.nD → PrngReg), Pre_RetIn m →
    θ_run (Cert.RetIn.defs (F := Bits)) (onTc (τ := Cert.RetIn.τ) (Cert.RetIn.main (F := Bits))) ⟨m, fun _ => 0, g⟩ (fun r => (∀ c : Dev Cert.RetIn.nD,
      r.2.mem ((c.tc : Thread Cert.RetIn.nD Cert.RetIn.τ).loc Cert.RetIn.main_arg0) = m ((c.tc : Thread Cert.RetIn.nD Cert.RetIn.τ).loc Cert.RetIn.main_arg0)
      ∧ r.2.mem ((c.tc : Thread Cert.RetIn.nD Cert.RetIn.τ).loc Cert.RetIn.main_arg1) = m ((c.tc : Thread Cert.RetIn.nD Cert.RetIn.τ).loc Cert.RetIn.main_arg1))
      ∧ r.2.sem = fun _ => 0)

def quiescent_RetInIdeal [hRetInIdeal : Cert.RetInIdeal.Facts] : Prop :=
  ∀ (m : (ℓ : Loc Cert.RetInIdeal.nD Cert.RetInIdeal.τ Cert.RetInIdeal.sig) → Buf (Elt Ideal) ℓ) (g : Dev Cert.RetInIdeal.nD → PrngReg), Pre_RetInIdeal m →
    θ_run (Cert.RetInIdeal.defs (F := Ideal)) (onTc (τ := Cert.RetInIdeal.τ) (Cert.RetInIdeal.main (F := Ideal))) ⟨m, fun _ => 0, g⟩ (fun r => (∀ c : Dev Cert.RetInIdeal.nD,
      r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
      ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1))
      ∧ r.2.sem = fun _ => 0)

def quiescent_RetInRefIdeal [hRetInRefIdeal : Cert.RetInRefIdeal.Facts] : Prop :=
  ∀ (m : (ℓ : Loc Cert.RetInRefIdeal.nD Cert.RetInRefIdeal.τ Cert.RetInRefIdeal.sig) → Buf (Elt Ideal) ℓ) (g : Dev Cert.RetInRefIdeal.nD → PrngReg), Pre_RetInRefIdeal m →
    θ_run (Cert.RetInRefIdeal.defs (F := Ideal)) (onTc (τ := Cert.RetInRefIdeal.τ) (Cert.RetInRefIdeal.main (F := Ideal))) ⟨m, fun _ => 0, g⟩ (fun r => (∀ c : Dev Cert.RetInRefIdeal.nD,
      r.2.mem ((c.tc : Thread Cert.RetInRefIdeal.nD Cert.RetInRefIdeal.τ).loc Cert.RetInRefIdeal.main_arg0) = m ((c.tc : Thread Cert.RetInRefIdeal.nD Cert.RetInRefIdeal.τ).loc Cert.RetInRefIdeal.main_arg0)
      ∧ r.2.mem ((c.tc : Thread Cert.RetInRefIdeal.nD Cert.RetInRefIdeal.τ).loc Cert.RetInRefIdeal.main_arg1) = m ((c.tc : Thread Cert.RetInRefIdeal.nD Cert.RetInRefIdeal.τ).loc Cert.RetInRefIdeal.main_arg1))
      ∧ r.2.sem = fun _ => 0)

def quiescent_GmlpIn [hGmlpIn : Cert.GmlpIn.Facts] : Prop :=
  ∀ (m : (ℓ : Loc Cert.GmlpIn.nD Cert.GmlpIn.τ Cert.GmlpIn.sig) → Buf (Elt Bits) ℓ) (g : Dev Cert.GmlpIn.nD → PrngReg), Pre_GmlpIn m →
    θ_run (Cert.GmlpIn.defs (F := Bits)) (onTc (τ := Cert.GmlpIn.τ) (Cert.GmlpIn.main (F := Bits))) ⟨m, fun _ => 0, g⟩ (fun r => (∀ c : Dev Cert.GmlpIn.nD,
      r.2.mem ((c.tc : Thread Cert.GmlpIn.nD Cert.GmlpIn.τ).loc Cert.GmlpIn.main_arg0) = m ((c.tc : Thread Cert.GmlpIn.nD Cert.GmlpIn.τ).loc Cert.GmlpIn.main_arg0)
      ∧ r.2.mem ((c.tc : Thread Cert.GmlpIn.nD Cert.GmlpIn.τ).loc Cert.GmlpIn.main_arg1) = m ((c.tc : Thread Cert.GmlpIn.nD Cert.GmlpIn.τ).loc Cert.GmlpIn.main_arg1))
      ∧ r.2.sem = fun _ => 0)

def quiescent_GmlpInIdeal [hGmlpInIdeal : Cert.GmlpInIdeal.Facts] : Prop :=
  ∀ (m : (ℓ : Loc Cert.GmlpInIdeal.nD Cert.GmlpInIdeal.τ Cert.GmlpInIdeal.sig) → Buf (Elt Ideal) ℓ) (g : Dev Cert.GmlpInIdeal.nD → PrngReg), Pre_GmlpInIdeal m →
    θ_run (Cert.GmlpInIdeal.defs (F := Ideal)) (onTc (τ := Cert.GmlpInIdeal.τ) (Cert.GmlpInIdeal.main (F := Ideal))) ⟨m, fun _ => 0, g⟩ (fun r => (∀ c : Dev Cert.GmlpInIdeal.nD,
      r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
      ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1))
      ∧ r.2.sem = fun _ => 0)

def quiescent_GmlpInRefIdeal [hGmlpInRefIdeal : Cert.GmlpInRefIdeal.Facts] : Prop :=
  ∀ (m : (ℓ : Loc Cert.GmlpInRefIdeal.nD Cert.GmlpInRefIdeal.τ Cert.GmlpInRefIdeal.sig) → Buf (Elt Ideal) ℓ) (g : Dev Cert.GmlpInRefIdeal.nD → PrngReg), Pre_GmlpInRefIdeal m →
    θ_run (Cert.GmlpInRefIdeal.defs (F := Ideal)) (onTc (τ := Cert.GmlpInRefIdeal.τ) (Cert.GmlpInRefIdeal.main (F := Ideal))) ⟨m, fun _ => 0, g⟩ (fun r => (∀ c : Dev Cert.GmlpInRefIdeal.nD,
      r.2.mem ((c.tc : Thread Cert.GmlpInRefIdeal.nD Cert.GmlpInRefIdeal.τ).loc Cert.GmlpInRefIdeal.main_arg0) = m ((c.tc : Thread Cert.GmlpInRefIdeal.nD Cert.GmlpInRefIdeal.τ).loc Cert.GmlpInRefIdeal.main_arg0)
      ∧ r.2.mem ((c.tc : Thread Cert.GmlpInRefIdeal.nD Cert.GmlpInRefIdeal.τ).loc Cert.GmlpInRefIdeal.main_arg1) = m ((c.tc : Thread Cert.GmlpInRefIdeal.nD Cert.GmlpInRefIdeal.τ).loc Cert.GmlpInRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_GmlpOut [hGmlpOut : Cert.GmlpOut.Facts] : Prop :=
  ∀ (m : (ℓ : Loc Cert.GmlpOut.nD Cert.GmlpOut.τ Cert.GmlpOut.sig) → Buf (Elt Bits) ℓ) (g : Dev Cert.GmlpOut.nD → PrngReg), Pre_GmlpOut m →
    θ_run (Cert.GmlpOut.defs (F := Bits)) (onTc (τ := Cert.GmlpOut.τ) (Cert.GmlpOut.main (F := Bits))) ⟨m, fun _ => 0, g⟩ (fun r => (∀ c : Dev Cert.GmlpOut.nD,
      r.2.mem ((c.tc : Thread Cert.GmlpOut.nD Cert.GmlpOut.τ).loc Cert.GmlpOut.main_arg0) = m ((c.tc : Thread Cert.GmlpOut.nD Cert.GmlpOut.τ).loc Cert.GmlpOut.main_arg0)
      ∧ r.2.mem ((c.tc : Thread Cert.GmlpOut.nD Cert.GmlpOut.τ).loc Cert.GmlpOut.main_arg1) = m ((c.tc : Thread Cert.GmlpOut.nD Cert.GmlpOut.τ).loc Cert.GmlpOut.main_arg1)
      ∧ r.2.mem ((c.tc : Thread Cert.GmlpOut.nD Cert.GmlpOut.τ).loc Cert.GmlpOut.main_arg2) = m ((c.tc : Thread Cert.GmlpOut.nD Cert.GmlpOut.τ).loc Cert.GmlpOut.main_arg2))
      ∧ r.2.sem = fun _ => 0)

def quiescent_GmlpOutIdeal [hGmlpOutIdeal : Cert.GmlpOutIdeal.Facts] : Prop :=
  ∀ (m : (ℓ : Loc Cert.GmlpOutIdeal.nD Cert.GmlpOutIdeal.τ Cert.GmlpOutIdeal.sig) → Buf (Elt Ideal) ℓ) (g : Dev Cert.GmlpOutIdeal.nD → PrngReg), Pre_GmlpOutIdeal m →
    θ_run (Cert.GmlpOutIdeal.defs (F := Ideal)) (onTc (τ := Cert.GmlpOutIdeal.τ) (Cert.GmlpOutIdeal.main (F := Ideal))) ⟨m, fun _ => 0, g⟩ (fun r => (∀ c : Dev Cert.GmlpOutIdeal.nD,
      r.2.mem ((c.tc : Thread Cert.GmlpOutIdeal.nD Cert.GmlpOutIdeal.τ).loc Cert.GmlpOutIdeal.main_arg0) = m ((c.tc : Thread Cert.GmlpOutIdeal.nD Cert.GmlpOutIdeal.τ).loc Cert.GmlpOutIdeal.main_arg0)
      ∧ r.2.mem ((c.tc : Thread Cert.GmlpOutIdeal.nD Cert.GmlpOutIdeal.τ).loc Cert.GmlpOutIdeal.main_arg1) = m ((c.tc : Thread Cert.GmlpOutIdeal.nD Cert.GmlpOutIdeal.τ).loc Cert.GmlpOutIdeal.main_arg1)
      ∧ r.2.mem ((c.tc : Thread Cert.GmlpOutIdeal.nD Cert.GmlpOutIdeal.τ).loc Cert.GmlpOutIdeal.main_arg2) = m ((c.tc : Thread Cert.GmlpOutIdeal.nD Cert.GmlpOutIdeal.τ).loc Cert.GmlpOutIdeal.main_arg2))
      ∧ r.2.sem = fun _ => 0)

def quiescent_GmlpOutRefIdeal [hGmlpOutRefIdeal : Cert.GmlpOutRefIdeal.Facts] : Prop :=
  ∀ (m : (ℓ : Loc Cert.GmlpOutRefIdeal.nD Cert.GmlpOutRefIdeal.τ Cert.GmlpOutRefIdeal.sig) → Buf (Elt Ideal) ℓ) (g : Dev Cert.GmlpOutRefIdeal.nD → PrngReg), Pre_GmlpOutRefIdeal m →
    θ_run (Cert.GmlpOutRefIdeal.defs (F := Ideal)) (onTc (τ := Cert.GmlpOutRefIdeal.τ) (Cert.GmlpOutRefIdeal.main (F := Ideal))) ⟨m, fun _ => 0, g⟩ (fun r => (∀ c : Dev Cert.GmlpOutRefIdeal.nD,
      r.2.mem ((c.tc : Thread Cert.GmlpOutRefIdeal.nD Cert.GmlpOutRefIdeal.τ).loc Cert.GmlpOutRefIdeal.main_arg0) = m ((c.tc : Thread Cert.GmlpOutRefIdeal.nD Cert.GmlpOutRefIdeal.τ).loc Cert.GmlpOutRefIdeal.main_arg0)
      ∧ r.2.mem ((c.tc : Thread Cert.GmlpOutRefIdeal.nD Cert.GmlpOutRefIdeal.τ).loc Cert.GmlpOutRefIdeal.main_arg1) = m ((c.tc : Thread Cert.GmlpOutRefIdeal.nD Cert.GmlpOutRefIdeal.τ).loc Cert.GmlpOutRefIdeal.main_arg1)
      ∧ r.2.mem ((c.tc : Thread Cert.GmlpOutRefIdeal.nD Cert.GmlpOutRefIdeal.τ).loc Cert.GmlpOutRefIdeal.main_arg2) = m ((c.tc : Thread Cert.GmlpOutRefIdeal.nD Cert.GmlpOutRefIdeal.τ).loc Cert.GmlpOutRefIdeal.main_arg2))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1)
      ∧ r.2.mem ((c.tc : Thread Cert.RetOut.nD Cert.RetOut.τ).loc Cert.RetOut.main_arg2) = m ((c.tc : Thread Cert.RetOut.nD Cert.RetOut.τ).loc Cert.RetOut.main_arg2)
      ∧ r.2.mem ((c.tc : Thread Cert.RetOut.nD Cert.RetOut.τ).loc Cert.RetOut.main_arg3) = m ((c.tc : Thread Cert.RetOut.nD Cert.RetOut.τ).loc Cert.RetOut.main_arg3))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
      ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
      ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3))
      ∧ r.2.sem = fun _ => 0)

def quiescent_RetOutRefIdeal [hRetOutRefIdeal : Cert.RetOutRefIdeal.Facts] : Prop :=
  ∀ (m : (ℓ : Loc Cert.RetOutRefIdeal.nD Cert.RetOutRefIdeal.τ Cert.RetOutRefIdeal.sig) → Buf (Elt Ideal) ℓ) (g : Dev Cert.RetOutRefIdeal.nD → PrngReg), Pre_RetOutRefIdeal m →
    θ_run (Cert.RetOutRefIdeal.defs (F := Ideal)) (onTc (τ := Cert.RetOutRefIdeal.τ) (Cert.RetOutRefIdeal.main (F := Ideal))) ⟨m, fun _ => 0, g⟩ (fun r => (∀ c : Dev Cert.RetOutRefIdeal.nD,
      r.2.mem ((c.tc : Thread Cert.RetOutRefIdeal.nD Cert.RetOutRefIdeal.τ).loc Cert.RetOutRefIdeal.main_arg0) = m ((c.tc : Thread Cert.RetOutRefIdeal.nD Cert.RetOutRefIdeal.τ).loc Cert.RetOutRefIdeal.main_arg0)
      ∧ r.2.mem ((c.tc : Thread Cert.RetOutRefIdeal.nD Cert.RetOutRefIdeal.τ).loc Cert.RetOutRefIdeal.main_arg1) = m ((c.tc : Thread Cert.RetOutRefIdeal.nD Cert.RetOutRefIdeal.τ).loc Cert.RetOutRefIdeal.main_arg1)
      ∧ r.2.mem ((c.tc : Thread Cert.RetOutRefIdeal.nD Cert.RetOutRefIdeal.τ).loc Cert.RetOutRefIdeal.main_arg2) = m ((c.tc : Thread Cert.RetOutRefIdeal.nD Cert.RetOutRefIdeal.τ).loc Cert.RetOutRefIdeal.main_arg2)
      ∧ r.2.mem ((c.tc : Thread Cert.RetOutRefIdeal.nD Cert.RetOutRefIdeal.τ).loc Cert.RetOutRefIdeal.main_arg3) = m ((c.tc : Thread Cert.RetOutRefIdeal.nD Cert.RetOutRefIdeal.τ).loc Cert.RetOutRefIdeal.main_arg3))
      ∧ r.2.sem = fun _ => 0)

def quiescent_AttOut [hAttOut : Cert.AttOut.Facts] : Prop :=
  ∀ (m : (ℓ : Loc Cert.AttOut.nD Cert.AttOut.τ Cert.AttOut.sig) → Buf (Elt Bits) ℓ) (g : Dev Cert.AttOut.nD → PrngReg), Pre_AttOut m →
    θ_run (Cert.AttOut.defs (F := Bits)) (onTc (τ := Cert.AttOut.τ) (Cert.AttOut.main (F := Bits))) ⟨m, fun _ => 0, g⟩ (fun r => (∀ c : Dev Cert.AttOut.nD,
      r.2.mem ((c.tc : Thread Cert.AttOut.nD Cert.AttOut.τ).loc Cert.AttOut.main_arg0) = m ((c.tc : Thread Cert.AttOut.nD Cert.AttOut.τ).loc Cert.AttOut.main_arg0)
      ∧ r.2.mem ((c.tc : Thread Cert.AttOut.nD Cert.AttOut.τ).loc Cert.AttOut.main_arg1) = m ((c.tc : Thread Cert.AttOut.nD Cert.AttOut.τ).loc Cert.AttOut.main_arg1)
      ∧ r.2.mem ((c.tc : Thread Cert.AttOut.nD Cert.AttOut.τ).loc Cert.AttOut.main_arg2) = m ((c.tc : Thread Cert.AttOut.nD Cert.AttOut.τ).loc Cert.AttOut.main_arg2)
      ∧ r.2.mem ((c.tc : Thread Cert.AttOut.nD Cert.AttOut.τ).loc Cert.AttOut.main_arg3) = m ((c.tc : Thread Cert.AttOut.nD Cert.AttOut.τ).loc Cert.AttOut.main_arg3))
      ∧ r.2.sem = fun _ => 0)

def quiescent_AttOutIdeal [hAttOutIdeal : Cert.AttOutIdeal.Facts] : Prop :=
  ∀ (m : (ℓ : Loc Cert.AttOutIdeal.nD Cert.AttOutIdeal.τ Cert.AttOutIdeal.sig) → Buf (Elt Ideal) ℓ) (g : Dev Cert.AttOutIdeal.nD → PrngReg), Pre_AttOutIdeal m →
    θ_run (Cert.AttOutIdeal.defs (F := Ideal)) (onTc (τ := Cert.AttOutIdeal.τ) (Cert.AttOutIdeal.main (F := Ideal))) ⟨m, fun _ => 0, g⟩ (fun r => (∀ c : Dev Cert.AttOutIdeal.nD,
      r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
      ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
      ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2)
      ∧ r.2.mem ((c.tc : Thread Cert.AttOutIdeal.nD Cert.AttOutIdeal.τ).loc Cert.AttOutIdeal.main_arg3) = m ((c.tc : Thread Cert.AttOutIdeal.nD Cert.AttOutIdeal.τ).loc Cert.AttOutIdeal.main_arg3))
      ∧ r.2.sem = fun _ => 0)

def quiescent_AttOutRefIdeal [hAttOutRefIdeal : Cert.AttOutRefIdeal.Facts] : Prop :=
  ∀ (m : (ℓ : Loc Cert.AttOutRefIdeal.nD Cert.AttOutRefIdeal.τ Cert.AttOutRefIdeal.sig) → Buf (Elt Ideal) ℓ) (g : Dev Cert.AttOutRefIdeal.nD → PrngReg), Pre_AttOutRefIdeal m →
    θ_run (Cert.AttOutRefIdeal.defs (F := Ideal)) (onTc (τ := Cert.AttOutRefIdeal.τ) (Cert.AttOutRefIdeal.main (F := Ideal))) ⟨m, fun _ => 0, g⟩ (fun r => (∀ c : Dev Cert.AttOutRefIdeal.nD,
      r.2.mem ((c.tc : Thread Cert.AttOutRefIdeal.nD Cert.AttOutRefIdeal.τ).loc Cert.AttOutRefIdeal.main_arg0) = m ((c.tc : Thread Cert.AttOutRefIdeal.nD Cert.AttOutRefIdeal.τ).loc Cert.AttOutRefIdeal.main_arg0)
      ∧ r.2.mem ((c.tc : Thread Cert.AttOutRefIdeal.nD Cert.AttOutRefIdeal.τ).loc Cert.AttOutRefIdeal.main_arg1) = m ((c.tc : Thread Cert.AttOutRefIdeal.nD Cert.AttOutRefIdeal.τ).loc Cert.AttOutRefIdeal.main_arg1)
      ∧ r.2.mem ((c.tc : Thread Cert.AttOutRefIdeal.nD Cert.AttOutRefIdeal.τ).loc Cert.AttOutRefIdeal.main_arg2) = m ((c.tc : Thread Cert.AttOutRefIdeal.nD Cert.AttOutRefIdeal.τ).loc Cert.AttOutRefIdeal.main_arg2)
      ∧ r.2.mem ((c.tc : Thread Cert.AttOutRefIdeal.nD Cert.AttOutRefIdeal.τ).loc Cert.AttOutRefIdeal.main_arg3) = m ((c.tc : Thread Cert.AttOutRefIdeal.nD Cert.AttOutRefIdeal.τ).loc Cert.AttOutRefIdeal.main_arg3))
      ∧ r.2.sem = fun _ => 0)

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2)
      ∧ r.2.mem ((c.tc : Thread Cert.Ret.nD Cert.Ret.τ).loc Cert.Ret.main_arg3) = m ((c.tc : Thread Cert.Ret.nD Cert.Ret.τ).loc Cert.Ret.main_arg3)
      ∧ r.2.mem ((c.tc : Thread Cert.Ret.nD Cert.Ret.τ).loc Cert.Ret.main_arg4) = m ((c.tc : Thread Cert.Ret.nD Cert.Ret.τ).loc Cert.Ret.main_arg4)
      ∧ r.2.mem ((c.tc : Thread Cert.Ret.nD Cert.Ret.τ).loc Cert.Ret.main_arg5) = m ((c.tc : Thread Cert.Ret.nD Cert.Ret.τ).loc Cert.Ret.main_arg5))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3)
      ∧ r.2.mem ((c.tc : Thread Cert.RetIdeal.nD Cert.RetIdeal.τ).loc Cert.RetIdeal.main_arg4) = m ((c.tc : Thread Cert.RetIdeal.nD Cert.RetIdeal.τ).loc Cert.RetIdeal.main_arg4)
      ∧ r.2.mem ((c.tc : Thread Cert.RetIdeal.nD Cert.RetIdeal.τ).loc Cert.RetIdeal.main_arg5) = m ((c.tc : Thread Cert.RetIdeal.nD Cert.RetIdeal.τ).loc Cert.RetIdeal.main_arg5))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3)
      ∧ r.2.mem ((c.tc : Thread Cert.RetRefIdeal.nD Cert.RetRefIdeal.τ).loc Cert.RetRefIdeal.main_arg4) = m ((c.tc : Thread Cert.RetRefIdeal.nD Cert.RetRefIdeal.τ).loc Cert.RetRefIdeal.main_arg4)
      ∧ r.2.mem ((c.tc : Thread Cert.RetRefIdeal.nD Cert.RetRefIdeal.τ).loc Cert.RetRefIdeal.main_arg5) = m ((c.tc : Thread Cert.RetRefIdeal.nD Cert.RetRefIdeal.τ).loc Cert.RetRefIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Down_DownIdeal : Prop :=
  True

def algebraic_DownIdeal_DownRefIdeal_pre_padded [hDownIdeal : Cert.DownIdeal.Facts] [hDownRefIdeal : Cert.DownRefIdeal.Facts] [hPre_padded : Cert.Pre_padded.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_padded m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)
      ∧ m' ((c.tc : Thread Cert.DownRefIdeal.nD Cert.DownRefIdeal.τ).loc Cert.DownRefIdeal.main_arg6) = m ((c.tc : Thread Cert.DownIdeal.nD Cert.DownIdeal.τ).loc Cert.DownIdeal.main_arg6)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5)
          ∧ r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6))

def preserves_Up_UpIdeal : Prop :=
  True

def algebraic_UpIdeal_UpRefIdeal_pre_padded_up [hUpIdeal : Cert.UpIdeal.Facts] [hUpRefIdeal : Cert.UpRefIdeal.Facts] [hPre_padded_up : Cert.Pre_padded_up.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_padded_up m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)
      ∧ m' ((c.tc : Thread Cert.UpRefIdeal.nD Cert.UpRefIdeal.τ).loc Cert.UpRefIdeal.main_arg6) = m ((c.tc : Thread Cert.UpIdeal.nD Cert.UpIdeal.τ).loc Cert.UpIdeal.main_arg6)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
          ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v9) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5)
          ∧ r.2.mem ((c.tc : Thread Cert.UpRefIdeal.nD Cert.UpRefIdeal.τ).loc Cert.UpRefIdeal.main_arg6) = m' ((c.tc : Thread Cert.UpRefIdeal.nD Cert.UpRefIdeal.τ).loc Cert.UpRefIdeal.main_arg6))

def preserves_Rows_RowsIdeal : Prop :=
  True

def algebraic_RowsIdeal_RowsRefIdeal [hRowsIdeal : Cert.RowsIdeal.Facts] [hRowsRefIdeal : Cert.RowsRefIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsRefIdeal.nD Cert.RowsRefIdeal.τ Cert.RowsRefIdeal.sig) → Buf (Elt Ideal) ℓ) (g' : Dev Cert.RowsRefIdeal.nD → PrngReg), Pre_RowsIdeal m →
    (∀ c : Dev Cert.RowsIdeal.nD,
      m' ((c.tc : Thread Cert.RowsRefIdeal.nD Cert.RowsRefIdeal.τ).loc Cert.RowsRefIdeal.main_arg0) = m ((c.tc : Thread Cert.RowsIdeal.nD Cert.RowsIdeal.τ).loc Cert.RowsIdeal.main_arg0)
      ∧ m' ((c.tc : Thread Cert.RowsRefIdeal.nD Cert.RowsRefIdeal.τ).loc Cert.RowsRefIdeal.main_arg1) = m ((c.tc : Thread Cert.RowsIdeal.nD Cert.RowsIdeal.τ).loc Cert.RowsIdeal.main_arg1)) →
    ∃ (v0 : (c : Dev Cert.RowsIdeal.nD) → Buf (Elt Ideal) ((c.tc : Thread Cert.RowsIdeal.nD Cert.RowsIdeal.τ).loc Cert.RowsIdeal.main_v2)) (v1 : (c : Dev Cert.RowsIdeal.nD) → Buf (Elt Ideal) ((c.tc : Thread Cert.RowsIdeal.nD Cert.RowsIdeal.τ).loc Cert.RowsIdeal.main_v4)) (v2 : (c : Dev Cert.RowsIdeal.nD) → Buf (Elt Ideal) ((c.tc : Thread Cert.RowsIdeal.nD Cert.RowsIdeal.τ).loc Cert.RowsIdeal.main_v6)) (v3 : (c : Dev Cert.RowsIdeal.nD) → Buf (Elt Ideal) ((c.tc : Thread Cert.RowsIdeal.nD Cert.RowsIdeal.τ).loc Cert.RowsIdeal.main_v8)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v2) = v0 c
          ∧ r.2.mem ((c.tc : Thread Cert.RowsIdeal.nD Cert.RowsIdeal.τ).loc Cert.RowsIdeal.main_v4) = v1 c
          ∧ r.2.mem ((c.tc : Thread Cert.RowsIdeal.nD Cert.RowsIdeal.τ).loc Cert.RowsIdeal.main_v6) = v2 c
          ∧ r.2.mem ((c.tc : Thread Cert.RowsIdeal.nD Cert.RowsIdeal.τ).loc Cert.RowsIdeal.main_v8) = v3 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ θ_run (Cert.RowsRefIdeal.defs (F := Ideal)) (onTc (τ := Cert.RowsRefIdeal.τ) (Cert.RowsRefIdeal.main (F := Ideal))) ⟨m', fun _ => 0, g'⟩ (fun r => ∀ c : Dev Cert.RowsRefIdeal.nD,
          r.2.mem ((c.tc : Thread Cert.RowsRefIdeal.nD Cert.RowsRefIdeal.τ).loc Cert.RowsRefIdeal.main_v8) = v0 c
          ∧ r.2.mem ((c.tc : Thread Cert.RowsRefIdeal.nD Cert.RowsRefIdeal.τ).loc Cert.RowsRefIdeal.main_v11) = v1 c
          ∧ r.2.mem ((c.tc : Thread Cert.RowsRefIdeal.nD Cert.RowsRefIdeal.τ).loc Cert.RowsRefIdeal.main_v13) = v2 c
          ∧ r.2.mem ((c.tc : Thread Cert.RowsRefIdeal.nD Cert.RowsRefIdeal.τ).loc Cert.RowsRefIdeal.main_v15) = v3 c
          ∧ r.2.mem ((c.tc : Thread Cert.RowsRefIdeal.nD Cert.RowsRefIdeal.τ).loc Cert.RowsRefIdeal.main_arg0) = m' ((c.tc : Thread Cert.RowsRefIdeal.nD Cert.RowsRefIdeal.τ).loc Cert.RowsRefIdeal.main_arg0)
          ∧ r.2.mem ((c.tc : Thread Cert.RowsRefIdeal.nD Cert.RowsRefIdeal.τ).loc Cert.RowsRefIdeal.main_arg1) = m' ((c.tc : Thread Cert.RowsRefIdeal.nD Cert.RowsRefIdeal.τ).loc Cert.RowsRefIdeal.main_arg1))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)
      ∧ m' ((c.tc : Thread Cert.FinalRefIdeal.nD Cert.FinalRefIdeal.τ).loc Cert.FinalRefIdeal.main_arg5) = m ((c.tc : Thread Cert.FinalIdeal.nD Cert.FinalIdeal.τ).loc Cert.FinalIdeal.main_arg5)) →
    ∃ (v0 : (c : Dev Cert.FinalIdeal.nD) → Buf (Elt Ideal) ((c.tc : Thread Cert.FinalIdeal.nD Cert.FinalIdeal.τ).loc Cert.FinalIdeal.main_v3)) (v1 : (c : Dev Cert.FinalIdeal.nD) → Buf (Elt Ideal) ((c.tc : Thread Cert.FinalIdeal.nD Cert.FinalIdeal.τ).loc Cert.FinalIdeal.main_v5)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v3) = v0 c
          ∧ r.2.mem ((c.tc : Thread Cert.FinalIdeal.nD Cert.FinalIdeal.τ).loc Cert.FinalIdeal.main_v5) = v1 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v31) = v0 c
          ∧ r.2.mem ((c.tc : Thread Cert.FinalRefIdeal.nD Cert.FinalRefIdeal.τ).loc Cert.FinalRefIdeal.main_v33) = v1 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4)
          ∧ r.2.mem ((c.tc : Thread Cert.FinalRefIdeal.nD Cert.FinalRefIdeal.τ).loc Cert.FinalRefIdeal.main_arg5) = m' ((c.tc : Thread Cert.FinalRefIdeal.nD Cert.FinalRefIdeal.τ).loc Cert.FinalRefIdeal.main_arg5))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v47)) (v1 : (c : Dev Cert.GateIdeal.nD) → Buf (Elt Ideal) ((c.tc : Thread Cert.GateIdeal.nD Cert.GateIdeal.τ).loc Cert.GateIdeal.main_v49)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v47) = v0 c
          ∧ r.2.mem ((c.tc : Thread Cert.GateIdeal.nD Cert.GateIdeal.τ).loc Cert.GateIdeal.main_v49) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v39) = v0 c
          ∧ r.2.mem ((c.tc : Thread Cert.GateRefIdeal.nD Cert.GateRefIdeal.τ).loc Cert.GateRefIdeal.main_v41) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_RetIn_RetInIdeal : Prop :=
  True

def algebraic_RetInIdeal_RetInRefIdeal [hRetInIdeal : Cert.RetInIdeal.Facts] [hRetInRefIdeal : Cert.RetInRefIdeal.Facts] : Prop :=
  ∀ (m : (ℓ : Loc Cert.RetInIdeal.nD Cert.RetInIdeal.τ Cert.RetInIdeal.sig) → Buf (Elt Ideal) ℓ) (g : Dev Cert.RetInIdeal.nD → PrngReg)
    (m' : (ℓ : Loc Cert.RetInRefIdeal.nD Cert.RetInRefIdeal.τ Cert.RetInRefIdeal.sig) → Buf (Elt Ideal) ℓ) (g' : Dev Cert.RetInRefIdeal.nD → PrngReg), Pre_RetInIdeal m →
    (∀ c : Dev Cert.RetInIdeal.nD,
      m' ((c.tc : Thread Cert.RetInRefIdeal.nD Cert.RetInRefIdeal.τ).loc Cert.RetInRefIdeal.main_arg0) = m ((c.tc : Thread Cert.RetInIdeal.nD Cert.RetInIdeal.τ).loc Cert.RetInIdeal.main_arg0)
      ∧ m' ((c.tc : Thread Cert.RetInRefIdeal.nD Cert.RetInRefIdeal.τ).loc Cert.RetInRefIdeal.main_arg1) = m ((c.tc : Thread Cert.RetInIdeal.nD Cert.RetInIdeal.τ).loc Cert.RetInIdeal.main_arg1)) →
    ∃ (v0 : (c : Dev Cert.RetInIdeal.nD) → Buf (Elt Ideal) ((c.tc : Thread Cert.RetInIdeal.nD Cert.RetInIdeal.τ).loc Cert.RetInIdeal.main_v0)),
      θ_run (Cert.RetInIdeal.defs (F := Ideal)) (onTc (τ := Cert.RetInIdeal.τ) (Cert.RetInIdeal.main (F := Ideal))) ⟨m, fun _ => 0, g⟩ (fun r => ∀ c : Dev Cert.RetInIdeal.nD,
          r.2.mem ((c.tc : Thread Cert.RetInIdeal.nD Cert.RetInIdeal.τ).loc Cert.RetInIdeal.main_v0) = v0 c
          ∧ r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
          ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1))
      ∧ θ_run (Cert.RetInRefIdeal.defs (F := Ideal)) (onTc (τ := Cert.RetInRefIdeal.τ) (Cert.RetInRefIdeal.main (F := Ideal))) ⟨m', fun _ => 0, g'⟩ (fun r => ∀ c : Dev Cert.RetInRefIdeal.nD,
          r.2.mem ((c.tc : Thread Cert.RetInRefIdeal.nD Cert.RetInRefIdeal.τ).loc Cert.RetInRefIdeal.main_v3) = v0 c
          ∧ r.2.mem ((c.tc : Thread Cert.RetInRefIdeal.nD Cert.RetInRefIdeal.τ).loc Cert.RetInRefIdeal.main_arg0) = m' ((c.tc : Thread Cert.RetInRefIdeal.nD Cert.RetInRefIdeal.τ).loc Cert.RetInRefIdeal.main_arg0)
          ∧ r.2.mem ((c.tc : Thread Cert.RetInRefIdeal.nD Cert.RetInRefIdeal.τ).loc Cert.RetInRefIdeal.main_arg1) = m' ((c.tc : Thread Cert.RetInRefIdeal.nD Cert.RetInRefIdeal.τ).loc Cert.RetInRefIdeal.main_arg1))

def preserves_GmlpIn_GmlpInIdeal : Prop :=
  True

def algebraic_GmlpInIdeal_GmlpInRefIdeal [hGmlpInIdeal : Cert.GmlpInIdeal.Facts] [hGmlpInRefIdeal : Cert.GmlpInRefIdeal.Facts] : Prop :=
  ∀ (m : (ℓ : Loc Cert.GmlpInIdeal.nD Cert.GmlpInIdeal.τ Cert.GmlpInIdeal.sig) → Buf (Elt Ideal) ℓ) (g : Dev Cert.GmlpInIdeal.nD → PrngReg)
    (m' : (ℓ : Loc Cert.GmlpInRefIdeal.nD Cert.GmlpInRefIdeal.τ Cert.GmlpInRefIdeal.sig) → Buf (Elt Ideal) ℓ) (g' : Dev Cert.GmlpInRefIdeal.nD → PrngReg), Pre_GmlpInIdeal m →
    (∀ c : Dev Cert.GmlpInIdeal.nD,
      m' ((c.tc : Thread Cert.GmlpInRefIdeal.nD Cert.GmlpInRefIdeal.τ).loc Cert.GmlpInRefIdeal.main_arg0) = m ((c.tc : Thread Cert.GmlpInIdeal.nD Cert.GmlpInIdeal.τ).loc Cert.GmlpInIdeal.main_arg0)
      ∧ m' ((c.tc : Thread Cert.GmlpInRefIdeal.nD Cert.GmlpInRefIdeal.τ).loc Cert.GmlpInRefIdeal.main_arg1) = m ((c.tc : Thread Cert.GmlpInIdeal.nD Cert.GmlpInIdeal.τ).loc Cert.GmlpInIdeal.main_arg1)) →
    ∃ (v0 : (c : Dev Cert.GmlpInIdeal.nD) → Buf (Elt Ideal) ((c.tc : Thread Cert.GmlpInIdeal.nD Cert.GmlpInIdeal.τ).loc Cert.GmlpInIdeal.main_v0)),
      θ_run (Cert.GmlpInIdeal.defs (F := Ideal)) (onTc (τ := Cert.GmlpInIdeal.τ) (Cert.GmlpInIdeal.main (F := Ideal))) ⟨m, fun _ => 0, g⟩ (fun r => ∀ c : Dev Cert.GmlpInIdeal.nD,
          r.2.mem ((c.tc : Thread Cert.GmlpInIdeal.nD Cert.GmlpInIdeal.τ).loc Cert.GmlpInIdeal.main_v0) = v0 c
          ∧ r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
          ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1))
      ∧ θ_run (Cert.GmlpInRefIdeal.defs (F := Ideal)) (onTc (τ := Cert.GmlpInRefIdeal.τ) (Cert.GmlpInRefIdeal.main (F := Ideal))) ⟨m', fun _ => 0, g'⟩ (fun r => ∀ c : Dev Cert.GmlpInRefIdeal.nD,
          r.2.mem ((c.tc : Thread Cert.GmlpInRefIdeal.nD Cert.GmlpInRefIdeal.τ).loc Cert.GmlpInRefIdeal.main_v2) = v0 c
          ∧ r.2.mem ((c.tc : Thread Cert.GmlpInRefIdeal.nD Cert.GmlpInRefIdeal.τ).loc Cert.GmlpInRefIdeal.main_arg0) = m' ((c.tc : Thread Cert.GmlpInRefIdeal.nD Cert.GmlpInRefIdeal.τ).loc Cert.GmlpInRefIdeal.main_arg0)
          ∧ r.2.mem ((c.tc : Thread Cert.GmlpInRefIdeal.nD Cert.GmlpInRefIdeal.τ).loc Cert.GmlpInRefIdeal.main_arg1) = m' ((c.tc : Thread Cert.GmlpInRefIdeal.nD Cert.GmlpInRefIdeal.τ).loc Cert.GmlpInRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v4) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_GmlpOut_GmlpOutIdeal : Prop :=
  True

def algebraic_GmlpOutIdeal_GmlpOutRefIdeal [hGmlpOutIdeal : Cert.GmlpOutIdeal.Facts] [hGmlpOutRefIdeal : Cert.GmlpOutRefIdeal.Facts] : Prop :=
  ∀ (m : (ℓ : Loc Cert.GmlpOutIdeal.nD Cert.GmlpOutIdeal.τ Cert.GmlpOutIdeal.sig) → Buf (Elt Ideal) ℓ) (g : Dev Cert.GmlpOutIdeal.nD → PrngReg)
    (m' : (ℓ : Loc Cert.GmlpOutRefIdeal.nD Cert.GmlpOutRefIdeal.τ Cert.GmlpOutRefIdeal.sig) → Buf (Elt Ideal) ℓ) (g' : Dev Cert.GmlpOutRefIdeal.nD → PrngReg), Pre_GmlpOutIdeal m →
    (∀ c : Dev Cert.GmlpOutIdeal.nD,
      m' ((c.tc : Thread Cert.GmlpOutRefIdeal.nD Cert.GmlpOutRefIdeal.τ).loc Cert.GmlpOutRefIdeal.main_arg0) = m ((c.tc : Thread Cert.GmlpOutIdeal.nD Cert.GmlpOutIdeal.τ).loc Cert.GmlpOutIdeal.main_arg0)
      ∧ m' ((c.tc : Thread Cert.GmlpOutRefIdeal.nD Cert.GmlpOutRefIdeal.τ).loc Cert.GmlpOutRefIdeal.main_arg1) = m ((c.tc : Thread Cert.GmlpOutIdeal.nD Cert.GmlpOutIdeal.τ).loc Cert.GmlpOutIdeal.main_arg1)
      ∧ m' ((c.tc : Thread Cert.GmlpOutRefIdeal.nD Cert.GmlpOutRefIdeal.τ).loc Cert.GmlpOutRefIdeal.main_arg2) = m ((c.tc : Thread Cert.GmlpOutIdeal.nD Cert.GmlpOutIdeal.τ).loc Cert.GmlpOutIdeal.main_arg2)) →
    ∃ (v0 : (c : Dev Cert.GmlpOutIdeal.nD) → Buf (Elt Ideal) ((c.tc : Thread Cert.GmlpOutIdeal.nD Cert.GmlpOutIdeal.τ).loc Cert.GmlpOutIdeal.main_v0)),
      θ_run (Cert.GmlpOutIdeal.defs (F := Ideal)) (onTc (τ := Cert.GmlpOutIdeal.τ) (Cert.GmlpOutIdeal.main (F := Ideal))) ⟨m, fun _ => 0, g⟩ (fun r => ∀ c : Dev Cert.GmlpOutIdeal.nD,
          r.2.mem ((c.tc : Thread Cert.GmlpOutIdeal.nD Cert.GmlpOutIdeal.τ).loc Cert.GmlpOutIdeal.main_v0) = v0 c
          ∧ r.2.mem ((c.tc : Thread Cert.GmlpOutIdeal.nD Cert.GmlpOutIdeal.τ).loc Cert.GmlpOutIdeal.main_arg0) = m ((c.tc : Thread Cert.GmlpOutIdeal.nD Cert.GmlpOutIdeal.τ).loc Cert.GmlpOutIdeal.main_arg0)
          ∧ r.2.mem ((c.tc : Thread Cert.GmlpOutIdeal.nD Cert.GmlpOutIdeal.τ).loc Cert.GmlpOutIdeal.main_arg1) = m ((c.tc : Thread Cert.GmlpOutIdeal.nD Cert.GmlpOutIdeal.τ).loc Cert.GmlpOutIdeal.main_arg1)
          ∧ r.2.mem ((c.tc : Thread Cert.GmlpOutIdeal.nD Cert.GmlpOutIdeal.τ).loc Cert.GmlpOutIdeal.main_arg2) = m ((c.tc : Thread Cert.GmlpOutIdeal.nD Cert.GmlpOutIdeal.τ).loc Cert.GmlpOutIdeal.main_arg2))
      ∧ θ_run (Cert.GmlpOutRefIdeal.defs (F := Ideal)) (onTc (τ := Cert.GmlpOutRefIdeal.τ) (Cert.GmlpOutRefIdeal.main (F := Ideal))) ⟨m', fun _ => 0, g'⟩ (fun r => ∀ c : Dev Cert.GmlpOutRefIdeal.nD,
          r.2.mem ((c.tc : Thread Cert.GmlpOutRefIdeal.nD Cert.GmlpOutRefIdeal.τ).loc Cert.GmlpOutRefIdeal.main_v3) = v0 c
          ∧ r.2.mem ((c.tc : Thread Cert.GmlpOutRefIdeal.nD Cert.GmlpOutRefIdeal.τ).loc Cert.GmlpOutRefIdeal.main_arg0) = m' ((c.tc : Thread Cert.GmlpOutRefIdeal.nD Cert.GmlpOutRefIdeal.τ).loc Cert.GmlpOutRefIdeal.main_arg0)
          ∧ r.2.mem ((c.tc : Thread Cert.GmlpOutRefIdeal.nD Cert.GmlpOutRefIdeal.τ).loc Cert.GmlpOutRefIdeal.main_arg1) = m' ((c.tc : Thread Cert.GmlpOutRefIdeal.nD Cert.GmlpOutRefIdeal.τ).loc Cert.GmlpOutRefIdeal.main_arg1)
          ∧ r.2.mem ((c.tc : Thread Cert.GmlpOutRefIdeal.nD Cert.GmlpOutRefIdeal.τ).loc Cert.GmlpOutRefIdeal.main_arg2) = m' ((c.tc : Thread Cert.GmlpOutRefIdeal.nD Cert.GmlpOutRefIdeal.τ).loc Cert.GmlpOutRefIdeal.main_arg2))

def preserves_RetOut_RetOutIdeal : Prop :=
  True

def algebraic_RetOutIdeal_RetOutRefIdeal [hRetOutIdeal : Cert.RetOutIdeal.Facts] [hRetOutRefIdeal : Cert.RetOutRefIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutRefIdeal.nD Cert.RetOutRefIdeal.τ Cert.RetOutRefIdeal.sig) → Buf (Elt Ideal) ℓ) (g' : Dev Cert.RetOutRefIdeal.nD → PrngReg), Pre_RetOutIdeal m →
    (∀ c : Dev Cert.RetOutIdeal.nD,
      m' ((c.tc : Thread Cert.RetOutRefIdeal.nD Cert.RetOutRefIdeal.τ).loc Cert.RetOutRefIdeal.main_arg0) = m ((c.tc : Thread Cert.RetOutIdeal.nD Cert.RetOutIdeal.τ).loc Cert.RetOutIdeal.main_arg0)
      ∧ m' ((c.tc : Thread Cert.RetOutRefIdeal.nD Cert.RetOutRefIdeal.τ).loc Cert.RetOutRefIdeal.main_arg1) = m ((c.tc : Thread Cert.RetOutIdeal.nD Cert.RetOutIdeal.τ).loc Cert.RetOutIdeal.main_arg1)
      ∧ m' ((c.tc : Thread Cert.RetOutRefIdeal.nD Cert.RetOutRefIdeal.τ).loc Cert.RetOutRefIdeal.main_arg2) = m ((c.tc : Thread Cert.RetOutIdeal.nD Cert.RetOutIdeal.τ).loc Cert.RetOutIdeal.main_arg2)
      ∧ m' ((c.tc : Thread Cert.RetOutRefIdeal.nD Cert.RetOutRefIdeal.τ).loc Cert.RetOutRefIdeal.main_arg3) = m ((c.tc : Thread Cert.RetOutIdeal.nD Cert.RetOutIdeal.τ).loc Cert.RetOutIdeal.main_arg3)) →
    ∃ (v0 : (c : Dev Cert.RetOutIdeal.nD) → Buf (Elt Ideal) ((c.tc : Thread Cert.RetOutIdeal.nD Cert.RetOutIdeal.τ).loc Cert.RetOutIdeal.main_v0)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v0) = v0 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
          ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
          ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3))
      ∧ θ_run (Cert.RetOutRefIdeal.defs (F := Ideal)) (onTc (τ := Cert.RetOutRefIdeal.τ) (Cert.RetOutRefIdeal.main (F := Ideal))) ⟨m', fun _ => 0, g'⟩ (fun r => ∀ c : Dev Cert.RetOutRefIdeal.nD,
          r.2.mem ((c.tc : Thread Cert.RetOutRefIdeal.nD Cert.RetOutRefIdeal.τ).loc Cert.RetOutRefIdeal.main_v5) = v0 c
          ∧ r.2.mem ((c.tc : Thread Cert.RetOutRefIdeal.nD Cert.RetOutRefIdeal.τ).loc Cert.RetOutRefIdeal.main_arg0) = m' ((c.tc : Thread Cert.RetOutRefIdeal.nD Cert.RetOutRefIdeal.τ).loc Cert.RetOutRefIdeal.main_arg0)
          ∧ r.2.mem ((c.tc : Thread Cert.RetOutRefIdeal.nD Cert.RetOutRefIdeal.τ).loc Cert.RetOutRefIdeal.main_arg1) = m' ((c.tc : Thread Cert.RetOutRefIdeal.nD Cert.RetOutRefIdeal.τ).loc Cert.RetOutRefIdeal.main_arg1)
          ∧ r.2.mem ((c.tc : Thread Cert.RetOutRefIdeal.nD Cert.RetOutRefIdeal.τ).loc Cert.RetOutRefIdeal.main_arg2) = m' ((c.tc : Thread Cert.RetOutRefIdeal.nD Cert.RetOutRefIdeal.τ).loc Cert.RetOutRefIdeal.main_arg2)
          ∧ r.2.mem ((c.tc : Thread Cert.RetOutRefIdeal.nD Cert.RetOutRefIdeal.τ).loc Cert.RetOutRefIdeal.main_arg3) = m' ((c.tc : Thread Cert.RetOutRefIdeal.nD Cert.RetOutRefIdeal.τ).loc Cert.RetOutRefIdeal.main_arg3))

def preserves_AttOut_AttOutIdeal : Prop :=
  True

def algebraic_AttOutIdeal_AttOutRefIdeal [hAttOutIdeal : Cert.AttOutIdeal.Facts] [hAttOutRefIdeal : Cert.AttOutRefIdeal.Facts] : Prop :=
  ∀ (m : (ℓ : Loc Cert.AttOutIdeal.nD Cert.AttOutIdeal.τ Cert.AttOutIdeal.sig) → Buf (Elt Ideal) ℓ) (g : Dev Cert.AttOutIdeal.nD → PrngReg)
    (m' : (ℓ : Loc Cert.AttOutRefIdeal.nD Cert.AttOutRefIdeal.τ Cert.AttOutRefIdeal.sig) → Buf (Elt Ideal) ℓ) (g' : Dev Cert.AttOutRefIdeal.nD → PrngReg), Pre_AttOutIdeal m →
    (∀ c : Dev Cert.AttOutIdeal.nD,
      m' ((c.tc : Thread Cert.AttOutRefIdeal.nD Cert.AttOutRefIdeal.τ).loc Cert.AttOutRefIdeal.main_arg0) = m ((c.tc : Thread Cert.AttOutIdeal.nD Cert.AttOutIdeal.τ).loc Cert.AttOutIdeal.main_arg0)
      ∧ m' ((c.tc : Thread Cert.AttOutRefIdeal.nD Cert.AttOutRefIdeal.τ).loc Cert.AttOutRefIdeal.main_arg1) = m ((c.tc : Thread Cert.AttOutIdeal.nD Cert.AttOutIdeal.τ).loc Cert.AttOutIdeal.main_arg1)
      ∧ m' ((c.tc : Thread Cert.AttOutRefIdeal.nD Cert.AttOutRefIdeal.τ).loc Cert.AttOutRefIdeal.main_arg2) = m ((c.tc : Thread Cert.AttOutIdeal.nD Cert.AttOutIdeal.τ).loc Cert.AttOutIdeal.main_arg2)
      ∧ m' ((c.tc : Thread Cert.AttOutRefIdeal.nD Cert.AttOutRefIdeal.τ).loc Cert.AttOutRefIdeal.main_arg3) = m ((c.tc : Thread Cert.AttOutIdeal.nD Cert.AttOutIdeal.τ).loc Cert.AttOutIdeal.main_arg3)) →
    ∃ (v0 : (c : Dev Cert.AttOutIdeal.nD) → Buf (Elt Ideal) ((c.tc : Thread Cert.AttOutIdeal.nD Cert.AttOutIdeal.τ).loc Cert.AttOutIdeal.main_v0)),
      θ_run (Cert.AttOutIdeal.defs (F := Ideal)) (onTc (τ := Cert.AttOutIdeal.τ) (Cert.AttOutIdeal.main (F := Ideal))) ⟨m, fun _ => 0, g⟩ (fun r => ∀ c : Dev Cert.AttOutIdeal.nD,
          r.2.mem ((c.tc : Thread Cert.AttOutIdeal.nD Cert.AttOutIdeal.τ).loc Cert.AttOutIdeal.main_v0) = v0 c
          ∧ r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
          ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
          ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2)
          ∧ r.2.mem ((c.tc : Thread Cert.AttOutIdeal.nD Cert.AttOutIdeal.τ).loc Cert.AttOutIdeal.main_arg3) = m ((c.tc : Thread Cert.AttOutIdeal.nD Cert.AttOutIdeal.τ).loc Cert.AttOutIdeal.main_arg3))
      ∧ θ_run (Cert.AttOutRefIdeal.defs (F := Ideal)) (onTc (τ := Cert.AttOutRefIdeal.τ) (Cert.AttOutRefIdeal.main (F := Ideal))) ⟨m', fun _ => 0, g'⟩ (fun r => ∀ c : Dev Cert.AttOutRefIdeal.nD,
          r.2.mem ((c.tc : Thread Cert.AttOutRefIdeal.nD Cert.AttOutRefIdeal.τ).loc Cert.AttOutRefIdeal.main_v4) = v0 c
          ∧ r.2.mem ((c.tc : Thread Cert.AttOutRefIdeal.nD Cert.AttOutRefIdeal.τ).loc Cert.AttOutRefIdeal.main_arg0) = m' ((c.tc : Thread Cert.AttOutRefIdeal.nD Cert.AttOutRefIdeal.τ).loc Cert.AttOutRefIdeal.main_arg0)
          ∧ r.2.mem ((c.tc : Thread Cert.AttOutRefIdeal.nD Cert.AttOutRefIdeal.τ).loc Cert.AttOutRefIdeal.main_arg1) = m' ((c.tc : Thread Cert.AttOutRefIdeal.nD Cert.AttOutRefIdeal.τ).loc Cert.AttOutRefIdeal.main_arg1)
          ∧ r.2.mem ((c.tc : Thread Cert.AttOutRefIdeal.nD Cert.AttOutRefIdeal.τ).loc Cert.AttOutRefIdeal.main_arg2) = m' ((c.tc : Thread Cert.AttOutRefIdeal.nD Cert.AttOutRefIdeal.τ).loc Cert.AttOutRefIdeal.main_arg2)
          ∧ r.2.mem ((c.tc : Thread Cert.AttOutRefIdeal.nD Cert.AttOutRefIdeal.τ).loc Cert.AttOutRefIdeal.main_arg3) = m' ((c.tc : Thread Cert.AttOutRefIdeal.nD Cert.AttOutRefIdeal.τ).loc Cert.AttOutRefIdeal.main_arg3))

def preserves_Ret_RetIdeal : Prop :=
  True

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)
      ∧ m' ((c.tc : Thread Cert.RetRefIdeal.nD Cert.RetRefIdeal.τ).loc Cert.RetRefIdeal.main_arg3) = m ((c.tc : Thread Cert.RetIdeal.nD Cert.RetIdeal.τ).loc Cert.RetIdeal.main_arg3)
      ∧ m' ((c.tc : Thread Cert.RetRefIdeal.nD Cert.RetRefIdeal.τ).loc Cert.RetRefIdeal.main_arg4) = m ((c.tc : Thread Cert.RetIdeal.nD Cert.RetIdeal.τ).loc Cert.RetIdeal.main_arg4)
      ∧ m' ((c.tc : Thread Cert.RetRefIdeal.nD Cert.RetRefIdeal.τ).loc Cert.RetRefIdeal.main_arg5) = m ((c.tc : Thread Cert.RetIdeal.nD Cert.RetIdeal.τ).loc Cert.RetIdeal.main_arg5)) →
    ∃ (v0 : (c : Dev Cert.RetIdeal.nD) → Buf (Elt Ideal) ((c.tc : Thread Cert.RetIdeal.nD Cert.RetIdeal.τ).loc Cert.RetIdeal.main_v0_1)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v0_1) = v0 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
          ∧ r.2.mem ((c.tc : Thread Cert.RetIdeal.nD Cert.RetIdeal.τ).loc Cert.RetIdeal.main_arg3) = m ((c.tc : Thread Cert.RetIdeal.nD Cert.RetIdeal.τ).loc Cert.RetIdeal.main_arg3)
          ∧ r.2.mem ((c.tc : Thread Cert.RetIdeal.nD Cert.RetIdeal.τ).loc Cert.RetIdeal.main_arg4) = m ((c.tc : Thread Cert.RetIdeal.nD Cert.RetIdeal.τ).loc Cert.RetIdeal.main_arg4)
          ∧ r.2.mem ((c.tc : Thread Cert.RetIdeal.nD Cert.RetIdeal.τ).loc Cert.RetIdeal.main_arg5) = m ((c.tc : Thread Cert.RetIdeal.nD Cert.RetIdeal.τ).loc Cert.RetIdeal.main_arg5))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v48) = v0 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2)
          ∧ r.2.mem ((c.tc : Thread Cert.RetRefIdeal.nD Cert.RetRefIdeal.τ).loc Cert.RetRefIdeal.main_arg3) = m' ((c.tc : Thread Cert.RetRefIdeal.nD Cert.RetRefIdeal.τ).loc Cert.RetRefIdeal.main_arg3)
          ∧ r.2.mem ((c.tc : Thread Cert.RetRefIdeal.nD Cert.RetRefIdeal.τ).loc Cert.RetRefIdeal.main_arg4) = m' ((c.tc : Thread Cert.RetRefIdeal.nD Cert.RetRefIdeal.τ).loc Cert.RetRefIdeal.main_arg4)
          ∧ r.2.mem ((c.tc : Thread Cert.RetRefIdeal.nD Cert.RetRefIdeal.τ).loc Cert.RetRefIdeal.main_arg5) = m' ((c.tc : Thread Cert.RetRefIdeal.nD Cert.RetRefIdeal.τ).loc Cert.RetRefIdeal.main_arg5))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hRows : Cert.Rows.Facts) (hRowsIdeal : Cert.RowsIdeal.Facts) (hRowsRefIdeal : Cert.RowsRefIdeal.Facts) (hFinal : Cert.Final.Facts) (hFinalIdeal : Cert.FinalIdeal.Facts) (hFinalRefIdeal : Cert.FinalRefIdeal.Facts) (hGate : Cert.Gate.Facts) (hGateIdeal : Cert.GateIdeal.Facts) (hGateRefIdeal : Cert.GateRefIdeal.Facts) (hRetIn : Cert.RetIn.Facts) (hRetInIdeal : Cert.RetInIdeal.Facts) (hRetInRefIdeal : Cert.RetInRefIdeal.Facts) (hGmlpIn : Cert.GmlpIn.Facts) (hGmlpInIdeal : Cert.GmlpInIdeal.Facts) (hGmlpInRefIdeal : Cert.GmlpInRefIdeal.Facts) (hFfnDown : Cert.FfnDown.Facts) (hFfnDownIdeal : Cert.FfnDownIdeal.Facts) (hFfnDownRefIdeal : Cert.FfnDownRefIdeal.Facts) (hGmlpOut : Cert.GmlpOut.Facts) (hGmlpOutIdeal : Cert.GmlpOutIdeal.Facts) (hGmlpOutRefIdeal : Cert.GmlpOutRefIdeal.Facts) (hRetOut : Cert.RetOut.Facts) (hRetOutIdeal : Cert.RetOutIdeal.Facts) (hRetOutRefIdeal : Cert.RetOutRefIdeal.Facts) (hAttOut : Cert.AttOut.Facts) (hAttOutIdeal : Cert.AttOutIdeal.Facts) (hAttOutRefIdeal : Cert.AttOutRefIdeal.Facts) (hRet : Cert.Ret.Facts) (hRetIdeal : Cert.RetIdeal.Facts) (hRetRefIdeal : Cert.RetRefIdeal.Facts) (hPre_finite : Cert.Pre_finite.Facts) (hPre_planned : Cert.Pre_planned.Facts) (hPre_padded : Cert.Pre_padded.Facts) (hPre_planned_up : Cert.Pre_planned_up.Facts) (hPre_padded_up : Cert.Pre_padded_up.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Down (hDown := hDown) (hPre_planned := hPre_planned)
    ∧ quiescent_DownIdeal (hDownIdeal := hDownIdeal) (hPre_planned := hPre_planned)
    ∧ quiescent_DownIdeal_pre_padded (hDownIdeal := hDownIdeal) (hPre_padded := hPre_padded)
    ∧ quiescent_DownRefIdeal (hDownRefIdeal := hDownRefIdeal)
    ∧ quiescent_DownRefIdeal_pre_padded (hDownRefIdeal := hDownRefIdeal) (hPre_padded := hPre_padded)
    ∧ quiescent_Up (hUp := hUp) (hPre_planned_up := hPre_planned_up)
    ∧ quiescent_UpIdeal (hUpIdeal := hUpIdeal) (hPre_planned_up := hPre_planned_up)
    ∧ quiescent_UpIdeal_pre_padded_up (hUpIdeal := hUpIdeal) (hPre_padded_up := hPre_padded_up)
    ∧ quiescent_UpRefIdeal (hUpRefIdeal := hUpRefIdeal)
    ∧ quiescent_UpRefIdeal_pre_padded_up (hUpRefIdeal := hUpRefIdeal) (hPre_padded_up := hPre_padded_up)
    ∧ quiescent_Rows (hRows := hRows)
    ∧ quiescent_RowsIdeal (hRowsIdeal := hRowsIdeal)
    ∧ quiescent_RowsRefIdeal (hRowsRefIdeal := hRowsRefIdeal)
    ∧ quiescent_Final (hFinal := hFinal)
    ∧ quiescent_FinalIdeal (hFinalIdeal := hFinalIdeal)
    ∧ quiescent_FinalRefIdeal (hFinalRefIdeal := hFinalRefIdeal)
    ∧ quiescent_Gate (hGate := hGate)
    ∧ quiescent_GateIdeal (hGateIdeal := hGateIdeal)
    ∧ quiescent_GateRefIdeal (hGateRefIdeal := hGateRefIdeal)
    ∧ quiescent_RetIn (hRetIn := hRetIn)
    ∧ quiescent_RetInIdeal (hRetInIdeal := hRetInIdeal)
    ∧ quiescent_RetInRefIdeal (hRetInRefIdeal := hRetInRefIdeal)
    ∧ quiescent_GmlpIn (hGmlpIn := hGmlpIn)
    ∧ quiescent_GmlpInIdeal (hGmlpInIdeal := hGmlpInIdeal)
    ∧ quiescent_GmlpInRefIdeal (hGmlpInRefIdeal := hGmlpInRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_GmlpOut (hGmlpOut := hGmlpOut)
    ∧ quiescent_GmlpOutIdeal (hGmlpOutIdeal := hGmlpOutIdeal)
    ∧ quiescent_GmlpOutRefIdeal (hGmlpOutRefIdeal := hGmlpOutRefIdeal)
    ∧ quiescent_RetOut (hRetOut := hRetOut)
    ∧ quiescent_RetOutIdeal (hRetOutIdeal := hRetOutIdeal)
    ∧ quiescent_RetOutRefIdeal (hRetOutRefIdeal := hRetOutRefIdeal)
    ∧ quiescent_AttOut (hAttOut := hAttOut)
    ∧ quiescent_AttOutIdeal (hAttOutIdeal := hAttOutIdeal)
    ∧ quiescent_AttOutRefIdeal (hAttOutRefIdeal := hAttOutRefIdeal)
    ∧ quiescent_Ret (hRet := hRet)
    ∧ quiescent_RetIdeal (hRetIdeal := hRetIdeal)
    ∧ quiescent_RetRefIdeal (hRetRefIdeal := hRetRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Down_DownIdeal
    ∧ algebraic_DownIdeal_DownRefIdeal_pre_padded (hDownIdeal := hDownIdeal) (hDownRefIdeal := hDownRefIdeal) (hPre_padded := hPre_padded)
    ∧ preserves_Up_UpIdeal
    ∧ algebraic_UpIdeal_UpRefIdeal_pre_padded_up (hUpIdeal := hUpIdeal) (hUpRefIdeal := hUpRefIdeal) (hPre_padded_up := hPre_padded_up)
    ∧ preserves_Rows_RowsIdeal
    ∧ algebraic_RowsIdeal_RowsRefIdeal (hRowsIdeal := hRowsIdeal) (hRowsRefIdeal := hRowsRefIdeal)
    ∧ preserves_Final_FinalIdeal
    ∧ algebraic_FinalIdeal_FinalRefIdeal (hFinalIdeal := hFinalIdeal) (hFinalRefIdeal := hFinalRefIdeal)
    ∧ preserves_Gate_GateIdeal
    ∧ algebraic_GateIdeal_GateRefIdeal (hGateIdeal := hGateIdeal) (hGateRefIdeal := hGateRefIdeal)
    ∧ preserves_RetIn_RetInIdeal
    ∧ algebraic_RetInIdeal_RetInRefIdeal (hRetInIdeal := hRetInIdeal) (hRetInRefIdeal := hRetInRefIdeal)
    ∧ preserves_GmlpIn_GmlpInIdeal
    ∧ algebraic_GmlpInIdeal_GmlpInRefIdeal (hGmlpInIdeal := hGmlpInIdeal) (hGmlpInRefIdeal := hGmlpInRefIdeal)
    ∧ preserves_FfnDown_FfnDownIdeal
    ∧ algebraic_FfnDownIdeal_FfnDownRefIdeal (hFfnDownIdeal := hFfnDownIdeal) (hFfnDownRefIdeal := hFfnDownRefIdeal)
    ∧ preserves_GmlpOut_GmlpOutIdeal
    ∧ algebraic_GmlpOutIdeal_GmlpOutRefIdeal (hGmlpOutIdeal := hGmlpOutIdeal) (hGmlpOutRefIdeal := hGmlpOutRefIdeal)
    ∧ preserves_RetOut_RetOutIdeal
    ∧ algebraic_RetOutIdeal_RetOutRefIdeal (hRetOutIdeal := hRetOutIdeal) (hRetOutRefIdeal := hRetOutRefIdeal)
    ∧ preserves_AttOut_AttOutIdeal
    ∧ algebraic_AttOutIdeal_AttOutRefIdeal (hAttOutIdeal := hAttOutIdeal) (hAttOutRefIdeal := hAttOutRefIdeal)
    ∧ preserves_Ret_RetIdeal
    ∧ algebraic_RetIdeal_RetRefIdeal (hRetIdeal := hRetIdeal) (hRetRefIdeal := hRetRefIdeal)
-- ==== Pre_finite.lean ====
abbrev S8704x6144 : Shape := ⟨2, ![8704, 6144]⟩
abbrev S257x16 : Shape := ⟨2, ![257, 16]⟩
abbrev S8192x4096 : Shape := ⟨2, ![8192, 4096]⟩
abbrev S_ : Shape := ⟨0, ![]⟩

class Facts : Prop where
  slices_S8704x6144_S8192x4096_0_0 : S8704x6144.Slices ![0, 0] S8192x4096
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S257x16 : S_.BroadcastsInDim S257x16 (![] : Fin 0 → Fin S257x16.rank)
  reducesTo_S257x16_S_d0_1 : S257x16.ReducesTo [0, 1] S_

variable [Facts]

def fn {F : FTy → Type} [FloatOps F] (main_arg0 : FVec F S8704x6144 .f32) (main_arg1 : FVec F S257x16 .f32) : IVec S_ 1 :=
  let main_v0 : FVec F S8192x4096 .f32 := (extractStridedSlice S8192x4096 ![0, 0] · slices_S8704x6144_S8192x4096_0_0) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S257x16 .f32 := Host.absf main_arg1
  let main_cst_0 : FVec F S_ .f32 := constant S_ .f32 0x7F800000#32
  let main_v6 : FVec F S257x16 .f32 := broadcastInDim S257x16 ![] bcast_S_S257x16 main_cst_0
  let main_v7 : IVec S257x16 1 := cmpf .olt main_v5 main_v6
  let main_c_1 : IVec S_ 1 := constantI S_ 1 1#1
  let main_v8 : IVec S_ 1 := (fun x v => Host.reduce IntOp.andi x v reducesTo_S257x16_S_d0_1 h_S_) main_v7 main_c_1
  let main_v9 : IVec S_ 1 := andi main_v4 main_v8
  main_v9
-- ==== Pre_padded.lean ====
abbrev S42 : Shape := ⟨1, ![42]⟩
abbrev S21504x7168 : Shape := ⟨2, ![21504, 7168]⟩
abbrev S16x7168x2048 : Shape := ⟨3, ![16, 7168, 2048]⟩
abbrev S512 : Shape := ⟨1, ![512]⟩
abbrev S1x512 : Shape := ⟨2, ![1, 512]⟩
abbrev S42x1 : Shape := ⟨2, ![42, 1]⟩
abbrev S42x512 : Shape := ⟨2, ![42, 512]⟩
abbrev S42x512x7168 : Shape := ⟨3, ![42, 512, 7168]⟩
abbrev S_ : Shape := ⟨0, ![]⟩
abbrev S41 : Shape := ⟨1, ![41]⟩
abbrev S1 : Shape := ⟨1, ![1]⟩
abbrev S42x512x1 : Shape := ⟨3, ![42, 512, 1]⟩

class Facts : Prop where
  bcast_S512_S1x512_1 : S512.BroadcastsInDim S1x512 (![1] : Fin 1 → Fin S1x512.rank)
  bcast_S42_S42x1_0 : S42.BroadcastsInDim S42x1 (![0] : Fin 1 → Fin S42x1.rank)
  bcast_S1x512_S42x512_0_1 : S1x512.BroadcastsInDim S42x512 (![0, 1] : Fin 2 → Fin S42x512.rank)
  bcast_S42x1_S42x512_0_1 : S42x1.BroadcastsInDim S42x512 (![0, 1] : Fin 2 → Fin S42x512.rank)
  bitsLt_bf16_f32 : FTy.bits .bf16 < FTy.bits .f32
  shapeCasts_S21504x7168_S42x512x7168 : S21504x7168.ShapeCasts S42x512x7168
  bcast_S_S42x512x7168 : S_.BroadcastsInDim S42x512x7168 (![] : Fin 0 → Fin S42x512x7168.rank)
  slices_S42_S41_1 : S42.Slices ![1] S41
  slices_S42_S41_0 : S42.Slices ![0] S41
  bcast_S_S41 : S_.BroadcastsInDim S41 (![] : Fin 0 → Fin S41.rank)
  bcast_S_S42 : S_.BroadcastsInDim S42 (![] : Fin 0 → Fin S42.rank)
  slices_S42_S1_0 : S42.Slices ![0] S1
  shapeCasts_S1_S_ : S1.ShapeCasts S_
  slices_S42_S1_41 : S42.Slices ![41] S1
  reducesTo_S41_S_d0 : S41.ReducesTo [0] S_
  h_S_ : 0 < S_.numel
  reducesTo_S42_S_d0 : S42.ReducesTo [0] S_
  bcast_S42x512_S42x512x1_0_1 : S42x512.BroadcastsInDim S42x512x1 (![0, 1] : Fin 2 → Fin S42x512x1.rank)
  bcast_S42x512x1_S42x512x7168_0_1_2 : S42x512x1.BroadcastsInDim S42x512x7168 (![0, 1, 2] : Fin 3 → Fin S42x512x7168.rank)
  reducesTo_S42x512x7168_S_d0_1_2 : S42x512x7168.ReducesTo [0, 1, 2] S_

variable [Facts]

def fn_where {F : FTy → Type} [FloatOps F] (arg0 : IVec S41 1) (arg1 : IVec S41 1) (arg2 : IVec S41 1) : IVec S41 1 :=
  let v0 : IVec S41 1 := select arg0 arg1 arg2
  v0

def fn_part3 {F : FTy → Type} [FloatOps F] (main_arg4 : IVec S42 32) (main_v5 : IVec S42x512 1) (main_v9 : IVec S42x512x7168 1) (main_v31 : IVec S41 1) (main_v51 : IVec S42 1) (main_v60 : IVec S_ 1) : IVec S_ 1 :=
  let main_v61 : IVec S1 32 := (extractStridedSlice S1 ![41] · slices_S42_S1_41) main_arg4
  let main_v62 : IVec S_ 32 := shapeCast S_ main_v61 shapeCasts_S1_S_
  let main_c_9 : IVec S_ 32 := constantI S_ 32 1#32
  let main_v63 : IVec S_ 1 := cmpi .eq main_v62 main_c_9
  let main_v64 : IVec S_ 1 := andi main_v60 main_v63
  let main_c_10 : IVec S_ 1 := constantI S_ 1 1#1
  let main_v65 : IVec S_ 1 := (fun x v => Host.reduce IntOp.andi x v reducesTo_S41_S_d0 h_S_) main_v31 main_c_10
  let main_c_11 : IVec S_ 1 := constantI S_ 1 1#1
  let main_v66 : IVec S_ 1 := (fun x v => Host.reduce IntOp.andi x v reducesTo_S42_S_d0 h_S_) main_v51 main_c_11
  let main_v67 : IVec S_ 1 := andi main_v65 main_v66
  let main_v68 : IVec S_ 1 := andi main_v67 main_v64
  let main_v69 : IVec S42x512x1 1 := broadcastInDim S42x512x1 ![0, 1] bcast_S42x512_S42x512x1_0_1 main_v5
  let main_v70 : IVec S42x512x7168 1 := broadcastInDim S42x512x7168 ![0, 1, 2] bcast_S42x512x1_S42x512x7168_0_1_2 main_v69
  let main_v71 : IVec S42x512x7168 1 := ori main_v70 main_v9
  let main_c_12 : IVec S_ 1 := constantI S_ 1 1#1
  let main_v72 : IVec S_ 1 := (fun x v => Host.reduce IntOp.andi x v reducesTo_S42x512x7168_S_d0_1_2 h_S_) main_v71 main_c_12
  let main_v73 : IVec S_ 1 := andi main_v68 main_v72
  main_v73

def fn_part2 {F : FTy → Type} [FloatOps F] (main_arg0 : IVec S42 32) (main_arg1 : IVec S42 32) (main_arg2 : IVec S42 32) (main_arg3 : IVec S42 32) (main_arg4 : IVec S42 32) (main_v5 : IVec S42x512 1) (main_v9 : IVec S42x512x7168 1) (main_v31 : IVec S41 1) (main_v39 : IVec S42 1) (main_v40 : IVec S42 32) : IVec S_ 1 :=
  let main_v41 : IVec S42 1 := cmpi .slt main_arg3 main_v40
  let main_v42 : IVec S42 1 := andi main_v39 main_v41
  let main_c_5 : IVec S_ 32 := constantI S_ 32 0#32
  let main_v43 : IVec S42 32 := broadcastInDim S42 ![] bcast_S_S42 main_c_5
  let main_v44 : IVec S42 1 := cmpi .sge main_arg4 main_v43
  let main_v45 : IVec S42 1 := andi main_v42 main_v44
  let main_c_6 : IVec S_ 32 := constantI S_ 32 1#32
  let main_v46 : IVec S42 32 := broadcastInDim S42 ![] bcast_S_S42 main_c_6
  let main_v47 : IVec S42 1 := cmpi .sle main_arg4 main_v46
  let main_v48 : IVec S42 1 := andi main_v45 main_v47
  let main_c_7 : IVec S_ 32 := constantI S_ 32 0#32
  let main_v49 : IVec S42 32 := broadcastInDim S42 ![] bcast_S_S42 main_c_7
  let main_v50 : IVec S42 1 := cmpi .sge main_arg2 main_v49
  let main_v51 : IVec S42 1 := andi main_v48 main_v50
  let main_v52 : IVec S1 32 := (extractStridedSlice S1 ![0] · slices_S42_S1_0) main_arg1
  let main_v53 : IVec S_ 32 := shapeCast S_ main_v52 shapeCasts_S1_S_
  let main_c_8 : IVec S_ 32 := constantI S_ 32 1#32
  let main_v54 : IVec S_ 1 := cmpi .eq main_v53 main_c_8
  let main_v55 : IVec S1 32 := (extractStridedSlice S1 ![41] · slices_S42_S1_41) main_arg3
  let main_v56 : IVec S_ 32 := shapeCast S_ main_v55 shapeCasts_S1_S_
  let main_v57 : IVec S1 32 := (extractStridedSlice S1 ![0] · slices_S42_S1_0) main_arg0
  let main_v58 : IVec S_ 32 := shapeCast S_ main_v57 shapeCasts_S1_S_
  let main_v59 : IVec S_ 1 := cmpi .eq main_v56 main_v58
  let main_v60 : IVec S_ 1 := andi main_v54 main_v59
  fn_part3 (F := F) main_arg4 main_v5 main_v9 main_v31 main_v51 main_v60

def fn_part1 {F : FTy → Type} [FloatOps F] (main_arg0 : IVec S42 32) (main_arg1 : IVec S42 32) (main_arg2 : IVec S42 32) (main_arg3 : IVec S42 32) (main_arg4 : IVec S42 32) (main_v5 : IVec S42x512 1) (main_v9 : IVec S42x512x7168 1) (main_v20 : IVec S41 1) (main_v21 : IVec S41 32) (main_v22 : IVec S41 32) : IVec S_ 1 :=
  let main_v23 : IVec S41 1 := cmpi .eq main_v21 main_v22
  let main_v24 : IVec S41 32 := (extractStridedSlice S41 ![0] · slices_S42_S41_0) main_arg4
  let main_c : IVec S_ 32 := constantI S_ 32 0#32
  let main_v25 : IVec S41 32 := broadcastInDim S41 ![] bcast_S_S41 main_c
  let main_v26 : IVec S41 1 := cmpi .eq main_v24 main_v25
  let main_v27 : IVec S41 1 := andi main_v23 main_v26
  let main_v28 : IVec S41 32 := (extractStridedSlice S41 ![1] · slices_S42_S41_1) main_arg1
  let main_c_0 : IVec S_ 32 := constantI S_ 32 1#32
  let main_v29 : IVec S41 32 := broadcastInDim S41 ![] bcast_S_S41 main_c_0
  let main_v30 : IVec S41 1 := cmpi .eq main_v28 main_v29
  let main_v31 : IVec S41 1 := fn_where (F := F) main_v30 main_v27 main_v20
  let main_c_1 : IVec S_ 32 := constantI S_ 32 0#32
  let main_v32 : IVec S42 32 := broadcastInDim S42 ![] bcast_S_S42 main_c_1
  let main_v33 : IVec S42 1 := cmpi .sge main_arg0 main_v32
  let main_c_2 : IVec S_ 32 := constantI S_ 32 16#32
  let main_v34 : IVec S42 32 := broadcastInDim S42 ![] bcast_S_S42 main_c_2
  let main_v35 : IVec S42 1 := cmpi .slt main_arg0 main_v34
  let main_v36 : IVec S42 1 := andi main_v33 main_v35
  let main_c_3 : IVec S_ 32 := constantI S_ 32 0#32
  let main_v37 : IVec S42 32 := broadcastInDim S42 ![] bcast_S_S42 main_c_3
  let main_v38 : IVec S42 1 := cmpi .sge main_arg3 main_v37
  let main_v39 : IVec S42 1 := andi main_v36 main_v38
  let main_c_4 : IVec S_ 32 := constantI S_ 32 16#32
  let main_v40 : IVec S42 32 := broadcastInDim S42 ![] bcast_S_S42 main_c_4
  fn_part2 (F := F) main_arg0 main_arg1 main_arg2 main_arg3 main_arg4 main_v5 main_v9 main_v31 main_v39 main_v40

def fn {F : FTy → Type} [FloatOps F] (main_arg0 : IVec S42 32) (main_arg1 : IVec S42 32) (main_arg2 : IVec S42 32) (main_arg3 : IVec S42 32) (main_arg4 : IVec S42 32) (main_arg5 : FVec F S21504x7168 .bf16) (main_arg6 : FVec F S16x7168x2048 .f32) : IVec S_ 1 :=
  let main_v0 : IVec S512 32 := iotaInDim S512 32 0
  let main_v1 : IVec S1x512 32 := broadcastInDim S1x512 ![1] bcast_S512_S1x512_1 main_v0
  let main_v2 : IVec S42x1 32 := broadcastInDim S42x1 ![0] bcast_S42_S42x1_0 main_arg2
  let main_v3 : IVec S42x512 32 := broadcastInDim S42x512 ![0, 1] bcast_S1x512_S42x512_0_1 main_v1
  let main_v4 : IVec S42x512 32 := broadcastInDim S42x512 ![0, 1] bcast_S42x1_S42x512_0_1 main_v2
  let main_v5 : IVec S42x512 1 := cmpi .slt main_v3 main_v4
  let main_v6 : FVec F S21504x7168 .f32 := (extf .f32 · bitsLt_bf16_f32) main_arg5
  let main_v7 : FVec F S42x512x7168 .f32 := shapeCast S42x512x7168 main_v6 shapeCasts_S21504x7168_S42x512x7168
  let main_cst : FVec F S_ .f32 := constant S_ .f32 0x00000000#32
  let main_v8 : FVec F S42x512x7168 .f32 := broadcastInDim S42x512x7168 ![] bcast_S_S42x512x7168 main_cst
  let main_v9 : IVec S42x512x7168 1 := cmpf .oeq main_v7 main_v8
  let main_v10 : IVec S41 32 := (extractStridedSlice S41 ![1] · slices_S42_S41_1) main_arg0
  let main_v11 : IVec S41 32 := (extractStridedSlice S41 ![0] · slices_S42_S41_0) main_arg0
  let main_v12 : IVec S41 1 := cmpi .eq main_v10 main_v11
  let main_v13 : IVec S41 32 := (extractStridedSlice S41 ![1] · slices_S42_S41_1) main_arg3
  let main_v14 : IVec S41 32 := (extractStridedSlice S41 ![0] · slices_S42_S41_0) main_arg3
  let main_v15 : IVec S41 1 := cmpi .eq main_v13 main_v14
  let main_v16 : IVec S41 1 := andi main_v12 main_v15
  let main_v17 : IVec S41 32 := (extractStridedSlice S41 ![1] · slices_S42_S41_1) main_arg4
  let main_v18 : IVec S41 32 := (extractStridedSlice S41 ![0] · slices_S42_S41_0) main_arg4
  let main_v19 : IVec S41 1 := cmpi .eq main_v17 main_v18
  let main_v20 : IVec S41 1 := andi main_v16 main_v19
  let main_v21 : IVec S41 32 := (extractStridedSlice S41 ![1] · slices_S42_S41_1) main_arg0
  let main_v22 : IVec S41 32 := (extractStridedSlice S41 ![0] · slices_S42_S41_0) main_arg3
  fn_part1 (F := F) main_arg0 main_arg1 main_arg2 main_arg3 main_arg4 main_v5 main_v9 main_v20 main_v21 main_v22
-- ==== Pre_padded_up.lean ====
abbrev S42 : Shape := ⟨1, ![42]⟩
abbrev S21504x2048 : Shape := ⟨2, ![21504, 2048]⟩
abbrev S16x2048x14336 : Shape := ⟨3, ![16, 2048, 14336]⟩
abbrev S512 : Shape := ⟨1, ![512]⟩
abbrev S1x512 : Shape := ⟨2, ![1, 512]⟩
abbrev S42x1 : Shape := ⟨2, ![42, 1]⟩
abbrev S42x512 : Shape := ⟨2, ![42, 512]⟩
abbrev S42x512x2048 : Shape := ⟨3, ![42, 512, 2048]⟩
abbrev S_ : Shape := ⟨0, ![]⟩
abbrev S41 : Shape := ⟨1, ![41]⟩
abbrev S1 : Shape := ⟨1, ![1]⟩
abbrev S42x512x1 : Shape := ⟨3, ![42, 512, 1]⟩

class Facts : Prop where
  bcast_S512_S1x512_1 : S512.BroadcastsInDim S1x512 (![1] : Fin 1 → Fin S1x512.rank)
  bcast_S42_S42x1_0 : S42.BroadcastsInDim S42x1 (![0] : Fin 1 → Fin S42x1.rank)
  bcast_S1x512_S42x512_0_1 : S1x512.BroadcastsInDim S42x512 (![0, 1] : Fin 2 → Fin S42x512.rank)
  bcast_S42x1_S42x512_0_1 : S42x1.BroadcastsInDim S42x512 (![0, 1] : Fin 2 → Fin S42x512.rank)
  bitsLt_bf16_f32 : FTy.bits .bf16 < FTy.bits .f32
  shapeCasts_S21504x2048_S42x512x2048 : S21504x2048.ShapeCasts S42x512x2048
  bcast_S_S42x512x2048 : S_.BroadcastsInDim S42x512x2048 (![] : Fin 0 → Fin S42x512x2048.rank)
  slices_S42_S41_1 : S42.Slices ![1] S41
  slices_S42_S41_0 : S42.Slices ![0] S41
  bcast_S_S41 : S_.BroadcastsInDim S41 (![] : Fin 0 → Fin S41.rank)
  bcast_S_S42 : S_.BroadcastsInDim S42 (![] : Fin 0 → Fin S42.rank)
  slices_S42_S1_0 : S42.Slices ![0] S1
  shapeCasts_S1_S_ : S1.ShapeCasts S_
  slices_S42_S1_41 : S42.Slices ![41] S1
  reducesTo_S41_S_d0 : S41.ReducesTo [0] S_
  h_S_ : 0 < S_.numel
  reducesTo_S42_S_d0 : S42.ReducesTo [0] S_
  bcast_S42x512_S42x512x1_0_1 : S42x512.BroadcastsInDim S42x512x1 (![0, 1] : Fin 2 → Fin S42x512x1.rank)
  bcast_S42x512x1_S42x512x2048_0_1_2 : S42x512x1.BroadcastsInDim S42x512x2048 (![0, 1, 2] : Fin 3 → Fin S42x512x2048.rank)
  reducesTo_S42x512x2048_S_d0_1_2 : S42x512x2048.ReducesTo [0, 1, 2] S_

variable [Facts]

def fn_where {F : FTy → Type} [FloatOps F] (arg0 : IVec S41 1) (arg1 : IVec S41 1) (arg2 : IVec S41 1) : IVec S41 1 :=
  let v0 : IVec S41 1 := select arg0 arg1 arg2
  v0

def fn_part3 {F : FTy → Type} [FloatOps F] (main_arg4 : IVec S42 32) (main_v5 : IVec S42x512 1) (main_v9 : IVec S42x512x2048 1) (main_v31 : IVec S41 1) (main_v51 : IVec S42 1) (main_v60 : IVec S_ 1) : IVec S_ 1 :=
  let main_v61 : IVec S1 32 := (extractStridedSlice S1 ![41] · slices_S42_S1_41) main_arg4
  let main_v62 : IVec S_ 32 := shapeCast S_ main_v61 shapeCasts_S1_S_
  let main_c_9 : IVec S_ 32 := constantI S_ 32 1#32
  let main_v63 : IVec S_ 1 := cmpi .eq main_v62 main_c_9
  let main_v64 : IVec S_ 1 := andi main_v60 main_v63
  let main_c_10 : IVec S_ 1 := constantI S_ 1 1#1
  let main_v65 : IVec S_ 1 := (fun x v => Host.reduce IntOp.andi x v reducesTo_S41_S_d0 h_S_) main_v31 main_c_10
  let main_c_11 : IVec S_ 1 := constantI S_ 1 1#1
  let main_v66 : IVec S_ 1 := (fun x v => Host.reduce IntOp.andi x v reducesTo_S42_S_d0 h_S_) main_v51 main_c_11
  let main_v67 : IVec S_ 1 := andi main_v65 main_v66
  let main_v68 : IVec S_ 1 := andi main_v67 main_v64
  let main_v69 : IVec S42x512x1 1 := broadcastInDim S42x512x1 ![0, 1] bcast_S42x512_S42x512x1_0_1 main_v5
  let main_v70 : IVec S42x512x2048 1 := broadcastInDim S42x512x2048 ![0, 1, 2] bcast_S42x512x1_S42x512x2048_0_1_2 main_v69
  let main_v71 : IVec S42x512x2048 1 := ori main_v70 main_v9
  let main_c_12 : IVec S_ 1 := constantI S_ 1 1#1
  let main_v72 : IVec S_ 1 := (fun x v => Host.reduce IntOp.andi x v reducesTo_S42x512x2048_S_d0_1_2 h_S_) main_v71 main_c_12
  let main_v73 : IVec S_ 1 := andi main_v68 main_v72
  main_v73

def fn_part2 {F : FTy → Type} [FloatOps F] (main_arg0 : IVec S42 32) (main_arg1 : IVec S42 32) (main_arg2 : IVec S42 32) (main_arg3 : IVec S42 32) (main_arg4 : IVec S42 32) (main_v5 : IVec S42x512 1) (main_v9 : IVec S42x512x2048 1) (main_v31 : IVec S41 1) (main_v39 : IVec S42 1) (main_v40 : IVec S42 32) : IVec S_ 1 :=
  let main_v41 : IVec S42 1 := cmpi .slt main_arg3 main_v40
  let main_v42 : IVec S42 1 := andi main_v39 main_v41
  let main_c_5 : IVec S_ 32 := constantI S_ 32 0#32
  let main_v43 : IVec S42 32 := broadcastInDim S42 ![] bcast_S_S42 main_c_5
  let main_v44 : IVec S42 1 := cmpi .sge main_arg4 main_v43
  let main_v45 : IVec S42 1 := andi main_v42 main_v44
  let main_c_6 : IVec S_ 32 := constantI S_ 32 1#32
  let main_v46 : IVec S42 32 := broadcastInDim S42 ![] bcast_S_S42 main_c_6
  let main_v47 : IVec S42 1 := cmpi .sle main_arg4 main_v46
  let main_v48 : IVec S42 1 := andi main_v45 main_v47
  let main_c_7 : IVec S_ 32 := constantI S_ 32 0#32
  let main_v49 : IVec S42 32 := broadcastInDim S42 ![] bcast_S_S42 main_c_7
  let main_v50 : IVec S42 1 := cmpi .sge main_arg2 main_v49
  let main_v51 : IVec S42 1 := andi main_v48 main_v50
  let main_v52 : IVec S1 32 := (extractStridedSlice S1 ![0] · slices_S42_S1_0) main_arg1
  let main_v53 : IVec S_ 32 := shapeCast S_ main_v52 shapeCasts_S1_S_
  let main_c_8 : IVec S_ 32 := constantI S_ 32 1#32
  let main_v54 : IVec S_ 1 := cmpi .eq main_v53 main_c_8
  let main_v55 : IVec S1 32 := (extractStridedSlice S1 ![41] · slices_S42_S1_41) main_arg3
  let main_v56 : IVec S_ 32 := shapeCast S_ main_v55 shapeCasts_S1_S_
  let main_v57 : IVec S1 32 := (extractStridedSlice S1 ![0] · slices_S42_S1_0) main_arg0
  let main_v58 : IVec S_ 32 := shapeCast S_ main_v57 shapeCasts_S1_S_
  let main_v59 : IVec S_ 1 := cmpi .eq main_v56 main_v58
  let main_v60 : IVec S_ 1 := andi main_v54 main_v59
  fn_part3 (F := F) main_arg4 main_v5 main_v9 main_v31 main_v51 main_v60

def fn_part1 {F : FTy → Type} [FloatOps F] (main_arg0 : IVec S42 32) (main_arg1 : IVec S42 32) (main_arg2 : IVec S42 32) (main_arg3 : IVec S42 32) (main_arg4 : IVec S42 32) (main_v5 : IVec S42x512 1) (main_v9 : IVec S42x512x2048 1) (main_v20 : IVec S41 1) (main_v21 : IVec S41 32) (main_v22 : IVec S41 32) : IVec S_ 1 :=
  let main_v23 : IVec S41 1 := cmpi .eq main_v21 main_v22
  let main_v24 : IVec S41 32 := (extractStridedSlice S41 ![0] · slices_S42_S41_0) main_arg4
  let main_c : IVec S_ 32 := constantI S_ 32 0#32
  let main_v25 : IVec S41 32 := broadcastInDim S41 ![] bcast_S_S41 main_c
  let main_v26 : IVec S41 1 := cmpi .eq main_v24 main_v25
  let main_v27 : IVec S41 1 := andi main_v23 main_v26
  let main_v28 : IVec S41 32 := (extractStridedSlice S41 ![1] · slices_S42_S41_1) main_arg1
  let main_c_0 : IVec S_ 32 := constantI S_ 32 1#32
  let main_v29 : IVec S41 32 := broadcastInDim S41 ![] bcast_S_S41 main_c_0
  let main_v30 : IVec S41 1 := cmpi .eq main_v28 main_v29
  let main_v31 : IVec S41 1 := fn_where (F := F) main_v30 main_v27 main_v20
  let main_c_1 : IVec S_ 32 := constantI S_ 32 0#32
  let main_v32 : IVec S42 32 := broadcastInDim S42 ![] bcast_S_S42 main_c_1
  let main_v33 : IVec S42 1 := cmpi .sge main_arg0 main_v32
  let main_c_2 : IVec S_ 32 := constantI S_ 32 16#32
  let main_v34 : IVec S42 32 := broadcastInDim S42 ![] bcast_S_S42 main_c_2
  let main_v35 : IVec S42 1 := cmpi .slt main_arg0 main_v34
  let main_v36 : IVec S42 1 := andi main_v33 main_v35
  let main_c_3 : IVec S_ 32 := constantI S_ 32 0#32
  let main_v37 : IVec S42 32 := broadcastInDim S42 ![] bcast_S_S42 main_c_3
  let main_v38 : IVec S42 1 := cmpi .sge main_arg3 main_v37
  let main_v39 : IVec S42 1 := andi main_v36 main_v38
  let main_c_4 : IVec S_ 32 := constantI S_ 32 16#32
  let main_v40 : IVec S42 32 := broadcastInDim S42 ![] bcast_S_S42 main_c_4
  fn_part2 (F := F) main_arg0 main_arg1 main_arg2 main_arg3 main_arg4 main_v5 main_v9 main_v31 main_v39 main_v40

def fn {F : FTy → Type} [FloatOps F] (main_arg0 : IVec S42 32) (main_arg1 : IVec S42 32) (main_arg2 : IVec S42 32) (main_arg3 : IVec S42 32) (main_arg4 : IVec S42 32) (main_arg5 : FVec F S21504x2048 .bf16) (main_arg6 : FVec F S16x2048x14336 .f32) : IVec S_ 1 :=
  let main_v0 : IVec S512 32 := iotaInDim S512 32 0
  let main_v1 : IVec S1x512 32 := broadcastInDim S1x512 ![1] bcast_S512_S1x512_1 main_v0
  let main_v2 : IVec S42x1 32 := broadcastInDim S42x1 ![0] bcast_S42_S42x1_0 main_arg2
  let main_v3 : IVec S42x512 32 := broadcastInDim S42x512 ![0, 1] bcast_S1x512_S42x512_0_1 main_v1
  let main_v4 : IVec S42x512 32 := broadcastInDim S42x512 ![0, 1] bcast_S42x1_S42x512_0_1 main_v2
  let main_v5 : IVec S42x512 1 := cmpi .slt main_v3 main_v4
  let main_v6 : FVec F S21504x2048 .f32 := (extf .f32 · bitsLt_bf16_f32) main_arg5
  let main_v7 : FVec F S42x512x2048 .f32 := shapeCast S42x512x2048 main_v6 shapeCasts_S21504x2048_S42x512x2048
  let main_cst : FVec F S_ .f32 := constant S_ .f32 0x00000000#32
  let main_v8 : FVec F S42x512x2048 .f32 := broadcastInDim S42x512x2048 ![] bcast_S_S42x512x2048 main_cst
  let main_v9 : IVec S42x512x2048 1 := cmpf .oeq main_v7 main_v8
  let main_v10 : IVec S41 32 := (extractStridedSlice S41 ![1] · slices_S42_S41_1) main_arg0
  let main_v11 : IVec S41 32 := (extractStridedSlice S41 ![0] · slices_S42_S41_0) main_arg0
  let main_v12 : IVec S41 1 := cmpi .eq main_v10 main_v11
  let main_v13 : IVec S41 32 := (extractStridedSlice S41 ![1] · slices_S42_S41_1) main_arg3
  let main_v14 : IVec S41 32 := (extractStridedSlice S41 ![0] · slices_S42_S41_0) main_arg3
  let main_v15 : IVec S41 1 := cmpi .eq main_v13 main_v14
  let main_v16 : IVec S41 1 := andi main_v12 main_v15
  let main_v17 : IVec S41 32 := (extractStridedSlice S41 ![1] · slices_S42_S41_1) main_arg4
  let main_v18 : IVec S41 32 := (extractStridedSlice S41 ![0] · slices_S42_S41_0) main_arg4
  let main_v19 : IVec S41 1 := cmpi .eq main_v17 main_v18
  let main_v20 : IVec S41 1 := andi main_v16 main_v19
  let main_v21 : IVec S41 32 := (extractStridedSlice S41 ![1] · slices_S42_S41_1) main_arg0
  let main_v22 : IVec S41 32 := (extractStridedSlice S41 ![0] · slices_S42_S41_0) main_arg3
  fn_part1 (F := F) main_arg0 main_arg1 main_arg2 main_arg3 main_arg4 main_v5 main_v9 main_v20 main_v21 main_v22
-- ==== Pre_planned.lean ====
abbrev S42 : Shape := ⟨1, ![42]⟩
abbrev S21504x7168 : Shape := ⟨2, ![21504, 7168]⟩
abbrev S16x7168x2048 : Shape := ⟨3, ![16, 7168, 2048]⟩
abbrev S41 : Shape := ⟨1, ![41]⟩
abbrev S_ : Shape := ⟨0, ![]⟩
abbrev S1 : Shape := ⟨1, ![1]⟩

class Facts : Prop where
  slices_S42_S41_1 : S42.Slices ![1] S41
  slices_S42_S41_0 : S42.Slices ![0] S41
  bcast_S_S41 : S_.BroadcastsInDim S41 (![] : Fin 0 → Fin S41.rank)
  bcast_S_S42 : S_.BroadcastsInDim S42 (![] : Fin 0 → Fin S42.rank)
  slices_S42_S1_0 : S42.Slices ![0] S1
  shapeCasts_S1_S_ : S1.ShapeCasts S_
  slices_S42_S1_41 : S42.Slices ![41] S1
  reducesTo_S41_S_d0 : S41.ReducesTo [0] S_
  h_S_ : 0 < S_.numel
  reducesTo_S42_S_d0 : S42.ReducesTo [0] S_

variable [Facts]

def fn_where {F : FTy → Type} [FloatOps F] (arg0 : IVec S41 1) (arg1 : IVec S41 1) (arg2 : IVec S41 1) : IVec S41 1 :=
  let v0 : IVec S41 1 := select arg0 arg1 arg2
  v0

def fn_part2 {F : FTy → Type} [FloatOps F] (main_arg0 : IVec S42 32) (main_arg1 : IVec S42 32) (main_arg2 : IVec S42 32) (main_arg3 : IVec S42 32) (main_arg4 : IVec S42 32) (main_v21 : IVec S41 1) (main_v38 : IVec S42 1) (main_c_7 : IVec S_ 32) : IVec S_ 1 :=
  let main_v39 : IVec S42 32 := broadcastInDim S42 ![] bcast_S_S42 main_c_7
  let main_v40 : IVec S42 1 := cmpi .sge main_arg2 main_v39
  let main_v41 : IVec S42 1 := andi main_v38 main_v40
  let main_v42 : IVec S1 32 := (extractStridedSlice S1 ![0] · slices_S42_S1_0) main_arg1
  let main_v43 : IVec S_ 32 := shapeCast S_ main_v42 shapeCasts_S1_S_
  let main_c_8 : IVec S_ 32 := constantI S_ 32 1#32
  let main_v44 : IVec S_ 1 := cmpi .eq main_v43 main_c_8
  let main_v45 : IVec S1 32 := (extractStridedSlice S1 ![41] · slices_S42_S1_41) main_arg3
  let main_v46 : IVec S_ 32 := shapeCast S_ main_v45 shapeCasts_S1_S_
  let main_v47 : IVec S1 32 := (extractStridedSlice S1 ![0] · slices_S42_S1_0) main_arg0
  let main_v48 : IVec S_ 32 := shapeCast S_ main_v47 shapeCasts_S1_S_
  let main_v49 : IVec S_ 1 := cmpi .eq main_v46 main_v48
  let main_v50 : IVec S_ 1 := andi main_v44 main_v49
  let main_v51 : IVec S1 32 := (extractStridedSlice S1 ![41] · slices_S42_S1_41) main_arg4
  let main_v52 : IVec S_ 32 := shapeCast S_ main_v51 shapeCasts_S1_S_
  let main_c_9 : IVec S_ 32 := constantI S_ 32 1#32
  let main_v53 : IVec S_ 1 := cmpi .eq main_v52 main_c_9
  let main_v54 : IVec S_ 1 := andi main_v50 main_v53
  let main_c_10 : IVec S_ 1 := constantI S_ 1 1#1
  let main_v55 : IVec S_ 1 := (fun x v => Host.reduce IntOp.andi x v reducesTo_S41_S_d0 h_S_) main_v21 main_c_10
  let main_c_11 : IVec S_ 1 := constantI S_ 1 1#1
  let main_v56 : IVec S_ 1 := (fun x v => Host.reduce IntOp.andi x v reducesTo_S42_S_d0 h_S_) main_v41 main_c_11
  let main_v57 : IVec S_ 1 := andi main_v55 main_v56
  let main_v58 : IVec S_ 1 := andi main_v57 main_v54
  main_v58

def fn_part1 {F : FTy → Type} [FloatOps F] (main_arg0 : IVec S42 32) (main_arg1 : IVec S42 32) (main_arg2 : IVec S42 32) (main_arg3 : IVec S42 32) (main_arg4 : IVec S42 32) (main_v21 : IVec S41 1) : IVec S_ 1 :=
  let main_c_1 : IVec S_ 32 := constantI S_ 32 0#32
  let main_v22 : IVec S42 32 := broadcastInDim S42 ![] bcast_S_S42 main_c_1
  let main_v23 : IVec S42 1 := cmpi .sge main_arg0 main_v22
  let main_c_2 : IVec S_ 32 := constantI S_ 32 16#32
  let main_v24 : IVec S42 32 := broadcastInDim S42 ![] bcast_S_S42 main_c_2
  let main_v25 : IVec S42 1 := cmpi .slt main_arg0 main_v24
  let main_v26 : IVec S42 1 := andi main_v23 main_v25
  let main_c_3 : IVec S_ 32 := constantI S_ 32 0#32
  let main_v27 : IVec S42 32 := broadcastInDim S42 ![] bcast_S_S42 main_c_3
  let main_v28 : IVec S42 1 := cmpi .sge main_arg3 main_v27
  let main_v29 : IVec S42 1 := andi main_v26 main_v28
  let main_c_4 : IVec S_ 32 := constantI S_ 32 16#32
  let main_v30 : IVec S42 32 := broadcastInDim S42 ![] bcast_S_S42 main_c_4
  let main_v31 : IVec S42 1 := cmpi .slt main_arg3 main_v30
  let main_v32 : IVec S42 1 := andi main_v29 main_v31
  let main_c_5 : IVec S_ 32 := constantI S_ 32 0#32
  let main_v33 : IVec S42 32 := broadcastInDim S42 ![] bcast_S_S42 main_c_5
  let main_v34 : IVec S42 1 := cmpi .sge main_arg4 main_v33
  let main_v35 : IVec S42 1 := andi main_v32 main_v34
  let main_c_6 : IVec S_ 32 := constantI S_ 32 1#32
  let main_v36 : IVec S42 32 := broadcastInDim S42 ![] bcast_S_S42 main_c_6
  let main_v37 : IVec S42 1 := cmpi .sle main_arg4 main_v36
  let main_v38 : IVec S42 1 := andi main_v35 main_v37
  let main_c_7 : IVec S_ 32 := constantI S_ 32 0#32
  fn_part2 (F := F) main_arg0 main_arg1 main_arg2 main_arg3 main_arg4 main_v21 main_v38 main_c_7

def fn {F : FTy → Type} [FloatOps F] (main_arg0 : IVec S42 32) (main_arg1 : IVec S42 32) (main_arg2 : IVec S42 32) (main_arg3 : IVec S42 32) (main_arg4 : IVec S42 32) (main_arg5 : FVec F S21504x7168 .bf16) (main_arg6 : FVec F S16x7168x2048 .f32) : IVec S_ 1 :=
  let main_v0 : IVec S41 32 := (extractStridedSlice S41 ![1] · slices_S42_S41_1) main_arg0
  let main_v1 : IVec S41 32 := (extractStridedSlice S41 ![0] · slices_S42_S41_0) main_arg0
  let main_v2 : IVec S41 1 := cmpi .eq main_v0 main_v1
  let main_v3 : IVec S41 32 := (extractStridedSlice S41 ![1] · slices_S42_S41_1) main_arg3
  let main_v4 : IVec S41 32 := (extractStridedSlice S41 ![0] · slices_S42_S41_0) main_arg3
  let main_v5 : IVec S41 1 := cmpi .eq main_v3 main_v4
  let main_v6 : IVec S41 1 := andi main_v2 main_v5
  let main_v7 : IVec S41 32 := (extractStridedSlice S41 ![1] · slices_S42_S41_1) main_arg4
  let main_v8 : IVec S41 32 := (extractStridedSlice S41 ![0] · slices_S42_S41_0) main_arg4
  let main_v9 : IVec S41 1 := cmpi .eq main_v7 main_v8
  let main_v10 : IVec S41 1 := andi main_v6 main_v9
  let main_v11 : IVec S41 32 := (extractStridedSlice S41 ![1] · slices_S42_S41_1) main_arg0
  let main_v12 : IVec S41 32 := (extractStridedSlice S41 ![0] · slices_S42_S41_0) main_arg3
  let main_v13 : IVec S41 1 := cmpi .eq main_v11 main_v12
  let main_v14 : IVec S41 32 := (extractStridedSlice S41 ![0] · slices_S42_S41_0) main_arg4
  let main_c : IVec S_ 32 := constantI S_ 32 0#32
  let main_v15 : IVec S41 32 := broadcastInDim S41 ![] bcast_S_S41 main_c
  let main_v16 : IVec S41 1 := cmpi .eq main_v14 main_v15
  let main_v17 : IVec S41 1 := andi main_v13 main_v16
  let main_v18 : IVec S41 32 := (extractStridedSlice S41 ![1] · slices_S42_S41_1) main_arg1
  let main_c_0 : IVec S_ 32 := constantI S_ 32 1#32
  let main_v19 : IVec S41 32 := broadcastInDim S41 ![] bcast_S_S41 main_c_0
  let main_v20 : IVec S41 1 := cmpi .eq main_v18 main_v19
  let main_v21 : IVec S41 1 := fn_where (F := F) main_v20 main_v17 main_v10
  fn_part1 (F := F) main_arg0 main_arg1 main_arg2 main_arg3 main_arg4 main_v21
-- ==== Pre_planned_up.lean ====
abbrev S42 : Shape := ⟨1, ![42]⟩
abbrev S21504x2048 : Shape := ⟨2, ![21504, 2048]⟩
abbrev S16x2048x14336 : Shape := ⟨3, ![16, 2048, 14336]⟩
abbrev S41 : Shape := ⟨1, ![41]⟩
abbrev S_ : Shape := ⟨0, ![]⟩
abbrev S1 : Shape := ⟨1, ![1]⟩

class Facts : Prop where
  slices_S42_S41_1 : S42.Slices ![1] S41
  slices_S42_S41_0 : S42.Slices ![0] S41
  bcast_S_S41 : S_.BroadcastsInDim S41 (![] : Fin 0 → Fin S41.rank)
  bcast_S_S42 : S_.BroadcastsInDim S42 (![] : Fin 0 → Fin S42.rank)
  slices_S42_S1_0 : S42.Slices ![0] S1
  shapeCasts_S1_S_ : S1.ShapeCasts S_
  slices_S42_S1_41 : S42.Slices ![41] S1
  reducesTo_S41_S_d0 : S41.ReducesTo [0] S_
  h_S_ : 0 < S_.numel
  reducesTo_S42_S_d0 : S42.ReducesTo [0] S_

variable [Facts]

def fn_where {F : FTy → Type} [FloatOps F] (arg0 : IVec S41 1) (arg1 : IVec S41 1) (arg2 : IVec S41 1) : IVec S41 1 :=
  let v0 : IVec S41 1 := select arg0 arg1 arg2
  v0

def fn_part2 {F : FTy → Type} [FloatOps F] (main_arg0 : IVec S42 32) (main_arg1 : IVec S42 32) (main_arg2 : IVec S42 32) (main_arg3 : IVec S42 32) (main_arg4 : IVec S42 32) (main_v21 : IVec S41 1) (main_v38 : IVec S42 1) (main_c_7 : IVec S_ 32) : IVec S_ 1 :=
  let main_v39 : IVec S42 32 := broadcastInDim S42 ![] bcast_S_S42 main_c_7
  let main_v40 : IVec S42 1 := cmpi .sge main_arg2 main_v39
  let main_v41 : IVec S42 1 := andi main_v38 main_v40
  let main_v42 : IVec S1 32 := (extractStridedSlice S1 ![0] · slices_S42_S1_0) main_arg1
  let main_v43 : IVec S_ 32 := shapeCast S_ main_v42 shapeCasts_S1_S_
  let main_c_8 : IVec S_ 32 := constantI S_ 32 1#32
  let main_v44 : IVec S_ 1 := cmpi .eq main_v43 main_c_8
  let main_v45 : IVec S1 32 := (extractStridedSlice S1 ![41] · slices_S42_S1_41) main_arg3
  let main_v46 : IVec S_ 32 := shapeCast S_ main_v45 shapeCasts_S1_S_
  let main_v47 : IVec S1 32 := (extractStridedSlice S1 ![0] · slices_S42_S1_0) main_arg0
  let main_v48 : IVec S_ 32 := shapeCast S_ main_v47 shapeCasts_S1_S_
  let main_v49 : IVec S_ 1 := cmpi .eq main_v46 main_v48
  let main_v50 : IVec S_ 1 := andi main_v44 main_v49
  let main_v51 : IVec S1 32 := (extractStridedSlice S1 ![41] · slices_S42_S1_41) main_arg4
  let main_v52 : IVec S_ 32 := shapeCast S_ main_v51 shapeCasts_S1_S_
  let main_c_9 : IVec S_ 32 := constantI S_ 32 1#32
  let main_v53 : IVec S_ 1 := cmpi .eq main_v52 main_c_9
  let main_v54 : IVec S_ 1 := andi main_v50 main_v53
  let main_c_10 : IVec S_ 1 := constantI S_ 1 1#1
  let main_v55 : IVec S_ 1 := (fun x v => Host.reduce IntOp.andi x v reducesTo_S41_S_d0 h_S_) main_v21 main_c_10
  let main_c_11 : IVec S_ 1 := constantI S_ 1 1#1
  let main_v56 : IVec S_ 1 := (fun x v => Host.reduce IntOp.andi x v reducesTo_S42_S_d0 h_S_) main_v41 main_c_11
  let main_v57 : IVec S_ 1 := andi main_v55 main_v56
  let main_v58 : IVec S_ 1 := andi main_v57 main_v54
  main_v58

def fn_part1 {F : FTy → Type} [FloatOps F] (main_arg0 : IVec S42 32) (main_arg1 : IVec S42 32) (main_arg2 : IVec S42 32) (main_arg3 : IVec S42 32) (main_arg4 : IVec S42 32) (main_v21 : IVec S41 1) : IVec S_ 1 :=
  let main_c_1 : IVec S_ 32 := constantI S_ 32 0#32
  let main_v22 : IVec S42 32 := broadcastInDim S42 ![] bcast_S_S42 main_c_1
  let main_v23 : IVec S42 1 := cmpi .sge main_arg0 main_v22
  let main_c_2 : IVec S_ 32 := constantI S_ 32 16#32
  let main_v24 : IVec S42 32 := broadcastInDim S42 ![] bcast_S_S42 main_c_2
  let main_v25 : IVec S42 1 := cmpi .slt main_arg0 main_v24
  let main_v26 : IVec S42 1 := andi main_v23 main_v25
  let main_c_3 : IVec S_ 32 := constantI S_ 32 0#32
  let main_v27 : IVec S42 32 := broadcastInDim S42 ![] bcast_S_S42 main_c_3
  let main_v28 : IVec S42 1 := cmpi .sge main_arg3 main_v27
  let main_v29 : IVec S42 1 := andi main_v26 main_v28
  let main_c_4 : IVec S_ 32 := constantI S_ 32 16#32
  let main_v30 : IVec S42 32 := broadcastInDim S42 ![] bcast_S_S42 main_c_4
  let main_v31 : IVec S42 1 := cmpi .slt main_arg3 main_v30
  let main_v32 : IVec S42 1 := andi main_v29 main_v31
  let main_c_5 : IVec S_ 32 := constantI S_ 32 0#32
  let main_v33 : IVec S42 32 := broadcastInDim S42 ![] bcast_S_S42 main_c_5
  let main_v34 : IVec S42 1 := cmpi .sge main_arg4 main_v33
  let main_v35 : IVec S42 1 := andi main_v32 main_v34
  let main_c_6 : IVec S_ 32 := constantI S_ 32 1#32
  let main_v36 : IVec S42 32 := broadcastInDim S42 ![] bcast_S_S42 main_c_6
  let main_v37 : IVec S42 1 := cmpi .sle main_arg4 main_v36
  let main_v38 : IVec S42 1 := andi main_v35 main_v37
  let main_c_7 : IVec S_ 32 := constantI S_ 32 0#32
  fn_part2 (F := F) main_arg0 main_arg1 main_arg2 main_arg3 main_arg4 main_v21 main_v38 main_c_7

def fn {F : FTy → Type} [FloatOps F] (main_arg0 : IVec S42 32) (main_arg1 : IVec S42 32) (main_arg2 : IVec S42 32) (main_arg3 : IVec S42 32) (main_arg4 : IVec S42 32) (main_arg5 : FVec F S21504x2048 .bf16) (main_arg6 : FVec F S16x2048x14336 .f32) : IVec S_ 1 :=
  let main_v0 : IVec S41 32 := (extractStridedSlice S41 ![1] · slices_S42_S41_1) main_arg0
  let main_v1 : IVec S41 32 := (extractStridedSlice S41 ![0] · slices_S42_S41_0) main_arg0
  let main_v2 : IVec S41 1 := cmpi .eq main_v0 main_v1
  let main_v3 : IVec S41 32 := (extractStridedSlice S41 ![1] · slices_S42_S41_1) main_arg3
  let main_v4 : IVec S41 32 := (extractStridedSlice S41 ![0] · slices_S42_S41_0) main_arg3
  let main_v5 : IVec S41 1 := cmpi .eq main_v3 main_v4
  let main_v6 : IVec S41 1 := andi main_v2 main_v5
  let main_v7 : IVec S41 32 := (extractStridedSlice S41 ![1] · slices_S42_S41_1) main_arg4
  let main_v8 : IVec S41 32 := (extractStridedSlice S41 ![0] · slices_S42_S41_0) main_arg4
  let main_v9 : IVec S41 1 := cmpi .eq main_v7 main_v8
  let main_v10 : IVec S41 1 := andi main_v6 main_v9
  let main_v11 : IVec S41 32 := (extractStridedSlice S41 ![1] · slices_S42_S41_1) main_arg0
  let main_v12 : IVec S41 32 := (extractStridedSlice S41 ![0] · slices_S42_S41_0) main_arg3
  let main_v13 : IVec S41 1 := cmpi .eq main_v11 main_v12
  let main_v14 : IVec S41 32 := (extractStridedSlice S41 ![0] · slices_S42_S41_0) main_arg4
  let main_c : IVec S_ 32 := constantI S_ 32 0#32
  let main_v15 : IVec S41 32 := broadcastInDim S41 ![] bcast_S_S41 main_c
  let main_v16 : IVec S41 1 := cmpi .eq main_v14 main_v15
  let main_v17 : IVec S41 1 := andi main_v13 main_v16
  let main_v18 : IVec S41 32 := (extractStridedSlice S41 ![1] · slices_S42_S41_1) main_arg1
  let main_c_0 : IVec S_ 32 := constantI S_ 32 1#32
  let main_v19 : IVec S41 32 := broadcastInDim S41 ![] bcast_S_S41 main_c_0
  let main_v20 : IVec S41 1 := cmpi .eq main_v18 main_v19
  let main_v21 : IVec S41 1 := fn_where (F := F) main_v20 main_v17 main_v10
  fn_part1 (F := F) main_arg0 main_arg1 main_arg2 main_arg3 main_arg4 main_v21
-- ==== Kernel.lean ====
abbrev S8704x6144 : Shape := ⟨2, ![8704, 6144]⟩
abbrev S257x16 : Shape := ⟨2, ![257, 16]⟩
abbrev S1024 : Shape := ⟨1, ![1024]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x16 : Shape := ⟨2, ![1024, 16]⟩
abbrev S16x1024 : Shape := ⟨2, ![16, 1024]⟩
abbrev S1x16x1x1024 : Shape := ⟨4, ![1, 16, 1, 1024]⟩
abbrev S1x16x256x1024 : Shape := ⟨4, ![1, 16, 256, 1024]⟩
abbrev S16x262144 : Shape := ⟨2, ![16, 262144]⟩
abbrev S16x261888 : Shape := ⟨2, ![16, 261888]⟩
abbrev S16x256x1023 : Shape := ⟨3, ![16, 256, 1023]⟩
abbrev S16x256x768 : Shape := ⟨3, ![16, 256, 768]⟩
abbrev S8192x2048 : Shape := ⟨2, ![8192, 2048]⟩
abbrev S8192x128 : Shape := ⟨2, ![8192, 128]⟩
abbrev S1x256x768 : Shape := ⟨3, ![1, 256, 768]⟩
abbrev S8704x128 : Shape := ⟨2, ![8704, 128]⟩
abbrev S8704x256 : Shape := ⟨2, ![8704, 256]⟩
abbrev S512x128 : Shape := ⟨2, ![512, 128]⟩
abbrev S256x768 : Shape := ⟨2, ![256, 768]⟩
abbrev S256x128 : Shape := ⟨2, ![256, 128]⟩
abbrev S768x128 : Shape := ⟨2, ![768, 128]⟩
abbrev S768x256 : Shape := ⟨2, ![768, 256]⟩
abbrev S256 : Shape := ⟨1, ![256]⟩
abbrev S256x1 : Shape := ⟨2, ![256, 1]⟩
abbrev S256x256 : Shape := ⟨2, ![256, 256]⟩

abbrev nBuf : Space → Nat
  | .hbm => 55
  | .vmem => 12
  | .smem => 0
  | _ => 0

abbrev bufTy : (tb : Table) → Fin (tcTables nBuf tb) → BufTy
  | .hbm, ⟨0, _⟩ => ⟨S8704x6144, .f32⟩
  | .hbm, ⟨1, _⟩ => ⟨S257x16, .f32⟩
  | .hbm, ⟨2, _⟩ => ⟨S1024, .i32⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1, .i32⟩
  | .hbm, ⟨33, _⟩ => ⟨S_, .i32⟩
  | .hbm, ⟨34, _⟩ => ⟨S1024x1, .i32⟩
  | .hbm, ⟨35, _⟩ => ⟨S1024x1, .i1⟩
  | .hbm, ⟨36, _⟩ => ⟨S1x1, .i32⟩
  | .hbm, ⟨37, _⟩ => ⟨S1024x1, .i32⟩
  | .hbm, ⟨38, _⟩ => ⟨S1024x1, .i1⟩
  | .hbm, ⟨39, _⟩ => ⟨S1024x1, .i1⟩
  | .hbm, ⟨40, _⟩ => ⟨S_, .i1⟩
  | .hbm, ⟨41, _⟩ => ⟨S1024, .i1⟩
  | .hbm, ⟨42, _⟩ => ⟨S1024x16, .f32⟩
  | .hbm, ⟨43, _⟩ => ⟨S1024x16, .i1⟩
  | .hbm, ⟨44, _⟩ => ⟨S_, .f32⟩
  | .hbm, ⟨45, _⟩ => ⟨S1024x16, .f32⟩
  | .hbm, ⟨46, _⟩ => ⟨S1024x16, .f32⟩
  | .hbm, ⟨47, _⟩ => ⟨S16x1024, .f32⟩
  | .hbm, ⟨48, _⟩ => ⟨S1x16x1x1024, .f32⟩
  | .hbm, ⟨49, _⟩ => ⟨S1x16x256x1024, .f32⟩
  | .hbm, ⟨50, _⟩ => ⟨S16x262144, .f32⟩
  | .hbm, ⟨51, _⟩ => ⟨S16x261888, .f32⟩
  | .hbm, ⟨52, _⟩ => ⟨S16x256x1023, .f32⟩
  | .hbm, ⟨53, _⟩ => ⟨S16x256x768, .f32⟩
  | .hbm, ⟨54, _⟩ => ⟨S8192x2048, .bf16⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S1x256x768, .f32⟩
  | .local _ .vmem, ⟨7, _⟩ => ⟨S1x256x768, .f32⟩
  | .local _ .vmem, ⟨8, _⟩ => ⟨S8192x128, .bf16⟩
  | .local _ .vmem, ⟨9, _⟩ => ⟨S8192x128, .bf16⟩
  | .local _ .vmem, ⟨10, _⟩ => ⟨S8704x128, .bf16⟩
  | .local _ .vmem, ⟨11, _⟩ => ⟨S8704x256, .bf16⟩
  | _, _ => ⟨S8704x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_c_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v8 : Ref sig .tc := ⟨.hbm, 20, rfl⟩
abbrev main_c_4 : Ref sig .tc := ⟨.hbm, 21, rfl⟩
abbrev main_v9 : Ref sig .tc := ⟨.hbm, 22, rfl⟩
abbrev main_v10 : Ref sig .tc := ⟨.hbm, 23, rfl⟩
abbrev main_call2_c : Ref sig .tc := ⟨.hbm, 24, rfl⟩
abbrev main_call2_v0 : Ref sig .tc := ⟨.hbm, 25, rfl⟩
abbrev main_call2_v1 : Ref sig .tc := ⟨.hbm, 26, rfl⟩
abbrev main_call2_c_0 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_call2_v5 : Ref sig .tc := ⟨.hbm, 31, rfl⟩
abbrev main_call2_c_1 : Ref sig .tc := ⟨.hbm, 32, rfl⟩
abbrev main_call2_c_2 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_v9 : Ref sig .tc := ⟨.hbm, 37, rfl⟩
abbrev main_call2_v10 : Ref sig .tc := ⟨.hbm, 38, rfl⟩
abbrev main_call2_v11 : Ref sig .tc := ⟨.hbm, 39, rfl⟩
abbrev main_call2_c_3 : Ref sig .tc := ⟨.hbm, 40, rfl⟩
abbrev main_call2_v12 : Ref sig .tc := ⟨.hbm, 41, rfl⟩
abbrev main_call2_v13 : Ref sig .tc := ⟨.hbm, 42, rfl⟩
abbrev main_call2_v14 : Ref sig .tc := ⟨.hbm, 43, rfl⟩
abbrev main_call2_cst : Ref sig .tc := ⟨.hbm, 44, rfl⟩
abbrev main_call2_v15 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c32_i32 : BitVec 32 := 32#32
  let v35 : BitVec 32 := Scalar.addi c0_i32 c32_i32
  let c1_i32 : BitVec 32 := 1#32
  ⟨c0_i32, v35, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c256_i32 : BitVec 32 := 256#32
  let v36 : BitVec 32 := Scalar.muli arg8 c256_i32
  v36
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c256_i32 : BitVec 32 := 256#32
  let v36 : BitVec 32 := Scalar.muli arg8 c256_i32
  let v37 : BitVec 32 := v36
  let v38 : Index := Scalar.indexCast v37
  let c0_18 : Index := 0#32
  ![v38.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c256_i32 : BitVec 32 := 256#32
  let v36 : BitVec 32 := Scalar.muli arg8 c256_i32
  let v37 : BitVec 32 := v36
  let v41 : Index := Scalar.indexCast v37
  let c0_19 : Index := 0#32
  ![v41.toNat, 0]
def k0_off3 (k0_t1 : Fin k0_t1_loop.trips) : Fin 2 → Nat :=
  let c0_i32 : BitVec 32 := 0#32
  let c1_i32 : BitVec 32 := 1#32
  let arg8 : BitVec 32 := Scf.iv c0_i32 c1_i32 k0_t1
  let c256_i32 : BitVec 32 := 256#32
  let v36 : BitVec 32 := Scalar.muli arg8 c256_i32
  let v37 : BitVec 32 := v36
  let v43 : Index := Scalar.indexCast v37
  let c0_20 : Index := 0#32
  ![v43.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S8704x6144 : Shape := ⟨2, ![8704, 6144]⟩
abbrev S257x16 : Shape := ⟨2, ![257, 16]⟩
abbrev S8192x6144 : Shape := ⟨2, ![8192, 6144]⟩
abbrev S8192x2048 : Shape := ⟨2, ![8192, 2048]⟩
abbrev S128x64x16x128 : Shape := ⟨4, ![128, 64, 16, 128]⟩
abbrev S128 : Shape := ⟨1, ![128]⟩
abbrev S128x1 : Shape := ⟨2, ![128, 1]⟩
abbrev S_ : Shape := ⟨0, ![]⟩
abbrev S576 : Shape := ⟨1, ![576]⟩
abbrev S1x576 : Shape := ⟨2, ![1, 576]⟩
abbrev S128x576 : Shape := ⟨2, ![128, 576]⟩
abbrev S8704x2048 : Shape := ⟨2, ![8704, 2048]⟩
abbrev S128x576x1 : Shape := ⟨3, ![128, 576, 1]⟩
abbrev S128x576x2048 : Shape := ⟨3, ![128, 576, 2048]⟩
abbrev S128x576x16x128 : Shape := ⟨4, ![128, 576, 16, 128]⟩
abbrev S64 : Shape := ⟨1, ![64]⟩
abbrev S64x1 : Shape := ⟨2, ![64, 1]⟩
abbrev S64x576 : Shape := ⟨2, ![64, 576]⟩
abbrev S64x576x1 : Shape := ⟨3, ![64, 576, 1]⟩
abbrev S64x576x16 : Shape := ⟨3, ![64, 576, 16]⟩
abbrev S16x64x576 : Shape := ⟨3, ![16, 64, 576]⟩
abbrev S128x16x64x576 : Shape := ⟨4, ![128, 16, 64, 576]⟩
abbrev S1x16x64x576 : Shape := ⟨4, ![1, 16, 64, 576]⟩
abbrev S128x1x1x576 : Shape := ⟨4, ![128, 1, 1, 576]⟩
abbrev S128x16x64 : Shape := ⟨3, ![128, 16, 64]⟩
abbrev S128x16x64x1 : Shape := ⟨4, ![128, 16, 64, 1]⟩
abbrev S128x16x128x64 : Shape := ⟨4, ![128, 16, 128, 64]⟩

abbrev nBuf : Space → Nat
  | .hbm => 87
  | .vmem => 0
  | .smem => 0
  | _ => 0

abbrev bufTy : (tb : Table) → Fin (tcTables nBuf tb) → BufTy
  | .hbm, ⟨0, _⟩ => ⟨S8704x6144, .f32⟩
  | .hbm, ⟨1, _⟩ => ⟨S257x16, .f32⟩
  | .hbm, ⟨2, _⟩ => ⟨S8192x6144, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S128x64x16x128, .f32⟩
  | .hbm, ⟨7, _⟩ => ⟨S128, .i32⟩
  | .hbm, ⟨8, _⟩ => ⟨S128x1, .i32⟩
  | .hbm, ⟨9, _⟩ => ⟨S_, .i32⟩
  | .hbm, ⟨10, _⟩ => ⟨S128x1, .i32⟩
  | .hbm, ⟨11, _⟩ => ⟨S128x1, .i32⟩
  | .hbm, ⟨12, _⟩ => ⟨S576, .i32⟩
  | .hbm, ⟨13, _⟩ => ⟨S1x576, .i32⟩
  | .hbm, ⟨14, _⟩ => ⟨S128x576, .i32⟩
  | .hbm, ⟨15, _⟩ => ⟨S128x576, .i32⟩
  | .hbm, ⟨16, _⟩ => ⟨S128x576, .i32⟩
  | .hbm, ⟨17, _⟩ => ⟨S_, .i32⟩
  | .hbm, ⟨18, _⟩ => ⟨S_, .f32⟩
  | .hbm, ⟨19, _⟩ => ⟨S8704x2048, .f32⟩
  | .hbm, ⟨20, _⟩ => ⟨S128x576x1, .i32⟩
  | .hbm, ⟨21, _⟩ => ⟨S128x576x2048, .f32⟩
  | .hbm, ⟨22, _⟩ => ⟨S128x576x16x128, .f32⟩
  | .hbm, ⟨23, _⟩ => ⟨S_, .i32⟩
  | .hbm, ⟨24, _⟩ => ⟨S_, .f32⟩
  | .hbm, ⟨25, _⟩ => ⟨S8704x2048, .f32⟩
  | .hbm, ⟨26, _⟩ => ⟨S128x576x1, .i32⟩
  | .hbm, ⟨27, _⟩ => ⟨S128x576x2048, .f32⟩
  | .hbm, ⟨28, _⟩ => ⟨S128x576x16x128, .f32⟩
  | .hbm, ⟨29, _⟩ => ⟨S_, .i32⟩
  | .hbm, ⟨30, _⟩ => ⟨S128x576, .i32⟩
  | .hbm, ⟨31, _⟩ => ⟨S128x576, .i1⟩
  | .hbm, ⟨32, _⟩ => ⟨S64, .i32⟩
  | .hbm, ⟨33, _⟩ => ⟨S64x1, .i32⟩
  | .hbm, ⟨34, _⟩ => ⟨S_, .i32⟩
  | .hbm, ⟨35, _⟩ => ⟨S64x1, .i32⟩
  | .hbm, ⟨36, _⟩ => ⟨S64x1, .i32⟩
  | .hbm, ⟨37, _⟩ => ⟨S576, .i32⟩
  | .hbm, ⟨38, _⟩ => ⟨S1x576, .i32⟩
  | .hbm, ⟨39, _⟩ => ⟨S64x576, .i32⟩
  | .hbm, ⟨40, _⟩ => ⟨S64x576, .i32⟩
  | .hbm, ⟨41, _⟩ => ⟨S64x576, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S64x576, .i32⟩
  | .hbm, ⟨46, _⟩ => ⟨S64x576, .i32⟩
  | .hbm, ⟨47, _⟩ => ⟨S_, .i32⟩
  | .hbm, ⟨48, _⟩ => ⟨S64x576, .i32⟩
  | .hbm, ⟨49, _⟩ => ⟨S64x576, .i32⟩
  | .hbm, ⟨50, _⟩ => ⟨S_, .i32⟩
  | .hbm, ⟨51, _⟩ => ⟨S64x576, .i32⟩
  | .hbm, ⟨52, _⟩ => ⟨S64x576, .i32⟩
  | .hbm, ⟨53, _⟩ => ⟨S64x576x1, .i32⟩
  | .hbm, ⟨54, _⟩ => ⟨S64x576x16, .f32⟩
  | .hbm, ⟨55, _⟩ => ⟨S16x64x576, .f32⟩
  | .hbm, ⟨56, _⟩ => ⟨S128x16x64x576, .f32⟩
  | .hbm, ⟨57, _⟩ => ⟨S_, .f32⟩
  | .hbm, ⟨58, _⟩ => ⟨S128x16x64x576, .f32⟩
  | .hbm, ⟨59, _⟩ => ⟨S128x16x64x576, .f32⟩
  | .hbm, ⟨60, _⟩ => ⟨S1x16x64x576, .f32⟩
  | .hbm, ⟨61, _⟩ => ⟨S128x16x64x576, .f32⟩
  | .hbm, ⟨62, _⟩ => ⟨S128x16x64x576, .f32⟩
  | .hbm, ⟨63, _⟩ => ⟨S128x1x1x576, .i1⟩
  | .hbm, ⟨64, _⟩ => ⟨S_, .f32⟩
  | .hbm, ⟨65, _⟩ => ⟨S_, .f32⟩
  | .hbm, ⟨66, _⟩ => ⟨S128x16x64x576, .i1⟩
  | .hbm, ⟨67, _⟩ => ⟨S128x16x64x576, .f32⟩
  | .hbm, ⟨68, _⟩ => ⟨S128x16x64x576, .f32⟩
  | .hbm, ⟨69, _⟩ => ⟨S_, .f32⟩
  | .hbm, ⟨70, _⟩ => ⟨S128x16x64, .f32⟩
  | .hbm, ⟨71, _⟩ => ⟨S_, .f32⟩
  | .hbm, ⟨72, _⟩ => ⟨S128x16x64, .f32⟩
  | .hbm, ⟨73, _⟩ => ⟨S128x16x64, .f32⟩
  | .hbm, ⟨74, _⟩ => ⟨S128x16x64x1, .f32⟩
  | .hbm, ⟨75, _⟩ => ⟨S128x16x64x576, .f32⟩
  | .hbm, ⟨76, _⟩ => ⟨S128x16x64x576, .f32⟩
  | .hbm, ⟨77, _⟩ => ⟨S128x16x64x576, .f32⟩
  | .hbm, ⟨78, _⟩ => ⟨S_, .f32⟩
  | .hbm, ⟨79, _⟩ => ⟨S128x16x64, .f32⟩
  | .hbm, ⟨80, _⟩ => ⟨S128x16x64x1, .f32⟩
  | .hbm, ⟨81, _⟩ => ⟨S128x16x64x576, .f32⟩
  | .hbm, ⟨82, _⟩ => ⟨S128x16x64x576, .f32⟩
  | .hbm, ⟨83, _⟩ => ⟨S128x16x128x64, .f32⟩
  | .hbm, ⟨84, _⟩ => ⟨S128x64x16x128, .f32⟩
  | .hbm, ⟨85, _⟩ => ⟨S8192x2048, .f32⟩
  | .hbm, ⟨86, _⟩ => ⟨S8192x2048, .bf16⟩
  | _, _ => ⟨S8704x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c_0 : Ref sig .tc := ⟨.hbm, 17, rfl⟩
abbrev main_call0_v0 : Ref sig .tc := ⟨.hbm, 18, rfl⟩
abbrev main_v14 : Ref sig .tc := ⟨.hbm, 19, rfl⟩
abbrev main_call1_v0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_call2_v0 : Ref sig .tc := ⟨.hbm, 24, rfl⟩
abbrev main_v17 : Ref sig .tc := ⟨.hbm, 25, rfl⟩
abbrev main_call3_v0 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_c_5 : Ref sig .tc := ⟨.hbm, 43, rfl⟩
abbrev main_call4_v0 : Ref sig .tc := ⟨.hbm, 44, rfl⟩
abbrev main_call4_v1 : Ref sig .tc := ⟨.hbm, 45, rfl⟩
abbrev main_call4_v2 : Ref sig .tc := ⟨.hbm, 46, rfl⟩
abbrev main_call4_v3 : Ref sig .tc := ⟨.hbm, 47, rfl⟩
abbrev main_call4_v4 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_call5_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_call6_v0 : Ref sig .tc := ⟨.hbm, 65, rfl⟩
abbrev main_call6_v1 : Ref sig .tc := ⟨.hbm, 66, rfl⟩
abbrev main_call6_v2 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩

abbrev nD : Nat := 1
abbrev τ : Topo := Topo.v7x

variable {F : FTy → Type} [FloatOps F]
-- ==== Down.lean ====
abbrev S42 : Shape := ⟨1, ![42]⟩
abbrev S21504x7168 : Shape := ⟨2, ![21504, 7168]⟩
abbrev S16x7168x2048 : Shape := ⟨3, ![16, 7168, 2048]⟩
abbrev S21504x2048 : Shape := ⟨2, ![21504, 2048]⟩
abbrev S512x7168 : Shape := ⟨2, ![512, 7168]⟩
abbrev S512x512 : Shape := ⟨2, ![512, 512]⟩
abbrev S7168x512 : Shape := ⟨2, ![7168, 512]⟩
abbrev S_ : Shape := ⟨0, ![]⟩
abbrev S1 : Shape := ⟨1, ![1]⟩
abbrev S1x7168x512 : Shape := ⟨3, ![1, 7168, 512]⟩
abbrev S256x7168 : Shape := ⟨2, ![256, 7168]⟩
abbrev S256x512 : Shape := ⟨2, ![256, 512]⟩

abbrev nBuf : Space → Nat
  | .hbm => 3
  | .vmem => 6
  | .smem => 5
  | _ => 0

abbrev bufTy : (tb : Table) → Fin (tcTables nBuf tb) → BufTy
  | .hbm, ⟨0, _⟩ => ⟨S21504x7168, .bf16⟩
  | .hbm, ⟨1, _⟩ => ⟨S16x7168x2048, .f32⟩
  | .hbm, ⟨2, _⟩ => ⟨S21504x2048, .f32⟩
  | .local _ .vmem, ⟨0, _⟩ => ⟨S512x7168, .bf16⟩
  | .local _ .vmem, ⟨1, _⟩ => ⟨S512x7168, .bf16⟩
  | .local _ .vmem, ⟨2, _⟩ => ⟨S512x512, .f32⟩
  | .local _ .vmem, ⟨3, _⟩ => ⟨S512x512, .f32⟩
  | .local _ .vmem, ⟨4, _⟩ => ⟨S7168x512, .f32⟩
  | .local _ .vmem, ⟨5, _⟩ => ⟨S7168x512, .bf16⟩
  | .local _ .smem, ⟨0, _⟩ => ⟨S42, .i32⟩
  | .local _ .smem, ⟨1, _⟩ => ⟨S42, .i32⟩
  | .local _ .smem, ⟨2, _⟩ => ⟨S42, .i32⟩
  | .local _ .smem, ⟨3, _⟩ => ⟨S42, .i32⟩
  | .local _ .smem, ⟨4, _⟩ => ⟨S42, .i32⟩
  | _, _ => ⟨S21504x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 42], ![false, false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond2 (i : grid0.Coords) : BitVec 1 :=
  let arg0 : BitVec 32 := BitVec.ofNat 32 (i 0).val
  let c0_i32_6 : BitVec 32 := 0#32
  let v18 : BitVec 1 := Scalar.cmpi .eq arg0 c0_i32_6
  let arg1 : BitVec 32 := BitVec.ofNat 32 (i 1).val
  let c0_i32_7 : BitVec 32 := 0#32
  let v19 : BitVec 1 := Scalar.cmpi .eq arg1 c0_i32_7
  let v20 : BitVec 1 := Scalar.andi v18 v19
  let v21 : BitVec 32 := Scalar.extui v20
  let c0_i32_8 : BitVec 32 := 0#32
  let v22 : BitVec 1 := Scalar.cmpi .ne v21 c0_i32_8
  v22

def k0_mult1 : BitVec 32 :=
  let c0_i32_15 : BitVec 32 := 0#32
  c0_i32_15
def k0_off2 (v40 : BitVec 32) : Fin 3 → Nat :=
  let c0_i32_16 : BitVec 32 := 0#32
  let c0_i32_15 : BitVec 32 := 0#32
  let v41 : BitVec 32 := c0_i32_15
  ![v40.toNat, 0, 0]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_chk1 (i : grid0.Coords) (v1 : BitVec 32) (v40 : BitVec 32) : Prop :=
  (∀ (k0_h1 : k0_cond1 v1 = 1#1), ∀ (k0_h2 : k0_cond2 i = 1#1), ∀ a, (k0_off2 v40) a + S1x7168x512.size a ≤ S16x7168x2048.size a)
theorem k0_off2_inb : ∀ (i : grid0.Coords) (v1 : BitVec 32) (v40 : BitVec 32) (k0_hw1 : k0_chk1 i v1 v40), ∀ (k0_h1 : k0_cond1 v1 = 1#1), ∀ (k0_h2 : k0_cond2 i = 1#1), ∀ a, (k0_off2 v40) a + S1x7168x512.size a ≤ S16x7168x2048.size a := fun i v1 v40 k0_hw1 k0_h1 k0_h2 => k0_hw1 k0_h1 k0_h2

def k0_off3 (i : grid0.Coords) : Fin 1 → Nat :=
  let arg1 : BitVec 32 := BitVec.ofNat 32 (i 1).val
  let v23 : Index := Scalar.indexCast arg1
  ![v23.toNat]
def k0_mult2 (i : grid0.Coords) : BitVec 32 :=
  let arg0 : BitVec 32 := BitVec.ofNat 32 (i 0).val
  let c512_i32 : BitVec 32 := 512#32
  let v25 : BitVec 32 := Scalar.muli arg0 c512_i32
  v25
def k0_off4 (i : grid0.Coords) (v24 : BitVec 32) : Fin 3 → Nat :=
  let c0_i32_9 : BitVec 32 := 0#32
  let arg0 : BitVec 32 := BitVec.ofNat 32 (i 0).val
  let c512_i32 : BitVec 32 := 512#32
  let v25 : BitVec 32 := Scalar.muli arg0 c512_i32
  let v26 : BitVec 32 := v25
  ![v24.toNat, 0, v26.toNat]

def k0_chk2 (i : grid0.Coords) (v1 : BitVec 32) (v24 : BitVec 32) : Prop :=
  (∀ (k0_h1 : k0_cond1 v1 = 1#1), ∀ a, (k0_off4 i v24) a + S1x7168x512.size a ≤ S16x7168x2048.size a)
theorem k0_off4_inb : ∀ (i : grid0.Coords) (v1 : BitVec 32) (v24 : BitVec 32) (k0_hw2 : k0_chk2 i v1 v24), ∀ (k0_h1 : k0_cond1 v1 = 1#1), ∀ a, (k0_off4 i v24) a + S1x7168x512.size a ≤ S16x7168x2048.size a := fun i v1 v24 k0_hw2 k0_h1 => k0_hw2 k0_h1

def k0_off5 (i : grid0.Coords) : Fin 1 → Nat :=
  let arg1 : BitVec 32 := BitVec.ofNat 32 (i 1).val
  let v34 : Index := Scalar.indexCast arg1
  ![v34.toNat]
def k0_off6 (i : grid0.Coords) : Fin 1 → Nat :=
  let arg1 : BitVec 32 := BitVec.ofNat 32 (i 1).val
  let v40 : Index := Scalar.indexCast arg1
  ![v40.toNat]
def k0_mult3 (i : grid0.Coords) (v35 : BitVec 32) : BitVec 32 :=
  let arg0 : BitVec 32 := BitVec.ofNat 32 (i 0).val
  let v36 : BitVec 32 := Scalar.addi arg0 v35
  let c512_i32_14 : BitVec 32 := 512#32
  let v42 : BitVec 32 := Scalar.muli v36 c512_i32_14
  v42
def k0_cond3 (i : grid0.Coords) (v35 : BitVec 32) : BitVec 1 :=
  let arg0 : BitVec 32 := BitVec.ofNat 32 (i 0).val
  let v36 : BitVec 32 := Scalar.addi arg0 v35
  let c4_i32 : BitVec 32 := 4#32
  let v37 : BitVec 1 := Scalar.cmpi .slt v36 c4_i32
  let v38 : BitVec 32 := Scalar.extui v37
  let c0_i32_13 : BitVec 32 := 0#32
  let v39 : BitVec 1 := Scalar.cmpi .ne v38 c0_i32_13
  v39

def k0_chk3 (i : grid0.Coords) (v1 : BitVec 32) (v35 : BitVec 32) : Prop :=
  (∀ (k0_h1 : k0_cond1 v1 = 1#1), ∀ (k0_h3 : k0_cond3 i v35 = 1#1), 512 ∣ (k0_mult3 i v35).toNat)
theorem k0_mult3_dvd : ∀ (i : grid0.Coords) (v1 : BitVec 32) (v35 : BitVec 32) (k0_hw3 : k0_chk3 i v1 v35), ∀ (k0_h1 : k0_cond1 v1 = 1#1), ∀ (k0_h3 : k0_cond3 i v35 = 1#1), 512 ∣ (k0_mult3 i v35).toNat := fun i v1 v35 k0_hw3 k0_h1 k0_h3 => k0_hw3 k0_h1 k0_h3

def k0_off7 (i : grid0.Coords) (v35 : BitVec 32) (v41 : BitVec 32) : Fin 3 → Nat :=
  let c0_i32_15 : BitVec 32 := 0#32
  let arg0 : BitVec 32 := BitVec.ofNat 32 (i 0).val
  let v36 : BitVec 32 := Scalar.addi arg0 v35
  let c512_i32_14 : BitVec 32 := 512#32
  let v42 : BitVec 32 := Scalar.muli v36 c512_i32_14
  let v43 : BitVec 32 := v42
  ![v41.toNat, 0, v43.toNat]

def k0_chk4 (i : grid0.Coords) (v1 : BitVec 32) (v35 : BitVec 32) (v41 : BitVec 32) : Prop :=
  (∀ (k0_h1 : k0_cond1 v1 = 1#1), ∀ (k0_h3 : k0_cond3 i v35 = 1#1), ∀ a, (k0_off7 i v35 v41) a + S1x7168x512.size a ≤ S16x7168x2048.size a)
theorem k0_off7_inb : ∀ (i : grid0.Coords) (v1 : BitVec 32) (v35 : BitVec 32) (v41 : BitVec 32) (k0_hw4 : k0_chk4 i v1 v35 v41), ∀ (k0_h1 : k0_cond1 v1 = 1#1), ∀ (k0_h3 : k0_cond3 i v35 = 1#1), ∀ a, (k0_off7 i v35 v41) a + S1x7168x512.size a ≤ S16x7168x2048.size a := fun i v1 v35 v41 k0_hw4 k0_h1 k0_h3 => k0_hw4 k0_h1 k0_h3

def k0_off8 (i : grid0.Coords) : Fin 1 → Nat :=
  let arg1 : BitVec 32 := BitVec.ofNat 32 (i 1).val
  let v5 : Index := Scalar.indexCast arg1
  ![v5.toNat]
def k0_cond4 (v6 : BitVec 32) : BitVec 1 :=
  let c256_i32 : BitVec 32 := 256#32
  let v7 : BitVec 1 := Scalar.cmpi .sgt v6 c256_i32
  let v8 : BitVec 32 := Scalar.extui v7
  let c0_i32_0 : BitVec 32 := 0#32
  let v9 : BitVec 1 := Scalar.cmpi .ne v8 c0_i32_0
  v9

def k0_cond5 (v6 : BitVec 32) : BitVec 1 :=
  let c0_i32_1 : BitVec 32 := 0#32
  let v10 : BitVec 1 := Scalar.cmpi .sgt v6 c0_i32_1
  let c256_i32_2 : BitVec 32 := 256#32
  let v11 : BitVec 1 := Scalar.cmpi .sle v6 c256_i32_2
  let v12 : BitVec 1 := Scalar.andi v10 v11
  let v13 : BitVec 32 := Scalar.extui v12
  let c0_i32_3 : BitVec 32 := 0#32
  let v14 : BitVec 1 := Scalar.cmpi .ne v13 c0_i32_3
  v14

def k0_cond6 (v6 : BitVec 32) : BitVec 1 :=
  let c0_i32_4 : BitVec 32 := 0#32
  let v15 : BitVec 1 := Scalar.cmpi .eq v6 c0_i32_4
  let v16 : BitVec 32 := Scalar.extui v15
  let c0_i32_5 : BitVec 32 := 0#32
  let v17 : BitVec 1 := Scalar.cmpi .ne v16 c0_i32_5
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== DownRefIdeal.lean ====
abbrev S42 : Shape := ⟨1, ![42]⟩
abbrev S21504x7168 : Shape := ⟨2, ![21504, 7168]⟩
abbrev S16x7168x2048 : Shape := ⟨3, ![16, 7168, 2048]⟩
abbrev S42x512x7168 : Shape := ⟨3, ![42, 512, 7168]⟩
abbrev S42x1 : Shape := ⟨2, ![42, 1]⟩
abbrev S42x7168x2048 : Shape := ⟨3, ![42, 7168, 2048]⟩
abbrev S42x512x2048 : Shape := ⟨3, ![42, 512, 2048]⟩
abbrev S21504x2048 : Shape := ⟨2, ![21504, 2048]⟩

abbrev nBuf : Space → Nat
  | .hbm => 13
  | .vmem => 0
  | .smem => 0
  | _ => 0

abbrev bufTy : (tb : Table) → Fin (tcTables nBuf tb) → BufTy
  | .hbm, ⟨0, _⟩ => ⟨S42, .i32⟩
  | .hbm, ⟨1, _⟩ => ⟨S42, .i32⟩
  | .hbm, ⟨2, _⟩ => ⟨S42, .i32⟩
  | .hbm, ⟨3, _⟩ => ⟨S42, .i32⟩
  | .hbm, ⟨4, _⟩ => ⟨S42, .i32⟩
  | .hbm, ⟨5, _⟩ => ⟨S21504x7168, .bf16⟩
  | .hbm, ⟨6, _⟩ => ⟨S16x7168x2048, .f32⟩
  | .hbm, ⟨7, _⟩ => ⟨S21504x7168, .f32⟩
  | .hbm, ⟨8, _⟩ => ⟨S42x512x7168, .f32⟩
  | .hbm, ⟨9, _⟩ => ⟨S42x1, .i32⟩
  | .hbm, ⟨10, _⟩ => ⟨S42x7168x2048, .f32⟩
  | .hbm, ⟨11, _⟩ => ⟨S42x512x2048, .f32⟩
  | .hbm, ⟨12, _⟩ => ⟨S21504x2048, .f32⟩
  | _, _ => ⟨S42, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩

abbrev nD : Nat := 1
abbrev τ : Topo := Topo.v7x

variable {F : FTy → Type} [FloatOps F]
-- ==== Up.lean ====
abbrev S42 : Shape := ⟨1, ![42]⟩
abbrev S21504x2048 : Shape := ⟨2, ![21504, 2048]⟩
abbrev S16x2048x14336 : Shape := ⟨3, ![16, 2048, 14336]⟩
abbrev S21504x7168 : Shape := ⟨2, ![21504, 7168]⟩
abbrev S512x2048 : Shape := ⟨2, ![512, 2048]⟩
abbrev S512x1024 : Shape := ⟨2, ![512, 1024]⟩
abbrev S2048x1024 : Shape := ⟨2, ![2048, 1024]⟩
abbrev S2 : Shape := ⟨1, ![2]⟩
abbrev S1 : Shape := ⟨1, ![1]⟩
abbrev S_ : Shape := ⟨0, ![]⟩
abbrev S1x2048x1024 : Shape := ⟨3, ![1, 2048, 1024]⟩
abbrev S256x2048 : Shape := ⟨2, ![256, 2048]⟩
abbrev S256x1024 : Shape := ⟨2, ![256, 1024]⟩

abbrev nBuf : Space → Nat
  | .hbm => 3
  | .vmem => 8
  | .smem => 5
  | _ => 0

abbrev bufTy : (tb : Table) → Fin (tcTables nBuf tb) → BufTy
  | .hbm, ⟨0, _⟩ => ⟨S21504x2048, .bf16⟩
  | .hbm, ⟨1, _⟩ => ⟨S16x2048x14336, .f32⟩
  | .hbm, ⟨2, _⟩ => ⟨S21504x7168, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .bf16⟩
  | .local _ .vmem, ⟨7, _⟩ => ⟨S2048x1024, .bf16⟩
  | .local _ .smem, ⟨0, _⟩ => ⟨S42, .i32⟩
  | .local _ .smem, ⟨1, _⟩ => ⟨S42, .i32⟩
  | .local _ .smem, ⟨2, _⟩ => ⟨S42, .i32⟩
  | .local _ .smem, ⟨3, _⟩ => ⟨S42, .i32⟩
  | .local _ .smem, ⟨4, _⟩ => ⟨S42, .i32⟩
  | _, _ => ⟨S21504x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![7, 42], ![false, false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond2 (i : grid0.Coords) : BitVec 1 :=
  let arg0 : BitVec 32 := BitVec.ofNat 32 (i 0).val
  let c0_i32_6 : BitVec 32 := 0#32
  let v18 : BitVec 1 := Scalar.cmpi .eq arg0 c0_i32_6
  let arg1 : BitVec 32 := BitVec.ofNat 32 (i 1).val
  let c0_i32_7 : BitVec 32 := 0#32
  let v19 : BitVec 1 := Scalar.cmpi .eq arg1 c0_i32_7
  let v20 : BitVec 1 := Scalar.andi v18 v19
  let v21 : BitVec 32 := Scalar.extui v20
  let c0_i32_8 : BitVec 32 := 0#32
  let v22 : BitVec 1 := Scalar.cmpi .ne v21 c0_i32_8
  v22

def k0_mult1 : BitVec 32 :=
  let c0_i32_22 : BitVec 32 := 0#32
  c0_i32_22
def k0_mult2 : BitVec 32 :=
  let c7168_i32_23 : BitVec 32 := 7168#32
  let c0_i32_22 : BitVec 32 := 0#32
  let v54 : BitVec 32 := c0_i32_22
  let v55 : BitVec 32 := Scalar.addi c7168_i32_23 v54
  v55
def k0_off2 (v53 : BitVec 32) : Fin 3 → Nat :=
  let c0_i32_25 : BitVec 32 := 0#32
  let c0_i32_22 : BitVec 32 := 0#32
  let v54 : BitVec 32 := c0_i32_22
  ![v53.toNat, 0, 0]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_off3 (v53 : BitVec 32) : Fin 3 → Nat :=
  let c0_i32_27 : BitVec 32 := 0#32
  let c7168_i32_23 : BitVec 32 := 7168#32
  let c0_i32_22 : BitVec 32 := 0#32
  let v54 : BitVec 32 := c0_i32_22
  let v55 : BitVec 32 := Scalar.addi c7168_i32_23 v54
  let v56 : BitVec 32 := v55
  ![v53.toNat, 0, v56.toNat]

def k0_chk1 (i : grid0.Coords) (v1 : BitVec 32) (v53 : BitVec 32) : Prop :=
  (∀ (k0_h1 : k0_cond1 v1 = 1#1), ∀ (k0_h2 : k0_cond2 i = 1#1), ∀ a, (k0_off2 v53) a + S1x2048x1024.size a ≤ S16x2048x14336.size a) ∧
  (∀ (k0_h1 : k0_cond1 v1 = 1#1), ∀ (k0_h2 : k0_cond2 i = 1#1), ∀ a, (k0_off3 v53) a + S1x2048x1024.size a ≤ S16x2048x14336.size a)
theorem k0_off2_inb : ∀ (i : grid0.Coords) (v1 : BitVec 32) (v53 : BitVec 32) (k0_hw1 : k0_chk1 i v1 v53), ∀ (k0_h1 : k0_cond1 v1 = 1#1), ∀ (k0_h2 : k0_cond2 i = 1#1), ∀ a, (k0_off2 v53) a + S1x2048x1024.size a ≤ S16x2048x14336.size a := fun i v1 v53 k0_hw1 k0_h1 k0_h2 => k0_hw1.1 k0_h1 k0_h2
theorem k0_off3_inb : ∀ (i : grid0.Coords) (v1 : BitVec 32) (v53 : BitVec 32) (k0_hw1 : k0_chk1 i v1 v53), ∀ (k0_h1 : k0_cond1 v1 = 1#1), ∀ (k0_h2 : k0_cond2 i = 1#1), ∀ a, (k0_off3 v53) a + S1x2048x1024.size a ≤ S16x2048x14336.size a := fun i v1 v53 k0_hw1 k0_h1 k0_h2 => k0_hw1.2 k0_h1 k0_h2

def k0_off4 (i : grid0.Coords) : Fin 1 → Nat :=
  let arg1 : BitVec 32 := BitVec.ofNat 32 (i 1).val
  let v23 : Index := Scalar.indexCast arg1
  ![v23.toNat]
def k0_mult3 (i : grid0.Coords) : BitVec 32 :=
  let arg0 : BitVec 32 := BitVec.ofNat 32 (i 0).val
  let c1024_i32 : BitVec 32 := 1024#32
  let v25 : BitVec 32 := Scalar.muli arg0 c1024_i32
  v25
def k0_mult4 (i : grid0.Coords) : BitVec 32 :=
  let c7168_i32 : BitVec 32 := 7168#32
  let arg0 : BitVec 32 := BitVec.ofNat 32 (i 0).val
  let c1024_i32 : BitVec 32 := 1024#32
  let v25 : BitVec 32 := Scalar.muli arg0 c1024_i32
  let v26 : BitVec 32 := v25
  let v27 : BitVec 32 := Scalar.addi c7168_i32 v26
  v27
def k0_off5 (i : grid0.Coords) (v24 : BitVec 32) : Fin 3 → Nat :=
  let c0_i32_10 : BitVec 32 := 0#32
  let arg0 : BitVec 32 := BitVec.ofNat 32 (i 0).val
  let c1024_i32 : BitVec 32 := 1024#32
  let v25 : BitVec 32 := Scalar.muli arg0 c1024_i32
  let v26 : BitVec 32 := v25
  ![v24.toNat, 0, v26.toNat]

def k0_off6 (i : grid0.Coords) (v24 : BitVec 32) : Fin 3 → Nat :=
  let c0_i32_12 : BitVec 32 := 0#32
  let c7168_i32 : BitVec 32 := 7168#32
  let arg0 : BitVec 32 := BitVec.ofNat 32 (i 0).val
  let c1024_i32 : BitVec 32 := 1024#32
  let v25 : BitVec 32 := Scalar.muli arg0 c1024_i32
  let v26 : BitVec 32 := v25
  let v27 : BitVec 32 := Scalar.addi c7168_i32 v26
  let v28 : BitVec 32 := v27
  ![v24.toNat, 0, v28.toNat]

def k0_chk2 (i : grid0.Coords) (v1 : BitVec 32) (v24 : BitVec 32) : Prop :=
  (∀ (k0_h1 : k0_cond1 v1 = 1#1), ∀ a, (k0_off5 i v24) a + S1x2048x1024.size a ≤ S16x2048x14336.size a) ∧
  (∀ (k0_h1 : k0_cond1 v1 = 1#1), ∀ a, (k0_off6 i v24) a + S1x2048x1024.size a ≤ S16x2048x14336.size a)
theorem k0_off5_inb : ∀ (i : grid0.Coords) (v1 : BitVec 32) (v24 : BitVec 32) (k0_hw2 : k0_chk2 i v1 v24), ∀ (k0_h1 : k0_cond1 v1 = 1#1), ∀ a, (k0_off5 i v24) a + S1x2048x1024.size a ≤ S16x2048x14336.size a := fun i v1 v24 k0_hw2 k0_h1 => k0_hw2.1 k0_h1
theorem k0_off6_inb : ∀ (i : grid0.Coords) (v1 : BitVec 32) (v24 : BitVec 32) (k0_hw2 : k0_chk2 i v1 v24), ∀ (k0_h1 : k0_cond1 v1 = 1#1), ∀ a, (k0_off6 i v24) a + S1x2048x1024.size a ≤ S16x2048x14336.size a := fun i v1 v24 k0_hw2 k0_h1 => k0_hw2.2 k0_h1

def k0_off7 (i : grid0.Coords) : Fin 1 → Nat :=
  let arg1 : BitVec 32 := BitVec.ofNat 32 (i 1).val
  let v47 : Index := Scalar.indexCast arg1
  ![v47.toNat]
def k0_off8 (i : grid0.Coords) : Fin 1 → Nat :=
  let arg1 : BitVec 32 := BitVec.ofNat 32 (i 1).val
  let v53 : Index := Scalar.indexCast arg1
  ![v53.toNat]
def k0_mult5 (i : grid0.Coords) (v48 : BitVec 32) : BitVec 32 :=
  let arg0 : BitVec 32 := BitVec.ofNat 32 (i 0).val
  let v49 : BitVec 32 := Scalar.addi arg0 v48
  let c1024_i32_21 : BitVec 32 := 1024#32
  let v55 : BitVec 32 := Scalar.muli v49 c1024_i32_21
  v55
def k0_cond3 (i : grid0.Coords) (v48 : BitVec 32) : BitVec 1 :=
  let arg0 : BitVec 32 := BitVec.ofNat 32 (i 0).val
  let v49 : BitVec 32 := Scalar.addi arg0 v48
  let c7_i32 : BitVec 32 := 7#32
  let v50 : BitVec 1 := Scalar.cmpi .slt v49 c7_i32
  let v51 : BitVec 32 := Scalar.extui v50
  let c0_i32_20 : BitVec 32 := 0#32
  let v52 : BitVec 1 := Scalar.cmpi .ne v51 c0_i32_20
  v52

def k0_mult6 (i : grid0.Coords) (v48 : BitVec 32) : BitVec 32 :=
  let c7168_i32_22 : BitVec 32 := 7168#32
  let arg0 : BitVec 32 := BitVec.ofNat 32 (i 0).val
  let v49 : BitVec 32 := Scalar.addi arg0 v48
  let c1024_i32_21 : BitVec 32 := 1024#32
  let v55 : BitVec 32 := Scalar.muli v49 c1024_i32_21
  let v56 : BitVec 32 := v55
  let v57 : BitVec 32 := Scalar.addi c7168_i32_22 v56
  v57

def k0_chk3 (i : grid0.Coords) (v1 : BitVec 32) (v48 : BitVec 32) : Prop :=
  (∀ (k0_h1 : k0_cond1 v1 = 1#1), ∀ (k0_h3 : k0_cond3 i v48 = 1#1), 1024 ∣ (k0_mult5 i v48).toNat) ∧
  (∀ (k0_h1 : k0_cond1 v1 = 1#1), ∀ (k0_h3 : k0_cond3 i v48 = 1#1), 1024 ∣ (k0_mult6 i v48).toNat)
theorem k0_mult5_dvd : ∀ (i : grid0.Coords) (v1 : BitVec 32) (v48 : BitVec 32) (k0_hw3 : k0_chk3 i v1 v48), ∀ (k0_h1 : k0_cond1 v1 = 1#1), ∀ (k0_h3 : k0_cond3 i v48 = 1#1), 1024 ∣ (k0_mult5 i v48).toNat := fun i v1 v48 k0_hw3 k0_h1 k0_h3 => k0_hw3.1 k0_h1 k0_h3
theorem k0_mult6_dvd : ∀ (i : grid0.Coords) (v1 : BitVec 32) (v48 : BitVec 32) (k0_hw3 : k0_chk3 i v1 v48), ∀ (k0_h1 : k0_cond1 v1 = 1#1), ∀ (k0_h3 : k0_cond3 i v48 = 1#1), 1024 ∣ (k0_mult6 i v48).toNat := fun i v1 v48 k0_hw3 k0_h1 k0_h3 => k0_hw3.2 k0_h1 k0_h3

def k0_off9 (i : grid0.Coords) (v48 : BitVec 32) (v54 : BitVec 32) : Fin 3 → Nat :=
  let c0_i32_24 : BitVec 32 := 0#32
  let arg0 : BitVec 32 := BitVec.ofNat 32 (i 0).val
  let v49 : BitVec 32 := Scalar.addi arg0 v48
  let c1024_i32_21 : BitVec 32 := 1024#32
  let v55 : BitVec 32 := Scalar.muli v49 c1024_i32_21
  let v56 : BitVec 32 := v55
  ![v54.toNat, 0, v56.toNat]

def k0_off10 (i : grid0.Coords) (v48 : BitVec 32) (v54 : BitVec 32) : Fin 3 → Nat :=
  let c0_i32_26 : BitVec 32 := 0#32
  let c7168_i32_22 : BitVec 32 := 7168#32
  let arg0 : BitVec 32 := BitVec.ofNat 32 (i 0).val
  let v49 : BitVec 32 := Scalar.addi arg0 v48
  let c1024_i32_21 : BitVec 32 := 1024#32
  let v55 : BitVec 32 := Scalar.muli v49 c1024_i32_21
  let v56 : BitVec 32 := v55
  let v57 : BitVec 32 := Scalar.addi c7168_i32_22 v56
  let v58 : BitVec 32 := v57
  ![v54.toNat, 0, v58.toNat]

def k0_chk4 (i : grid0.Coords) (v1 : BitVec 32) (v48 : BitVec 32) (v54 : BitVec 32) : Prop :=
  (∀ (k0_h1 : k0_cond1 v1 = 1#1), ∀ (k0_h3 : k0_cond3 i v48 = 1#1), ∀ a, (k0_off9 i v48 v54) a + S1x2048x1024.size a ≤ S16x2048x14336.size a) ∧
  (∀ (k0_h1 : k0_cond1 v1 = 1#1), ∀ (k0_h3 : k0_cond3 i v48 = 1#1), ∀ a, (k0_off10 i v48 v54) a + S1x2048x1024.size a ≤ S16x2048x14336.size a)
theorem k0_off9_inb : ∀ (i : grid0.Coords) (v1 : BitVec 32) (v48 : BitVec 32) (v54 : BitVec 32) (k0_hw4 : k0_chk4 i v1 v48 v54), ∀ (k0_h1 : k0_cond1 v1 = 1#1), ∀ (k0_h3 : k0_cond3 i v48 = 1#1), ∀ a, (k0_off9 i v48 v54) a + S1x2048x1024.size a ≤ S16x2048x14336.size a := fun i v1 v48 v54 k0_hw4 k0_h1 k0_h3 => k0_hw4.1 k0_h1 k0_h3
theorem k0_off10_inb : ∀ (i : grid0.Coords) (v1 : BitVec 32) (v48 : BitVec 32) (v54 : BitVec 32) (k0_hw4 : k0_chk4 i v1 v48 v54), ∀ (k0_h1 : k0_cond1 v1 = 1#1), ∀ (k0_h3 : k0_cond3 i v48 = 1#1), ∀ a, (k0_off10 i v48 v54) a + S1x2048x1024.size a ≤ S16x2048x14336.size a := fun i v1 v48 v54 k0_hw4 k0_h1 k0_h3 => k0_hw4.2 k0_h1 k0_h3

def k0_off11 (i : grid0.Coords) : Fin 1 → Nat :=
  let arg1 : BitVec 32 := BitVec.ofNat 32 (i 1).val
  let v5 : Index := Scalar.indexCast arg1
  ![v5.toNat]
def k0_cond4 (v6 : BitVec 32) : BitVec 1 :=
  let c256_i32 : BitVec 32 := 256#32
  let v7 : BitVec 1 := Scalar.cmpi .sgt v6 c256_i32
  let v8 : BitVec 32 := Scalar.extui v7
  let c0_i32_0 : BitVec 32 := 0#32
  let v9 : BitVec 1 := Scalar.cmpi .ne v8 c0_i32_0
  v9

def k0_cond5 (v6 : BitVec 32) : BitVec 1 :=
  let c0_i32_1 : BitVec 32 := 0#32
  let v10 : BitVec 1 := Scalar.cmpi .sgt v6 c0_i32_1
  let c256_i32_2 : BitVec 32 := 256#32
  let v11 : BitVec 1 := Scalar.cmpi .sle v6 c256_i32_2
  let v12 : BitVec 1 := Scalar.andi v10 v11
  let v13 : BitVec 32 := Scalar.extui v12
  let c0_i32_3 : BitVec 32 := 0#32
  let v14 : BitVec 1 := Scalar.cmpi .ne v13 c0_i32_3
  v14

def k0_cond6 (v6 : BitVec 32) : BitVec 1 :=
  let c0_i32_4 : BitVec 32 := 0#32
  let v15 : BitVec 1 := Scalar.cmpi .eq v6 c0_i32_4
  let v16 : BitVec 32 := Scalar.extui v15
  let c0_i32_5 : BitVec 32 := 0#32
  let v17 : BitVec 1 := Scalar.cmpi .ne v16 c0_i32_5
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== UpRefIdeal.lean ====
abbrev S42 : Shape := ⟨1, ![42]⟩
abbrev S21504x2048 : Shape := ⟨2, ![21504, 2048]⟩
abbrev S16x2048x14336 : Shape := ⟨3, ![16, 2048, 14336]⟩
abbrev S42x512x2048 : Shape := ⟨3, ![42, 512, 2048]⟩
abbrev S42x1 : Shape := ⟨2, ![42, 1]⟩
abbrev S42x2048x14336 : Shape := ⟨3, ![42, 2048, 14336]⟩
abbrev S42x512x14336 : Shape := ⟨3, ![42, 512, 14336]⟩
abbrev S42x512x7168 : Shape := ⟨3, ![42, 512, 7168]⟩
abbrev S_ : Shape := ⟨0, ![]⟩
abbrev S21504x7168 : Shape := ⟨2, ![21504, 7168]⟩

abbrev nBuf : Space → Nat
  | .hbm => 26
  | .vmem => 0
  | .smem => 0
  | _ => 0

abbrev bufTy : (tb : Table) → Fin (tcTables nBuf tb) → BufTy
  | .hbm, ⟨0, _⟩ => ⟨S42, .i32⟩
  | .hbm, ⟨1, _⟩ => ⟨S42, .i32⟩
  | .hbm, ⟨2, _⟩ => ⟨S42, .i32⟩
  | .hbm, ⟨3, _⟩ => ⟨S42, .i32⟩
  | .hbm, ⟨4, _⟩ => ⟨S42, .i32⟩
  | .hbm, ⟨5, _⟩ => ⟨S21504x2048, .bf16⟩
  | .hbm, ⟨6, _⟩ => ⟨S16x2048x14336, .f32⟩
  | .hbm, ⟨7, _⟩ => ⟨S21504x2048, .f32⟩
  | .hbm, ⟨8, _⟩ => ⟨S42x512x2048, .f32⟩
  | .hbm, ⟨9, _⟩ => ⟨S42x1, .i32⟩
  | .hbm, ⟨10, _⟩ => ⟨S42x2048x14336, .f32⟩
  | .hbm, ⟨11, _⟩ => ⟨S42x512x14336, .f32⟩
  | .hbm, ⟨12, _⟩ => ⟨S42x512x7168, .f32⟩
  | .hbm, ⟨13, _⟩ => ⟨S42x512x7168, .f32⟩
  | .hbm, ⟨14, _⟩ => ⟨S42x512x7168, .f32⟩
  | .hbm, ⟨15, _⟩ => ⟨S42x512x7168, .f32⟩
  | .hbm, ⟨16, _⟩ => ⟨S_, .f32⟩
  | .hbm, ⟨17, _⟩ => ⟨S42x512x7168, .f32⟩
  | .hbm, ⟨18, _⟩ => ⟨S42x512x7168, .f32⟩
  | .hbm, ⟨19, _⟩ => ⟨S_, .f32⟩
  | .hbm, ⟨20, _⟩ => ⟨S42x512x7168, .f32⟩
  | .hbm, ⟨21, _⟩ => ⟨S42x512x7168, .f32⟩
  | .hbm, ⟨22, _⟩ => ⟨S42x512x7168, .f32⟩
  | .hbm, ⟨23, _⟩ => ⟨S42x512x7168, .f32⟩
  | .hbm, ⟨24, _⟩ => ⟨S21504x7168, .f32⟩
  | .hbm, ⟨25, _⟩ => ⟨S21504x7168, .bf16⟩
  | _, _ => ⟨S42, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call1_v0 : Ref sig .tc := ⟨.hbm, 14, rfl⟩
abbrev main_call1_v1 : Ref sig .tc := ⟨.hbm, 15, rfl⟩
abbrev main_call1_cst : Ref sig .tc := ⟨.hbm, 16, rfl⟩
abbrev main_call1_v2 : Ref sig .tc := ⟨.hbm, 17, rfl⟩
abbrev main_call1_v3 : Ref sig .tc := ⟨.hbm, 18, rfl⟩
abbrev main_call1_cst_0 : Ref sig .tc := ⟨.hbm, 19, rfl⟩
abbrev main_call1_v4 : Ref sig .tc := ⟨.hbm, 20, rfl⟩
abbrev main_call1_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩

abbrev nD : Nat := 1
abbrev τ : Topo := Topo.v7x

variable {F : FTy → Type} [FloatOps F]
-- ==== Rows.lean ====
abbrev S8704x2048 : Shape := ⟨2, ![8704, 2048]⟩
abbrev S1x2048x6144 : Shape := ⟨3, ![1, 2048, 6144]⟩
abbrev S8704x6144 : Shape := ⟨2, ![8704, 6144]⟩
abbrev S1088x2048 : Shape := ⟨2, ![1088, 2048]⟩
abbrev S1x2048x1024 : Shape := ⟨3, ![1, 2048, 1024]⟩
abbrev S1088x1024 : Shape := ⟨2, ![1088, 1024]⟩
abbrev S2048x1024 : Shape := ⟨2, ![2048, 1024]⟩
abbrev S512x2048 : Shape := ⟨2, ![512, 2048]⟩
abbrev S1x512x16x128 : Shape := ⟨4, ![1, 512, 16, 128]⟩
abbrev S32x16x16x128 : Shape := ⟨4, ![32, 16, 16, 128]⟩

abbrev nBuf : Space → Nat
  | .hbm => 11
  | .vmem => 7
  | .smem => 0
  | _ => 0

abbrev bufTy : (tb : Table) → Fin (tcTables nBuf tb) → BufTy
  | .hbm, ⟨0, _⟩ => ⟨S8704x2048, .bf16⟩
  | .hbm, ⟨1, _⟩ => ⟨S1x2048x6144, .f32⟩
  | .hbm, ⟨2, _⟩ => ⟨S8704x6144, .f32⟩
  | .hbm, ⟨3, _⟩ => ⟨S512x2048, .f32⟩
  | .hbm, ⟨4, _⟩ => ⟨S1x512x16x128, .f32⟩
  | .hbm, ⟨5, _⟩ => ⟨S512x2048, .f32⟩
  | .hbm, ⟨6, _⟩ => ⟨S1x512x16x128, .f32⟩
  | .hbm, ⟨7, _⟩ => ⟨S512x2048, .f32⟩
  | .hbm, ⟨8, _⟩ => ⟨S32x16x16x128, .f32⟩
  | .hbm, ⟨9, _⟩ => ⟨S512x2048, .f32⟩
  | .hbm, ⟨10, _⟩ => ⟨S32x16x16x128, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1088x1024, .f32⟩
  | .local _ .vmem, ⟨5, _⟩ => ⟨S1088x1024, .f32⟩
  | .local _ .vmem, ⟨6, _⟩ => ⟨S2048x1024, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RowsRefIdeal.lean ====
abbrev S8704x2048 : Shape := ⟨2, ![8704, 2048]⟩
abbrev S1x2048x6144 : Shape := ⟨3, ![1, 2048, 6144]⟩
abbrev S2048x6144 : Shape := ⟨2, ![2048, 6144]⟩
abbrev S8704x6144 : Shape := ⟨2, ![8704, 6144]⟩
abbrev S8192x2048 : Shape := ⟨2, ![8192, 2048]⟩
abbrev S1x8192x16x128 : Shape := ⟨4, ![1, 8192, 16, 128]⟩
abbrev S1x512x16x128 : Shape := ⟨4, ![1, 512, 16, 128]⟩
abbrev S512x2048 : Shape := ⟨2, ![512, 2048]⟩
abbrev S32x16x16x128 : Shape := ⟨4, ![32, 16, 16, 128]⟩

abbrev nBuf : Space → Nat
  | .hbm => 18
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S1x2048x6144, .f32⟩
  | .hbm, ⟨2, _⟩ => ⟨S8704x2048, .f32⟩
  | .hbm, ⟨3, _⟩ => ⟨S2048x6144, .f32⟩
  | .hbm, ⟨4, _⟩ => ⟨S8704x6144, .f32⟩
  | .hbm, ⟨5, _⟩ => ⟨S8704x2048, .f32⟩
  | .hbm, ⟨6, _⟩ => ⟨S8704x2048, .f32⟩
  | .hbm, ⟨7, _⟩ => ⟨S8704x2048, .f32⟩
  | .hbm, ⟨8, _⟩ => ⟨S8192x2048, .f32⟩
  | .hbm, ⟨9, _⟩ => ⟨S1x8192x16x128, .f32⟩
  | .hbm, ⟨10, _⟩ => ⟨S1x512x16x128, .f32⟩
  | .hbm, ⟨11, _⟩ => ⟨S8192x2048, .f32⟩
  | .hbm, ⟨12, _⟩ => ⟨S1x8192x16x128, .f32⟩
  | .hbm, ⟨13, _⟩ => ⟨S1x512x16x128, .f32⟩
  | .hbm, ⟨14, _⟩ => ⟨S512x2048, .f32⟩
  | .hbm, ⟨15, _⟩ => ⟨S32x16x16x128, .f32⟩
  | .hbm, ⟨16, _⟩ => ⟨S512x2048, .f32⟩
  | .hbm, ⟨17, _⟩ => ⟨S32x16x16x128, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== Final.lean ====
abbrev S8704x2048 : Shape := ⟨2, ![8704, 2048]⟩
abbrev S4x8704x256 : Shape := ⟨3, ![4, 8704, 256]⟩
abbrev S4x2048x2048 : Shape := ⟨3, ![4, 2048, 2048]⟩
abbrev S4x256x2048 : Shape := ⟨3, ![4, 256, 2048]⟩
abbrev S2048 : Shape := ⟨1, ![2048]⟩
abbrev S1x2048 : Shape := ⟨2, ![1, 2048]⟩
abbrev S272x2048 : Shape := ⟨2, ![272, 2048]⟩
abbrev S1x2048x2048 : Shape := ⟨3, ![1, 2048, 2048]⟩
abbrev S1x272x256 : Shape := ⟨3, ![1, 272, 256]⟩
abbrev S1x256x2048 : Shape := ⟨3, ![1, 256, 2048]⟩
abbrev S2048x2048 : Shape := ⟨2, ![2048, 2048]⟩
abbrev S256x2048 : Shape := ⟨2, ![256, 2048]⟩
abbrev S272x256 : Shape := ⟨2, ![272, 256]⟩
abbrev S272 : Shape := ⟨1, ![272]⟩
abbrev S272x1 : Shape := ⟨2, ![272, 1]⟩
abbrev S8192x2048 : Shape := ⟨2, ![8192, 2048]⟩
abbrev S1x8192x2048 : Shape := ⟨3, ![1, 8192, 2048]⟩
abbrev S512x2048 : Shape := ⟨2, ![512, 2048]⟩
abbrev S32x16x2048 : Shape := ⟨3, ![32, 16, 2048]⟩

abbrev nBuf : Space → Nat
  | .hbm => 13
  | .vmem => 15
  | .smem => 0
  | _ => 0

abbrev bufTy : (tb : Table) → Fin (tcTables nBuf tb) → BufTy
  | .hbm, ⟨0, _⟩ => ⟨S8704x2048, .f32⟩
  | .hbm, ⟨1, _⟩ => ⟨S8704x2048, .bf16⟩
  | .hbm, ⟨2, _⟩ => ⟨S4x8704x256, .f32⟩
  | .hbm, ⟨3, _⟩ => ⟨S4x2048x2048, .f32⟩
  | .hbm, ⟨4, _⟩ => ⟨S4x256x2048, .f32⟩
  | .hbm, ⟨5, _⟩ => ⟨S2048, .f32⟩
  | .hbm, ⟨6, _⟩ => ⟨S1x2048, .f32⟩
  | .hbm, ⟨7, _⟩ => ⟨S8704x2048, .f32⟩
  | .hbm, ⟨8, _⟩ => ⟨S8704x2048, .f32⟩
  | .hbm, ⟨9, _⟩ => ⟨S8192x2048, .f32⟩
  | .hbm, ⟨10, _⟩ => ⟨S1x8192x2048, .f32⟩
  | .hbm, ⟨11, _⟩ => ⟨S512x2048, .f32⟩
  | .hbm, ⟨12, _⟩ => ⟨S32x16x2048, .f32⟩
  | .local _ .vmem, ⟨0, _⟩ => ⟨S272x2048, .bf16⟩
  | .local _ .vmem, ⟨1, _⟩ => ⟨S272x2048, .bf16⟩
  | .local _ .vmem, ⟨2, _⟩ => ⟨S1x2048x2048, .f32⟩
  | .local _ .vmem, ⟨3, _⟩ => ⟨S1x272x256, .f32⟩
  | .local _ .vmem, ⟨4, _⟩ => ⟨S1x272x256, .f32⟩
  | .local _ .vmem, ⟨5, _⟩ => ⟨S1x256x2048, .f32⟩
  | .local _ .vmem, ⟨6, _⟩ => ⟨S272x2048, .f32⟩
  | .local _ .vmem, ⟨7, _⟩ => ⟨S272x2048, .f32⟩
  | .local _ .vmem, ⟨8, _⟩ => ⟨S1x2048, .f32⟩
  | .local _ .vmem, ⟨9, _⟩ => ⟨S272x2048, .f32⟩
  | .local _ .vmem, ⟨10, _⟩ => ⟨S272x2048, .f32⟩
  | .local _ .vmem, ⟨11, _⟩ => ⟨S272x2048, .f32⟩
  | .local _ .vmem, ⟨12, _⟩ => ⟨S272x2048, .f32⟩
  | .local _ .vmem, ⟨13, _⟩ => ⟨S2048x2048, .bf16⟩
  | .local _ .vmem, ⟨14, _⟩ => ⟨S256x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x272x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S272x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S272x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S272x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FinalRefIdeal.lean ====
abbrev S8704x2048 : Shape := ⟨2, ![8704, 2048]⟩
abbrev S4x8704x256 : Shape := ⟨3, ![4, 8704, 256]⟩
abbrev S4x2048x2048 : Shape := ⟨3, ![4, 2048, 2048]⟩
abbrev S4x256x2048 : Shape := ⟨3, ![4, 256, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S1x8704x256 : Shape := ⟨3, ![1, 8704, 256]⟩
abbrev S8704x256 : Shape := ⟨2, ![8704, 256]⟩
abbrev S1x256x2048 : Shape := ⟨3, ![1, 256, 2048]⟩
abbrev S256x2048 : Shape := ⟨2, ![256, 2048]⟩
abbrev S8704 : Shape := ⟨1, ![8704]⟩
abbrev S8704x1 : Shape := ⟨2, ![8704, 1]⟩
abbrev S1x2048 : Shape := ⟨2, ![1, 2048]⟩
abbrev S8192x2048 : Shape := ⟨2, ![8192, 2048]⟩
abbrev S1x8192x2048 : Shape := ⟨3, ![1, 8192, 2048]⟩
abbrev S512x2048 : Shape := ⟨2, ![512, 2048]⟩
abbrev S32x16x2048 : Shape := ⟨3, ![32, 16, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8704x2048, .bf16⟩
  | .hbm, ⟨2, _⟩ => ⟨S4x8704x256, .f32⟩
  | .hbm, ⟨3, _⟩ => ⟨S4x2048x2048, .f32⟩
  | .hbm, ⟨4, _⟩ => ⟨S4x256x2048, .f32⟩
  | .hbm, ⟨5, _⟩ => ⟨S2048, .f32⟩
  | .hbm, ⟨6, _⟩ => ⟨S8704x2048, .f32⟩
  | .hbm, ⟨7, _⟩ => ⟨S1x2048x2048, .f32⟩
  | .hbm, ⟨8, _⟩ => ⟨S2048x2048, .f32⟩
  | .hbm, ⟨9, _⟩ => ⟨S8704x2048, .f32⟩
  | .hbm, ⟨10, _⟩ => ⟨S8704x2048, .f32⟩
  | .hbm, ⟨11, _⟩ => ⟨S8704x2048, .f32⟩
  | .hbm, ⟨12, _⟩ => ⟨S_, .f32⟩
  | .hbm, ⟨13, _⟩ => ⟨S8704x2048, .f32⟩
  | .hbm, ⟨14, _⟩ => ⟨S8704x2048, .f32⟩
  | .hbm, ⟨15, _⟩ => ⟨S_, .f32⟩
  | .hbm, ⟨16, _⟩ => ⟨S8704x2048, .f32⟩
  | .hbm, ⟨17, _⟩ => ⟨S8704x2048, .f32⟩
  | .hbm, ⟨18, _⟩ => ⟨S1x8704x256, .f32⟩
  | .hbm, ⟨19, _⟩ => ⟨S8704x256, .f32⟩
  | .hbm, ⟨20, _⟩ => ⟨S1x256x2048, .f32⟩
  | .hbm, ⟨21, _⟩ => ⟨S256x2048, .f32⟩
  | .hbm, ⟨22, _⟩ => ⟨S8704x2048, .f32⟩
  | .hbm, ⟨23, _⟩ => ⟨S8704x2048, .f32⟩
  | .hbm, ⟨24, _⟩ => ⟨S8704x2048, .f32⟩
  | .hbm, ⟨25, _⟩ => ⟨S8704x2048, .f32⟩
  | .hbm, ⟨26, _⟩ => ⟨S_, .f32⟩
  | .hbm, ⟨27, _⟩ => ⟨S8704, .f32⟩
  | .hbm, ⟨28, _⟩ => ⟨S8704x1, .f32⟩
  | .hbm, ⟨29, _⟩ => ⟨S_, .f32⟩
  | .hbm, ⟨30, _⟩ => ⟨S8704x1, .f32⟩
  | .hbm, ⟨31, _⟩ => ⟨S8704x1, .f32⟩
  | .hbm, ⟨32, _⟩ => ⟨S_, .f32⟩
  | .hbm, ⟨33, _⟩ => ⟨S8704x1, .f32⟩
  | .hbm, ⟨34, _⟩ => ⟨S8704x1, .f32⟩
  | .hbm, ⟨35, _⟩ => ⟨S8704x1, .f32⟩
  | .hbm, ⟨36, _⟩ => ⟨S8704x2048, .f32⟩
  | .hbm, ⟨37, _⟩ => ⟨S8704x2048, .f32⟩
  | .hbm, ⟨38, _⟩ => ⟨S1x2048, .f32⟩
  | .hbm, ⟨39, _⟩ => ⟨S8704x2048, .f32⟩
  | .hbm, ⟨40, _⟩ => ⟨S8704x2048, .f32⟩
  | .hbm, ⟨41, _⟩ => ⟨S8192x2048, .f32⟩
  | .hbm, ⟨42, _⟩ => ⟨S1x8192x2048, .f32⟩
  | .hbm, ⟨43, _⟩ => ⟨S512x2048, .f32⟩
  | .hbm, ⟨44, _⟩ => ⟨S32x16x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Gate.lean ====
abbrev S8704x12288 : Shape := ⟨2, ![8704, 12288]⟩
abbrev S1x6144 : Shape := ⟨2, ![1, 6144]⟩
abbrev S1x8x128x128 : Shape := ⟨4, ![1, 8, 128, 128]⟩
abbrev S1x8x128 : Shape := ⟨3, ![1, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x128x128 : Shape := ⟨3, ![8, 128, 128]⟩
abbrev S_ : Shape := ⟨0, ![]⟩
abbrev S8x16x16 : Shape := ⟨3, ![8, 16, 16]⟩
abbrev S1x8x1x16x1x16 : Shape := ⟨6, ![1, 8, 1, 16, 1, 16]⟩
abbrev S1x8x8x16x8x16 : Shape := ⟨6, ![1, 8, 8, 16, 8, 16]⟩
abbrev S8x128 : Shape := ⟨2, ![8, 128]⟩
abbrev S8x16 : Shape := ⟨2, ![8, 16]⟩
abbrev S1x8x1x16 : Shape := ⟨4, ![1, 8, 1, 16]⟩
abbrev S1x8x8x16 : Shape := ⟨4, ![1, 8, 8, 16]⟩
abbrev S2x8x128x128 : Shape := ⟨4, ![2, 8, 128, 128]⟩
abbrev S2x8x128 : Shape := ⟨3, ![2, 8, 128]⟩
abbrev S2x8x128x1 : Shape := ⟨4, ![2, 8, 128, 1]⟩
abbrev S6144 : Shape := ⟨1, ![6144]⟩
abbrev S8704x6144 : Shape := ⟨2, ![8704, 6144]⟩
abbrev S640x6144 : Shape := ⟨2, ![640, 6144]⟩
abbrev S128x12288 : Shape := ⟨2, ![128, 12288]⟩
abbrev S1x8x128x1 : Shape := ⟨4, ![1, 8, 128, 1]⟩
abbrev S128x6144 : Shape := ⟨2, ![128, 6144]⟩
abbrev S1x1x128x128 : Shape := ⟨4, ![1, 1, 128, 128]⟩
abbrev S128x768 : Shape := ⟨2, ![128, 768]⟩
abbrev S1x1x128x1 : Shape := ⟨4, ![1, 1, 128, 1]⟩
abbrev S1x128x6144 : Shape := ⟨3, ![1, 128, 6144]⟩
abbrev S512x6144 : Shape := ⟨2, ![512, 6144]⟩
abbrev S32x16x6144 : Shape := ⟨3, ![32, 16, 6144]⟩

abbrev nBuf : Space → Nat
  | .hbm => 97
  | .vmem => 11
  | .smem => 0
  | _ => 0

abbrev bufTy : (tb : Table) → Fin (tcTables nBuf tb) → BufTy
  | .hbm, ⟨0, _⟩ => ⟨S8704x12288, .f32⟩
  | .hbm, ⟨1, _⟩ => ⟨S1x6144, .f32⟩
  | .hbm, ⟨2, _⟩ => ⟨S1x8x128x128, .f32⟩
  | .hbm, ⟨3, _⟩ => ⟨S1x8x128, .f32⟩
  | .hbm, ⟨4, _⟩ => ⟨S128, .i32⟩
  | .hbm, ⟨5, _⟩ => ⟨S128x1, .i32⟩
  | .hbm, ⟨6, _⟩ => ⟨S1x128, .i32⟩
  | .hbm, ⟨7, _⟩ => ⟨S128x128, .i32⟩
  | .hbm, ⟨8, _⟩ => ⟨S128x128, .i32⟩
  | .hbm, ⟨9, _⟩ => ⟨S128x128, .i1⟩
  | .hbm, ⟨10, _⟩ => ⟨S1x128x128, .i1⟩
  | .hbm, ⟨11, _⟩ => ⟨S8x128x128, .f32⟩
  | .hbm, ⟨12, _⟩ => ⟨S_, .f32⟩
  | .hbm, ⟨13, _⟩ => ⟨S_, .f32⟩
  | .hbm, ⟨14, _⟩ => ⟨S8x128x128, .i1⟩
  | .hbm, ⟨15, _⟩ => ⟨S8x128x128, .f32⟩
  | .hbm, ⟨16, _⟩ => ⟨S8x128x128, .f32⟩
  | .hbm, ⟨17, _⟩ => ⟨S128x1, .i32⟩
  | .hbm, ⟨18, _⟩ => ⟨S_, .i32⟩
  | .hbm, ⟨19, _⟩ => ⟨S_, .i32⟩
  | .hbm, ⟨20, _⟩ => ⟨S128x1, .i32⟩
  | .hbm, ⟨21, _⟩ => ⟨S128x1, .i32⟩
  | .hbm, ⟨22, _⟩ => ⟨S128x1, .i32⟩
  | .hbm, ⟨23, _⟩ => ⟨S_, .i32⟩
  | .hbm, ⟨24, _⟩ => ⟨S128x1, .i32⟩
  | .hbm, ⟨25, _⟩ => ⟨S128x1, .i1⟩
  | .hbm, ⟨26, _⟩ => ⟨S128x1, .i32⟩
  | .hbm, ⟨27, _⟩ => ⟨S128x1, .i32⟩
  | .hbm, ⟨28, _⟩ => ⟨S_, .i32⟩
  | .hbm, ⟨29, _⟩ => ⟨S128x1, .i32⟩
  | .hbm, ⟨30, _⟩ => ⟨S128x1, .i1⟩
  | .hbm, ⟨31, _⟩ => ⟨S128x1, .i1⟩
  | .hbm, ⟨32, _⟩ => ⟨S_, .i32⟩
  | .hbm, ⟨33, _⟩ => ⟨S128x1, .i32⟩
  | .hbm, ⟨34, _⟩ => ⟨S128x1, .i32⟩
  | .hbm, ⟨35, _⟩ => ⟨S128x1, .i32⟩
  | .hbm, ⟨36, _⟩ => ⟨S1x128, .i32⟩
  | .hbm, ⟨37, _⟩ => ⟨S_, .i32⟩
  | .hbm, ⟨38, _⟩ => ⟨S_, .i32⟩
  | .hbm, ⟨39, _⟩ => ⟨S1x128, .i32⟩
  | .hbm, ⟨40, _⟩ => ⟨S1x128, .i32⟩
  | .hbm, ⟨41, _⟩ => ⟨S1x128, .i32⟩
  | .hbm, ⟨42, _⟩ => ⟨S_, .i32⟩
  | .hbm, ⟨43, _⟩ => ⟨S1x128, .i32⟩
  | .hbm, ⟨44, _⟩ => ⟨S1x128, .i1⟩
  | .hbm, ⟨45, _⟩ => ⟨S1x128, .i32⟩
  | .hbm, ⟨46, _⟩ => ⟨S1x128, .i32⟩
  | .hbm, ⟨47, _⟩ => ⟨S_, .i32⟩
  | .hbm, ⟨48, _⟩ => ⟨S1x128, .i32⟩
  | .hbm, ⟨49, _⟩ => ⟨S1x128, .i1⟩
  | .hbm, ⟨50, _⟩ => ⟨S1x128, .i1⟩
  | .hbm, ⟨51, _⟩ => ⟨S_, .i32⟩
  | .hbm, ⟨52, _⟩ => ⟨S1x128, .i32⟩
  | .hbm, ⟨53, _⟩ => ⟨S1x128, .i32⟩
  | .hbm, ⟨54, _⟩ => ⟨S1x128, .i32⟩
  | .hbm, ⟨55, _⟩ => ⟨S128x128, .i32⟩
  | .hbm, ⟨56, _⟩ => ⟨S128x128, .i32⟩
  | .hbm, ⟨57, _⟩ => ⟨S128x128, .i1⟩
  | .hbm, ⟨58, _⟩ => ⟨S128x1, .i32⟩
  | .hbm, ⟨59, _⟩ => ⟨S1x128, .i32⟩
  | .hbm, ⟨60, _⟩ => ⟨S128x128, .i32⟩
  | .hbm, ⟨61, _⟩ => ⟨S128x128, .i32⟩
  | .hbm, ⟨62, _⟩ => ⟨S128x128, .i1⟩
  | .hbm, ⟨63, _⟩ => ⟨S128x128, .i1⟩
  | .hbm, ⟨64, _⟩ => ⟨S1x128x128, .i1⟩
  | .hbm, ⟨65, _⟩ => ⟨S8x128x128, .f32⟩
  | .hbm, ⟨66, _⟩ => ⟨S8x16x16, .f32⟩
  | .hbm, ⟨67, _⟩ => ⟨S1x8x1x16x1x16, .f32⟩
  | .hbm, ⟨68, _⟩ => ⟨S1x8x8x16x8x16, .f32⟩
  | .hbm, ⟨69, _⟩ => ⟨S8x128x128, .f32⟩
  | .hbm, ⟨70, _⟩ => ⟨S_, .f32⟩
  | .hbm, ⟨71, _⟩ => ⟨S_, .f32⟩
  | .hbm, ⟨72, _⟩ => ⟨S8x128x128, .i1⟩
  | .hbm, ⟨73, _⟩ => ⟨S8x128x128, .f32⟩
  | .hbm, ⟨74, _⟩ => ⟨S8x128x128, .f32⟩
  | .hbm, ⟨75, _⟩ => ⟨S8x128, .f32⟩
  | .hbm, ⟨76, _⟩ => ⟨S8x128, .f32⟩
  | .hbm, ⟨77, _⟩ => ⟨S8x16, .f32⟩
  | .hbm, ⟨78, _⟩ => ⟨S1x8x1x16, .f32⟩
  | .hbm, ⟨79, _⟩ => ⟨S1x8x8x16, .f32⟩
  | .hbm, ⟨80, _⟩ => ⟨S8x128, .f32⟩
  | .hbm, ⟨81, _⟩ => ⟨S1x8x128x128, .f32⟩
  | .hbm, ⟨82, _⟩ => ⟨S1x8x128x128, .f32⟩
  | .hbm, ⟨83, _⟩ => ⟨S2x8x128x128, .f32⟩
  | .hbm, ⟨84, _⟩ => ⟨S2x8x128x128, .bf16⟩
  | .hbm, ⟨85, _⟩ => ⟨S1x8x128, .f32⟩
  | .hbm, ⟨86, _⟩ => ⟨S1x8x128, .f32⟩
  | .hbm, ⟨87, _⟩ => ⟨S2x8x128, .f32⟩
  | .hbm, ⟨88, _⟩ => ⟨S2x8x128x1, .f32⟩
  | .hbm, ⟨89, _⟩ => ⟨S6144, .f32⟩
  | .hbm, ⟨90, _⟩ => ⟨S1x6144, .f32⟩
  | .hbm, ⟨91, _⟩ => ⟨S8704x6144, .bf16⟩
  | .hbm, ⟨92, _⟩ => ⟨S640x6144, .f32⟩
  | .hbm, ⟨93, _⟩ => ⟨S128x6144, .f32⟩
  | .hbm, ⟨94, _⟩ => ⟨S1x128x6144, .f32⟩
  | .hbm, ⟨95, _⟩ => ⟨S512x6144, .f32⟩
  | .hbm, ⟨96, _⟩ => ⟨S32x16x6144, .f32⟩
  | .local _ .vmem, ⟨0, _⟩ => ⟨S128x12288, .f32⟩
  | .local _ .vmem, ⟨1, _⟩ => ⟨S128x12288, .f32⟩
  | .local _ .vmem, ⟨2, _⟩ => ⟨S1x6144, .f32⟩
  | .local _ .vmem, ⟨3, _⟩ => ⟨S1x8x128x128, .bf16⟩
  | .local _ .vmem, ⟨4, _⟩ => ⟨S1x8x128x128, .bf16⟩
  | .local _ .vmem, ⟨5, _⟩ => ⟨S1x8x128x1, .f32⟩
  | .local _ .vmem, ⟨6, _⟩ => ⟨S1x8x128x1, .f32⟩
  | .local _ .vmem, ⟨7, _⟩ => ⟨S128x6144, .bf16⟩
  | .local _ .vmem, ⟨8, _⟩ => ⟨S128x6144, .bf16⟩
  | .local _ .vmem, ⟨9, _⟩ => ⟨S128x6144, .f32⟩
  | .local _ .vmem, ⟨10, _⟩ => ⟨S128x6144, .f32⟩
  | _, _ => ⟨S8704x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_c : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_0 : Ref sig .tc := ⟨.hbm, 32, rfl⟩
abbrev main_call1_v12 : Ref sig .tc := ⟨.hbm, 33, rfl⟩
abbrev main_call1_v13 : Ref sig .tc := ⟨.hbm, 34, rfl⟩
abbrev main_v10 : Ref sig .tc := ⟨.hbm, 35, rfl⟩
abbrev main_v11 : Ref sig .tc := ⟨.hbm, 36, rfl⟩
abbrev main_c_0 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_c : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_0 : Ref sig .tc := ⟨.hbm, 51, rfl⟩
abbrev main_call2_v12 : Ref sig .tc := ⟨.hbm, 52, rfl⟩
abbrev main_call2_v13 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_cst_1 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45_0 : Ref sig .tc := ⟨.hbm, 91, rfl⟩
abbrev main_v45_1 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_3 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c63_i32 : BitVec 32 := 63#32
  let v0 : BitVec 32 := Scalar.subi arg0 c63_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S128x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x8x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateRefIdeal.lean ====
abbrev S8704x12288 : Shape := ⟨2, ![8704, 12288]⟩
abbrev S1x6144 : Shape := ⟨2, ![1, 6144]⟩
abbrev S1x8x128x128 : Shape := ⟨4, ![1, 8, 128, 128]⟩
abbrev S1x8x128 : Shape := ⟨3, ![1, 8, 128]⟩
abbrev S_ : Shape := ⟨0, ![]⟩
abbrev S8704x6144 : Shape := ⟨2, ![8704, 6144]⟩
abbrev S8704 : Shape := ⟨1, ![8704]⟩
abbrev S8704x1 : Shape := ⟨2, ![8704, 1]⟩
abbrev S6144 : Shape := ⟨1, ![6144]⟩
abbrev S8192x6144 : Shape := ⟨2, ![8192, 6144]⟩
abbrev S1x8192x6144 : Shape := ⟨3, ![1, 8192, 6144]⟩
abbrev S1x128x6144 : Shape := ⟨3, ![1, 128, 6144]⟩
abbrev S512x6144 : Shape := ⟨2, ![512, 6144]⟩
abbrev S32x16x6144 : Shape := ⟨3, ![32, 16, 6144]⟩

abbrev nBuf : Space → Nat
  | .hbm => 55
  | .vmem => 0
  | .smem => 0
  | _ => 0

abbrev bufTy : (tb : Table) → Fin (tcTables nBuf tb) → BufTy
  | .hbm, ⟨0, _⟩ => ⟨S8704x12288, .f32⟩
  | .hbm, ⟨1, _⟩ => ⟨S1x6144, .f32⟩
  | .hbm, ⟨2, _⟩ => ⟨S1x8x128x128, .f32⟩
  | .hbm, ⟨3, _⟩ => ⟨S1x8x128, .f32⟩
  | .hbm, ⟨4, _⟩ => ⟨S8704x12288, .f32⟩
  | .hbm, ⟨5, _⟩ => ⟨S8704x12288, .f32⟩
  | .hbm, ⟨6, _⟩ => ⟨S_, .f32⟩
  | .hbm, ⟨7, _⟩ => ⟨S8704x12288, .f32⟩
  | .hbm, ⟨8, _⟩ => ⟨S8704x12288, .f32⟩
  | .hbm, ⟨9, _⟩ => ⟨S8704x12288, .f32⟩
  | .hbm, ⟨10, _⟩ => ⟨S_, .f32⟩
  | .hbm, ⟨11, _⟩ => ⟨S8704x12288, .f32⟩
  | .hbm, ⟨12, _⟩ => ⟨S8704x12288, .f32⟩
  | .hbm, ⟨13, _⟩ => ⟨S8704x12288, .f32⟩
  | .hbm, ⟨14, _⟩ => ⟨S_, .f32⟩
  | .hbm, ⟨15, _⟩ => ⟨S8704x12288, .f32⟩
  | .hbm, ⟨16, _⟩ => ⟨S8704x12288, .f32⟩
  | .hbm, ⟨17, _⟩ => ⟨S_, .f32⟩
  | .hbm, ⟨18, _⟩ => ⟨S8704x12288, .f32⟩
  | .hbm, ⟨19, _⟩ => ⟨S8704x12288, .f32⟩
  | .hbm, ⟨20, _⟩ => ⟨S8704x12288, .f32⟩
  | .hbm, ⟨21, _⟩ => ⟨S8704x6144, .f32⟩
  | .hbm, ⟨22, _⟩ => ⟨S8704x6144, .f32⟩
  | .hbm, ⟨23, _⟩ => ⟨S_, .f32⟩
  | .hbm, ⟨24, _⟩ => ⟨S8704, .f32⟩
  | .hbm, ⟨25, _⟩ => ⟨S8704x1, .f32⟩
  | .hbm, ⟨26, _⟩ => ⟨S_, .f32⟩
  | .hbm, ⟨27, _⟩ => ⟨S8704x1, .f32⟩
  | .hbm, ⟨28, _⟩ => ⟨S8704x1, .f32⟩
  | .hbm, ⟨29, _⟩ => ⟨S8704x6144, .f32⟩
  | .hbm, ⟨30, _⟩ => ⟨S8704x6144, .f32⟩
  | .hbm, ⟨31, _⟩ => ⟨S8704x6144, .f32⟩
  | .hbm, ⟨32, _⟩ => ⟨S_, .f32⟩
  | .hbm, ⟨33, _⟩ => ⟨S8704, .f32⟩
  | .hbm, ⟨34, _⟩ => ⟨S8704x1, .f32⟩
  | .hbm, ⟨35, _⟩ => ⟨S_, .f32⟩
  | .hbm, ⟨36, _⟩ => ⟨S8704x1, .f32⟩
  | .hbm, ⟨37, _⟩ => ⟨S8704x1, .f32⟩
  | .hbm, ⟨38, _⟩ => ⟨S8704x6144, .f32⟩
  | .hbm, ⟨39, _⟩ => ⟨S8704x6144, .f32⟩
  | .hbm, ⟨40, _⟩ => ⟨S_, .f32⟩
  | .hbm, ⟨41, _⟩ => ⟨S8704x1, .f32⟩
  | .hbm, ⟨42, _⟩ => ⟨S8704x1, .f32⟩
  | .hbm, ⟨43, _⟩ => ⟨S8704x1, .f32⟩
  | .hbm, ⟨44, _⟩ => ⟨S8704x6144, .f32⟩
  | .hbm, ⟨45, _⟩ => ⟨S8704x6144, .f32⟩
  | .hbm, ⟨46, _⟩ => ⟨S6144, .f32⟩
  | .hbm, ⟨47, _⟩ => ⟨S1x6144, .f32⟩
  | .hbm, ⟨48, _⟩ => ⟨S8704x6144, .f32⟩
  | .hbm, ⟨49, _⟩ => ⟨S8704x6144, .f32⟩
  | .hbm, ⟨50, _⟩ => ⟨S8192x6144, .f32⟩
  | .hbm, ⟨51, _⟩ => ⟨S1x8192x6144, .f32⟩
  | .hbm, ⟨52, _⟩ => ⟨S1x128x6144, .f32⟩
  | .hbm, ⟨53, _⟩ => ⟨S512x6144, .f32⟩
  | .hbm, ⟨54, _⟩ => ⟨S32x16x6144, .f32⟩
  | _, _ => ⟨S8704x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== RetIn.lean ====
abbrev S8704x2048 : Shape := ⟨2, ![8704, 2048]⟩
abbrev S2x2048x12288 : Shape := ⟨3, ![2, 2048, 12288]⟩
abbrev S8704x12288 : Shape := ⟨2, ![8704, 12288]⟩
abbrev S1088x2048 : Shape := ⟨2, ![1088, 2048]⟩
abbrev S1x2048x1024 : Shape := ⟨3, ![1, 2048, 1024]⟩
abbrev S1088x1024 : Shape := ⟨2, ![1088, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8704x2048, .bf16⟩
  | .hbm, ⟨1, _⟩ => ⟨S2x2048x12288, .f32⟩
  | .hbm, ⟨2, _⟩ => ⟨S8704x12288, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1088x1024, .f32⟩
  | .local _ .vmem, ⟨5, _⟩ => ⟨S1088x1024, .f32⟩
  | .local _ .vmem, ⟨6, _⟩ => ⟨S2048x1024, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RetInRefIdeal.lean ====
abbrev S8704x2048 : Shape := ⟨2, ![8704, 2048]⟩
abbrev S2x2048x12288 : Shape := ⟨3, ![2, 2048, 12288]⟩
abbrev S1x2048x12288 : Shape := ⟨3, ![1, 2048, 12288]⟩
abbrev S2048x12288 : Shape := ⟨2, ![2048, 12288]⟩
abbrev S8704x12288 : Shape := ⟨2, ![8704, 12288]⟩

abbrev nBuf : Space → Nat
  | .hbm => 6
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2x2048x12288, .f32⟩
  | .hbm, ⟨2, _⟩ => ⟨S8704x2048, .f32⟩
  | .hbm, ⟨3, _⟩ => ⟨S1x2048x12288, .f32⟩
  | .hbm, ⟨4, _⟩ => ⟨S2048x12288, .f32⟩
  | .hbm, ⟨5, _⟩ => ⟨S8704x12288, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GmlpIn.lean ====
abbrev S8704x2048 : Shape := ⟨2, ![8704, 2048]⟩
abbrev S1x2048x12288 : Shape := ⟨3, ![1, 2048, 12288]⟩
abbrev S8704x12288 : Shape := ⟨2, ![8704, 12288]⟩
abbrev S1088x2048 : Shape := ⟨2, ![1088, 2048]⟩
abbrev S1x2048x1024 : Shape := ⟨3, ![1, 2048, 1024]⟩
abbrev S1088x1024 : Shape := ⟨2, ![1088, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8704x2048, .bf16⟩
  | .hbm, ⟨1, _⟩ => ⟨S1x2048x12288, .f32⟩
  | .hbm, ⟨2, _⟩ => ⟨S8704x12288, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1088x1024, .f32⟩
  | .local _ .vmem, ⟨5, _⟩ => ⟨S1088x1024, .f32⟩
  | .local _ .vmem, ⟨6, _⟩ => ⟨S2048x1024, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GmlpInRefIdeal.lean ====
abbrev S8704x2048 : Shape := ⟨2, ![8704, 2048]⟩
abbrev S1x2048x12288 : Shape := ⟨3, ![1, 2048, 12288]⟩
abbrev S2048x12288 : Shape := ⟨2, ![2048, 12288]⟩
abbrev S8704x12288 : Shape := ⟨2, ![8704, 12288]⟩

abbrev nBuf : Space → Nat
  | .hbm => 5
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S1x2048x12288, .f32⟩
  | .hbm, ⟨2, _⟩ => ⟨S8704x2048, .f32⟩
  | .hbm, ⟨3, _⟩ => ⟨S2048x12288, .f32⟩
  | .hbm, ⟨4, _⟩ => ⟨S8704x12288, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnDown.lean ====
abbrev S8704x5504 : Shape := ⟨2, ![8704, 5504]⟩
abbrev S2x5504x2048 : Shape := ⟨3, ![2, 5504, 2048]⟩
abbrev S8704x2048 : Shape := ⟨2, ![8704, 2048]⟩
abbrev S544x5504 : Shape := ⟨2, ![544, 5504]⟩
abbrev S1x5504x512 : Shape := ⟨3, ![1, 5504, 512]⟩
abbrev S544x512 : Shape := ⟨2, ![544, 512]⟩
abbrev S5504x512 : Shape := ⟨2, ![5504, 512]⟩

abbrev nBuf : Space → Nat
  | .hbm => 4
  | .vmem => 9
  | .smem => 0
  | _ => 0

abbrev bufTy : (tb : Table) → Fin (tcTables nBuf tb) → BufTy
  | .hbm, ⟨0, _⟩ => ⟨S8704x5504, .bf16⟩
  | .hbm, ⟨1, _⟩ => ⟨S2x5504x2048, .f32⟩
  | .hbm, ⟨2, _⟩ => ⟨S8704x2048, .f32⟩
  | .hbm, ⟨3, _⟩ => ⟨S8704x2048, .f32⟩
  | .local _ .vmem, ⟨0, _⟩ => ⟨S544x5504, .bf16⟩
  | .local _ .vmem, ⟨1, _⟩ => ⟨S544x5504, .bf16⟩
  | .local _ .vmem, ⟨2, _⟩ => ⟨S1x5504x512, .f32⟩
  | .local _ .vmem, ⟨3, _⟩ => ⟨S1x5504x512, .f32⟩
  | .local _ .vmem, ⟨4, _⟩ => ⟨S544x512, .f32⟩
  | .local _ .vmem, ⟨5, _⟩ => ⟨S544x512, .f32⟩
  | .local _ .vmem, ⟨6, _⟩ => ⟨S544x512, .f32⟩
  | .local _ .vmem, ⟨7, _⟩ => ⟨S544x512, .f32⟩
  | .local _ .vmem, ⟨8, _⟩ => ⟨S5504x512, .bf16⟩
  | _, _ => ⟨S8704x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5504x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDownRefIdeal.lean ====
abbrev S8704x5504 : Shape := ⟨2, ![8704, 5504]⟩
abbrev S2x5504x2048 : Shape := ⟨3, ![2, 5504, 2048]⟩
abbrev S8704x2048 : Shape := ⟨2, ![8704, 2048]⟩
abbrev S1x5504x2048 : Shape := ⟨3, ![1, 5504, 2048]⟩
abbrev S5504x2048 : Shape := ⟨2, ![5504, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8704x5504, .bf16⟩
  | .hbm, ⟨1, _⟩ => ⟨S2x5504x2048, .f32⟩
  | .hbm, ⟨2, _⟩ => ⟨S8704x2048, .f32⟩
  | .hbm, ⟨3, _⟩ => ⟨S8704x5504, .f32⟩
  | .hbm, ⟨4, _⟩ => ⟨S1x5504x2048, .f32⟩
  | .hbm, ⟨5, _⟩ => ⟨S5504x2048, .f32⟩
  | .hbm, ⟨6, _⟩ => ⟨S8704x2048, .f32⟩
  | .hbm, ⟨7, _⟩ => ⟨S8704x2048, .f32⟩
  | _, _ => ⟨S8704x5504, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GmlpOut.lean ====
abbrev S8704x6144 : Shape := ⟨2, ![8704, 6144]⟩
abbrev S1x6144x2048 : Shape := ⟨3, ![1, 6144, 2048]⟩
abbrev S8704x2048 : Shape := ⟨2, ![8704, 2048]⟩
abbrev S544x6144 : Shape := ⟨2, ![544, 6144]⟩
abbrev S1x6144x512 : Shape := ⟨3, ![1, 6144, 512]⟩
abbrev S544x512 : Shape := ⟨2, ![544, 512]⟩
abbrev S6144x512 : Shape := ⟨2, ![6144, 512]⟩

abbrev nBuf : Space → Nat
  | .hbm => 4
  | .vmem => 9
  | .smem => 0
  | _ => 0

abbrev bufTy : (tb : Table) → Fin (tcTables nBuf tb) → BufTy
  | .hbm, ⟨0, _⟩ => ⟨S8704x6144, .bf16⟩
  | .hbm, ⟨1, _⟩ => ⟨S1x6144x2048, .f32⟩
  | .hbm, ⟨2, _⟩ => ⟨S8704x2048, .f32⟩
  | .hbm, ⟨3, _⟩ => ⟨S8704x2048, .f32⟩
  | .local _ .vmem, ⟨0, _⟩ => ⟨S544x6144, .bf16⟩
  | .local _ .vmem, ⟨1, _⟩ => ⟨S544x6144, .bf16⟩
  | .local _ .vmem, ⟨2, _⟩ => ⟨S1x6144x512, .f32⟩
  | .local _ .vmem, ⟨3, _⟩ => ⟨S1x6144x512, .f32⟩
  | .local _ .vmem, ⟨4, _⟩ => ⟨S544x512, .f32⟩
  | .local _ .vmem, ⟨5, _⟩ => ⟨S544x512, .f32⟩
  | .local _ .vmem, ⟨6, _⟩ => ⟨S544x512, .f32⟩
  | .local _ .vmem, ⟨7, _⟩ => ⟨S544x512, .f32⟩
  | .local _ .vmem, ⟨8, _⟩ => ⟨S6144x512, .bf16⟩
  | _, _ => ⟨S8704x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x6144x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GmlpOutRefIdeal.lean ====
abbrev S8704x6144 : Shape := ⟨2, ![8704, 6144]⟩
abbrev S1x6144x2048 : Shape := ⟨3, ![1, 6144, 2048]⟩
abbrev S8704x2048 : Shape := ⟨2, ![8704, 2048]⟩
abbrev S6144x2048 : Shape := ⟨2, ![6144, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8704x6144, .bf16⟩
  | .hbm, ⟨1, _⟩ => ⟨S1x6144x2048, .f32⟩
  | .hbm, ⟨2, _⟩ => ⟨S8704x2048, .f32⟩
  | .hbm, ⟨3, _⟩ => ⟨S8704x6144, .f32⟩
  | .hbm, ⟨4, _⟩ => ⟨S6144x2048, .f32⟩
  | .hbm, ⟨5, _⟩ => ⟨S8704x2048, .f32⟩
  | .hbm, ⟨6, _⟩ => ⟨S8704x2048, .f32⟩
  | _, _ => ⟨S8704x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== RetOut.lean ====
abbrev S8192x4096 : Shape := ⟨2, ![8192, 4096]⟩
abbrev S512x4096 : Shape := ⟨2, ![512, 4096]⟩
abbrev S2x4096x2048 : Shape := ⟨3, ![2, 4096, 2048]⟩
abbrev S8704x2048 : Shape := ⟨2, ![8704, 2048]⟩
abbrev S1x4096x512 : Shape := ⟨3, ![1, 4096, 512]⟩
abbrev S512x512 : Shape := ⟨2, ![512, 512]⟩
abbrev S4096x512 : Shape := ⟨2, ![4096, 512]⟩

abbrev nBuf : Space → Nat
  | .hbm => 5
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S512x4096, .bf16⟩
  | .hbm, ⟨2, _⟩ => ⟨S2x4096x2048, .f32⟩
  | .hbm, ⟨3, _⟩ => ⟨S8704x2048, .f32⟩
  | .hbm, ⟨4, _⟩ => ⟨S8704x2048, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S1x4096x512, .f32⟩
  | .local _ .vmem, ⟨5, _⟩ => ⟨S1x4096x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 17], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RetOutRefIdeal.lean ====
abbrev S8192x4096 : Shape := ⟨2, ![8192, 4096]⟩
abbrev S512x4096 : Shape := ⟨2, ![512, 4096]⟩
abbrev S2x4096x2048 : Shape := ⟨3, ![2, 4096, 2048]⟩
abbrev S8704x2048 : Shape := ⟨2, ![8704, 2048]⟩
abbrev S8704x4096 : Shape := ⟨2, ![8704, 4096]⟩
abbrev S1x4096x2048 : Shape := ⟨3, ![1, 4096, 2048]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S512x4096, .bf16⟩
  | .hbm, ⟨2, _⟩ => ⟨S2x4096x2048, .f32⟩
  | .hbm, ⟨3, _⟩ => ⟨S8704x2048, .f32⟩
  | .hbm, ⟨4, _⟩ => ⟨S8704x4096, .bf16⟩
  | .hbm, ⟨5, _⟩ => ⟨S8704x4096, .f32⟩
  | .hbm, ⟨6, _⟩ => ⟨S1x4096x2048, .f32⟩
  | .hbm, ⟨7, _⟩ => ⟨S4096x2048, .f32⟩
  | .hbm, ⟨8, _⟩ => ⟨S8704x2048, .f32⟩
  | .hbm, ⟨9, _⟩ => ⟨S8704x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== AttOut.lean ====
abbrev S8192x2048 : Shape := ⟨2, ![8192, 2048]⟩
abbrev S512x2048 : Shape := ⟨2, ![512, 2048]⟩
abbrev S1x2048x2048 : Shape := ⟨3, ![1, 2048, 2048]⟩
abbrev S8704x2048 : Shape := ⟨2, ![8704, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S1x2048x2048, .f32⟩
  | .hbm, ⟨3, _⟩ => ⟨S8704x2048, .f32⟩
  | .hbm, ⟨4, _⟩ => ⟨S8704x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x2048x1024, .f32⟩
  | .local _ .vmem, ⟨5, _⟩ => ⟨S1x2048x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttOutRefIdeal.lean ====
abbrev S8192x2048 : Shape := ⟨2, ![8192, 2048]⟩
abbrev S512x2048 : Shape := ⟨2, ![512, 2048]⟩
abbrev S1x2048x2048 : Shape := ⟨3, ![1, 2048, 2048]⟩
abbrev S8704x2048 : Shape := ⟨2, ![8704, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x2048, .bf16⟩
  | .hbm, ⟨2, _⟩ => ⟨S1x2048x2048, .f32⟩
  | .hbm, ⟨3, _⟩ => ⟨S8704x2048, .f32⟩
  | .hbm, ⟨4, _⟩ => ⟨S8704x2048, .bf16⟩
  | .hbm, ⟨5, _⟩ => ⟨S8704x2048, .f32⟩
  | .hbm, ⟨6, _⟩ => ⟨S2048x2048, .f32⟩
  | .hbm, ⟨7, _⟩ => ⟨S8704x2048, .f32⟩
  | .hbm, ⟨8, _⟩ => ⟨S8704x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Ret.lean ====
abbrev S8704x12288 : Shape := ⟨2, ![8704, 12288]⟩
abbrev S8704x128 : Shape := ⟨2, ![8704, 128]⟩
abbrev S8 : Shape := ⟨1, ![8]⟩
abbrev S2x32x8x256x512 : Shape := ⟨5, ![2, 32, 8, 256, 512]⟩
abbrev S1x32x8x256x512 : Shape := ⟨5, ![1, 32, 8, 256, 512]⟩
abbrev S512x4096 : Shape := ⟨2, ![512, 4096]⟩
abbrev S16x2048 : Shape := ⟨2, ![16, 2048]⟩
abbrev S16x4096 : Shape := ⟨2, ![16, 4096]⟩
abbrev S16x128 : Shape := ⟨2, ![16, 128]⟩
abbrev S1x1x8x256x512 : Shape := ⟨5, ![1, 1, 8, 256, 512]⟩
abbrev S2x1x8x256x512 : Shape := ⟨5, ![2, 1, 8, 256, 512]⟩
abbrev S8x256x512 : Shape := ⟨3, ![8, 256, 512]⟩
abbrev S16x16 : Shape := ⟨2, ![16, 16]⟩
abbrev S16x1 : Shape := ⟨2, ![16, 1]⟩
abbrev S1 : Shape := ⟨1, ![1]⟩
abbrev S16x256 : Shape := ⟨2, ![16, 256]⟩
abbrev S16x512 : Shape := ⟨2, ![16, 512]⟩
abbrev S1x1 : Shape := ⟨2, ![1, 1]⟩
abbrev S1x256x512 : Shape := ⟨3, ![1, 256, 512]⟩
abbrev S256x512 : Shape := ⟨2, ![256, 512]⟩
abbrev S1x1x1x256x512 : Shape := ⟨5, ![1, 1, 1, 256, 512]⟩
abbrev S16 : Shape := ⟨1, ![16]⟩
abbrev S1x8x256x512 : Shape := ⟨4, ![1, 8, 256, 512]⟩

abbrev nBuf : Space → Nat
  | .hbm => 8
  | .vmem => 21
  | .smem => 1
  | _ => 0

abbrev bufTy : (tb : Table) → Fin (tcTables nBuf tb) → BufTy
  | .hbm, ⟨0, _⟩ => ⟨S8704x12288, .f32⟩
  | .hbm, ⟨1, _⟩ => ⟨S8704x128, .f32⟩
  | .hbm, ⟨2, _⟩ => ⟨S8704x128, .f32⟩
  | .hbm, ⟨3, _⟩ => ⟨S8, .f32⟩
  | .hbm, ⟨4, _⟩ => ⟨S2x32x8x256x512, .f32⟩
  | .hbm, ⟨5, _⟩ => ⟨S1x32x8x256x512, .f32⟩
  | .hbm, ⟨6, _⟩ => ⟨S512x4096, .bf16⟩
  | .hbm, ⟨7, _⟩ => ⟨S2x32x8x256x512, .f32⟩
  | .local _ .vmem, ⟨0, _⟩ => ⟨S16x2048, .f32⟩
  | .local _ .vmem, ⟨1, _⟩ => ⟨S16x2048, .f32⟩
  | .local _ .vmem, ⟨2, _⟩ => ⟨S16x2048, .f32⟩
  | .local _ .vmem, ⟨3, _⟩ => ⟨S16x2048, .f32⟩
  | .local _ .vmem, ⟨4, _⟩ => ⟨S16x4096, .f32⟩
  | .local _ .vmem, ⟨5, _⟩ => ⟨S16x4096, .f32⟩
  | .local _ .vmem, ⟨6, _⟩ => ⟨S16x4096, .f32⟩
  | .local _ .vmem, ⟨7, _⟩ => ⟨S16x4096, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S1x1x8x256x512, .f32⟩
  | .local _ .vmem, ⟨13, _⟩ => ⟨S1x1x8x256x512, .f32⟩
  | .local _ .vmem, ⟨14, _⟩ => ⟨S1x1x8x256x512, .f32⟩
  | .local _ .vmem, ⟨15, _⟩ => ⟨S1x1x8x256x512, .f32⟩
  | .local _ .vmem, ⟨16, _⟩ => ⟨S16x4096, .bf16⟩
  | .local _ .vmem, ⟨17, _⟩ => ⟨S16x4096, .bf16⟩
  | .local _ .vmem, ⟨18, _⟩ => ⟨S2x1x8x256x512, .f32⟩
  | .local _ .vmem, ⟨19, _⟩ => ⟨S2x1x8x256x512, .f32⟩
  | .local _ .vmem, ⟨20, _⟩ => ⟨S8x256x512, .f32⟩
  | .local _ .smem, ⟨0, _⟩ => ⟨S8, .f32⟩
  | _, _ => ⟨S8704x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![32, 1, 1], ![false, false, false]⟩

def k0_off1 (i : grid0.Coords) (c0_i32_4 : BitVec 32) : Fin 1 → Nat :=
  let arg1 : BitVec 32 := BitVec.ofNat 32 (i 1).val
  let c8_i32 : BitVec 32 := 8#32
  let v13 : BitVec 32 := Scalar.muli arg1 c8_i32
  let v14 : BitVec 32 := Scalar.addi v13 c0_i32_4
  let v15 : Index := Scalar.indexCast v14
  ![v15.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg2
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg2
  let c1_i32_0 : BitVec 32 := 1#32
  let v3 : BitVec 32 := Scalar.addi c1_i32_0 arg1
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg2
  let c1_i32_0 : BitVec 32 := 1#32
  let v3 : BitVec 32 := Scalar.addi c1_i32_0 arg1
  let c0_i32 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg2
  let c2_i32 : BitVec 32 := 2#32
  let v3 : BitVec 32 := Scalar.addi c2_i32 arg1
  let c0_i32 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg2
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg2
  let c0_i32 : BitVec 32 := 0#32
  let c0_i32_0 : BitVec 32 := 0#32
  ![v2.toNat, c0_i32.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, arg0.toNat, arg1.toNat, c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_10 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S16x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x1x8x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x8x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S16x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S2x1x8x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== RetRefIdeal.lean ====
abbrev S8704x12288 : Shape := ⟨2, ![8704, 12288]⟩
abbrev S8704x128 : Shape := ⟨2, ![8704, 128]⟩
abbrev S8 : Shape := ⟨1, ![8]⟩
abbrev S2x32x8x256x512 : Shape := ⟨5, ![2, 32, 8, 256, 512]⟩
abbrev S1x32x8x256x512 : Shape := ⟨5, ![1, 32, 8, 256, 512]⟩
abbrev S512x2048 : Shape := ⟨2, ![512, 2048]⟩
abbrev S32x16x8x256 : Shape := ⟨4, ![32, 16, 8, 256]⟩
abbrev S512x4096 : Shape := ⟨2, ![512, 4096]⟩
abbrev S32x16x8x512 : Shape := ⟨4, ![32, 16, 8, 512]⟩
abbrev S512x128 : Shape := ⟨2, ![512, 128]⟩
abbrev S32x16x1x128 : Shape := ⟨4, ![32, 16, 1, 128]⟩
abbrev S32x16x8x128 : Shape := ⟨4, ![32, 16, 8, 128]⟩
abbrev S_ : Shape := ⟨0, ![]⟩
abbrev S16 : Shape := ⟨1, ![16]⟩
abbrev S16x1 : Shape := ⟨2, ![16, 1]⟩
abbrev S1x8 : Shape := ⟨2, ![1, 8]⟩
abbrev S16x8 : Shape := ⟨2, ![16, 8]⟩
abbrev S32x8x256x512 : Shape := ⟨4, ![32, 8, 256, 512]⟩
abbrev S1x8x1x1 : Shape := ⟨4, ![1, 8, 1, 1]⟩
abbrev S1x16x8x1 : Shape := ⟨4, ![1, 16, 8, 1]⟩

abbrev nBuf : Space → Nat
  | .hbm => 58
  | .vmem => 0
  | .smem => 0
  | _ => 0

abbrev bufTy : (tb : Table) → Fin (tcTables nBuf tb) → BufTy
  | .hbm, ⟨0, _⟩ => ⟨S8704x12288, .f32⟩
  | .hbm, ⟨1, _⟩ => ⟨S8704x128, .f32⟩
  | .hbm, ⟨2, _⟩ => ⟨S8704x128, .f32⟩
  | .hbm, ⟨3, _⟩ => ⟨S8, .f32⟩
  | .hbm, ⟨4, _⟩ => ⟨S2x32x8x256x512, .f32⟩
  | .hbm, ⟨5, _⟩ => ⟨S1x32x8x256x512, .f32⟩
  | .hbm, ⟨6, _⟩ => ⟨S512x2048, .f32⟩
  | .hbm, ⟨7, _⟩ => ⟨S32x16x8x256, .f32⟩
  | .hbm, ⟨8, _⟩ => ⟨S512x4096, .f32⟩
  | .hbm, ⟨9, _⟩ => ⟨S32x16x8x512, .f32⟩
  | .hbm, ⟨10, _⟩ => ⟨S512x128, .f32⟩
  | .hbm, ⟨11, _⟩ => ⟨S32x16x1x128, .f32⟩
  | .hbm, ⟨12, _⟩ => ⟨S512x128, .f32⟩
  | .hbm, ⟨13, _⟩ => ⟨S32x16x1x128, .f32⟩
  | .hbm, ⟨14, _⟩ => ⟨S32x16x8x128, .f32⟩
  | .hbm, ⟨15, _⟩ => ⟨S32x16x8x128, .f32⟩
  | .hbm, ⟨16, _⟩ => ⟨S32x16x8x128, .f32⟩
  | .hbm, ⟨17, _⟩ => ⟨S32x16x8x128, .f32⟩
  | .hbm, ⟨18, _⟩ => ⟨S32x16x8x128, .f32⟩
  | .hbm, ⟨19, _⟩ => ⟨S32x16x8x128, .f32⟩
  | .hbm, ⟨20, _⟩ => ⟨S32x16x8x128, .f32⟩
  | .hbm, ⟨21, _⟩ => ⟨S32x16x8x128, .f32⟩
  | .hbm, ⟨22, _⟩ => ⟨S32x16x8x128, .f32⟩
  | .hbm, ⟨23, _⟩ => ⟨S32x16x8x128, .f32⟩
  | .hbm, ⟨24, _⟩ => ⟨S32x16x8x128, .f32⟩
  | .hbm, ⟨25, _⟩ => ⟨S32x16x8x128, .f32⟩
  | .hbm, ⟨26, _⟩ => ⟨S32x16x8x256, .f32⟩
  | .hbm, ⟨27, _⟩ => ⟨S_, .f32⟩
  | .hbm, ⟨28, _⟩ => ⟨S32x16x8x256, .f32⟩
  | .hbm, ⟨29, _⟩ => ⟨S32x16x8x256, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S16x1, .f32⟩
  | .hbm, ⟨35, _⟩ => ⟨S1x8, .f32⟩
  | .hbm, ⟨36, _⟩ => ⟨S16x8, .f32⟩
  | .hbm, ⟨37, _⟩ => ⟨S16x8, .f32⟩
  | .hbm, ⟨38, _⟩ => ⟨S16x8, .f32⟩
  | .hbm, ⟨39, _⟩ => ⟨S16x8, .f32⟩
  | .hbm, ⟨40, _⟩ => ⟨S1x32x8x256x512, .f32⟩
  | .hbm, ⟨41, _⟩ => ⟨S32x8x256x512, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S8, .f32⟩
  | .hbm, ⟨46, _⟩ => ⟨S1x8x1x1, .f32⟩
  | .hbm, ⟨47, _⟩ => ⟨S32x8x256x512, .f32⟩
  | .hbm, ⟨48, _⟩ => ⟨S32x8x256x512, .f32⟩
  | .hbm, ⟨49, _⟩ => ⟨S1x16x8x1, .f32⟩
  | .hbm, ⟨50, _⟩ => ⟨S32x16x8x256, .f32⟩
  | .hbm, ⟨51, _⟩ => ⟨S32x16x8x256, .f32⟩
  | .hbm, ⟨52, _⟩ => ⟨S32x8x256x512, .f32⟩
  | .hbm, ⟨53, _⟩ => ⟨S32x8x256x512, .f32⟩
  | .hbm, ⟨54, _⟩ => ⟨S32x8x256x512, .f32⟩
  | .hbm, ⟨55, _⟩ => ⟨S1x32x8x256x512, .f32⟩
  | .hbm, ⟨56, _⟩ => ⟨S1x32x8x256x512, .f32⟩
  | .hbm, ⟨57, _⟩ => ⟨S2x32x8x256x512, .f32⟩
  | _, _ => ⟨S8704x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_1 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩

abbrev nD : Nat := 1
abbrev τ : Topo := Topo.v7x

variable {F : FTy → Type} [FloatOps F]
-- ==== Proof.Att.Trip.lean ====
/- What one trip of the attention loop writes: one block of 256 rows of the result. -/
module

public import proofs.«01_k».proof.Proof.Gen.KernelIdeal.Value
public import Idealize.ShloMosaic.Lib.Pipeline.ValueKit

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Tactic

variable {F : FTy → Type} [FloatOps F] [Named F]

/-- One trip's pieces: the block of rows `256 k …` at the trip's payload over the rows it loads. -/
theorem tripL_eq (𝒱 : Variants) (c : Dev nD) (bd : Option 𝒱.V) (i : grid0.Coords) (arg1 : Memref sig .tc .vmem S8192x128 .f32) (harg1 : arg1.IsWhole) (arg2 : Memref sig .tc .vmem S8192x128 .f32) (harg2 : arg2.IsWhole) (arg3 : Memref sig .tc .vmem S8192x128 .f32) (harg3 : arg3.IsWhole) (arg4 : Memref sig .tc .vmem S1x256x768 .f32) (harg4 : arg4.IsWhole) (arg5 : Memref sig .tc .vmem S8192x128 .bf16) (harg5 : arg5.IsWhole) (arg6 : Memref sig .tc .vmem S8704x128 .bf16) (harg6 : arg6.IsWhole) (arg7 : Memref sig .tc .vmem S8704x256 .bf16) (harg7 : arg7.IsWhole) (v23 : FVec F S256x768 .f32) (v25 : IVec S256x768 32) (v27 : IVec S256x768 32) (v29 : IVec S256x768 32) (v30 : IVec S256x768 1) (c8_i32 : BitVec 32) (X_arg1 : BufTy.Contents (Elt F) arg1.view.ty) (X_arg6 : BufTy.Contents (Elt F) arg6.view.ty) (X_arg7 : BufTy.Contents (Elt F) arg7.view.ty) (k : Fin k0_t1_loop.trips) :
    tripL_k0_t1 (F := F) 𝒱 c bd i arg1 harg1 arg2 harg2 arg3 harg3 arg4 harg4 arg5 harg5 arg6 harg6 arg7 harg7 v23 v25 v27 v29 v30 c8_i32 X_arg1 X_arg6 X_arg7 k
      = [⟨Rect.unit (s := S8192x128) (k0_off1 k) S256x128.size (k0_off1_inb k),
          k0_pay1 v23 v25 v27 v29 v30 c8_i32 k
            (View.readAt (Elt F) arg1.view (Rect.unit (s := S8192x128) (k0_off1 k) S256x128.size (k0_off1_inb k)).toLoadRect X_arg1)
            (View.readAt (Elt F) arg6.view (Rect.unit (s := S8704x128) (k0_off2 k) S768x128.size (k0_off2_inb k)).toLoadRect X_arg6)
            (View.readAt (Elt F) arg7.view (Rect.unit (s := S8704x256) (k0_off3 k) S768x256.size (k0_off3_inb k)).toLoadRect X_arg7)⟩] := by
  unfold tripL_k0_t1 trip_k0_t1
  rfl

end Cert.KernelIdeal.Att
-- ==== Proof.Att.Spec.lean ====
/- The plain functions both sides of the attention are read as. -/
module

public import Idealize.ShloMosaic.Lib.Pipeline.ValueKit
public import Idealize.ShloMosaic.Lib.Pointwise

@[expose] public section

noncomputable section

namespace Cert.Att

open Idealize.ShloMosaic

/-- A matrix as a function of two numbers, zero outside. -/
def at2 {m n : Nat} (x : (⟨2, ![m, n]⟩ : Shape).Idx → EReal) (a b : Nat) : EReal :=
  if h : a < m ∧ b < n then x (ix2 ⟨a, h.1⟩ ⟨b, h.2⟩) else 0

theorem at2_eq {m n : Nat} (x : (⟨2, ![m, n]⟩ : Shape).Idx → EReal) (i : (⟨2, ![m, n]⟩ : Shape).Idx) {a b : Nat}
    (ha : (i 0).val = a) (hb : (i 1).val = b) : x i = at2 x a b := by
  subst ha hb
  unfold at2
  rw [dif_pos ⟨(i 0).isLt, (i 1).isLt⟩]
  congr 1
  funext k
  match k with
  | ⟨0, _⟩ => rfl
  | ⟨1, _⟩ => rfl

theorem at2_mk {m n : Nat} (x : (⟨2, ![m, n]⟩ : Shape).Idx → EReal) {a b : Nat} (ha : a < m) (hb : b < n) :
    at2 x a b = x (ix2 ⟨a, ha⟩ ⟨b, hb⟩) := dif_pos ⟨ha, hb⟩

/-- Row `r` of a band: 512 rows of zeros, then the rows of the columns starting at `off`. -/
def band (x : (⟨2, ![8704, 6144]⟩ : Shape).Idx → EReal) (off r col : Nat) : EReal :=
  if r < 512 then 0 else at2 x (r - 512) (off + col)

/-- The relative position bias at query `i` of a block and key `j` of its window. -/
def biasAt (t : (⟨2, ![257, 16]⟩ : Shape).Idx → EReal) (h i j : Nat) : EReal :=
  at2 t (min (640 + i - j) 256) h

/-- The scaled product of query row `r` and band row `w` in head `h`. -/
def dotAt (x : (⟨2, ![8704, 6144]⟩ : Shape).Idx → EReal) (h r w : Nat) : EReal :=
  (∑ d : Fin 128, at2 x r (128 * h + d.val) * band x 2048 w (128 * h + d.val)) * Ideal.ofBits .f32 0x3DB504F3#32

/-- The score of key `k` of chunk `c`'s band for query `i` of the chunk. -/
def scoreR (x : (⟨2, ![8704, 6144]⟩ : Shape).Idx → EReal) (t : (⟨2, ![257, 16]⟩ : Shape).Idx → EReal)
    (c h i k : Nat) : EReal :=
  if 512 ≤ 64 * c + k then dotAt x h (64 * c + i) (64 * c + k) + biasAt t h i k else ⊥

/-- The maximum over a finite row, as both programs take it. -/
def rowMax {n : Nat} (s : Fin n → EReal) : EReal := (Finset.univ : Finset (Fin n)).fold max ⊥ s

/-- The reference's attention: the weights are divided before the values are summed. -/
def attR (x : (⟨2, ![8704, 6144]⟩ : Shape).Idx → EReal) (t : (⟨2, ![257, 16]⟩ : Shape).Idx → EReal)
    (c h i d : Nat) : EReal :=
  ∑ k : Fin 576, band x 4096 (64 * c + k.val) (128 * h + d) *
    Ideal.div (Ideal.exp (scoreR x t c h i k.val - rowMax fun k : Fin 576 => scoreR x t c h i k.val))
      (∑ l : Fin 576, Ideal.exp (scoreR x t c h i l.val - rowMax fun k : Fin 576 => scoreR x t c h i k.val))

/-- Whether key `j` of the window of block `n` is seen by query `i` of the block. -/
def seen (n i j : Nat) : Prop := i / 64 ≤ j / 64 ∧ j / 64 ≤ i / 64 + 8 ∧ 512 ≤ 256 * n + j

instance (n i j : Nat) : Decidable (seen n i j) := by unfold seen; infer_instance

/-- The score of key `j` of the window of block `n` for query `i` of the block. -/
def scoreK (x : (⟨2, ![8704, 6144]⟩ : Shape).Idx → EReal) (t : (⟨2, ![257, 16]⟩ : Shape).Idx → EReal)
    (n h i j : Nat) : EReal :=
  if seen n i j then dotAt x h (256 * n + i) (256 * n + j) + biasAt t h i j else ⊥

/-- The kernel's attention: the weighted values are summed before the division. -/
def attK (x : (⟨2, ![8704, 6144]⟩ : Shape).Idx → EReal) (t : (⟨2, ![257, 16]⟩ : Shape).Idx → EReal)
    (n h i d : Nat) : EReal :=
  Ideal.div (∑ j : Fin 768, Ideal.exp (scoreK x t n h i j.val - rowMax fun k : Fin 768 => scoreK x t n h i k.val)
      * band x 4096 (256 * n + j.val) (128 * h + d))
    (∑ j : Fin 768, Ideal.exp (scoreK x t n h i j.val - rowMax fun k : Fin 768 => scoreK x t n h i k.val))

end Cert.Att
-- ==== Proof.Att.Pay.lean ====
/- What one trip of the attention loop computes, index by index. -/
module

public import proofs.«01_k».proof.Proof.Gen.KernelIdeal.Value
public import Idealize.ShloMosaic.Lib.Pipeline.ValueKit
public import Idealize.ShloMosaic.Lib.Pointwise
public import Idealize.ShloMosaic.Lib.WordCmp
public import Idealize.ShloMosaic.Lib.StableHlo.Predicate
public import proofs.«01_k».proof.Proof.Att.Spec

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Tactic Cert.Att

theorem ofBits_bot : Ideal.ofBits .f32 0xFF800000#32 = ⊥ := by simp [Ideal.ofBits, Ideal.ieee]

/-- Dividing a small position by 64, on words. -/
theorem shr6 (a : Nat) (ha : a < 768) :
    IntOp.shrsi .vector (BitVec.ofNat 32 a) 6#32 = BitVec.ofNat 32 (a / 64) := by
  have h : ∀ a : Fin 768, IntOp.shrsi .vector (BitVec.ofNat 32 a.val) 6#32 = BitVec.ofNat 32 (a.val / 64) := by decide +kernel
  exact h ⟨a, ha⟩

theorem addi8 (a : Nat) : IntOp.addi (BitVec.ofNat 32 a) 8#32 = BitVec.ofNat 32 (a + 8) := (BitVec.ofNat_add _ _).symm

/-- The first row a block's window may read, on words. -/
theorem first_row (k : Fin k0_t1_loop.trips) (x : Nat) (hx : x < 768) :
    IntOp.cmpi .sge (BitVec.ofNat 32 x) (Scalar.subi 512#32 (Scalar.muli (Scf.iv 0#32 1#32 k) 256#32))
      = BitVec.ofBool (decide (512 ≤ 256 * k.val + x)) := by
  have hk : ∀ k : Fin 32, (Scalar.subi 512#32 (Scalar.muli (Scf.iv 0#32 1#32 k.val) 256#32)).toInt = 512 - 256 * (k.val : Int) := by
    decide +kernel
  have hk' := hk ⟨k.val, k.isLt⟩
  rw [WordCmp.cmpi_sge_eq, hk', StableHlo.Predicate.toInt_ofNat_small _ (by omega)]
  congr 1
  exact decide_eq_decide.mpr (by dsimp only; omega)

/-- The mask's word. -/
theorem mask_word (k : Fin k0_t1_loop.trips) (i x : Nat) (hi : i < 256) (hx : x < 768) :
    IntOp.andi (IntOp.andi
        (IntOp.cmpi .sge (IntOp.shrsi .vector (BitVec.ofNat 32 x) 6#32) (IntOp.shrsi .vector (BitVec.ofNat 32 i) 6#32))
        (IntOp.cmpi .sle (IntOp.shrsi .vector (BitVec.ofNat 32 x) 6#32)
          (IntOp.addi (IntOp.shrsi .vector (BitVec.ofNat 32 i) 6#32) 8#32)))
      (IntOp.cmpi .sge (BitVec.ofNat 32 x) (Scalar.subi 512#32 (Scalar.muli (Scf.iv 0#32 1#32 k) 256#32)))
      = if seen k.val i x then 1#1 else 0#1 := by
  rw [first_row k x hx, shr6 x hx, shr6 i (by omega), addi8, WordCmp.cmpi_sge_ofNat (by omega) (by omega),
    WordCmp.cmpi_sle_ofNat (by omega) (by omega)]
  unfold seen
  by_cases h1 : i / 64 ≤ x / 64 <;> by_cases h2 : x / 64 ≤ i / 64 + 8 <;> by_cases h3 : 512 ≤ 256 * k.val + x <;>
    simp [h1, h2, h3] <;> rfl

/-- The score a trip gives key `j` for query `i`: the scaled product plus the bias where the key is seen. -/
def trScore (b : FVec Ideal S256x768 .f32) (k : Nat) (q : Vec Ideal S256x128 .f32) (kw : Vec Ideal S768x128 .bf16)
    (i : Fin 256) (j : Fin 768) : EReal :=
  if seen k i.val j.val then (∑ d : Fin 128, q (ix2 i d) * kw (ix2 j d)) * Ideal.ofBits .f32 0x3DB504F3#32 + b (ix2 i j) else ⊥

/-- A trip's block of the result. -/
theorem pay1_apply (b : FVec Ideal S256x768 .f32) (k : Fin k0_t1_loop.trips) (q : Vec Ideal S256x128 .f32)
    (kw : Vec Ideal S768x128 .bf16) (vw : Vec Ideal S768x256 .bf16) (y : S256x128.Idx) :
    k0_pay1 (F := Ideal) b (iota Kind.tc S256x768 32 [1] iota_S256x768_d1_w32) k0_pay8 k0_pay9 k0_pay10 8#32 k q kw vw y
      = Ideal.div (∑ j : Fin 768, Ideal.exp (trScore b k.val q kw (y 0) j - rowMax (trScore b k.val q kw (y 0)))
            * vw (ix2 j ⟨(y 1).val, Nat.lt_trans (y 1).isLt (by decide)⟩))
          (∑ j : Fin 768, Ideal.exp (trScore b k.val q kw (y 0) j - rowMax (trScore b k.val q kw (y 0)))
            * vw (ix2 j ⟨128, by decide⟩)) := by
  have hs : trScore b k.val q kw (y 0) = fun j => Scalar.select (if seen k.val (y 0).val j.val then 1#1 else 0#1)
      ((∑ d : Fin 128, q (ix2 (y 0) d) * kw (ix2 j d)) * Ideal.ofBits .f32 0x3DB504F3#32 + b (ix2 (y 0) j)) ⊥ := by
    funext j
    unfold trScore
    by_cases h : seen k.val (y 0).val j.val
    · simp only [if_pos h]; rfl
    · simp only [if_neg h]; rfl
  have hm : Named.named (F := Ideal) (φ := .f32) κ "mask" 0xF149F2CA#32 = (⊥ : EReal) :=
    IdealRules.named_const.ideal_named_scalar κ "mask" _ _ rfl
  rw [hs]
  unfold rowMax
  unfold_payloads
  pointwise
  simp only [fun x : Fin 768 => mask_word k (y 0).val x.val (y 0).isLt x.isLt, hm, ofBits_bot]

end Cert.KernelIdeal.Att
-- ==== Proof.Att.Loop.lean ====
/- What the attention's loop over query blocks leaves in the result block. -/
module

public import proofs.«01_k».proof.Proof.Att.Trip
public import proofs.«01_k».proof.Proof.Att.Pay

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Tactic Cert.Att

variable {F : FTy → Type} [FloatOps F] [Named F]

/-- After `n` trips the rows below `256 n` hold `G`, when every trip's payload is the block of `G` its rectangle names. -/
theorem loop_canon (𝒱 : Variants) (c : Dev nD) (bd : Option 𝒱.V) (i : grid0.Coords) (arg1 : Memref sig .tc .vmem S8192x128 .f32) (harg1 : arg1.IsWhole) (arg2 : Memref sig .tc .vmem S8192x128 .f32) (harg2 : arg2.IsWhole) (arg3 : Memref sig .tc .vmem S8192x128 .f32) (harg3 : arg3.IsWhole) (arg4 : Memref sig .tc .vmem S1x256x768 .f32) (harg4 : arg4.IsWhole) (arg5 : Memref sig .tc .vmem S8192x128 .bf16) (harg5 : arg5.IsWhole) (arg6 : Memref sig .tc .vmem S8704x128 .bf16) (harg6 : arg6.IsWhole) (arg7 : Memref sig .tc .vmem S8704x256 .bf16) (harg7 : arg7.IsWhole) (v23 : FVec F S256x768 .f32) (v25 : IVec S256x768 32) (v27 : IVec S256x768 32) (v29 : IVec S256x768 32) (v30 : IVec S256x768 1) (c8_i32 : BitVec 32) (X_arg1 : BufTy.Contents (Elt F) arg1.view.ty) (X_arg6 : BufTy.Contents (Elt F) arg6.view.ty) (X_arg7 : BufTy.Contents (Elt F) arg7.view.ty)
    (G : S8192x128.Idx → Elt F .bf16)
    (hG : ∀ (k : Fin k0_t1_loop.trips) (x : S256x128.Idx), k0_pay1 v23 v25 v27 v29 v30 c8_i32 k
            (View.readAt (Elt F) arg1.view (Rect.unit (s := S8192x128) (k0_off1 k) S256x128.size (k0_off1_inb k)).toLoadRect X_arg1)
            (View.readAt (Elt F) arg6.view (Rect.unit (s := S8704x128) (k0_off2 k) S768x128.size (k0_off2_inb k)).toLoadRect X_arg6)
            (View.readAt (Elt F) arg7.view (Rect.unit (s := S8704x256) (k0_off3 k) S768x256.size (k0_off3_inb k)).toLoadRect X_arg7) x
          = G ((Rect.unit (s := S8192x128) (k0_off1 k) S256x128.size (k0_off1_inb k)).emb x)) :
    ∀ n : Nat, n ≤ k0_t1_loop.trips → ∀ y : S8192x128.Idx, (y 0).val < 256 * n →
      View.canon (pb_k0_t1 (F := F) 𝒱 c bd i arg1 harg1 arg2 harg2 arg3 harg3 arg4 harg4 arg5 harg5 arg6 harg6 arg7 harg7 v23 v25 v27 v29 v30 c8_i32 X_arg1 X_arg6 X_arg7 n) y = G y := by
  intro n
  induction n with
  | zero => intro _ y hy; exact absurd hy (by omega)
  | succ n ih =>
    intro hn' y hy
    have hn : n < k0_t1_loop.trips := Nat.lt_of_succ_le hn'
    have es := pb_k0_t1_succ (F := F) 𝒱 c bd i arg1 harg1 arg2 harg2 arg3 harg3 arg4 harg4 arg5 harg5 arg6 harg6 arg7 harg7 v23 v25 v27 v29 v30 c8_i32 X_arg1 X_arg6 X_arg7 ⟨n, hn⟩
    rw [tripL_eq, List.singleton_append] at es
    rw [show pb_k0_t1 (F := F) 𝒱 c bd i arg1 harg1 arg2 harg2 arg3 harg3 arg4 harg4 arg5 harg5 arg6 harg6 arg7 harg7 v23 v25 v27 v29 v30 c8_i32 X_arg1 X_arg6 X_arg7 (n + 1) = _ from es]
    by_cases hm : y ∈ (Rect.unit (s := S8192x128) (k0_off1 ⟨n, hn⟩) S256x128.size (k0_off1_inb ⟨n, hn⟩)).set
    · obtain ⟨x, hx⟩ := (Rect.unit (s := S8192x128) (k0_off1 ⟨n, hn⟩) S256x128.size (k0_off1_inb ⟨n, hn⟩)).exists_idx_of_mem hm
      rw [← hx]
      exact (View.canon_cons_emb _ _ _ x).trans (hG ⟨n, hn⟩ x)
    · refine (View.canon_cons_of_not_mem _ _ (y := y) ?_).trans ?_
      · exact hm
      refine ih (Nat.le_of_lt hn) y ?_
      by_contra hge
      refine hm ?_
      have h1 : (y 1).val < 128 := (y 1).isLt
      have e : y = (Rect.unit (s := S8192x128) (k0_off1 ⟨n, hn⟩) S256x128.size (k0_off1_inb ⟨n, hn⟩)).emb (ix2 ⟨(y 0).val - 256 * n, by omega⟩ ⟨(y 1).val, h1⟩) := by
        funext a
        refine Fin.ext ?_
        match a with
        | ⟨0, _⟩ =>
          show (y 0).val = k0_off1 ⟨n, hn⟩ 0 + 1 * ((y 0).val - 256 * n)
          rw [k0_off1_eq]
          show (y 0).val = 256 * n + _
          omega
        | ⟨1, _⟩ =>
          show (y 1).val = k0_off1 ⟨n, hn⟩ 1 + 1 * (y 1).val
          rw [k0_off1_eq]
          show (y 1).val = 0 + _
          omega
      rw [e, ← Rect.map_emb_univ]
      exact Finset.mem_map_of_mem _ (Finset.mem_univ _)

end Cert.KernelIdeal.Att
-- ==== Proof.Att.Block.lean ====
/- What one grid point leaves in the result block: the attention of one head. -/
module

public import proofs.«01_k».proof.Proof.Att.Loop

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Tactic Cert.Att

/-- A block of 8192 rows behind 512 rows of zeros. -/
def padRows (w : S8192x128.Idx → EReal) (r d : Nat) : EReal := if r < 512 then 0 else at2 w (r - 512) d

theorem pay2_apply (x : S512x128.Idx) : k0_pay2 (F := Ideal) x = (0 : EReal) := by
  unfold_payloads
  pointwise
theorem pay3_apply (x : S512x128.Idx) : k0_pay3 (F := Ideal) x = (0 : EReal) := by
  unfold_payloads
  pointwise
theorem pay4_apply (w : Vec Ideal S8192x128 .f32) (x : S8192x128.Idx) : k0_pay4 (F := Ideal) w x = w x := by
  unfold_payloads
  pointwise
theorem pay5_apply (w : Vec Ideal S8192x128 .f32) (x : S8192x128.Idx) : k0_pay5 (F := Ideal) w x = w x := by
  unfold_payloads
  pointwise
theorem pay6_apply (x : S8704x128.Idx) : k0_pay6 (F := Ideal) x = (1 : EReal) := by
  unfold_payloads
  pointwise
theorem pay7_apply (w : Vec Ideal S1x256x768 .f32) (x : S256x768.Idx) : k0_pay7 (F := Ideal) w x = w (ix3 (0 : Fin 1) (x 0) (x 1)) := by
  unfold_payloads
  pointwise

/-- The padded keys. -/
theorem keys_apply (w : Vec Ideal S8192x128 .f32) (z : S8704x128.Idx) :
    View.canon (Val := Elt Ideal) (s := S8704x128) (e := .bf16) [⟨Rect.unit (s := S8704x128) ![512, 0] S8192x128.size inb_S8704x128_S8192x128_512_0, k0_pay4 (F := Ideal) w⟩,
      ⟨Rect.unit (s := S8704x128) ![0, 0] S512x128.size inb_S8704x128_S512x128_0_0, k0_pay2 (F := Ideal)⟩] z
      = padRows w (z 0).val (z 1).val := by
  refine View.canon_apply_of_pieces (Val := Elt Ideal) (S := S8704x128) (e := .bf16) (fun z => (padRows w (z 0).val (z 1).val : EReal)) _ ?_ z ?_
  · intro p hp x
    simp only [List.mem_cons, List.not_mem_nil, or_false] at hp
    obtain rfl | rfl := hp
    · refine (pay4_apply w x).trans (Eq.trans ?_ (congrArg₂ (padRows w) (show 512 + 1 * (x 0).val = _ from rfl) (show 0 + 1 * (x 1).val = _ from rfl)))
      rw [padRows, if_neg (by omega)]
      exact at2_eq w x (by omega) (by omega)
    · refine (pay2_apply x).trans (Eq.trans ?_ (congrArg₂ (padRows w) (show 0 + 1 * (x 0).val = _ from rfl) (show 0 + 1 * (x 1).val = _ from rfl)))
      have h0 := (x 0).isLt
      change (x 0).val < 512 at h0
      rw [padRows, if_pos (by omega)]
  · by_cases h : (z 0).val < 512
    · refine ⟨_, List.mem_cons_of_mem _ List.mem_cons_self, (Rect.mem_set_unit (inb := inb_S8704x128_S512x128_0_0)).mpr fun a => ?_⟩
      match a with
      | ⟨0, _⟩ => exact ⟨Nat.zero_le _, by change (z 0).val < 0 + 512; omega⟩
      | ⟨1, _⟩ => exact ⟨Nat.zero_le _, by change (z 1).val < 0 + 128; have := (z 1).isLt; change _ < 128 at this; omega⟩
    · refine ⟨_, List.mem_cons_self, (Rect.mem_set_unit (inb := inb_S8704x128_S8192x128_512_0)).mpr fun a => ?_⟩
      match a with
      | ⟨0, _⟩ => exact ⟨by change 512 ≤ (z 0).val; omega, by change (z 0).val < 512 + 8192; have := (z 0).isLt; change _ < 8704 at this; omega⟩
      | ⟨1, _⟩ => exact ⟨Nat.zero_le _, by change (z 1).val < 0 + 128; have := (z 1).isLt; change _ < 128 at this; omega⟩

/-- Padded rows of 128 entries, followed by ones. -/
def valRow (w : S8192x128.Idx → EReal) (r d : Nat) : EReal := if d < 128 then padRows w r d else 1

/-- The padded values beside their columns of ones. -/
theorem vals_apply (w : Vec Ideal S8192x128 .f32) (z : S8704x256.Idx) :
    View.canon (Val := Elt Ideal) (s := S8704x256) (e := .bf16) [⟨Rect.unit (s := S8704x256) ![0, 128] S8704x128.size inb_S8704x256_S8704x128_0_128, k0_pay6 (F := Ideal)⟩,
      ⟨Rect.unit (s := S8704x256) ![512, 0] S8192x128.size inb_S8704x256_S8192x128_512_0, k0_pay5 (F := Ideal) w⟩,
      ⟨Rect.unit (s := S8704x256) ![0, 0] S512x128.size inb_S8704x256_S512x128_0_0, k0_pay3 (F := Ideal)⟩] z
      = valRow w (z 0).val (z 1).val := by
  refine View.canon_apply_of_pieces (Val := Elt Ideal) (S := S8704x256) (e := .bf16) (fun z => (valRow w (z 0).val (z 1).val : EReal)) _ ?_ z ?_
  · intro p hp x
    simp only [List.mem_cons, List.not_mem_nil, or_false] at hp
    obtain rfl | rfl | rfl := hp
    · refine (pay6_apply x).trans (Eq.trans ?_ (congrArg₂ (valRow w) (show 0 + 1 * (x 0).val = _ from rfl) (show 128 + 1 * (x 1).val = _ from rfl)))
      rw [valRow, if_neg (by omega)]
    · refine (pay5_apply w x).trans (Eq.trans ?_ (congrArg₂ (valRow w) (show 512 + 1 * (x 0).val = _ from rfl) (show 0 + 1 * (x 1).val = _ from rfl)))
      have h1 := (x 1).isLt
      change (x 1).val < 128 at h1
      rw [valRow, if_pos (by omega), padRows, if_neg (by omega)]
      exact at2_eq w x (by omega) (by omega)
    · refine (pay3_apply x).trans (Eq.trans ?_ (congrArg₂ (valRow w) (show 0 + 1 * (x 0).val = _ from rfl) (show 0 + 1 * (x 1).val = _ from rfl)))
      have h0 := (x 0).isLt
      change (x 0).val < 512 at h0
      have h1 := (x 1).isLt
      change (x 1).val < 128 at h1
      rw [valRow, if_pos (by omega), padRows, if_pos (by omega)]
  · have hz0 := (z 0).isLt
    change (z 0).val < 8704 at hz0
    have hz1 := (z 1).isLt
    change (z 1).val < 256 at hz1
    by_cases h1 : (z 1).val < 128
    · by_cases h : (z 0).val < 512
      · refine ⟨_, List.mem_cons_of_mem _ (List.mem_cons_of_mem _ List.mem_cons_self), (Rect.mem_set_unit (inb := inb_S8704x256_S512x128_0_0)).mpr fun a => ?_⟩
        match a with
        | ⟨0, _⟩ => exact ⟨Nat.zero_le _, by change (z 0).val < 0 + 512; omega⟩
        | ⟨1, _⟩ => exact ⟨Nat.zero_le _, by change (z 1).val < 0 + 128; omega⟩
      · refine ⟨_, List.mem_cons_of_mem _ List.mem_cons_self, (Rect.mem_set_unit (inb := inb_S8704x256_S8192x128_512_0)).mpr fun a => ?_⟩
        match a with
        | ⟨0, _⟩ => exact ⟨by change 512 ≤ (z 0).val; omega, by change (z 0).val < 512 + 8192; omega⟩
        | ⟨1, _⟩ => exact ⟨Nat.zero_le _, by change (z 1).val < 0 + 128; omega⟩
    · refine ⟨_, List.mem_cons_self, (Rect.mem_set_unit (inb := inb_S8704x256_S8704x128_0_128)).mpr fun a => ?_⟩
      match a with
      | ⟨0, _⟩ => exact ⟨Nat.zero_le _, by change (z 0).val < 0 + 8704; omega⟩
      | ⟨1, _⟩ => exact ⟨by change 128 ≤ (z 1).val; omega, by change (z 1).val < 128 + 128; omega⟩

/-- The score of a block's query row `r` (block `r / 256`, row `r % 256`) and its window's key `j`. -/
def blkScore (x0 x1 : S8192x128.Idx → EReal) (x3 : S1x256x768.Idx → EReal) (r : Nat) (j : Fin 768) : EReal :=
  if seen (r / 256) (r % 256) j.val then
    (∑ d : Fin 128, at2 x0 r d.val * padRows x1 (256 * (r / 256) + j.val) d.val) * Ideal.ofBits .f32 0x3DB504F3#32
      + x3 (ix3 (0 : Fin 1) ⟨r % 256, Nat.mod_lt _ (by decide)⟩ j)
  else ⊥

/-- One head's attention from its blocks of queries, keys, values and bias. -/
def blkOut (x0 x1 x2 : S8192x128.Idx → EReal) (x3 : S1x256x768.Idx → EReal) (r d : Nat) : EReal :=
  Ideal.div (∑ j : Fin 768, Ideal.exp (blkScore x0 x1 x3 r j - rowMax (blkScore x0 x1 x3 r)) * padRows x2 (256 * (r / 256) + j.val) d)
    (∑ j : Fin 768, Ideal.exp (blkScore x0 x1 x3 r j - rowMax (blkScore x0 x1 x3 r)))

theorem block_apply (c : Dev nD) (i : grid0.Coords) (arg1 : Memref sig .tc .vmem S8192x128 .f32) (harg1 : arg1.IsWhole) (arg2 : Memref sig .tc .vmem S8192x128 .f32) (harg2 : arg2.IsWhole) (arg3 : Memref sig .tc .vmem S8192x128 .f32) (harg3 : arg3.IsWhole) (arg4 : Memref sig .tc .vmem S1x256x768 .f32) (harg4 : arg4.IsWhole) (arg5 : Memref sig .tc .vmem S8192x128 .bf16) (harg5 : arg5.IsWhole) (arg6 : Memref sig .tc .vmem S8704x128 .bf16) (harg6 : arg6.IsWhole) (arg7 : Memref sig .tc .vmem S8704x256 .bf16) (harg7 : arg7.IsWhole)
    (x0 : Vec Ideal S8192x128 .f32) (x1 : Vec Ideal S8192x128 .f32) (x2 : Vec Ideal S8192x128 .f32) (x3 : Vec Ideal S1x256x768 .f32) (y : S8192x128.Idx) :
    out0_A_4 (F := Ideal) c i arg1 harg1 arg2 harg2 arg3 harg3 arg4 harg4 arg5 harg5 arg6 harg6 arg7 harg7 x0 x1 x2 x3 y = blkOut x0 x1 x2 x3 (y 0).val (y 1).val := by
  have hw1 : View.readAt (Elt Ideal) arg2.view (Rect.unit (s := S8192x128) ![0, 0] S8192x128.size inb_S8192x128_S8192x128_0_0).toLoadRect (harg2.unread x1) = x1 := by
    rw [View.readAt_eq_ld, harg2.read_unread]
    exact View.ld_unit_zero (by funext a; match a with | ⟨0, _⟩ => rfl | ⟨1, _⟩ => rfl) _ _
  have hw2 : View.readAt (Elt Ideal) arg3.view (Rect.unit (s := S8192x128) ![0, 0] S8192x128.size inb_S8192x128_S8192x128_0_0).toLoadRect (harg3.unread x2) = x2 := by
    rw [View.readAt_eq_ld, harg3.read_unread]
    exact View.ld_unit_zero (by funext a; match a with | ⟨0, _⟩ => rfl | ⟨1, _⟩ => rfl) _ _
  have hw3 : View.readAt (Elt Ideal) arg4.view (Rect.unit (s := S1x256x768) ![0, 0, 0] S1x256x768.size inb_S1x256x768_S1x256x768_0_0_0).toLoadRect (harg4.unread x3) = x3 := by
    rw [View.readAt_eq_ld, harg4.read_unread]
    exact View.ld_unit_zero (by funext a; match a with | ⟨0, _⟩ => rfl | ⟨1, _⟩ => rfl | ⟨2, _⟩ => rfl) _ _
  unfold out0_A_4
  rw [View.read_writes_junk_eq_canon]
  unfold kernelRun0_A
  dsimp only
  sl_unfold_words
  refine loop_canon (F := Ideal) _ _ _ _ _ _ _ _ _ _ _ _ _ _ _ _ _ _ _ _ _ _ _ _ _ _ _ (fun y => (blkOut x0 x1 x2 x3 (y 0).val (y 1).val : EReal)) ?_ 32 (Nat.le_refl 32) y (y 0).isLt
  intro k x
  rw [hw1, hw2, hw3, View.readAt_writes_junk_eq_canon, View.readAt_writes_junk_eq_canon, View.readAt_eq_ld, harg1.read_unread, pay1_apply]
  have e1 := k0_off1_eq k
  have e2 := k0_off2_eq k
  have e3 := k0_off3_eq k
  have hx0 := (x 0).isLt
  change (x 0).val < 256 at hx0
  have hx1 := (x 1).isLt
  change (x 1).val < 128 at hx1
  have hy0 : ((Rect.emb (Rect.unit (s := S8192x128) (k0_off1 k) S256x128.size (k0_off1_inb k)) x) 0).val = 256 * k.val + (x 0).val := by
    change k0_off1 k 0 + 1 * (x 0).val = _
    rw [e1]; change 256 * k.val + 1 * (x 0).val = _; omega
  have hy1 : ((Rect.emb (Rect.unit (s := S8192x128) (k0_off1 k) S256x128.size (k0_off1_inb k)) x) 1).val = (x 1).val := by
    change k0_off1 k 1 + 1 * (x 1).val = _
    rw [e1]; change 0 + 1 * (x 1).val = _; omega
  dsimp only
  rw [hy0, hy1]
  have hd : (256 * k.val + (x 0).val) / 256 = k.val := by omega
  have hm : (256 * k.val + (x 0).val) % 256 = (x 0).val := by omega
  have hS : trScore (k0_pay7 (F := Ideal) x3) k.val
      (View.ld (Val := Elt Ideal) (e' := .f32) x0 (Rect.unit (s := S8192x128) (k0_off1 k) S256x128.size (k0_off1_inb k)))
      (fun j => View.canon (Val := Elt Ideal) (s := S8704x128) (e := .bf16) [⟨Rect.unit (s := S8704x128) ![512, 0] S8192x128.size inb_S8704x128_S8192x128_512_0, k0_pay4 (F := Ideal) x1⟩,
      ⟨Rect.unit (s := S8704x128) ![0, 0] S512x128.size inb_S8704x128_S512x128_0_0, k0_pay2 (F := Ideal)⟩] ((Rect.unit (s := S8704x128) (k0_off2 k) S768x128.size (k0_off2_inb k)).toLoadRect.idx j)) (x 0)
      = blkScore x0 x1 x3 (256 * k.val + (x 0).val) := by
    funext j
    unfold trScore blkScore
    simp only [hd, hm]
    refine if_congr Iff.rfl ?_ rfl
    rw [pay7_apply]
    refine congrArg₂ (· + ·) (congrArg (· * _) (Finset.sum_congr rfl fun d _ => ?_)) rfl
    refine congrArg₂ (· * ·) (at2_eq x0 _ ?_ ?_) ((keys_apply x1 _).trans ?_)
    · change k0_off1 k 0 + 1 * (x 0).val = _
      rw [e1]; change 256 * k.val + 1 * (x 0).val = _; omega
    · change k0_off1 k 1 + 1 * d.val = _
      rw [e1]; change 0 + 1 * d.val = _; omega
    · refine congrArg₂ (padRows x1) ?_ ?_
      · change k0_off2 k 0 + 1 * j.val = _
        rw [e2]; change 256 * k.val + 1 * j.val = _; omega
      · change k0_off2 k 1 + 1 * d.val = _
        rw [e2]; change 0 + 1 * d.val = _; omega
  have hV : ∀ (j : Fin 768) (d : Nat) (hd' : d < 256),
      View.canon (Val := Elt Ideal) (s := S8704x256) (e := .bf16) [⟨Rect.unit (s := S8704x256) ![0, 128] S8704x128.size inb_S8704x256_S8704x128_0_128, k0_pay6 (F := Ideal)⟩,
      ⟨Rect.unit (s := S8704x256) ![512, 0] S8192x128.size inb_S8704x256_S8192x128_512_0, k0_pay5 (F := Ideal) x2⟩,
      ⟨Rect.unit (s := S8704x256) ![0, 0] S512x128.size inb_S8704x256_S512x128_0_0, k0_pay3 (F := Ideal)⟩] ((Rect.unit (s := S8704x256) (k0_off3 k) S768x256.size (k0_off3_inb k)).toLoadRect.idx (ix2 j ⟨d, hd'⟩))
      = valRow x2 (256 * k.val + j.val) d := by
    intro j d hd'
    refine (vals_apply x2 _).trans ?_
    have a0 : (((Rect.unit (s := S8704x256) (k0_off3 k) S768x256.size (k0_off3_inb k)).toLoadRect.idx (ix2 j ⟨d, hd'⟩)) 0).val = 256 * k.val + j.val := by
      change k0_off3 k 0 + 1 * j.val = _
      rw [e3]; change 256 * k.val + 1 * j.val = _; omega
    have a1 : (((Rect.unit (s := S8704x256) (k0_off3 k) S768x256.size (k0_off3_inb k)).toLoadRect.idx (ix2 j ⟨d, hd'⟩)) 1).val = d := by
      change k0_off3 k 1 + 1 * d = _
      rw [e3]; change 0 + 1 * d = _; omega
    rw [a0, a1]
  unfold blkOut
  rw [hd]
  refine congrArg₂ Ideal.div (Finset.sum_congr rfl fun j _ => ?_) (Finset.sum_congr rfl fun j _ => ?_)
  · exact congrArg₂ (· * ·) (congrArg (fun s => Ideal.exp (s j - rowMax s)) hS) ((hV j (x 1).val _).trans (if_pos hx1))
  · exact (congrArg₂ (· * ·) (congrArg (fun s => Ideal.exp (s j - rowMax s)) hS) ((hV j 128 _).trans (if_neg (by omega)))).trans (mul_one _)

end Cert.KernelIdeal.Att
-- ==== Proof.Att.Host.lean ====
/- The bias array that the host lays out for the kernel, read at an index. -/
module

public import proofs.«01_k».proof.Proof.Gen.KernelIdeal.Value
public import proofs.«01_k».proof.Proof.Att.Spec
public import Idealize.ShloMosaic.Lib.Routing.Ops
public import Idealize.ShloMosaic.Lib.StableHlo.RunRead

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Tactic Cert.Att StableHlo

/-- Every lane holds the word `w`. -/
def lanes (w : BitVec 32) : IVec S1024 32 := broadcastInDim S1024 ![] bcast_S_S1024 (constantI S_ 32 w)

/-- The table row that each lane of one query's line asks for. -/
def relV : IVec S1024 32 :=
  addi (minsi (lanes 128#32) (maxsi (lanes 4294967168#32) (subi (lanes 512#32)
    (select (cmpi .slt (iotaInDim S1024 32 0) (lanes 768#32)) (iotaInDim S1024 32 0) (subi (iotaInDim S1024 32 0) (lanes 1024#32))))))
    (lanes 128#32)

/-- The same, negative rows counted from the table's end, as one column. -/
def colV : IVec S1024x1 32 :=
  broadcastInDim S1024x1 ![0] bcast_S1024_S1024x1_0 (select (cmpi .slt relV (lanes 0#32)) (addi relV (lanes 257#32)) relV)

/-- Whether a lane's row lies in the table. -/
def okV : IVec S1024 1 :=
  Host.reduce IntOp.andi
    (andi (cmpi .sge colV (broadcastInDim S1024x1 ![] bcast_S_S1024x1 (constantI S_ 32 0#32)))
      (cmpi .sle colV (broadcastInDim S1024x1 ![0, 1] bcast_S1x1_S1024x1_0_1 (broadcastInDim S1x1 ![1] bcast_S1_S1x1_1 (constantI S1 32 256#32)))))
    (constantI S_ 1 1#1) reducesTo_S1024x1_S1024_d1 h_S_

/-- The rows taken from the table. -/
def takenV (t : (⟨S257x16, .f32⟩ : BufTy).Contents (Elt Ideal)) : (⟨S1024x16, .f32⟩ : BufTy).Contents (Elt Ideal) :=
  select (broadcastInDim S1024x16 ![0] bcast_S1024_S1024x16_0 okV)
    (Host.gather gather_S257x16_S1024x1_S1024x16_1_0_n_n_0_1_116 t colV)
    (broadcastInDim S1024x16 ![] bcast_S_S1024x16 (constant (F := Ideal) S_ .f32 0x7FC00000#32))

/-- Every query's line, still 1024 lanes long. -/
def linesV (t : (⟨S257x16, .f32⟩ : BufTy).Contents (Elt Ideal)) : (⟨S1x16x256x1024, .f32⟩ : BufTy).Contents (Elt Ideal) :=
  broadcastInDim S1x16x256x1024 ![0, 1, 2, 3] bcast_S1x16x1x1024_S1x16x256x1024_0_1_2_3
    (shapeCast S1x16x1x1024 (transpose S16x1024 [1, 0] (takenV t) transposes_S1024x16_S16x1024_1_0) shapeCasts_S16x1024_S1x16x1x1024)

/-- The bias array. -/
def biasV (t : (⟨S257x16, .f32⟩ : BufTy).Contents (Elt Ideal)) : (⟨S16x256x768, .f32⟩ : BufTy).Contents (Elt Ideal) :=
  extractStridedSlice S16x256x768 ![0, 0, 0]
    (shapeCast S16x256x1023
      (extractStridedSlice S16x261888 ![0, 0] (shapeCast S16x262144 (linesV t) shapeCasts_S1x16x256x1024_S16x262144) slices_S16x262144_S16x261888_0_0)
      shapeCasts_S16x261888_S16x256x1023) slices_S16x256x1023_S16x256x768_0_0_0

theorem bias_eq (m : (ℓ : Loc nD τ sig) → Buf (Elt Ideal) ℓ) (c : Dev nD) :
    V m c main_v18 = biasV (m ((c : Thread nD τ).loc main_arg1)) := by
  dsimp only [V]
  simp only [hostOps0, hostOps0_1, hostOps0_2, hostOps0_3, hostOps0_4, hostOps0_5, hostOps0_6, List.flatten_cons, List.flatten_nil, List.append_nil, List.cons_append, List.nil_append]
  after_reads_simp
  simp only [TRef.ofBuf_toBuf, TRef.ofBuf, TRef.toBuf, cast_eq, id]
  rfl

theorem rel_word : ∀ p : Fin 1024,
    IntOp.addi (IntOp.minsi 128#32 (IntOp.maxsi 4294967168#32 (IntOp.subi 512#32
      (Scalar.select (IntOp.cmpi .slt (BitVec.ofNat 32 p.val) 768#32) (BitVec.ofNat 32 p.val) (IntOp.subi (BitVec.ofNat 32 p.val) 1024#32))))) 128#32
      = BitVec.ofNat 32 (if p.val < 768 then min (640 - p.val) 256 else 256) := by decide +kernel

theorem relV_apply (i : S1024.Idx) : relV i = BitVec.ofNat 32 (if (i 0).val < 768 then min (640 - (i 0).val) 256 else 256) :=
  rel_word (i 0)

theorem small_word : ∀ r : Fin 257, Scalar.select (IntOp.cmpi .slt (BitVec.ofNat 32 r.val) 0#32) (IntOp.addi (BitVec.ofNat 32 r.val) 257#32) (BitVec.ofNat 32 r.val)
      = BitVec.ofNat 32 r.val ∧ IntOp.andi (IntOp.andi (IntOp.cmpi .sge (BitVec.ofNat 32 r.val) 0#32) (IntOp.cmpi .sle (BitVec.ofNat 32 r.val) 256#32)) 1#1 = 1#1 := by decide +kernel

theorem row_lt (p : Nat) : (if p < 768 then min (640 - p) 256 else 256) < 257 := by split <;> omega

theorem colV_apply (i : S1024x1.Idx) : colV i = BitVec.ofNat 32 (if (i 0).val < 768 then min (640 - (i 0).val) 256 else 256) := by
  have e := relV_apply (ix1 (i 0))
  have h := (small_word ⟨_, row_lt (i 0).val⟩).1
  unfold colV
  refine (broadcastInDim_apply _ _ _ i (ix1 (i 0)) ?_).trans ?_
  · intro a
    match a with
    | ⟨0, _⟩ => rfl
  · change Scalar.select (IntOp.cmpi .slt (relV (ix1 (i 0))) 0#32) (IntOp.addi (relV (ix1 (i 0))) 257#32) (relV (ix1 (i 0))) = _
    rw [e]
    exact h

theorem and_apply (x : S1024x1.Idx → BitVec 1) (init : S_.Idx → BitVec 1) (j : S1024.Idx) :
    Host.reduce IntOp.andi x init reducesTo_S1024x1_S1024_d1 h_S_ j
      = (Finset.univ : Finset (Fin 1)).fold IntOp.andi (init (Shape.Idx.first h_S_)) (fun k => x (ix2 (j 0) k)) := by
  simp only [pointwise]

theorem okV_apply (i : S1024.Idx) : okV i = 1#1 := by
  unfold okV
  rw [and_apply]
  have h := (small_word ⟨_, row_lt (i 0).val⟩).2
  have e := colV_apply (ix2 (i 0) (0 : Fin 1))
  rw [Finset.univ_unique, Finset.fold_singleton]
  change IntOp.andi (IntOp.andi (IntOp.cmpi .sge (colV (ix2 (i 0) (0 : Fin 1))) 0#32) (IntOp.cmpi .sle (colV (ix2 (i 0) (0 : Fin 1))) 256#32)) 1#1 = _
  rw [e]
  exact h

theorem takenV_apply (t : (⟨S257x16, .f32⟩ : BufTy).Contents (Elt Ideal)) (i : S1024x16.Idx) :
    takenV t i = at2 t (if (i 0).val < 768 then min (640 - (i 0).val) 256 else 256) (i 1).val := by
  have hk : broadcastInDim S1024x16 ![0] bcast_S1024_S1024x16_0 okV i = 1#1 := by
    refine (broadcastInDim_apply _ _ _ i (ix1 (i 0)) ?_).trans (okV_apply _)
    intro a
    match a with
    | ⟨0, _⟩ => rfl
  unfold takenV
  change Scalar.select (broadcastInDim S1024x16 ![0] bcast_S1024_S1024x16_0 okV i) (Host.gather gather_S257x16_S1024x1_S1024x16_1_0_n_n_0_1_116 t colV i) _ = _
  rw [hk]
  have hi : i = ix2 (i 0) (i 1) := by
    funext a
    match a with
    | ⟨0, _⟩ => rfl
    | ⟨1, _⟩ => rfl
  have hg := Routing.gather_row gather_S257x16_S1024x1_S1024x16_1_0_n_n_0_1_116 rfl rfl rfl rfl rfl t colV (i 0) (i 1)
    ⟨_, row_lt (i 0).val⟩ (colV_apply _) (by decide)
  change Host.gather gather_S257x16_S1024x1_S1024x16_1_0_n_n_0_1_116 t colV i = _
  rw [hi]
  refine hg.trans ?_
  exact at2_eq t _ rfl rfl

theorem linesV_apply (t : (⟨S257x16, .f32⟩ : BufTy).Contents (Elt Ideal)) (i : S1x16x256x1024.Idx) :
    linesV t i = at2 t (if (i 3).val < 768 then min (640 - (i 3).val) 256 else 256) (i 1).val := by
  unfold linesV
  refine (broadcastInDim_apply _ _ _ i (ix4 (0 : Fin 1) (i 1) (0 : Fin 1) (i 3)) ?_).trans ?_
  · intro a
    match a with
    | ⟨0, _⟩ => rfl
    | ⟨1, _⟩ => rfl
    | ⟨2, _⟩ => rfl
    | ⟨3, _⟩ => rfl
  refine (shapeCast_apply _ _ _ (ix2 (i 1) (i 3)) ?_).trans ?_
  · refine (Shape.rowMajor_val_two _).trans (Eq.trans ?_ (Shape.rowMajor_val_four _).symm)
    change (i 1).val * 1024 + (i 3).val = ((0 * 16 + (i 1).val) * 1 + 0) * 1024 + (i 3).val
    omega
  refine (transpose_apply _ _ _ _ (ix2 (i 3) (i 1)) ?_).trans ?_
  · intro b
    match b with
    | ⟨0, _⟩ => rfl
    | ⟨1, _⟩ => rfl
  exact takenV_apply t _

theorem biasV_apply (t : (⟨S257x16, .f32⟩ : BufTy).Contents (Elt Ideal)) (i : S16x256x768.Idx) :
    biasV t i = biasAt t (i 0).val (i 1).val (i 2).val := by
  have h0 : (i 0).val < 16 := (i 0).isLt
  have h1 : (i 1).val < 256 := (i 1).isLt
  have h2 : (i 2).val < 768 := (i 2).isLt
  unfold biasV
  refine (extractStridedSlice_apply _ _ _ i (ix3 (i 0) (i 1) (⟨(i 2).val, by omega⟩ : Fin 1023)) ?_).trans ?_
  · intro a
    match a with
    | ⟨0, _⟩ => exact (Nat.zero_add _).symm
    | ⟨1, _⟩ => exact (Nat.zero_add _).symm
    | ⟨2, _⟩ => exact (Nat.zero_add _).symm
  refine (shapeCast_apply _ _ _ (ix2 (i 0) (⟨(i 1).val * 1023 + (i 2).val, by omega⟩ : Fin 261888)) ?_).trans ?_
  · refine (Shape.rowMajor_val_two _).trans (Eq.trans ?_ (Shape.rowMajor_val_three _).symm)
    change (i 0).val * 261888 + ((i 1).val * 1023 + (i 2).val) = ((i 0).val * 256 + (i 1).val) * 1023 + (i 2).val
    omega
  refine (extractStridedSlice_apply _ _ _ _ (ix2 (i 0) (⟨(i 1).val * 1023 + (i 2).val, by omega⟩ : Fin 262144)) ?_).trans ?_
  · intro a
    match a with
    | ⟨0, _⟩ => exact (Nat.zero_add _).symm
    | ⟨1, _⟩ => exact (Nat.zero_add _).symm
  refine (shapeCast_apply _ _ _ (ix4 (0 : Fin 1) (i 0) (⟨((i 1).val * 1023 + (i 2).val) / 1024, by omega⟩ : Fin 256)
    (⟨((i 1).val * 1023 + (i 2).val) % 1024, by omega⟩ : Fin 1024)) ?_).trans ?_
  · refine (Shape.rowMajor_val_four _).trans (Eq.trans ?_ (Shape.rowMajor_val_two _).symm)
    change ((0 * 16 + (i 0).val) * 256 + ((i 1).val * 1023 + (i 2).val) / 1024) * 1024 + ((i 1).val * 1023 + (i 2).val) % 1024
      = (i 0).val * 262144 + ((i 1).val * 1023 + (i 2).val)
    omega
  refine (linesV_apply t _).trans ?_
  unfold biasAt
  refine congrArg₂ (at2 t) ?_ rfl
  change (if ((i 1).val * 1023 + (i 2).val) % 1024 < 768 then min (640 - ((i 1).val * 1023 + (i 2).val) % 1024) 256 else 256) = _
  by_cases h : (i 1).val ≤ (i 2).val
  · have e : ((i 1).val * 1023 + (i 2).val) % 1024 = (i 2).val - (i 1).val := by omega
    rw [e, if_pos (by omega)]
    omega
  · have e : ((i 1).val * 1023 + (i 2).val) % 1024 = 1024 + (i 2).val - (i 1).val := by omega
    rw [e, if_neg (by omega)]
    omega

end Cert.KernelIdeal.Att
-- ==== Proof.Att.Arr.lean ====
/- The kernel's result array, read at an index. -/
module

public import proofs.«01_k».proof.Proof.Att.Block
public import proofs.«01_k».proof.Proof.Att.Host

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Tactic Cert.Att

variable (m : (ℓ : Loc nD τ sig) → Buf (Elt Ideal) ℓ)

theorem places : ∀ t : Fin grid0.N, win0_0.index t = ![0, t.val] ∧ win0_1.index t = ![0, 16 + t.val] ∧ win0_2.index t = ![0, 32 + t.val]
    ∧ win0_3.index t = ![t.val, 0, 0] ∧ win0_4.index t = ![0, t.val] := by decide +kernel

theorem q_apply (c : Dev nD) (t : Fin cfg0.N) (y : S8192x128.Idx) :
    X0_0 m c t y = at2 (m ((c : Thread nD τ).loc main_arg0)) (y 0).val (128 * t.val + (y 1).val) := by
  unfold X0_0 Pipeline.Window.fill
  rw [dif_pos (moved0_0 t y)]
  blk_simp [iblk]
  rw [V_main_arg0]
  refine at2_eq _ _ ?_ ?_
  · blk_simp [(places t).1]
  · blk_simp [(places t).1]
    simp <;> omega

theorem k_apply (c : Dev nD) (t : Fin cfg0.N) (y : S8192x128.Idx) :
    X0_1 m c t y = at2 (m ((c : Thread nD τ).loc main_arg0)) (y 0).val (2048 + (128 * t.val + (y 1).val)) := by
  unfold X0_1 Pipeline.Window.fill
  rw [dif_pos (moved0_1 t y)]
  blk_simp [iblk]
  rw [V_main_arg0]
  refine at2_eq _ _ ?_ ?_
  · blk_simp [(places t).2.1]
  · blk_simp [(places t).2.1]
    simp <;> omega

theorem v_apply (c : Dev nD) (t : Fin cfg0.N) (y : S8192x128.Idx) :
    X0_2 m c t y = at2 (m ((c : Thread nD τ).loc main_arg0)) (y 0).val (4096 + (128 * t.val + (y 1).val)) := by
  unfold X0_2 Pipeline.Window.fill
  rw [dif_pos (moved0_2 t y)]
  blk_simp [iblk]
  rw [V_main_arg0]
  refine at2_eq _ _ ?_ ?_
  · blk_simp [(places t).2.2.1]
  · blk_simp [(places t).2.2.1]
    simp <;> omega

theorem b_apply (c : Dev nD) (t : Fin cfg0.N) (y : S1x256x768.Idx) :
    iblk m c 3 t y = biasAt (m ((c : Thread nD τ).loc main_arg1)) t.val (y 1).val (y 2).val := by
  blk_simp [iblk]
  refine (congrFun (bias_eq m c) _).trans ((biasV_apply _ _).trans ?_)
  have h0 := (y 0).isLt
  change (y 0).val < 1 at h0
  refine (congrArg₂ (fun a b => biasAt _ a b _) ?_ ?_).trans (congrArg (biasAt _ _ _) ?_)
  · blk_simp [(places t).2.2.2.1]
  · blk_simp [(places t).2.2.2.1]
  · blk_simp [(places t).2.2.2.1]

theorem padRows_eq (x : S8704x6144.Idx → EReal) (w : S8192x128.Idx → EReal) (off h : Nat)
    (hw : ∀ y : S8192x128.Idx, w y = at2 x (y 0).val (off + (128 * h + (y 1).val))) (r d : Nat) (hr : r < 8704) (hd : d < 128) :
    padRows w r d = band x off r (128 * h + d) := by
  unfold padRows band
  by_cases e : r < 512
  · rw [if_pos e, if_pos e]
  · rw [if_neg e, if_neg e, at2_mk w (by omega) hd]
    exact hw _

/-- A block's attention is the whole array's. -/
theorem blkOut_eq (x : S8704x6144.Idx → EReal) (t : S257x16.Idx → EReal) (h : Nat) (x0 x1 x2 : S8192x128.Idx → EReal) (x3 : S1x256x768.Idx → EReal)
    (h0 : ∀ y : S8192x128.Idx, x0 y = at2 x (y 0).val (128 * h + (y 1).val))
    (h1 : ∀ y : S8192x128.Idx, x1 y = at2 x (y 0).val (2048 + (128 * h + (y 1).val)))
    (h2 : ∀ y : S8192x128.Idx, x2 y = at2 x (y 0).val (4096 + (128 * h + (y 1).val)))
    (h3 : ∀ y : S1x256x768.Idx, x3 y = biasAt t h (y 1).val (y 2).val) (r d : Nat) (hr : r < 8192) (hd : d < 128) :
    blkOut x0 x1 x2 x3 r d = attK x t (r / 256) h (r % 256) d := by
  have hs : blkScore x0 x1 x3 r = fun j : Fin 768 => scoreK x t (r / 256) h (r % 256) j.val := by
    funext j
    unfold blkScore scoreK dotAt
    refine if_congr Iff.rfl ?_ rfl
    refine congrArg₂ (· + ·) (congrArg (· * _) (Finset.sum_congr rfl fun d _ => ?_)) (h3 _)
    have e : 256 * (r / 256) + r % 256 = r := by omega
    rw [e, padRows_eq x x1 2048 h h1 _ _ (by omega) d.isLt, at2_mk x0 hr d.isLt]
    exact congrArg (· * _) (h0 _)
  unfold blkOut attK
  rw [hs]
  refine congrArg₂ Ideal.div (Finset.sum_congr rfl fun j _ => ?_) rfl
  rw [padRows_eq x x2 4096 h h2 _ _ (by omega) hd]

theorem arr_eq (c : Dev nD) :
    (dats m 0 c).arrAt 4 cfg0.N = fun i : S8192x2048.Idx => (attK (m ((c : Thread nD τ).loc main_arg0)) (m ((c : Thread nD τ).loc main_arg1))
      ((i 0).val / 256) ((i 1).val / 128) ((i 0).val % 256) ((i 1).val % 128) : EReal) := by
  refine (dats m 0 c).arrAt_eq_of_covers 4 _ (by decide +kernel) fun t hf y => ?_
  blk_simp
  have i0 : win0_4.index t 0 = 0 := by rw [(places t).2.2.2.2]; rfl
  have i1 : win0_4.index t 1 = t.val := by rw [(places t).2.2.2.2]; rfl
  have hy0 : (y 0).val < 8192 := (y 0).isLt
  have hy1 : (y 1).val < 128 := (y 1).isLt
  rw [i0, i1, after0_4, Nat.zero_mul, Nat.zero_add, Nat.mul_comm t.val 128]
  unfold outsAt0
  refine (block_apply _ _ _ _ _ _ _ _ _ _ _ _ _ _ _ _ _ _ _ _ _).trans ?_
  refine (blkOut_eq (m ((c : Thread nD τ).loc main_arg0)) (m ((c : Thread nD τ).loc main_arg1)) t.val _ _ _ _ (q_apply m c t) (k_apply m c t) (v_apply m c t) (b_apply m c t) _ _ hy0 hy1).trans ?_
  rw [show (128 * t.val + (y 1).val) / 128 = t.val by omega, show (128 * t.val + (y 1).val) % 128 = (y 1).val by omega]

end Cert.KernelIdeal.Att
-- ==== Proof.Down.Run.lean ====
module

public import proofs.«01_k».proof.Proof.Gen.DownIdeal.Launch
public import proofs.«01_k».proof.Proof.Gen.DownIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit
public import Idealize.ShloMosaic.Lib.VecWindow

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev teM : Memref sig .tc .smem S42 .i32 := Memref.whole main_arg0
abbrev fiM : Memref sig .tc .smem S42 .i32 := Memref.whole main_arg1
abbrev vaM : Memref sig .tc .smem S42 .i32 := Memref.whole main_arg2
abbrev nxM : Memref sig .tc .smem S42 .i32 := Memref.whole main_arg3
abbrev wrM : Memref sig .tc .smem S42 .i32 := Memref.whole main_arg4
/-- The experts' weights, which stay where they are. -/
abbrev wM : Memref sig .tc .hbm S16x7168x2048 .f32 := Memref.whole main_arg6
/-- The buffer a transfer fills, and the rounded copy the products read. -/
abbrev stM : Memref sig .tc .vmem S7168x512 .f32 := Memref.whole cc0_scratch0
abbrev caM : Memref sig .tc .vmem S7168x512 .bf16 := Memref.whole cc0_scratch1
abbrev seM : DmaSem sig := (cc0_scratch2 : DmaSems sig S_).sem

/-- A buffer's contents behind its memref, and the buffer held at a share. -/
abbrev At (c : Dev nD) {sp : Space} {S : Shape} {e : EltTy} (M : Memref sig .tc sp S e) : Type := Buf (Elt F) (M.view.loc (c : Thread nD τ))
abbrev half (c : Dev nD) {sp : Space} {S : Shape} {e : EltTy} (M : Memref sig .tc sp S e) (f : At (F := F) c M) : sProp 𝕄 :=
  M.view.loc (c : Thread nD τ) ↦{fullShare.right} f
abbrev full (c : Dev nD) {sp : Space} {S : Shape} {e : EltTy} (M : Memref sig .tc sp S e) (f : At (F := F) c M) : sProp 𝕄 :=
  M.view.loc (c : Thread nD τ) ↦{fullShare} f

/-- The block of one expert's weights at the offsets `o`. -/
abbrev blk (o : Fin 3 → Nat) (h : ∀ a, o a + S1x7168x512.size a ≤ S16x7168x2048.size a) : Memref sig .tc .hbm S7168x512 .f32 :=
  (wM.slice (Rect.unit (s := S16x7168x2048) o S1x7168x512.size h) (fun _ => rfl)).squeeze S7168x512 squeezes_S1x7168x512_S7168x512

/-- The word of a table that the body reads at offset `o`. -/
abbrev word {c : Dev nD} (M : Memref sig .tc .smem S42 .i32) (x : At (F := F) c M) (o : Fin 1 → Nat) (h : ∀ a, o a + S1.size a ≤ S42.size a) : BitVec 32 :=
  M.view.readAt (Elt F) (Rect.unit (s := S42) o S1.size h).toLoadRect x (Shape.Idx.first (numel1_S1.symm ▸ Nat.one_pos))

/-! ## What a point leaves -/

/-- The rounded copy of the weights' block at `o`. -/
def cast {c : Dev nD} (w : At (F := F) c wM) (o : Fin 3 → Nat) (h : ∀ a, o a + S1x7168x512.size a ≤ S16x7168x2048.size a) : Vec F S7168x512 .bf16 :=
  k0_pay1 ((blk o h).view.read (Elt F) w)

/-- A row of the upper half of a block of the result, in that half. -/
def upper (y : S512x512.Idx) (h : (y (0 : Fin 2)).val < 256) : S256x512.Idx := fun a => ⟨(y a).val, by
  match a with
  | ⟨0, _⟩ => exact h
  | ⟨1, _⟩ => exact (y (1 : Fin 2)).isLt⟩

/-- A point's block of the result, from the number `v` of the tile's rows that count, the tile's rows and the rounded weights. -/
def out (v : BitVec 32) (x : Vec F S512x7168 .bf16) (cv : Vec F S7168x512 .bf16) : Vec F S512x512 .f32 :=
  if k0_cond6 v = 1#1 then k0_pay5 (F := F)
  else if k0_cond5 v = 1#1 then fun y =>
    if h : (y (0 : Fin 2)).val < 256 then
      k0_pay3 (VecWindow.window x ![0, 0] S256x7168.size inb_S512x7168_S256x7168_0_0) cv (upper y h)
    else k0_pay5 (F := F) y
  else k0_pay2 x cv

/-- The two stores of a half-filled tile leave the product above and zeros below. -/
theorem read_halves (M : Memref sig .tc .vmem S512x512 .f32) (f : M.view.ty.Contents (Elt F)) (p : Vec F S256x512 .f32) (L : List (View.Piece (Elt F) S512x512 .f32)) :
    M.view.read (Elt F) (M.view.writes (Elt F) f (⟨Rect.unit ![256, 0] S256x512.size inb_S512x512_S256x512_256_0, k0_pay4 (F := F)⟩
      :: ⟨Rect.unit ![0, 0] S256x512.size inb_S512x512_S256x512_0_0, p⟩ :: L))
    = fun y => if h : (y (0 : Fin 2)).val < 256 then p (upper y h) else k0_pay5 (F := F) y := by
  funext y
  by_cases h : (y (0 : Fin 2)).val < 256
  · rw [dif_pos h]
    refine (View.read_writes_cons_rows_of_not_mem (d := ![512, 512]) M.view f (W := 256) (o := 256) _ _ _ y rfl rfl (Or.inl h)).trans ?_
    exact View.read_writes_cons_rows_of_mem (d := ![512, 512]) M.view f (o := 0) _ _ _ y (upper y h) rfl (Nat.zero_add _).symm rfl
  · rw [dif_neg h]
    have hy : (y (0 : Fin 2)).val < 512 := (y (0 : Fin 2)).isLt
    refine View.read_writes_cons_rows_of_mem (d := ![512, 512]) M.view f (o := 256) _ _ _ y
      (fun a => ⟨(![(y (0 : Fin 2)).val - 256, (y (1 : Fin 2)).val] : Fin 2 → ℕ) a, ?_⟩ : S256x512.Idx) rfl ?_ rfl
    · match a with
      | ⟨0, _⟩ => show (y (0 : Fin 2)).val - 256 < 256; omega
      | ⟨1, _⟩ => exact (y (1 : Fin 2)).isLt
    · show (y (0 : Fin 2)).val = 256 + ((y (0 : Fin 2)).val - 256); omega

/-- The stores of a point, one of the three kinds of tile, leave `out`. -/
theorem read_out (M : Memref sig .tc .vmem S512x512 .f32) (f : M.view.ty.Contents (Elt F)) (v : BitVec 32)
    (x : Vec F S512x7168 .bf16) (cv : Vec F S7168x512 .bf16) (a : Vec F S512x7168 .bf16) (b : Vec F S256x7168 .bf16) (cv' : Vec F S7168x512 .bf16)
    (ha : a = x) (hb : b = VecWindow.window x ![0, 0] S256x7168.size inb_S512x7168_S256x7168_0_0) (hcv : cv' = cv)
    (hv : k0_cond4 v = 1#1 ∨ k0_cond5 v = 1#1 ∨ k0_cond6 v = 1#1)
    (L4 L5 L6 : List (View.Piece (Elt F) S512x512 .f32))
    (h4 : L4 = [⟨Rect.unit ![0, 0] S512x512.size inb_S512x512_S512x512_0_0, k0_pay2 a cv'⟩])
    (h5 : L5 = [⟨Rect.unit ![256, 0] S256x512.size inb_S512x512_S256x512_256_0, k0_pay4 (F := F)⟩,
      ⟨Rect.unit ![0, 0] S256x512.size inb_S512x512_S256x512_0_0, k0_pay3 b cv'⟩])
    (h6 : L6 = [⟨Rect.unit ![0, 0] S512x512.size inb_S512x512_S512x512_0_0, k0_pay5 (F := F)⟩]) :
    M.view.read (Elt F)
      (if k0_cond6 v = 1#1 then M.view.writes (Elt F) (if k0_cond5 v = 1#1 then M.view.writes (Elt F) (if k0_cond4 v = 1#1 then M.view.writes (Elt F) f L4 else f) L5
          else if k0_cond4 v = 1#1 then M.view.writes (Elt F) f L4 else f) L6
        else if k0_cond5 v = 1#1 then M.view.writes (Elt F) (if k0_cond4 v = 1#1 then M.view.writes (Elt F) f L4 else f) L5
        else if k0_cond4 v = 1#1 then M.view.writes (Elt F) f L4 else f)
      = out v x cv := by
  subst ha hb hcv h4 h5 h6
  unfold out
  by_cases c6 : k0_cond6 v = 1#1
  · simp only [if_pos c6]
    exact View.read_writes_full M.view _ _ _ _
  · simp only [if_neg c6]
    by_cases c5 : k0_cond5 v = 1#1
    · simp only [if_pos c5]
      exact read_halves M _ _ []
    · simp only [if_neg c5]
      rw [if_pos (hv.resolve_right (fun h => h.elim c5 c6))]
      exact View.read_writes_full M.view _ _ _ _

/-- What a transfer has landed over the whole of a buffer is what the buffer reads. -/
theorem read_landed {sp : Space} {S : Shape} {e : EltTy} (M : Memref sig .tc sp S e) (f : M.view.ty.Contents (Elt F)) (x : S.Idx → Elt F e)
    (L : List (View.Piece (Elt F) S e)) : M.view.read (Elt F) (M.view.writes (Elt F) f (⟨Rect.whole S, x⟩ :: L)) = x := by
  funext y
  have h := View.read_writes_cons_emb M.view f (Rect.whole S) x L y
  rwa [Rect.emb_whole_apply] at h

theorem cov_landed {sp : Space} {S : Shape} {e : EltTy} (M : Memref sig .tc sp S e) {off : Fin S.rank → ℕ} (inb : ∀ a, off a + S.size a ≤ S.size a)
    (x : S.Idx → Elt F e) (L : List (View.Piece (Elt F) S e)) :
    M.view.readCov (⟨Rect.whole S, x⟩ :: L) (Rect.unit off S.size inb).toLoadRect = x :=
  (View.readAt_full M.view _ inb).trans (read_landed M _ x L)

/-! ## The transfer between points -/

/-- No transfer under way: the buffer at anything, the counter at zero, the weights whole. -/
def Idle (c : Dev nD) (w : At (F := F) c wM) : sProp 𝕄 :=
  iprop((∃ d, owns (c : Thread nD τ) stM fullShare d) ∗ semVal ((c : Thread nD τ), SemLoc.dma seM) 0 ∗ full c wM w)

/-- The transfer of the block at `o` under way: it will leave the buffer at that block, and give the block back. -/
def Fly (c : Dev nD) (w : At (F := F) c wM) (o : Fin 3 → Nat) (h : ∀ a, o a + S1x7168x512.size a ≤ S16x7168x2048.size a) : sProp 𝕄 :=
  iprop(∃ d : At (F := F) c stM, ⌜stM.view.read (Elt F) d = (blk o h).view.read (Elt F) w⌝
    ∗ Transfers.Flight (countersEmb (U := Pipeline.UD sig nD τ)) (c : Thread nD τ) (SemLoc.dma seM) () 458752
        iprop((stM.view.loc (c : Thread nD τ) ↦[stM.view.set]{fullShare} d) ∗ (wM.view.loc (c : Thread nD τ) ↦[(blk o h).view.set]{fullShare} w))
    ∗ (wM.view.loc (c : Thread nD τ) ↦[Finset.univ \ (blk o h).view.set]{fullShare} w))

/-! ## The body -/

/-- The words the body reads at a point. -/
structure Words (c : Dev nD) where
  te : At (F := F) c teM
  fi : At (F := F) c fiM
  va : At (F := F) c vaM
  nx : At (F := F) c nxM
  wr : At (F := F) c wrM

variable {c : Dev nD}

abbrev Words.first (T : Words (F := F) c) (i : grid0.Coords) : BitVec 32 := word fiM T.fi (k0_off1 i) (k0_off1_inb i)
abbrev Words.start (T : Words (F := F) c) : BitVec 32 := word teM T.te ![0] inb_S42_S1_0
abbrev Words.own (T : Words (F := F) c) (i : grid0.Coords) : BitVec 32 := word teM T.te (k0_off3 i) (k0_off3_inb i)
abbrev Words.wrap (T : Words (F := F) c) (i : grid0.Coords) : BitVec 32 := word wrM T.wr (k0_off5 i) (k0_off5_inb i)
abbrev Words.next (T : Words (F := F) c) (i : grid0.Coords) : BitVec 32 := word nxM T.nx (k0_off6 i) (k0_off6_inb i)
abbrev Words.valid (T : Words (F := F) c) (i : grid0.Coords) : BitVec 32 := word vaM T.va (k0_off8 i) (k0_off8_inb i)

/-- The tables at the body's share. -/
def Words.held (T : Words (F := F) c) : sProp 𝕄 := iprop(half c teM T.te ∗ half c fiM T.fi ∗ half c vaM T.va ∗ half c nxM T.nx ∗ half c wrM T.wr)

/-- At a point the body takes the state `pre` to `post`, leaving in the block of the result what `out` says of the rounded weights `cv`. -/
def Runs (T : Words (F := F) c) (i : grid0.Coords) (pre post : sProp 𝕄) (cv : Vec F S7168x512 .bf16) : Prop :=
  ∀ (arg7 : Memref sig .tc .vmem S512x7168 .bf16) (harg7 : arg7.IsWhole) (arg9 : Memref sig .tc .vmem S512x512 .f32) (harg9 : arg9.IsWhole)
    (x : Vec F S512x7168 .bf16) (W : Waits sig Unit) (K : PUnit → sProp 𝕄),
    iprop(owns (c : Thread nD τ) arg7 fullShare x ∗ (∃ d, owns (c : Thread nD τ) arg9 fullShare d)
        ∗ pre ∗ T.held ∗ owes (c : Thread nD τ) 0 W
        ∗ (iprop(owns (c : Thread nD τ) arg7 fullShare x ∗ owns (c : Thread nD τ) arg9 fullShare (out (T.valid i) x cv)
            ∗ (owns (c : Thread nD τ) caM fullShare cv ∗ post) ∗ T.held ∗ (∃ W', owes (c : Thread nD τ) 0 W')) -∗ K ⟨⟩))
      ⊢ wp frame (wpE (defs₀ (F := F)) Variants.none c none) Set.univ (cc0_moe_down i teM (Memref.isWhole_whole _) fiM (Memref.isWhole_whole _) vaM (Memref.isWhole_whole _) nxM (Memref.isWhole_whole _) wrM (Memref.isWhole_whole _) arg7 harg7 wM (Memref.isWhole_whole _) arg9 harg9 stM (Memref.isWhole_whole _) caM (Memref.isWhole_whole _) cc0_scratch2) K

/-- A point that is no group's first: the rounded weights are read as they stand. -/
theorem runs_keep (T : Words (F := F) c) (i : grid0.Coords) (P : sProp 𝕄) (cv : Vec F S7168x512 .bf16)
    (h1 : ¬ k0_cond1 (T.first i) = 1#1)
    (hv : k0_cond4 (T.valid i) = 1#1 ∨ k0_cond5 (T.valid i) = 1#1 ∨ k0_cond6 (T.valid i) = 1#1) :
    Runs T i iprop(owns (c : Thread nD τ) caM fullShare cv ∗ P) P cv := by
  intro arg7 harg7 arg9 harg9 x W K
  simp only [cc0_moe_down_eq_skeleton]; unfold cc0_moe_down_skel Words.held
  unfold owns
  iintro ⟨⟨%f7, %hf7, H7⟩, ⟨%d9, %f9, -, H9⟩, ⟨⟨%fc, %hfc, HC⟩, HP⟩, ⟨Hte, Hfi, Hva, Hnx, Hwr⟩, HW, Hk⟩
  obtain rfl := harg7.eq_unread hf7
  sl_exec (disch := first | sl_exact h1)
  sl_step
  iapply Hk
  isplitl [H7]
  · iexists _; isplitr; · ipureintro; exact harg7.read_unread _
    iexact H7
  isplitl [H9]
  · iexists _; isplitr; swap; · iexact H9
    ipureintro
    exact read_out arg9 f9 _ x cv _ _ _ ((View.readAt_full arg7.view _ _).trans (harg7.read_unread x))
      ((View.readAt_unit arg7.view _ _ rfl _).trans (by rw [harg7.read_unread]; rfl)) ((View.readAt_full caM.view _ _).trans hfc) hv _ _ _ rfl rfl rfl
  isplitl [HC HP]
  · isplitl [HC]
    · iexists _; isplitr; swap; · iexact HC
      ipureintro; exact hfc
    iexact HP
  isplitl [Hte Hfi Hva Hnx Hwr]
  · isplitl [Hte]; · iexact Hte
    isplitl [Hfi]; · iexact Hfi
    isplitl [Hva]; · iexact Hva
    isplitl [Hnx]; · iexact Hnx
    iexact Hwr
  iexists _; iexact HW

/-- The facts the body assumes of the words of a point that starts a group. -/
structure Sound (T : Words (F := F) c) (i : grid0.Coords) : Prop where
  own : k0_chk2 i (T.first i) (T.own i)
  wrap : k0_chk3 i (T.first i) (T.wrap i)
  next : k0_cond3 i (T.wrap i) = 1#1 → k0_chk4 i (T.first i) (T.wrap i) (T.next i)
  start : k0_cond2 i = 1#1 → k0_chk1 i (T.first i) T.start
  valid : k0_cond4 (T.valid i) = 1#1 ∨ k0_cond5 (T.valid i) = 1#1 ∨ k0_cond6 (T.valid i) = 1#1

/-- The very first point, where the body starts the transfer it waits for, and then the next group's. -/
theorem runs_start_next (T : Words (F := F) c) (i : grid0.Coords) (w : At (F := F) c wM)
    (h1 : k0_cond1 (T.first i) = 1#1) (h2 : k0_cond2 i = 1#1) (h3 : k0_cond3 i (T.wrap i) = 1#1) (q : Sound T i)
    (o : Fin 3 → Nat) (ho) (eo : k0_off2 T.start = o) (o' : Fin 3 → Nat) (ho') (eo' : k0_off7 i (T.wrap i) (T.next i) = o') :
    Runs T i iprop((∃ d, owns (c : Thread nD τ) caM fullShare d) ∗ Idle c w) (Fly c w o' ho') (cast w o ho) := by
  subst eo eo'
  intro arg7 harg7 arg9 harg9 x W K
  have q1 := q.start h2
  have q2 := q.own
  have q3 := q.wrap
  have q4 := q.next h3
  simp only [cc0_moe_down_eq_skeleton]; unfold cc0_moe_down_skel Words.held Idle Fly
  unfold owns
  iintro ⟨⟨%f7, %hf7, H7⟩, ⟨%d9, %f9, -, H9⟩, ⟨⟨%dc, %fc, -, HC⟩, ⟨%ds, %fs, -, HS⟩, Hq, Hw⟩, ⟨Hte, Hfi, Hva, Hnx, Hwr⟩, HW, Hk⟩
  obtain rfl := harg7.eq_unread hf7
  sl_exec (disch := first | sl_exact h1 | sl_exact h2 | sl_exact h3 | sl_exact q1 | sl_exact q2 | sl_exact q3 | sl_exact q4)
  sl_step
  iapply Hk
  isplitl [H7]
  · iexists _; isplitr; · ipureintro; exact harg7.read_unread _
    iexact H7
  isplitl [H9]
  · iexists _; isplitr; swap; · iexact H9
    ipureintro
    exact read_out arg9 f9 _ x _ _ _ _ ((View.readAt_full arg7.view _ _).trans (harg7.read_unread x))
      ((View.readAt_unit arg7.view _ _ rfl _).trans (by rw [harg7.read_unread]; rfl)) (by unfold runs_start_next.sl.v19 runs_start_next.sl.HC_1 runs_start_next.sl.v29 runs_start_next.sl.dma2; exact (View.readCov_full caM.view _ _ _ _).trans (congrArg k0_pay1 (cov_landed stM _ _ _))) q.valid _ _ _ rfl rfl rfl
  isplitl [HC Hq Hw]
  · isplitl [HC]
    · iexists _; isplitr; swap; · iexact HC
      ipureintro
      unfold runs_start_next.sl.HC_1 runs_start_next.sl.v29 runs_start_next.sl.dma2
      exact (View.read_writes_full caM.view _ _ _ _).trans (congrArg k0_pay1 (cov_landed stM _ _ _))
    iexists _; isplitr; swap
    · isplitl [Hq]; · iexact Hq
      iexact Hw
    ipureintro
    exact read_landed stM _ _ _
  isplitl [Hte Hfi Hva Hnx Hwr]
  · isplitl [Hte]; · iexact Hte
    isplitl [Hfi]; · iexact Hfi
    isplitl [Hva]; · iexact Hva
    isplitl [Hnx]; · iexact Hnx
    iexact Hwr
  iexists _; iexact HW

/-- The first point of a later group: the body waits for the transfer under way and starts the next group's. -/
theorem runs_next (T : Words (F := F) c) (i : grid0.Coords) (w : At (F := F) c wM)
    (h1 : k0_cond1 (T.first i) = 1#1) (h2 : ¬ k0_cond2 i = 1#1) (h3 : k0_cond3 i (T.wrap i) = 1#1) (q : Sound T i)
    (o : Fin 3 → Nat) (ho) (o' : Fin 3 → Nat) (ho') (eo' : k0_off7 i (T.wrap i) (T.next i) = o') :
    Runs T i iprop((∃ d, owns (c : Thread nD τ) caM fullShare d) ∗ Fly c w o ho) (Fly c w o' ho') (cast w o ho) := by
  subst eo'
  intro arg7 harg7 arg9 harg9 x W K
  have q2 := q.own
  have q3 := q.wrap
  have q4 := q.next h3
  simp only [cc0_moe_down_eq_skeleton]; unfold cc0_moe_down_skel Words.held Fly
  unfold owns
  iintro ⟨⟨%f7, %hf7, H7⟩, ⟨%d9, %f9, -, H9⟩, ⟨⟨%dc, %fc, -, HC⟩, ⟨%d, %hd, Hq, Hw⟩⟩, ⟨Hte, Hfi, Hva, Hnx, Hwr⟩, HW, Hk⟩
  obtain rfl := harg7.eq_unread hf7
  sl_exec (disch := first | sl_exact h1 | sl_exact h2 | sl_exact h3 | sl_exact q2 | sl_exact q3 | sl_exact q4)
  sl_step
  iapply Hk
  isplitl [H7]
  · iexists _; isplitr; · ipureintro; exact harg7.read_unread _
    iexact H7
  isplitl [H9]
  · iexists _; isplitr; swap; · iexact H9
    ipureintro
    exact read_out arg9 f9 _ x _ _ _ _ ((View.readAt_full arg7.view _ _).trans (harg7.read_unread x))
      ((View.readAt_unit arg7.view _ _ rfl _).trans (by rw [harg7.read_unread]; rfl)) (by unfold runs_next.sl.v19 runs_next.sl.HC_1; exact (View.readCov_full caM.view _ _ _ _).trans (congrArg k0_pay1 ((View.readAt_full stM.view _ _).trans hd))) q.valid _ _ _ rfl rfl rfl
  isplitl [HC Hq Hw]
  · isplitl [HC]
    · iexists _; isplitr; swap; · iexact HC
      ipureintro
      unfold runs_next.sl.HC_1
      exact (View.read_writes_full caM.view _ _ _ _).trans (congrArg k0_pay1 ((View.readAt_full stM.view _ _).trans hd))
    iexists _; isplitr; swap
    · isplitl [Hq]; · iexact Hq
      iexact Hw
    ipureintro
    exact read_landed stM _ _ _
  isplitl [Hte Hfi Hva Hnx Hwr]
  · isplitl [Hte]; · iexact Hte
    isplitl [Hfi]; · iexact Hfi
    isplitl [Hva]; · iexact Hva
    isplitl [Hnx]; · iexact Hnx
    iexact Hwr
  iexists _; iexact HW

/-- The first point of the last group of all: the body waits, and starts nothing. -/
theorem runs_last (T : Words (F := F) c) (i : grid0.Coords) (w : At (F := F) c wM)
    (h1 : k0_cond1 (T.first i) = 1#1) (h2 : ¬ k0_cond2 i = 1#1) (h3 : ¬ k0_cond3 i (T.wrap i) = 1#1) (q : Sound T i)
    (o : Fin 3 → Nat) (ho)  :
    Runs T i iprop((∃ d, owns (c : Thread nD τ) caM fullShare d) ∗ Fly c w o ho) (Idle c w) (cast w o ho) := by
  intro arg7 harg7 arg9 harg9 x W K
  have q2 := q.own
  have q3 := q.wrap
  simp only [cc0_moe_down_eq_skeleton]; unfold cc0_moe_down_skel Words.held Fly Idle
  unfold owns
  iintro ⟨⟨%f7, %hf7, H7⟩, ⟨%d9, %f9, -, H9⟩, ⟨⟨%dc, %fc, -, HC⟩, ⟨%d, %hd, Hq, Hw⟩⟩, ⟨Hte, Hfi, Hva, Hnx, Hwr⟩, HW, Hk⟩
  obtain rfl := harg7.eq_unread hf7
  sl_exec (disch := first | sl_exact h1 | sl_exact h2 | sl_exact h3 | sl_exact q2 | sl_exact q3)
  sl_step
  iapply Hk
  isplitl [H7]
  · iexists _; isplitr; · ipureintro; exact harg7.read_unread _
    iexact H7
  isplitl [H9]
  · iexists _; isplitr; swap; · iexact H9
    ipureintro
    exact read_out arg9 f9 _ x _ _ _ _ ((View.readAt_full arg7.view _ _).trans (harg7.read_unread x))
      ((View.readAt_unit arg7.view _ _ rfl _).trans (by rw [harg7.read_unread]; rfl)) (by unfold runs_last.sl.v19 runs_last.sl.HC_1; exact (View.readCov_full caM.view _ _ _ _).trans (congrArg k0_pay1 ((View.readAt_full stM.view _ _).trans hd))) q.valid _ _ _ rfl rfl rfl
  isplitl [HC Hq Hw Hq_dst]
  · isplitl [HC]
    · iexists _; isplitr; swap; · iexact HC
      ipureintro
      unfold runs_last.sl.HC_1
      exact (View.read_writes_full caM.view _ _ _ _).trans (congrArg k0_pay1 ((View.readAt_full stM.view _ _).trans hd))
    isplitl [Hq_dst]
    · iexists _, _; isplitr; swap; · iexact Hq_dst
      ipureintro; rfl
    isplitl [Hq]; · iexact Hq
    iexact Hw
  isplitl [Hte Hfi Hva Hnx Hwr]
  · isplitl [Hte]; · iexact Hte
    isplitl [Hfi]; · iexact Hfi
    isplitl [Hva]; · iexact Hva
    isplitl [Hnx]; · iexact Hnx
    iexact Hwr
  iexists _; iexact HW

end Cert.DownIdeal.Hand

end
-- ==== Proof.Down.Plan.lean ====
/-
  The plan of the experts' turns: what the five tables must say of one another for each tile to find its own expert's
  weights, and with it the state of the kernel's transfer before and after every point of the grid.
-/
module

public import proofs.«01_k».proof.Proof.Down.Run

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The tile of the point `k`. -/
def pos (k : ℕ) : S42.Idx := fun a => ⟨k % 42, by
  obtain rfl : a = (0 : Fin 1) := Subsingleton.elim _ _
  exact Nat.mod_lt _ (by decide)⟩

theorem pos_mod (k : ℕ) : pos (k % 42) = pos k := by
  unfold pos; funext a; exact Fin.ext (Nat.mod_mod _ _)

/-- What the tables say of one another. -/
structure Plan (te fi va nx wr : S42.Idx → BitVec 32) : Prop where
  te_lt : ∀ k, (te (pos k)).toNat < 16
  nx_lt : ∀ k, (nx (pos k)).toNat < 16
  wr_le : ∀ k, (wr (pos k)).toNat ≤ 1
  va_nn : ∀ k, 0 ≤ (va (pos k)).toInt
  turn : ∀ k, k + 1 < 42 → fi (pos (k + 1)) = 1#32 → te (pos (k + 1)) = nx (pos k) ∧ wr (pos k) = 0#32
  same : ∀ k, k + 1 < 42 → fi (pos (k + 1)) ≠ 1#32 → te (pos (k + 1)) = te (pos k) ∧ nx (pos (k + 1)) = nx (pos k) ∧ wr (pos (k + 1)) = wr (pos k)
  first : fi (pos 0) = 1#32
  last : nx (pos 41) = te (pos 0) ∧ wr (pos 41) = 1#32

/-! ## The conditions of the body -/

theorem flag_iff (b : BitVec 1) : Scalar.cmpi .ne (Scalar.extui b : BitVec 32) 0#32 = 1#1 ↔ b = 1#1 := by
  revert b; decide

theorem cond1_iff (v : BitVec 32) : k0_cond1 v = 1#1 ↔ v = 1#32 := by
  unfold k0_cond1
  exact (flag_iff _).trans IntOp.cmpi_eq

theorem cond2_iff : ∀ i : grid0.Coords, k0_cond2 i = 1#1 ↔ (i 0).val = 0 ∧ (i 1).val = 0 := by decide +kernel

theorem cond3_iff : ∀ (i : grid0.Coords) (v : BitVec 32), v.toNat ≤ 1 → (k0_cond3 i v = 1#1 ↔ (i 0).val + v.toNat < 4) := by
  intro i v hv
  have h : v = 0#32 ∨ v = 1#32 := by
    rcases Nat.le_one_iff_eq_zero_or_eq_one.1 hv with h | h
    · exact Or.inl (BitVec.eq_of_toNat_eq h)
    · exact Or.inr (BitVec.eq_of_toNat_eq h)
  rcases h with rfl | rfl
  · revert i; decide +kernel
  · revert i; decide +kernel

theorem cond4_iff (v : BitVec 32) : k0_cond4 v = 1#1 ↔ 256 < v.toInt := by unfold k0_cond4; exact (flag_iff _).trans IntOp.cmpi_sgt

theorem cond5_iff (v : BitVec 32) : k0_cond5 v = 1#1 ↔ 0 < v.toInt ∧ v.toInt ≤ 256 := by
  unfold k0_cond5
  exact (flag_iff _).trans (IntOp.andi_eq_one.trans (and_congr IntOp.cmpi_sgt IntOp.cmpi_sle))

theorem cond6_iff (v : BitVec 32) : k0_cond6 v = 1#1 ↔ v = 0#32 := by unfold k0_cond6; exact (flag_iff _).trans IntOp.cmpi_eq

/-- A count that is not negative makes the tile of one of the three kinds. -/
theorem kind_of (v : BitVec 32) (h : 0 ≤ v.toInt) : k0_cond4 v = 1#1 ∨ k0_cond5 v = 1#1 ∨ k0_cond6 v = 1#1 := by
  by_cases h0 : v = 0#32
  · exact Or.inr (Or.inr ((cond6_iff v).2 h0))
  · have hne : v.toInt ≠ 0 := fun e => h0 (BitVec.eq_of_toInt_eq e)
    by_cases hl : 256 < v.toInt
    · exact Or.inl ((cond4_iff v).2 hl)
    · exact Or.inr (Or.inl ((cond5_iff v).2 ⟨by omega, by omega⟩))

/-! ## Offsets and words -/

/-- The offsets of the block of the columns `512 b …` of the weights of expert `e`. -/
def off (e b : ℕ) : Fin 3 → ℕ := ![e % 16, 0, b % 4 * 512]

theorem off_inb (e b : ℕ) : ∀ a, off e b a + S1x7168x512.size a ≤ S16x7168x2048.size a := by
  intro a
  have he := Nat.mod_lt e (show 0 < 16 by decide)
  have hb := Nat.mod_lt b (show 0 < 4 by decide)
  match a with
  | ⟨0, _⟩ => show e % 16 + 1 ≤ 16; omega
  | ⟨1, _⟩ => show 0 + 7168 ≤ 7168; omega
  | ⟨2, _⟩ => show b % 4 * 512 + 512 ≤ 2048; omega

theorem off2_eq (v : BitVec 32) (hv : v.toNat < 16) : k0_off2 v = off v.toNat 0 := by
  unfold k0_off2 off
  rw [Nat.mod_eq_of_lt hv]

theorem mult2_eq : ∀ i : grid0.Coords, (k0_mult2 i).toNat = (i 0).val % 4 * 512 := by decide +kernel

theorem off4_eq (i : grid0.Coords) (v : BitVec 32) (hv : v.toNat < 16) : k0_off4 i v = off v.toNat (i 0).val := by
  show (![v.toNat, 0, (k0_mult2 i).toNat] : Fin 3 → ℕ) = _
  rw [mult2_eq]; unfold off
  rw [Nat.mod_eq_of_lt hv]

theorem mult3_eq : ∀ (i : grid0.Coords) (v : BitVec 32), v.toNat ≤ 1 → (i 0).val + v.toNat < 4 → (k0_mult3 i v).toNat = ((i 0).val + v.toNat) % 4 * 512 := by
  intro i v hv
  have h : v = 0#32 ∨ v = 1#32 := by
    rcases Nat.le_one_iff_eq_zero_or_eq_one.1 hv with h | h
    · exact Or.inl (BitVec.eq_of_toNat_eq h)
    · exact Or.inr (BitVec.eq_of_toNat_eq h)
  rcases h with rfl | rfl
  · revert i; decide +kernel
  · revert i; decide +kernel

theorem off7_eq (i : grid0.Coords) (v u : BitVec 32) (hv : v.toNat ≤ 1) (hn : (i 0).val + v.toNat < 4) (hu : u.toNat < 16) :
    k0_off7 i v u = off u.toNat ((i 0).val + v.toNat) := by
  show (![u.toNat, 0, (k0_mult3 i v).toNat] : Fin 3 → ℕ) = _
  rw [mult3_eq i v hv hn]; unfold off
  rw [Nat.mod_eq_of_lt hu]

variable {c : Dev nD}

theorem coord0 : ∀ t : Fin grid0.N, ((grid0.coords t) 0).val = t.val / 42 := by decide +kernel
theorem coord1 : ∀ t : Fin grid0.N, ((grid0.coords t) 1).val = t.val % 42 := by decide +kernel

theorem idx_eq (o : Fin 1 → ℕ) (h : ∀ a, o a + S1.size a ≤ S42.size a) (k : ℕ) (e : o = ![k % 42]) :
    (fun a => ⟨o a, by have := h a; have h1 : S1.size a = 1 := by { obtain rfl : a = (0 : Fin 1) := Subsingleton.elim _ _; rfl }
                       omega⟩ : S42.Idx) = pos k := by
  subst e; funext a; obtain rfl : a = (0 : Fin 1) := Subsingleton.elim _ _; rfl

/-- A table's word as the body reads it is the table's word of the tile. -/
theorem word_eq (x : Buf (Elt F) ((c : Thread nD τ).loc main_arg0)) (o : Fin 1 → ℕ) (h) (k : ℕ) (e : o = ![k % 42]) :
    word (F := F) (c := c) teM x o h = (x : S42.Idx → BitVec 32) (pos k) := by
  rw [← idx_eq o h k e]
  rfl

abbrev Words.teAt (T : Words (F := F) c) (k : ℕ) : BitVec 32 := (T.te : S42.Idx → BitVec 32) (pos k)
abbrev Words.fiAt (T : Words (F := F) c) (k : ℕ) : BitVec 32 := (T.fi : S42.Idx → BitVec 32) (pos k)
abbrev Words.vaAt (T : Words (F := F) c) (k : ℕ) : BitVec 32 := (T.va : S42.Idx → BitVec 32) (pos k)
abbrev Words.nxAt (T : Words (F := F) c) (k : ℕ) : BitVec 32 := (T.nx : S42.Idx → BitVec 32) (pos k)
abbrev Words.wrAt (T : Words (F := F) c) (k : ℕ) : BitVec 32 := (T.wr : S42.Idx → BitVec 32) (pos k)

theorem off1_at (t : Fin grid0.N) : k0_off1 (grid0.coords t) = ![t.val % 42] := by rw [k0_off1_eq, coord1]
theorem off3_at (t : Fin grid0.N) : k0_off3 (grid0.coords t) = ![t.val % 42] := by rw [k0_off3_eq, coord1]
theorem off5_at (t : Fin grid0.N) : k0_off5 (grid0.coords t) = ![t.val % 42] := by rw [k0_off5_eq, coord1]
theorem off6_at (t : Fin grid0.N) : k0_off6 (grid0.coords t) = ![t.val % 42] := by rw [k0_off6_eq, coord1]
theorem off8_at (t : Fin grid0.N) : k0_off8 (grid0.coords t) = ![t.val % 42] := by rw [k0_off8_eq, coord1]

section
variable (T : Words (F := F) c) (t : Fin grid0.N)
theorem first_eq : T.first (grid0.coords t) = T.fiAt t.val := word_eq (c := c) T.fi _ _ t.val (off1_at t)
theorem start_eq : T.start = T.teAt 0 := word_eq (c := c) T.te _ _ 0 rfl
theorem own_eq : T.own (grid0.coords t) = T.teAt t.val := word_eq (c := c) T.te _ _ t.val (off3_at t)
theorem wrap_eq : T.wrap (grid0.coords t) = T.wrAt t.val := word_eq (c := c) T.wr _ _ t.val (off5_at t)
theorem next_eq : T.next (grid0.coords t) = T.nxAt t.val := word_eq (c := c) T.nx _ _ t.val (off6_at t)
theorem valid_eq : T.valid (grid0.coords t) = T.vaAt t.val := word_eq (c := c) T.va _ _ t.val (off8_at t)
end

/-! ## The state between points -/

/-- The tables are a plan. -/
abbrev Words.Planned (T : Words (F := F) c) : Prop := Plan T.te T.fi T.va T.nx T.wr

/-- The rounded weights at the point `t`: the block of its tile's expert at its columns. -/
def castAt (T : Words (F := F) c) (w : At (F := F) c wM) (t : ℕ) : Vec F S7168x512 .bf16 :=
  cast w (off (T.teAt t).toNat (t / 42)) (off_inb _ _)

/-- What is under way after the point `t`: the next group's block, if the columns go on. -/
def Pend (T : Words (F := F) c) (w : At (F := F) c wM) (t : ℕ) : sProp 𝕄 :=
  if t / 42 + (T.wrAt t).toNat < 4 then Fly c w (off (T.nxAt t).toNat (t / 42 + (T.wrAt t).toNat)) (off_inb _ _) else Idle c w

/-- The state before the point `t`. -/
def St (T : Words (F := F) c) (w : At (F := F) c wM) : ℕ → sProp 𝕄
  | 0 => iprop((∃ d, owns (c : Thread nD τ) caM fullShare d) ∗ Idle c w)
  | t + 1 => iprop(owns (c : Thread nD τ) caM fullShare (castAt T w t) ∗ Pend T w t)

/-- A run from a weaker state. -/
theorem Runs.from_pre {T : Words (F := F) c} {i : grid0.Coords} {pre pre' post : sProp 𝕄} {cv : Vec F S7168x512 .bf16}
    (h : Runs T i pre post cv) (hp : pre' ⊢ pre) : Runs T i pre' post cv := by
  intro arg7 harg7 arg9 harg9 x W K
  refine (sep_mono .rfl (sep_mono .rfl (sep_mono hp .rfl))).trans (h arg7 harg7 arg9 harg9 x W K)

/-- The facts the body assumes hold of a plan's words. -/
theorem sound (T : Words (F := F) c) (q : T.Planned) (t : Fin grid0.N) : Sound T (grid0.coords t) where
  own := by
    intro _
    rw [own_eq, off4_eq _ _ (q.te_lt _)]
    exact off_inb _ _
  wrap := by
    intro _ h3
    rw [wrap_eq] at h3 ⊢
    rw [mult3_eq _ _ (q.wr_le _) ((cond3_iff _ _ (q.wr_le _)).1 h3)]
    exact Dvd.intro_left _ rfl
  next := by
    intro h3 _ _
    rw [wrap_eq] at h3 ⊢
    rw [next_eq, off7_eq _ _ _ (q.wr_le _) ((cond3_iff _ _ (q.wr_le _)).1 h3) (q.nx_lt _)]
    exact off_inb _ _
  start := by
    intro _ _ _
    rw [start_eq, off2_eq _ (q.te_lt _)]
    exact off_inb _ _
  valid := by
    rw [valid_eq]
    exact kind_of _ (q.va_nn _)

theorem pos_of_mod {a b : ℕ} (h : a % 42 = b % 42) : pos a = pos b := by
  rw [← pos_mod a, ← pos_mod b, h]

/-- A point that starts a group finds its own block under way. -/
theorem pend_turn (T : Words (F := F) c) (q : T.Planned) (w : At (F := F) c wM) (t : ℕ) (ht : t + 1 < 168) (h1 : T.fiAt (t + 1) = 1#32) :
    Pend T w t = Fly c w (off (T.teAt (t + 1)).toNat ((t + 1) / 42)) (off_inb _ _) := by
  have key : T.nxAt t = T.teAt (t + 1) ∧ t / 42 + (T.wrAt t).toNat = (t + 1) / 42 := by
    by_cases hm : (t + 1) % 42 = 0
    · have e0 : pos (t + 1) = pos 0 := pos_of_mod hm
      have e41 : pos t = pos 41 := pos_of_mod (by omega)
      refine ⟨?_, ?_⟩
      · show (T.nx : S42.Idx → BitVec 32) (pos t) = (T.te : S42.Idx → BitVec 32) (pos (t + 1))
        rw [e0, e41]; exact q.last.1
      · show t / 42 + ((T.wr : S42.Idx → BitVec 32) (pos t)).toNat = _
        rw [e41, q.last.2]
        show t / 42 + 1 = _
        omega
    · have em : pos t = pos (t % 42) := (pos_mod t).symm
      have em1 : pos (t + 1) = pos (t % 42 + 1) := pos_of_mod (by omega)
      have h := q.turn (t % 42) (by omega) (by rw [← em1]; exact h1)
      rw [← em1, ← em] at h
      refine ⟨h.1.symm, ?_⟩
      show t / 42 + ((T.wr : S42.Idx → BitVec 32) (pos t)).toNat = _
      rw [h.2]
      show t / 42 + 0 = _
      omega
  unfold Pend
  rw [if_pos (by rw [key.2]; omega)]
  congr 1
  rw [key.1, key.2]

/-- A point that starts no group finds its own block rounded, and leaves what is under way. -/
theorem pend_same (T : Words (F := F) c) (q : T.Planned) (w : At (F := F) c wM) (t : ℕ) (h1 : T.fiAt (t + 1) ≠ 1#32) :
    castAt T w t = castAt T w (t + 1) ∧ Pend T w t = Pend T w (t + 1) := by
  have hm : (t + 1) % 42 ≠ 0 := fun hm => h1 (by
    show (T.fi : S42.Idx → BitVec 32) (pos (t + 1)) = _
    rw [show pos (t + 1) = pos 0 from pos_of_mod hm]; exact q.first)
  have em : pos t = pos (t % 42) := (pos_mod t).symm
  have em1 : pos (t + 1) = pos (t % 42 + 1) := pos_of_mod (by omega)
  have h := q.same (t % 42) (by omega) (by rw [← em1]; exact h1)
  rw [← em1, ← em] at h
  obtain ⟨ha, hb, hc⟩ := h
  have hd : t / 42 = (t + 1) / 42 := by omega
  unfold castAt Pend Words.teAt Words.nxAt Words.wrAt
  refine ⟨?_, by simp only [hb, hc, hd]⟩
  have hcast : ∀ e e' b b' : ℕ, e = e' → b = b' → cast w (off e b) (off_inb e b) = cast w (off e' b') (off_inb e' b') := by
    rintro e _ b _ rfl rfl; rfl
  exact hcast _ _ _ _ (congrArg BitVec.toNat ha.symm) hd

/-- The body at every point takes the state before it to the state after it. -/
theorem step (T : Words (F := F) c) (q : T.Planned) (w : At (F := F) c wM) (t : Fin grid0.N) :
    Runs T (grid0.coords t) (St T w t.val) (Pend T w t.val) (castAt T w t.val) := by
  have hN : t.val < 168 := lt_of_lt_of_eq t.isLt N_0
  have qs := sound T q t
  have e0 : ((grid0.coords t) 0).val = t.val / 42 := coord0 t
  have e1 : ((grid0.coords t) 1).val = t.val % 42 := coord1 t
  have hle : (T.wrAt t.val).toNat ≤ 1 := q.wr_le t.val
  have c1 : k0_cond1 (T.first (grid0.coords t)) = 1#1 ↔ T.fiAt t.val = 1#32 := by rw [first_eq]; exact cond1_iff _
  have c2 : k0_cond2 (grid0.coords t) = 1#1 ↔ t.val = 0 := by rw [cond2_iff, e0, e1]; omega
  have c3 : k0_cond3 (grid0.coords t) (T.wrap (grid0.coords t)) = 1#1 ↔ t.val / 42 + (T.wrAt t.val).toNat < 4 := by
    rw [wrap_eq, cond3_iff _ _ hle, e0]
  have e7 : t.val / 42 + (T.wrAt t.val).toNat < 4 →
      k0_off7 (grid0.coords t) (T.wrap (grid0.coords t)) (T.next (grid0.coords t)) = off (T.nxAt t.val).toNat (t.val / 42 + (T.wrAt t.val).toNat) := by
    intro h
    rw [wrap_eq, next_eq, off7_eq _ _ _ hle (by rw [e0]; exact h) (q.nx_lt _), e0]
  by_cases h1 : T.fiAt t.val = 1#32
  · rcases Nat.eq_zero_or_pos t.val with ht | ht
    · have h3 : t.val / 42 + (T.wrAt t.val).toNat < 4 := by omega
      have hr := runs_start_next T (grid0.coords t) w (c1.2 h1) (c2.2 ht) (c3.2 h3) qs (off (T.teAt t.val).toNat (t.val / 42)) (off_inb _ _)
        (by rw [start_eq, off2_eq _ (q.te_lt _), ht]) _ (off_inb _ _) (e7 h3)
      rw [ht] at hr ⊢
      unfold Pend
      rw [ht] at h3
      rw [if_pos h3]
      exact hr
    · obtain ⟨k, hk⟩ : ∃ k, t.val = k + 1 := ⟨t.val - 1, by omega⟩
      have hp : St T w t.val ⊢ iprop((∃ d, owns (c : Thread nD τ) caM fullShare d)
          ∗ Fly c w (off (T.teAt t.val).toNat (t.val / 42)) (off_inb _ _)) := by
        rw [hk]
        show iprop(owns (c : Thread nD τ) caM fullShare (castAt T w k) ∗ Pend T w k) ⊢ _
        rw [pend_turn T q w k (by omega) (by rw [← hk]; exact h1)]
        iintro ⟨H, HF⟩
        isplitl [H]; · iexists _; iexact H
        iexact HF
      have h2 : ¬ k0_cond2 (grid0.coords t) = 1#1 := fun h => by have := c2.1 h; omega
      by_cases h3 : t.val / 42 + (T.wrAt t.val).toNat < 4
      · have hr := runs_next T (grid0.coords t) w (c1.2 h1) h2 (c3.2 h3) qs (off (T.teAt t.val).toNat (t.val / 42)) (off_inb _ _) _ (off_inb _ _) (e7 h3)
        unfold Pend
        rw [if_pos h3]
        exact hr.from_pre hp
      · have hr := runs_last T (grid0.coords t) w (c1.2 h1) h2 (fun h => h3 (c3.1 h)) qs (off (T.teAt t.val).toNat (t.val / 42)) (off_inb _ _)
        unfold Pend
        rw [if_neg h3]
        exact hr.from_pre hp
  · obtain ⟨k, hk⟩ : ∃ k, t.val = k + 1 := ⟨t.val - 1, by
      have : t.val ≠ 0 := fun h => h1 (by rw [h]; exact q.first)
      omega⟩
    have hs := pend_same T q w k (by rw [← hk]; exact h1)
    rw [← hk] at hs
    refine (runs_keep T (grid0.coords t) (Pend T w t.val) (castAt T w t.val) (fun h => h1 (c1.1 h)) qs.valid).from_pre ?_
    rw [hk] at hs ⊢
    rw [← hs.1, ← hs.2]
    exact .rfl

/-- After the last point nothing is under way. -/
theorem pend_end (T : Words (F := F) c) (q : T.Planned) (w : At (F := F) c wM) : Pend T w 167 = Idle c w := by
  unfold Pend
  rw [if_neg]
  show ¬ 3 + ((T.wr : S42.Idx → BitVec 32) (pos 41)).toNat < 4
  rw [q.last.2]
  decide

end Cert.DownIdeal.Hand

end
-- ==== Proof.Down.Frame.lean ====
/-
  The kernel's run: its transfers cross from one point of the grid to the next, so the state between points is part of the
  loop's invariant (`St`), and each point's block of the result is `out` of the tile's rows and of the rounded weights of
  the tile's own expert.
-/
module

public import proofs.«01_k».proof.Proof.Down.Plan

@[expose] public section

set_option maxRecDepth 16384

noncomputable section

namespace Cert.DownIdeal.Hand

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The region's entry -/

abbrev V (c : Dev nD) (b : Ref sig .tc) : Buf (Elt F) ((c : Thread nD τ).loc b) := m ((c : Thread nD τ).loc b)

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

def tbl : pre0.Contents (Elt F) := fun j => V m (0 : Dev nD) (pre0.ref j)
theorem V_pre (c : Dev nD) (j : Fin 5) : V m c (pre0.ref j) = tbl m j := by
  obtain rfl : c = 0 := Subsingleton.elim _ _; rfl

theorem ok : ok0 (F := F) (tbl m) := by unfold ok0; trivial
abbrev adm : (pcfg0 (F := F)).Adm := ⟨tbl m, ok m⟩
abbrev cfgM : Pipeline.Cfg sig Λ₀ := cfg0 (adm m)

/-- The tables as the body reads them, and the weights. -/
abbrev words (c : Dev nD) : Words (F := F) c := ⟨V m c main_arg0, V m c main_arg1, V m c main_arg2, V m c main_arg3, V m c main_arg4⟩
abbrev weights (c : Dev nD) : At (F := F) c wM := V m c main_arg6

theorem PhiT0_eq (c : Dev nD) : (Pipeline.ΦT pre0 (tbl m) c : sProp 𝕄) = (words m c).held := by
  obtain rfl : c = 0 := Subsingleton.elim _ _
  unfold Pipeline.ΦT Pipeline.prefHeld Words.held
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-! ## The windows' blocks -/

def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- A point's block of the result. -/
def oblk (c : Dev nD) (t : Fin (cfgM m).N) : Vec F S512x512 .f32 :=
  out ((words m c).vaAt t.val) (iblk m c 0 t) (castAt (words m c) (weights m c) t.val)

/-- The loop's data: the rows' blocks stay, the result's blocks are `oblk`, and between points the state is `St`. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => oblk m c t
  Φ p := iprop((∃ r, prngReg c r) ∗ St (words m c) (weights m c) p.val ∗ (words m c).held)
  q _ := fullShare
  owed _ := 0

theorem A_eq (c : Dev nD) (w : Fin (cfgM m).W) : (dats m 0 c).A w = V m c (Pipeline.arrRef spec0 w) := by dsimp only [dats]
theorem after0_0 (c : Dev nD) (t : Fin (cfgM m).N) : (dats m 0 c).after 0 t = iblk m c 0 t := by dsimp only [dats]; try rfl
theorem after0_1 (c : Dev nD) (t : Fin (cfgM m).N) : (dats m 0 c).after 1 t = oblk m c t := by dsimp only [dats]; try rfl

theorem before0_0 (c : Dev nD) (t : Fin (cfgM m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-! ## The body obligation -/

abbrev ms0_0 (t : Fin (cfgM m).N) : Memref sig .tc .vmem S512x7168 .bf16 := spec0_0.stage ((cfgM m).slots t 0)
abbrev ms0_1 (t : Fin (cfgM m).N) : Memref sig .tc .vmem S512x512 .f32 := spec0_1.stage ((cfgM m).slots t 1)

/-- A tile of a plan's count is of one of the three kinds, so no point leaves the result's block alone. -/
theorem not_idle (c : Dev nD) (q : (words m c).Planned) (t : Fin grid0.N) : idle0 (tbl m) 1 (grid0.coords t) = false := by
  obtain rfl : c = 0 := Subsingleton.elim _ _
  have h := kind_of _ (q.va_nn t.val)
  have e : (tbl m).atD 2 (k0_off8 (grid0.coords t)) = (words m 0).vaAt t.val := by
    have hb : ∀ a : Fin 1, k0_off8 (grid0.coords t) a + 1 ≤ S42.size a := by rw [off8_at]; intro a; obtain rfl : a = (0 : Fin 1) := Subsingleton.elim _ _; show t.val % 42 + 1 ≤ 42; omega
    unfold Pipeline.Prefetch.Contents.atD
    refine (dif_pos hb).trans ?_
    exact congrArg (words m 0).va (idx_eq _ (k0_off8_inb (grid0.coords t)) t.val (off8_at t))
  show (!(k0_cond4 ((tbl m).atD 2 (k0_off8 (grid0.coords t))) == 1#1) && !(k0_cond5 ((tbl m).atD 2 (k0_off8 (grid0.coords t))) == 1#1)
    && !(k0_cond6 ((tbl m).atD 2 (k0_off8 (grid0.coords t))) == 1#1)) = false
  rw [e]
  rcases h with h | h | h <;> rw [h] <;> simp

/-- The body at a point. -/
abbrev bodyAt (t : Fin (cfgM (F := F) m).N) :=
  cc0_moe_down (F := F) (grid0.coords t) teM (Memref.isWhole_whole _) fiM (Memref.isWhole_whole _) vaM (Memref.isWhole_whole _) nxM (Memref.isWhole_whole _)
    wrM (Memref.isWhole_whole _) (ms0_0 m t) (hstage0_0 (((cfgM m).slots t 0).cast nbuf0_0)) wM (Memref.isWhole_whole _)
    (ms0_1 m t) (hstage0_1 (((cfgM m).slots t 1).cast nbuf0_1)) stM (Memref.isWhole_whole _) caM (Memref.isWhole_whole _) cc0_scratch2

theorem bodyAt_eq (t : Fin (cfgM (F := F) m).N) : defs₀ (F := F) .tc (cfgM m).body ((cfgM m).bodyArgs t ((cfgM m).slots t)) = bodyAt m t := by
  unfold defs₀; rw [Defs.onTc_tc]

def bodyPre (c : Dev nD) (t : Fin (cfgM (F := F) m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d)))
def bodyPost (c : Dev nD) (t : Fin (cfgM (F := F) m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t))

theorem Phi_eq (c : Dev nD) (p) : (dats m 0 c).Φ p = iprop((∃ r, prngReg c r) ∗ St (words m c) (weights m c) p.val ∗ (words m c).held) := by
  dsimp only [dats]

theorem St_succ {c : Dev nD} (T : Words (F := F) c) (w : At (F := F) c wM) (k : ℕ) :
    St T w (k + 1) = iprop(owns (c : Thread nD τ) caM fullShare (castAt T w k) ∗ Pend T w k) := rfl

theorem sound_body (c : Dev nD) (q : (words m c).Planned) (t : Fin (cfgM (F := F) m).N) :
    bodyPre m c t ⊢ wp frame (wpE (defs₀ (F := F)) Variants.none c none) Set.univ (bodyAt m t) (fun _ => bodyPost m c t) := by
  unfold bodyPre bodyPost
  simp only [before0_0]
  rw [after0_0, after0_1, Phi_eq, Phi_eq]
  rw [Fin.val_succ, Fin.val_castSucc, St_succ]
  unfold Dat.owesAt Pipeline.owesWithin
  rw [show (dats m 0 c).owed t.castSucc = 0 from rfl, show (dats m 0 c).owed t.succ = 0 from rfl]
  iintro ⟨⟨Hg, HS, HT⟩, ⟨%W, -, HW⟩, ⟨%d0, H0⟩, ⟨%d1, H1⟩⟩
  iapply (step (words m c) q (weights m c) t _ (hstage0_0 (((cfgM m).slots t 0).cast nbuf0_0)) _ (hstage0_1 (((cfgM m).slots t 1).cast nbuf0_1)) (iblk m c 0 t) W _)
  isplitl [H0]; · iexact H0
  isplitl [H1]; · iexists _; iexact H1
  isplitl [HS]; · iexact HS
  isplitl [HT]; · iexact HT
  isplitl [HW]; · iexact HW
  iintro ⟨H0, H1, HS, HT, ⟨%W', HW'⟩⟩
  isplitl [Hg HS HT]
  · isplitl [Hg]; · iexact Hg
    isplitl [HS]; · iexact HS
    iexact HT
  isplitl [HW']
  · iexists W'; isplitr; · ipureintro; exact fun _ _ => Or.inl trivial
    iexact HW'
  isplitl [H0]; · iexact H0
  unfold oblk
  rw [← valid_eq (words m c) t]
  iexact H1

theorem body_obligation (c : Dev nD) (q : (words m c).Planned) : BodyObligation (dats (F := F) m 0 c) (defs₀ (F := F)) Variants.none () Set.univ := fun t => by
  rw [bigSep_W0, bigSep_W0, bodyAt_eq m]
  refine triple_restated (sound_body m c q t) rfl .rfl fun _ => ?_
  have e : (cfgM m).idle 1 ((cfgM m).grid.coords t) = false := not_idle m c q t
  dsimp only
  split
  · rename_i h; exact absurd (h.symm.trans e) (by decide)
  · exact .rfl

/-! ## The launch -/

abbrev osem0 : Fin 1 → SemLoc sig := fun j => (![SemLoc.dma seM] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma seM) 0 := by
  rw [Pipeline.ownSems0_eq_of_list c osem0 [0] (by decide) (by decide)]; rfl

def H0 : Finset (Ref sig .tc) := {main_arg6}
theorem H0_sub : H0 ⊆ Pipeline.restRefsP sig pre0 spec0 := by decide
theorem hbmPts0_eq (c : Dev nD) :
    (bigSep H0 (fun b => ((c : Thread nD τ).loc b) ↦{fullShare} V m c b) : sProp 𝕄) = full c wM (weights m c) := by
  unfold H0; rw [bigSep_singleton]

theorem PhiD0_eq (c : Dev nD) :
    (Pipeline.ΦD osem0 spec0 H0 (V m) c : sProp 𝕄)
      = iprop(((∃ d, owns (c : Thread nD τ) stM fullShare d) ∗ (∃ d, owns (c : Thread nD τ) caM fullShare d)) ∗ (∃ r, prngReg c r)
          ∗ semVal ((c : Thread nD τ), SemLoc.dma seM) 0 ∗ full c wM (weights m c)) := by
  rw [Pipeline.ΦD_eq, scopedRest0_eq, ownSems00_eq, hbmPts0_eq]
  simp only [stM, caM, owns_whole]; try rfl

theorem enters (c : Dev nD) : iprop(Pipeline.ΦD osem0 spec0 H0 (V m) c ∗ Pipeline.ΦT pre0 (tbl m) c) ⊢ (dats (F := F) m 0 c).Φ 0 := by
  rw [PhiD0_eq, PhiT0_eq, Phi_eq]
  show _ ⊢ iprop((∃ r, prngReg c r) ∗ ((∃ d, owns (c : Thread nD τ) caM fullShare d) ∗ Idle c (weights m c)) ∗ (words m c).held)
  unfold Idle
  iintro ⟨⟨⟨HS, HC⟩, Hg, Hq, Hw⟩, HT⟩
  isplitl [Hg]; · iexact Hg
  isplitl [HS HC Hq Hw]
  · isplitl [HC]; · iexact HC
    isplitl [HS]; · iexact HS
    isplitl [Hq]; · iexact Hq
    iexact Hw
  iexact HT

theorem leaves (c : Dev nD) (q : (words m c).Planned) : (dats (F := F) m 0 c).Φ (Fin.last (cfgM m).N) ⊢ Pipeline.ΦD osem0 spec0 H0 (V m) c := by
  rw [PhiD0_eq, Phi_eq]
  show iprop((∃ r, prngReg c r) ∗ (owns (c : Thread nD τ) caM fullShare (castAt (words m c) (weights m c) 167) ∗ Pend (words m c) (weights m c) 167) ∗ (words m c).held) ⊢ _
  rw [pend_end _ q]
  unfold Idle
  iintro ⟨Hg, ⟨HC, HS, Hq, Hw⟩, -⟩
  isplitl [HS HC]
  · isplitl [HS]; · iexact HS
    iexists _; iexact HC
  isplitl [Hg]; · iexact Hg
  isplitl [Hq]; · iexact Hq
  iexact Hw

set_option backward.isDefEq.respectTransparency.types false in
/-- From tables that are a plan, every run ends, leaving the arrays as the loop's data say and every counter at zero. -/
theorem run_main (hq : ∀ c, (words m c).Planned) :
    θ_run defs (onTc (τ := τ) (main (F := F))) (s₀ m ρ) (fun r => Pipeline.FramePost (Pipeline.pin pcfgs fun _ => adm m) (dats m) 0 (V m) r ∧ r.2.sem = fun _ => 0) :=
  Pipeline.θ_run_frameP_dma (Q' := _) pcfgs (fun _ => adm m) (dats m) (0 : Fin 1) launch0 osem0 defs₀ Variants.none ownSemFacts0 H0 H0_sub m ρ main
    (hbody := fun c => (body_obligation m c (hq c)).loose) (hshare := fun c => (dats m 0 c).share_full fun _ => rfl)
    (howed := fun _ _ => rfl) (V := V m) (hmain := hmain m Variants.none) (hA := A_eq m) (hpf := V_pre m)
    (hin := enters m) (hout := fun c => leaves m c (hq c)) (hQ' := fun _ h => h)

/-- The run, read at the buffers: the arguments as they were, and the result's array. -/
theorem run_reads (hq : ∀ c, (words m c).Planned) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.mem ((c.tc : Thread nD τ).loc main_v0) = (dats m 0 c).arrAt 1 (cfgM m).N)
      ∧ r.2.sem = fun _ => 0) :=
  (θ_run defs _ _).mono (fun r h => ⟨fun c => ⟨⟨(h.1 c).2 main_arg0 (by decide : main_arg0 ∈ Pipeline.restRefs sig spec0),
      (h.1 c).2 main_arg1 (by decide : main_arg1 ∈ Pipeline.restRefs sig spec0),
      (h.1 c).2 main_arg2 (by decide : main_arg2 ∈ Pipeline.restRefs sig spec0),
      (h.1 c).2 main_arg3 (by decide : main_arg3 ∈ Pipeline.restRefs sig spec0),
      (h.1 c).2 main_arg4 (by decide : main_arg4 ∈ Pipeline.restRefs sig spec0),
      ((h.1 c).1 0).trans (((dats m 0 c).arrAt_in 0 rfl _).trans (A_eq m c 0)),
      (h.1 c).2 main_arg6 (by decide : main_arg6 ∈ Pipeline.restRefs sig spec0)⟩, (h.1 c).1 1⟩, h.2⟩) (run_main m ρ hq)

/-- The arguments as they were, and every counter at zero. -/
theorem frame (hq : ∀ c, (words m c).Planned) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h.1 c).1, h.2⟩) (run_reads m ρ hq)

end Cert.DownIdeal.Hand

end
-- ==== Proof.Down.Pre.lean ====
/-
  The preconditions read back: the predicate's word being one says that the tables are a plan, and, of the second, that
  the rows of a tile past its count are zero.
-/
module

public import proofs.«01_k».proof.Proof.Gen.Pre_planned
public import proofs.«01_k».proof.Proof.Gen.Pre_padded
public import proofs.«01_k».proof.Proof.Down.Plan
public import Idealize.ShloMosaic.Lib.ReduceAll
public import Idealize.ShloMosaic.Lib.KernelVsHost
public import Idealize.ShloMosaic.Lib.Pointwise
public import Idealize.ShloMosaic.PureOps

@[expose] public section

noncomputable section

namespace Cert.DownIdeal.Hand

open Cert.DownIdeal Idealize.ShloMosaic

/-- A tile but the last. -/
def pos41 (k : ℕ) (h : k + 1 < 42) : (⟨1, ![41]⟩ : Shape).Idx := fun a => ⟨k, by
  obtain rfl : a = (0 : Fin 1) := Subsingleton.elim _ _
  show k < 41; omega⟩

/-- What the predicates' words say of two neighbouring tiles, of each tile, and of the first and the last. -/
structure Says (te fi va nx wr : S42.Idx → BitVec 32) : Prop where
  pair : ∀ k (_ : k + 1 < 42), Scalar.select (IntOp.cmpi .eq (fi (pos (k + 1))) 1#32)
    (IntOp.andi (IntOp.cmpi .eq (te (pos (k + 1))) (nx (pos k))) (IntOp.cmpi .eq (wr (pos k)) 0#32))
    (IntOp.andi (IntOp.andi (IntOp.cmpi .eq (te (pos (k + 1))) (te (pos k))) (IntOp.cmpi .eq (nx (pos (k + 1))) (nx (pos k))))
      (IntOp.cmpi .eq (wr (pos (k + 1))) (wr (pos k)))) = 1#1
  each : ∀ k, IntOp.andi (IntOp.andi (IntOp.andi (IntOp.andi (IntOp.andi (IntOp.andi (IntOp.cmpi .sge (te (pos k)) 0#32) (IntOp.cmpi .slt (te (pos k)) 16#32))
      (IntOp.cmpi .sge (nx (pos k)) 0#32)) (IntOp.cmpi .slt (nx (pos k)) 16#32)) (IntOp.cmpi .sge (wr (pos k)) 0#32)) (IntOp.cmpi .sle (wr (pos k)) 1#32))
      (IntOp.cmpi .sge (va (pos k)) 0#32) = 1#1
  ends : IntOp.andi (IntOp.andi (IntOp.cmpi .eq (fi (pos 0)) 1#32) (IntOp.cmpi .eq (nx (pos 41)) (te (pos 0)))) (IntOp.cmpi .eq (wr (pos 41)) 1#32) = 1#1

theorem toNat_lt_of_int (v : BitVec 32) (n : ℕ) (h0 : (0#32).toInt ≤ v.toInt) (h1 : v.toInt < n) : v.toNat < n := by
  have e : (0#32).toInt = 0 := by decide
  rw [e] at h0
  rw [BitVec.toInt_eq_toNat_cond] at h0 h1
  have := v.isLt
  split at h0 <;> omega

theorem Says.plan {te fi va nx wr : S42.Idx → BitVec 32} (q : Says te fi va nx wr) : Plan te fi va nx wr := by
  have e16 : (16#32).toInt = ((16 : ℕ) : ℤ) := by decide
  have e1 : (1#32).toInt = 1 := by decide
  have e0 : (0#32).toInt = 0 := by decide
  have each := fun k => by
    have h := q.each k
    simp only [IntOp.andi_eq_one, IntOp.cmpi_sge, IntOp.cmpi_slt, IntOp.cmpi_sle] at h
    exact h
  have pair := fun k (hk : k + 1 < 42) => q.pair k hk
  have ends := q.ends
  simp only [IntOp.andi_eq_one, IntOp.cmpi_eq] at ends
  refine ⟨fun k => ?_, fun k => ?_, fun k => ?_, fun k => ?_, fun k hk h => ?_, fun k hk h => ?_, ends.1.1, ⟨ends.1.2, ends.2⟩⟩
  · obtain ⟨⟨⟨⟨⟨⟨h1, h2⟩, h3⟩, h4⟩, h5⟩, h6⟩, h7⟩ := each k
    exact toNat_lt_of_int _ 16 h1 (e16 ▸ h2)
  · obtain ⟨⟨⟨⟨⟨⟨h1, h2⟩, h3⟩, h4⟩, h5⟩, h6⟩, h7⟩ := each k
    exact toNat_lt_of_int _ 16 h3 (e16 ▸ h4)
  · obtain ⟨⟨⟨⟨⟨⟨h1, h2⟩, h3⟩, h4⟩, h5⟩, h6⟩, h7⟩ := each k
    have := toNat_lt_of_int _ 2 h5 (by rw [e1] at h6; omega)
    omega
  · obtain ⟨⟨⟨⟨⟨⟨h1, h2⟩, h3⟩, h4⟩, h5⟩, h6⟩, h7⟩ := each k
    rw [e0] at h7; exact h7
  · have hp := pair k hk
    unfold Scalar.select at hp
    rw [if_pos (show _ = (1 : BitVec 1) from IntOp.cmpi_eq.2 h), IntOp.andi_eq_one, IntOp.cmpi_eq, IntOp.cmpi_eq] at hp
    exact hp
  · have hp := pair k hk
    unfold Scalar.select at hp
    rw [if_neg (show ¬ _ = (1 : BitVec 1) from fun h' => h (IntOp.cmpi_eq.1 h')), IntOp.andi_eq_one, IntOp.andi_eq_one, IntOp.cmpi_eq, IntOp.cmpi_eq, IntOp.cmpi_eq] at hp
    exact ⟨hp.1.1, hp.1.2, hp.2⟩

/-- A slice of a table by one tile, and a table's tile. -/
theorem slice_at (x : S42.Idx → BitVec 32) (o k n : ℕ) (t : Shape) (ht : t = ⟨1, ![n]⟩) (h : S42.Slices ![o] t) (j : t.Idx)
    (hj : ∀ a, (j a).val = k) (hk : o + k < 42) : extractStridedSlice t ![o] x h j = x (pos (o + k)) := by
  subst ht
  unfold extractStridedSlice
  refine congrArg x (funext fun a => Fin.ext ?_)
  obtain rfl : a = (0 : Fin 1) := Subsingleton.elim _ _
  show o + (j _).val = (o + k) % 42
  rw [hj]
  omega

/-- A slice of one word, read as a word. -/
theorem word_at (x : S42.Idx → BitVec 32) (o : ℕ) (h : S42.Slices ![o] (⟨1, ![1]⟩ : Shape)) (h1 : (⟨1, ![1]⟩ : Shape).ShapeCasts (⟨0, ![]⟩ : Shape)) (j)
    (ho : o < 42) : shapeCast (⟨0, ![]⟩ : Shape) (extractStridedSlice (⟨1, ![1]⟩ : Shape) ![o] x h) h1 j = x (pos o) :=
  slice_at x o 0 1 _ rfl h _ (fun a => by
    obtain rfl : a = (0 : Fin 1) := Subsingleton.elim _ _
    exact Nat.lt_one_iff.1 (Fin.isLt _)) ho

end Cert.DownIdeal.Hand

namespace Cert.Pre_planned.Hand

open Cert.Pre_planned Cert.Pre_planned.Gen Cert.DownIdeal.Hand Idealize.ShloMosaic

variable {F : FTy → Type} [FloatOps F]

instance : Subsingleton S_.Idx := ⟨fun a b => funext fun k => k.elim0⟩

theorem plan_of (te fi va nx wr : IVec S42 32) (x : FVec F S21504x7168 .bf16) (w : FVec F S16x7168x2048 .f32)
    (h : Cert.Pre_planned.fn (F := F) te fi va nx wr x w = fun _ => 1#1) : Plan te fi va nx wr := by
  have h0 := congrFun h (fun k => k.elim0)
  dsimp only [Cert.Pre_planned.fn, Cert.Pre_planned.fn_part1, Cert.Pre_planned.fn_part2, Cert.Pre_planned.fn_where] at h0
  obtain ⟨h1, h2⟩ := IntOp.andi_eq_one.1 h0
  obtain ⟨h1, h3⟩ := IntOp.andi_eq_one.1 h1
  refine Says.plan ?_
  refine ⟨fun k hk => ?_, fun k => ?_, ?_⟩
  · have h4 := Host.reduce_andi_all _ _ _ _ _ h1 (pos41 k hk)
    have s1 : ∀ y : IVec S42 32, extractStridedSlice S41 ![1] y Facts.slices_S42_S41_1 (pos41 k hk) = y (pos (k + 1)) := fun y =>
      (slice_at y 1 k 41 _ rfl _ _ (fun _ => rfl) (by omega)).trans (by rw [Nat.add_comm])
    have s0 : ∀ y : IVec S42 32, extractStridedSlice S41 ![0] y Facts.slices_S42_S41_0 (pos41 k hk) = y (pos k) := fun y =>
      (slice_at y 0 k 41 _ rfl _ _ (fun _ => rfl) (by omega)).trans (by rw [Nat.zero_add])
    simp only [← s1, ← s0]
    exact h4
  · exact Host.reduce_andi_all _ _ _ _ _ h3 (pos k)
  · have c0 : ∀ y : IVec S42 32, shapeCast S_ (extractStridedSlice S1 ![0] y Facts.slices_S42_S1_0) Facts.shapeCasts_S1_S_ (fun k => k.elim0) = y (pos 0) := fun y =>
      word_at y 0 _ _ _ (by omega)
    have c41 : ∀ y : IVec S42 32, shapeCast S_ (extractStridedSlice S1 ![41] y Facts.slices_S42_S1_41) Facts.shapeCasts_S1_S_ (fun k => k.elim0) = y (pos 41) := fun y =>
      word_at y 41 _ _ _ (by omega)
    simp only [← c0, ← c41]
    exact h2

end Cert.Pre_planned.Hand

namespace Cert.Pre_padded.Hand

open Cert.Pre_padded Cert.Pre_padded.Gen Cert.DownIdeal.Hand Idealize.ShloMosaic

instance : Subsingleton S_.Idx := ⟨fun a b => funext fun k => k.elim0⟩

/-- An element that compares equal to the constant zero is zero. -/
theorem eq_zero_of_word (e : EReal) (h : Ideal.cmp .oeq e (Ideal.ofBits .f32 0#32) = 1#1) : e = 0 := by
  have z : Ideal.ofBits .f32 0#32 = (0 : EReal) := by simp [Ideal.ofBits, Ideal.ieee]
  rw [z] at h
  by_contra hne
  revert h
  simp [Ideal.cmp, hne]

/-- The predicate's parts: the plan's, and the one on the padding rows. -/
theorem parts (te fi va nx wr : IVec S42 32) (x : FVec Ideal S21504x7168 .bf16) (w : FVec Ideal S16x7168x2048 .f32)
    (h : Cert.Pre_padded.fn (F := Ideal) te fi va nx wr x w = fun _ => 1#1) : Plan te fi va nx wr
      ∧ ∀ (k : Fin 42) (r : Fin 512) (j : Fin 7168), (va (pos k.val)).toInt ≤ (r.val : ℤ) → x (Idealize.ShloMosaic.ix2 (⟨k.val * 512 + r.val, by omega⟩ : Fin 21504) j) = (0 : EReal) := by
  have h0 := congrFun h (fun k => k.elim0)
  dsimp only [Cert.Pre_padded.fn, Cert.Pre_padded.fn_part1, Cert.Pre_padded.fn_part2, Cert.Pre_padded.fn_part3, Cert.Pre_padded.fn_where] at h0
  obtain ⟨h0, h4⟩ := IntOp.andi_eq_one.1 h0
  obtain ⟨h1, h2⟩ := IntOp.andi_eq_one.1 h0
  obtain ⟨h1, h3⟩ := IntOp.andi_eq_one.1 h1
  constructor
  · refine Says.plan ?_
    refine ⟨fun k hk => ?_, fun k => ?_, ?_⟩
    · have h4 := Host.reduce_andi_all _ _ _ _ _ h1 (pos41 k hk)
      have s1 : ∀ y : IVec S42 32, extractStridedSlice S41 ![1] y Facts.slices_S42_S41_1 (pos41 k hk) = y (pos (k + 1)) := fun y =>
        (slice_at y 1 k 41 _ rfl _ _ (fun _ => rfl) (by omega)).trans (by rw [Nat.add_comm])
      have s0 : ∀ y : IVec S42 32, extractStridedSlice S41 ![0] y Facts.slices_S42_S41_0 (pos41 k hk) = y (pos k) := fun y =>
        (slice_at y 0 k 41 _ rfl _ _ (fun _ => rfl) (by omega)).trans (by rw [Nat.zero_add])
      simp only [← s1, ← s0]
      exact h4
    · exact Host.reduce_andi_all _ _ _ _ _ h3 (pos k)
    · have c0 : ∀ y : IVec S42 32, shapeCast S_ (extractStridedSlice S1 ![0] y Facts.slices_S42_S1_0) Facts.shapeCasts_S1_S_ (fun k => k.elim0) = y (pos 0) := fun y =>
        word_at y 0 _ _ _ (by omega)
      have c41 : ∀ y : IVec S42 32, shapeCast S_ (extractStridedSlice S1 ![41] y Facts.slices_S42_S1_41) Facts.shapeCasts_S1_S_ (fun k => k.elim0) = y (pos 41) := fun y =>
        word_at y 41 _ _ _ (by omega)
      simp only [← c0, ← c41]
      exact h2
  · intro k r j hv
    have h5 := Host.reduce_andi_all _ _ _ _ _ h4 (Idealize.ShloMosaic.ix3 k r j)
    rcases IntOp.ori_eq_one.1 h5 with h6 | h6
    · exfalso
      have h7 : IntOp.cmpi .slt (BitVec.ofNat 32 r.val) (va (pos k.val)) = 1#1 := by
        refine Eq.trans ?_ h6
        refine congrArg (fun i => IntOp.cmpi .slt (BitVec.ofNat 32 r.val) (va i)) (funext fun a => Fin.ext ?_)
        obtain rfl : a = (0 : Fin 1) := Subsingleton.elim _ _
        show k.val % 42 = k.val
        omega
      have h8 := IntOp.cmpi_slt.1 h7
      have h9 : (BitVec.ofNat 32 r.val).toInt = (r.val : ℤ) := by
        rw [BitVec.toInt_eq_toNat_cond, BitVec.toNat_ofNat]
        have := r.isLt
        split <;> omega
      omega
    · have h7 : Ideal.cmp .oeq (x (Idealize.ShloMosaic.ix2 (⟨k.val * 512 + r.val, by omega⟩ : Fin 21504) j)) (Ideal.ofBits .f32 0#32) = 1#1 := by
        refine Eq.trans ?_ h6
        refine congrArg (fun e => Ideal.cmp .oeq e (Ideal.ofBits .f32 0#32)) ?_
        refine (shapeCast_apply (extf .f32 x Facts.bitsLt_bf16_f32) Facts.shapeCasts_S21504x7168_S42x512x7168 _ (Idealize.ShloMosaic.ix2 (⟨k.val * 512 + r.val, by omega⟩ : Fin 21504) j) ?_).symm
        refine (Shape.rowMajor_val_two _).trans (Eq.trans ?_ (Shape.rowMajor_val_three _).symm)
        rfl
      exact eq_zero_of_word _ h7

end Cert.Pre_padded.Hand

end
-- ==== Proof.Down.Same.lean ====
/-
  The kernel and its idealization are the same program, whatever the floats are; so what is proved of the one holds of the other.
-/
module

public import proofs.«01_k».proof.Proof.Gen.Down
public import proofs.«01_k».proof.Proof.Down.Frame
public import proofs.«01_k».proof.Proof.Down.Pre

@[expose] public section

noncomputable section

namespace Cert.Down.Hand

open Idealize.ShloMosaic Idealize.SL Idealize.SL.Sem

variable {F : FTy → Type} [FloatOps F]

/-- The kernel's bodies, read as the idealization's. -/
abbrev bodies : Defs Cert.DownIdeal.nD Cert.DownIdeal.τ Cert.DownIdeal.sig (Elt F) Cert.DownIdeal.Λ₀ := by
  with_unfolding_all exact (Cert.Down.defs₀ (F := F))

theorem bodies_eq : bodies (F := F) = Cert.DownIdeal.defs₀ (F := F) := by
  unfold bodies Cert.DownIdeal.defs₀ Cert.Down.defs₀
  refine congrArg Defs.onTc ?_
  funext l a
  match l, a with
  | 0, (t, s) => with_unfolding_all rfl

/-- From tables that are a plan, every run of the kernel ends with its arguments as they were and every counter at zero. -/
theorem frame (m : (ℓ : Loc Cert.Down.nD Cert.Down.τ Cert.Down.sig) → Buf (Elt F) ℓ) (ρ : Dev Cert.Down.nD → PrngReg)
    (hq : ∀ c : Dev Cert.Down.nD, Cert.DownIdeal.Hand.Plan (m ((c.tc : Thread Cert.Down.nD Cert.Down.τ).loc Cert.Down.main_arg0)) (m ((c.tc : Thread Cert.Down.nD Cert.Down.τ).loc Cert.Down.main_arg1))
      (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4))) :
    θ_run (Cert.Down.defs (F := F)) (onTc (τ := Cert.Down.τ) (Cert.Down.main (F := F))) ⟨m, fun _ => 0, ρ⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6))
      ∧ r.2.sem = fun _ => 0) := by
  have h := Cert.DownIdeal.Hand.frame (F := F) m ρ hq
  unfold Cert.DownIdeal.defs at h
  rw [← bodies_eq] at h
  with_unfolding_all exact h

end Cert.Down.Hand

end
-- ==== Proof.Down.Value.lean ====
/-
  The down projection's result over the extended reals, read at an index: every row of the kernel's result and of the
  reference's is the row of `hm` against the columns of its own tile's expert.
-/
module

public import proofs.«01_k».proof.Proof.Down.Frame
public import proofs.«01_k».proof.Proof.Down.Pre
public import proofs.«01_k».proof.Proof.Gen.DownRefIdeal.Read
public import Idealize.ShloMosaic.Lib.Pipeline.ValueKit
public import Idealize.ShloMosaic.Lib.Pipeline.Covers
public import Idealize.ShloMosaic.Lib.Pointwise
public import Idealize.ShloMosaic.Lib.StableHlo.Predicate

@[expose] public section

set_option maxRecDepth 16384

noncomputable section

namespace Cert.DownIdeal.Hand

open Cert.DownIdeal Cert.DownIdeal.Gen Idealize.ShloMosaic Idealize.ShloMosaic.TcCoe Idealize.SL.Sem
open Idealize.ShloMosaic.Tactic

/-! ## The operations -/

theorem pay1_apply (v : Vec Ideal S7168x512 .f32) (y : S7168x512.Idx) : k0_pay1 (F := Ideal) v y = v y := by
  unfold_payloads
  pointwise

theorem pay2_apply (x : Vec Ideal S512x7168 .bf16) (cv : Vec Ideal S7168x512 .bf16) (y : S512x512.Idx) :
    k0_pay2 (F := Ideal) x cv y = ∑ k : Fin 7168, x (ix2 (y 0) k) * cv (ix2 k (y 1)) := by
  unfold_payloads
  pointwise

theorem pay3_apply (x : Vec Ideal S256x7168 .bf16) (cv : Vec Ideal S7168x512 .bf16) (y : S256x512.Idx) :
    k0_pay3 (F := Ideal) x cv y = ∑ k : Fin 7168, x (ix2 (y 0) k) * cv (ix2 k (y 1)) := by
  unfold_payloads
  pointwise

theorem pay5_apply (y : S512x512.Idx) : k0_pay5 (F := Ideal) y = (0 : EReal) := by
  unfold_payloads
  pointwise

/-- A block of the result is the product of all its rows when the rows that do not count are zero. -/
theorem out_apply (v : BitVec 32) (hv : 0 ≤ v.toInt) (x : Vec Ideal S512x7168 .bf16) (cv : Vec Ideal S7168x512 .bf16)
    (hz : ∀ (r : Fin 512) (k : Fin 7168), v.toInt ≤ (r.val : ℤ) → x (ix2 r k) = (0 : EReal)) (y : S512x512.Idx) :
    out v x cv y = ∑ k : Fin 7168, x (ix2 (y 0) k) * cv (ix2 k (y 1)) := by
  have hzero : v.toInt ≤ ((y 0).val : ℤ) → (0 : EReal) = ∑ k : Fin 7168, x (ix2 (y 0) k) * cv (ix2 k (y 1)) := fun h =>
    (Finset.sum_eq_zero fun k _ => by rw [hz (y 0) k h]; exact zero_mul (cv (ix2 k (y 1)) : EReal)).symm
  unfold out
  by_cases h6 : k0_cond6 v = 1#1
  · rw [if_pos h6]
    have e : v = 0#32 := (cond6_iff v).1 h6
    exact (pay5_apply y).trans (hzero (by rw [e]; exact Int.natCast_nonneg _))
  rw [if_neg h6]
  by_cases h5 : k0_cond5 v = 1#1
  · rw [if_pos h5]
    have e := ((cond5_iff v).1 h5).2
    by_cases hy : (y 0).val < 256
    · rw [dif_pos hy]
      refine (pay3_apply _ _ _).trans (Finset.sum_congr rfl fun k _ => congrArg₂ (· * ·) ?_ rfl)
      refine congrArg x (funext fun a => Fin.ext ?_)
      match a with
      | ⟨0, _⟩ => show 0 + 1 * (y 0).val = (y 0).val; omega
      | ⟨1, _⟩ => show 0 + 1 * k.val = k.val; omega
    · rw [dif_neg hy]
      exact (pay5_apply y).trans (hzero (by omega))
  · rw [if_neg h5]
    exact pay2_apply _ _ _

/-! ## The operands -/

/-- The block of the weights that a tile multiplies by. -/
theorem castAt_apply {c : Dev nD} (T : Words (F := Ideal) c) (w : At (F := Ideal) c wM) (t : ℕ) (y : S7168x512.Idx) (e : Fin 16) (n : Fin 2048)
    (he : (T.teAt t).toNat = e.val) (hn : n.val = t / 42 % 4 * 512 + (y 1).val) :
    castAt T w t y = w (ix3 e (y 0) n) := by
  unfold castAt cast
  refine (pay1_apply _ y).trans ?_
  rw [Memref.read_squeeze_slice _ _ (fun _ => rfl) _ (show S1x7168x512.ShapeCasts S7168x512 by decide)]
  refine (shapeCast_apply _ _ y (ix3 (0 : Fin 1) (y 0) (y 1)) ?_).trans ?_
  · refine (Shape.rowMajor_val_three _).trans (Eq.trans ?_ (Shape.rowMajor_val_two _).symm)
    show (0 * 7168 + (y 0).val) * 512 + (y 1).val = (y 0).val * 512 + (y 1).val
    omega
  · refine congrArg w (funext fun a => Fin.ext ?_)
    have h16 := e.isLt
    match a with
    | ⟨0, _⟩ => show (T.teAt t).toNat % 16 + 1 * 0 = e.val; omega
    | ⟨1, _⟩ => show 0 + 1 * (y 0).val = (y 0).val; omega
    | ⟨2, _⟩ => show t / 42 % 4 * 512 + 1 * (y 1).val = n.val; omega

variable (m : (ℓ : Loc nD τ sig) → Buf (Elt Ideal) ℓ)

theorem place0 : ∀ t : Fin grid0.N, cc0_transform_0 (grid0.coords t) 0 = t.val % 42 ∧ cc0_transform_0 (grid0.coords t) 1 = 0 := by decide +kernel
theorem place1 : ∀ t : Fin grid0.N, cc0_transform_2 (grid0.coords t) 0 = t.val % 42 ∧ cc0_transform_2 (grid0.coords t) 1 = t.val / 42 := by decide +kernel

/-- The whole memref read through a block of it. -/
theorem iblk_apply (c : Dev nD) (t : Fin (cfgM m).N) (r : Fin 512) (k : Fin 7168) (i : Fin 21504) (hi : i.val = t.val % 42 * 512 + r.val) :
    iblk m c 0 t (ix2 r k) = m ((c : Thread nD τ).loc main_arg5) (ix2 i k) := by
  have h0 : cc0_transform_0 (grid0.coords t) 0 = t.val % 42 := (place0 t).1
  have h1 : cc0_transform_0 (grid0.coords t) 1 = 0 := (place0 t).2
  blk_simp [iblk]
  refine congrArg (m ((c : Thread nD τ).loc main_arg5)) (funext fun a => Fin.ext ?_)
  match a with
  | ⟨0, _⟩ =>
    show cc0_transform_0 (grid0.coords t) 0 * 512 + 1 * r.val = i.val
    rw [h0, hi]; omega
  | ⟨1, _⟩ =>
    show cc0_transform_0 (grid0.coords t) 1 * 7168 + 1 * k.val = k.val
    rw [h1]; omega

theorem covers : ((cfgM m).win 1).Covers :=
  Pipeline.Window.covers_of_index_surj _ rfl (show ∀ a : Fin 2, 0 < S512x512.size a by decide) fun β => by
    have b0 : (β (0 : Fin 2)).val < 42 := lt_of_lt_of_eq (β (0 : Fin 2)).isLt (show (21504 + 512 - 1) / 512 = 42 by decide)
    have b1 : (β (1 : Fin 2)).val < 4 := lt_of_lt_of_eq (β (1 : Fin 2)).isLt (show (2048 + 512 - 1) / 512 = 4 by decide)
    have hN : (β (1 : Fin 2)).val * 42 + (β (0 : Fin 2)).val < grid0.N := by
      have : grid0.N = 168 := by decide
      omega
    refine ⟨⟨(β (1 : Fin 2)).val * 42 + (β (0 : Fin 2)).val, hN⟩, fun a => ?_⟩
    match a with
    | ⟨0, _⟩ => exact (place1 ⟨_, hN⟩).1.trans (by show _ % 42 = (β (0 : Fin 2)).val; dsimp only; omega)
    | ⟨1, _⟩ => exact (place1 ⟨_, hN⟩).2.trans (by show _ / 42 = (β (1 : Fin 2)).val; dsimp only; omega)

/-! ## The result -/

/-- The product of each row with the columns of its tile's expert. -/
def prod (te : S42.Idx → BitVec 32) (x : S21504x7168.Idx → EReal) (w : S16x7168x2048.Idx → EReal) (i : S21504x2048.Idx) : EReal :=
  ∑ k : Fin 7168, x (ix2 (i 0) k) * w (ix3 (⟨(te (pos ((i 0).val / 512))).toNat % 16, Nat.mod_lt _ (by decide)⟩ : Fin 16) k (i 1))

theorem arr_eq (c : Dev nD) (hq : Plan (m ((c : Thread nD τ).loc main_arg0)) (m ((c : Thread nD τ).loc main_arg1))
      (m ((c : Thread nD τ).loc main_arg2)) (m ((c : Thread nD τ).loc main_arg3)) (m ((c : Thread nD τ).loc main_arg4)))
    (hz : ∀ (k : Fin 42) (r : Fin 512) (j : Fin 7168), ((m ((c : Thread nD τ).loc main_arg2)) (pos k.val)).toInt ≤ (r.val : ℤ) →
      m ((c : Thread nD τ).loc main_arg5) (ix2 (⟨k.val * 512 + r.val, by omega⟩ : Fin 21504) j) = (0 : EReal)) :
    (dats m 0 c).arrAt 1 (cfgM m).N
      = prod (m ((c : Thread nD τ).loc main_arg0)) (m ((c : Thread nD τ).loc main_arg5)) (m ((c : Thread nD τ).loc main_arg6)) := by
  refine (dats m 0 c).arrAt_eq_of_covers 1 _ (covers m) fun t hf y => ?_
  blk_simp
  have hN : t.val < 168 := lt_of_lt_of_eq t.isLt (by decide : grid0.N = 168)
  have q0 : cc0_transform_2 (grid0.coords t) 0 = t.val % 42 := (place1 t).1
  have q1 : cc0_transform_2 (grid0.coords t) 1 = t.val / 42 := (place1 t).2
  have y0 : (y (0 : Fin 2)).val < 512 := (y (0 : Fin 2)).isLt
  have y1 : (y (1 : Fin 2)).val < 512 := (y (1 : Fin 2)).isLt
  suffices H : ∀ i : S21504x2048.Idx, (i 0).val = t.val % 42 * 512 + (y (0 : Fin 2)).val → (i 1).val = t.val / 42 * 512 + (y (1 : Fin 2)).val →
      (dats m 0 c).after 1 t y = prod (m ((c : Thread nD τ).loc main_arg0)) (m ((c : Thread nD τ).loc main_arg5)) (m ((c : Thread nD τ).loc main_arg6)) i from
    H _ (by
      show cc0_transform_2 (grid0.coords t) 0 * 512 + 1 * (y (0 : Fin 2)).val = _
      rw [q0]; omega) (by
      show cc0_transform_2 (grid0.coords t) 1 * 512 + 1 * (y (1 : Fin 2)).val = _
      rw [q1]; omega)
  intro i e0 e1
  rw [after0_1]
  unfold oblk
  refine (out_apply _ (hq.va_nn t.val) _ _ (fun r k h => ?_) y).trans ?_
  · refine (iblk_apply m c t r k ⟨t.val % 42 * 512 + r.val, by omega⟩ rfl).trans (hz ⟨t.val % 42, by omega⟩ r k ?_)
    rw [pos_mod]; exact h
  · unfold prod
    refine Finset.sum_congr rfl fun k _ => congrArg₂ (· * ·) (iblk_apply m c t _ k (i 0) e0) (castAt_apply _ _ _ _ _ (i 1) ?_ ?_)
    · have ei : pos ((i 0).val / 512) = pos t.val := by
        rw [← pos_mod t.val, e0]; exact congrArg pos (by omega)
      show _ = (m ((c : Thread nD τ).loc main_arg0) (pos ((i 0).val / 512))).toNat % 16
      rw [ei]
      exact (Nat.mod_eq_of_lt (hq.te_lt t.val)).symm
    · show (i 1).val = t.val / 42 % 4 * 512 + (y (1 : Fin 2)).val
      omega

end Cert.DownIdeal.Hand

/-! ## The reference -/

namespace Cert.DownRefIdeal.Hand

open Cert.DownRefIdeal Cert.DownRefIdeal.Gen Cert.DownRefIdeal.Read Idealize.ShloMosaic Idealize.ShloMosaic.TcCoe Idealize.SL.Sem

/-- Whole matrices taken by a list of their numbers: entry `(t, k, n)` is the entry `(k, n)` of the matrix `idx[t]`. -/
theorem gather_matrices {α : Type} {N K M R : Nat}
    (d : GatherDims ⟨3, ![N, K, M]⟩ ⟨2, ![R, 1]⟩ ⟨3, ![R, K, M]⟩) (hoff : d.offsetDims = [1, 2])
    (hcoll : d.collapsedSliceDims = [0]) (hob : d.operandBatchingDims = [])
    (hsim : d.startIndexMap = [0]) (hivd : d.indexVectorDim = 1) (x : (⟨3, ![N, K, M]⟩ : Shape).Idx → α)
    (idx : IVec ⟨2, ![R, 1]⟩ 32) (t : Fin R) (k : Fin K) (n : Fin M) (b : Fin N)
    (hb : idx (ix2 t (0 : Fin 1)) = BitVec.ofNat 32 b.val) (hN : N < 2 ^ 31) :
    Host.gather d x idx (ix3 t k n) = x (ix3 b k n) := by
  obtain ⟨od, cd, ob, sib, sm, iv, ss, wf⟩ := d
  dsimp only at hoff hcoll hob hsim hivd
  subst hoff hcoll hob hsim hivd
  unfold Host.gather
  congr 1
  funext a
  refine Fin.ext ?_
  match a with
  | ⟨0, _⟩ =>
    show GatherDims.start _ (ix3 t k n) idx 0 + GatherDims.batchCoord _ (ix3 t k n) 0 + GatherDims.offCoord _ (ix3 t k n) 0 = b.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsl : ss 0 = 1 := GatherDims.slice_collapsed ⟨[1, 2], [0], [], sib, [0], 1, ss, wf⟩ 0 (List.mem_singleton.mpr rfl)
    have hsi : GatherDims.siIdx ⟨[1, 2], [0], [], sib, [0], 1, ss, wf⟩ (ix3 t k n) ⟨List.idxOf (0 : Fin 3) [0],
        List.idxOf_lt_length_iff.2 (List.mem_singleton.mpr rfl)⟩ = ix2 t (0 : Fin 1) := by
      funext b'; refine Fin.ext ?_
      match b' with
      | ⟨0, _⟩ => rfl
      | ⟨1, _⟩ => rfl
    have hbl := b.isLt
    show min (idx (GatherDims.siIdx ⟨[1, 2], [0], [], sib, [0], 1, ss, wf⟩ (ix3 t k n) ⟨List.idxOf (0 : Fin 3) [0], _⟩)).toInt.toNat
      (N - ss 0) = b.val
    rw [hsi, hb, hsl, StableHlo.Predicate.toInt_ofNat_small _ (by omega)]
    show min ((b.val : Int)).toNat (N - 1) = b.val
    omega
  | ⟨1, _⟩ =>
    show GatherDims.start _ (ix3 t k n) idx 1 + GatherDims.batchCoord _ (ix3 t k n) 1 + GatherDims.offCoord _ (ix3 t k n) 1 = k.val
    rw [GatherDims.batchCoord_eq_zero _ _ _ List.not_mem_nil]
    unfold GatherDims.start
    rw [dif_neg (by show ¬((1 : Fin 3) ∈ ([0] : List (Fin 3))); decide)]
    simp only [Nat.zero_add, Nat.add_zero]
    unfold GatherDims.offCoord
    rw [dif_pos ((GatherDims.mem_sKept _ 1).2 ⟨by show ¬((1 : Fin 3) ∈ ([0] : List (Fin 3))); decide, List.not_mem_nil⟩)]
    rfl
  | ⟨2, _⟩ =>
    show GatherDims.start _ (ix3 t k n) idx 2 + GatherDims.batchCoord _ (ix3 t k n) 2 + GatherDims.offCoord _ (ix3 t k n) 2 = n.val
    rw [GatherDims.batchCoord_eq_zero _ _ _ List.not_mem_nil]
    unfold GatherDims.start
    rw [dif_neg (by show ¬((2 : Fin 3) ∈ ([0] : List (Fin 3))); decide)]
    simp only [Nat.zero_add, Nat.add_zero]
    unfold GatherDims.offCoord
    rw [dif_pos ((GatherDims.mem_sKept _ 2).2 ⟨by show ¬((2 : Fin 3) ∈ ([0] : List (Fin 3))); decide, List.not_mem_nil⟩)]
    rfl

/-- The reference's result, read at an index, when every tile's expert is one of the sixteen. -/
theorem result_eq (te : S42.Idx → BitVec 32) (x : S21504x7168.Idx → EReal) (w : S16x7168x2048.Idx → EReal)
    (hte : ∀ k, (te (Cert.DownIdeal.Hand.pos k)).toNat < 16) :
    val_main_v4 (F := Ideal) te x w = Cert.DownIdeal.Hand.prod te x w := by
  funext i
  have h0 : (i 0).val < 21504 := (i 0).isLt
  have h1 : (i 1).val < 2048 := (i 1).isLt
  rw [val_main_v4_apply, val_main_v3_apply]
  unfold Cert.DownIdeal.Hand.prod
  refine Finset.sum_congr rfl fun k _ => congrArg₂ (· * ·) ?_ ?_
  · rw [val_main_v1_apply]
    refine (val_main_v0_apply (F := Ideal) x _).trans (congrArg x (funext fun a => Fin.ext ?_))
    match a with
    | ⟨0, _⟩ =>
      show ((((i 0).val * 2048 + (i 1).val) / 1048576 * 512 + ((i 0).val * 2048 + (i 1).val) / 2048 % 512) * 7168 + k.val) / 7168 = (i 0).val
      have := k.isLt; omega
    | ⟨1, _⟩ =>
      show ((((i 0).val * 2048 + (i 1).val) / 1048576 * 512 + ((i 0).val * 2048 + (i 1).val) / 2048 % 512) * 7168 + k.val) % 7168 = k.val
      have := k.isLt; omega
  · unfold val_main_v2
    have ht : (te (Cert.DownIdeal.Hand.pos ((i 0).val / 512))).toNat % 16 = (te (Cert.DownIdeal.Hand.pos ((i 0).val / 512))).toNat :=
      Nat.mod_eq_of_lt (hte _)
    have hr : ridx_main_v3 (idx_main_v4 i) k = ix3 (⟨(i 0).val / 512, by omega⟩ : Fin 42) k (i 1) := by
      funext a; refine Fin.ext ?_
      match a with
      | ⟨0, _⟩ => show ((i 0).val * 2048 + (i 1).val) / 1048576 = (i 0).val / 512; omega
      | ⟨1, _⟩ => rfl
      | ⟨2, _⟩ => show ((i 0).val * 2048 + (i 1).val) % 2048 = (i 1).val; omega
    rw [hr]
    refine gather_matrices _ rfl rfl rfl rfl rfl w _ _ k (i 1) ⟨_, Nat.mod_lt _ (by decide)⟩ ?_ (by decide)
    rw [val_main_call0_v0_apply]
    show te _ = BitVec.ofNat 32 ((te (Cert.DownIdeal.Hand.pos ((i 0).val / 512))).toNat % 16)
    rw [ht, BitVec.ofNat_toNat, BitVec.setWidth_eq]
    refine congrArg te (funext fun a => Fin.ext ?_)
    obtain rfl : a = (0 : Fin 1) := Subsingleton.elim _ _
    show (i 0).val / 512 = (i 0).val / 512 % 42
    omega

end Cert.DownRefIdeal.Hand
-- ==== Proof.Up.Run.lean ====
module

public import proofs.«01_k».proof.Proof.Gen.UpIdeal.Launch
public import proofs.«01_k».proof.Proof.Gen.UpIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit
public import Idealize.ShloMosaic.Lib.VecWindow

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev teM : Memref sig .tc .smem S42 .i32 := Memref.whole main_arg0
abbrev fiM : Memref sig .tc .smem S42 .i32 := Memref.whole main_arg1
abbrev vaM : Memref sig .tc .smem S42 .i32 := Memref.whole main_arg2
abbrev nxM : Memref sig .tc .smem S42 .i32 := Memref.whole main_arg3
abbrev wrM : Memref sig .tc .smem S42 .i32 := Memref.whole main_arg4
/-- The experts' weights, which stay where they are. -/
abbrev wM : Memref sig .tc .hbm S16x2048x14336 .f32 := Memref.whole main_arg6
/-- The buffers the two transfers fill, the rounded copies the products read, and the transfers' counters. -/
abbrev saM : Memref sig .tc .vmem S2048x1024 .f32 := Memref.whole cc0_scratch0
abbrev sbM : Memref sig .tc .vmem S2048x1024 .f32 := Memref.whole cc0_scratch1
abbrev caM : Memref sig .tc .vmem S2048x1024 .bf16 := Memref.whole cc0_scratch2
abbrev cbM : Memref sig .tc .vmem S2048x1024 .bf16 := Memref.whole cc0_scratch3
abbrev saS : DmaSem sig := ⟨4, by decide⟩
abbrev sbS : DmaSem sig := ⟨5, by decide⟩

/-- A buffer's contents behind its memref, and the buffer held at a share. -/
abbrev At (c : Dev nD) {sp : Space} {S : Shape} {e : EltTy} (M : Memref sig .tc sp S e) : Type := Buf (Elt F) (M.view.loc (c : Thread nD τ))
abbrev part (c : Dev nD) {sp : Space} {S : Shape} {e : EltTy} (M : Memref sig .tc sp S e) (q : PosShare TreeShare) (f : At (F := F) c M) : sProp 𝕄 :=
  M.view.loc (c : Thread nD τ) ↦{q} f

/-- The block of one expert's weights at the offsets `o`. -/
abbrev blk (o : Fin 3 → Nat) (h : ∀ a, o a + S1x2048x1024.size a ≤ S16x2048x14336.size a) : Memref sig .tc .hbm S2048x1024 .f32 :=
  (wM.slice (Rect.unit (s := S16x2048x14336) o S1x2048x1024.size h) (fun _ => rfl)).squeeze S2048x1024 squeezes_S1x2048x1024_S2048x1024

/-- The word of a table that the body reads at offset `o`. -/
abbrev word {c : Dev nD} (M : Memref sig .tc .smem S42 .i32) (x : At (F := F) c M) (o : Fin 1 → Nat) (h : ∀ a, o a + S1.size a ≤ S42.size a) : BitVec 32 :=
  M.view.readAt (Elt F) (Rect.unit (s := S42) o S1.size h).toLoadRect x (Shape.Idx.first (numel1_S1.symm ▸ Nat.one_pos))

/-! ## What a point leaves -/

/-- The rounded copy of the weights' block at `o`. -/
def cast {c : Dev nD} (w : At (F := F) c wM) (o : Fin 3 → Nat) (h : ∀ a, o a + S1x2048x1024.size a ≤ S16x2048x14336.size a) : Vec F S2048x1024 .bf16 :=
  k0_pay5 ((blk o h).view.read (Elt F) w)

/-- A row of the upper half of a block of the result, in that half. -/
def upper (y : S512x1024.Idx) (h : (y (0 : Fin 2)).val < 256) : S256x1024.Idx := fun a => ⟨(y a).val, by
  match a with
  | ⟨0, _⟩ => exact h
  | ⟨1, _⟩ => exact (y (1 : Fin 2)).isLt⟩

/-- A point's block of the result, from the number `v` of the tile's rows that count, the tile's rows and the two rounded blocks of weights. -/
def out (v : BitVec 32) (x : Vec F S512x2048 .bf16) (ca cb : Vec F S2048x1024 .bf16) : Vec F S512x1024 .bf16 :=
  if k0_cond6 v = 1#1 then k0_pay4 (F := F)
  else if k0_cond5 v = 1#1 then fun y =>
    if h : (y (0 : Fin 2)).val < 256 then
      k0_pay2 (VecWindow.window x ![0, 0] S256x2048.size inb_S512x2048_S256x2048_0_0) ca cb (upper y h)
    else k0_pay4 (F := F) y
  else k0_pay1 x ca cb

/-- The two stores of a half-filled tile leave the product above and zeros below. -/
theorem read_halves (M : Memref sig .tc .vmem S512x1024 .bf16) (f : M.view.ty.Contents (Elt F)) (p : Vec F S256x1024 .bf16) (L : List (View.Piece (Elt F) S512x1024 .bf16)) :
    M.view.read (Elt F) (M.view.writes (Elt F) f (⟨Rect.unit ![256, 0] S256x1024.size inb_S512x1024_S256x1024_256_0, k0_pay3 (F := F)⟩
      :: ⟨Rect.unit ![0, 0] S256x1024.size inb_S512x1024_S256x1024_0_0, p⟩ :: L))
    = fun y => if h : (y (0 : Fin 2)).val < 256 then p (upper y h) else k0_pay4 (F := F) y := by
  funext y
  by_cases h : (y (0 : Fin 2)).val < 256
  · rw [dif_pos h]
    refine (View.read_writes_cons_rows_of_not_mem (d := ![512, 1024]) M.view f (W := 256) (o := 256) _ _ _ y rfl rfl (Or.inl h)).trans ?_
    exact View.read_writes_cons_rows_of_mem (d := ![512, 1024]) M.view f (o := 0) _ _ _ y (upper y h) rfl (Nat.zero_add _).symm rfl
  · rw [dif_neg h]
    have hy : (y (0 : Fin 2)).val < 512 := (y (0 : Fin 2)).isLt
    refine View.read_writes_cons_rows_of_mem (d := ![512, 1024]) M.view f (o := 256) _ _ _ y
      (fun a => ⟨(![(y (0 : Fin 2)).val - 256, (y (1 : Fin 2)).val] : Fin 2 → ℕ) a, ?_⟩ : S256x1024.Idx) rfl ?_ rfl
    · match a with
      | ⟨0, _⟩ => show (y (0 : Fin 2)).val - 256 < 256; omega
      | ⟨1, _⟩ => exact (y (1 : Fin 2)).isLt
    · show (y (0 : Fin 2)).val = 256 + ((y (0 : Fin 2)).val - 256); omega

/-- The stores of a point, one of the three kinds of tile, leave `out`. -/
theorem read_out (M : Memref sig .tc .vmem S512x1024 .bf16) (f : M.view.ty.Contents (Elt F)) (v : BitVec 32)
    (x : Vec F S512x2048 .bf16) (ca cb : Vec F S2048x1024 .bf16) (a : Vec F S512x2048 .bf16) (b : Vec F S256x2048 .bf16) (ca' cb' : Vec F S2048x1024 .bf16)
    (ha : a = x) (hb : b = VecWindow.window x ![0, 0] S256x2048.size inb_S512x2048_S256x2048_0_0) (hca : ca' = ca) (hcb : cb' = cb)
    (hv : k0_cond4 v = 1#1 ∨ k0_cond5 v = 1#1 ∨ k0_cond6 v = 1#1)
    (L4 L5 L6 : List (View.Piece (Elt F) S512x1024 .bf16))
    (h4 : L4 = [⟨Rect.unit ![0, 0] S512x1024.size inb_S512x1024_S512x1024_0_0, k0_pay1 a ca' cb'⟩])
    (h5 : L5 = [⟨Rect.unit ![256, 0] S256x1024.size inb_S512x1024_S256x1024_256_0, k0_pay3 (F := F)⟩,
      ⟨Rect.unit ![0, 0] S256x1024.size inb_S512x1024_S256x1024_0_0, k0_pay2 b ca' cb'⟩])
    (h6 : L6 = [⟨Rect.unit ![0, 0] S512x1024.size inb_S512x1024_S512x1024_0_0, k0_pay4 (F := F)⟩]) :
    M.view.read (Elt F)
      (if k0_cond6 v = 1#1 then M.view.writes (Elt F) (if k0_cond5 v = 1#1 then M.view.writes (Elt F) (if k0_cond4 v = 1#1 then M.view.writes (Elt F) f L4 else f) L5
          else if k0_cond4 v = 1#1 then M.view.writes (Elt F) f L4 else f) L6
        else if k0_cond5 v = 1#1 then M.view.writes (Elt F) (if k0_cond4 v = 1#1 then M.view.writes (Elt F) f L4 else f) L5
        else if k0_cond4 v = 1#1 then M.view.writes (Elt F) f L4 else f)
      = out v x ca cb := by
  subst ha hb hca hcb h4 h5 h6
  unfold out
  by_cases c6 : k0_cond6 v = 1#1
  · simp only [if_pos c6]
    exact View.read_writes_full M.view _ _ _ _
  · simp only [if_neg c6]
    by_cases c5 : k0_cond5 v = 1#1
    · simp only [if_pos c5]
      exact read_halves M _ _ []
    · simp only [if_neg c5]
      rw [if_pos (hv.resolve_right (fun h => h.elim c5 c6))]
      exact View.read_writes_full M.view _ _ _ _

/-- What a transfer has landed over the whole of a buffer is what the buffer reads. -/
theorem read_landed {sp : Space} {S : Shape} {e : EltTy} (M : Memref sig .tc sp S e) (f : M.view.ty.Contents (Elt F)) (x : S.Idx → Elt F e)
    (L : List (View.Piece (Elt F) S e)) : M.view.read (Elt F) (M.view.writes (Elt F) f (⟨Rect.whole S, x⟩ :: L)) = x := by
  funext y
  have h := View.read_writes_cons_emb M.view f (Rect.whole S) x L y
  rwa [Rect.emb_whole_apply] at h

theorem cov_landed {sp : Space} {S : Shape} {e : EltTy} (M : Memref sig .tc sp S e) {off : Fin S.rank → ℕ} (inb : ∀ a, off a + S.size a ≤ S.size a)
    (x : S.Idx → Elt F e) (L : List (View.Piece (Elt F) S e)) :
    M.view.readCov (⟨Rect.whole S, x⟩ :: L) (Rect.unit off S.size inb).toLoadRect = x :=
  (View.readAt_full M.view _ inb).trans (read_landed M _ x L)

/-! ## The transfers between points -/

/-- One transfer not under way: its buffer at anything, its counter at zero, its share of the weights whole. -/
def Rest (c : Dev nD) (w : At (F := F) c wM) (st : Memref sig .tc .vmem S2048x1024 .f32) (se : DmaSem sig) (q : PosShare TreeShare) : sProp 𝕄 :=
  iprop((∃ d, owns (c : Thread nD τ) st fullShare d) ∗ semVal ((c : Thread nD τ), SemLoc.dma se) 0 ∗ part c wM q w)

/-- One transfer of the block at `o` under way: it will leave its buffer at that block, and give the block back. -/
def Leg (c : Dev nD) (w : At (F := F) c wM) (st : Memref sig .tc .vmem S2048x1024 .f32) (se : DmaSem sig) (q : PosShare TreeShare)
    (o : Fin 3 → Nat) (h : ∀ a, o a + S1x2048x1024.size a ≤ S16x2048x14336.size a) : sProp 𝕄 :=
  iprop(∃ d : At (F := F) c st, ⌜st.view.read (Elt F) d = (blk o h).view.read (Elt F) w⌝
    ∗ Transfers.Flight (countersEmb (U := Pipeline.UD sig nD τ)) (c : Thread nD τ) (SemLoc.dma se) () 262144
        iprop((st.view.loc (c : Thread nD τ) ↦[st.view.set]{fullShare} d) ∗ (wM.view.loc (c : Thread nD τ) ↦[(blk o h).view.set]{q} w))
    ∗ (wM.view.loc (c : Thread nD τ) ↦[Finset.univ \ (blk o h).view.set]{q} w))

/-- The two halves of the weights' share, one for each transfer. -/
abbrev qa : PosShare TreeShare := fullShare.left
abbrev qb : PosShare TreeShare := fullShare.right

def Idle (c : Dev nD) (w : At (F := F) c wM) : sProp 𝕄 := iprop(Rest c w saM saS qa ∗ Rest c w sbM sbS qb)

def Fly (c : Dev nD) (w : At (F := F) c wM) (oa : Fin 3 → Nat) (ha : ∀ a, oa a + S1x2048x1024.size a ≤ S16x2048x14336.size a)
    (ob : Fin 3 → Nat) (hb : ∀ a, ob a + S1x2048x1024.size a ≤ S16x2048x14336.size a) : sProp 𝕄 :=
  iprop(Leg c w saM saS qa oa ha ∗ Leg c w sbM sbS qb ob hb)

/-! ## The body -/

/-- The words the body reads at a point. -/
structure Words (c : Dev nD) where
  te : At (F := F) c teM
  fi : At (F := F) c fiM
  va : At (F := F) c vaM
  nx : At (F := F) c nxM
  wr : At (F := F) c wrM

variable {c : Dev nD}

abbrev Words.first (T : Words (F := F) c) (i : grid0.Coords) : BitVec 32 := word fiM T.fi (k0_off1 i) (k0_off1_inb i)
abbrev Words.start (T : Words (F := F) c) : BitVec 32 := word teM T.te ![0] inb_S42_S1_0
abbrev Words.own (T : Words (F := F) c) (i : grid0.Coords) : BitVec 32 := word teM T.te (k0_off4 i) (k0_off4_inb i)
abbrev Words.wrap (T : Words (F := F) c) (i : grid0.Coords) : BitVec 32 := word wrM T.wr (k0_off7 i) (k0_off7_inb i)
abbrev Words.next (T : Words (F := F) c) (i : grid0.Coords) : BitVec 32 := word nxM T.nx (k0_off8 i) (k0_off8_inb i)
abbrev Words.valid (T : Words (F := F) c) (i : grid0.Coords) : BitVec 32 := word vaM T.va (k0_off11 i) (k0_off11_inb i)

/-- The tables at the body's share. -/
def Words.held (T : Words (F := F) c) : sProp 𝕄 :=
  iprop(part c teM fullShare.right T.te ∗ part c fiM fullShare.right T.fi ∗ part c vaM fullShare.right T.va ∗ part c nxM fullShare.right T.nx ∗ part c wrM fullShare.right T.wr)

/-- The rounded blocks. -/
def Blocks (c : Dev nD) (ca cb : Vec F S2048x1024 .bf16) : sProp 𝕄 := iprop(owns (c : Thread nD τ) caM fullShare ca ∗ owns (c : Thread nD τ) cbM fullShare cb)
def SomeBlocks (c : Dev nD) : sProp 𝕄 := iprop((∃ d, owns (c : Thread nD τ) caM fullShare d) ∗ (∃ d, owns (c : Thread nD τ) cbM fullShare d))

/-- At a point the body takes the state `pre` to `post`, leaving in the block of the result what `out` says of the rounded weights. -/
def Runs (T : Words (F := F) c) (i : grid0.Coords) (pre post : sProp 𝕄) (ca cb : Vec F S2048x1024 .bf16) : Prop :=
  ∀ (arg7 : Memref sig .tc .vmem S512x2048 .bf16) (harg7 : arg7.IsWhole) (arg9 : Memref sig .tc .vmem S512x1024 .bf16) (harg9 : arg9.IsWhole)
    (x : Vec F S512x2048 .bf16) (W : Waits sig Unit) (K : PUnit → sProp 𝕄),
    iprop(owns (c : Thread nD τ) arg7 fullShare x ∗ (∃ d, owns (c : Thread nD τ) arg9 fullShare d)
        ∗ pre ∗ T.held ∗ owes (c : Thread nD τ) 0 W
        ∗ (iprop(owns (c : Thread nD τ) arg7 fullShare x ∗ owns (c : Thread nD τ) arg9 fullShare (out (T.valid i) x ca cb)
            ∗ (Blocks c ca cb ∗ post) ∗ T.held ∗ (∃ W', owes (c : Thread nD τ) 0 W')) -∗ K ⟨⟩))
      ⊢ wp frame (wpE (defs₀ (F := F)) Variants.none c none) Set.univ (cc0_moe_up i teM (Memref.isWhole_whole _) fiM (Memref.isWhole_whole _) vaM (Memref.isWhole_whole _) nxM (Memref.isWhole_whole _) wrM (Memref.isWhole_whole _) arg7 harg7 wM (Memref.isWhole_whole _) arg9 harg9 saM (Memref.isWhole_whole _) sbM (Memref.isWhole_whole _) caM (Memref.isWhole_whole _) cbM (Memref.isWhole_whole _) cc0_scratch4) K

/-- A point that is no group's first: the rounded weights are read as they stand. -/
theorem runs_keep (T : Words (F := F) c) (i : grid0.Coords) (P : sProp 𝕄) (ca cb : Vec F S2048x1024 .bf16)
    (h1 : ¬ k0_cond1 (T.first i) = 1#1)
    (hv : k0_cond4 (T.valid i) = 1#1 ∨ k0_cond5 (T.valid i) = 1#1 ∨ k0_cond6 (T.valid i) = 1#1) :
    Runs T i iprop(Blocks c ca cb ∗ P) P ca cb := by
  intro arg7 harg7 arg9 harg9 x W K
  simp only [cc0_moe_up_eq_skeleton]; unfold cc0_moe_up_skel Words.held Blocks
  unfold owns
  iintro ⟨⟨%f7, %hf7, H7⟩, ⟨%d9, %f9, -, H9⟩, ⟨⟨⟨%fa, %hfa, HA⟩, ⟨%fb, %hfb, HB⟩⟩, HP⟩, ⟨Hte, Hfi, Hva, Hnx, Hwr⟩, HW, Hk⟩
  obtain rfl := harg7.eq_unread hf7
  sl_exec (disch := first | sl_exact h1)
  sl_step
  iapply Hk
  isplitl [H7]
  · iexists _; isplitr; · ipureintro; exact harg7.read_unread _
    iexact H7
  isplitl [H9]
  · iexists _; isplitr; swap; · iexact H9
    ipureintro
    exact read_out arg9 f9 _ x ca cb _ _ _ _ ((View.readAt_full arg7.view _ _).trans (harg7.read_unread x))
      ((View.readAt_unit arg7.view _ _ rfl _).trans (by rw [harg7.read_unread]; rfl)) ((View.readAt_full caM.view _ _).trans hfa)
      ((View.readAt_full cbM.view _ _).trans hfb) hv _ _ _ rfl rfl rfl
  isplitl [HA HB HP]
  · isplitl [HA HB]
    · isplitl [HA]
      · iexists _; isplitr; swap; · iexact HA
        ipureintro; exact hfa
      · iexists _; isplitr; swap; · iexact HB
        ipureintro; exact hfb
    iexact HP
  isplitl [Hte Hfi Hva Hnx Hwr]
  · isplitl [Hte]; · iexact Hte
    isplitl [Hfi]; · iexact Hfi
    isplitl [Hva]; · iexact Hva
    isplitl [Hnx]; · iexact Hnx
    iexact Hwr
  iexists _; iexact HW

theorem pay6_eq (v : Vec F S2048x1024 .f32) : k0_pay6 v = k0_pay5 v := rfl

/-- The facts the body assumes of the words of a point that starts a group. -/
structure Sound (T : Words (F := F) c) (i : grid0.Coords) : Prop where
  own : k0_chk2 i (T.first i) (T.own i)
  wrap : k0_chk3 i (T.first i) (T.wrap i)
  next : k0_cond3 i (T.wrap i) = 1#1 → k0_chk4 i (T.first i) (T.wrap i) (T.next i)
  start : k0_cond2 i = 1#1 → k0_chk1 i (T.first i) T.start
  valid : k0_cond4 (T.valid i) = 1#1 ∨ k0_cond5 (T.valid i) = 1#1 ∨ k0_cond6 (T.valid i) = 1#1

/-- The very first point, where the body starts the transfers it waits for, and then the next group's. -/
theorem runs_start_next (T : Words (F := F) c) (i : grid0.Coords) (w : At (F := F) c wM)
    (h1 : k0_cond1 (T.first i) = 1#1) (h2 : k0_cond2 i = 1#1) (h3 : k0_cond3 i (T.wrap i) = 1#1) (q : Sound T i)
    (oa : Fin 3 → Nat) (ha) (eoa : k0_off2 T.start = oa) (ob : Fin 3 → Nat) (hb) (eob : k0_off3 T.start = ob)
    (oa' : Fin 3 → Nat) (ha') (eoa' : k0_off9 i (T.wrap i) (T.next i) = oa') (ob' : Fin 3 → Nat) (hb') (eob' : k0_off10 i (T.wrap i) (T.next i) = ob') :
    Runs T i iprop(SomeBlocks c ∗ Idle c w) (Fly c w oa' ha' ob' hb') (cast w oa ha) (cast w ob hb) := by
  subst eoa eob eoa' eob'
  intro arg7 harg7 arg9 harg9 x W K
  have q1 := q.start h2
  have q2 := q.own
  have q3 := q.wrap
  have q4 := q.next h3
  simp only [cc0_moe_up_eq_skeleton]; unfold cc0_moe_up_skel Words.held Blocks SomeBlocks
  simp only [k0_part1_eq_skeleton]; unfold k0_part1_skel
  unfold Idle Rest owns; delta Fly Leg
  iintro ⟨⟨%f7, %hf7, H7⟩, ⟨%d9, %f9, -, H9⟩, ⟨⟨⟨%da, %fa, -, HA⟩, ⟨%db, %fb, -, HB⟩⟩, ⟨⟨%dsa, %fsa, -, HSa⟩, Hqa, Hwa⟩, ⟨⟨%dsb, %fsb, -, HSb⟩, Hqb, Hwb⟩⟩, ⟨Hte, Hfi, Hva, Hnx, Hwr⟩, HW, Hk⟩
  obtain rfl := harg7.eq_unread hf7
  sl_exec (disch := first | sl_exact h1 | sl_exact h2 | sl_exact h3 | sl_exact q1 | sl_exact q2 | sl_exact q3 | sl_exact q4)
  sl_step
  iapply Hk
  isplitl [H7]
  · iexists _; isplitr; · ipureintro; exact harg7.read_unread _
    iexact H7
  isplitl [H9]
  · iexists _; isplitr; swap; · iexact H9
    ipureintro
    exact read_out arg9 f9 _ x _ _ _ _ _ _ ((View.readAt_full arg7.view _ _).trans (harg7.read_unread x))
      ((View.readAt_unit arg7.view _ _ rfl _).trans (by rw [harg7.read_unread]; rfl))
      (by unfold runs_start_next.sl.v19 runs_start_next.sl.HA_1 runs_start_next.sl.v37 runs_start_next.sl.dma2; exact (View.readCov_full caM.view _ _ _ _).trans (congrArg k0_pay5 (cov_landed saM _ _ _)))
      (by unfold runs_start_next.sl.v21 runs_start_next.sl.HB_1 runs_start_next.sl.v42 runs_start_next.sl.dma2_1; exact (View.readCov_full cbM.view _ _ _ _).trans ((congrArg k0_pay6 (cov_landed sbM _ _ _)).trans (pay6_eq _))) q.valid _ _ _ rfl rfl rfl
  isplitl [HA HB Hqa Hwa Hqb Hwb]
  · isplitl [HA HB]
    · isplitl [HA]
      · iexists _; isplitr; swap; · iexact HA
        ipureintro
        unfold runs_start_next.sl.HA_1 runs_start_next.sl.v37 runs_start_next.sl.dma2
        exact (View.read_writes_full caM.view _ _ _ _).trans (congrArg k0_pay5 (cov_landed saM _ _ _))
      · iexists _; isplitr; swap; · iexact HB
        ipureintro
        unfold runs_start_next.sl.HB_1 runs_start_next.sl.v42 runs_start_next.sl.dma2_1
        exact (View.read_writes_full cbM.view _ _ _ _).trans ((congrArg k0_pay6 (cov_landed sbM _ _ _)).trans (pay6_eq _))
    isplitl [Hqa Hwa]
    · iexists _; isplitr; swap
      · isplitl [Hqa]; · iexact Hqa
        iexact Hwa
      ipureintro
      exact read_landed saM _ _ _
    · iexists _; isplitr; swap
      · isplitl [Hqb]; · iexact Hqb
        iexact Hwb
      ipureintro
      exact read_landed sbM _ _ _
  isplitl [Hte Hfi Hva Hnx Hwr]
  · isplitl [Hte]; · iexact Hte
    isplitl [Hfi]; · iexact Hfi
    isplitl [Hva]; · iexact Hva
    isplitl [Hnx]; · iexact Hnx
    iexact Hwr
  iexists _; iexact HW

/-- The first point of a later group: the body waits for the transfers under way and starts the next group's. -/
theorem runs_next (T : Words (F := F) c) (i : grid0.Coords) (w : At (F := F) c wM)
    (h1 : k0_cond1 (T.first i) = 1#1) (h2 : ¬ k0_cond2 i = 1#1) (h3 : k0_cond3 i (T.wrap i) = 1#1) (q : Sound T i)
    (oa : Fin 3 → Nat) (ha) (ob : Fin 3 → Nat) (hb)
    (oa' : Fin 3 → Nat) (ha') (eoa' : k0_off9 i (T.wrap i) (T.next i) = oa') (ob' : Fin 3 → Nat) (hb') (eob' : k0_off10 i (T.wrap i) (T.next i) = ob') :
    Runs T i iprop(SomeBlocks c ∗ Fly c w oa ha ob hb) (Fly c w oa' ha' ob' hb') (cast w oa ha) (cast w ob hb) := by
  subst eoa' eob'
  intro arg7 harg7 arg9 harg9 x W K
  have q2 := q.own
  have q3 := q.wrap
  have q4 := q.next h3
  simp only [cc0_moe_up_eq_skeleton]; unfold cc0_moe_up_skel Words.held Blocks SomeBlocks
  simp only [k0_part1_eq_skeleton]; unfold k0_part1_skel
  unfold owns; delta Fly Leg
  iintro ⟨⟨%f7, %hf7, H7⟩, ⟨%d9, %f9, -, H9⟩, ⟨⟨⟨%da, %fa, -, HA⟩, ⟨%db, %fb, -, HB⟩⟩, ⟨%xa, %hxa, Hqa, Hwa⟩, ⟨%xb, %hxb, Hqb, Hwb⟩⟩, ⟨Hte, Hfi, Hva, Hnx, Hwr⟩, HW, Hk⟩
  obtain rfl := harg7.eq_unread hf7
  sl_exec (disch := first | sl_exact h1 | sl_exact h2 | sl_exact h3 | sl_exact q2 | sl_exact q3 | sl_exact q4)
  sl_step
  iapply Hk
  isplitl [H7]
  · iexists _; isplitr; · ipureintro; exact harg7.read_unread _
    iexact H7
  isplitl [H9]
  · iexists _; isplitr; swap; · iexact H9
    ipureintro
    exact read_out arg9 f9 _ x _ _ _ _ _ _ ((View.readAt_full arg7.view _ _).trans (harg7.read_unread x))
      ((View.readAt_unit arg7.view _ _ rfl _).trans (by rw [harg7.read_unread]; rfl))
      (by unfold runs_next.sl.v19 runs_next.sl.HA_1; exact (View.readCov_full caM.view _ _ _ _).trans (congrArg k0_pay5 ((View.readAt_full saM.view _ _).trans hxa)))
      (by unfold runs_next.sl.v21 runs_next.sl.HB_1; exact (View.readCov_full cbM.view _ _ _ _).trans ((congrArg k0_pay6 ((View.readAt_full sbM.view _ _).trans hxb)).trans (pay6_eq _))) q.valid _ _ _ rfl rfl rfl
  isplitl [HA HB Hqa Hwa Hqb Hwb]
  · isplitl [HA HB]
    · isplitl [HA]
      · iexists _; isplitr; swap; · iexact HA
        ipureintro
        unfold runs_next.sl.HA_1
        exact (View.read_writes_full caM.view _ _ _ _).trans (congrArg k0_pay5 ((View.readAt_full saM.view _ _).trans hxa))
      · iexists _; isplitr; swap; · iexact HB
        ipureintro
        unfold runs_next.sl.HB_1
        exact (View.read_writes_full cbM.view _ _ _ _).trans ((congrArg k0_pay6 ((View.readAt_full sbM.view _ _).trans hxb)).trans (pay6_eq _))
    isplitl [Hqa Hwa]
    · iexists _; isplitr; swap
      · isplitl [Hqa]; · iexact Hqa
        iexact Hwa
      ipureintro
      exact read_landed saM _ _ _
    · iexists _; isplitr; swap
      · isplitl [Hqb]; · iexact Hqb
        iexact Hwb
      ipureintro
      exact read_landed sbM _ _ _
  isplitl [Hte Hfi Hva Hnx Hwr]
  · isplitl [Hte]; · iexact Hte
    isplitl [Hfi]; · iexact Hfi
    isplitl [Hva]; · iexact Hva
    isplitl [Hnx]; · iexact Hnx
    iexact Hwr
  iexists _; iexact HW

/-- The first point of the last group of all: the body waits, and starts nothing. -/
theorem runs_last (T : Words (F := F) c) (i : grid0.Coords) (w : At (F := F) c wM)
    (h1 : k0_cond1 (T.first i) = 1#1) (h2 : ¬ k0_cond2 i = 1#1) (h3 : ¬ k0_cond3 i (T.wrap i) = 1#1) (q : Sound T i)
    (oa : Fin 3 → Nat) (ha) (ob : Fin 3 → Nat) (hb) :
    Runs T i iprop(SomeBlocks c ∗ Fly c w oa ha ob hb) (Idle c w) (cast w oa ha) (cast w ob hb) := by
  intro arg7 harg7 arg9 harg9 x W K
  have q2 := q.own
  have q3 := q.wrap
  simp only [cc0_moe_up_eq_skeleton]; unfold cc0_moe_up_skel Words.held Blocks SomeBlocks
  simp only [k0_part1_eq_skeleton]; unfold k0_part1_skel
  unfold Idle Rest owns; delta Fly Leg
  iintro ⟨⟨%f7, %hf7, H7⟩, ⟨%d9, %f9, -, H9⟩, ⟨⟨⟨%da, %fa, -, HA⟩, ⟨%db, %fb, -, HB⟩⟩, ⟨%xa, %hxa, Hqa, Hwa⟩, ⟨%xb, %hxb, Hqb, Hwb⟩⟩, ⟨Hte, Hfi, Hva, Hnx, Hwr⟩, HW, Hk⟩
  obtain rfl := harg7.eq_unread hf7
  sl_exec (disch := first | sl_exact h1 | sl_exact h2 | sl_exact h3 | sl_exact q2 | sl_exact q3)
  sl_step
  iapply Hk
  isplitl [H7]
  · iexists _; isplitr; · ipureintro; exact harg7.read_unread _
    iexact H7
  isplitl [H9]
  · iexists _; isplitr; swap; · iexact H9
    ipureintro
    exact read_out arg9 f9 _ x _ _ _ _ _ _ ((View.readAt_full arg7.view _ _).trans (harg7.read_unread x))
      ((View.readAt_unit arg7.view _ _ rfl _).trans (by rw [harg7.read_unread]; rfl))
      (by unfold runs_last.sl.v19 runs_last.sl.HA_1; exact (View.readCov_full caM.view _ _ _ _).trans (congrArg k0_pay5 ((View.readAt_full saM.view _ _).trans hxa)))
      (by unfold runs_last.sl.v21 runs_last.sl.HB_1; exact (View.readCov_full cbM.view _ _ _ _).trans ((congrArg k0_pay6 ((View.readAt_full sbM.view _ _).trans hxb)).trans (pay6_eq _))) q.valid _ _ _ rfl rfl rfl
  isplitl [HA HB Hqa Hwa Hqb Hwb Hqa_dst Hqb_dst]
  · isplitl [HA HB]
    · isplitl [HA]
      · iexists _; isplitr; swap; · iexact HA
        ipureintro
        unfold runs_last.sl.HA_1
        exact (View.read_writes_full caM.view _ _ _ _).trans (congrArg k0_pay5 ((View.readAt_full saM.view _ _).trans hxa))
      · iexists _; isplitr; swap; · iexact HB
        ipureintro
        unfold runs_last.sl.HB_1
        exact (View.read_writes_full cbM.view _ _ _ _).trans ((congrArg k0_pay6 ((View.readAt_full sbM.view _ _).trans hxb)).trans (pay6_eq _))
    isplitl [Hqa Hwa Hqa_dst]
    · isplitl [Hqa_dst]
      · iexists _, _; isplitr; swap; · iexact Hqa_dst
        ipureintro; rfl
      isplitl [Hqa]; · iexact Hqa
      iexact Hwa
    · isplitl [Hqb_dst]
      · iexists _, _; isplitr; swap; · iexact Hqb_dst
        ipureintro; rfl
      isplitl [Hqb]; · iexact Hqb
      iexact Hwb
  isplitl [Hte Hfi Hva Hnx Hwr]
  · isplitl [Hte]; · iexact Hte
    isplitl [Hfi]; · iexact Hfi
    isplitl [Hva]; · iexact Hva
    isplitl [Hnx]; · iexact Hnx
    iexact Hwr
  iexists _; iexact HW

end Cert.UpIdeal.Hand

end
-- ==== Proof.Up.Plan.lean ====
/-
  The state of the kernel's two transfers before and after every point of the grid, when the five tables are a plan of
  the experts' turns (the same plan as `moe_down`'s).
-/
module

public import proofs.«01_k».proof.Proof.Up.Run
public import proofs.«01_k».proof.Proof.Down.Plan

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.DownIdeal.Hand (pos pos_mod pos_of_mod Plan flag_iff)

/-! ## The conditions of the body -/

theorem cond1_iff (v : BitVec 32) : k0_cond1 v = 1#1 ↔ v = 1#32 := by
  unfold k0_cond1
  exact (flag_iff _).trans IntOp.cmpi_eq

theorem cond2_iff : ∀ i : grid0.Coords, k0_cond2 i = 1#1 ↔ (i 0).val = 0 ∧ (i 1).val = 0 := by decide +kernel

theorem cond3_iff : ∀ (i : grid0.Coords) (v : BitVec 32), v.toNat ≤ 1 → (k0_cond3 i v = 1#1 ↔ (i 0).val + v.toNat < 7) := by
  intro i v hv
  have h : v = 0#32 ∨ v = 1#32 := by
    rcases Nat.le_one_iff_eq_zero_or_eq_one.1 hv with h | h
    · exact Or.inl (BitVec.eq_of_toNat_eq h)
    · exact Or.inr (BitVec.eq_of_toNat_eq h)
  rcases h with rfl | rfl
  · revert i; decide +kernel
  · revert i; decide +kernel

theorem cond4_iff (v : BitVec 32) : k0_cond4 v = 1#1 ↔ 256 < v.toInt := by unfold k0_cond4; exact (flag_iff _).trans IntOp.cmpi_sgt

theorem cond5_iff (v : BitVec 32) : k0_cond5 v = 1#1 ↔ 0 < v.toInt ∧ v.toInt ≤ 256 := by
  unfold k0_cond5
  exact (flag_iff _).trans (IntOp.andi_eq_one.trans (and_congr IntOp.cmpi_sgt IntOp.cmpi_sle))

theorem cond6_iff (v : BitVec 32) : k0_cond6 v = 1#1 ↔ v = 0#32 := by unfold k0_cond6; exact (flag_iff _).trans IntOp.cmpi_eq

/-- A count that is not negative makes the tile of one of the three kinds. -/
theorem kind_of (v : BitVec 32) (h : 0 ≤ v.toInt) : k0_cond4 v = 1#1 ∨ k0_cond5 v = 1#1 ∨ k0_cond6 v = 1#1 := by
  by_cases h0 : v = 0#32
  · exact Or.inr (Or.inr ((cond6_iff v).2 h0))
  · have hne : v.toInt ≠ 0 := fun e => h0 (BitVec.eq_of_toInt_eq e)
    by_cases hl : 256 < v.toInt
    · exact Or.inl ((cond4_iff v).2 hl)
    · exact Or.inr (Or.inl ((cond5_iff v).2 ⟨by omega, by omega⟩))

/-! ## Offsets and words -/

/-- The offsets of the block of the columns `k + 1024 b …` of the weights of expert `e`: `k` is 0 for the gates' half and 7168 for the other. -/
def off (k e b : ℕ) : Fin 3 → ℕ := ![e % 16, 0, k + b % 7 * 1024]

theorem off_inb {k : ℕ} (hk : k ≤ 7168) (e b : ℕ) : ∀ a, off k e b a + S1x2048x1024.size a ≤ S16x2048x14336.size a := by
  intro a
  have he := Nat.mod_lt e (show 0 < 16 by decide)
  have hb := Nat.mod_lt b (show 0 < 7 by decide)
  match a with
  | ⟨0, _⟩ => show e % 16 + 1 ≤ 16; omega
  | ⟨1, _⟩ => show 0 + 2048 ≤ 2048; omega
  | ⟨2, _⟩ => show k + b % 7 * 1024 + 1024 ≤ 14336; omega

abbrev offA (e b : ℕ) : Fin 3 → ℕ := off 0 e b
abbrev offB (e b : ℕ) : Fin 3 → ℕ := off 7168 e b
theorem offA_inb (e b : ℕ) : ∀ a, offA e b a + S1x2048x1024.size a ≤ S16x2048x14336.size a := off_inb (by decide) e b
theorem offB_inb (e b : ℕ) : ∀ a, offB e b a + S1x2048x1024.size a ≤ S16x2048x14336.size a := off_inb (by decide) e b

theorem off_of (v n : BitVec 32) (hv : v.toNat < 16) (k b : ℕ) (h : n.toNat = k + b % 7 * 1024) : (![v.toNat, 0, n.toNat] : Fin 3 → ℕ) = off k v.toNat b := by
  unfold off
  rw [Nat.mod_eq_of_lt hv, h]

theorem off2_eq (v : BitVec 32) (hv : v.toNat < 16) : k0_off2 v = offA v.toNat 0 := off_of v 0#32 hv 0 0 (by decide)
theorem off3_eq (v : BitVec 32) (hv : v.toNat < 16) : k0_off3 v = offB v.toNat 0 := off_of v 7168#32 hv 7168 0 (by decide)

theorem mult3_eq : ∀ i : grid0.Coords, (k0_mult3 i).toNat = 0 + (i 0).val % 7 * 1024 := by decide +kernel
theorem mult4_eq : ∀ i : grid0.Coords, (k0_mult4 i).toNat = 7168 + (i 0).val % 7 * 1024 := by decide +kernel

theorem off5_eq (i : grid0.Coords) (v : BitVec 32) (hv : v.toNat < 16) : k0_off5 i v = offA v.toNat (i 0).val := off_of v (k0_mult3 i) hv 0 _ (mult3_eq i)
theorem off6_eq (i : grid0.Coords) (v : BitVec 32) (hv : v.toNat < 16) : k0_off6 i v = offB v.toNat (i 0).val := off_of v (k0_mult4 i) hv 7168 _ (mult4_eq i)

theorem mult56_eq : ∀ (i : grid0.Coords) (v : BitVec 32), v.toNat ≤ 1 → (i 0).val + v.toNat < 7 →
    (k0_mult5 i v).toNat = 0 + ((i 0).val + v.toNat) % 7 * 1024 ∧ (k0_mult6 i v).toNat = 7168 + ((i 0).val + v.toNat) % 7 * 1024 := by
  intro i v hv
  have h : v = 0#32 ∨ v = 1#32 := by
    rcases Nat.le_one_iff_eq_zero_or_eq_one.1 hv with h | h
    · exact Or.inl (BitVec.eq_of_toNat_eq h)
    · exact Or.inr (BitVec.eq_of_toNat_eq h)
  rcases h with rfl | rfl
  · revert i; decide +kernel
  · revert i; decide +kernel

theorem off9_eq (i : grid0.Coords) (v u : BitVec 32) (hv : v.toNat ≤ 1) (hn : (i 0).val + v.toNat < 7) (hu : u.toNat < 16) :
    k0_off9 i v u = offA u.toNat ((i 0).val + v.toNat) := off_of u (k0_mult5 i v) hu 0 _ (mult56_eq i v hv hn).1
theorem off10_eq (i : grid0.Coords) (v u : BitVec 32) (hv : v.toNat ≤ 1) (hn : (i 0).val + v.toNat < 7) (hu : u.toNat < 16) :
    k0_off10 i v u = offB u.toNat ((i 0).val + v.toNat) := off_of u (k0_mult6 i v) hu 7168 _ (mult56_eq i v hv hn).2

variable {c : Dev nD}

theorem coord0 : ∀ t : Fin grid0.N, ((grid0.coords t) 0).val = t.val / 42 := by decide +kernel
theorem coord1 : ∀ t : Fin grid0.N, ((grid0.coords t) 1).val = t.val % 42 := by decide +kernel

theorem idx_eq (o : Fin 1 → ℕ) (h : ∀ a, o a + S1.size a ≤ S42.size a) (k : ℕ) (e : o = ![k % 42]) :
    (fun a => ⟨o a, by have := h a; have h1 : S1.size a = 1 := by { obtain rfl : a = (0 : Fin 1) := Subsingleton.elim _ _; rfl }
                       omega⟩ : S42.Idx) = pos k := by
  subst e; funext a; obtain rfl : a = (0 : Fin 1) := Subsingleton.elim _ _; rfl

/-- A table's word as the body reads it is the table's word of the tile. -/
theorem word_eq (x : Buf (Elt F) ((c : Thread nD τ).loc main_arg0)) (o : Fin 1 → ℕ) (h) (k : ℕ) (e : o = ![k % 42]) :
    word (F := F) (c := c) teM x o h = (x : S42.Idx → BitVec 32) (pos k) := by
  rw [← idx_eq o h k e]
  rfl

abbrev Words.teAt (T : Words (F := F) c) (k : ℕ) : BitVec 32 := (T.te : S42.Idx → BitVec 32) (pos k)
abbrev Words.fiAt (T : Words (F := F) c) (k : ℕ) : BitVec 32 := (T.fi : S42.Idx → BitVec 32) (pos k)
abbrev Words.vaAt (T : Words (F := F) c) (k : ℕ) : BitVec 32 := (T.va : S42.Idx → BitVec 32) (pos k)
abbrev Words.nxAt (T : Words (F := F) c) (k : ℕ) : BitVec 32 := (T.nx : S42.Idx → BitVec 32) (pos k)
abbrev Words.wrAt (T : Words (F := F) c) (k : ℕ) : BitVec 32 := (T.wr : S42.Idx → BitVec 32) (pos k)

theorem off1_at (t : Fin grid0.N) : k0_off1 (grid0.coords t) = ![t.val % 42] := by rw [k0_off1_eq, coord1]
theorem off4_at (t : Fin grid0.N) : k0_off4 (grid0.coords t) = ![t.val % 42] := by rw [k0_off4_eq, coord1]
theorem off7_at (t : Fin grid0.N) : k0_off7 (grid0.coords t) = ![t.val % 42] := by rw [k0_off7_eq, coord1]
theorem off8_at (t : Fin grid0.N) : k0_off8 (grid0.coords t) = ![t.val % 42] := by rw [k0_off8_eq, coord1]
theorem off11_at (t : Fin grid0.N) : k0_off11 (grid0.coords t) = ![t.val % 42] := by rw [k0_off11_eq, coord1]

section
variable (T : Words (F := F) c) (t : Fin grid0.N)
theorem first_eq : T.first (grid0.coords t) = T.fiAt t.val := word_eq (c := c) T.fi _ _ t.val (off1_at t)
theorem start_eq : T.start = T.teAt 0 := word_eq (c := c) T.te _ _ 0 rfl
theorem own_eq : T.own (grid0.coords t) = T.teAt t.val := word_eq (c := c) T.te _ _ t.val (off4_at t)
theorem wrap_eq : T.wrap (grid0.coords t) = T.wrAt t.val := word_eq (c := c) T.wr _ _ t.val (off7_at t)
theorem next_eq : T.next (grid0.coords t) = T.nxAt t.val := word_eq (c := c) T.nx _ _ t.val (off8_at t)
theorem valid_eq : T.valid (grid0.coords t) = T.vaAt t.val := word_eq (c := c) T.va _ _ t.val (off11_at t)
end

/-! ## The state between points -/

/-- The tables are a plan. -/
abbrev Words.Planned (T : Words (F := F) c) : Prop := Plan T.te T.fi T.va T.nx T.wr

/-- The two rounded blocks at the point `t`: the halves of its tile's expert at its columns. -/
def castA (T : Words (F := F) c) (w : At (F := F) c wM) (t : ℕ) : Vec F S2048x1024 .bf16 :=
  cast w (offA (T.teAt t).toNat (t / 42)) (offA_inb _ _)
def castB (T : Words (F := F) c) (w : At (F := F) c wM) (t : ℕ) : Vec F S2048x1024 .bf16 :=
  cast w (offB (T.teAt t).toNat (t / 42)) (offB_inb _ _)

/-- Both halves of expert `e`'s weights at the columns `b` under way. -/
abbrev FlyAt (c : Dev nD) (w : At (F := F) c wM) (e b : ℕ) : sProp 𝕄 := Fly c w (offA e b) (offA_inb _ _) (offB e b) (offB_inb _ _)

/-- What is under way after the point `t`: the next group's blocks, if the columns go on. -/
def Pend (T : Words (F := F) c) (w : At (F := F) c wM) (t : ℕ) : sProp 𝕄 :=
  if t / 42 + (T.wrAt t).toNat < 7 then FlyAt c w (T.nxAt t).toNat (t / 42 + (T.wrAt t).toNat) else Idle c w

/-- The state before the point `t`. -/
def St (T : Words (F := F) c) (w : At (F := F) c wM) : ℕ → sProp 𝕄
  | 0 => iprop(SomeBlocks c ∗ Idle c w)
  | t + 1 => iprop(Blocks c (castA T w t) (castB T w t) ∗ Pend T w t)

/-- A run from a weaker state. -/
theorem Runs.from_pre {T : Words (F := F) c} {i : grid0.Coords} {pre pre' post : sProp 𝕄} {ca cb : Vec F S2048x1024 .bf16}
    (h : Runs T i pre post ca cb) (hp : pre' ⊢ pre) : Runs T i pre' post ca cb := by
  intro arg7 harg7 arg9 harg9 x W K
  refine (sep_mono .rfl (sep_mono .rfl (sep_mono hp .rfl))).trans (h arg7 harg7 arg9 harg9 x W K)

/-- The facts the body assumes hold of a plan's words. -/
theorem sound (T : Words (F := F) c) (q : T.Planned) (t : Fin grid0.N) : Sound T (grid0.coords t) where
  own := by
    refine ⟨fun _ => ?_, fun _ => ?_⟩
    · rw [own_eq, off5_eq _ _ (q.te_lt _)]; exact offA_inb _ _
    · rw [own_eq, off6_eq _ _ (q.te_lt _)]; exact offB_inb _ _
  wrap := by
    refine ⟨fun _ h3 => ?_, fun _ h3 => ?_⟩
    · rw [wrap_eq] at h3 ⊢
      rw [(mult56_eq _ _ (q.wr_le _) ((cond3_iff _ _ (q.wr_le _)).1 h3)).1]
      omega
    · rw [wrap_eq] at h3 ⊢
      rw [(mult56_eq _ _ (q.wr_le _) ((cond3_iff _ _ (q.wr_le _)).1 h3)).2]
      omega
  next := by
    intro h3
    rw [wrap_eq] at h3
    refine ⟨fun _ _ => ?_, fun _ _ => ?_⟩
    · rw [wrap_eq, next_eq, off9_eq _ _ _ (q.wr_le _) ((cond3_iff _ _ (q.wr_le _)).1 h3) (q.nx_lt _)]; exact offA_inb _ _
    · rw [wrap_eq, next_eq, off10_eq _ _ _ (q.wr_le _) ((cond3_iff _ _ (q.wr_le _)).1 h3) (q.nx_lt _)]; exact offB_inb _ _
  start := by
    intro _
    refine ⟨fun _ _ => ?_, fun _ _ => ?_⟩
    · rw [start_eq, off2_eq _ (q.te_lt _)]; exact offA_inb _ _
    · rw [start_eq, off3_eq _ (q.te_lt _)]; exact offB_inb _ _
  valid := by
    rw [valid_eq]
    exact kind_of _ (q.va_nn _)

/-- A point that starts a group finds its own block under way. -/
theorem pend_turn (T : Words (F := F) c) (q : T.Planned) (w : At (F := F) c wM) (t : ℕ) (ht : t + 1 < 294) (h1 : T.fiAt (t + 1) = 1#32) :
    Pend T w t = FlyAt c w (T.teAt (t + 1)).toNat ((t + 1) / 42) := by
  have key : T.nxAt t = T.teAt (t + 1) ∧ t / 42 + (T.wrAt t).toNat = (t + 1) / 42 := by
    by_cases hm : (t + 1) % 42 = 0
    · have e0 : pos (t + 1) = pos 0 := pos_of_mod hm
      have e41 : pos t = pos 41 := pos_of_mod (by omega)
      refine ⟨?_, ?_⟩
      · show (T.nx : S42.Idx → BitVec 32) (pos t) = (T.te : S42.Idx → BitVec 32) (pos (t + 1))
        rw [e0, e41]; exact q.last.1
      · show t / 42 + ((T.wr : S42.Idx → BitVec 32) (pos t)).toNat = _
        rw [e41, q.last.2]
        show t / 42 + 1 = _
        omega
    · have em : pos t = pos (t % 42) := (pos_mod t).symm
      have em1 : pos (t + 1) = pos (t % 42 + 1) := pos_of_mod (by omega)
      have h := q.turn (t % 42) (by omega) (by rw [← em1]; exact h1)
      rw [← em1, ← em] at h
      refine ⟨h.1.symm, ?_⟩
      show t / 42 + ((T.wr : S42.Idx → BitVec 32) (pos t)).toNat = _
      rw [h.2]
      show t / 42 + 0 = _
      omega
  unfold Pend
  rw [if_pos (by rw [key.2]; omega)]
  rw [key.1, key.2]

/-- A point that starts no group finds its own block rounded, and leaves what is under way. -/
theorem pend_same (T : Words (F := F) c) (q : T.Planned) (w : At (F := F) c wM) (t : ℕ) (h1 : T.fiAt (t + 1) ≠ 1#32) :
    (castA T w t = castA T w (t + 1) ∧ castB T w t = castB T w (t + 1)) ∧ Pend T w t = Pend T w (t + 1) := by
  have hm : (t + 1) % 42 ≠ 0 := fun hm => h1 (by
    show (T.fi : S42.Idx → BitVec 32) (pos (t + 1)) = _
    rw [show pos (t + 1) = pos 0 from pos_of_mod hm]; exact q.first)
  have em : pos t = pos (t % 42) := (pos_mod t).symm
  have em1 : pos (t + 1) = pos (t % 42 + 1) := pos_of_mod (by omega)
  have h := q.same (t % 42) (by omega) (by rw [← em1]; exact h1)
  rw [← em1, ← em] at h
  obtain ⟨ha, hb, hc⟩ := h
  have hd : t / 42 = (t + 1) / 42 := by omega
  unfold castA castB Pend Words.teAt Words.nxAt Words.wrAt
  refine ⟨?_, by simp only [hb, hc, hd]⟩
  have hcast : ∀ (k : ℕ) (hk : k ≤ 7168) (e e' b b' : ℕ), e = e' → b = b' → cast w (off k e b) (off_inb hk e b) = cast w (off k e' b') (off_inb hk e' b') := by
    rintro k hk e _ b _ rfl rfl; rfl
  exact ⟨hcast 0 (by decide) _ _ _ _ (congrArg BitVec.toNat ha.symm) hd, hcast 7168 (by decide) _ _ _ _ (congrArg BitVec.toNat ha.symm) hd⟩

/-- The body at every point takes the state before it to the state after it. -/
theorem step (T : Words (F := F) c) (q : T.Planned) (w : At (F := F) c wM) (t : Fin grid0.N) :
    Runs T (grid0.coords t) (St T w t.val) (Pend T w t.val) (castA T w t.val) (castB T w t.val) := by
  have hN : t.val < 294 := lt_of_lt_of_eq t.isLt N_0
  have qs := sound T q t
  have e0 : ((grid0.coords t) 0).val = t.val / 42 := coord0 t
  have e1 : ((grid0.coords t) 1).val = t.val % 42 := coord1 t
  have hle : (T.wrAt t.val).toNat ≤ 1 := q.wr_le t.val
  have c1 : k0_cond1 (T.first (grid0.coords t)) = 1#1 ↔ T.fiAt t.val = 1#32 := by rw [first_eq]; exact cond1_iff _
  have c2 : k0_cond2 (grid0.coords t) = 1#1 ↔ t.val = 0 := by rw [cond2_iff, e0, e1]; omega
  have c3 : k0_cond3 (grid0.coords t) (T.wrap (grid0.coords t)) = 1#1 ↔ t.val / 42 + (T.wrAt t.val).toNat < 7 := by
    rw [wrap_eq, cond3_iff _ _ hle, e0]
  have e9 : t.val / 42 + (T.wrAt t.val).toNat < 7 →
      k0_off9 (grid0.coords t) (T.wrap (grid0.coords t)) (T.next (grid0.coords t)) = offA (T.nxAt t.val).toNat (t.val / 42 + (T.wrAt t.val).toNat) := by
    intro h
    rw [wrap_eq, next_eq, off9_eq _ _ _ hle (by rw [e0]; exact h) (q.nx_lt _), e0]
  have e10 : t.val / 42 + (T.wrAt t.val).toNat < 7 →
      k0_off10 (grid0.coords t) (T.wrap (grid0.coords t)) (T.next (grid0.coords t)) = offB (T.nxAt t.val).toNat (t.val / 42 + (T.wrAt t.val).toNat) := by
    intro h
    rw [wrap_eq, next_eq, off10_eq _ _ _ hle (by rw [e0]; exact h) (q.nx_lt _), e0]
  by_cases h1 : T.fiAt t.val = 1#32
  · rcases Nat.eq_zero_or_pos t.val with ht | ht
    · have h3 : t.val / 42 + (T.wrAt t.val).toNat < 7 := by omega
      have hr := runs_start_next T (grid0.coords t) w (c1.2 h1) (c2.2 ht) (c3.2 h3) qs (offA (T.teAt t.val).toNat (t.val / 42)) (offA_inb _ _)
        (by rw [start_eq, off2_eq _ (q.te_lt _), ht]) (offB (T.teAt t.val).toNat (t.val / 42)) (offB_inb _ _)
        (by rw [start_eq, off3_eq _ (q.te_lt _), ht]) _ (offA_inb _ _) (e9 h3) _ (offB_inb _ _) (e10 h3)
      rw [ht] at hr ⊢
      unfold Pend
      rw [ht] at h3
      rw [if_pos h3]
      exact hr
    · obtain ⟨k, hk⟩ : ∃ k, t.val = k + 1 := ⟨t.val - 1, by omega⟩
      have hp : St T w t.val ⊢ iprop(SomeBlocks c ∗ FlyAt c w (T.teAt t.val).toNat (t.val / 42)) := by
        rw [hk]
        show iprop(Blocks c (castA T w k) (castB T w k) ∗ Pend T w k) ⊢ _
        rw [pend_turn T q w k (by omega) (by rw [← hk]; exact h1)]
        unfold Blocks SomeBlocks
        iintro ⟨⟨HA, HB⟩, HF⟩
        isplitl [HA HB]
        · isplitl [HA]
          · iexists _; iexact HA
          · iexists _; iexact HB
        iexact HF
      have h2 : ¬ k0_cond2 (grid0.coords t) = 1#1 := fun h => by have := c2.1 h; omega
      by_cases h3 : t.val / 42 + (T.wrAt t.val).toNat < 7
      · have hr := runs_next T (grid0.coords t) w (c1.2 h1) h2 (c3.2 h3) qs (offA (T.teAt t.val).toNat (t.val / 42)) (offA_inb _ _) (offB (T.teAt t.val).toNat (t.val / 42)) (offB_inb _ _) _ (offA_inb _ _) (e9 h3) _ (offB_inb _ _) (e10 h3)
        unfold Pend
        rw [if_pos h3]
        exact hr.from_pre hp
      · have hr := runs_last T (grid0.coords t) w (c1.2 h1) h2 (fun h => h3 (c3.1 h)) qs (offA (T.teAt t.val).toNat (t.val / 42)) (offA_inb _ _) (offB (T.teAt t.val).toNat (t.val / 42)) (offB_inb _ _)
        unfold Pend
        rw [if_neg h3]
        exact hr.from_pre hp
  · obtain ⟨k, hk⟩ : ∃ k, t.val = k + 1 := ⟨t.val - 1, by
      have : t.val ≠ 0 := fun h => h1 (by rw [h]; exact q.first)
      omega⟩
    have hs := pend_same T q w k (by rw [← hk]; exact h1)
    rw [← hk] at hs
    refine (runs_keep T (grid0.coords t) (Pend T w t.val) (castA T w t.val) (castB T w t.val) (fun h => h1 (c1.1 h)) qs.valid).from_pre ?_
    rw [hk] at hs ⊢
    rw [← hs.1.1, ← hs.1.2, ← hs.2]
    exact .rfl

/-- After the last point nothing is under way. -/
theorem pend_end (T : Words (F := F) c) (q : T.Planned) (w : At (F := F) c wM) : Pend T w 293 = Idle c w := by
  unfold Pend
  rw [if_neg]
  show ¬ 6 + ((T.wr : S42.Idx → BitVec 32) (pos 41)).toNat < 7
  rw [q.last.2]
  decide

end Cert.UpIdeal.Hand

end
-- ==== Proof.Up.Frame.lean ====
/-
  The kernel's run: its transfers cross from one point of the grid to the next, so the state between points is part of the
  loop's invariant (`St`), and each point's block of the result is `out` of the tile's rows and of the two rounded blocks
  of the tile's own expert.
-/
module

public import proofs.«01_k».proof.Proof.Up.Plan

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The region's entry -/

abbrev V (c : Dev nD) (b : Ref sig .tc) : Buf (Elt F) ((c : Thread nD τ).loc b) := m ((c : Thread nD τ).loc b)

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

def tbl : pre0.Contents (Elt F) := fun j => V m (0 : Dev nD) (pre0.ref j)
theorem V_pre (c : Dev nD) (j : Fin 5) : V m c (pre0.ref j) = tbl m j := by
  obtain rfl : c = 0 := Subsingleton.elim _ _; rfl

theorem ok : ok0 (F := F) (tbl m) := by unfold ok0; trivial
abbrev adm : (pcfg0 (F := F)).Adm := ⟨tbl m, ok m⟩
abbrev cfgM : Pipeline.Cfg sig Λ₀ := cfg0 (adm m)

/-- The tables as the body reads them, and the weights. -/
abbrev words (c : Dev nD) : Words (F := F) c := ⟨V m c main_arg0, V m c main_arg1, V m c main_arg2, V m c main_arg3, V m c main_arg4⟩
abbrev weights (c : Dev nD) : At (F := F) c wM := V m c main_arg6

theorem PhiT0_eq (c : Dev nD) : (Pipeline.ΦT pre0 (tbl m) c : sProp 𝕄) = (words m c).held := by
  obtain rfl : c = 0 := Subsingleton.elim _ _
  unfold Pipeline.ΦT Pipeline.prefHeld Words.held
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-! ## The windows' blocks -/

def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- A point's block of the result. -/
def oblk (c : Dev nD) (t : Fin (cfgM m).N) : Vec F S512x1024 .bf16 :=
  out ((words m c).vaAt t.val) (iblk m c 0 t) (castA (words m c) (weights m c) t.val) (castB (words m c) (weights m c) t.val)

/-- The loop's data: the rows' blocks stay, the result's blocks are `oblk`, and between points the state is `St`. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => oblk m c t
  Φ p := iprop((∃ r, prngReg c r) ∗ St (words m c) (weights m c) p.val ∗ (words m c).held)
  q _ := fullShare
  owed _ := 0

theorem A_eq (c : Dev nD) (w : Fin (cfgM m).W) : (dats m 0 c).A w = V m c (Pipeline.arrRef spec0 w) := by dsimp only [dats]
theorem after0_0 (c : Dev nD) (t : Fin (cfgM m).N) : (dats m 0 c).after 0 t = iblk m c 0 t := by dsimp only [dats]; try rfl
theorem after0_1 (c : Dev nD) (t : Fin (cfgM m).N) : (dats m 0 c).after 1 t = oblk m c t := by dsimp only [dats]; try rfl

theorem before0_0 (c : Dev nD) (t : Fin (cfgM m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-! ## The body obligation -/

abbrev ms0_0 (t : Fin (cfgM m).N) : Memref sig .tc .vmem S512x2048 .bf16 := spec0_0.stage ((cfgM m).slots t 0)
abbrev ms0_1 (t : Fin (cfgM m).N) : Memref sig .tc .vmem S512x1024 .bf16 := spec0_1.stage ((cfgM m).slots t 1)

/-- A tile of a plan's count is of one of the three kinds, so no point leaves the result's block alone. -/
theorem not_idle (c : Dev nD) (q : (words m c).Planned) (t : Fin grid0.N) : idle0 (tbl m) 1 (grid0.coords t) = false := by
  obtain rfl : c = 0 := Subsingleton.elim _ _
  have h := kind_of _ (q.va_nn t.val)
  have e : (tbl m).atD 2 (k0_off11 (grid0.coords t)) = (words m 0).vaAt t.val := by
    have hb : ∀ a : Fin 1, k0_off11 (grid0.coords t) a + 1 ≤ S42.size a := by rw [off11_at]; intro a; obtain rfl : a = (0 : Fin 1) := Subsingleton.elim _ _; show t.val % 42 + 1 ≤ 42; omega
    unfold Pipeline.Prefetch.Contents.atD
    refine (dif_pos hb).trans ?_
    exact congrArg (words m 0).va (idx_eq _ (k0_off11_inb (grid0.coords t)) t.val (off11_at t))
  show (!(k0_cond4 ((tbl m).atD 2 (k0_off11 (grid0.coords t))) == 1#1) && !(k0_cond5 ((tbl m).atD 2 (k0_off11 (grid0.coords t))) == 1#1)
    && !(k0_cond6 ((tbl m).atD 2 (k0_off11 (grid0.coords t))) == 1#1)) = false
  rw [e]
  rcases h with h | h | h <;> rw [h] <;> simp

/-- The body at a point. -/
abbrev bodyAt (t : Fin (cfgM (F := F) m).N) :=
  cc0_moe_up (F := F) (grid0.coords t) teM (Memref.isWhole_whole _) fiM (Memref.isWhole_whole _) vaM (Memref.isWhole_whole _) nxM (Memref.isWhole_whole _)
    wrM (Memref.isWhole_whole _) (ms0_0 m t) (hstage0_0 (((cfgM m).slots t 0).cast nbuf0_0)) wM (Memref.isWhole_whole _)
    (ms0_1 m t) (hstage0_1 (((cfgM m).slots t 1).cast nbuf0_1)) saM (Memref.isWhole_whole _) sbM (Memref.isWhole_whole _) caM (Memref.isWhole_whole _) cbM (Memref.isWhole_whole _) cc0_scratch4

theorem bodyAt_eq (t : Fin (cfgM (F := F) m).N) : defs₀ (F := F) .tc (cfgM m).body ((cfgM m).bodyArgs t ((cfgM m).slots t)) = bodyAt m t := by
  unfold defs₀; rw [Defs.onTc_tc]

def bodyPre (c : Dev nD) (t : Fin (cfgM (F := F) m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d)))
def bodyPost (c : Dev nD) (t : Fin (cfgM (F := F) m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t))

theorem Phi_eq (c : Dev nD) (p) : (dats m 0 c).Φ p = iprop((∃ r, prngReg c r) ∗ St (words m c) (weights m c) p.val ∗ (words m c).held) := by
  dsimp only [dats]

theorem St_succ {c : Dev nD} (T : Words (F := F) c) (w : At (F := F) c wM) (k : ℕ) :
    St T w (k + 1) = iprop(Blocks c (castA T w k) (castB T w k) ∗ Pend T w k) := rfl

theorem sound_body (c : Dev nD) (q : (words m c).Planned) (t : Fin (cfgM (F := F) m).N) :
    bodyPre m c t ⊢ wp frame (wpE (defs₀ (F := F)) Variants.none c none) Set.univ (bodyAt m t) (fun _ => bodyPost m c t) := by
  unfold bodyPre bodyPost
  simp only [before0_0]
  rw [after0_0, after0_1, Phi_eq, Phi_eq]
  rw [Fin.val_succ, Fin.val_castSucc, St_succ]
  unfold Dat.owesAt Pipeline.owesWithin
  rw [show (dats m 0 c).owed t.castSucc = 0 from rfl, show (dats m 0 c).owed t.succ = 0 from rfl]
  iintro ⟨⟨Hg, HS, HT⟩, ⟨%W, -, HW⟩, ⟨%d0, H0⟩, ⟨%d1, H1⟩⟩
  iapply (step (words m c) q (weights m c) t _ (hstage0_0 (((cfgM m).slots t 0).cast nbuf0_0)) _ (hstage0_1 (((cfgM m).slots t 1).cast nbuf0_1)) (iblk m c 0 t) W _)
  isplitl [H0]; · iexact H0
  isplitl [H1]; · iexists _; iexact H1
  isplitl [HS]; · iexact HS
  isplitl [HT]; · iexact HT
  isplitl [HW]; · iexact HW
  iintro ⟨H0, H1, HS, HT, ⟨%W', HW'⟩⟩
  isplitl [Hg HS HT]
  · isplitl [Hg]; · iexact Hg
    isplitl [HS]; · iexact HS
    iexact HT
  isplitl [HW']
  · iexists W'; isplitr; · ipureintro; exact fun _ _ => Or.inl trivial
    iexact HW'
  isplitl [H0]; · iexact H0
  unfold oblk
  rw [← valid_eq (words m c) t]
  iexact H1

theorem body_obligation (c : Dev nD) (q : (words m c).Planned) : BodyObligation (dats (F := F) m 0 c) (defs₀ (F := F)) Variants.none () Set.univ := fun t => by
  rw [bigSep_W0, bigSep_W0, bodyAt_eq m]
  refine triple_restated (sound_body m c q t) rfl .rfl fun _ => ?_
  have e : (cfgM m).idle 1 ((cfgM m).grid.coords t) = false := not_idle m c q t
  dsimp only
  split
  · rename_i h; exact absurd (h.symm.trans e) (by decide)
  · exact .rfl

/-! ## The launch -/

abbrev osem0 : Fin 2 → SemLoc sig := fun j => (![SemLoc.dma saS, SemLoc.dma sbS] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma saS) 0 ∗ semVal ((c : Thread nD τ), SemLoc.dma sbS) 0) := by
  rw [Pipeline.ownSems0_eq_of_list c osem0 [0, 1] (by decide) (by decide)]; rfl

def H0 : Finset (Ref sig .tc) := {main_arg6}
theorem H0_sub : H0 ⊆ Pipeline.restRefsP sig pre0 spec0 := by decide
theorem hbmPts0_eq (c : Dev nD) :
    (bigSep H0 (fun b => ((c : Thread nD τ).loc b) ↦{fullShare} V m c b) : sProp 𝕄) = part c wM fullShare (weights m c) := by
  unfold H0; rw [bigSep_singleton]

/-- The weights held whole are held in the two halves of their share. -/
theorem halves (c : Dev nD) (w : At (F := F) c wM) : part c wM fullShare w ⊣⊢ iprop(part c wM qa w ∗ part c wM qb w) := pointsTo_share (PosShare.mem_left_op_right fullShare)

theorem PhiD0_eq (c : Dev nD) :
    (Pipeline.ΦD osem0 spec0 H0 (V m) c : sProp 𝕄)
      = iprop(((∃ d, owns (c : Thread nD τ) saM fullShare d) ∗ (∃ d, owns (c : Thread nD τ) sbM fullShare d)
          ∗ (∃ d, owns (c : Thread nD τ) caM fullShare d) ∗ (∃ d, owns (c : Thread nD τ) cbM fullShare d)) ∗ (∃ r, prngReg c r)
          ∗ (semVal ((c : Thread nD τ), SemLoc.dma saS) 0 ∗ semVal ((c : Thread nD τ), SemLoc.dma sbS) 0) ∗ part c wM fullShare (weights m c)) := by
  rw [Pipeline.ΦD_eq, scopedRest0_eq, ownSems00_eq, hbmPts0_eq]
  simp only [saM, sbM, caM, cbM, owns_whole]; try rfl

theorem enters (c : Dev nD) : iprop(Pipeline.ΦD osem0 spec0 H0 (V m) c ∗ Pipeline.ΦT pre0 (tbl m) c) ⊢ (dats (F := F) m 0 c).Φ 0 := by
  rw [PhiD0_eq, PhiT0_eq, Phi_eq]
  show _ ⊢ iprop((∃ r, prngReg c r) ∗ (SomeBlocks c ∗ Idle c (weights m c)) ∗ (words m c).held)
  refine (sep_mono (sep_mono .rfl (sep_mono .rfl (sep_mono .rfl (halves c (weights m c)).1))) .rfl).trans ?_
  unfold Idle Rest SomeBlocks
  iintro ⟨⟨⟨HSa, HSb, HA, HB⟩, Hg, ⟨Hqa, Hqb⟩, Hwa, Hwb⟩, HT⟩
  isplitl [Hg]; · iexact Hg
  isplitl [HSa HSb HA HB Hqa Hqb Hwa Hwb]
  · isplitl [HA HB]
    · isplitl [HA]; · iexact HA
      iexact HB
    isplitl [HSa Hqa Hwa]
    · isplitl [HSa]; · iexact HSa
      isplitl [Hqa]; · iexact Hqa
      iexact Hwa
    isplitl [HSb]; · iexact HSb
    isplitl [Hqb]; · iexact Hqb
    iexact Hwb
  iexact HT

theorem leaves (c : Dev nD) (q : (words m c).Planned) : (dats (F := F) m 0 c).Φ (Fin.last (cfgM m).N) ⊢ Pipeline.ΦD osem0 spec0 H0 (V m) c := by
  rw [PhiD0_eq, Phi_eq]
  show iprop((∃ r, prngReg c r) ∗ (Blocks c (castA (words m c) (weights m c) 293) (castB (words m c) (weights m c) 293) ∗ Pend (words m c) (weights m c) 293) ∗ (words m c).held) ⊢ _
  rw [pend_end _ q]
  refine BIBase.Entails.trans ?_ (sep_mono .rfl (sep_mono .rfl (sep_mono .rfl (halves c (weights m c)).2)))
  unfold Idle Rest Blocks
  iintro ⟨Hg, ⟨⟨HA, HB⟩, ⟨HSa, Hqa, Hwa⟩, HSb, Hqb, Hwb⟩, -⟩
  isplitl [HSa HSb HA HB]
  · isplitl [HSa]; · iexact HSa
    isplitl [HSb]; · iexact HSb
    isplitl [HA]; · iexists _; iexact HA
    iexists _; iexact HB
  isplitl [Hg]; · iexact Hg
  isplitl [Hqa Hqb]
  · isplitl [Hqa]; · iexact Hqa
    iexact Hqb
  isplitl [Hwa]; · iexact Hwa
  iexact Hwb

set_option backward.isDefEq.respectTransparency.types false in
/-- From tables that are a plan, every run ends, leaving the arrays as the loop's data say and every counter at zero. -/
theorem run_main (hq : ∀ c, (words m c).Planned) :
    θ_run defs (onTc (τ := τ) (main (F := F))) (s₀ m ρ) (fun r => Pipeline.FramePost (Pipeline.pin pcfgs fun _ => adm m) (dats m) 0 (V m) r ∧ r.2.sem = fun _ => 0) :=
  Pipeline.θ_run_frameP_dma (Q' := _) pcfgs (fun _ => adm m) (dats m) (0 : Fin 1) launch0 osem0 defs₀ Variants.none ownSemFacts0 H0 H0_sub m ρ main
    (hbody := fun c => (body_obligation m c (hq c)).loose) (hshare := fun c => (dats m 0 c).share_full fun _ => rfl)
    (howed := fun _ _ => rfl) (V := V m) (hmain := hmain m Variants.none) (hA := A_eq m) (hpf := V_pre m)
    (hin := enters m) (hout := fun c => leaves m c (hq c)) (hQ' := fun _ h => h)

/-- The run, read at the buffers: the arguments as they were, and the result's array. -/
theorem run_reads (hq : ∀ c, (words m c).Planned) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.mem ((c.tc : Thread nD τ).loc main_v0) = (dats m 0 c).arrAt 1 (cfgM m).N)
      ∧ r.2.sem = fun _ => 0) :=
  (θ_run defs _ _).mono (fun r h => ⟨fun c => ⟨⟨(h.1 c).2 main_arg0 (by decide : main_arg0 ∈ Pipeline.restRefs sig spec0),
      (h.1 c).2 main_arg1 (by decide : main_arg1 ∈ Pipeline.restRefs sig spec0),
      (h.1 c).2 main_arg2 (by decide : main_arg2 ∈ Pipeline.restRefs sig spec0),
      (h.1 c).2 main_arg3 (by decide : main_arg3 ∈ Pipeline.restRefs sig spec0),
      (h.1 c).2 main_arg4 (by decide : main_arg4 ∈ Pipeline.restRefs sig spec0),
      ((h.1 c).1 0).trans (((dats m 0 c).arrAt_in 0 rfl _).trans (A_eq m c 0)),
      (h.1 c).2 main_arg6 (by decide : main_arg6 ∈ Pipeline.restRefs sig spec0)⟩, (h.1 c).1 1⟩, h.2⟩) (run_main m ρ hq)

/-- The arguments as they were, and every counter at zero. -/
theorem frame (hq : ∀ c, (words m c).Planned) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h.1 c).1, h.2⟩) (run_reads m ρ hq)

end Cert.UpIdeal.Hand

end
-- ==== Proof.Up.Pre.lean ====
/-
  The preconditions of `moe_up` read back: the first says that the tables are a plan, in the very words of `moe_down`'s,
  and the second besides that the rows of a tile past its count are zero.
-/
module

public import proofs.«01_k».proof.Proof.Gen.Pre_planned_up
public import proofs.«01_k».proof.Proof.Gen.Pre_padded_up
public import proofs.«01_k».proof.Proof.Down.Pre

@[expose] public section

noncomputable section

namespace Cert.Pre_planned_up.Hand

open Cert.Pre_planned_up Cert.Pre_planned_up.Gen Cert.DownIdeal.Hand Idealize.ShloMosaic

variable {F : FTy → Type} [FloatOps F]

/-- The predicate speaks of the tables alone, as `moe_down`'s does. -/
theorem plan_of (te fi va nx wr : IVec S42 32) (x : FVec F S21504x2048 .bf16) (w : FVec F S16x2048x14336 .f32)
    (h : Cert.Pre_planned_up.fn (F := F) te fi va nx wr x w = fun _ => 1#1) : Plan te fi va nx wr :=
  Cert.Pre_planned.Hand.plan_of (F := F) te fi va nx wr (fun _ => FloatOps.ofBits .bf16 0) (fun _ => FloatOps.ofBits .f32 0) h

end Cert.Pre_planned_up.Hand

namespace Cert.Pre_padded_up.Hand

open Cert.Pre_padded_up Cert.Pre_padded_up.Gen Cert.DownIdeal.Hand Idealize.ShloMosaic

instance : Subsingleton S_.Idx := ⟨fun a b => funext fun k => k.elim0⟩

/-- The predicate's parts: the plan's, and the one on the padding rows. -/
theorem parts (te fi va nx wr : IVec S42 32) (x : FVec Ideal S21504x2048 .bf16) (w : FVec Ideal S16x2048x14336 .f32)
    (h : Cert.Pre_padded_up.fn (F := Ideal) te fi va nx wr x w = fun _ => 1#1) : Plan te fi va nx wr
      ∧ ∀ (k : Fin 42) (r : Fin 512) (j : Fin 2048), (va (pos k.val)).toInt ≤ (r.val : ℤ) → x (Idealize.ShloMosaic.ix2 (⟨k.val * 512 + r.val, by omega⟩ : Fin 21504) j) = (0 : EReal) := by
  have h0 := congrFun h (fun k => k.elim0)
  dsimp only [Cert.Pre_padded_up.fn, Cert.Pre_padded_up.fn_part1, Cert.Pre_padded_up.fn_part2, Cert.Pre_padded_up.fn_part3, Cert.Pre_padded_up.fn_where] at h0
  obtain ⟨h0, h4⟩ := IntOp.andi_eq_one.1 h0
  constructor
  · refine Cert.Pre_planned.Hand.plan_of (F := Ideal) te fi va nx wr (fun _ => (0 : EReal)) (fun _ => (0 : EReal)) (funext fun i => ?_)
    obtain rfl : i = fun k => k.elim0 := Subsingleton.elim _ _
    exact h0
  · intro k r j hv
    have h5 := Host.reduce_andi_all _ _ _ _ _ h4 (Idealize.ShloMosaic.ix3 k r j)
    rcases IntOp.ori_eq_one.1 h5 with h6 | h6
    · exfalso
      have h7 : IntOp.cmpi .slt (BitVec.ofNat 32 r.val) (va (pos k.val)) = 1#1 := by
        refine Eq.trans ?_ h6
        refine congrArg (fun i => IntOp.cmpi .slt (BitVec.ofNat 32 r.val) (va i)) (funext fun a => Fin.ext ?_)
        obtain rfl : a = (0 : Fin 1) := Subsingleton.elim _ _
        show k.val % 42 = k.val
        omega
      have h8 := IntOp.cmpi_slt.1 h7
      have h9 : (BitVec.ofNat 32 r.val).toInt = (r.val : ℤ) := by
        rw [BitVec.toInt_eq_toNat_cond, BitVec.toNat_ofNat]
        have := r.isLt
        split <;> omega
      omega
    · have h7 : Ideal.cmp .oeq (x (Idealize.ShloMosaic.ix2 (⟨k.val * 512 + r.val, by omega⟩ : Fin 21504) j)) (Ideal.ofBits .f32 0#32) = 1#1 := by
        refine Eq.trans ?_ h6
        refine congrArg (fun e => Ideal.cmp .oeq e (Ideal.ofBits .f32 0#32)) ?_
        refine (shapeCast_apply (extf .f32 x Facts.bitsLt_bf16_f32) Facts.shapeCasts_S21504x2048_S42x512x2048 _ (Idealize.ShloMosaic.ix2 (⟨k.val * 512 + r.val, by omega⟩ : Fin 21504) j) ?_).symm
        refine (Shape.rowMajor_val_two _).trans (Eq.trans ?_ (Shape.rowMajor_val_three _).symm)
        rfl
      exact Cert.Pre_padded.Hand.eq_zero_of_word _ h7

end Cert.Pre_padded_up.Hand

end
-- ==== Proof.Up.Same.lean ====
/-
  The kernel and its idealization are the same program, whatever the floats are; so what is proved of the one holds of the other.
-/
module

public import proofs.«01_k».proof.Proof.Gen.Up
public import proofs.«01_k».proof.Proof.Up.Frame
public import proofs.«01_k».proof.Proof.Up.Pre

@[expose] public section

noncomputable section

namespace Cert.Up.Hand

open Idealize.ShloMosaic Idealize.SL Idealize.SL.Sem

variable {F : FTy → Type} [FloatOps F]

/-- The kernel's bodies, read as the idealization's. -/
abbrev bodies : Defs Cert.UpIdeal.nD Cert.UpIdeal.τ Cert.UpIdeal.sig (Elt F) Cert.UpIdeal.Λ₀ := by
  with_unfolding_all exact (Cert.Up.defs₀ (F := F))

theorem bodies_eq : bodies (F := F) = Cert.UpIdeal.defs₀ (F := F) := by
  unfold bodies Cert.UpIdeal.defs₀ Cert.Up.defs₀
  refine congrArg Defs.onTc ?_
  funext l a
  match l, a with
  | 0, (t, s) => with_unfolding_all rfl

/-- From tables that are a plan, every run of the kernel ends with its arguments as they were and every counter at zero. -/
theorem frame (m : (ℓ : Loc Cert.Up.nD Cert.Up.τ Cert.Up.sig) → Buf (Elt F) ℓ) (ρ : Dev Cert.Up.nD → PrngReg)
    (hq : ∀ c : Dev Cert.Up.nD, Cert.DownIdeal.Hand.Plan (m ((c.tc : Thread Cert.Up.nD Cert.Up.τ).loc Cert.Up.main_arg0)) (m ((c.tc : Thread Cert.Up.nD Cert.Up.τ).loc Cert.Up.main_arg1))
      (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4))) :
    θ_run (Cert.Up.defs (F := F)) (onTc (τ := Cert.Up.τ) (Cert.Up.main (F := F))) ⟨m, fun _ => 0, ρ⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5)
      ∧ r.2.mem ((c.tc : Thread Cert.Up.nD Cert.Up.τ).loc Cert.Up.main_arg6) = m ((c.tc : Thread Cert.Up.nD Cert.Up.τ).loc Cert.Up.main_arg6))
      ∧ r.2.sem = fun _ => 0) := by
  have h := Cert.UpIdeal.Hand.frame (F := F) m ρ hq
  unfold Cert.UpIdeal.defs at h
  rw [← bodies_eq] at h
  with_unfolding_all exact h

end Cert.Up.Hand

end
-- ==== Proof.Up.Value.lean ====
/-
  The up projection's result over the extended reals, read at an index: every row of the kernel's result and of the
  reference's is the gated product of the row of `xs` against two columns of its own tile's expert.
-/
module

public import proofs.«01_k».proof.Proof.Up.Frame
public import proofs.«01_k».proof.Proof.Up.Pre
public import proofs.«01_k».proof.Proof.Down.Value
public import proofs.«01_k».proof.Proof.Gen.UpRefIdeal.Read
public import Idealize.ShloMosaic.Lib.Pipeline.ValueKit
public import Idealize.ShloMosaic.Lib.Pipeline.Covers
public import Idealize.ShloMosaic.Lib.Pointwise
public import Idealize.ShloMosaic.Lib.IdealHost

@[expose] public section

set_option maxRecDepth 16384

noncomputable section

namespace Cert.UpIdeal.Hand

open Cert.UpIdeal Cert.UpIdeal.Gen Idealize.ShloMosaic Idealize.ShloMosaic.TcCoe Idealize.SL.Sem
open Idealize.ShloMosaic.Tactic
open Cert.DownIdeal.Hand (pos pos_mod Plan)

/-! ## The operations -/

/-- `a · σ(a) · b`. -/
def glu (a b : EReal) : EReal := a * Ideal.logistic a * b

theorem glu_zero (a : EReal) : glu a 0 = 0 := mul_zero _

theorem pay5_apply (v : Vec Ideal S2048x1024 .f32) (y : S2048x1024.Idx) : k0_pay5 (F := Ideal) v y = v y := by
  unfold_payloads
  pointwise

theorem pay1_apply (x : Vec Ideal S512x2048 .bf16) (ca cb : Vec Ideal S2048x1024 .bf16) (y : S512x1024.Idx) :
    k0_pay1 (F := Ideal) x ca cb y
      = glu (∑ k : Fin 2048, x (ix2 (y 0) k) * ca (ix2 k (y 1))) (∑ k : Fin 2048, x (ix2 (y 0) k) * cb (ix2 k (y 1))) := by
  unfold glu
  unfold_payloads
  pointwise

theorem pay2_apply (x : Vec Ideal S256x2048 .bf16) (ca cb : Vec Ideal S2048x1024 .bf16) (y : S256x1024.Idx) :
    k0_pay2 (F := Ideal) x ca cb y
      = glu (∑ k : Fin 2048, x (ix2 (y 0) k) * ca (ix2 k (y 1))) (∑ k : Fin 2048, x (ix2 (y 0) k) * cb (ix2 k (y 1))) := by
  unfold glu
  unfold_payloads
  pointwise

theorem pay4_apply (y : S512x1024.Idx) : k0_pay4 (F := Ideal) y = (0 : EReal) := by
  unfold_payloads
  pointwise

/-- A block of the result is the gated product of all its rows when the rows that do not count are zero. -/
theorem out_apply (v : BitVec 32) (hv : 0 ≤ v.toInt) (x : Vec Ideal S512x2048 .bf16) (ca cb : Vec Ideal S2048x1024 .bf16)
    (hz : ∀ (r : Fin 512) (k : Fin 2048), v.toInt ≤ (r.val : ℤ) → x (ix2 r k) = (0 : EReal)) (y : S512x1024.Idx) :
    out v x ca cb y
      = glu (∑ k : Fin 2048, x (ix2 (y 0) k) * ca (ix2 k (y 1))) (∑ k : Fin 2048, x (ix2 (y 0) k) * cb (ix2 k (y 1))) := by
  have hzero : v.toInt ≤ ((y 0).val : ℤ) → (0 : EReal)
      = glu (∑ k : Fin 2048, x (ix2 (y 0) k) * ca (ix2 k (y 1))) (∑ k : Fin 2048, x (ix2 (y 0) k) * cb (ix2 k (y 1))) := fun h =>
    ((congrArg (glu _) (Finset.sum_eq_zero fun k _ => by rw [hz (y 0) k h]; exact zero_mul (cb (ix2 k (y 1)) : EReal))).trans (glu_zero _)).symm
  unfold out
  by_cases h6 : k0_cond6 v = 1#1
  · rw [if_pos h6]
    have e : v = 0#32 := (cond6_iff v).1 h6
    exact (pay4_apply y).trans (hzero (by rw [e]; exact Int.natCast_nonneg _))
  rw [if_neg h6]
  by_cases h5 : k0_cond5 v = 1#1
  · rw [if_pos h5]
    have e := ((cond5_iff v).1 h5).2
    by_cases hy : (y 0).val < 256
    · rw [dif_pos hy]
      have hx : ∀ k : Fin 2048, VecWindow.window x ![0, 0] S256x2048.size inb_S512x2048_S256x2048_0_0 (ix2 (upper y hy 0) k) = x (ix2 (y 0) k) := fun k =>
        congrArg x (funext fun a => Fin.ext (by
          match a with
          | ⟨0, _⟩ => show 0 + 1 * (y 0).val = (y 0).val; omega
          | ⟨1, _⟩ => show 0 + 1 * k.val = k.val; omega))
      exact (pay2_apply _ _ _ _).trans (congrArg₂ glu (Finset.sum_congr rfl fun k _ => congrArg₂ (· * ·) (hx k) rfl)
        (Finset.sum_congr rfl fun k _ => congrArg₂ (· * ·) (hx k) rfl))
    · rw [dif_neg hy]
      exact (pay4_apply y).trans (hzero (by omega))
  · rw [if_neg h5]
    exact pay1_apply _ _ _ _

/-! ## The operands -/

/-- A block of the weights, from its expert, its half and its number in that half. -/
theorem cast_apply {c : Dev nD} (w : At (F := Ideal) c wM) (k e b : ℕ) (h) (y : S2048x1024.Idx) (e' : Fin 16) (n : Fin 14336)
    (he : e = e'.val) (hn : n.val = k + b % 7 * 1024 + (y 1).val) :
    cast w (off k e b) h y = w (ix3 e' (y 0) n) := by
  unfold cast
  refine (pay5_apply _ y).trans ?_
  rw [Memref.read_squeeze_slice _ _ (fun _ => rfl) _ (show S1x2048x1024.ShapeCasts S2048x1024 by decide)]
  refine (shapeCast_apply _ _ y (ix3 (0 : Fin 1) (y 0) (y 1)) ?_).trans ?_
  · refine (Shape.rowMajor_val_three _).trans (Eq.trans ?_ (Shape.rowMajor_val_two _).symm)
    show (0 * 2048 + (y 0).val) * 1024 + (y 1).val = (y 0).val * 1024 + (y 1).val
    omega
  · refine congrArg w (funext fun a => Fin.ext ?_)
    have h16 := e'.isLt
    match a with
    | ⟨0, _⟩ => show e % 16 + 1 * 0 = e'.val; omega
    | ⟨1, _⟩ => show 0 + 1 * (y 0).val = (y 0).val; omega
    | ⟨2, _⟩ => show k + b % 7 * 1024 + 1 * (y 1).val = n.val; omega

variable (m : (ℓ : Loc nD τ sig) → Buf (Elt Ideal) ℓ)

theorem place0 : ∀ t : Fin grid0.N, cc0_transform_0 (grid0.coords t) 0 = t.val % 42 ∧ cc0_transform_0 (grid0.coords t) 1 = 0 := by decide +kernel
theorem place1 : ∀ t : Fin grid0.N, cc0_transform_2 (grid0.coords t) 0 = t.val % 42 ∧ cc0_transform_2 (grid0.coords t) 1 = t.val / 42 := by decide +kernel

/-- A tile's rows are the rows of `xs` from the tile's first on. -/
theorem iblk_apply (c : Dev nD) (t : Fin (cfgM m).N) (r : Fin 512) (k : Fin 2048) (i : Fin 21504) (hi : i.val = t.val % 42 * 512 + r.val) :
    iblk m c 0 t (ix2 r k) = m ((c : Thread nD τ).loc main_arg5) (ix2 i k) := by
  have h0 : cc0_transform_0 (grid0.coords t) 0 = t.val % 42 := (place0 t).1
  have h1 : cc0_transform_0 (grid0.coords t) 1 = 0 := (place0 t).2
  blk_simp [iblk]
  refine congrArg (m ((c : Thread nD τ).loc main_arg5)) (funext fun a => Fin.ext ?_)
  match a with
  | ⟨0, _⟩ =>
    show cc0_transform_0 (grid0.coords t) 0 * 512 + 1 * r.val = i.val
    rw [h0, hi]; omega
  | ⟨1, _⟩ =>
    show cc0_transform_0 (grid0.coords t) 1 * 2048 + 1 * k.val = k.val
    rw [h1]; omega

theorem covers : ((cfgM m).win 1).Covers :=
  Pipeline.Window.covers_of_index_surj _ rfl (show ∀ a : Fin 2, 0 < S512x1024.size a by decide) fun β => by
    have b0 : (β (0 : Fin 2)).val < 42 := lt_of_lt_of_eq (β (0 : Fin 2)).isLt (show (21504 + 512 - 1) / 512 = 42 by decide)
    have b1 : (β (1 : Fin 2)).val < 7 := lt_of_lt_of_eq (β (1 : Fin 2)).isLt (show (7168 + 1024 - 1) / 1024 = 7 by decide)
    have hN : (β (1 : Fin 2)).val * 42 + (β (0 : Fin 2)).val < grid0.N := by
      have : grid0.N = 294 := by decide
      omega
    refine ⟨⟨(β (1 : Fin 2)).val * 42 + (β (0 : Fin 2)).val, hN⟩, fun a => ?_⟩
    match a with
    | ⟨0, _⟩ => exact (place1 ⟨_, hN⟩).1.trans (by show _ % 42 = (β (0 : Fin 2)).val; dsimp only; omega)
    | ⟨1, _⟩ => exact (place1 ⟨_, hN⟩).2.trans (by show _ / 42 = (β (1 : Fin 2)).val; dsimp only; omega)

/-! ## The result -/

/-- The product of the row `r` with the column `n` of its tile's expert. -/
def lane (te : S42.Idx → BitVec 32) (x : S21504x2048.Idx → EReal) (w : S16x2048x14336.Idx → EReal) (r : Fin 21504) (n : Fin 14336) : EReal :=
  ∑ k : Fin 2048, x (ix2 r k) * w (ix3 (⟨(te (pos (r.val / 512))).toNat % 16, Nat.mod_lt _ (by decide)⟩ : Fin 16) k n)

/-- The column of the first half, and of the second, that a column of the result is made of. -/
def colA (n : Fin 7168) : Fin 14336 := ⟨n.val, by omega⟩
def colB (n : Fin 7168) : Fin 14336 := ⟨7168 + n.val, by omega⟩

/-- The gated product of each row with two columns of its tile's expert. -/
def gate (te : S42.Idx → BitVec 32) (x : S21504x2048.Idx → EReal) (w : S16x2048x14336.Idx → EReal) (i : S21504x7168.Idx) : EReal :=
  glu (lane te x w (i 0) (colA (i 1))) (lane te x w (i 0) (colB (i 1)))

theorem arr_eq (c : Dev nD) (hq : Plan (m ((c : Thread nD τ).loc main_arg0)) (m ((c : Thread nD τ).loc main_arg1))
      (m ((c : Thread nD τ).loc main_arg2)) (m ((c : Thread nD τ).loc main_arg3)) (m ((c : Thread nD τ).loc main_arg4)))
    (hz : ∀ (k : Fin 42) (r : Fin 512) (j : Fin 2048), ((m ((c : Thread nD τ).loc main_arg2)) (pos k.val)).toInt ≤ (r.val : ℤ) →
      m ((c : Thread nD τ).loc main_arg5) (ix2 (⟨k.val * 512 + r.val, by omega⟩ : Fin 21504) j) = (0 : EReal)) :
    (dats m 0 c).arrAt 1 (cfgM m).N
      = gate (m ((c : Thread nD τ).loc main_arg0)) (m ((c : Thread nD τ).loc main_arg5)) (m ((c : Thread nD τ).loc main_arg6)) := by
  refine (dats m 0 c).arrAt_eq_of_covers 1 _ (covers m) fun t hf y => ?_
  blk_simp
  have hN : t.val < 294 := lt_of_lt_of_eq t.isLt (by decide : grid0.N = 294)
  have q0 : cc0_transform_2 (grid0.coords t) 0 = t.val % 42 := (place1 t).1
  have q1 : cc0_transform_2 (grid0.coords t) 1 = t.val / 42 := (place1 t).2
  have y0 : (y (0 : Fin 2)).val < 512 := (y (0 : Fin 2)).isLt
  have y1 : (y (1 : Fin 2)).val < 1024 := (y (1 : Fin 2)).isLt
  suffices H : ∀ i : S21504x7168.Idx, (i 0).val = t.val % 42 * 512 + (y (0 : Fin 2)).val → (i 1).val = t.val / 42 * 1024 + (y (1 : Fin 2)).val →
      (dats m 0 c).after 1 t y = gate (m ((c : Thread nD τ).loc main_arg0)) (m ((c : Thread nD τ).loc main_arg5)) (m ((c : Thread nD τ).loc main_arg6)) i from
    H _ (by
      show cc0_transform_2 (grid0.coords t) 0 * 512 + 1 * (y (0 : Fin 2)).val = _
      rw [q0]; omega) (by
      show cc0_transform_2 (grid0.coords t) 1 * 1024 + 1 * (y (1 : Fin 2)).val = _
      rw [q1]; omega)
  intro i e0 e1
  rw [after0_1]
  unfold oblk
  refine (out_apply _ (hq.va_nn t.val) _ _ _ (fun r k h => ?_) y).trans ?_
  · refine (iblk_apply m c t r k ⟨t.val % 42 * 512 + r.val, by omega⟩ rfl).trans (hz ⟨t.val % 42, by omega⟩ r k ?_)
    rw [pos_mod]; exact h
  have ee : ((words m c).teAt t.val).toNat = (m ((c : Thread nD τ).loc main_arg0) (pos ((i 0).val / 512))).toNat % 16 := by
    have ei : pos ((i 0).val / 512) = pos t.val := by
      rw [← pos_mod t.val, e0]; exact congrArg pos (by omega)
    rw [ei]
    exact (Nat.mod_eq_of_lt (hq.te_lt t.val)).symm
  unfold gate lane castA castB
  exact congrArg₂ glu
    (Finset.sum_congr rfl fun k _ => congrArg₂ (· * ·) (iblk_apply m c t _ k (i 0) e0)
      (cast_apply _ 0 _ _ _ (ix2 k (y (1 : Fin 2))) _ (colA (i 1)) ee (by
        show (i 1).val = 0 + t.val / 42 % 7 * 1024 + (y (1 : Fin 2)).val; omega)))
    (Finset.sum_congr rfl fun k _ => congrArg₂ (· * ·) (iblk_apply m c t _ k (i 0) e0)
      (cast_apply _ 7168 _ _ _ (ix2 k (y (1 : Fin 2))) _ (colB (i 1)) ee (by
        show 7168 + (i 1).val = 7168 + t.val / 42 % 7 * 1024 + (y (1 : Fin 2)).val; omega)))

end Cert.UpIdeal.Hand

/-! ## The reference -/

namespace Cert.UpRefIdeal.Hand

open Cert.UpRefIdeal Cert.UpRefIdeal.Gen Cert.UpRefIdeal.Read Idealize.ShloMosaic Idealize.ShloMosaic.TcCoe Idealize.SL.Sem

variable (te : S42.Idx → BitVec 32) (x : S21504x2048.Idx → EReal) (w : S16x2048x14336.Idx → EReal)

/-- A row's product with a column of its tile's expert, as the reference forms it. -/
theorem dot_eq (hte : ∀ k, (te (Cert.DownIdeal.Hand.pos k)).toNat < 16) (j : S42x512x14336.Idx) (r : Fin 21504) (n : Fin 14336)
    (hr : r.val = (j 0).val * 512 + (j 1).val) (hn : n.val = (j 2).val) :
    val_main_v3 (F := Ideal) te x w j = Cert.UpIdeal.Hand.lane te x w r n := by
  have h0 : (j 0).val < 42 := (j 0).isLt
  have h1 : (j 1).val < 512 := (j 1).isLt
  rw [val_main_v3_apply]
  unfold Cert.UpIdeal.Hand.lane
  refine Finset.sum_congr rfl fun k _ => congrArg₂ (· * ·) ?_ ?_
  · rw [val_main_v1_apply]
    refine (val_main_v0_apply (F := Ideal) x _).trans (congrArg x (funext fun a => Fin.ext ?_))
    have := k.isLt
    match a with
    | ⟨0, _⟩ => show (((j 0).val * 512 + (j 1).val) * 2048 + k.val) / 2048 = r.val; omega
    | ⟨1, _⟩ => show (((j 0).val * 512 + (j 1).val) * 2048 + k.val) % 2048 = k.val; omega
  · unfold val_main_v2
    have ht : (te (Cert.DownIdeal.Hand.pos (r.val / 512))).toNat % 16 = (te (Cert.DownIdeal.Hand.pos (r.val / 512))).toNat :=
      Nat.mod_eq_of_lt (hte _)
    have hx : ridx_main_v3 j k = ix3 (⟨r.val / 512, by omega⟩ : Fin 42) k n := by
      funext a; refine Fin.ext ?_
      match a with
      | ⟨0, _⟩ => show (j 0).val = r.val / 512; omega
      | ⟨1, _⟩ => rfl
      | ⟨2, _⟩ => exact hn.symm
    rw [hx]
    refine Cert.DownRefIdeal.Hand.gather_matrices _ rfl rfl rfl rfl rfl w _ _ k n ⟨_, Nat.mod_lt _ (by decide)⟩ ?_ (by decide)
    rw [val_main_call0_v0_apply]
    show te _ = BitVec.ofNat 32 ((te (Cert.DownIdeal.Hand.pos (r.val / 512))).toNat % 16)
    rw [ht, BitVec.ofNat_toNat, BitVec.setWidth_eq]
    refine congrArg te (funext fun a => Fin.ext ?_)
    obtain rfl : a = (0 : Fin 1) := Subsingleton.elim _ _
    show r.val / 512 = r.val / 512 % 42
    omega

/-- The reference's gate is the same function of the two products. -/
theorem gate_apply (j : S42x512x7168.Idx) :
    val_main_v7 (F := Ideal) te x w j
      = Cert.UpIdeal.Hand.glu (val_main_v4 (F := Ideal) te x w j) (val_main_v5 (F := Ideal) te x w j) := by
  rw [val_main_v7_apply, val_main_v6_apply, val_main_call1_v5_apply, val_main_call1_v4_apply, val_main_call1_cst_0_apply,
    val_main_call1_v3_apply, val_main_call1_v2_apply, val_main_call1_cst_apply, val_main_call1_v1_apply, val_main_call1_v0_apply]
  generalize val_main_v4 (F := Ideal) te x w j = a
  generalize val_main_v5 (F := Ideal) te x w j = b
  show a * Ideal.div (Ideal.ofBits .f32 0x3F800000#32) (Ideal.ofBits .f32 0x3F800000#32 + Ideal.exp (-a)) * b = _
  rw [Ideal.ofBits_one_f32]
  rfl

/-- The reference's result, read at an index, when every tile's expert is one of the sixteen. -/
theorem result_eq (hte : ∀ k, (te (Cert.DownIdeal.Hand.pos k)).toNat < 16) :
    val_main_v9 (F := Ideal) te x w = Cert.UpIdeal.Hand.gate te x w := by
  funext i
  have h0 : (i 0).val < 21504 := (i 0).isLt
  have h1 : (i 1).val < 7168 := (i 1).isLt
  rw [val_main_v9_apply, val_main_v8_apply, gate_apply, val_main_v4_apply, val_main_v5_apply]
  unfold Cert.UpIdeal.Hand.gate
  have e : (i 0).val = ((i 0).val * 7168 + (i 1).val) / 3670016 * 512 + ((i 0).val * 7168 + (i 1).val) / 7168 % 512 := by omega
  have e' : (i 1).val = ((i 0).val * 7168 + (i 1).val) % 7168 := by omega
  exact congrArg₂ Cert.UpIdeal.Hand.glu
    (dot_eq te x w hte _ (i 0) (Cert.UpIdeal.Hand.colA (i 1)) e e')
    (dot_eq te x w hte _ (i 0) (Cert.UpIdeal.Hand.colB (i 1)) e (congrArg (7168 + ·) e'))

end Cert.UpRefIdeal.Hand
-- ==== Proof.Rows.Value.lean ====
/-
  The rows' product with a weight matrix over the extended reals, read at an index: the block of the matrix a column of
  blocks works with is carried, rounded, from its first row block to its last, and every block of the result is the rows'
  product with it.
-/
module

public import proofs.«01_k».proof.Proof.Gen.RowsIdeal.Frame
public import proofs.«01_k».proof.Proof.Gen.RowsRefIdeal.Read
public import Idealize.ShloMosaic.Lib.Pipeline.ValueKit
public import Idealize.ShloMosaic.Lib.Pipeline.Covers
public import Idealize.ShloMosaic.Lib.Pointwise
public import Idealize.ShloMosaic.Lib.IdealHost

@[expose] public section

set_option maxRecDepth 16384

noncomputable section

namespace Cert.RowsIdeal.Hand

open Cert.RowsIdeal Cert.RowsIdeal.Gen Idealize.ShloMosaic Idealize.ShloMosaic.TcCoe Idealize.SL.Sem
open Idealize.ShloMosaic.Tactic

/-! ## The operations -/

theorem pay1_apply (v : Vec Ideal S1x2048x1024 .f32) (y : S2048x1024.Idx) : k0_pay1 (F := Ideal) v y = v (ix3 (0 : Fin 1) (y 0) (y 1)) := by
  unfold_payloads
  pointwise

theorem pay2_apply (w : Vec Ideal S2048x1024 .bf16) (x : Vec Ideal S1088x2048 .bf16) (y : S1088x1024.Idx) :
    k0_pay2 (F := Ideal) w x y = ∑ k : Fin 2048, (x (ix2 (y 0) k) * w (ix2 k (y 1)) : EReal) := by
  unfold_payloads
  pointwise

/-! ## What a point leaves -/

section Point
variable (c : Dev nD) (i : grid0.Coords) (arg2 : Memref sig .tc .vmem S1088x2048 .bf16) (harg2 : arg2.IsWhole)
  (arg3 : Memref sig .tc .vmem S1x2048x1024 .f32) (harg3 : arg3.IsWhole) (arg4 : Memref sig .tc .vmem S1088x1024 .f32) (harg4 : arg4.IsWhole)
  (arg5 : Memref sig .tc .vmem S2048x1024 .bf16) (harg5 : arg5.IsWhole)
  (x0 : Vec Ideal S1088x2048 .bf16) (x1 : Vec Ideal S1x2048x1024 .f32) (xs : Vec Ideal S2048x1024 .bf16)

theorem load2 : View.readAt (Elt Ideal) arg2.view (Rect.unit (s := S1088x2048) ![0, 0] S1088x2048.size inb_S1088x2048_S1088x2048_0_0).toLoadRect (harg2.unread x0) = x0 := by
  rw [View.readAt_eq_ld, harg2.read_unread]
  exact View.ld_unit_zero (by funext a; match a with | ⟨0, _⟩ => rfl | ⟨1, _⟩ => rfl) _ _

theorem load3 : View.readAt (Elt Ideal) arg3.view (Rect.unit (s := S1x2048x1024) ![0, 0, 0] S1x2048x1024.size inb_S1x2048x1024_S1x2048x1024_0_0_0).toLoadRect (harg3.unread x1) = x1 := by
  rw [View.readAt_eq_ld, harg3.read_unread]
  exact View.ld_unit_zero (by funext a; match a with | ⟨0, _⟩ => rfl | ⟨1, _⟩ => rfl | ⟨2, _⟩ => rfl) _ _

theorem load5 : View.readAt (Elt Ideal) arg5.view (Rect.unit (s := S2048x1024) ![0, 0] S2048x1024.size inb_S2048x1024_S2048x1024_0_0).toLoadRect (harg5.unread xs) = xs := by
  rw [View.readAt_eq_ld, harg5.read_unread]
  exact View.ld_unit_zero (by funext a; match a with | ⟨0, _⟩ => rfl | ⟨1, _⟩ => rfl) _ _

theorem carry_first (h : cond0_0 i) :
    sout0_A_0 (F := Ideal) c i arg2 harg2 arg3 harg3 arg4 harg4 arg5 harg5 h x0 x1 = k0_pay1 (F := Ideal) x1 := by
  unfold sout0_A_0
  rw [View.read_writes_junk_eq_canon]
  unfold kernelRun0_A
  dsimp only
  sl_unfold_words
  rw [load3]
  exact View.canon_cons_unit_lit _ _ _ (fun a => by match a with | ⟨0, _⟩ => rfl | ⟨1, _⟩ => rfl)

theorem out_first (h : cond0_0 i) :
    out0_A_2 (F := Ideal) c i arg2 harg2 arg3 harg3 arg4 harg4 arg5 harg5 h x0 x1 = k0_pay2 (F := Ideal) (k0_pay1 (F := Ideal) x1) x0 := by
  unfold out0_A_2
  rw [View.read_writes_junk_eq_canon]
  unfold kernelRun0_A
  dsimp only
  sl_unfold_words
  rw [load2, load3]
  refine (View.canon_cons_unit_lit _ _ _ (fun a => by match a with | ⟨0, _⟩ => rfl | ⟨1, _⟩ => rfl)).trans ?_
  exact congrArg (fun z => k0_pay2 (F := Ideal) z x0) (View.readCov_unit_lit _ _ _ (fun a => by match a with | ⟨0, _⟩ => rfl | ⟨1, _⟩ => rfl))

theorem out_later (h : ¬cond0_0 i) :
    out0_B_2 (F := Ideal) c i arg2 harg2 arg3 harg3 arg4 harg4 arg5 harg5 h x0 x1 xs = k0_pay2 (F := Ideal) xs x0 := by
  unfold out0_B_2
  rw [View.read_writes_junk_eq_canon]
  unfold kernelRun0_B
  dsimp only
  sl_unfold_words
  rw [load2, load5]
  exact View.canon_cons_unit_lit _ _ _ (fun a => by match a with | ⟨0, _⟩ => rfl | ⟨1, _⟩ => rfl)

end Point

/-! ## The operands -/

variable (m : (ℓ : Loc nD τ sig) → Buf (Elt Ideal) ℓ)

theorem places : ∀ t : Fin grid0.N, cc0_transform_0 (grid0.coords t) 0 = t.val % 8 ∧ cc0_transform_0 (grid0.coords t) 1 = 0
    ∧ cc0_transform_1 (grid0.coords t) 0 = 0 ∧ cc0_transform_1 (grid0.coords t) 1 = 0 ∧ cc0_transform_1 (grid0.coords t) 2 = t.val / 8
    ∧ cc0_transform_2 (grid0.coords t) 0 = t.val % 8 ∧ cc0_transform_2 (grid0.coords t) 1 = t.val / 8 := by decide +kernel

/-- A block of the rows. -/
theorem rows_apply (c : Dev nD) (t : Fin cfg0.N) (r : Fin 1088) (k : Fin 2048) (i : Fin 8704) (hi : i.val = t.val % 8 * 1088 + r.val) :
    iblk m c 0 t (ix2 r k) = m ((c : Thread nD τ).loc main_arg0) (ix2 i k) := by
  have h0 := (places t).1
  have h1 := (places t).2.1
  blk_simp [iblk]
  refine congrArg (m ((c : Thread nD τ).loc main_arg0)) (funext fun a => Fin.ext ?_)
  match a with
  | ⟨0, _⟩ =>
    show cc0_transform_0 (grid0.coords t) 0 * 1088 + 1 * r.val = i.val
    rw [h0, hi]; omega
  | ⟨1, _⟩ =>
    show cc0_transform_0 (grid0.coords t) 1 * 2048 + 1 * k.val = k.val
    rw [h1]; omega

/-- A block of the matrix. -/
theorem mat_apply (c : Dev nD) (t : Fin cfg0.N) (k : Fin 2048) (q : Fin 1024) (n : Fin 6144) (hn : n.val = t.val / 8 * 1024 + q.val) :
    iblk m c 1 t (ix3 (0 : Fin 1) k q) = m ((c : Thread nD τ).loc main_arg1) (ix3 (0 : Fin 1) k n) := by
  have h0 := (places t).2.2.1
  have h1 := (places t).2.2.2.1
  have h2 := (places t).2.2.2.2.1
  blk_simp [iblk]
  refine congrArg (m ((c : Thread nD τ).loc main_arg1)) (funext fun a => Fin.ext ?_)
  match a with
  | ⟨0, _⟩ =>
    show cc0_transform_1 (grid0.coords t) 0 * 1 + 1 * 0 = 0
    rw [h0]
  | ⟨1, _⟩ =>
    show cc0_transform_1 (grid0.coords t) 1 * 2048 + 1 * k.val = k.val
    rw [h1]; omega
  | ⟨2, _⟩ =>
    show cc0_transform_1 (grid0.coords t) 2 * 1024 + 1 * q.val = n.val
    rw [h2, hn]; omega

/-- What the points carry: the matrix's block of the column of blocks they are in. -/
theorem carried (c : Dev nD) : ∀ (n : ℕ) (h : n < cfg0.N) (k : Fin 2048) (q : Fin 1024) (j : Fin 6144), j.val = n / 8 * 1024 + q.val →
    (outsAt0 m c n h).2 (ix2 k q) = m ((c : Thread nD τ).loc main_arg1) (ix3 (0 : Fin 1) k j) := by
  intro n
  induction n with
  | zero =>
    intro h k q j hj
    rw [show outsAt0 m c 0 h = _ from outsAt0_A m c ⟨0, h⟩ rfl]
    dsimp only
    rw [carry_first, pay1_apply]
    exact mat_apply m c ⟨0, h⟩ k q j hj
  | succ n ih =>
    intro h k q j hj
    by_cases h0 : (n + 1) % 8 = 0
    · rw [show outsAt0 m c (n + 1) h = _ from outsAt0_A m c ⟨n + 1, h⟩ h0]
      dsimp only
      rw [carry_first, pay1_apply]
      exact mat_apply m c ⟨n + 1, h⟩ k q j hj
    · rw [show outsAt0 m c (n + 1) h = _ from outsAt0_B m c ⟨n + 1, h⟩ h0]
      exact ih (Nat.lt_of_succ_lt h) k q j (by omega)

/-! ## The result -/

/-- The rows' product with the matrix. -/
def prod (x : S8704x2048.Idx → EReal) (w : S1x2048x6144.Idx → EReal) (i : S8704x6144.Idx) : EReal :=
  ∑ k : Fin 2048, x (ix2 (i 0) k) * w (ix3 (0 : Fin 1) k (i 1))

/-- The block a point leaves. -/
theorem out_apply (c : Dev nD) (t : Fin cfg0.N) (y : S1088x1024.Idx) (i : S8704x6144.Idx)
    (h0 : (i 0).val = t.val % 8 * 1088 + (y 0).val) (h1 : (i 1).val = t.val / 8 * 1024 + (y 1).val) :
    (outsAt0 m c t.val t.isLt).1 y = prod (m ((c : Thread nD τ).loc main_arg0)) (m ((c : Thread nD τ).loc main_arg1)) i := by
  by_cases h : t.val % 8 = 0
  · rw [outsAt0_A m c t h]
    dsimp only
    rw [out_first, pay2_apply]
    unfold prod
    refine Finset.sum_congr rfl fun k _ => congrArg₂ (· * ·) (rows_apply m c t _ k (i 0) h0) ?_
    rw [pay1_apply]
    exact mat_apply m c t k _ (i 1) h1
  · rw [outsAt0_B m c t h]
    dsimp only
    rw [out_later, pay2_apply]
    unfold prod
    exact Finset.sum_congr rfl fun k _ => congrArg₂ (· * ·) (rows_apply m c t _ k (i 0) h0)
      (carried m c (t.val - 1) _ k _ (i 1) (by omega))

theorem covers : (cfg0.win 2).Covers :=
  Pipeline.Window.covers_of_index_surj _ rfl (show ∀ a : Fin 2, 0 < S1088x1024.size a by decide) fun β => by
    have b0 : (β (0 : Fin 2)).val < 8 := lt_of_lt_of_eq (β (0 : Fin 2)).isLt (show (8704 + 1088 - 1) / 1088 = 8 by decide)
    have b1 : (β (1 : Fin 2)).val < 6 := lt_of_lt_of_eq (β (1 : Fin 2)).isLt (show (6144 + 1024 - 1) / 1024 = 6 by decide)
    have hN : (β (1 : Fin 2)).val * 8 + (β (0 : Fin 2)).val < grid0.N := by
      have : grid0.N = 48 := by decide
      omega
    refine ⟨⟨(β (1 : Fin 2)).val * 8 + (β (0 : Fin 2)).val, hN⟩, fun a => ?_⟩
    match a with
    | ⟨0, _⟩ => exact (places ⟨_, hN⟩).2.2.2.2.2.1.trans (by show _ % 8 = (β (0 : Fin 2)).val; dsimp only; omega)
    | ⟨1, _⟩ => exact (places ⟨_, hN⟩).2.2.2.2.2.2.trans (by show _ / 8 = (β (1 : Fin 2)).val; dsimp only; omega)

theorem arr_eq (c : Dev nD) :
    (dats m 0 c).arrAt 2 cfg0.N = prod (m ((c : Thread nD τ).loc main_arg0)) (m ((c : Thread nD τ).loc main_arg1)) := by
  refine (dats m 0 c).arrAt_eq_of_covers 2 _ covers fun t hf y => ?_
  blk_simp
  have q0 := (places t).2.2.2.2.2.1
  have q1 := (places t).2.2.2.2.2.2
  rw [after0_2]
  refine out_apply m c t y _ ?_ ?_
  · show cc0_transform_2 (grid0.coords t) 0 * 1088 + 1 * (y (0 : Fin 2)).val = _
    rw [q0]; omega
  · show cc0_transform_2 (grid0.coords t) 1 * 1024 + 1 * (y (1 : Fin 2)).val = _
    rw [q1]; omega

/-! ## The parts handed back -/

/-- 512 rows of one band of columns, in heads, as the prompt's. -/
def partP (o : ℕ) (ho : o + 2048 ≤ 6144) (p : S8704x6144.Idx → EReal) (i : S1x512x16x128.Idx) : EReal :=
  p (ix2 (⟨7680 + (i 1).val, by have := (i 1).isLt; change (i 1).val < 512 at this; omega⟩ : Fin 8704)
    (⟨o + ((i 2).val * 128 + (i 3).val), by
      have := (i 2).isLt; change (i 2).val < 16 at this; have := (i 3).isLt; change (i 3).val < 128 at this; omega⟩ : Fin 6144))

/-- The same as the samples'. -/
def partS (o : ℕ) (ho : o + 2048 ≤ 6144) (p : S8704x6144.Idx → EReal) (i : S32x16x16x128.Idx) : EReal :=
  p (ix2 (⟨8192 + ((i 0).val * 16 + (i 1).val), by
      have := (i 0).isLt; change (i 0).val < 32 at this; have := (i 1).isLt; change (i 1).val < 16 at this; omega⟩ : Fin 8704)
    (⟨o + ((i 2).val * 128 + (i 3).val), by
      have := (i 2).isLt; change (i 2).val < 16 at this; have := (i 3).isLt; change (i 3).val < 128 at this; omega⟩ : Fin 6144))

theorem partP_eq (o : ℕ) (ho : o + 2048 ≤ 6144) (hs) (p : Vec Ideal S8704x6144 .f32) :
    shapeCast S1x512x16x128 (extractStridedSlice S512x2048 ![7680, o] p hs) shapeCasts_S512x2048_S1x512x16x128 = partP o ho p := by
  funext i
  have h0 : (i 0).val < 1 := (i 0).isLt
  have h1 : (i 1).val < 512 := (i 1).isLt
  have h2 : (i 2).val < 16 := (i 2).isLt
  have h3 : (i 3).val < 128 := (i 3).isLt
  refine (shapeCast_apply _ _ i (ix2 (⟨(i 1).val, h1⟩ : Fin 512) (⟨(i 2).val * 128 + (i 3).val, by omega⟩ : Fin 2048)) ?_).trans ?_
  · refine (Shape.rowMajor_val_two _).trans (Eq.trans ?_ (Shape.rowMajor_val_four _).symm)
    show (i 1).val * 2048 + ((i 2).val * 128 + (i 3).val) = (((i 0).val * 512 + (i 1).val) * 16 + (i 2).val) * 128 + (i 3).val
    omega
  · exact extractStridedSlice_apply _ p _ _ _ (fun a => by
      match a with
      | ⟨0, _⟩ => rfl
      | ⟨1, _⟩ => rfl)

theorem partS_eq (o : ℕ) (ho : o + 2048 ≤ 6144) (hs) (p : Vec Ideal S8704x6144 .f32) :
    shapeCast S32x16x16x128 (extractStridedSlice S512x2048 ![8192, o] p hs) shapeCasts_S512x2048_S32x16x16x128 = partS o ho p := by
  funext i
  have h0 : (i 0).val < 32 := (i 0).isLt
  have h1 : (i 1).val < 16 := (i 1).isLt
  have h2 : (i 2).val < 16 := (i 2).isLt
  have h3 : (i 3).val < 128 := (i 3).isLt
  refine (shapeCast_apply _ _ i (ix2 (⟨(i 0).val * 16 + (i 1).val, by omega⟩ : Fin 512) (⟨(i 2).val * 128 + (i 3).val, by omega⟩ : Fin 2048)) ?_).trans ?_
  · refine (Shape.rowMajor_val_two _).trans (Eq.trans ?_ (Shape.rowMajor_val_four _).symm)
    show ((i 0).val * 16 + (i 1).val) * 2048 + ((i 2).val * 128 + (i 3).val) = (((i 0).val * 16 + (i 1).val) * 16 + (i 2).val) * 128 + (i 3).val
    omega
  · exact extractStridedSlice_apply _ p _ _ _ (fun a => by
      match a with
      | ⟨0, _⟩ => rfl
      | ⟨1, _⟩ => rfl)

/-- What the operations after the kernel leave, from what it leaves. -/
theorem tail (V : Valuation τ sig (Elt Ideal)) :
    StableHlo.after hostOps1 V (Proc.devRef .tc main_v2)
      = shapeCast S1x512x16x128 (extractStridedSlice S512x2048 ![7680, 2048] (V (Proc.devRef .tc main_v0)) slices_S8704x6144_S512x2048_7680_2048) shapeCasts_S512x2048_S1x512x16x128
    ∧ StableHlo.after hostOps1 V (Proc.devRef .tc main_v4)
      = shapeCast S1x512x16x128 (extractStridedSlice S512x2048 ![7680, 4096] (V (Proc.devRef .tc main_v0)) slices_S8704x6144_S512x2048_7680_4096) shapeCasts_S512x2048_S1x512x16x128
    ∧ StableHlo.after hostOps1 V (Proc.devRef .tc main_v6)
      = shapeCast S32x16x16x128 (extractStridedSlice S512x2048 ![8192, 2048] (V (Proc.devRef .tc main_v0)) slices_S8704x6144_S512x2048_8192_2048) shapeCasts_S512x2048_S32x16x16x128
    ∧ StableHlo.after hostOps1 V (Proc.devRef .tc main_v8)
      = shapeCast S32x16x16x128 (extractStridedSlice S512x2048 ![8192, 4096] (V (Proc.devRef .tc main_v0)) slices_S8704x6144_S512x2048_8192_4096) shapeCasts_S512x2048_S32x16x16x128 := by
  refine ⟨?_, ?_, ?_, ?_⟩
  all_goals
    unfold hostOps1
    after_results
    try rfl

theorem run (g : Dev nD → PrngReg) : θ_run defs (onTc (τ := τ) (main (F := Ideal))) ⟨m, fun _ => 0, g⟩ (fun r => ∀ c : Dev nD,
      r.2.mem ((c.tc : Thread nD τ).loc main_v2) = partP 2048 (by decide) (prod (m ((c : Thread nD τ).loc main_arg0)) (m ((c : Thread nD τ).loc main_arg1)))
      ∧ r.2.mem ((c.tc : Thread nD τ).loc main_v4) = partP 4096 (by decide) (prod (m ((c : Thread nD τ).loc main_arg0)) (m ((c : Thread nD τ).loc main_arg1)))
      ∧ r.2.mem ((c.tc : Thread nD τ).loc main_v6) = partS 2048 (by decide) (prod (m ((c : Thread nD τ).loc main_arg0)) (m ((c : Thread nD τ).loc main_arg1)))
      ∧ r.2.mem ((c.tc : Thread nD τ).loc main_v8) = partS 4096 (by decide) (prod (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (θ_run_and (run_main (F := Ideal) m g) (unchanged (F := Ideal) m g))
  obtain ⟨h, hu⟩ := h
  have hw : Pipeline.withArrays spec0 c (V0 m c) (fun w => (dats m 0 c).arrAt w cfg0.N) (Proc.devRef .tc main_v0)
      = prod (m ((c : Thread nD τ).loc main_arg0)) (m ((c : Thread nD τ).loc main_arg1)) :=
    (Pipeline.withArrays_arr spec0 (by decide) c (V0 m c) _ 2).trans (arr_eq m c)
  obtain ⟨t0, t1, t2, t3⟩ := tail (Pipeline.withArrays spec0 c (V0 m c) (fun w => (dats m 0 c).arrAt w cfg0.N))
  rw [hw] at t0 t1 t2 t3
  refine ⟨((h c).2 main_v2 (by decide)).trans (t0.trans (partP_eq _ _ _ _)), ((h c).2 main_v4 (by decide)).trans (t1.trans (partP_eq _ _ _ _)),
    ((h c).2 main_v6 (by decide)).trans (t2.trans (partS_eq _ _ _ _)), ((h c).2 main_v8 (by decide)).trans (t3.trans (partS_eq _ _ _ _)), hu c⟩

end Cert.RowsIdeal.Hand

/-! ## The reference -/

namespace Cert.RowsRefIdeal.Hand

open Cert.RowsRefIdeal Cert.RowsRefIdeal.Gen Cert.RowsRefIdeal.Read Idealize.ShloMosaic Idealize.ShloMosaic.TcCoe Idealize.SL.Sem
open Cert.RowsIdeal.Hand (prod partP partS)

variable (x : S8704x2048.Idx → EReal) (w : S1x2048x6144.Idx → EReal)

theorem dot_eq (j : S8704x6144.Idx) (r : Fin 8704) (n : Fin 6144) (hr : r.val = (j 0).val) (hn : n.val = (j 1).val) :
    val_main_v2 (F := Ideal) x w j = prod x w (ix2 r n) := by
  rw [val_main_v2_apply]
  unfold prod
  refine Finset.sum_congr rfl fun k _ => congrArg₂ (· * ·) ?_ ?_
  · refine (val_main_v0_apply (F := Ideal) x _).trans (congrArg x (funext fun a => Fin.ext ?_))
    match a with
    | ⟨0, _⟩ => exact hr.symm
    | ⟨1, _⟩ => rfl
  · rw [val_main_v1_apply]
    refine congrArg w (funext fun a => Fin.ext ?_)
    have hk := k.isLt
    have hj : (j 1).val < 6144 := (j 1).isLt
    match a with
    | ⟨0, _⟩ => rfl
    | ⟨1, _⟩ => show (k.val * 6144 + (j 1).val) / 6144 % 2048 = k.val; omega
    | ⟨2, _⟩ => show (k.val * 6144 + (j 1).val) % 6144 = n.val; omega

theorem keysP : val_main_v8 (F := Ideal) x w = partP 2048 (by decide) (prod x w) := by
  funext i
  have h0 : (i 0).val < 1 := (i 0).isLt
  have h1 : (i 1).val < 512 := (i 1).isLt
  have h2 : (i 2).val < 16 := (i 2).isLt
  have h3 : (i 3).val < 128 := (i 3).isLt
  rw [val_main_v8_apply, val_main_v7_apply, val_main_v6_apply, val_main_v4_apply]
  refine dot_eq x w _ _ _ ?_ ?_
  · show 7680 + (i 1).val = ((((i 0).val * 8192 + (7680 + (i 1).val)) * 16 + (i 2).val) * 128 + (i 3).val) / 2048; omega
  · show 2048 + ((i 2).val * 128 + (i 3).val) = 2048 + ((((i 0).val * 8192 + (7680 + (i 1).val)) * 16 + (i 2).val) * 128 + (i 3).val) % 2048; omega

theorem valuesP : val_main_v11 (F := Ideal) x w = partP 4096 (by decide) (prod x w) := by
  funext i
  have h0 : (i 0).val < 1 := (i 0).isLt
  have h1 : (i 1).val < 512 := (i 1).isLt
  have h2 : (i 2).val < 16 := (i 2).isLt
  have h3 : (i 3).val < 128 := (i 3).isLt
  rw [val_main_v11_apply, val_main_v10_apply, val_main_v9_apply, val_main_v5_apply]
  refine dot_eq x w _ _ _ ?_ ?_
  · show 7680 + (i 1).val = ((((i 0).val * 8192 + (7680 + (i 1).val)) * 16 + (i 2).val) * 128 + (i 3).val) / 2048; omega
  · show 4096 + ((i 2).val * 128 + (i 3).val) = 4096 + ((((i 0).val * 8192 + (7680 + (i 1).val)) * 16 + (i 2).val) * 128 + (i 3).val) % 2048; omega

theorem keysS : val_main_v13 (F := Ideal) x w = partS 2048 (by decide) (prod x w) := by
  funext i
  have h0 : (i 0).val < 32 := (i 0).isLt
  have h1 : (i 1).val < 16 := (i 1).isLt
  have h2 : (i 2).val < 16 := (i 2).isLt
  have h3 : (i 3).val < 128 := (i 3).isLt
  rw [val_main_v13_apply, val_main_v12_apply, val_main_v4_apply]
  refine dot_eq x w _ _ _ ?_ ?_
  · show 8192 + ((i 0).val * 16 + (i 1).val) = 8192 + ((((i 0).val * 16 + (i 1).val) * 16 + (i 2).val) * 128 + (i 3).val) / 2048; omega
  · show 2048 + ((i 2).val * 128 + (i 3).val) = 2048 + ((((i 0).val * 16 + (i 1).val) * 16 + (i 2).val) * 128 + (i 3).val) % 2048; omega

theorem valuesS : val_main_v15 (F := Ideal) x w = partS 4096 (by decide) (prod x w) := by
  funext i
  have h0 : (i 0).val < 32 := (i 0).isLt
  have h1 : (i 1).val < 16 := (i 1).isLt
  have h2 : (i 2).val < 16 := (i 2).isLt
  have h3 : (i 3).val < 128 := (i 3).isLt
  rw [val_main_v15_apply, val_main_v14_apply, val_main_v5_apply]
  refine dot_eq x w _ _ _ ?_ ?_
  · show 8192 + ((i 0).val * 16 + (i 1).val) = 8192 + ((((i 0).val * 16 + (i 1).val) * 16 + (i 2).val) * 128 + (i 3).val) / 2048; omega
  · show 4096 + ((i 2).val * 128 + (i 3).val) = 4096 + ((((i 0).val * 16 + (i 1).val) * 16 + (i 2).val) * 128 + (i 3).val) % 2048; omega

end Cert.RowsRefIdeal.Hand
-- ==== Proof.Final.Value.lean ====
/-
  The last layer's gated embedding and its normalisation over the extended reals, read at an index: the two weight blocks
  are carried, rounded, from the first block of rows to the last, and every row of the result is the row the reference
  normalises.
-/
module

public import proofs.«01_k».proof.Proof.Gen.FinalIdeal.Frame
public import proofs.«01_k».proof.Proof.Gen.FinalRefIdeal.Read
public import Idealize.ShloMosaic.Lib.Pipeline.ValueKit
public import Idealize.ShloMosaic.Lib.Pipeline.Covers
public import Idealize.ShloMosaic.Lib.Pointwise
public import Idealize.ShloMosaic.Lib.IdealHost

@[expose] public section

set_option maxRecDepth 16384

noncomputable section

namespace Cert.FinalIdeal.Hand

open Cert.FinalIdeal Cert.FinalIdeal.Gen Idealize.ShloMosaic Idealize.ShloMosaic.TcCoe Idealize.SL.Sem
open Idealize.ShloMosaic.Tactic

/-! ## The operations -/

theorem pay1_apply (v : Vec Ideal S1x2048x2048 .f32) (y : S2048x2048.Idx) : k0_pay1 (F := Ideal) v y = v (ix3 (0 : Fin 1) (y 0) (y 1)) := by
  unfold_payloads
  pointwise

theorem pay2_apply (v : Vec Ideal S1x256x2048 .f32) (y : S256x2048.Idx) : k0_pay2 (F := Ideal) v y = v (ix3 (0 : Fin 1) (y 0) (y 1)) := by
  unfold_payloads
  pointwise

theorem pay3_apply (h : Vec Ideal S272x2048 .bf16) (wg : Vec Ideal S2048x2048 .bf16) (p : Vec Ideal S1x272x256 .f32)
    (wi : Vec Ideal S256x2048 .bf16) (x : Vec Ideal S272x2048 .f32) (y : S272x2048.Idx) :
    k0_pay3 (F := Ideal) h wg p wi x y
      = (x y + Ideal.logistic (∑ k : Fin 2048, h (ix2 (y 0) k) * wg (ix2 k (y 1))) * ∑ j : Fin 256, p (ix3 (0 : Fin 1) (y 0) j) * wi (ix2 j (y 1)) : EReal) := by
  unfold_payloads
  pointwise

/-- A row's entry over the root of the row's mean square and a small constant, times the entry's own weight. -/
def norm (f : Fin 2048 → EReal) (n : Fin 2048) (g : EReal) : EReal :=
  f n * Ideal.rsqrt (Ideal.div (∑ k : Fin 2048, f k * f k) (Ideal.ofBits .f32 0x45000000#32) + Ideal.ofBits .f32 0x358637BD#32) * g

theorem pay4_apply (h : Vec Ideal S272x2048 .bf16) (wg : Vec Ideal S2048x2048 .bf16) (p : Vec Ideal S1x272x256 .f32)
    (wi : Vec Ideal S256x2048 .bf16) (x : Vec Ideal S272x2048 .f32) (g : Vec Ideal S1x2048 .f32) (y : S272x2048.Idx) :
    k0_pay4 (F := Ideal) h wg p wi x g y
      = norm (fun n => k0_pay3 (F := Ideal) h wg p wi x (ix2 (y 0) n)) (y 1) (g (ix2 (0 : Fin 1) (y 1))) := by
  unfold k0_pay4
  generalize k0_pay3 (F := Ideal) h wg p wi x = f
  unfold norm
  pointwise

/-! ## What a point leaves -/

section Point
variable (c : Dev nD) (i : grid0.Coords)
  (arg1 : Memref sig .tc .vmem S272x2048 .bf16) (harg1 : arg1.IsWhole)
  (arg2 : Memref sig .tc .vmem S1x2048x2048 .f32) (harg2 : arg2.IsWhole)
  (arg3 : Memref sig .tc .vmem S1x272x256 .f32) (harg3 : arg3.IsWhole)
  (arg4 : Memref sig .tc .vmem S1x256x2048 .f32) (harg4 : arg4.IsWhole)
  (arg5 : Memref sig .tc .vmem S272x2048 .f32) (harg5 : arg5.IsWhole)
  (arg6 : Memref sig .tc .vmem S1x2048 .f32) (harg6 : arg6.IsWhole)
  (arg7 : Memref sig .tc .vmem S272x2048 .f32) (harg7 : arg7.IsWhole)
  (arg8 : Memref sig .tc .vmem S272x2048 .f32) (harg8 : arg8.IsWhole)
  (arg9 : Memref sig .tc .vmem S2048x2048 .bf16) (harg9 : arg9.IsWhole)
  (arg10 : Memref sig .tc .vmem S256x2048 .bf16) (harg10 : arg10.IsWhole)
  (x0 : Vec Ideal S272x2048 .bf16) (x1 : Vec Ideal S1x2048x2048 .f32) (x2 : Vec Ideal S1x272x256 .f32) (x3 : Vec Ideal S1x256x2048 .f32) (x4 : Vec Ideal S272x2048 .f32) (x5 : Vec Ideal S1x2048 .f32) (xs0 : Vec Ideal S2048x2048 .bf16) (xs1 : Vec Ideal S256x2048 .bf16)

/-- A load of a whole buffer reads what the buffer holds. -/
theorem load_whole {s : Shape} {e : EltTy} (a : Memref sig .tc .vmem s e) (ha : a.IsWhole) (x : Vec Ideal s e) (off : Fin s.rank → ℕ)
    (inb : ∀ a, off a + s.size a ≤ s.size a) (h : off = fun _ => 0) :
    View.readAt (Elt Ideal) a.view (Rect.unit (s := s) off s.size inb).toLoadRect (ha.unread x) = x := by
  rw [View.readAt_eq_ld, ha.read_unread]
  exact View.ld_unit_zero h _ _

theorem zero2 : (![0, 0] : Fin 2 → ℕ) = fun _ => 0 := by funext a; match a with | ⟨0, _⟩ => rfl | ⟨1, _⟩ => rfl
theorem zero3 : (![0, 0, 0] : Fin 3 → ℕ) = fun _ => 0 := by funext a; match a with | ⟨0, _⟩ => rfl | ⟨1, _⟩ => rfl | ⟨2, _⟩ => rfl

theorem carry_gate (h : cond0_0 i) :
    sout0_A_0 (F := Ideal) c i arg1 harg1 arg2 harg2 arg3 harg3 arg4 harg4 arg5 harg5 arg6 harg6 arg7 harg7 arg8 harg8 arg9 harg9 arg10 harg10 h x0 x1 x2 x3 x4 x5 = k0_pay1 (F := Ideal) x1 := by
  unfold sout0_A_0
  rw [View.read_writes_junk_eq_canon]
  unfold kernelRun0_A
  dsimp only
  sl_unfold_words
  rw [load_whole arg2 harg2 x1 _ _ zero3]
  exact View.canon_cons_unit_lit _ _ _ (congrFun zero2)

theorem carry_in (h : cond0_0 i) :
    sout0_A_1 (F := Ideal) c i arg1 harg1 arg2 harg2 arg3 harg3 arg4 harg4 arg5 harg5 arg6 harg6 arg7 harg7 arg8 harg8 arg9 harg9 arg10 harg10 h x0 x1 x2 x3 x4 x5 = k0_pay2 (F := Ideal) x3 := by
  unfold sout0_A_1
  rw [View.read_writes_junk_eq_canon]
  unfold kernelRun0_A
  dsimp only
  sl_unfold_words
  rw [load_whole arg4 harg4 x3 _ _ zero3]
  exact View.canon_cons_unit_lit _ _ _ (congrFun zero2)

theorem out_first (h : cond0_0 i) :
    out0_A_7 (F := Ideal) c i arg1 harg1 arg2 harg2 arg3 harg3 arg4 harg4 arg5 harg5 arg6 harg6 arg7 harg7 arg8 harg8 arg9 harg9 arg10 harg10 h x0 x1 x2 x3 x4 x5
      = k0_pay4 (F := Ideal) x0 (k0_pay1 (F := Ideal) x1) x2 (k0_pay2 (F := Ideal) x3) x4 x5 := by
  unfold out0_A_7
  rw [View.read_writes_junk_eq_canon]
  unfold kernelRun0_A
  dsimp only
  sl_unfold_words
  rw [load_whole arg1 harg1 x0 _ _ zero2, load_whole arg2 harg2 x1 _ _ zero3, load_whole arg3 harg3 x2 _ _ zero3,
    load_whole arg4 harg4 x3 _ _ zero3, load_whole arg5 harg5 x4 _ _ zero2, load_whole arg6 harg6 x5 _ _ zero2]
  refine (View.canon_cons_unit_lit _ _ _ (congrFun zero2)).trans ?_
  exact congrArg₂ (fun z z' => k0_pay4 (F := Ideal) x0 z x2 z' x4 x5) (View.readCov_unit_lit _ _ _ (congrFun zero2))
    (View.readCov_unit_lit _ _ _ (congrFun zero2))

theorem out_later (h : ¬cond0_0 i) :
    out0_B_7 (F := Ideal) c i arg1 harg1 arg2 harg2 arg3 harg3 arg4 harg4 arg5 harg5 arg6 harg6 arg7 harg7 arg8 harg8 arg9 harg9 arg10 harg10 h x0 x1 x2 x3 x4 x5 xs0 xs1 = k0_pay4 (F := Ideal) x0 xs0 x2 xs1 x4 x5 := by
  unfold out0_B_7
  rw [View.read_writes_junk_eq_canon]
  unfold kernelRun0_B
  dsimp only
  sl_unfold_words
  rw [load_whole arg1 harg1 x0 _ _ zero2, load_whole arg9 harg9 xs0 _ _ zero2, load_whole arg3 harg3 x2 _ _ zero3,
    load_whole arg10 harg10 xs1 _ _ zero2, load_whole arg5 harg5 x4 _ _ zero2, load_whole arg6 harg6 x5 _ _ zero2]
  exact View.canon_cons_unit_lit _ _ _ (congrFun zero2)

end Point

/-! ## The operands -/

variable (m : (ℓ : Loc nD τ sig) → Buf (Elt Ideal) ℓ)

theorem places : ∀ t : Fin grid0.N, (cc0_transform_0 (grid0.coords t) 0 = t.val ∧ cc0_transform_0 (grid0.coords t) 1 = 0)
    ∧ (cc0_transform_1 (grid0.coords t) 0 = 3 ∧ cc0_transform_1 (grid0.coords t) 1 = 0 ∧ cc0_transform_1 (grid0.coords t) 2 = 0)
    ∧ (cc0_transform_2 (grid0.coords t) 0 = 3 ∧ cc0_transform_2 (grid0.coords t) 1 = t.val ∧ cc0_transform_2 (grid0.coords t) 2 = 0)
    ∧ (cc0_transform_3 (grid0.coords t) 0 = 3 ∧ cc0_transform_3 (grid0.coords t) 1 = 0 ∧ cc0_transform_3 (grid0.coords t) 2 = 0)
    ∧ (cc0_transform_4 (grid0.coords t) 0 = t.val ∧ cc0_transform_4 (grid0.coords t) 1 = 0)
    ∧ (cc0_transform_5 (grid0.coords t) 0 = 0 ∧ cc0_transform_5 (grid0.coords t) 1 = 0)
    ∧ (cc0_transform_7 (grid0.coords t) 0 = t.val ∧ cc0_transform_7 (grid0.coords t) 1 = 0) := by decide +kernel

theorem h_apply (c : Dev nD) (t : Fin cfg0.N) (r : Fin 272) (k : Fin 2048) (i : Fin 8704) (hi : i.val = t.val * 272 + r.val) :
    iblk m c 0 t (ix2 r k) = m ((c : Thread nD τ).loc main_arg1) (ix2 i k) := by
  obtain ⟨h0, h1⟩ := (places t).1
  blk_simp [iblk]
  rw [V_main_arg1]
  refine congrArg (m ((c : Thread nD τ).loc main_arg1)) (funext fun a => Fin.ext ?_)
  match a with
  | ⟨0, _⟩ => show cc0_transform_0 (grid0.coords t) 0 * 272 + 1 * r.val = i.val; rw [h0, hi]; omega
  | ⟨1, _⟩ => show cc0_transform_0 (grid0.coords t) 1 * 2048 + 1 * k.val = k.val; rw [h1]; omega

theorem gate_apply (c : Dev nD) (t : Fin cfg0.N) (k n : Fin 2048) :
    iblk m c 1 t (ix3 (0 : Fin 1) k n) = m ((c : Thread nD τ).loc main_arg3) (ix3 (3 : Fin 4) k n) := by
  obtain ⟨h0, h1, h2⟩ := (places t).2.1
  blk_simp [iblk]
  rw [V_main_arg3]
  refine congrArg (m ((c : Thread nD τ).loc main_arg3)) (funext fun a => Fin.ext ?_)
  match a with
  | ⟨0, _⟩ => show cc0_transform_1 (grid0.coords t) 0 * 1 + 1 * 0 = 3; rw [h0]
  | ⟨1, _⟩ => show cc0_transform_1 (grid0.coords t) 1 * 2048 + 1 * k.val = k.val; rw [h1]; omega
  | ⟨2, _⟩ => show cc0_transform_1 (grid0.coords t) 2 * 2048 + 1 * n.val = n.val; rw [h2]; omega

theorem p_apply (c : Dev nD) (t : Fin cfg0.N) (r : Fin 272) (j : Fin 256) (i : Fin 8704) (hi : i.val = t.val * 272 + r.val) :
    iblk m c 2 t (ix3 (0 : Fin 1) r j) = m ((c : Thread nD τ).loc main_arg2) (ix3 (3 : Fin 4) i j) := by
  obtain ⟨h0, h1, h2⟩ := (places t).2.2.1
  blk_simp [iblk]
  rw [V_main_arg2]
  refine congrArg (m ((c : Thread nD τ).loc main_arg2)) (funext fun a => Fin.ext ?_)
  match a with
  | ⟨0, _⟩ => show cc0_transform_2 (grid0.coords t) 0 * 1 + 1 * 0 = 3; rw [h0]
  | ⟨1, _⟩ => show cc0_transform_2 (grid0.coords t) 1 * 272 + 1 * r.val = i.val; rw [h1, hi]; omega
  | ⟨2, _⟩ => show cc0_transform_2 (grid0.coords t) 2 * 256 + 1 * j.val = j.val; rw [h2]; omega

theorem in_apply (c : Dev nD) (t : Fin cfg0.N) (j : Fin 256) (n : Fin 2048) :
    iblk m c 3 t (ix3 (0 : Fin 1) j n) = m ((c : Thread nD τ).loc main_arg4) (ix3 (3 : Fin 4) j n) := by
  obtain ⟨h0, h1, h2⟩ := (places t).2.2.2.1
  blk_simp [iblk]
  rw [V_main_arg4]
  refine congrArg (m ((c : Thread nD τ).loc main_arg4)) (funext fun a => Fin.ext ?_)
  match a with
  | ⟨0, _⟩ => show cc0_transform_3 (grid0.coords t) 0 * 1 + 1 * 0 = 3; rw [h0]
  | ⟨1, _⟩ => show cc0_transform_3 (grid0.coords t) 1 * 256 + 1 * j.val = j.val; rw [h1]; omega
  | ⟨2, _⟩ => show cc0_transform_3 (grid0.coords t) 2 * 2048 + 1 * n.val = n.val; rw [h2]; omega

theorem x_apply (c : Dev nD) (t : Fin cfg0.N) (r : Fin 272) (k : Fin 2048) (i : Fin 8704) (hi : i.val = t.val * 272 + r.val) :
    iblk m c 4 t (ix2 r k) = m ((c : Thread nD τ).loc main_arg0) (ix2 i k) := by
  obtain ⟨h0, h1⟩ := (places t).2.2.2.2.1
  blk_simp [iblk]
  rw [V_main_arg0]
  refine congrArg (m ((c : Thread nD τ).loc main_arg0)) (funext fun a => Fin.ext ?_)
  match a with
  | ⟨0, _⟩ => show cc0_transform_4 (grid0.coords t) 0 * 272 + 1 * r.val = i.val; rw [h0, hi]; omega
  | ⟨1, _⟩ => show cc0_transform_4 (grid0.coords t) 1 * 2048 + 1 * k.val = k.val; rw [h1]; omega

theorem entry (c : Dev nD) : V m c main_v0 = shapeCast S1x2048 (m ((c : Thread nD τ).loc main_arg5)) shapeCasts_S2048_S1x2048 := by
  show StableHlo.after hostOps0 _ _ = _
  unfold hostOps0
  after_results
  try rfl

/-- A number of a vector of 2048. -/
def at1 (n : Fin 2048) : S2048.Idx := ix1 n

theorem g_apply (c : Dev nD) (t : Fin cfg0.N) (n : Fin 2048) :
    iblk m c 5 t (ix2 (0 : Fin 1) n) = m ((c : Thread nD τ).loc main_arg5) (at1 n) := by
  obtain ⟨h0, h1⟩ := (places t).2.2.2.2.2.1
  blk_simp [iblk]
  rw [entry]
  refine shapeCast_apply _ _ _ _ ?_
  refine (Shape.rowMajor_val_one _).trans (Eq.trans ?_ (Shape.rowMajor_val_two _).symm)
  show n.val = (cc0_transform_5 (grid0.coords t) 0 * 1 + 1 * 0) * 2048 + (cc0_transform_5 (grid0.coords t) 1 * 2048 + 1 * n.val)
  rw [h0, h1]; omega

/-- What the points carry: the two weight matrices of the last layer. -/
theorem carried (c : Dev nD) : ∀ (n : ℕ) (h : n < cfg0.N),
    (∀ k q : Fin 2048, (outsAt0 m c n h).2.2.1 (ix2 k q) = m ((c : Thread nD τ).loc main_arg3) (ix3 (3 : Fin 4) k q))
    ∧ (∀ (j : Fin 256) (q : Fin 2048), (outsAt0 m c n h).2.2.2 (ix2 j q) = m ((c : Thread nD τ).loc main_arg4) (ix3 (3 : Fin 4) j q)) := by
  intro n
  induction n with
  | zero =>
    intro h
    rw [show outsAt0 m c 0 h = _ from outsAt0_A m c ⟨0, h⟩ rfl]
    dsimp only
    rw [carry_gate, carry_in]
    exact ⟨fun k q => (pay1_apply _ _).trans (gate_apply m c ⟨0, h⟩ k q), fun j q => (pay2_apply _ _).trans (in_apply m c ⟨0, h⟩ j q)⟩
  | succ n ih =>
    intro h
    have hN : n + 1 < 32 := lt_of_lt_of_eq h N_0
    rw [show outsAt0 m c (n + 1) h = _ from outsAt0_B m c ⟨n + 1, h⟩ (by show ¬(n + 1) % 32 = 0; omega)]
    exact ih (Nat.lt_of_succ_lt h)

/-! ## The result -/

/-- A row with its gated embedding added. -/
def row (x h : S8704x2048.Idx → EReal) (p : S4x8704x256.Idx → EReal) (wg : S4x2048x2048.Idx → EReal) (wi : S4x256x2048.Idx → EReal)
    (r : Fin 8704) (n : Fin 2048) : EReal :=
  x (ix2 r n) + Ideal.logistic (∑ k : Fin 2048, h (ix2 r k) * wg (ix3 (3 : Fin 4) k n)) * ∑ j : Fin 256, p (ix3 (3 : Fin 4) r j) * wi (ix3 (3 : Fin 4) j n)

/-- The row, normalised. -/
def final (x h : S8704x2048.Idx → EReal) (p : S4x8704x256.Idx → EReal) (wg : S4x2048x2048.Idx → EReal) (wi : S4x256x2048.Idx → EReal)
    (g : S2048.Idx → EReal) (i : S8704x2048.Idx) : EReal :=
  norm (row x h p wg wi (i 0)) (i 1) (g (at1 (i 1)))

/-- The same of a device's arguments. -/
def finalAt (c : Dev nD) : S8704x2048.Idx → EReal :=
  final (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- A block's rows, from the weights it works with. -/
theorem block_apply (c : Dev nD) (t : Fin cfg0.N) (wg : Vec Ideal S2048x2048 .bf16) (wi : Vec Ideal S256x2048 .bf16)
    (hg : ∀ k q : Fin 2048, wg (ix2 k q) = m ((c : Thread nD τ).loc main_arg3) (ix3 (3 : Fin 4) k q))
    (hi : ∀ (j : Fin 256) (q : Fin 2048), wi (ix2 j q) = m ((c : Thread nD τ).loc main_arg4) (ix3 (3 : Fin 4) j q))
    (y : S272x2048.Idx) (i : S8704x2048.Idx) (h0 : (i 0).val = t.val * 272 + (y 0).val) (h1 : (i 1).val = (y 1).val) :
    k0_pay4 (F := Ideal) (iblk m c 0 t) wg (iblk m c 2 t) wi (iblk m c 4 t) (iblk m c 5 t) y = finalAt m c i := by
  have e1 : (y 1 : Fin 2048) = i 1 := Fin.ext h1.symm
  rw [pay4_apply]
  unfold finalAt final
  have er : (fun n => k0_pay3 (F := Ideal) (iblk m c 0 t) wg (iblk m c 2 t) wi (iblk m c 4 t) (ix2 (y 0) n))
      = row (m ((c : Thread nD τ).loc main_arg0)) (m ((c : Thread nD τ).loc main_arg1)) (m ((c : Thread nD τ).loc main_arg2))
        (m ((c : Thread nD τ).loc main_arg3)) (m ((c : Thread nD τ).loc main_arg4)) (i 0) := by
    funext n
    refine (pay3_apply _ _ _ _ _ _).trans ?_
    unfold row
    refine congrArg₂ (· + ·) (x_apply m c t _ n (i 0) h0) (congrArg₂ (· * ·) (congrArg Ideal.logistic ?_) ?_)
    · exact Finset.sum_congr rfl fun k _ => congrArg₂ (· * ·) (h_apply m c t _ k (i 0) h0) (hg k n)
    · exact Finset.sum_congr rfl fun j _ => congrArg₂ (· * ·) (p_apply m c t _ j (i 0) h0) (hi j n)
  rw [er, g_apply m c t (y 1), e1]

theorem out_apply (c : Dev nD) (t : Fin cfg0.N) (y : S272x2048.Idx) (i : S8704x2048.Idx)
    (h0 : (i 0).val = t.val * 272 + (y 0).val) (h1 : (i 1).val = (y 1).val) :
    (outsAt0 m c t.val t.isLt).2.1 y = finalAt m c i := by
  by_cases h : t.val % 32 = 0
  · rw [outsAt0_A m c t h]
    dsimp only
    rw [out_first]
    exact block_apply m c t _ _ (fun k q => (pay1_apply _ _).trans (gate_apply m c t k q))
      (fun j q => (pay2_apply _ _).trans (in_apply m c t j q)) y i h0 h1
  · rw [outsAt0_B m c t h]
    dsimp only
    rw [out_later]
    exact block_apply m c t _ _ (carried m c (t.val - 1) _).1 (carried m c (t.val - 1) _).2 y i h0 h1

theorem covers : (cfg0.win 7).Covers :=
  Pipeline.Window.covers_of_index_surj _ rfl (show ∀ a : Fin 2, 0 < S272x2048.size a by decide) fun β => by
    have b0 : (β (0 : Fin 2)).val < 32 := lt_of_lt_of_eq (β (0 : Fin 2)).isLt (show (8704 + 272 - 1) / 272 = 32 by decide)
    have b1 : (β (1 : Fin 2)).val < 1 := lt_of_lt_of_eq (β (1 : Fin 2)).isLt (show (2048 + 2048 - 1) / 2048 = 1 by decide)
    have hN : (β (0 : Fin 2)).val < grid0.N := lt_of_lt_of_eq b0 (by decide)
    refine ⟨⟨(β (0 : Fin 2)).val, hN⟩, fun a => ?_⟩
    match a with
    | ⟨0, _⟩ => exact (places ⟨_, hN⟩).2.2.2.2.2.2.1
    | ⟨1, _⟩ => exact (places ⟨_, hN⟩).2.2.2.2.2.2.2.trans (by show 0 = (β (1 : Fin 2)).val; omega)

theorem arr_eq (c : Dev nD) : (dats m 0 c).arrAt 7 cfg0.N = finalAt m c := by
  refine (dats m 0 c).arrAt_eq_of_covers 7 _ covers fun t hf y => ?_
  blk_simp
  obtain ⟨q0, q1⟩ := (places t).2.2.2.2.2.2
  rw [after0_7]
  refine out_apply m c t y _ ?_ ?_
  · show cc0_transform_7 (grid0.coords t) 0 * 272 + 1 * (y (0 : Fin 2)).val = _
    rw [q0]; omega
  · show cc0_transform_7 (grid0.coords t) 1 * 2048 + 1 * (y (1 : Fin 2)).val = _
    rw [q1]; omega

/-! ## The parts handed back -/

/-- The prompt's rows. -/
def partP (p : S8704x2048.Idx → EReal) (i : S1x8192x2048.Idx) : EReal :=
  p (ix2 (⟨(i 1).val, by have := (i 1).isLt; change (i 1).val < 8192 at this; omega⟩ : Fin 8704) (i 2))

/-- The samples' rows. -/
def partS (p : S8704x2048.Idx → EReal) (i : S32x16x2048.Idx) : EReal :=
  p (ix2 (⟨8192 + ((i 0).val * 16 + (i 1).val), by
    have := (i 0).isLt; change (i 0).val < 32 at this; have := (i 1).isLt; change (i 1).val < 16 at this; omega⟩ : Fin 8704) (i 2))

theorem partP_eq (p : Vec Ideal S8704x2048 .f32) :
    shapeCast S1x8192x2048 (extractStridedSlice S8192x2048 ![0, 0] p slices_S8704x2048_S8192x2048_0_0) shapeCasts_S8192x2048_S1x8192x2048 = partP p := by
  funext i
  have h0 : (i 0).val < 1 := (i 0).isLt
  have h1 : (i 1).val < 8192 := (i 1).isLt
  refine (shapeCast_apply _ _ i (ix2 (⟨(i 1).val, h1⟩ : Fin 8192) (i 2)) ?_).trans ?_
  · refine (Shape.rowMajor_val_two _).trans (Eq.trans ?_ (Shape.rowMajor_val_three _).symm)
    show (i 1).val * 2048 + (i 2).val = ((i 0).val * 8192 + (i 1).val) * 2048 + (i 2).val
    omega
  · exact extractStridedSlice_apply _ p _ _ _ (fun a => by
      match a with
      | ⟨0, _⟩ => exact (Nat.zero_add _).symm
      | ⟨1, _⟩ => exact (Nat.zero_add _).symm)

theorem partS_eq (p : Vec Ideal S8704x2048 .f32) :
    shapeCast S32x16x2048 (extractStridedSlice S512x2048 ![8192, 0] p slices_S8704x2048_S512x2048_8192_0) shapeCasts_S512x2048_S32x16x2048 = partS p := by
  funext i
  have h0 : (i 0).val < 32 := (i 0).isLt
  have h1 : (i 1).val < 16 := (i 1).isLt
  refine (shapeCast_apply _ _ i (ix2 (⟨(i 0).val * 16 + (i 1).val, by omega⟩ : Fin 512) (i 2)) ?_).trans ?_
  · exact (Shape.rowMajor_val_two _).trans (Shape.rowMajor_val_three _).symm
  · exact extractStridedSlice_apply _ p _ _ _ (fun a => by
      match a with
      | ⟨0, _⟩ => rfl
      | ⟨1, _⟩ => exact (Nat.zero_add _).symm)

/-- What the operations after the kernel leave, from what it leaves. -/
theorem tail (V : Valuation τ sig (Elt Ideal)) :
    StableHlo.after hostOps1 V (Proc.devRef .tc main_v3)
      = shapeCast S1x8192x2048 (extractStridedSlice S8192x2048 ![0, 0] (V (Proc.devRef .tc main_v1_1)) slices_S8704x2048_S8192x2048_0_0) shapeCasts_S8192x2048_S1x8192x2048
    ∧ StableHlo.after hostOps1 V (Proc.devRef .tc main_v5)
      = shapeCast S32x16x2048 (extractStridedSlice S512x2048 ![8192, 0] (V (Proc.devRef .tc main_v1_1)) slices_S8704x2048_S512x2048_8192_0) shapeCasts_S512x2048_S32x16x2048 := by
  refine ⟨?_, ?_⟩
  all_goals
    unfold hostOps1
    after_results
    try rfl

theorem run (g : Dev nD → PrngReg) : θ_run defs (onTc (τ := τ) (main (F := Ideal))) ⟨m, fun _ => 0, g⟩ (fun r => ∀ c : Dev nD,
      r.2.mem ((c.tc : Thread nD τ).loc main_v3) = partP (finalAt m c)
      ∧ r.2.mem ((c.tc : Thread nD τ).loc main_v5) = partS (finalAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (θ_run_and (run_main (F := Ideal) m g) (unchanged (F := Ideal) m g))
  obtain ⟨h, hu⟩ := h
  have hw : Pipeline.withArrays spec0 c (V0 m c) (fun w => (dats m 0 c).arrAt w cfg0.N) (Proc.devRef .tc main_v1_1) = finalAt m c :=
    (Pipeline.withArrays_arr spec0 (by decide) c (V0 m c) _ 7).trans (arr_eq m c)
  obtain ⟨t0, t1⟩ := tail (Pipeline.withArrays spec0 c (V0 m c) (fun w => (dats m 0 c).arrAt w cfg0.N))
  rw [hw] at t0 t1
  exact ⟨((h c).2 main_v3 (by decide)).trans (t0.trans (partP_eq _)), ((h c).2 main_v5 (by decide)).trans (t1.trans (partS_eq _)), hu c⟩

end Cert.FinalIdeal.Hand

/-! ## The reference -/

namespace Cert.FinalRefIdeal.Hand

open Cert.FinalRefIdeal Cert.FinalRefIdeal.Gen Cert.FinalRefIdeal.Read Idealize.ShloMosaic Idealize.ShloMosaic.TcCoe Idealize.SL.Sem
open Cert.FinalIdeal.Hand (row final at1 partP partS)

variable (x h : S8704x2048.Idx → EReal) (p : S4x8704x256.Idx → EReal) (wg : S4x2048x2048.Idx → EReal) (wi : S4x256x2048.Idx → EReal)
  (g : S2048.Idx → EReal)

theorem gate_eq (i : S8704x2048.Idx) :
    val_main_v3 (F := Ideal) h wg i = ∑ k : Fin 2048, h (ix2 (i 0) k) * wg (ix3 (3 : Fin 4) k (i 1)) := by
  rw [val_main_v3_apply]
  refine Finset.sum_congr rfl fun k _ => congrArg₂ (· * ·) ?_ ?_
  · refine (val_main_v0_apply (F := Ideal) h _).trans (congrArg h (funext fun a => ?_))
    match a with
    | ⟨0, _⟩ => rfl
    | ⟨1, _⟩ => rfl
  · rw [val_main_v2_apply, val_main_v1_apply]
    refine congrArg wg (funext fun a => Fin.ext ?_)
    have hk := k.isLt
    have hi : (i 1).val < 2048 := (i 1).isLt
    match a with
    | ⟨0, _⟩ => rfl
    | ⟨1, _⟩ => show (k.val * 2048 + (i 1).val) / 2048 % 2048 = k.val; omega
    | ⟨2, _⟩ => show (k.val * 2048 + (i 1).val) % 2048 = (i 1).val; omega

theorem in_eq (i : S8704x2048.Idx) :
    val_main_v14 (F := Ideal) p wi i = ∑ j : Fin 256, p (ix3 (3 : Fin 4) (i 0) j) * wi (ix3 (3 : Fin 4) j (i 1)) := by
  rw [val_main_v14_apply]
  have h0 : (i 0).val < 8704 := (i 0).isLt
  have h1 : (i 1).val < 2048 := (i 1).isLt
  refine Finset.sum_congr rfl fun k _ => congrArg₂ (· * ·) ?_ ?_
  · rw [val_main_v11_apply, val_main_v10_apply]
    refine congrArg p (funext fun a => Fin.ext ?_)
    have hk := k.isLt
    match a with
    | ⟨0, _⟩ => rfl
    | ⟨1, _⟩ => show ((i 0).val * 256 + k.val) / 256 % 8704 = (i 0).val; omega
    | ⟨2, _⟩ => show ((i 0).val * 256 + k.val) % 256 = k.val; omega
  · rw [val_main_v13_apply, val_main_v12_apply]
    refine congrArg wi (funext fun a => Fin.ext ?_)
    have hk := k.isLt
    match a with
    | ⟨0, _⟩ => rfl
    | ⟨1, _⟩ => show (k.val * 2048 + (i 1).val) / 2048 % 256 = k.val; omega
    | ⟨2, _⟩ => show (k.val * 2048 + (i 1).val) % 2048 = (i 1).val; omega

theorem row_eq (i : S8704x2048.Idx) : val_main_v16 (F := Ideal) x h p wg wi i = row x h p wg wi (i 0) (i 1) := by
  rw [val_main_v16_apply, val_main_v15_apply, val_main_v9_apply, val_main_v8_apply, val_main_cst_0_apply, val_main_v7_apply,
    val_main_v6_apply, val_main_cst_apply, val_main_v5_apply, val_main_v4_apply, gate_eq, in_eq]
  unfold row
  show x i + Ideal.div (Ideal.ofBits .f32 0x3F800000#32) (Ideal.ofBits .f32 0x3F800000#32 + Ideal.exp (-_)) * _ = _
  rw [Ideal.ofBits_one_f32]
  exact congrArg (fun z => z + _) (congrArg x (funext fun a => by match a with | ⟨0, _⟩ => rfl | ⟨1, _⟩ => rfl))

theorem final_eq (i : S8704x2048.Idx) : val_main_v29 (F := Ideal) x h p wg wi g i = final x h p wg wi g i := by
  rw [val_main_v29_apply, val_main_v26_apply, val_main_v28_apply, val_main_v27_apply, val_main_v25_apply, val_main_v24_apply,
    val_main_v23_apply, val_main_v22_apply, val_main_cst_3_apply, val_main_v21_apply, val_main_v20_apply, val_main_cst_2_apply,
    val_main_v19_apply, val_main_v18_apply, val_main_cst_1_apply, row_eq]
  unfold final Cert.FinalIdeal.Hand.norm
  have hs : (FloatOps.ofBits (F := Ideal) .f32 0x00000000#32 : EReal) + (∑ k : Fin 2048, val_main_v17 (F := Ideal) x h p wg wi (idx_main_v18 (idx_main_v19 (idx_main_v25 i)) k))
      = ∑ k : Fin 2048, row x h p wg wi (i 0) k * row x h p wg wi (i 0) k := by
    show (Ideal.ofBits .f32 0x00000000#32 : EReal) + _ = _
    rw [Ideal.ofBits_zero_f32, zero_add]
    refine Finset.sum_congr rfl fun k _ => ?_
    rw [val_main_v17_apply, row_eq]
    rfl
  rw [hs]
  show _ * _ * g _ = _ * _ * g _
  exact congrArg₂ (· * ·) rfl (congrArg g (funext fun a => by obtain rfl : a = (0 : Fin 1) := Subsingleton.elim _ _; rfl))

theorem prompt_eq : val_main_v31 (F := Ideal) x h p wg wi g = partP (final x h p wg wi g) := by
  funext i
  have h0 : (i 0).val < 1 := (i 0).isLt
  have h1 : (i 1).val < 8192 := (i 1).isLt
  have h2 : (i 2).val < 2048 := (i 2).isLt
  rw [val_main_v31_apply, val_main_v30_apply, final_eq]
  unfold partP
  refine congrArg (final x h p wg wi g) (funext fun a => Fin.ext ?_)
  match a with
  | ⟨0, _⟩ => show (((i 0).val * 8192 + (i 1).val) * 2048 + (i 2).val) / 2048 = (i 1).val; omega
  | ⟨1, _⟩ => show (((i 0).val * 8192 + (i 1).val) * 2048 + (i 2).val) % 2048 = (i 2).val; omega

theorem samples_eq : val_main_v33 (F := Ideal) x h p wg wi g = partS (final x h p wg wi g) := by
  funext i
  have h0 : (i 0).val < 32 := (i 0).isLt
  have h1 : (i 1).val < 16 := (i 1).isLt
  have h2 : (i 2).val < 2048 := (i 2).isLt
  rw [val_main_v33_apply, val_main_v32_apply, final_eq]
  unfold partS
  refine congrArg (final x h p wg wi g) (funext fun a => Fin.ext ?_)
  match a with
  | ⟨0, _⟩ => show 8192 + (((i 0).val * 16 + (i 1).val) * 2048 + (i 2).val) / 2048 = 8192 + ((i 0).val * 16 + (i 1).val); omega
  | ⟨1, _⟩ => show (((i 0).val * 16 + (i 1).val) * 2048 + (i 2).val) % 2048 = (i 2).val; omega

end Cert.FinalRefIdeal.Hand
-- ==== Proof.Gate.Value.lean ====
/-
  The gated layer's normalised rows over the extended reals, read at an index: every block of 128 rows is normalised, and the
  last block of the prompt and the samples' blocks are the ones that the result keeps.
-/
module

public import proofs.«01_k».proof.Proof.Gen.GateIdeal.Frame
public import proofs.«01_k».proof.Proof.Gen.GateRefIdeal.Read
public import Idealize.ShloMosaic.Lib.Pipeline.ValueKit
public import Idealize.ShloMosaic.Lib.Pipeline.Covers
public import Idealize.ShloMosaic.Lib.Pointwise
public import Idealize.ShloMosaic.Lib.IdealHost
public import Idealize.ShloMosaic.Lib.StableHlo.RunRead
public import Idealize.ShloMosaic.Lib.Routing.Ops

@[expose] public section

set_option maxRecDepth 16384

noncomputable section

namespace Cert.GateIdeal.Hand

open Cert.GateIdeal Cert.GateIdeal.Gen Idealize.ShloMosaic Idealize.ShloMosaic.TcCoe Idealize.SL.Sem
open Idealize.ShloMosaic.Tactic

/-! ## The operation -/

/-- The smooth gate of a number, by the hyperbolic tangent of a cubic. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * (z * z))))))

/-- The mean of a row of 6144. -/
def mean (f : Fin 6144 → EReal) : EReal := Ideal.div (∑ k : Fin 6144, f k) (Ideal.ofBits .f32 0x45C00000#32)

/-- A row's entry less the row's mean, over the root of the row's variance and a small constant, times the entry's own weight. -/
def norm (f : Fin 6144 → EReal) (n : Fin 6144) (g : EReal) : EReal :=
  (f n - mean f) * Ideal.rsqrt (mean (fun k => (f k - mean f) * (f k - mean f)) + Ideal.ofBits .f32 0x358637BD#32) * g

theorem pay2_apply (x : Vec Ideal S128x6144 .f32) (g : Vec Ideal S1x6144 .f32) (y : S128x6144.Idx) :
    k0_pay2 (F := Ideal) x g y = norm (fun n => gelu (x (ix2 (y 0) n))) (y 1) (g (ix2 (0 : Fin 1) (y 1))) := by
  unfold_payloads
  unfold norm mean gelu
  pointwise

/-! ## The operands -/

variable (m : (ℓ : Loc nD τ sig) → Buf (Elt Ideal) ℓ)

theorem places : ∀ t : Fin grid0.N, (cc0_transform_0 (grid0.coords t) 0 = t.val ∧ cc0_transform_0 (grid0.coords t) 1 = 0)
    ∧ (cc0_transform_1 (grid0.coords t) 0 = 0 ∧ cc0_transform_1 (grid0.coords t) 1 = 0)
    ∧ (cc0_transform_5 (grid0.coords t) 0 = t.val - 63 ∧ cc0_transform_5 (grid0.coords t) 1 = 0) := by decide +kernel

theorem row_apply (c : Dev nD) (t : Fin cfg0.N) (y : S128x6144.Idx) (i : Fin 8704) (hi : i.val = t.val * 128 + (y 0).val) (n : Fin 12288)
    (hn : n.val = 6144 + (y 1).val) :
    View.ld (iblk m c 0 t) r0_0 y = m ((c : Thread nD τ).loc main_arg0) (ix2 i n) := by
  obtain ⟨h0, h1⟩ := (places t).1
  rw [View.ld_unit]
  blk_simp [iblk]
  rw [V_main_arg0]
  refine congrArg (m ((c : Thread nD τ).loc main_arg0)) (funext fun a => Fin.ext ?_)
  match a with
  | ⟨0, _⟩ => show cc0_transform_0 (grid0.coords t) 0 * 128 + 1 * (0 + (y 0).val) = i.val; rw [h0, hi]; omega
  | ⟨1, _⟩ => show cc0_transform_0 (grid0.coords t) 1 * 12288 + 1 * (6144 + (y 1).val) = n.val; rw [h1, hn]; omega

theorem entry (c : Dev nD) : V m c main_v44 = shapeCast S1x6144 (shapeCast S6144 (m ((c : Thread nD τ).loc main_arg1)) shapeCasts_S1x6144_S6144) shapeCasts_S6144_S1x6144 := by
  show StableHlo.after (List.flatten _) _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  try rfl

theorem g_apply (c : Dev nD) (t : Fin cfg0.N) (n : Fin 6144) :
    View.ld (iblk m c 1 t) r0_1 (ix2 (0 : Fin 1) n) = m ((c : Thread nD τ).loc main_arg1) (ix2 (0 : Fin 1) n) := by
  obtain ⟨h0, h1⟩ := (places t).2.1
  refine (congrFun (View.ld_unit_zero (by funext a; match a with | ⟨0, _⟩ => rfl | ⟨1, _⟩ => rfl) _ _) _).trans ?_
  blk_simp [iblk]
  rw [entry, shapeCast_shapeCast]
  refine congrArg (m ((c : Thread nD τ).loc main_arg1)) (funext fun a => Fin.ext ?_)
  match a with
  | ⟨0, _⟩ => show cc0_transform_1 (grid0.coords t) 0 * 1 + 1 * 0 = 0; rw [h0]
  | ⟨1, _⟩ => show cc0_transform_1 (grid0.coords t) 1 * 6144 + 1 * n.val = n.val; rw [h1]; omega

/-! ## The result -/

/-- The normalised second half of a row. -/
def gate (x : S8704x12288.Idx → EReal) (g : S1x6144.Idx → EReal) (r : Fin 8704) (n : Fin 6144) : EReal :=
  norm (fun k => gelu (x (ix2 r (⟨6144 + k.val, by omega⟩ : Fin 12288)))) n (g (ix2 (0 : Fin 1) n))

/-- The rows that are kept: the last 640. -/
def kept (x : S8704x12288.Idx → EReal) (g : S1x6144.Idx → EReal) (i : S640x6144.Idx) : EReal :=
  gate x g (⟨8064 + (i 0).val, by have := (i 0).isLt; change (i 0).val < 640 at this; omega⟩ : Fin 8704) (i 1)

theorem out_apply (c : Dev nD) (t : Fin cfg0.N) (y : S128x6144.Idx) (r : Fin 8704) (hr : r.val = t.val * 128 + (y 0).val) :
    out0_5 (iblk m c 0 t) (iblk m c 1 t) (iblk m c 2 t) (iblk m c 3 t) y
      = gate (m ((c : Thread nD τ).loc main_arg0)) (m ((c : Thread nD τ).loc main_arg1)) r (y 1) := by
  unfold out0_5
  refine (congrFun (View.canon_cons_unit_lit _ _ _ (fun a => by match a with | ⟨0, _⟩ => rfl | ⟨1, _⟩ => rfl)) y).trans ?_
  rw [pay2_apply]
  unfold gate
  rw [g_apply m c t (y 1)]
  refine congrArg (fun f => norm f (y 1) _) (funext fun k => congrArg gelu ?_)
  exact row_apply m c t (ix2 (y 0) k) r hr _ rfl

theorem covers : (cfg0.win 5).Covers :=
  Pipeline.Window.covers_of_index_surj _ rfl (show ∀ a : Fin 2, 0 < S128x6144.size a by decide) fun β => by
    have b0 : (β (0 : Fin 2)).val < 5 := lt_of_lt_of_eq (β (0 : Fin 2)).isLt (show (640 + 128 - 1) / 128 = 5 by decide)
    have b1 : (β (1 : Fin 2)).val < 1 := lt_of_lt_of_eq (β (1 : Fin 2)).isLt (show (6144 + 6144 - 1) / 6144 = 1 by decide)
    have hN : 63 + (β (0 : Fin 2)).val < grid0.N := lt_of_lt_of_eq (show _ < 68 by omega) (by decide)
    refine ⟨⟨63 + (β (0 : Fin 2)).val, hN⟩, fun a => ?_⟩
    match a with
    | ⟨0, _⟩ => exact (places ⟨_, hN⟩).2.2.1.trans (Nat.add_sub_cancel_left 63 _)
    | ⟨1, _⟩ => exact (places ⟨_, hN⟩).2.2.2.trans (by show 0 = (β (1 : Fin 2)).val; omega)

/-- The blocks of the kept rows leave at the last block of the prompt and after it. -/
theorem flushes : ∀ t : Fin grid0.N, win0_5.flush t = true → 63 ≤ t.val := by decide +kernel

theorem arr_eq (c : Dev nD) : (dats m 0 c).arrAt 5 cfg0.N = kept (m ((c : Thread nD τ).loc main_arg0)) (m ((c : Thread nD τ).loc main_arg1)) := by
  refine (dats m 0 c).arrAt_eq_of_covers 5 _ covers fun t hf y => ?_
  have ht : 63 ≤ t.val := flushes t hf
  blk_simp
  obtain ⟨q0, q1⟩ := (places t).2.2
  rw [after0_5]
  unfold kept
  refine (out_apply m c t y ⟨8064 + (cc0_transform_5 (grid0.coords t) 0 * 128 + 1 * (y (0 : Fin 2)).val), ?_⟩ ?_).trans ?_
  · have := t.isLt
    have hN : t.val < 68 := lt_of_lt_of_eq t.isLt (by decide)
    have : (y (0 : Fin 2)).val < 128 := (y (0 : Fin 2)).isLt
    rw [q0]; omega
  · show 8064 + (cc0_transform_5 (grid0.coords t) 0 * 128 + 1 * (y (0 : Fin 2)).val) = _
    rw [q0]; omega
  · refine congrArg (gate _ _ _) (Fin.ext ?_)
    show (y (1 : Fin 2)).val = cc0_transform_5 (grid0.coords t) 1 * 6144 + 1 * (y (1 : Fin 2)).val
    rw [q1]; omega

/-! ## The parts handed back -/

/-- The prompt's rows. -/
def partP (x : S8704x12288.Idx → EReal) (g : S1x6144.Idx → EReal) (i : S1x128x6144.Idx) : EReal :=
  gate x g (⟨8064 + (i 1).val, by have := (i 1).isLt; change (i 1).val < 128 at this; omega⟩ : Fin 8704) (i 2)

/-- The samples' rows. -/
def partS (x : S8704x12288.Idx → EReal) (g : S1x6144.Idx → EReal) (i : S32x16x6144.Idx) : EReal :=
  gate x g (⟨8192 + ((i 0).val * 16 + (i 1).val), by
    have := (i 0).isLt; change (i 0).val < 32 at this; have := (i 1).isLt; change (i 1).val < 16 at this; omega⟩ : Fin 8704) (i 2)

theorem partP_eq (x : S8704x12288.Idx → EReal) (g : S1x6144.Idx → EReal) :
    shapeCast S1x128x6144 (extractStridedSlice S128x6144 ![0, 0] (kept x g) slices_S640x6144_S128x6144_0_0) shapeCasts_S128x6144_S1x128x6144 = partP x g := by
  funext i
  have h0 : (i 0).val < 1 := (i 0).isLt
  have h1 : (i 1).val < 128 := (i 1).isLt
  refine (shapeCast_apply _ _ i (ix2 (⟨(i 1).val, h1⟩ : Fin 128) (i 2)) ?_).trans ?_
  · refine (Shape.rowMajor_val_two _).trans (Eq.trans ?_ (Shape.rowMajor_val_three _).symm)
    show (i 1).val * 6144 + (i 2).val = ((i 0).val * 128 + (i 1).val) * 6144 + (i 2).val
    omega
  · exact extractStridedSlice_apply _ (kept x g) _ _ (ix2 (⟨(i 1).val, by omega⟩ : Fin 640) (i 2)) (fun a => by
      match a with
      | ⟨0, _⟩ => exact (Nat.zero_add _).symm
      | ⟨1, _⟩ => exact (Nat.zero_add _).symm)

theorem partS_eq (x : S8704x12288.Idx → EReal) (g : S1x6144.Idx → EReal) :
    shapeCast S32x16x6144 (extractStridedSlice S512x6144 ![128, 0] (kept x g) slices_S640x6144_S512x6144_128_0) shapeCasts_S512x6144_S32x16x6144 = partS x g := by
  funext i
  have h0 : (i 0).val < 32 := (i 0).isLt
  have h1 : (i 1).val < 16 := (i 1).isLt
  refine (shapeCast_apply _ _ i (ix2 (⟨(i 0).val * 16 + (i 1).val, by omega⟩ : Fin 512) (i 2)) ?_).trans ?_
  · exact (Shape.rowMajor_val_two _).trans (Shape.rowMajor_val_three _).symm
  · refine (extractStridedSlice_apply _ (kept x g) _ _ (ix2 (⟨128 + ((i 0).val * 16 + (i 1).val), by omega⟩ : Fin 640) (i 2)) (fun a => by
      match a with
      | ⟨0, _⟩ => rfl
      | ⟨1, _⟩ => exact (Nat.zero_add _).symm)).trans ?_
    unfold kept partS
    refine congrArg (fun r => gate x g r (i 2)) (Fin.ext ?_)
    show 8064 + (128 + ((i 0).val * 16 + (i 1).val)) = 8192 + ((i 0).val * 16 + (i 1).val)
    omega

/-- What the operations after the kernel leave, from what it leaves. -/
theorem tail (V : Valuation τ sig (Elt Ideal)) :
    StableHlo.after hostOps1 V (Proc.devRef .tc main_v47)
      = shapeCast S1x128x6144 (extractStridedSlice S128x6144 ![0, 0] (V (Proc.devRef .tc main_v45_1)) slices_S640x6144_S128x6144_0_0) shapeCasts_S128x6144_S1x128x6144
    ∧ StableHlo.after hostOps1 V (Proc.devRef .tc main_v49)
      = shapeCast S32x16x6144 (extractStridedSlice S512x6144 ![128, 0] (V (Proc.devRef .tc main_v45_1)) slices_S640x6144_S512x6144_128_0) shapeCasts_S512x6144_S32x16x6144 := by
  refine ⟨?_, ?_⟩
  all_goals
    unfold hostOps1
    after_results
    try rfl

theorem run (g : Dev nD → PrngReg) : θ_run defs (onTc (τ := τ) (main (F := Ideal))) ⟨m, fun _ => 0, g⟩ (fun r => ∀ c : Dev nD,
      r.2.mem ((c.tc : Thread nD τ).loc main_v47) = partP (m ((c.tc : Thread nD τ).loc main_arg0)) (m ((c.tc : Thread nD τ).loc main_arg1))
      ∧ r.2.mem ((c.tc : Thread nD τ).loc main_v49) = partS (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main (F := Ideal) m g) (unchanged (F := Ideal) m g))
  obtain ⟨h, hu⟩ := h
  have hw : Pipeline.withArrays spec0 c (V0 m c) (fun w => (dats m 0 c).arrAt w cfg0.N) (Proc.devRef .tc main_v45_1)
      = kept (m ((c : Thread nD τ).loc main_arg0)) (m ((c : Thread nD τ).loc main_arg1)) :=
    (Pipeline.withArrays_arr spec0 (by decide) c (V0 m c) _ 5).trans (arr_eq m c)
  obtain ⟨t0, t1⟩ := tail (Pipeline.withArrays spec0 c (V0 m c) (fun w => (dats m 0 c).arrAt w cfg0.N))
  rw [hw] at t0 t1
  exact ⟨((h c).2 main_v47 (by decide)).trans (t0.trans (partP_eq _ _)), ((h c).2 main_v49 (by decide)).trans (t1.trans (partS_eq _ _)), hu c⟩

end Cert.GateIdeal.Hand

/-! ## The reference -/

namespace Cert.GateRefIdeal.Hand

open Cert.GateRefIdeal Cert.GateRefIdeal.Gen Cert.GateRefIdeal.Read Idealize.ShloMosaic Idealize.ShloMosaic.TcCoe Idealize.SL.Sem
open Cert.GateIdeal.Hand (gelu mean gate partP partS)

variable (x : S8704x12288.Idx → EReal) (g : S1x6144.Idx → EReal)

/-- The gated second half of a row. -/
def half (r : Fin 8704) (k : Fin 6144) : EReal := gelu (x (ix2 r (⟨6144 + k.val, by omega⟩ : Fin 12288)))

theorem gelu_eq (i : S8704x12288.Idx) : val_main_v12 (F := Ideal) x i = gelu (x i) := by
  rw [val_main_v12_apply, val_main_v11_apply, val_main_v10_apply, val_main_cst_2_apply, val_main_v9_apply, val_main_v8_apply,
    val_main_cst_1_apply, val_main_v7_apply, val_main_v6_apply, val_main_v5_apply, val_main_cst_0_apply, val_main_v4_apply,
    val_main_v3_apply, val_main_v2_apply, val_main_cst_apply, val_main_v1_apply, val_main_v0_apply]
  unfold gelu
  rw [mul_comm (x i) (x i * x i)]
  rfl

theorem half_eq (i : S8704x6144.Idx) : val_main_v14 (F := Ideal) x i = half x (i 0) (i 1) := by
  rw [val_main_v14_apply, gelu_eq]
  unfold half
  refine congrArg (fun j => gelu (x j)) (funext fun a => Fin.ext ?_)
  match a with
  | ⟨0, _⟩ => rfl
  | ⟨1, _⟩ => rfl

theorem mean_eq (i : S8704x1.Idx) : val_main_v18 (F := Ideal) x i = mean (half x (i 0)) := by
  rw [val_main_v18_apply, val_main_v17_apply, val_main_cst_4_apply, val_main_v16_apply, val_main_v15_apply, val_main_cst_3_apply]
  unfold mean
  show Ideal.div ((Ideal.ofBits .f32 0x00000000#32 : EReal) + _) _ = _
  rw [Ideal.ofBits_zero_f32, zero_add]
  exact congrArg (fun s => Ideal.div s _) (Finset.sum_congr rfl fun k _ => (half_eq x _).trans rfl)

theorem dev_eq (i : S8704x6144.Idx) : val_main_v20 (F := Ideal) x i = half x (i 0) (i 1) - mean (half x (i 0)) := by
  rw [val_main_v20_apply, val_main_v19_apply, mean_eq, half_eq]
  rfl

theorem var_eq (i : S8704x1.Idx) : val_main_v25 (F := Ideal) x i
    = mean (fun k => (half x (i 0) k - mean (half x (i 0))) * (half x (i 0) k - mean (half x (i 0)))) := by
  rw [val_main_v25_apply, val_main_v24_apply, val_main_cst_6_apply, val_main_v23_apply, val_main_v22_apply, val_main_cst_5_apply]
  unfold mean
  show Ideal.div ((Ideal.ofBits .f32 0x00000000#32 : EReal) + _) _ = _
  rw [Ideal.ofBits_zero_f32, zero_add]
  refine congrArg (fun s => Ideal.div s _) (Finset.sum_congr rfl fun k _ => ?_)
  rw [val_main_v21_apply, dev_eq]
  rfl

theorem gate_eq (i : S8704x6144.Idx) : val_main_v36 (F := Ideal) x g i = gate x g (i 0) (i 1) := by
  rw [val_main_v36_apply, val_main_v35_apply, val_main_v34_apply, val_main_v33_apply, val_main_v32_apply, val_main_v31_apply,
    val_main_v30_apply, val_main_v29_apply, val_main_v28_apply, val_main_cst_7_apply, val_main_v27_apply, val_main_v26_apply, var_eq, mean_eq, half_eq]
  unfold gate Cert.GateIdeal.Hand.norm
  show _ * _ * g _ = _ * _ * g _
  refine congrArg₂ (· * ·) rfl (congrArg g (funext fun a => Fin.ext ?_))
  have h1 : (i 1).val < 6144 := (i 1).isLt
  match a with
  | ⟨0, _⟩ => rfl
  | ⟨1, _⟩ => show (i 1).val % 6144 = (i 1).val; omega

theorem prompt_eq : val_main_v39 (F := Ideal) x g = partP x g := by
  funext i
  have h0 : (i 0).val < 1 := (i 0).isLt
  have h1 : (i 1).val < 128 := (i 1).isLt
  have h2 : (i 2).val < 6144 := (i 2).isLt
  rw [val_main_v39_apply, val_main_v38_apply, val_main_v37_apply, gate_eq]
  unfold partP
  refine congrArg₂ (gate x g) (Fin.ext ?_) (Fin.ext ?_)
  · show (((i 0).val * 8192 + (8064 + (i 1).val)) * 6144 + (i 2).val) / 6144 = 8064 + (i 1).val; omega
  · show (((i 0).val * 8192 + (8064 + (i 1).val)) * 6144 + (i 2).val) % 6144 = (i 2).val; omega

theorem samples_eq : val_main_v41 (F := Ideal) x g = partS x g := by
  funext i
  have h0 : (i 0).val < 32 := (i 0).isLt
  have h1 : (i 1).val < 16 := (i 1).isLt
  have h2 : (i 2).val < 6144 := (i 2).isLt
  rw [val_main_v41_apply, val_main_v40_apply, gate_eq]
  unfold partS
  refine congrArg₂ (gate x g) (Fin.ext ?_) (Fin.ext ?_)
  · show 8192 + (((i 0).val * 16 + (i 1).val) * 6144 + (i 2).val) / 6144 = 8192 + ((i 0).val * 16 + (i 1).val); omega
  · show (((i 0).val * 16 + (i 1).val) * 6144 + (i 2).val) % 6144 = (i 2).val; omega

end Cert.GateRefIdeal.Hand
-- ==== Proof.Mat.Shared.lean ====
/-
  What the products with a carried weight block share: a load of a whole buffer reads what the buffer holds, and a state
  that is set at the first of every `per` points and kept at the others is, at every point, what its own first point set.
-/
module

public import Idealize.ShloMosaic.Lib.Pipeline.ValueKit
public import Idealize.ShloMosaic.Lib.Pipeline.Covers
public import Idealize.ShloMosaic.Lib.Pointwise
public import Idealize.ShloMosaic.Lib.IdealHost

@[expose] public section

set_option maxRecDepth 16384

noncomputable section

namespace Cert.Mat

open Idealize.ShloMosaic Idealize.ShloMosaic.TcCoe Idealize.SL.Sem

/-- A load of a whole buffer reads what the buffer holds. -/
theorem load_whole {sig : RefSig} {s : Shape} {e : EltTy} (a : Memref sig .tc .vmem s e) (ha : a.IsWhole) (x : Vec Ideal s e) (off : Fin s.rank → ℕ)
    (inb : ∀ a, off a + s.size a ≤ s.size a) (h : off = fun _ => 0) :
    View.readAt (Elt Ideal) a.view (Rect.unit (s := s) off s.size inb).toLoadRect (ha.unread x) = x := by
  rw [View.readAt_eq_ld, ha.read_unread]
  exact View.ld_unit_zero h _ _

theorem zero2 : (![0, 0] : Fin 2 → ℕ) = fun _ => 0 := by funext a; match a with | ⟨0, _⟩ => rfl | ⟨1, _⟩ => rfl
theorem zero3 : (![0, 0, 0] : Fin 3 → ℕ) = fun _ => 0 := by funext a; match a with | ⟨0, _⟩ => rfl | ⟨1, _⟩ => rfl | ⟨2, _⟩ => rfl

/-- A state set at the first of every `per` points and kept at the others. -/
theorem carried_of {S : Type*} {N : ℕ} (per : ℕ) (s : ∀ n, n < N → S) (P : ℕ → S → Prop)
    (first : ∀ n (h : n < N), n % per = 0 → P (n / per) (s n h))
    (later : ∀ n (h : n + 1 < N), ¬(n + 1) % per = 0 → s (n + 1) h = s n (Nat.lt_of_succ_lt h)) :
    ∀ n (h : n < N), P (n / per) (s n h) := by
  intro n
  induction n with
  | zero => exact fun h => first 0 h (Nat.zero_mod _)
  | succ n ih =>
    intro h
    by_cases h0 : (n + 1) % per = 0
    · exact first (n + 1) h h0
    · rw [later n h h0, Nat.succ_div_of_not_dvd fun hd => h0 (Nat.mod_eq_zero_of_dvd hd)]
      exact ih _

/-- 8192 rows and 512 more under them. -/
def joined {K : ℕ} (x : (⟨2, ![8192, K]⟩ : Shape).Idx → EReal) (x' : (⟨2, ![512, K]⟩ : Shape).Idx → EReal) (i : Fin 8704) (k : Fin K) : EReal :=
  if h : i.val < 8192 then x (ix2 ⟨i.val, h⟩ k) else x' (ix2 ⟨i.val - 8192, by have := i.isLt; omega⟩ k)

theorem joined_eq {K : ℕ} (h : Shape.Concatenates [(⟨2, ![8192, K]⟩ : Shape), ⟨2, ![512, K]⟩] ⟨2, ![8704, K]⟩ 0) (x : (⟨2, ![8192, K]⟩ : Shape).Idx → EReal) (x' : (⟨2, ![512, K]⟩ : Shape).Idx → EReal)
    (j : (⟨2, ![8704, K]⟩ : Shape).Idx) (i : Fin 8704) (k : Fin K) (hi : (j 0).val = i.val) (hk : (j 1).val = k.val) :
    concatenate (⟨2, ![8704, K]⟩ : Shape) 0 [⟨(⟨2, ![8192, K]⟩ : Shape), x⟩, ⟨(⟨2, ![512, K]⟩ : Shape), x'⟩] h j = joined x x' i k := by
  unfold joined
  by_cases hlt : i.val < 8192
  · rw [dif_pos hlt]
    refine concatenate_pair_apply_left _ x x' h j rfl _ fun b => ?_
    match b with
    | ⟨0, _⟩ => exact hi.symm
    | ⟨1, _⟩ => exact hk.symm
  · rw [dif_neg hlt]
    refine concatenate_pair_apply_right _ x x' h j rfl rfl _ (fun b hb => ?_) ?_
    · match b with
      | ⟨0, _⟩ => exact absurd rfl hb
      | ⟨1, _⟩ => exact hk.symm
    · show i.val - 8192 + 8192 = (j 0).val
      omega

/-- Whether one of seventeen is among the first sixteen. -/
theorem below16 : ∀ n : Fin 17, Scalar.cmpi .slt (BitVec.ofNat 32 n.val) 16#32 = if n.val < 16 then 1#1 else 0#1 := by decide

end Cert.Mat
-- ==== Proof.Ret.Value.lean ====
/-
  The samples' retention over the extended reals, read at an index: the state that a sample's sixteen rows leave in each of
  the eight heads.
-/
module

public import proofs.«01_k».proof.Proof.Mat.Shared
public import proofs.«01_k».proof.Proof.Gen.RetIdeal.Frame
public import proofs.«01_k».proof.Proof.Gen.RetIdeal.Value
public import proofs.«01_k».proof.Proof.Gen.RetRefIdeal.Read
public import Idealize.ShloMosaic.Lib.Pipeline.ReadBack

@[expose] public section

set_option maxRecDepth 16384

noncomputable section

namespace Cert.RetIdeal.Hand

open Cert.RetIdeal Cert.RetIdeal.Gen Cert.Mat Idealize.ShloMosaic Idealize.ShloMosaic.TcCoe Idealize.SL.Sem
open Idealize.ShloMosaic.Tactic

/-! ## A head's step -/

/-- A key turned by its row's angles: the first half against the second. -/
def turned (k : Fin 256 → EReal) (ca sa : Fin 128 → EReal) (d : Fin 256) : EReal :=
  if h : d.val < 128 then
    k d * ca ⟨d.val, h⟩ - k ⟨128 + d.val, by omega⟩ * sa ⟨d.val, h⟩
  else
    k ⟨d.val - 128, by omega⟩ * sa ⟨d.val - 128, by omega⟩ + k ⟨128 + (d.val - 128), by omega⟩ * ca ⟨d.val - 128, by omega⟩

/-- What a head's state becomes at one place: the state decayed over sixteen rows, and the rows' keys, turned, scaled and
decayed to the last row, times their values. -/
def step (s lg : EReal) (k : Fin 16 → Fin 256 → EReal) (ca sa : Fin 16 → Fin 128 → EReal) (v : Fin 16 → EReal) (d : Fin 256) : EReal :=
  s * Ideal.exp (Ideal.ofBits .f32 0x41800000#32 * lg)
    + ∑ r : Fin 16, turned (k r) (ca r) (sa r) d * Ideal.ofBits .f32 0x3D800000#32
        * Ideal.exp ((Ideal.ofBits .f32 0x41700000#32 - FloatOps.sitofp (F := Ideal) .f32 (BitVec.ofNat 32 r.val)) * lg) * v r

/-- One head's new state, as the first head computes it. -/
def head (lg : Elt Ideal .f32) (ca sa : Vec Ideal S16x128 .f32) (k : Vec Ideal S16x256 .f32) (v : Vec Ideal S16x512 .f32) (s : Vec Ideal S1x256x512 .f32) : FVec Ideal S256x512 .f32 :=
  k0_pay11 (F := Ideal) k0_pay5 lg (k0_pay7 ca sa k) v s

theorem key_apply (ca sa : Vec Ideal S16x128 .f32) (k : Vec Ideal S16x256 .f32) (y : S16x256.Idx) :
    k0_pay7 (F := Ideal) ca sa k y
      = turned (fun d => k (ix2 (y 0) d)) (fun d => ca (ix2 (y 0) d)) (fun d => sa (ix2 (y 0) d)) (y 1) * Ideal.ofBits .f32 0x3D800000#32 := by
  unfold_payloads
  unfold turned
  pointwise

theorem head_apply (lg : Elt Ideal .f32) (ca sa : Vec Ideal S16x128 .f32) (k : Vec Ideal S16x256 .f32) (v : Vec Ideal S16x512 .f32) (s : Vec Ideal S1x256x512 .f32) (y : S256x512.Idx) :
    head lg ca sa k v s y = step (s (ix3 (0 : Fin 1) (y 0) (y 1))) lg (fun r d => k (ix2 r d)) (fun r d => ca (ix2 r d)) (fun r d => sa (ix2 r d)) (fun r => v (ix2 r (y 1))) (y 0) := by
  have hk := key_apply ca sa k
  unfold head
  generalize k0_pay7 (F := Ideal) ca sa k = kk at hk
  unfold_payloads
  unfold step
  pointwise
  refine congrArg₂ (· + ·) rfl (Finset.sum_congr rfl fun r _ => ?_)
  rw [hk]
  rfl

theorem step_congr {s s' lg lg' : EReal} {k k' : Fin 16 → Fin 256 → EReal} {ca ca' sa sa' : Fin 16 → Fin 128 → EReal} {v v' : Fin 16 → EReal} {d d' : Fin 256}
    (hs : s = s') (hl : lg = lg') (hk : ∀ r d, k r d = k' r d) (hc : ∀ r d, ca r d = ca' r d) (hsa : ∀ r d, sa r d = sa' r d) (hv : ∀ r, v r = v' r) (hd : d = d') :
    step s lg k ca sa v d = step s' lg' k' ca' sa' v' d' := by
  obtain rfl : k = k' := funext fun r => funext (hk r)
  obtain rfl : ca = ca' := funext fun r => funext (hc r)
  obtain rfl : sa = sa' := funext fun r => funext (hsa r)
  obtain rfl : v = v' := funext hv
  rw [hs, hl, hd]

/-- A head's state as it is stored among the results. -/
def stored (w : FVec Ideal S256x512 .f32) : FVec Ideal S1x1x1x256x512 .f32 := k0_pay13 (F := Ideal) w

theorem stored_apply (w : FVec Ideal S256x512 .f32) (x : S1x1x1x256x512.Idx) : stored w x = w (ix2 (x 3) (x 4)) := by
  unfold stored
  unfold_payloads
  pointwise

section Heads
variable (lg : Elt Ideal .f32) (ca sa : Vec Ideal S16x128 .f32) (k : Vec Ideal S16x256 .f32) (v : Vec Ideal S16x512 .f32) (s : Vec Ideal S1x256x512 .f32)

/-! The heads differ in nothing but the names of their steps. -/
theorem head0 : k0_pay13 (F := Ideal) (k0_pay11 k0_pay5 lg (k0_pay7 ca sa k) v s) = stored (head lg ca sa k v s) := rfl
theorem head1 : k0_pay27 (F := Ideal) (k0_pay19 ca sa (k0_pay16 k) (k0_pay17 k) (k0_pay18 ca k)) (k0_pay20 v) (k0_pay21 k0_pay5 lg) (k0_pay22 lg) (k0_pay23 s)
    = stored (head lg ca sa k v s) := rfl
theorem head2 : k0_pay42 (F := Ideal) (k0_pay32 ca sa k) (k0_pay33 v) (k0_pay35 k0_pay5 lg) (k0_pay36 lg) s = stored (head lg ca sa k v s) := rfl
theorem head3 : k0_pay55 (F := Ideal) lg (k0_pay45 ca sa k) (k0_pay46 v) (k0_pay49 k0_pay5 lg) k0_pay50 s = stored (head lg ca sa k v s) := rfl
theorem head4 : k0_pay67 (F := Ideal) k0_pay5 lg (k0_pay59 ca sa k) (k0_pay60 v) s = stored (head lg ca sa k v s) := rfl
theorem head5 : k0_pay76 (F := Ideal) (k0_pay74 k0_pay5 lg (k0_pay70 ca sa k) v s) = stored (head lg ca sa k v s) := rfl
theorem head6 : k0_pay90 (F := Ideal) (k0_pay82 ca sa (k0_pay79 k) (k0_pay80 k) (k0_pay81 ca k)) (k0_pay83 v) (k0_pay84 k0_pay5 lg) (k0_pay85 lg) (k0_pay86 s)
    = stored (head lg ca sa k v s) := rfl
theorem head7 : k0_pay105 (F := Ideal) (k0_pay95 ca sa k) (k0_pay96 v) (k0_pay98 k0_pay5 lg) (k0_pay99 lg) s = stored (head lg ca sa k v s) := rfl

end Heads

theorem pay1_apply (w : Vec Ideal S1x1x8x256x512 .f32) (x : S1x1x8x256x512.Idx) : k0_pay1 (F := Ideal) w x = w x := by
  unfold_payloads
  pointwise

theorem pay2_apply (w : Vec Ideal S1x1x8x256x512 .f32) (x : S8x256x512.Idx) : k0_pay2 (F := Ideal) w x = w (ix5 (0 : Fin 1) (0 : Fin 1) (x 0) (x 1) (x 2)) := by
  unfold_payloads
  pointwise

/-! ## What a point leaves -/

section Point
variable (x0 : Vec Ideal S8 .f32) (x2 : Vec Ideal S16x2048 .f32) (x3 : Vec Ideal S16x4096 .f32) (x5 x6 : Vec Ideal S16x128 .f32) (x7 x8 : Vec Ideal S1x1x8x256x512 .f32)

/-- A point's part of the result: the states before, and the heads' new states. -/
def part (y : S2x1x8x256x512.Idx) : EReal :=
  if (y 0).val = 0 then x8 (ix5 (0 : Fin 1) (0 : Fin 1) (y 2) (y 3) (y 4)) else
    step (x7 (ix5 (0 : Fin 1) (0 : Fin 1) (y 2) (y 3) (y 4))) (x0 (ix1 (y 2)))
      (fun r d => x2 (ix2 r (⟨(y 2).val * 256 + d.val, by have h : (y 2).val < 8 := (y 2).isLt; have := d.isLt; omega⟩ : Fin 2048)))
      (fun r d => x5 (ix2 r d)) (fun r d => x6 (ix2 r d))
      (fun r => x3 (ix2 r (⟨(y 2).val * 512 + (y 4).val, by have h : (y 2).val < 8 := (y 2).isLt; have h' : (y 4).val < 512 := (y 4).isLt; omega⟩ : Fin 4096))) (y 3)

theorem zero5 : (![0, 0, 0, 0, 0] : Fin 5 → ℕ) = fun _ => 0 := by
  funext a; match a with | ⟨0, _⟩ => rfl | ⟨1, _⟩ => rfl | ⟨2, _⟩ => rfl | ⟨3, _⟩ => rfl | ⟨4, _⟩ => rfl

/-- The stored state of head `n` is the result's part at the head's place. -/
theorem piece (n ok ov : ℕ) (hn : n < 8) (hok : ok = n * 256) (hov : ov = n * 512) (o0 : Fin 1 → ℕ) (h0 : o0 0 = n)
    (i0 : ∀ a, o0 a + (![1] : Fin 1 → ℕ) a ≤ S8.size a) (hf) (i5) (ik) (iv) (i7) (is) (ie)
    (x : S1x1x1x256x512.Idx) :
    stored (head (View.ld x0 (Rect.unit (s := S8) o0 ![1] i0) (Shape.Idx.first hf))
        (View.ld x5 (Rect.unit (s := S16x128) ![0, 0] ![16, 128] i5)) (View.ld x6 (Rect.unit (s := S16x128) ![0, 0] ![16, 128] i5))
        (View.ld x2 (Rect.unit (s := S16x2048) ![0, ok] ![16, 256] ik)) (View.ld x3 (Rect.unit (s := S16x4096) ![0, ov] ![16, 512] iv))
        (View.ld (k0_pay2 (F := Ideal) (View.ld x7 (Rect.unit (s := S1x1x8x256x512) ![0, 0, 0, 0, 0] ![1, 1, 8, 256, 512] i7)))
          (Rect.unit (s := S8x256x512) ![n, 0, 0] ![1, 256, 512] is))) x
      = part x0 x2 x3 x5 x6 x7 x8 ((Rect.unit (s := S2x1x8x256x512) ![1, 0, n, 0, 0] ![1, 1, 1, 256, 512] ie).emb x) := by
  subst hok hov h0
  rw [stored_apply, head_apply]
  unfold part
  rw [if_neg (by show ¬(1 + 1 * (x 0).val = 0); omega)]
  refine step_congr ?_ ?_ (fun r d => ?_) (fun r d => ?_) (fun r d => ?_) (fun r => ?_) ?_
  · refine (View.ld_unit_apply_of _ _ _ _ _ (ix3 (⟨o0 0, hn⟩ : Fin 8) (x 3) (x 4)) fun a => ?_).trans ?_
    · match a with
      | ⟨0, _⟩ => rfl
      | ⟨1, _⟩ => show (x 3).val = 0 + (x 3).val; omega
      | ⟨2, _⟩ => show (x 4).val = 0 + (x 4).val; omega
    refine (pay2_apply _ _).trans ?_
    rw [View.ld_unit]
    refine congrArg x7 (funext fun a => Fin.ext ?_)
    match a with
    | ⟨0, _⟩ => rfl
    | ⟨1, _⟩ => rfl
    | ⟨2, _⟩ => show 0 + o0 0 = o0 0 + 1 * (x 2).val; have h : (x 2).val < 1 := (x 2).isLt; omega
    | ⟨3, _⟩ => show 0 + (x 3).val = 0 + 1 * (x 3).val; omega
    | ⟨4, _⟩ => show 0 + (x 4).val = 0 + 1 * (x 4).val; omega
  · rw [View.ld_unit]
    refine congrArg x0 (funext fun a => Fin.ext ?_)
    match a with
    | ⟨0, _⟩ => show o0 0 + 0 = o0 0 + 1 * (x 2).val; have h : (x 2).val < 1 := (x 2).isLt; omega
  · rw [View.ld_unit]
    refine congrArg x2 (funext fun a => Fin.ext ?_)
    match a with
    | ⟨0, _⟩ => show 0 + r.val = r.val; omega
    | ⟨1, _⟩ => show o0 0 * 256 + d.val = (o0 0 + 1 * (x 2).val) * 256 + d.val; have h : (x 2).val < 1 := (x 2).isLt; omega
  · exact congrFun (View.ld_unit_zero zero2 _ _) _
  · exact congrFun (View.ld_unit_zero zero2 _ _) _
  · rw [View.ld_unit]
    refine congrArg x3 (funext fun a => Fin.ext ?_)
    match a with
    | ⟨0, _⟩ => show 0 + r.val = r.val; omega
    | ⟨1, _⟩ => show o0 0 * 512 + (x 4).val = (o0 0 + 1 * (x 2).val) * 512 + (0 + 1 * (x 4).val); have h : (x 2).val < 1 := (x 2).isLt; omega
  · refine Fin.ext ?_
    show (x 3).val = 0 + 1 * (x 3).val; omega

/-- The states before, as they are stored. -/
theorem before_piece (i8) (ie) (x : S1x1x8x256x512.Idx) :
    k0_pay1 (F := Ideal) (View.ld x8 (Rect.unit (s := S1x1x8x256x512) ![0, 0, 0, 0, 0] ![1, 1, 8, 256, 512] i8)) x
      = part x0 x2 x3 x5 x6 x7 x8 ((Rect.unit (s := S2x1x8x256x512) ![0, 0, 0, 0, 0] ![1, 1, 8, 256, 512] ie).emb x) := by
  rw [pay1_apply]
  unfold part
  rw [if_pos (by show 0 + 1 * (x 0).val = 0; have h : (x 0).val < 1 := (x 0).isLt; omega)]
  rw [View.ld_unit]
  refine congrArg x8 (funext fun a => Fin.ext ?_)
  match a with
  | ⟨0, _⟩ => show 0 + (x 0).val = 0; have h : (x 0).val < 1 := (x 0).isLt; omega
  | ⟨1, _⟩ => show 0 + (x 1).val = 0; have h : (x 1).val < 1 := (x 1).isLt; omega
  | ⟨2, _⟩ => show 0 + (x 2).val = 0 + 1 * (x 2).val; omega
  | ⟨3, _⟩ => show 0 + (x 3).val = 0 + 1 * (x 3).val; omega
  | ⟨4, _⟩ => show 0 + (x 4).val = 0 + 1 * (x 4).val; omega

end Point

/-- The heads are taken eight at a time, so that a point's first head is head zero. -/
theorem place (i : grid0.Coords) (n : BitVec 32) (h : n.toNat < 8) :
    (![BitVec.toNat (Scalar.indexCast (Scalar.addi (Scalar.muli (BitVec.ofNat 32 (i 1).val) 8#32) n))] : Fin 1 → ℕ) 0 = n.toNat := by
  have hi : (i 1).val = 0 := by have h : (i 1).val < 1 := (i 1).isLt; omega
  rw [hi]
  show BitVec.toNat (Scalar.indexCast (0#32 + n)) = _
  rw [BitVec.zero_add]
  rfl

section Out
variable (c : Dev nD) (i : grid0.Coords) (arg3 : Memref sig .tc .smem S8 .f32) (harg3 : arg3.IsWhole) (arg4 : Memref sig .tc .vmem S16x2048 .f32) (harg4 : arg4.IsWhole) (arg5 : Memref sig .tc .vmem S16x2048 .f32) (harg5 : arg5.IsWhole) (arg6 : Memref sig .tc .vmem S16x4096 .f32) (harg6 : arg6.IsWhole) (arg7 : Memref sig .tc .vmem S16x4096 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S1x1x8x256x512 .f32) (harg10 : arg10.IsWhole) (arg11 : Memref sig .tc .vmem S1x1x8x256x512 .f32) (harg11 : arg11.IsWhole) (arg12 : Memref sig .tc .vmem S16x4096 .bf16) (harg12 : arg12.IsWhole) (arg13 : Memref sig .tc .vmem S2x1x8x256x512 .f32) (harg13 : arg13.IsWhole) (arg14 : Memref sig .tc .vmem S8x256x512 .f32) (harg14 : arg14.IsWhole) (hc0 : cond0_0 i) (hc1 : cond0_1 i)
  (x0 : Vec Ideal S8 .f32) (x1 : Vec Ideal S16x2048 .f32) (x2 : Vec Ideal S16x2048 .f32) (x3 : Vec Ideal S16x4096 .f32) (x4 : Vec Ideal S16x4096 .f32) (x5 : Vec Ideal S16x128 .f32) (x6 : Vec Ideal S16x128 .f32) (x7 : Vec Ideal S1x1x8x256x512 .f32) (x8 : Vec Ideal S1x1x8x256x512 .f32) (y : S2x1x8x256x512.Idx)

theorem out_eq : out0_A_10 (F := Ideal) c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 y
    = part x0 x2 x3 x5 x6 x7 x8 y := by
  have hcov := cover0_A_10 (F := Ideal) c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 y
  unfold out0_A_10
  rw [View.read_writes_junk_eq_canon]
  refine View.canon_apply_of_pieces _ _ (View.PiecesOf.mem ?_) y hcov
  clear hcov
  unfold kernelRun0_A
  dsimp only
  sl_unfold_words
  simp (disch := decide) only [↓ View.readCov_skip, ↓ View.readCov_fill, View.readAt_eq_ld, Memref.IsWhole.read_unread, head0, head1, head2, head3, head4, head5, head6, head7]
  refine ⟨fun x => before_piece x0 x2 x3 x5 x6 x7 x8 _ inb_S2x1x8x256x512_S1x1x8x256x512_0_0_0_0_0 x,
    fun x => piece x0 x2 x3 x5 x6 x7 x8 7 _ _ (by decide) rfl rfl _ (place i 7#32 (by decide)) _ _ _ _ _ _ _ inb_S2x1x8x256x512_S1x1x1x256x512_1_0_7_0_0 x,
    fun x => piece x0 x2 x3 x5 x6 x7 x8 6 _ _ (by decide) rfl rfl _ (place i 6#32 (by decide)) _ _ _ _ _ _ _ inb_S2x1x8x256x512_S1x1x1x256x512_1_0_6_0_0 x,
    fun x => piece x0 x2 x3 x5 x6 x7 x8 5 _ _ (by decide) rfl rfl _ (place i 5#32 (by decide)) _ _ _ _ _ _ _ inb_S2x1x8x256x512_S1x1x1x256x512_1_0_5_0_0 x,
    fun x => piece x0 x2 x3 x5 x6 x7 x8 4 _ _ (by decide) rfl rfl _ (place i 4#32 (by decide)) _ _ _ _ _ _ _ inb_S2x1x8x256x512_S1x1x1x256x512_1_0_4_0_0 x,
    fun x => piece x0 x2 x3 x5 x6 x7 x8 3 _ _ (by decide) rfl rfl _ (place i 3#32 (by decide)) _ _ _ _ _ _ _ inb_S2x1x8x256x512_S1x1x1x256x512_1_0_3_0_0 x,
    fun x => piece x0 x2 x3 x5 x6 x7 x8 2 _ _ (by decide) rfl rfl _ (place i 2#32 (by decide)) _ _ _ _ _ _ _ inb_S2x1x8x256x512_S1x1x1x256x512_1_0_2_0_0 x,
    fun x => piece x0 x2 x3 x5 x6 x7 x8 1 _ _ (by decide) rfl rfl _ (place i 1#32 (by decide)) _ _ _ _ _ _ _ inb_S2x1x8x256x512_S1x1x1x256x512_1_0_1_0_0 x,
    fun x => piece x0 x2 x3 x5 x6 x7 x8 0 _ _ (by decide) rfl rfl _ (place i 0#32 (by decide)) _ _ _ _ _ _ _ inb_S2x1x8x256x512_S1x1x1x256x512_1_0_0_0_0 x, trivial⟩

end Out

/-! ## The operands -/

variable (m : (ℓ : Loc nD τ sig) → Buf (Elt Ideal) ℓ)

theorem places : ∀ t : Fin grid0.N, cc0_transform_0 (grid0.coords t) 0 = 0
    ∧ (cc0_transform_2 (grid0.coords t) 0 = 512 + t.val ∧ cc0_transform_2 (grid0.coords t) 1 = 1)
    ∧ (cc0_transform_3 (grid0.coords t) 0 = 512 + t.val ∧ cc0_transform_3 (grid0.coords t) 1 = 1)
    ∧ (cc0_transform_5 (grid0.coords t) 0 = 512 + t.val ∧ cc0_transform_5 (grid0.coords t) 1 = 0)
    ∧ (cc0_transform_6 (grid0.coords t) 0 = 512 + t.val ∧ cc0_transform_6 (grid0.coords t) 1 = 0)
    ∧ (cc0_transform_7 (grid0.coords t) 0 = 1 ∧ cc0_transform_7 (grid0.coords t) 1 = t.val ∧ cc0_transform_7 (grid0.coords t) 2 = 0 ∧ cc0_transform_7 (grid0.coords t) 3 = 0 ∧ cc0_transform_7 (grid0.coords t) 4 = 0)
    ∧ (cc0_transform_8 (grid0.coords t) 0 = 0 ∧ cc0_transform_8 (grid0.coords t) 1 = t.val ∧ cc0_transform_8 (grid0.coords t) 2 = 0 ∧ cc0_transform_8 (grid0.coords t) 3 = 0 ∧ cc0_transform_8 (grid0.coords t) 4 = 0)
    ∧ (cc0_transform_10 (grid0.coords t) 0 = 0 ∧ cc0_transform_10 (grid0.coords t) 1 = t.val ∧ cc0_transform_10 (grid0.coords t) 2 = 0 ∧ cc0_transform_10 (grid0.coords t) 3 = 0 ∧ cc0_transform_10 (grid0.coords t) 4 = 0) := by decide +kernel

theorem decay_apply (c : Dev nD) (t : Fin cfg0.N) (j j' : Fin 8) (h : j'.val = j.val) : iblk m c 0 t (ix1 j) = m ((c : Thread nD τ).loc main_arg3) (ix1 j') := by
  obtain ⟨h0, -⟩ := places t
  blk_simp [iblk]
  rw [V_main_arg3]
  refine congrArg (m ((c : Thread nD τ).loc main_arg3)) (funext fun a => Fin.ext ?_)
  match a with
  | ⟨0, _⟩ => show cc0_transform_0 (grid0.coords t) 0 * 8 + 1 * j.val = j'.val; rw [h0, h]; omega

theorem k_apply (c : Dev nD) (t : Fin cfg0.N) (r : Fin 16) (n : Fin 2048) (r' : Fin 8704) (n' : Fin 12288) (hr : r'.val = 8192 + t.val * 16 + r.val) (hn : n'.val = 2048 + n.val) :
    iblk m c 2 t (ix2 r n) = m ((c : Thread nD τ).loc main_arg0) (ix2 r' n') := by
  obtain ⟨-, ⟨h0, h1⟩, -⟩ := places t
  blk_simp [iblk]
  rw [V_main_arg0]
  refine congrArg (m ((c : Thread nD τ).loc main_arg0)) (funext fun a => Fin.ext ?_)
  match a with
  | ⟨0, _⟩ => show cc0_transform_2 (grid0.coords t) 0 * 16 + 1 * r.val = r'.val; rw [h0, hr]; omega
  | ⟨1, _⟩ => show cc0_transform_2 (grid0.coords t) 1 * 2048 + 1 * n.val = n'.val; rw [h1, hn]; omega

theorem v_apply (c : Dev nD) (t : Fin cfg0.N) (r : Fin 16) (n : Fin 4096) (r' : Fin 8704) (n' : Fin 12288) (hr : r'.val = 8192 + t.val * 16 + r.val) (hn : n'.val = 4096 + n.val) :
    iblk m c 3 t (ix2 r n) = m ((c : Thread nD τ).loc main_arg0) (ix2 r' n') := by
  obtain ⟨-, -, ⟨h0, h1⟩, -⟩ := places t
  blk_simp [iblk]
  rw [V_main_arg0]
  refine congrArg (m ((c : Thread nD τ).loc main_arg0)) (funext fun a => Fin.ext ?_)
  match a with
  | ⟨0, _⟩ => show cc0_transform_3 (grid0.coords t) 0 * 16 + 1 * r.val = r'.val; rw [h0, hr]; omega
  | ⟨1, _⟩ => show cc0_transform_3 (grid0.coords t) 1 * 4096 + 1 * n.val = n'.val; rw [h1, hn]; omega

theorem cos_apply (c : Dev nD) (t : Fin cfg0.N) (r : Fin 16) (n : Fin 128) (r' : Fin 8704) (hr : r'.val = 8192 + t.val * 16 + r.val) :
    iblk m c 5 t (ix2 r n) = m ((c : Thread nD τ).loc main_arg1) (ix2 r' n) := by
  obtain ⟨-, -, -, ⟨h0, h1⟩, -⟩ := places t
  blk_simp [iblk]
  rw [V_main_arg1]
  refine congrArg (m ((c : Thread nD τ).loc main_arg1)) (funext fun a => Fin.ext ?_)
  match a with
  | ⟨0, _⟩ => show cc0_transform_5 (grid0.coords t) 0 * 16 + 1 * r.val = r'.val; rw [h0, hr]; omega
  | ⟨1, _⟩ => show cc0_transform_5 (grid0.coords t) 1 * 128 + 1 * n.val = n.val; rw [h1]; omega

theorem sin_apply (c : Dev nD) (t : Fin cfg0.N) (r : Fin 16) (n : Fin 128) (r' : Fin 8704) (hr : r'.val = 8192 + t.val * 16 + r.val) :
    iblk m c 6 t (ix2 r n) = m ((c : Thread nD τ).loc main_arg2) (ix2 r' n) := by
  obtain ⟨-, -, -, -, ⟨h0, h1⟩, -⟩ := places t
  blk_simp [iblk]
  rw [V_main_arg2]
  refine congrArg (m ((c : Thread nD τ).loc main_arg2)) (funext fun a => Fin.ext ?_)
  match a with
  | ⟨0, _⟩ => show cc0_transform_6 (grid0.coords t) 0 * 16 + 1 * r.val = r'.val; rw [h0, hr]; omega
  | ⟨1, _⟩ => show cc0_transform_6 (grid0.coords t) 1 * 128 + 1 * n.val = n.val; rw [h1]; omega

theorem state_apply (c : Dev nD) (t : Fin cfg0.N) (j j' : Fin 8) (d d' : Fin 256) (e e' : Fin 512) (b : Fin 32)
    (hb : b.val = t.val) (hj : j'.val = j.val) (hd : d'.val = d.val) (he : e'.val = e.val) :
    iblk m c 7 t (ix5 (0 : Fin 1) (0 : Fin 1) j d e) = m ((c : Thread nD τ).loc main_arg4) (ix5 (1 : Fin 2) b j' d' e') := by
  obtain ⟨-, -, -, -, -, ⟨h0, h1, h2, h3, h4⟩, -⟩ := places t
  blk_simp [iblk]
  rw [V_main_arg4]
  refine congrArg (m ((c : Thread nD τ).loc main_arg4)) (funext fun a => Fin.ext ?_)
  match a with
  | ⟨0, _⟩ => show cc0_transform_7 (grid0.coords t) 0 * 1 + 1 * 0 = 1; rw [h0]
  | ⟨1, _⟩ => show cc0_transform_7 (grid0.coords t) 1 * 1 + 1 * 0 = b.val; rw [h1, hb]; omega
  | ⟨2, _⟩ => show cc0_transform_7 (grid0.coords t) 2 * 8 + 1 * j.val = j'.val; rw [h2, hj]; omega
  | ⟨3, _⟩ => show cc0_transform_7 (grid0.coords t) 3 * 256 + 1 * d.val = d'.val; rw [h3, hd]; omega
  | ⟨4, _⟩ => show cc0_transform_7 (grid0.coords t) 4 * 512 + 1 * e.val = e'.val; rw [h4, he]; omega

theorem before_apply (c : Dev nD) (t : Fin cfg0.N) (j j' : Fin 8) (d d' : Fin 256) (e e' : Fin 512) (b : Fin 32)
    (hb : b.val = t.val) (hj : j'.val = j.val) (hd : d'.val = d.val) (he : e'.val = e.val) :
    iblk m c 8 t (ix5 (0 : Fin 1) (0 : Fin 1) j d e) = m ((c : Thread nD τ).loc main_arg5) (ix5 (0 : Fin 1) b j' d' e') := by
  obtain ⟨-, -, -, -, -, -, ⟨h0, h1, h2, h3, h4⟩, -⟩ := places t
  blk_simp [iblk]
  rw [V_main_arg5]
  refine congrArg (m ((c : Thread nD τ).loc main_arg5)) (funext fun a => Fin.ext ?_)
  match a with
  | ⟨0, _⟩ => show cc0_transform_8 (grid0.coords t) 0 * 1 + 1 * 0 = 0; rw [h0]
  | ⟨1, _⟩ => show cc0_transform_8 (grid0.coords t) 1 * 1 + 1 * 0 = b.val; rw [h1, hb]; omega
  | ⟨2, _⟩ => show cc0_transform_8 (grid0.coords t) 2 * 8 + 1 * j.val = j'.val; rw [h2, hj]; omega
  | ⟨3, _⟩ => show cc0_transform_8 (grid0.coords t) 3 * 256 + 1 * d.val = d'.val; rw [h3, hd]; omega
  | ⟨4, _⟩ => show cc0_transform_8 (grid0.coords t) 4 * 512 + 1 * e.val = e'.val; rw [h4, he]; omega

/-! ## The result -/

/-- The row of a sample. -/
def row (b : Fin 32) (r : Fin 16) : Fin 8704 := ⟨8192 + b.val * 16 + r.val, by have := b.isLt; have := r.isLt; omega⟩

/-- The column of a head's key. -/
def keyCol (h : Fin 8) (d : Fin 256) : Fin 12288 := ⟨2048 + (h.val * 256 + d.val), by have := h.isLt; have := d.isLt; omega⟩

/-- The column of a head's value. -/
def valCol (h : Fin 8) (e : Fin 512) : Fin 12288 := ⟨4096 + (h.val * 512 + e.val), by have := h.isLt; have := e.isLt; omega⟩

/-- The states of the layer before, and under them this layer's new states. -/
def prod (q : S8704x12288.Idx → EReal) (ca sa : S8704x128.Idx → EReal) (lg : S8.Idx → EReal) (st : S2x32x8x256x512.Idx → EReal) (bf : S1x32x8x256x512.Idx → EReal) (i : S2x32x8x256x512.Idx) : EReal :=
  if (i 0).val = 0 then bf (ix5 (0 : Fin 1) (i 1) (i 2) (i 3) (i 4)) else
    step (st (ix5 (1 : Fin 2) (i 1) (i 2) (i 3) (i 4))) (lg (ix1 (i 2))) (fun r d => q (ix2 (row (i 1) r) (keyCol (i 2) d)))
      (fun r d => ca (ix2 (row (i 1) r) d)) (fun r d => sa (ix2 (row (i 1) r) d)) (fun r => q (ix2 (row (i 1) r) (valCol (i 2) (i 4)))) (i 3)

theorem out_apply (c : Dev nD) (t : Fin cfg0.N) (y : S2x1x8x256x512.Idx) (i : S2x32x8x256x512.Idx) (h0 : (i 0).val = (y 0).val) (h1 : (i 1).val = t.val)
    (h2 : (i 2).val = (y 2).val) (h3 : (i 3).val = (y 3).val) (h4 : (i 4).val = (y 4).val) :
    (outsAt0 m c t).2 y = prod (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) i := by
  unfold outsAt0
  dsimp only
  rw [out_eq]
  unfold part prod
  rw [h0]
  split
  · exact before_apply m c t (y 2) (i 2) (y 3) (i 3) (y 4) (i 4) (i 1) h1 h2 h3 h4
  · refine step_congr ?_ ?_ (fun r d => ?_) (fun r d => ?_) (fun r d => ?_) (fun r => ?_) (Fin.ext h3.symm)
    · exact state_apply m c t (y 2) (i 2) (y 3) (i 3) (y 4) (i 4) (i 1) h1 h2 h3 h4
    · exact decay_apply m c t (y 2) (i 2) h2
    · refine k_apply m c t r _ (row (i 1) r) (keyCol (i 2) d) ?_ ?_
      · show 8192 + (i 1).val * 16 + r.val = _; rw [h1]
      · show 2048 + ((i 2).val * 256 + d.val) = _; rw [h2]
    · refine cos_apply m c t r d (row (i 1) r) ?_
      show 8192 + (i 1).val * 16 + r.val = _; rw [h1]
    · refine sin_apply m c t r d (row (i 1) r) ?_
      show 8192 + (i 1).val * 16 + r.val = _; rw [h1]
    · refine v_apply m c t r _ (row (i 1) r) (valCol (i 2) (i 4)) ?_ ?_
      · show 8192 + (i 1).val * 16 + r.val = _; rw [h1]
      · show 4096 + ((i 2).val * 512 + (i 4).val) = _; rw [h2, h4]

theorem covers : (cfg0.win 10).Covers :=
  Pipeline.Window.covers_of_index_surj _ rfl (show ∀ a : Fin 5, 0 < S2x1x8x256x512.size a by decide) fun β => by
    have b0 : (β (0 : Fin 5)).val < 1 := lt_of_lt_of_eq (β (0 : Fin 5)).isLt (show (2 + 2 - 1) / 2 = 1 by decide)
    have b1 : (β (1 : Fin 5)).val < 32 := lt_of_lt_of_eq (β (1 : Fin 5)).isLt (show (32 + 1 - 1) / 1 = 32 by decide)
    have b2 : (β (2 : Fin 5)).val < 1 := lt_of_lt_of_eq (β (2 : Fin 5)).isLt (show (8 + 8 - 1) / 8 = 1 by decide)
    have b3 : (β (3 : Fin 5)).val < 1 := lt_of_lt_of_eq (β (3 : Fin 5)).isLt (show (256 + 256 - 1) / 256 = 1 by decide)
    have b4 : (β (4 : Fin 5)).val < 1 := lt_of_lt_of_eq (β (4 : Fin 5)).isLt (show (512 + 512 - 1) / 512 = 1 by decide)
    have hN : (β (1 : Fin 5)).val < grid0.N := lt_of_lt_of_eq b1 (by decide)
    obtain ⟨-, -, -, -, -, -, -, q0, q1, q2, q3, q4⟩ := places ⟨_, hN⟩
    refine ⟨⟨(β (1 : Fin 5)).val, hN⟩, fun a => ?_⟩
    match a with
    | ⟨0, _⟩ => exact q0.trans (by show 0 = (β (0 : Fin 5)).val; omega)
    | ⟨1, _⟩ => exact q1
    | ⟨2, _⟩ => exact q2.trans (by show 0 = (β (2 : Fin 5)).val; omega)
    | ⟨3, _⟩ => exact q3.trans (by show 0 = (β (3 : Fin 5)).val; omega)
    | ⟨4, _⟩ => exact q4.trans (by show 0 = (β (4 : Fin 5)).val; omega)

theorem arr_eq (c : Dev nD) : (dats m 0 c).arrAt 10 cfg0.N
    = prod (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 10 _ covers fun t hf y => ?_
  blk_simp
  obtain ⟨-, -, -, -, -, -, -, q0, q1, q2, q3, q4⟩ := places t
  rw [after0_10]
  refine out_apply m c t y _ ?_ ?_ ?_ ?_ ?_
  · show cc0_transform_10 (grid0.coords t) 0 * 2 + 1 * (y (0 : Fin 5)).val = _
    rw [q0]; omega
  · show cc0_transform_10 (grid0.coords t) 1 * 1 + 1 * (y (1 : Fin 5)).val = _
    have h : (y (1 : Fin 5)).val < 1 := (y (1 : Fin 5)).isLt
    rw [q1]; omega
  · show cc0_transform_10 (grid0.coords t) 2 * 8 + 1 * (y (2 : Fin 5)).val = _
    rw [q2]; omega
  · show cc0_transform_10 (grid0.coords t) 3 * 256 + 1 * (y (3 : Fin 5)).val = _
    rw [q3]; omega
  · show cc0_transform_10 (grid0.coords t) 4 * 512 + 1 * (y (4 : Fin 5)).val = _
    rw [q4]; omega

/-- The kernel runs, leaves the states and changes no argument. -/
theorem run (g : Dev nD → PrngReg) : θ_run defs (onTc (τ := τ) (main (F := Ideal))) ⟨m, fun _ => 0, g⟩ (fun r => ∀ c : Dev nD,
      r.2.mem ((c.tc : Thread nD τ).loc main_v0_1)
        = prod (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).2.1.trans (arr_eq m c), (h c).2.2⟩) (Value.run_blocks (F := Ideal) m g)

end Cert.RetIdeal.Hand

/-! ## The reference -/

namespace Cert.RetRefIdeal.Hand

open Cert.RetRefIdeal Cert.RetRefIdeal.Gen Cert.RetRefIdeal.Read Idealize.ShloMosaic Idealize.ShloMosaic.TcCoe Idealize.SL.Sem
open Cert.RetIdeal.Hand (prod step turned row keyCol valCol step_congr)

variable (q : S8704x12288.Idx → EReal) (ca sa : S8704x128.Idx → EReal) (lg : S8.Idx → EReal) (st : S2x32x8x256x512.Idx → EReal) (bf : S1x32x8x256x512.Idx → EReal)

theorem key_read (i : S32x16x8x256.Idx) : val_main_v1 (F := Ideal) q i = q (ix2 (row (i 0) (i 1)) (keyCol (i 2) (i 3))) := by
  rw [val_main_v1_apply, val_main_v0_apply]
  refine congrArg q (funext fun a => Fin.ext ?_)
  have h0 : (i 0).val < 32 := (i 0).isLt
  have h1 : (i 1).val < 16 := (i 1).isLt
  have h2 : (i 2).val < 8 := (i 2).isLt
  have h3 : (i 3).val < 256 := (i 3).isLt
  match a with
  | ⟨0, _⟩ => show 8192 + ((((i 0).val * 16 + (i 1).val) * 8 + (i 2).val) * 256 + (i 3).val) / 2048 = 8192 + (i 0).val * 16 + (i 1).val; omega
  | ⟨1, _⟩ => show 2048 + ((((i 0).val * 16 + (i 1).val) * 8 + (i 2).val) * 256 + (i 3).val) % 2048 = 2048 + ((i 2).val * 256 + (i 3).val); omega

theorem value_read (i : S32x16x8x512.Idx) : val_main_v3 (F := Ideal) q i = q (ix2 (row (i 0) (i 1)) (valCol (i 2) (i 3))) := by
  rw [val_main_v3_apply, val_main_v2_apply]
  refine congrArg q (funext fun a => Fin.ext ?_)
  have h0 : (i 0).val < 32 := (i 0).isLt
  have h1 : (i 1).val < 16 := (i 1).isLt
  have h2 : (i 2).val < 8 := (i 2).isLt
  have h3 : (i 3).val < 512 := (i 3).isLt
  match a with
  | ⟨0, _⟩ => show 8192 + ((((i 0).val * 16 + (i 1).val) * 8 + (i 2).val) * 512 + (i 3).val) / 4096 = 8192 + (i 0).val * 16 + (i 1).val; omega
  | ⟨1, _⟩ => show 4096 + ((((i 0).val * 16 + (i 1).val) * 8 + (i 2).val) * 512 + (i 3).val) % 4096 = 4096 + ((i 2).val * 512 + (i 3).val); omega

theorem cos_read (i : S32x16x1x128.Idx) : val_main_v5 (F := Ideal) ca i = ca (ix2 (row (i 0) (i 1)) (i 3)) := by
  rw [val_main_v5_apply, val_main_v4_apply]
  refine congrArg ca (funext fun a => Fin.ext ?_)
  have h0 : (i 0).val < 32 := (i 0).isLt
  have h1 : (i 1).val < 16 := (i 1).isLt
  have h2 : (i 2).val < 1 := (i 2).isLt
  have h3 : (i 3).val < 128 := (i 3).isLt
  match a with
  | ⟨0, _⟩ => show 8192 + ((((i 0).val * 16 + (i 1).val) * 1 + (i 2).val) * 128 + (i 3).val) / 128 = 8192 + (i 0).val * 16 + (i 1).val; omega
  | ⟨1, _⟩ => show ((((i 0).val * 16 + (i 1).val) * 1 + (i 2).val) * 128 + (i 3).val) % 128 = (i 3).val; omega

/-- The sines are sliced and reshaped as the cosines are. -/
theorem sin_read (i : S32x16x1x128.Idx) : val_main_v7 (F := Ideal) sa i = sa (ix2 (row (i 0) (i 1)) (i 3)) := cos_read sa i

theorem turned_read (i : S32x16x8x256.Idx) : val_main_v20 (F := Ideal) q ca sa i
    = turned (fun d => q (ix2 (row (i 0) (i 1)) (keyCol (i 2) d))) (fun d => ca (ix2 (row (i 0) (i 1)) d)) (fun d => sa (ix2 (row (i 0) (i 1)) d)) (i 3) := by
  have h3 : (i 3).val < 256 := (i 3).isLt
  unfold val_main_v20 turned
  by_cases h : (i 3).val < 128
  · rw [dif_pos h]
    refine (concatenate_pair_apply_left _ (val_main_v14 (F := Ideal) q ca sa) (val_main_v19 (F := Ideal) q ca sa) concatenates_S32x16x8x128_S32x16x8x128_S32x16x8x256_d3 i rfl (ix4 (i 0) (i 1) (i 2) (⟨(i 3).val, h⟩ : Fin 128)) fun b => ?_).trans ?_
    · match b with
      | ⟨0, _⟩ => rfl
      | ⟨1, _⟩ => rfl
      | ⟨2, _⟩ => rfl
      | ⟨3, _⟩ => rfl
    · rw [val_main_v14_apply, val_main_v11_apply, val_main_v13_apply, val_main_v8_apply, val_main_v9_apply, val_main_v10_apply, val_main_v12_apply, key_read, key_read, cos_read, sin_read]
      rfl
  · rw [dif_neg h]
    refine (concatenate_pair_apply_right _ (val_main_v14 (F := Ideal) q ca sa) (val_main_v19 (F := Ideal) q ca sa) concatenates_S32x16x8x128_S32x16x8x128_S32x16x8x256_d3 i rfl rfl (ix4 (i 0) (i 1) (i 2) (⟨(i 3).val - 128, by omega⟩ : Fin 128)) (fun b hb => ?_) ?_).trans ?_
    · match b with
      | ⟨0, _⟩ => rfl
      | ⟨1, _⟩ => rfl
      | ⟨2, _⟩ => rfl
      | ⟨3, _⟩ => exact absurd rfl hb
    · show (i 3).val - 128 + 128 = (i 3).val
      omega
    · rw [val_main_v19_apply, val_main_v16_apply, val_main_v18_apply, val_main_v8_apply, val_main_v9_apply, val_main_v15_apply, val_main_v17_apply, key_read, key_read, cos_read, sin_read]
      rfl

/-- The decay from a row to the last. -/
theorem decay_read (i : S32x16x8x256.Idx) : val_main_v41 (F := Ideal) lg i
    = Ideal.exp ((Ideal.ofBits .f32 0x41700000#32 - FloatOps.sitofp (F := Ideal) .f32 (BitVec.ofNat 32 (i 1).val)) * lg (ix1 (i 2))) := by
  rw [val_main_v41_apply, val_main_v40_apply, val_main_v31_apply, val_main_v30_apply, val_main_v28_apply, val_main_v26_apply, val_main_v25_apply,
    val_main_v24_apply, val_main_v29_apply, val_main_v27_apply]
  refine congrArg Ideal.exp (congrArg₂ (· * ·) rfl (congrArg lg (funext fun a => ?_)))
  match a with
  | ⟨0, _⟩ => rfl

theorem state_read (i : S32x8x256x512.Idx) : val_main_v33 (F := Ideal) st i = st (ix5 (1 : Fin 2) (i 0) (i 1) (i 2) (i 3)) := by
  rw [val_main_v33_apply, val_main_v32_apply]
  refine congrArg st (funext fun a => Fin.ext ?_)
  have h0 : (i 0).val < 32 := (i 0).isLt
  have h1 : (i 1).val < 8 := (i 1).isLt
  have h2 : (i 2).val < 256 := (i 2).isLt
  have h3 : (i 3).val < 512 := (i 3).isLt
  match a with
  | ⟨0, _⟩ => rfl
  | ⟨1, _⟩ => show ((((i 0).val * 8 + (i 1).val) * 256 + (i 2).val) * 512 + (i 3).val) / 1048576 % 32 = (i 0).val; omega
  | ⟨2, _⟩ => show ((((i 0).val * 8 + (i 1).val) * 256 + (i 2).val) * 512 + (i 3).val) / 131072 % 8 = (i 1).val; omega
  | ⟨3, _⟩ => show ((((i 0).val * 8 + (i 1).val) * 256 + (i 2).val) * 512 + (i 3).val) / 512 % 256 = (i 2).val; omega
  | ⟨4, _⟩ => show ((((i 0).val * 8 + (i 1).val) * 256 + (i 2).val) * 512 + (i 3).val) % 512 = (i 3).val; omega

theorem before_read (i : S32x8x256x512.Idx) : val_main_v45 (F := Ideal) bf i = bf (ix5 (0 : Fin 1) (i 0) (i 1) (i 2) (i 3)) := by
  rw [val_main_v45_apply]
  refine congrArg bf (funext fun a => Fin.ext ?_)
  have h0 : (i 0).val < 32 := (i 0).isLt
  have h1 : (i 1).val < 8 := (i 1).isLt
  have h2 : (i 2).val < 256 := (i 2).isLt
  have h3 : (i 3).val < 512 := (i 3).isLt
  match a with
  | ⟨0, _⟩ => rfl
  | ⟨1, _⟩ => show ((((i 0).val * 8 + (i 1).val) * 256 + (i 2).val) * 512 + (i 3).val) / 1048576 % 32 = (i 0).val; omega
  | ⟨2, _⟩ => show ((((i 0).val * 8 + (i 1).val) * 256 + (i 2).val) * 512 + (i 3).val) / 131072 % 8 = (i 1).val; omega
  | ⟨3, _⟩ => show ((((i 0).val * 8 + (i 1).val) * 256 + (i 2).val) * 512 + (i 3).val) / 512 % 256 = (i 2).val; omega
  | ⟨4, _⟩ => show ((((i 0).val * 8 + (i 1).val) * 256 + (i 2).val) * 512 + (i 3).val) % 512 = (i 3).val; omega

/-- The decay over all sixteen rows. -/
theorem whole_read (i : S32x8x256x512.Idx) : val_main_v38 (F := Ideal) lg i = Ideal.exp (Ideal.ofBits .f32 0x41800000#32 * lg (ix1 (i 1))) := by
  rw [val_main_v38_apply, val_main_v37_apply, val_main_v36_apply, val_main_v35_apply, val_main_v34_apply]
  refine congrArg Ideal.exp (congrArg₂ (· * ·) rfl (congrArg lg (funext fun a => ?_)))
  match a with
  | ⟨0, _⟩ => rfl

theorem step_read (i : S32x8x256x512.Idx) : val_main_v44 (F := Ideal) q ca sa lg st i
    = step (st (ix5 (1 : Fin 2) (i 0) (i 1) (i 2) (i 3))) (lg (ix1 (i 1))) (fun r d => q (ix2 (row (i 0) r) (keyCol (i 1) d)))
      (fun r d => ca (ix2 (row (i 0) r) d)) (fun r d => sa (ix2 (row (i 0) r) d)) (fun r => q (ix2 (row (i 0) r) (valCol (i 1) (i 3)))) (i 2) := by
  rw [val_main_v44_apply, val_main_v39_apply, val_main_v43_apply, state_read, whole_read]
  unfold step
  refine congrArg₂ (· + ·) rfl (Finset.sum_congr rfl fun r _ => ?_)
  rw [val_main_v42_apply, val_main_v22_apply, turned_read, decay_read, value_read, val_main_v21_apply]
  rfl

theorem result_eq : val_main_v48 (F := Ideal) q ca sa lg st bf = prod q ca sa lg st bf := by
  funext i
  have h0 : (i 0).val < 2 := (i 0).isLt
  unfold val_main_v48 prod
  by_cases h : (i 0).val = 0
  · rw [if_pos h]
    refine (concatenate_pair_apply_left _ (val_main_v46 (F := Ideal) bf) (val_main_v47 (F := Ideal) q ca sa lg st) concatenates_S1x32x8x256x512_S1x32x8x256x512_S2x32x8x256x512_d0 i rfl (ix5 (0 : Fin 1) (i 1) (i 2) (i 3) (i 4)) fun b => ?_).trans ?_
    · match b with
      | ⟨0, _⟩ => exact h.symm
      | ⟨1, _⟩ => rfl
      | ⟨2, _⟩ => rfl
      | ⟨3, _⟩ => rfl
      | ⟨4, _⟩ => rfl
    · rw [val_main_v46_apply, before_read]
      rfl
  · rw [if_neg h]
    refine (concatenate_pair_apply_right _ (val_main_v46 (F := Ideal) bf) (val_main_v47 (F := Ideal) q ca sa lg st) concatenates_S1x32x8x256x512_S1x32x8x256x512_S2x32x8x256x512_d0 i rfl rfl (ix5 (0 : Fin 1) (i 1) (i 2) (i 3) (i 4)) (fun b hb => ?_) ?_).trans ?_
    · match b with
      | ⟨0, _⟩ => exact absurd rfl hb
      | ⟨1, _⟩ => rfl
      | ⟨2, _⟩ => rfl
      | ⟨3, _⟩ => rfl
      | ⟨4, _⟩ => rfl
    · show 0 + 1 = (i 0).val
      omega
    · rw [val_main_v47_apply, step_read]
      rfl

end Cert.RetRefIdeal.Hand

end
-- ==== Proof.AttOut.Value.lean ====
/-
  The rows added to the attended rows' product with the attention layer's last matrix, over the extended reals, read at an index. The
  attended rows stand in two arrays, the prompt's and the samples'; a point of the grid takes its block from the one it falls in.
-/
module

public import proofs.«01_k».proof.Proof.Mat.Shared
public import proofs.«01_k».proof.Proof.Gen.AttOutIdeal.Frame
public import proofs.«01_k».proof.Proof.Gen.AttOutIdeal.Value
public import proofs.«01_k».proof.Proof.Gen.AttOutRefIdeal.Read

@[expose] public section

set_option maxRecDepth 16384

noncomputable section

namespace Cert.AttOutIdeal.Hand

open Cert.AttOutIdeal Cert.AttOutIdeal.Gen Cert.Mat Idealize.ShloMosaic Idealize.ShloMosaic.TcCoe Idealize.SL.Sem
open Idealize.ShloMosaic.Tactic

/-! ## The operations -/

theorem pay1_apply (v : Vec Ideal S1x2048x1024 .f32) (y : S2048x1024.Idx) : k0_pay1 (F := Ideal) v y = v (ix3 (0 : Fin 1) (y 0) (y 1)) := by
  unfold_payloads
  pointwise

/-- The block that a point takes. -/
def taken (i : grid0.Coords) (a b : Vec Ideal S512x2048 .bf16) : Vec Ideal S512x2048 .bf16 := if (i 1).val < 16 then a else b

theorem taken_eq (i : grid0.Coords) (a b : Vec Ideal S512x2048 .bf16) :
    Scalar.select (Scalar.cmpi .slt (BitVec.ofNat 32 (i 1).val) 16#32) a b = taken i a b := by
  unfold taken
  rw [below16 (i 1)]
  unfold Scalar.select
  split_ifs <;> first | rfl | contradiction

theorem pay2_apply (i : grid0.Coords) (w : Vec Ideal S2048x1024 .bf16) (a b : Vec Ideal S512x2048 .bf16) (r : Vec Ideal S512x1024 .f32) (y : S512x1024.Idx) :
    k0_pay2 (F := Ideal) i w a b r y = (r y + ∑ k : Fin 2048, (taken i a b (ix2 (y 0) k) * w (ix2 k (y 1)) : EReal) : EReal) := by
  unfold_payloads
  rw [taken_eq]
  generalize taken i a b = v
  pointwise

/-! ## What a point leaves -/

section Point
variable (c : Dev nD) (i : grid0.Coords) (arg2 : Memref sig .tc .vmem S512x2048 .bf16) (harg2 : arg2.IsWhole)
  (arg3 : Memref sig .tc .vmem S512x2048 .bf16) (harg3 : arg3.IsWhole) (arg4 : Memref sig .tc .vmem S1x2048x1024 .f32) (harg4 : arg4.IsWhole)
  (arg5 : Memref sig .tc .vmem S512x1024 .f32) (harg5 : arg5.IsWhole)
  (arg6 : Memref sig .tc .vmem S512x1024 .f32) (harg6 : arg6.IsWhole) (arg7 : Memref sig .tc .vmem S2048x1024 .bf16) (harg7 : arg7.IsWhole)
  (x0 x1 : Vec Ideal S512x2048 .bf16) (x2 : Vec Ideal S1x2048x1024 .f32) (x3 : Vec Ideal S512x1024 .f32) (xs : Vec Ideal S2048x1024 .bf16)

theorem carry_first (h : cond0_0 i) : sout0_A_0 (F := Ideal) c i arg2 harg2 arg3 harg3 arg4 harg4 arg5 harg5 arg6 harg6 arg7 harg7 h x0 x1 x2 x3 = k0_pay1 (F := Ideal) x2 := by
  unfold sout0_A_0
  rw [View.read_writes_junk_eq_canon]
  unfold kernelRun0_A
  dsimp only
  sl_unfold_words
  rw [load_whole arg4 harg4 x2 _ _ zero3]
  exact View.canon_cons_unit_lit _ _ _ (congrFun zero2)

theorem out_first (h : cond0_0 i) : out0_A_4 (F := Ideal) c i arg2 harg2 arg3 harg3 arg4 harg4 arg5 harg5 arg6 harg6 arg7 harg7 h x0 x1 x2 x3
    = k0_pay2 (F := Ideal) i (k0_pay1 (F := Ideal) x2) x0 x1 x3 := by
  unfold out0_A_4
  rw [View.read_writes_junk_eq_canon]
  unfold kernelRun0_A
  dsimp only
  sl_unfold_words
  rw [load_whole arg2 harg2 x0 _ _ zero2, load_whole arg3 harg3 x1 _ _ zero2, load_whole arg4 harg4 x2 _ _ zero3, load_whole arg5 harg5 x3 _ _ zero2]
  refine (View.canon_cons_unit_lit _ _ _ (congrFun zero2)).trans ?_
  exact congrArg (fun z => k0_pay2 (F := Ideal) i z x0 x1 x3) (View.readCov_unit_lit _ _ _ (congrFun zero2))

theorem out_later (h : ¬cond0_0 i) : out0_B_4 (F := Ideal) c i arg2 harg2 arg3 harg3 arg4 harg4 arg5 harg5 arg6 harg6 arg7 harg7 h x0 x1 x2 x3 xs
    = k0_pay2 (F := Ideal) i xs x0 x1 x3 := by
  unfold out0_B_4
  rw [View.read_writes_junk_eq_canon]
  unfold kernelRun0_B
  dsimp only
  sl_unfold_words
  rw [load_whole arg2 harg2 x0 _ _ zero2, load_whole arg3 harg3 x1 _ _ zero2, load_whole arg5 harg5 x3 _ _ zero2, load_whole arg7 harg7 xs _ _ zero2]
  exact View.canon_cons_unit_lit _ _ _ (congrFun zero2)

end Point

/-! ## The operands -/

variable (m : (ℓ : Loc nD τ sig) → Buf (Elt Ideal) ℓ)

theorem places : ∀ t : Fin grid0.N, cc0_transform_2 (grid0.coords t) 0 = 0 ∧ cc0_transform_2 (grid0.coords t) 1 = 0 ∧ cc0_transform_2 (grid0.coords t) 2 = t.val / 17
    ∧ cc0_transform_3 (grid0.coords t) 0 = t.val % 17 ∧ cc0_transform_3 (grid0.coords t) 1 = t.val / 17
    ∧ cc0_transform_4 (grid0.coords t) 0 = t.val % 17 ∧ cc0_transform_4 (grid0.coords t) 1 = t.val / 17 := by decide +kernel

theorem places_rows : ∀ t : Fin grid0.N, (grid0.coords t 1).val = t.val % 17 ∧ cc0_transform_0 (grid0.coords t) 0 = min (t.val % 17) 15 ∧ cc0_transform_0 (grid0.coords t) 1 = 0
    ∧ cc0_transform_1 (grid0.coords t) 0 = 0 ∧ cc0_transform_1 (grid0.coords t) 1 = 0 := by decide +kernel

/-- A block of the rows, from the array it falls in. -/
theorem rows_apply (c : Dev nD) (t : Fin cfg0.N) (r : Fin 512) (k : Fin 2048) (i : Fin 8704) (hi : i.val = t.val % 17 * 512 + r.val) :
    taken (grid0.coords t) (iblk m c 0 t) (iblk m c 1 t) (ix2 r k) = joined (m ((c : Thread nD τ).loc main_arg0)) (m ((c : Thread nD τ).loc main_arg1)) i k := by
  obtain ⟨hc, h0, h1, h2, h3⟩ := places_rows t
  unfold taken joined
  rw [hc]
  by_cases h : t.val % 17 < 16
  · rw [if_pos h, dif_pos (show i.val < 8192 by omega)]
    blk_simp [iblk]
    refine congrArg (m ((c : Thread nD τ).loc main_arg0)) (funext fun a => Fin.ext ?_)
    match a with
    | ⟨0, _⟩ =>
      show cc0_transform_0 (grid0.coords t) 0 * 512 + 1 * r.val = i.val
      rw [h0, hi]; omega
    | ⟨1, _⟩ =>
      show cc0_transform_0 (grid0.coords t) 1 * 2048 + 1 * k.val = k.val
      rw [h1]; omega
  · rw [if_neg h, dif_neg (show ¬i.val < 8192 by omega)]
    blk_simp [iblk]
    refine congrArg (m ((c : Thread nD τ).loc main_arg1)) (funext fun a => Fin.ext ?_)
    match a with
    | ⟨0, _⟩ =>
      show cc0_transform_1 (grid0.coords t) 0 * 512 + 1 * r.val = i.val - 8192
      have := i.isLt
      rw [h2, hi]; omega
    | ⟨1, _⟩ =>
      show cc0_transform_1 (grid0.coords t) 1 * 2048 + 1 * k.val = k.val
      rw [h3]; omega

/-- A block of the matrix. -/
theorem mat_apply (c : Dev nD) (t : Fin cfg0.N) (k : Fin 2048) (q : Fin 1024) (n : Fin 2048) (hn : n.val = t.val / 17 * 1024 + q.val) :
    iblk m c 2 t (ix3 (0 : Fin 1) k q) = m ((c : Thread nD τ).loc main_arg2) (ix3 (0 : Fin 1) k n) := by
  obtain ⟨h0, h1, h2, -⟩ := places t
  blk_simp [iblk]
  refine congrArg (m ((c : Thread nD τ).loc main_arg2)) (funext fun a => Fin.ext ?_)
  match a with
  | ⟨0, _⟩ =>
    show cc0_transform_2 (grid0.coords t) 0 * 1 + 1 * 0 = 0
    rw [h0]
  | ⟨1, _⟩ =>
    show cc0_transform_2 (grid0.coords t) 1 * 2048 + 1 * k.val = k.val
    rw [h1]; omega
  | ⟨2, _⟩ =>
    show cc0_transform_2 (grid0.coords t) 2 * 1024 + 1 * q.val = n.val
    rw [h2, hn]; omega

/-- A block of what the product is added to. -/
theorem old_apply (c : Dev nD) (t : Fin cfg0.N) (r : Fin 512) (q : Fin 1024) (i : Fin 8704) (n : Fin 2048) (hi : i.val = t.val % 17 * 512 + r.val)
    (hn : n.val = t.val / 17 * 1024 + q.val) : iblk m c 3 t (ix2 r q) = m ((c : Thread nD τ).loc main_arg3) (ix2 i n) := by
  obtain ⟨-, -, -, h0, h1, -⟩ := places t
  blk_simp [iblk]
  refine congrArg (m ((c : Thread nD τ).loc main_arg3)) (funext fun a => Fin.ext ?_)
  match a with
  | ⟨0, _⟩ =>
    show cc0_transform_3 (grid0.coords t) 0 * 512 + 1 * r.val = i.val
    rw [h0, hi]; omega
  | ⟨1, _⟩ =>
    show cc0_transform_3 (grid0.coords t) 1 * 1024 + 1 * q.val = n.val
    rw [h1, hn]; omega

/-- What the points carry: the matrix's block of the column of blocks they are in. -/
theorem carried (c : Dev nD) : ∀ (n : ℕ) (h : n < cfg0.N) (k : Fin 2048) (q : Fin 1024) (j : Fin 2048), j.val = n / 17 * 1024 + q.val →
    (outsAt0 m c n h).2 (ix2 k q) = m ((c : Thread nD τ).loc main_arg2) (ix3 (0 : Fin 1) k j) := by
  refine carried_of 17 (fun n h => (outsAt0 m c n h).2)
    (fun b s => ∀ (k : Fin 2048) (q : Fin 1024) (j : Fin 2048), j.val = b * 1024 + q.val →
      s (ix2 k q) = m ((c : Thread nD τ).loc main_arg2) (ix3 (0 : Fin 1) k j)) (fun n h h0 k q j hj => ?_) (fun n h h0 => ?_)
  · rw [show outsAt0 m c n h = _ from outsAt0_A m c ⟨n, h⟩ h0]
    dsimp only
    rw [carry_first, pay1_apply]
    exact mat_apply m c ⟨n, h⟩ k q j hj
  · rw [show outsAt0 m c (n + 1) h = _ from outsAt0_B m c ⟨n + 1, h⟩ h0]
    rfl

/-! ## The result -/

/-- The rows' product with the matrix, added to what was there. -/
def prod (x : S8192x2048.Idx → EReal) (x' : S512x2048.Idx → EReal) (w : S1x2048x2048.Idx → EReal) (r : S8704x2048.Idx → EReal) (i : S8704x2048.Idx) : EReal :=
  r (ix2 (i 0) (i 1)) + ∑ k : Fin 2048, joined x x' (i 0) k * w (ix3 (0 : Fin 1) k (i 1))

/-- The block a point leaves. -/
theorem out_apply (c : Dev nD) (t : Fin cfg0.N) (y : S512x1024.Idx) (i : S8704x2048.Idx)
    (h0 : (i 0).val = t.val % 17 * 512 + (y 0).val) (h1 : (i 1).val = t.val / 17 * 1024 + (y 1).val) :
    (outsAt0 m c t.val t.isLt).1 y = prod (m ((c : Thread nD τ).loc main_arg0)) (m ((c : Thread nD τ).loc main_arg1)) (m ((c : Thread nD τ).loc main_arg2)) (m ((c : Thread nD τ).loc main_arg3)) i := by
  have ho : iblk m c 3 t y = m ((c : Thread nD τ).loc main_arg3) (ix2 (i 0) (i 1)) :=
    (congrArg (iblk m c 3 t) (funext fun a => by match a with | ⟨0, _⟩ => rfl | ⟨1, _⟩ => rfl)).trans (old_apply m c t (y 0) (y 1) (i 0) (i 1) h0 h1)
  by_cases h : t.val % 17 = 0
  · rw [outsAt0_A m c t h]
    dsimp only
    rw [out_first, pay2_apply]
    unfold prod
    exact congrArg₂ (· + ·) ho (Finset.sum_congr rfl fun k _ => congrArg₂ (· * ·) (rows_apply m c t _ k (i 0) h0)
      ((pay1_apply _ _).trans (mat_apply m c t k _ (i 1) h1)))
  · rw [outsAt0_B m c t h]
    dsimp only
    rw [out_later, pay2_apply]
    unfold prod
    exact congrArg₂ (· + ·) ho (Finset.sum_congr rfl fun k _ => congrArg₂ (· * ·) (rows_apply m c t _ k (i 0) h0)
      (carried m c (t.val - 1) _ k _ (i 1) (by omega)))

theorem covers : (cfg0.win 4).Covers :=
  Pipeline.Window.covers_of_index_surj _ rfl (show ∀ a : Fin 2, 0 < S512x1024.size a by decide) fun β => by
    have b0 : (β (0 : Fin 2)).val < 17 := lt_of_lt_of_eq (β (0 : Fin 2)).isLt (show (8704 + 512 - 1) / 512 = 17 by decide)
    have b1 : (β (1 : Fin 2)).val < 2 := lt_of_lt_of_eq (β (1 : Fin 2)).isLt (show (2048 + 1024 - 1) / 1024 = 2 by decide)
    have hN : (β (1 : Fin 2)).val * 17 + (β (0 : Fin 2)).val < grid0.N := by
      have : grid0.N = 34 := by decide
      omega
    refine ⟨⟨(β (1 : Fin 2)).val * 17 + (β (0 : Fin 2)).val, hN⟩, fun a => ?_⟩
    match a with
    | ⟨0, _⟩ => exact (places ⟨_, hN⟩).2.2.2.2.2.1.trans (by show _ % 17 = (β (0 : Fin 2)).val; dsimp only; omega)
    | ⟨1, _⟩ => exact (places ⟨_, hN⟩).2.2.2.2.2.2.trans (by show _ / 17 = (β (1 : Fin 2)).val; dsimp only; omega)

theorem arr_eq (c : Dev nD) : (dats m 0 c).arrAt 4 cfg0.N
    = prod (m ((c : Thread nD τ).loc main_arg0)) (m ((c : Thread nD τ).loc main_arg1)) (m ((c : Thread nD τ).loc main_arg2)) (m ((c : Thread nD τ).loc main_arg3)) := by
  refine (dats m 0 c).arrAt_eq_of_covers 4 _ covers fun t hf y => ?_
  blk_simp
  obtain ⟨-, -, -, -, -, q0, q1⟩ := places t
  rw [after0_4]
  refine out_apply m c t y _ ?_ ?_
  · show cc0_transform_4 (grid0.coords t) 0 * 512 + 1 * (y (0 : Fin 2)).val = _
    rw [q0]; omega
  · show cc0_transform_4 (grid0.coords t) 1 * 1024 + 1 * (y (1 : Fin 2)).val = _
    rw [q1]; omega

/-- The kernel runs, leaves the sum and changes no argument. -/
theorem run (g : Dev nD → PrngReg) : θ_run defs (onTc (τ := τ) (main (F := Ideal))) ⟨m, fun _ => 0, g⟩ (fun r => ∀ c : Dev nD,
      r.2.mem ((c.tc : Thread nD τ).loc main_v0)
        = prod (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (arr_eq m c), (h c).2⟩) (Value.run_blocks (F := Ideal) m g)

end Cert.AttOutIdeal.Hand

/-! ## The reference -/

namespace Cert.AttOutRefIdeal.Hand

open Cert.AttOutRefIdeal Cert.AttOutRefIdeal.Gen Cert.AttOutRefIdeal.Read Idealize.ShloMosaic Idealize.ShloMosaic.TcCoe Idealize.SL.Sem
open Cert.AttOutIdeal.Hand (prod)
open Cert.Mat (joined joined_eq)

theorem result_eq (x : S8192x2048.Idx → EReal) (x' : S512x2048.Idx → EReal) (w : S1x2048x2048.Idx → EReal) (r : S8704x2048.Idx → EReal) :
    val_main_v4 (F := Ideal) x x' w r = prod x x' w r := by
  funext j
  rw [val_main_v4_apply, val_main_v3_apply]
  unfold prod
  refine congrArg₂ (· + ·) (congrArg r (funext fun a => by match a with | ⟨0, _⟩ => rfl | ⟨1, _⟩ => rfl)) (Finset.sum_congr rfl fun k _ => congrArg₂ (· * ·) ?_ ?_)
  · refine (val_main_v1_apply (F := Ideal) x x' _).trans ?_
    exact joined_eq concatenates_S8192x2048_S512x2048_S8704x2048_d0 x x' _ (j 0) k rfl rfl
  · rw [val_main_v2_apply]
    refine congrArg w (funext fun a => Fin.ext ?_)
    have hk := k.isLt
    have hj : (j 1).val < 2048 := (j 1).isLt
    match a with
    | ⟨0, _⟩ => rfl
    | ⟨1, _⟩ => show (k.val * 2048 + (j 1).val) / 2048 % 2048 = k.val; omega
    | ⟨2, _⟩ => show (k.val * 2048 + (j 1).val) % 2048 = (j 1).val; omega

end Cert.AttOutRefIdeal.Hand
-- ==== Proof.RetOut.Value.lean ====
/-
  The rows added to the mixed rows' product with the retention layer's last matrix, over the extended reals, read at an index. The
  mixed rows stand in two arrays, the prompt's and the samples'; a point of the grid takes its block from the one it falls in.
-/
module

public import proofs.«01_k».proof.Proof.Mat.Shared
public import proofs.«01_k».proof.Proof.Gen.RetOutIdeal.Frame
public import proofs.«01_k».proof.Proof.Gen.RetOutIdeal.Value
public import proofs.«01_k».proof.Proof.Gen.RetOutRefIdeal.Read

@[expose] public section

set_option maxRecDepth 16384

noncomputable section

namespace Cert.RetOutIdeal.Hand

open Cert.RetOutIdeal Cert.RetOutIdeal.Gen Cert.Mat Idealize.ShloMosaic Idealize.ShloMosaic.TcCoe Idealize.SL.Sem
open Idealize.ShloMosaic.Tactic

/-! ## The operations -/

theorem pay1_apply (v : Vec Ideal S1x4096x512 .f32) (y : S4096x512.Idx) : k0_pay1 (F := Ideal) v y = v (ix3 (0 : Fin 1) (y 0) (y 1)) := by
  unfold_payloads
  pointwise

/-- The block that a point takes. -/
def taken (i : grid0.Coords) (a b : Vec Ideal S512x4096 .bf16) : Vec Ideal S512x4096 .bf16 := if (i 1).val < 16 then a else b

theorem taken_eq (i : grid0.Coords) (a b : Vec Ideal S512x4096 .bf16) :
    Scalar.select (Scalar.cmpi .slt (BitVec.ofNat 32 (i 1).val) 16#32) a b = taken i a b := by
  unfold taken
  rw [below16 (i 1)]
  unfold Scalar.select
  split_ifs <;> first | rfl | contradiction

theorem pay2_apply (i : grid0.Coords) (w : Vec Ideal S4096x512 .bf16) (a b : Vec Ideal S512x4096 .bf16) (r : Vec Ideal S512x512 .f32) (y : S512x512.Idx) :
    k0_pay2 (F := Ideal) i w a b r y = (r y + ∑ k : Fin 4096, (taken i a b (ix2 (y 0) k) * w (ix2 k (y 1)) : EReal) : EReal) := by
  unfold_payloads
  rw [taken_eq]
  generalize taken i a b = v
  pointwise

/-! ## What a point leaves -/

section Point
variable (c : Dev nD) (i : grid0.Coords) (arg2 : Memref sig .tc .vmem S512x4096 .bf16) (harg2 : arg2.IsWhole)
  (arg3 : Memref sig .tc .vmem S512x4096 .bf16) (harg3 : arg3.IsWhole) (arg4 : Memref sig .tc .vmem S1x4096x512 .f32) (harg4 : arg4.IsWhole)
  (arg5 : Memref sig .tc .vmem S512x512 .f32) (harg5 : arg5.IsWhole)
  (arg6 : Memref sig .tc .vmem S512x512 .f32) (harg6 : arg6.IsWhole) (arg7 : Memref sig .tc .vmem S4096x512 .bf16) (harg7 : arg7.IsWhole)
  (x0 x1 : Vec Ideal S512x4096 .bf16) (x2 : Vec Ideal S1x4096x512 .f32) (x3 : Vec Ideal S512x512 .f32) (xs : Vec Ideal S4096x512 .bf16)

theorem carry_first (h : cond0_0 i) : sout0_A_0 (F := Ideal) c i arg2 harg2 arg3 harg3 arg4 harg4 arg5 harg5 arg6 harg6 arg7 harg7 h x0 x1 x2 x3 = k0_pay1 (F := Ideal) x2 := by
  unfold sout0_A_0
  rw [View.read_writes_junk_eq_canon]
  unfold kernelRun0_A
  dsimp only
  sl_unfold_words
  rw [load_whole arg4 harg4 x2 _ _ zero3]
  exact View.canon_cons_unit_lit _ _ _ (congrFun zero2)

theorem out_first (h : cond0_0 i) : out0_A_4 (F := Ideal) c i arg2 harg2 arg3 harg3 arg4 harg4 arg5 harg5 arg6 harg6 arg7 harg7 h x0 x1 x2 x3
    = k0_pay2 (F := Ideal) i (k0_pay1 (F := Ideal) x2) x0 x1 x3 := by
  unfold out0_A_4
  rw [View.read_writes_junk_eq_canon]
  unfold kernelRun0_A
  dsimp only
  sl_unfold_words
  rw [load_whole arg2 harg2 x0 _ _ zero2, load_whole arg3 harg3 x1 _ _ zero2, load_whole arg4 harg4 x2 _ _ zero3, load_whole arg5 harg5 x3 _ _ zero2]
  refine (View.canon_cons_unit_lit _ _ _ (congrFun zero2)).trans ?_
  exact congrArg (fun z => k0_pay2 (F := Ideal) i z x0 x1 x3) (View.readCov_unit_lit _ _ _ (congrFun zero2))

theorem out_later (h : ¬cond0_0 i) : out0_B_4 (F := Ideal) c i arg2 harg2 arg3 harg3 arg4 harg4 arg5 harg5 arg6 harg6 arg7 harg7 h x0 x1 x2 x3 xs
    = k0_pay2 (F := Ideal) i xs x0 x1 x3 := by
  unfold out0_B_4
  rw [View.read_writes_junk_eq_canon]
  unfold kernelRun0_B
  dsimp only
  sl_unfold_words
  rw [load_whole arg2 harg2 x0 _ _ zero2, load_whole arg3 harg3 x1 _ _ zero2, load_whole arg5 harg5 x3 _ _ zero2, load_whole arg7 harg7 xs _ _ zero2]
  exact View.canon_cons_unit_lit _ _ _ (congrFun zero2)

end Point

/-! ## The operands -/

variable (m : (ℓ : Loc nD τ sig) → Buf (Elt Ideal) ℓ)

theorem places : ∀ t : Fin grid0.N, cc0_transform_2 (grid0.coords t) 0 = 1 ∧ cc0_transform_2 (grid0.coords t) 1 = 0 ∧ cc0_transform_2 (grid0.coords t) 2 = t.val / 17
    ∧ cc0_transform_3 (grid0.coords t) 0 = t.val % 17 ∧ cc0_transform_3 (grid0.coords t) 1 = t.val / 17
    ∧ cc0_transform_4 (grid0.coords t) 0 = t.val % 17 ∧ cc0_transform_4 (grid0.coords t) 1 = t.val / 17 := by decide +kernel

theorem places_rows : ∀ t : Fin grid0.N, (grid0.coords t 1).val = t.val % 17 ∧ cc0_transform_0 (grid0.coords t) 0 = min (t.val % 17) 15 ∧ cc0_transform_0 (grid0.coords t) 1 = 0
    ∧ cc0_transform_1 (grid0.coords t) 0 = 0 ∧ cc0_transform_1 (grid0.coords t) 1 = 0 := by decide +kernel

/-- A block of the rows, from the array it falls in. -/
theorem rows_apply (c : Dev nD) (t : Fin cfg0.N) (r : Fin 512) (k : Fin 4096) (i : Fin 8704) (hi : i.val = t.val % 17 * 512 + r.val) :
    taken (grid0.coords t) (iblk m c 0 t) (iblk m c 1 t) (ix2 r k) = joined (m ((c : Thread nD τ).loc main_arg0)) (m ((c : Thread nD τ).loc main_arg1)) i k := by
  obtain ⟨hc, h0, h1, h2, h3⟩ := places_rows t
  unfold taken joined
  rw [hc]
  by_cases h : t.val % 17 < 16
  · rw [if_pos h, dif_pos (show i.val < 8192 by omega)]
    blk_simp [iblk]
    refine congrArg (m ((c : Thread nD τ).loc main_arg0)) (funext fun a => Fin.ext ?_)
    match a with
    | ⟨0, _⟩ =>
      show cc0_transform_0 (grid0.coords t) 0 * 512 + 1 * r.val = i.val
      rw [h0, hi]; omega
    | ⟨1, _⟩ =>
      show cc0_transform_0 (grid0.coords t) 1 * 4096 + 1 * k.val = k.val
      rw [h1]; omega
  · rw [if_neg h, dif_neg (show ¬i.val < 8192 by omega)]
    blk_simp [iblk]
    refine congrArg (m ((c : Thread nD τ).loc main_arg1)) (funext fun a => Fin.ext ?_)
    match a with
    | ⟨0, _⟩ =>
      show cc0_transform_1 (grid0.coords t) 0 * 512 + 1 * r.val = i.val - 8192
      have := i.isLt
      rw [h2, hi]; omega
    | ⟨1, _⟩ =>
      show cc0_transform_1 (grid0.coords t) 1 * 4096 + 1 * k.val = k.val
      rw [h3]; omega

/-- A block of the matrix. -/
theorem mat_apply (c : Dev nD) (t : Fin cfg0.N) (k : Fin 4096) (q : Fin 512) (n : Fin 2048) (hn : n.val = t.val / 17 * 512 + q.val) :
    iblk m c 2 t (ix3 (0 : Fin 1) k q) = m ((c : Thread nD τ).loc main_arg2) (ix3 (1 : Fin 2) k n) := by
  obtain ⟨h0, h1, h2, -⟩ := places t
  blk_simp [iblk]
  refine congrArg (m ((c : Thread nD τ).loc main_arg2)) (funext fun a => Fin.ext ?_)
  match a with
  | ⟨0, _⟩ =>
    show cc0_transform_2 (grid0.coords t) 0 * 1 + 1 * 0 = 1
    rw [h0]
  | ⟨1, _⟩ =>
    show cc0_transform_2 (grid0.coords t) 1 * 4096 + 1 * k.val = k.val
    rw [h1]; omega
  | ⟨2, _⟩ =>
    show cc0_transform_2 (grid0.coords t) 2 * 512 + 1 * q.val = n.val
    rw [h2, hn]; omega

/-- A block of what the product is added to. -/
theorem old_apply (c : Dev nD) (t : Fin cfg0.N) (r : Fin 512) (q : Fin 512) (i : Fin 8704) (n : Fin 2048) (hi : i.val = t.val % 17 * 512 + r.val)
    (hn : n.val = t.val / 17 * 512 + q.val) : iblk m c 3 t (ix2 r q) = m ((c : Thread nD τ).loc main_arg3) (ix2 i n) := by
  obtain ⟨-, -, -, h0, h1, -⟩ := places t
  blk_simp [iblk]
  refine congrArg (m ((c : Thread nD τ).loc main_arg3)) (funext fun a => Fin.ext ?_)
  match a with
  | ⟨0, _⟩ =>
    show cc0_transform_3 (grid0.coords t) 0 * 512 + 1 * r.val = i.val
    rw [h0, hi]; omega
  | ⟨1, _⟩ =>
    show cc0_transform_3 (grid0.coords t) 1 * 512 + 1 * q.val = n.val
    rw [h1, hn]; omega

/-- What the points carry: the matrix's block of the column of blocks they are in. -/
theorem carried (c : Dev nD) : ∀ (n : ℕ) (h : n < cfg0.N) (k : Fin 4096) (q : Fin 512) (j : Fin 2048), j.val = n / 17 * 512 + q.val →
    (outsAt0 m c n h).2 (ix2 k q) = m ((c : Thread nD τ).loc main_arg2) (ix3 (1 : Fin 2) k j) := by
  refine carried_of 17 (fun n h => (outsAt0 m c n h).2)
    (fun b s => ∀ (k : Fin 4096) (q : Fin 512) (j : Fin 2048), j.val = b * 512 + q.val →
      s (ix2 k q) = m ((c : Thread nD τ).loc main_arg2) (ix3 (1 : Fin 2) k j)) (fun n h h0 k q j hj => ?_) (fun n h h0 => ?_)
  · rw [show outsAt0 m c n h = _ from outsAt0_A m c ⟨n, h⟩ h0]
    dsimp only
    rw [carry_first, pay1_apply]
    exact mat_apply m c ⟨n, h⟩ k q j hj
  · rw [show outsAt0 m c (n + 1) h = _ from outsAt0_B m c ⟨n + 1, h⟩ h0]
    rfl

/-! ## The result -/

/-- The rows' product with the matrix, added to what was there. -/
def prod (x : S8192x4096.Idx → EReal) (x' : S512x4096.Idx → EReal) (w : S2x4096x2048.Idx → EReal) (r : S8704x2048.Idx → EReal) (i : S8704x2048.Idx) : EReal :=
  r (ix2 (i 0) (i 1)) + ∑ k : Fin 4096, joined x x' (i 0) k * w (ix3 (1 : Fin 2) k (i 1))

/-- The block a point leaves. -/
theorem out_apply (c : Dev nD) (t : Fin cfg0.N) (y : S512x512.Idx) (i : S8704x2048.Idx)
    (h0 : (i 0).val = t.val % 17 * 512 + (y 0).val) (h1 : (i 1).val = t.val / 17 * 512 + (y 1).val) :
    (outsAt0 m c t.val t.isLt).1 y = prod (m ((c : Thread nD τ).loc main_arg0)) (m ((c : Thread nD τ).loc main_arg1)) (m ((c : Thread nD τ).loc main_arg2)) (m ((c : Thread nD τ).loc main_arg3)) i := by
  have ho : iblk m c 3 t y = m ((c : Thread nD τ).loc main_arg3) (ix2 (i 0) (i 1)) :=
    (congrArg (iblk m c 3 t) (funext fun a => by match a with | ⟨0, _⟩ => rfl | ⟨1, _⟩ => rfl)).trans (old_apply m c t (y 0) (y 1) (i 0) (i 1) h0 h1)
  by_cases h : t.val % 17 = 0
  · rw [outsAt0_A m c t h]
    dsimp only
    rw [out_first, pay2_apply]
    unfold prod
    exact congrArg₂ (· + ·) ho (Finset.sum_congr rfl fun k _ => congrArg₂ (· * ·) (rows_apply m c t _ k (i 0) h0)
      ((pay1_apply _ _).trans (mat_apply m c t k _ (i 1) h1)))
  · rw [outsAt0_B m c t h]
    dsimp only
    rw [out_later, pay2_apply]
    unfold prod
    exact congrArg₂ (· + ·) ho (Finset.sum_congr rfl fun k _ => congrArg₂ (· * ·) (rows_apply m c t _ k (i 0) h0)
      (carried m c (t.val - 1) _ k _ (i 1) (by omega)))

theorem covers : (cfg0.win 4).Covers :=
  Pipeline.Window.covers_of_index_surj _ rfl (show ∀ a : Fin 2, 0 < S512x512.size a by decide) fun β => by
    have b0 : (β (0 : Fin 2)).val < 17 := lt_of_lt_of_eq (β (0 : Fin 2)).isLt (show (8704 + 512 - 1) / 512 = 17 by decide)
    have b1 : (β (1 : Fin 2)).val < 4 := lt_of_lt_of_eq (β (1 : Fin 2)).isLt (show (2048 + 512 - 1) / 512 = 4 by decide)
    have hN : (β (1 : Fin 2)).val * 17 + (β (0 : Fin 2)).val < grid0.N := by
      have : grid0.N = 68 := by decide
      omega
    refine ⟨⟨(β (1 : Fin 2)).val * 17 + (β (0 : Fin 2)).val, hN⟩, fun a => ?_⟩
    match a with
    | ⟨0, _⟩ => exact (places ⟨_, hN⟩).2.2.2.2.2.1.trans (by show _ % 17 = (β (0 : Fin 2)).val; dsimp only; omega)
    | ⟨1, _⟩ => exact (places ⟨_, hN⟩).2.2.2.2.2.2.trans (by show _ / 17 = (β (1 : Fin 2)).val; dsimp only; omega)

theorem arr_eq (c : Dev nD) : (dats m 0 c).arrAt 4 cfg0.N
    = prod (m ((c : Thread nD τ).loc main_arg0)) (m ((c : Thread nD τ).loc main_arg1)) (m ((c : Thread nD τ).loc main_arg2)) (m ((c : Thread nD τ).loc main_arg3)) := by
  refine (dats m 0 c).arrAt_eq_of_covers 4 _ covers fun t hf y => ?_
  blk_simp
  obtain ⟨-, -, -, -, -, q0, q1⟩ := places t
  rw [after0_4]
  refine out_apply m c t y _ ?_ ?_
  · show cc0_transform_4 (grid0.coords t) 0 * 512 + 1 * (y (0 : Fin 2)).val = _
    rw [q0]; omega
  · show cc0_transform_4 (grid0.coords t) 1 * 512 + 1 * (y (1 : Fin 2)).val = _
    rw [q1]; omega

/-- The kernel runs, leaves the sum and changes no argument. -/
theorem run (g : Dev nD → PrngReg) : θ_run defs (onTc (τ := τ) (main (F := Ideal))) ⟨m, fun _ => 0, g⟩ (fun r => ∀ c : Dev nD,
      r.2.mem ((c.tc : Thread nD τ).loc main_v0)
        = prod (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (arr_eq m c), (h c).2⟩) (Value.run_blocks (F := Ideal) m g)

end Cert.RetOutIdeal.Hand

/-! ## The reference -/

namespace Cert.RetOutRefIdeal.Hand

open Cert.RetOutRefIdeal Cert.RetOutRefIdeal.Gen Cert.RetOutRefIdeal.Read Idealize.ShloMosaic Idealize.ShloMosaic.TcCoe Idealize.SL.Sem
open Cert.RetOutIdeal.Hand (prod)
open Cert.Mat (joined joined_eq)

theorem result_eq (x : S8192x4096.Idx → EReal) (x' : S512x4096.Idx → EReal) (w : S2x4096x2048.Idx → EReal) (r : S8704x2048.Idx → EReal) :
    val_main_v5 (F := Ideal) x x' w r = prod x x' w r := by
  funext j
  rw [val_main_v5_apply, val_main_v4_apply]
  unfold prod
  refine congrArg₂ (· + ·) (congrArg r (funext fun a => by match a with | ⟨0, _⟩ => rfl | ⟨1, _⟩ => rfl)) (Finset.sum_congr rfl fun k _ => congrArg₂ (· * ·) ?_ ?_)
  · refine (val_main_v1_apply (F := Ideal) x x' _).trans ?_
    exact joined_eq concatenates_S8192x4096_S512x4096_S8704x4096_d0 x x' _ (j 0) k rfl rfl
  · rw [val_main_v3_apply, val_main_v2_apply]
    refine congrArg w (funext fun a => Fin.ext ?_)
    have hk := k.isLt
    have hj : (j 1).val < 2048 := (j 1).isLt
    match a with
    | ⟨0, _⟩ => rfl
    | ⟨1, _⟩ => show (k.val * 2048 + (j 1).val) / 2048 % 4096 = k.val; omega
    | ⟨2, _⟩ => show (k.val * 2048 + (j 1).val) % 2048 = (j 1).val; omega

end Cert.RetOutRefIdeal.Hand
-- ==== Proof.GmlpOut.Value.lean ====
/-
  The rows added to the mixed rows' product with the gated layer's last matrix, over the extended reals, read at an index.
-/
module

public import proofs.«01_k».proof.Proof.Mat.Shared
public import proofs.«01_k».proof.Proof.Gen.GmlpOutIdeal.Frame
public import proofs.«01_k».proof.Proof.Gen.GmlpOutIdeal.Value
public import proofs.«01_k».proof.Proof.Gen.GmlpOutRefIdeal.Read

@[expose] public section

set_option maxRecDepth 16384

noncomputable section

namespace Cert.GmlpOutIdeal.Hand

open Cert.GmlpOutIdeal Cert.GmlpOutIdeal.Gen Cert.Mat Idealize.ShloMosaic Idealize.ShloMosaic.TcCoe Idealize.SL.Sem
open Idealize.ShloMosaic.Tactic

/-! ## The operations -/

theorem pay1_apply (v : Vec Ideal S1x6144x512 .f32) (y : S6144x512.Idx) : k0_pay1 (F := Ideal) v y = v (ix3 (0 : Fin 1) (y 0) (y 1)) := by
  unfold_payloads
  pointwise

theorem pay2_apply (w : Vec Ideal S6144x512 .bf16) (x : Vec Ideal S544x6144 .bf16) (r : Vec Ideal S544x512 .f32) (y : S544x512.Idx) :
    k0_pay2 (F := Ideal) w x r y = (r y + ∑ k : Fin 6144, (x (ix2 (y 0) k) * w (ix2 k (y 1)) : EReal) : EReal) := by
  unfold_payloads
  pointwise

/-! ## What a point leaves -/

section Point
variable (c : Dev nD) (i : grid0.Coords) (arg2 : Memref sig .tc .vmem S544x6144 .bf16) (harg2 : arg2.IsWhole)
  (arg3 : Memref sig .tc .vmem S1x6144x512 .f32) (harg3 : arg3.IsWhole)
  (arg4 : Memref sig .tc .vmem S544x512 .f32) (harg4 : arg4.IsWhole)
  (arg5 : Memref sig .tc .vmem S544x512 .f32) (harg5 : arg5.IsWhole) (arg6 : Memref sig .tc .vmem S6144x512 .bf16) (harg6 : arg6.IsWhole)
  (x0 : Vec Ideal S544x6144 .bf16) (x1 : Vec Ideal S1x6144x512 .f32) (x2 : Vec Ideal S544x512 .f32) (xs : Vec Ideal S6144x512 .bf16)

theorem carry_first (h : cond0_0 i) : sout0_A_0 (F := Ideal) c i arg2 harg2 arg3 harg3 arg4 harg4 arg5 harg5 arg6 harg6 h x0 x1 x2 = k0_pay1 (F := Ideal) x1 := by
  unfold sout0_A_0
  rw [View.read_writes_junk_eq_canon]
  unfold kernelRun0_A
  dsimp only
  sl_unfold_words
  rw [load_whole arg3 harg3 x1 _ _ zero3]
  exact View.canon_cons_unit_lit _ _ _ (congrFun zero2)

theorem out_first (h : cond0_0 i) : out0_A_3 (F := Ideal) c i arg2 harg2 arg3 harg3 arg4 harg4 arg5 harg5 arg6 harg6 h x0 x1 x2 = k0_pay2 (F := Ideal) (k0_pay1 (F := Ideal) x1) x0 x2 := by
  unfold out0_A_3
  rw [View.read_writes_junk_eq_canon]
  unfold kernelRun0_A
  dsimp only
  sl_unfold_words
  rw [load_whole arg2 harg2 x0 _ _ zero2, load_whole arg3 harg3 x1 _ _ zero3, load_whole arg4 harg4 x2 _ _ zero2]
  refine (View.canon_cons_unit_lit _ _ _ (congrFun zero2)).trans ?_
  exact congrArg (fun z => k0_pay2 (F := Ideal) z x0 x2) (View.readCov_unit_lit _ _ _ (congrFun zero2))

theorem out_later (h : ¬cond0_0 i) : out0_B_3 (F := Ideal) c i arg2 harg2 arg3 harg3 arg4 harg4 arg5 harg5 arg6 harg6 h x0 x1 x2 xs = k0_pay2 (F := Ideal) xs x0 x2 := by
  unfold out0_B_3
  rw [View.read_writes_junk_eq_canon]
  unfold kernelRun0_B
  dsimp only
  sl_unfold_words
  rw [load_whole arg2 harg2 x0 _ _ zero2, load_whole arg4 harg4 x2 _ _ zero2, load_whole arg6 harg6 xs _ _ zero2]
  exact View.canon_cons_unit_lit _ _ _ (congrFun zero2)

end Point

/-! ## The operands -/

variable (m : (ℓ : Loc nD τ sig) → Buf (Elt Ideal) ℓ)

theorem places : ∀ t : Fin grid0.N, cc0_transform_0 (grid0.coords t) 0 = t.val % 16 ∧ cc0_transform_0 (grid0.coords t) 1 = 0
    ∧ cc0_transform_1 (grid0.coords t) 0 = 0 ∧ cc0_transform_1 (grid0.coords t) 1 = 0 ∧ cc0_transform_1 (grid0.coords t) 2 = t.val / 16
    ∧ cc0_transform_2 (grid0.coords t) 0 = t.val % 16 ∧ cc0_transform_2 (grid0.coords t) 1 = t.val / 16 := by decide +kernel

/-- A block of the rows. -/
theorem rows_apply (c : Dev nD) (t : Fin cfg0.N) (r : Fin 544) (k : Fin 6144) (i : Fin 8704) (hi : i.val = t.val % 16 * 544 + r.val) :
    iblk m c 0 t (ix2 r k) = m ((c : Thread nD τ).loc main_arg0) (ix2 i k) := by
  have h0 := (places t).1
  have h1 := (places t).2.1
  blk_simp [iblk]
  refine congrArg (m ((c : Thread nD τ).loc main_arg0)) (funext fun a => Fin.ext ?_)
  match a with
  | ⟨0, _⟩ =>
    show cc0_transform_0 (grid0.coords t) 0 * 544 + 1 * r.val = i.val
    rw [h0, hi]; omega
  | ⟨1, _⟩ =>
    show cc0_transform_0 (grid0.coords t) 1 * 6144 + 1 * k.val = k.val
    rw [h1]; omega

/-- A block of the matrix. -/
theorem mat_apply (c : Dev nD) (t : Fin cfg0.N) (k : Fin 6144) (q : Fin 512) (n : Fin 2048) (hn : n.val = t.val / 16 * 512 + q.val) :
    iblk m c 1 t (ix3 (0 : Fin 1) k q) = m ((c : Thread nD τ).loc main_arg1) (ix3 (0 : Fin 1) k n) := by
  have h0 := (places t).2.2.1
  have h1 := (places t).2.2.2.1
  have h2 := (places t).2.2.2.2.1
  blk_simp [iblk]
  refine congrArg (m ((c : Thread nD τ).loc main_arg1)) (funext fun a => Fin.ext ?_)
  match a with
  | ⟨0, _⟩ =>
    show cc0_transform_1 (grid0.coords t) 0 * 1 + 1 * 0 = 0
    rw [h0]
  | ⟨1, _⟩ =>
    show cc0_transform_1 (grid0.coords t) 1 * 6144 + 1 * k.val = k.val
    rw [h1]; omega
  | ⟨2, _⟩ =>
    show cc0_transform_1 (grid0.coords t) 2 * 512 + 1 * q.val = n.val
    rw [h2, hn]; omega

/-- A block of what the product is added to. -/
theorem old_apply (c : Dev nD) (t : Fin cfg0.N) (r : Fin 544) (q : Fin 512) (i : Fin 8704) (n : Fin 2048) (hi : i.val = t.val % 16 * 544 + r.val)
    (hn : n.val = t.val / 16 * 512 + q.val) :
    iblk m c 2 t (ix2 r q) = m ((c : Thread nD τ).loc main_arg2) (ix2 i n) := by
  have h0 := (places t).2.2.2.2.2.1
  have h1 := (places t).2.2.2.2.2.2
  blk_simp [iblk]
  refine congrArg (m ((c : Thread nD τ).loc main_arg2)) (funext fun a => Fin.ext ?_)
  match a with
  | ⟨0, _⟩ =>
    show cc0_transform_2 (grid0.coords t) 0 * 544 + 1 * r.val = i.val
    rw [h0, hi]; omega
  | ⟨1, _⟩ =>
    show cc0_transform_2 (grid0.coords t) 1 * 512 + 1 * q.val = n.val
    rw [h1, hn]; omega

/-- What the points carry: the matrix's block of the column of blocks they are in. -/
theorem carried (c : Dev nD) : ∀ (n : ℕ) (h : n < cfg0.N) (k : Fin 6144) (q : Fin 512) (j : Fin 2048), j.val = n / 16 * 512 + q.val →
    (outsAt0 m c n h).2 (ix2 k q) = m ((c : Thread nD τ).loc main_arg1) (ix3 (0 : Fin 1) k j) := by
  refine carried_of 16 (fun n h => (outsAt0 m c n h).2)
    (fun b s => ∀ (k : Fin 6144) (q : Fin 512) (j : Fin 2048), j.val = b * 512 + q.val →
      s (ix2 k q) = m ((c : Thread nD τ).loc main_arg1) (ix3 (0 : Fin 1) k j)) (fun n h h0 k q j hj => ?_) (fun n h h0 => ?_)
  · rw [show outsAt0 m c n h = _ from outsAt0_A m c ⟨n, h⟩ h0]
    dsimp only
    rw [carry_first, pay1_apply]
    exact mat_apply m c ⟨n, h⟩ k q j hj
  · rw [show outsAt0 m c (n + 1) h = _ from outsAt0_B m c ⟨n + 1, h⟩ h0]
    rfl

/-! ## The result -/

/-- The rows' product with the matrix, added to what was there. -/
def prod (x : S8704x6144.Idx → EReal) (w : S1x6144x2048.Idx → EReal) (r : S8704x2048.Idx → EReal) (i : S8704x2048.Idx) : EReal :=
  r (ix2 (i 0) (i 1)) + ∑ k : Fin 6144, x (ix2 (i 0) k) * w (ix3 (0 : Fin 1) k (i 1))

/-- The block a point leaves. -/
theorem out_apply (c : Dev nD) (t : Fin cfg0.N) (y : S544x512.Idx) (i : S8704x2048.Idx)
    (h0 : (i 0).val = t.val % 16 * 544 + (y 0).val) (h1 : (i 1).val = t.val / 16 * 512 + (y 1).val) :
    (outsAt0 m c t.val t.isLt).1 y = prod (m ((c : Thread nD τ).loc main_arg0)) (m ((c : Thread nD τ).loc main_arg1)) (m ((c : Thread nD τ).loc main_arg2)) i := by
  by_cases h : t.val % 16 = 0
  · rw [outsAt0_A m c t h]
    dsimp only
    rw [out_first, pay2_apply]
    unfold prod
    refine congrArg₂ (· + ·) ?_ (Finset.sum_congr rfl fun k _ => congrArg₂ (· * ·) (rows_apply m c t _ k (i 0) h0) ?_)
    · exact (congrArg (iblk m c 2 t) (funext fun a => by match a with | ⟨0, _⟩ => rfl | ⟨1, _⟩ => rfl)).trans (old_apply m c t (y 0) (y 1) (i 0) (i 1) h0 h1)
    · exact (pay1_apply _ _).trans (mat_apply m c t k _ (i 1) h1)
  · rw [outsAt0_B m c t h]
    dsimp only
    rw [out_later, pay2_apply]
    unfold prod
    refine congrArg₂ (· + ·) ?_ (Finset.sum_congr rfl fun k _ => congrArg₂ (· * ·) (rows_apply m c t _ k (i 0) h0) ?_)
    · exact (congrArg (iblk m c 2 t) (funext fun a => by match a with | ⟨0, _⟩ => rfl | ⟨1, _⟩ => rfl)).trans (old_apply m c t (y 0) (y 1) (i 0) (i 1) h0 h1)
    · exact carried m c (t.val - 1) _ k _ (i 1) (by omega)

theorem places_out : ∀ t : Fin grid0.N, cc0_transform_3 (grid0.coords t) 0 = t.val % 16 ∧ cc0_transform_3 (grid0.coords t) 1 = t.val / 16 := by decide +kernel

theorem covers : (cfg0.win 3).Covers :=
  Pipeline.Window.covers_of_index_surj _ rfl (show ∀ a : Fin 2, 0 < S544x512.size a by decide) fun β => by
    have b0 : (β (0 : Fin 2)).val < 16 := lt_of_lt_of_eq (β (0 : Fin 2)).isLt (show (8704 + 544 - 1) / 544 = 16 by decide)
    have b1 : (β (1 : Fin 2)).val < 4 := lt_of_lt_of_eq (β (1 : Fin 2)).isLt (show (2048 + 512 - 1) / 512 = 4 by decide)
    have hN : (β (1 : Fin 2)).val * 16 + (β (0 : Fin 2)).val < grid0.N := by
      have : grid0.N = 64 := by decide
      omega
    refine ⟨⟨(β (1 : Fin 2)).val * 16 + (β (0 : Fin 2)).val, hN⟩, fun a => ?_⟩
    match a with
    | ⟨0, _⟩ => exact (places_out ⟨_, hN⟩).1.trans (by show _ % 16 = (β (0 : Fin 2)).val; dsimp only; omega)
    | ⟨1, _⟩ => exact (places_out ⟨_, hN⟩).2.trans (by show _ / 16 = (β (1 : Fin 2)).val; dsimp only; omega)

theorem arr_eq (c : Dev nD) : (dats m 0 c).arrAt 3 cfg0.N = prod (m ((c : Thread nD τ).loc main_arg0)) (m ((c : Thread nD τ).loc main_arg1)) (m ((c : Thread nD τ).loc main_arg2)) := by
  refine (dats m 0 c).arrAt_eq_of_covers 3 _ covers fun t hf y => ?_
  blk_simp
  have q0 := (places_out t).1
  have q1 := (places_out t).2
  rw [after0_3]
  refine out_apply m c t y _ ?_ ?_
  · show cc0_transform_3 (grid0.coords t) 0 * 544 + 1 * (y (0 : Fin 2)).val = _
    rw [q0]; omega
  · show cc0_transform_3 (grid0.coords t) 1 * 512 + 1 * (y (1 : Fin 2)).val = _
    rw [q1]; omega

/-- The kernel runs, leaves the product and changes no argument. -/
theorem run (g : Dev nD → PrngReg) : θ_run defs (onTc (τ := τ) (main (F := Ideal))) ⟨m, fun _ => 0, g⟩ (fun r => ∀ c : Dev nD,
      r.2.mem ((c.tc : Thread nD τ).loc main_v0) = prod (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (arr_eq m c), (h c).2⟩) (Value.run_blocks (F := Ideal) m g)

end Cert.GmlpOutIdeal.Hand

/-! ## The reference -/

namespace Cert.GmlpOutRefIdeal.Hand

open Cert.GmlpOutRefIdeal Cert.GmlpOutRefIdeal.Gen Cert.GmlpOutRefIdeal.Read Idealize.ShloMosaic Idealize.ShloMosaic.TcCoe Idealize.SL.Sem
open Cert.GmlpOutIdeal.Hand (prod)

theorem result_eq (x : S8704x6144.Idx → EReal) (w : S1x6144x2048.Idx → EReal) (r : S8704x2048.Idx → EReal) : val_main_v3 (F := Ideal) x w r = prod x w r := by
  funext j
  rw [val_main_v3_apply, val_main_v2_apply]
  unfold prod
  refine congrArg₂ (· + ·) (congrArg r (funext fun a => by match a with | ⟨0, _⟩ => rfl | ⟨1, _⟩ => rfl)) (Finset.sum_congr rfl fun k _ => congrArg₂ (· * ·) ?_ ?_)
  · refine (val_main_v0_apply (F := Ideal) x _).trans (congrArg x (funext fun a => Fin.ext ?_))
    match a with
    | ⟨0, _⟩ => rfl
    | ⟨1, _⟩ => rfl
  · rw [val_main_v1_apply]
    refine congrArg w (funext fun a => Fin.ext ?_)
    have hk := k.isLt
    have hj : (j 1).val < 2048 := (j 1).isLt
    match a with
    | ⟨0, _⟩ => rfl
    | ⟨1, _⟩ => show (k.val * 2048 + (j 1).val) / 2048 % 6144 = k.val; omega
    | ⟨2, _⟩ => show (k.val * 2048 + (j 1).val) % 2048 = (j 1).val; omega

end Cert.GmlpOutRefIdeal.Hand
-- ==== Proof.FfnDown.Value.lean ====
/-
  The rows added to the hidden rows' product with the feed-forward layer's second matrix, over the extended reals, read at an
  index.
-/
module

public import proofs.«01_k».proof.Proof.Mat.Shared
public import proofs.«01_k».proof.Proof.Gen.FfnDownIdeal.Frame
public import proofs.«01_k».proof.Proof.Gen.FfnDownIdeal.Value
public import proofs.«01_k».proof.Proof.Gen.FfnDownRefIdeal.Read

@[expose] public section

set_option maxRecDepth 16384

noncomputable section

namespace Cert.FfnDownIdeal.Hand

open Cert.FfnDownIdeal Cert.FfnDownIdeal.Gen Cert.Mat Idealize.ShloMosaic Idealize.ShloMosaic.TcCoe Idealize.SL.Sem
open Idealize.ShloMosaic.Tactic

/-! ## The operations -/

theorem pay1_apply (v : Vec Ideal S1x5504x512 .f32) (y : S5504x512.Idx) : k0_pay1 (F := Ideal) v y = v (ix3 (0 : Fin 1) (y 0) (y 1)) := by
  unfold_payloads
  pointwise

theorem pay2_apply (w : Vec Ideal S5504x512 .bf16) (x : Vec Ideal S544x5504 .bf16) (r : Vec Ideal S544x512 .f32) (y : S544x512.Idx) :
    k0_pay2 (F := Ideal) w x r y = (r y + ∑ k : Fin 5504, (x (ix2 (y 0) k) * w (ix2 k (y 1)) : EReal) : EReal) := by
  unfold_payloads
  pointwise

/-! ## What a point leaves -/

section Point
variable (c : Dev nD) (i : grid0.Coords) (arg2 : Memref sig .tc .vmem S544x5504 .bf16) (harg2 : arg2.IsWhole)
  (arg3 : Memref sig .tc .vmem S1x5504x512 .f32) (harg3 : arg3.IsWhole)
  (arg4 : Memref sig .tc .vmem S544x512 .f32) (harg4 : arg4.IsWhole)
  (arg5 : Memref sig .tc .vmem S544x512 .f32) (harg5 : arg5.IsWhole) (arg6 : Memref sig .tc .vmem S5504x512 .bf16) (harg6 : arg6.IsWhole)
  (x0 : Vec Ideal S544x5504 .bf16) (x1 : Vec Ideal S1x5504x512 .f32) (x2 : Vec Ideal S544x512 .f32) (xs : Vec Ideal S5504x512 .bf16)

theorem carry_first (h : cond0_0 i) : sout0_A_0 (F := Ideal) c i arg2 harg2 arg3 harg3 arg4 harg4 arg5 harg5 arg6 harg6 h x0 x1 x2 = k0_pay1 (F := Ideal) x1 := by
  unfold sout0_A_0
  rw [View.read_writes_junk_eq_canon]
  unfold kernelRun0_A
  dsimp only
  sl_unfold_words
  rw [load_whole arg3 harg3 x1 _ _ zero3]
  exact View.canon_cons_unit_lit _ _ _ (congrFun zero2)

theorem out_first (h : cond0_0 i) : out0_A_3 (F := Ideal) c i arg2 harg2 arg3 harg3 arg4 harg4 arg5 harg5 arg6 harg6 h x0 x1 x2 = k0_pay2 (F := Ideal) (k0_pay1 (F := Ideal) x1) x0 x2 := by
  unfold out0_A_3
  rw [View.read_writes_junk_eq_canon]
  unfold kernelRun0_A
  dsimp only
  sl_unfold_words
  rw [load_whole arg2 harg2 x0 _ _ zero2, load_whole arg3 harg3 x1 _ _ zero3, load_whole arg4 harg4 x2 _ _ zero2]
  refine (View.canon_cons_unit_lit _ _ _ (congrFun zero2)).trans ?_
  exact congrArg (fun z => k0_pay2 (F := Ideal) z x0 x2) (View.readCov_unit_lit _ _ _ (congrFun zero2))

theorem out_later (h : ¬cond0_0 i) : out0_B_3 (F := Ideal) c i arg2 harg2 arg3 harg3 arg4 harg4 arg5 harg5 arg6 harg6 h x0 x1 x2 xs = k0_pay2 (F := Ideal) xs x0 x2 := by
  unfold out0_B_3
  rw [View.read_writes_junk_eq_canon]
  unfold kernelRun0_B
  dsimp only
  sl_unfold_words
  rw [load_whole arg2 harg2 x0 _ _ zero2, load_whole arg4 harg4 x2 _ _ zero2, load_whole arg6 harg6 xs _ _ zero2]
  exact View.canon_cons_unit_lit _ _ _ (congrFun zero2)

end Point

/-! ## The operands -/

variable (m : (ℓ : Loc nD τ sig) → Buf (Elt Ideal) ℓ)

theorem places : ∀ t : Fin grid0.N, cc0_transform_0 (grid0.coords t) 0 = t.val % 16 ∧ cc0_transform_0 (grid0.coords t) 1 = 0
    ∧ cc0_transform_1 (grid0.coords t) 0 = 1 ∧ cc0_transform_1 (grid0.coords t) 1 = 0 ∧ cc0_transform_1 (grid0.coords t) 2 = t.val / 16
    ∧ cc0_transform_2 (grid0.coords t) 0 = t.val % 16 ∧ cc0_transform_2 (grid0.coords t) 1 = t.val / 16 := by decide +kernel

/-- A block of the rows. -/
theorem rows_apply (c : Dev nD) (t : Fin cfg0.N) (r : Fin 544) (k : Fin 5504) (i : Fin 8704) (hi : i.val = t.val % 16 * 544 + r.val) :
    iblk m c 0 t (ix2 r k) = m ((c : Thread nD τ).loc main_arg0) (ix2 i k) := by
  have h0 := (places t).1
  have h1 := (places t).2.1
  blk_simp [iblk]
  refine congrArg (m ((c : Thread nD τ).loc main_arg0)) (funext fun a => Fin.ext ?_)
  match a with
  | ⟨0, _⟩ =>
    show cc0_transform_0 (grid0.coords t) 0 * 544 + 1 * r.val = i.val
    rw [h0, hi]; omega
  | ⟨1, _⟩ =>
    show cc0_transform_0 (grid0.coords t) 1 * 5504 + 1 * k.val = k.val
    rw [h1]; omega

/-- A block of the matrix. -/
theorem mat_apply (c : Dev nD) (t : Fin cfg0.N) (k : Fin 5504) (q : Fin 512) (n : Fin 2048) (hn : n.val = t.val / 16 * 512 + q.val) :
    iblk m c 1 t (ix3 (0 : Fin 1) k q) = m ((c : Thread nD τ).loc main_arg1) (ix3 (1 : Fin 2) k n) := by
  have h0 := (places t).2.2.1
  have h1 := (places t).2.2.2.1
  have h2 := (places t).2.2.2.2.1
  blk_simp [iblk]
  refine congrArg (m ((c : Thread nD τ).loc main_arg1)) (funext fun a => Fin.ext ?_)
  match a with
  | ⟨0, _⟩ =>
    show cc0_transform_1 (grid0.coords t) 0 * 1 + 1 * 0 = 1
    rw [h0]
  | ⟨1, _⟩ =>
    show cc0_transform_1 (grid0.coords t) 1 * 5504 + 1 * k.val = k.val
    rw [h1]; omega
  | ⟨2, _⟩ =>
    show cc0_transform_1 (grid0.coords t) 2 * 512 + 1 * q.val = n.val
    rw [h2, hn]; omega

/-- A block of what the product is added to. -/
theorem old_apply (c : Dev nD) (t : Fin cfg0.N) (r : Fin 544) (q : Fin 512) (i : Fin 8704) (n : Fin 2048) (hi : i.val = t.val % 16 * 544 + r.val)
    (hn : n.val = t.val / 16 * 512 + q.val) :
    iblk m c 2 t (ix2 r q) = m ((c : Thread nD τ).loc main_arg2) (ix2 i n) := by
  have h0 := (places t).2.2.2.2.2.1
  have h1 := (places t).2.2.2.2.2.2
  blk_simp [iblk]
  refine congrArg (m ((c : Thread nD τ).loc main_arg2)) (funext fun a => Fin.ext ?_)
  match a with
  | ⟨0, _⟩ =>
    show cc0_transform_2 (grid0.coords t) 0 * 544 + 1 * r.val = i.val
    rw [h0, hi]; omega
  | ⟨1, _⟩ =>
    show cc0_transform_2 (grid0.coords t) 1 * 512 + 1 * q.val = n.val
    rw [h1, hn]; omega

/-- What the points carry: the matrix's block of the column of blocks they are in. -/
theorem carried (c : Dev nD) : ∀ (n : ℕ) (h : n < cfg0.N) (k : Fin 5504) (q : Fin 512) (j : Fin 2048), j.val = n / 16 * 512 + q.val →
    (outsAt0 m c n h).2 (ix2 k q) = m ((c : Thread nD τ).loc main_arg1) (ix3 (1 : Fin 2) k j) := by
  refine carried_of 16 (fun n h => (outsAt0 m c n h).2)
    (fun b s => ∀ (k : Fin 5504) (q : Fin 512) (j : Fin 2048), j.val = b * 512 + q.val →
      s (ix2 k q) = m ((c : Thread nD τ).loc main_arg1) (ix3 (1 : Fin 2) k j)) (fun n h h0 k q j hj => ?_) (fun n h h0 => ?_)
  · rw [show outsAt0 m c n h = _ from outsAt0_A m c ⟨n, h⟩ h0]
    dsimp only
    rw [carry_first, pay1_apply]
    exact mat_apply m c ⟨n, h⟩ k q j hj
  · rw [show outsAt0 m c (n + 1) h = _ from outsAt0_B m c ⟨n + 1, h⟩ h0]
    rfl

/-! ## The result -/

/-- The rows' product with the matrix, added to what was there. -/
def prod (x : S8704x5504.Idx → EReal) (w : S2x5504x2048.Idx → EReal) (r : S8704x2048.Idx → EReal) (i : S8704x2048.Idx) : EReal :=
  r (ix2 (i 0) (i 1)) + ∑ k : Fin 5504, x (ix2 (i 0) k) * w (ix3 (1 : Fin 2) k (i 1))

/-- The block a point leaves. -/
theorem out_apply (c : Dev nD) (t : Fin cfg0.N) (y : S544x512.Idx) (i : S8704x2048.Idx)
    (h0 : (i 0).val = t.val % 16 * 544 + (y 0).val) (h1 : (i 1).val = t.val / 16 * 512 + (y 1).val) :
    (outsAt0 m c t.val t.isLt).1 y = prod (m ((c : Thread nD τ).loc main_arg0)) (m ((c : Thread nD τ).loc main_arg1)) (m ((c : Thread nD τ).loc main_arg2)) i := by
  by_cases h : t.val % 16 = 0
  · rw [outsAt0_A m c t h]
    dsimp only
    rw [out_first, pay2_apply]
    unfold prod
    refine congrArg₂ (· + ·) ?_ (Finset.sum_congr rfl fun k _ => congrArg₂ (· * ·) (rows_apply m c t _ k (i 0) h0) ?_)
    · exact (congrArg (iblk m c 2 t) (funext fun a => by match a with | ⟨0, _⟩ => rfl | ⟨1, _⟩ => rfl)).trans (old_apply m c t (y 0) (y 1) (i 0) (i 1) h0 h1)
    · exact (pay1_apply _ _).trans (mat_apply m c t k _ (i 1) h1)
  · rw [outsAt0_B m c t h]
    dsimp only
    rw [out_later, pay2_apply]
    unfold prod
    refine congrArg₂ (· + ·) ?_ (Finset.sum_congr rfl fun k _ => congrArg₂ (· * ·) (rows_apply m c t _ k (i 0) h0) ?_)
    · exact (congrArg (iblk m c 2 t) (funext fun a => by match a with | ⟨0, _⟩ => rfl | ⟨1, _⟩ => rfl)).trans (old_apply m c t (y 0) (y 1) (i 0) (i 1) h0 h1)
    · exact carried m c (t.val - 1) _ k _ (i 1) (by omega)

theorem places_out : ∀ t : Fin grid0.N, cc0_transform_3 (grid0.coords t) 0 = t.val % 16 ∧ cc0_transform_3 (grid0.coords t) 1 = t.val / 16 := by decide +kernel

theorem covers : (cfg0.win 3).Covers :=
  Pipeline.Window.covers_of_index_surj _ rfl (show ∀ a : Fin 2, 0 < S544x512.size a by decide) fun β => by
    have b0 : (β (0 : Fin 2)).val < 16 := lt_of_lt_of_eq (β (0 : Fin 2)).isLt (show (8704 + 544 - 1) / 544 = 16 by decide)
    have b1 : (β (1 : Fin 2)).val < 4 := lt_of_lt_of_eq (β (1 : Fin 2)).isLt (show (2048 + 512 - 1) / 512 = 4 by decide)
    have hN : (β (1 : Fin 2)).val * 16 + (β (0 : Fin 2)).val < grid0.N := by
      have : grid0.N = 64 := by decide
      omega
    refine ⟨⟨(β (1 : Fin 2)).val * 16 + (β (0 : Fin 2)).val, hN⟩, fun a => ?_⟩
    match a with
    | ⟨0, _⟩ => exact (places_out ⟨_, hN⟩).1.trans (by show _ % 16 = (β (0 : Fin 2)).val; dsimp only; omega)
    | ⟨1, _⟩ => exact (places_out ⟨_, hN⟩).2.trans (by show _ / 16 = (β (1 : Fin 2)).val; dsimp only; omega)

theorem arr_eq (c : Dev nD) : (dats m 0 c).arrAt 3 cfg0.N = prod (m ((c : Thread nD τ).loc main_arg0)) (m ((c : Thread nD τ).loc main_arg1)) (m ((c : Thread nD τ).loc main_arg2)) := by
  refine (dats m 0 c).arrAt_eq_of_covers 3 _ covers fun t hf y => ?_
  blk_simp
  have q0 := (places_out t).1
  have q1 := (places_out t).2
  rw [after0_3]
  refine out_apply m c t y _ ?_ ?_
  · show cc0_transform_3 (grid0.coords t) 0 * 544 + 1 * (y (0 : Fin 2)).val = _
    rw [q0]; omega
  · show cc0_transform_3 (grid0.coords t) 1 * 512 + 1 * (y (1 : Fin 2)).val = _
    rw [q1]; omega

/-- The kernel runs, leaves the product and changes no argument. -/
theorem run (g : Dev nD → PrngReg) : θ_run defs (onTc (τ := τ) (main (F := Ideal))) ⟨m, fun _ => 0, g⟩ (fun r => ∀ c : Dev nD,
      r.2.mem ((c.tc : Thread nD τ).loc main_v0) = prod (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (arr_eq m c), (h c).2⟩) (Value.run_blocks (F := Ideal) m g)

end Cert.FfnDownIdeal.Hand

/-! ## The reference -/

namespace Cert.FfnDownRefIdeal.Hand

open Cert.FfnDownRefIdeal Cert.FfnDownRefIdeal.Gen Cert.FfnDownRefIdeal.Read Idealize.ShloMosaic Idealize.ShloMosaic.TcCoe Idealize.SL.Sem
open Cert.FfnDownIdeal.Hand (prod)

theorem result_eq (x : S8704x5504.Idx → EReal) (w : S2x5504x2048.Idx → EReal) (r : S8704x2048.Idx → EReal) : val_main_v4 (F := Ideal) x w r = prod x w r := by
  funext j
  rw [val_main_v4_apply, val_main_v3_apply]
  unfold prod
  refine congrArg₂ (· + ·) (congrArg r (funext fun a => by match a with | ⟨0, _⟩ => rfl | ⟨1, _⟩ => rfl)) (Finset.sum_congr rfl fun k _ => congrArg₂ (· * ·) ?_ ?_)
  · refine (val_main_v0_apply (F := Ideal) x _).trans (congrArg x (funext fun a => Fin.ext ?_))
    match a with
    | ⟨0, _⟩ => rfl
    | ⟨1, _⟩ => rfl
  · rw [val_main_v2_apply, val_main_v1_apply]
    refine congrArg w (funext fun a => Fin.ext ?_)
    have hk := k.isLt
    have hj : (j 1).val < 2048 := (j 1).isLt
    match a with
    | ⟨0, _⟩ => rfl
    | ⟨1, _⟩ => show (k.val * 2048 + (j 1).val) / 2048 % 5504 = k.val; omega
    | ⟨2, _⟩ => show (k.val * 2048 + (j 1).val) % 2048 = (j 1).val; omega

end Cert.FfnDownRefIdeal.Hand
-- ==== Proof.GmlpIn.Value.lean ====
/-
  The rows' product with the gated layer's first matrix over the extended reals, read at an index.
-/
module

public import proofs.«01_k».proof.Proof.Mat.Shared
public import proofs.«01_k».proof.Proof.Gen.GmlpInIdeal.Frame
public import proofs.«01_k».proof.Proof.Gen.GmlpInIdeal.Value
public import proofs.«01_k».proof.Proof.Gen.GmlpInRefIdeal.Read

@[expose] public section

set_option maxRecDepth 16384

noncomputable section

namespace Cert.GmlpInIdeal.Hand

open Cert.GmlpInIdeal Cert.GmlpInIdeal.Gen Cert.Mat Idealize.ShloMosaic Idealize.ShloMosaic.TcCoe Idealize.SL.Sem
open Idealize.ShloMosaic.Tactic

/-! ## The operations -/

theorem pay1_apply (v : Vec Ideal S1x2048x1024 .f32) (y : S2048x1024.Idx) : k0_pay1 (F := Ideal) v y = v (ix3 (0 : Fin 1) (y 0) (y 1)) := by
  unfold_payloads
  pointwise

theorem pay2_apply (w : Vec Ideal S2048x1024 .bf16) (x : Vec Ideal S1088x2048 .bf16) (y : S1088x1024.Idx) :
    k0_pay2 (F := Ideal) w x y = ∑ k : Fin 2048, (x (ix2 (y 0) k) * w (ix2 k (y 1)) : EReal) := by
  unfold_payloads
  pointwise

/-! ## What a point leaves -/

section Point
variable (c : Dev nD) (i : grid0.Coords) (arg2 : Memref sig .tc .vmem S1088x2048 .bf16) (harg2 : arg2.IsWhole)
  (arg3 : Memref sig .tc .vmem S1x2048x1024 .f32) (harg3 : arg3.IsWhole)
  (arg4 : Memref sig .tc .vmem S1088x1024 .f32) (harg4 : arg4.IsWhole) (arg5 : Memref sig .tc .vmem S2048x1024 .bf16) (harg5 : arg5.IsWhole)
  (x0 : Vec Ideal S1088x2048 .bf16) (x1 : Vec Ideal S1x2048x1024 .f32) (xs : Vec Ideal S2048x1024 .bf16)

theorem carry_first (h : cond0_0 i) : sout0_A_0 (F := Ideal) c i arg2 harg2 arg3 harg3 arg4 harg4 arg5 harg5 h x0 x1 = k0_pay1 (F := Ideal) x1 := by
  unfold sout0_A_0
  rw [View.read_writes_junk_eq_canon]
  unfold kernelRun0_A
  dsimp only
  sl_unfold_words
  rw [load_whole arg3 harg3 x1 _ _ zero3]
  exact View.canon_cons_unit_lit _ _ _ (congrFun zero2)

theorem out_first (h : cond0_0 i) : out0_A_2 (F := Ideal) c i arg2 harg2 arg3 harg3 arg4 harg4 arg5 harg5 h x0 x1 = k0_pay2 (F := Ideal) (k0_pay1 (F := Ideal) x1) x0 := by
  unfold out0_A_2
  rw [View.read_writes_junk_eq_canon]
  unfold kernelRun0_A
  dsimp only
  sl_unfold_words
  rw [load_whole arg2 harg2 x0 _ _ zero2, load_whole arg3 harg3 x1 _ _ zero3]
  refine (View.canon_cons_unit_lit _ _ _ (congrFun zero2)).trans ?_
  exact congrArg (fun z => k0_pay2 (F := Ideal) z x0) (View.readCov_unit_lit _ _ _ (congrFun zero2))

theorem out_later (h : ¬cond0_0 i) : out0_B_2 (F := Ideal) c i arg2 harg2 arg3 harg3 arg4 harg4 arg5 harg5 h x0 x1 xs = k0_pay2 (F := Ideal) xs x0 := by
  unfold out0_B_2
  rw [View.read_writes_junk_eq_canon]
  unfold kernelRun0_B
  dsimp only
  sl_unfold_words
  rw [load_whole arg2 harg2 x0 _ _ zero2, load_whole arg5 harg5 xs _ _ zero2]
  exact View.canon_cons_unit_lit _ _ _ (congrFun zero2)

end Point

/-! ## The operands -/

variable (m : (ℓ : Loc nD τ sig) → Buf (Elt Ideal) ℓ)

theorem places : ∀ t : Fin grid0.N, cc0_transform_0 (grid0.coords t) 0 = t.val % 8 ∧ cc0_transform_0 (grid0.coords t) 1 = 0
    ∧ cc0_transform_1 (grid0.coords t) 0 = 0 ∧ cc0_transform_1 (grid0.coords t) 1 = 0 ∧ cc0_transform_1 (grid0.coords t) 2 = t.val / 8
    ∧ cc0_transform_2 (grid0.coords t) 0 = t.val % 8 ∧ cc0_transform_2 (grid0.coords t) 1 = t.val / 8 := by decide +kernel

/-- A block of the rows. -/
theorem rows_apply (c : Dev nD) (t : Fin cfg0.N) (r : Fin 1088) (k : Fin 2048) (i : Fin 8704) (hi : i.val = t.val % 8 * 1088 + r.val) :
    iblk m c 0 t (ix2 r k) = m ((c : Thread nD τ).loc main_arg0) (ix2 i k) := by
  have h0 := (places t).1
  have h1 := (places t).2.1
  blk_simp [iblk]
  refine congrArg (m ((c : Thread nD τ).loc main_arg0)) (funext fun a => Fin.ext ?_)
  match a with
  | ⟨0, _⟩ =>
    show cc0_transform_0 (grid0.coords t) 0 * 1088 + 1 * r.val = i.val
    rw [h0, hi]; omega
  | ⟨1, _⟩ =>
    show cc0_transform_0 (grid0.coords t) 1 * 2048 + 1 * k.val = k.val
    rw [h1]; omega

/-- A block of the matrix. -/
theorem mat_apply (c : Dev nD) (t : Fin cfg0.N) (k : Fin 2048) (q : Fin 1024) (n : Fin 12288) (hn : n.val = t.val / 8 * 1024 + q.val) :
    iblk m c 1 t (ix3 (0 : Fin 1) k q) = m ((c : Thread nD τ).loc main_arg1) (ix3 (0 : Fin 1) k n) := by
  have h0 := (places t).2.2.1
  have h1 := (places t).2.2.2.1
  have h2 := (places t).2.2.2.2.1
  blk_simp [iblk]
  refine congrArg (m ((c : Thread nD τ).loc main_arg1)) (funext fun a => Fin.ext ?_)
  match a with
  | ⟨0, _⟩ =>
    show cc0_transform_1 (grid0.coords t) 0 * 1 + 1 * 0 = 0
    rw [h0]
  | ⟨1, _⟩ =>
    show cc0_transform_1 (grid0.coords t) 1 * 2048 + 1 * k.val = k.val
    rw [h1]; omega
  | ⟨2, _⟩ =>
    show cc0_transform_1 (grid0.coords t) 2 * 1024 + 1 * q.val = n.val
    rw [h2, hn]; omega

/-- What the points carry: the matrix's block of the column of blocks they are in. -/
theorem carried (c : Dev nD) : ∀ (n : ℕ) (h : n < cfg0.N) (k : Fin 2048) (q : Fin 1024) (j : Fin 12288), j.val = n / 8 * 1024 + q.val →
    (outsAt0 m c n h).2 (ix2 k q) = m ((c : Thread nD τ).loc main_arg1) (ix3 (0 : Fin 1) k j) := by
  refine carried_of 8 (fun n h => (outsAt0 m c n h).2)
    (fun b s => ∀ (k : Fin 2048) (q : Fin 1024) (j : Fin 12288), j.val = b * 1024 + q.val →
      s (ix2 k q) = m ((c : Thread nD τ).loc main_arg1) (ix3 (0 : Fin 1) k j)) (fun n h h0 k q j hj => ?_) (fun n h h0 => ?_)
  · rw [show outsAt0 m c n h = _ from outsAt0_A m c ⟨n, h⟩ h0]
    dsimp only
    rw [carry_first, pay1_apply]
    exact mat_apply m c ⟨n, h⟩ k q j hj
  · rw [show outsAt0 m c (n + 1) h = _ from outsAt0_B m c ⟨n + 1, h⟩ h0]
    rfl

/-! ## The result -/

/-- The rows' product with the matrix. -/
def prod (x : S8704x2048.Idx → EReal) (w : S1x2048x12288.Idx → EReal) (i : S8704x12288.Idx) : EReal :=
  ∑ k : Fin 2048, x (ix2 (i 0) k) * w (ix3 (0 : Fin 1) k (i 1))

/-- The block a point leaves. -/
theorem out_apply (c : Dev nD) (t : Fin cfg0.N) (y : S1088x1024.Idx) (i : S8704x12288.Idx)
    (h0 : (i 0).val = t.val % 8 * 1088 + (y 0).val) (h1 : (i 1).val = t.val / 8 * 1024 + (y 1).val) :
    (outsAt0 m c t.val t.isLt).1 y = prod (m ((c : Thread nD τ).loc main_arg0)) (m ((c : Thread nD τ).loc main_arg1)) i := by
  by_cases h : t.val % 8 = 0
  · rw [outsAt0_A m c t h]
    dsimp only
    rw [out_first, pay2_apply]
    unfold prod
    refine Finset.sum_congr rfl fun k _ => congrArg₂ (· * ·) (rows_apply m c t _ k (i 0) h0) ?_
    exact (pay1_apply _ _).trans (mat_apply m c t k _ (i 1) h1)
  · rw [outsAt0_B m c t h]
    dsimp only
    rw [out_later, pay2_apply]
    unfold prod
    refine Finset.sum_congr rfl fun k _ => congrArg₂ (· * ·) (rows_apply m c t _ k (i 0) h0) ?_
    exact carried m c (t.val - 1) _ k _ (i 1) (by omega)

theorem places_out : ∀ t : Fin grid0.N, cc0_transform_2 (grid0.coords t) 0 = t.val % 8 ∧ cc0_transform_2 (grid0.coords t) 1 = t.val / 8 := by decide +kernel

theorem covers : (cfg0.win 2).Covers :=
  Pipeline.Window.covers_of_index_surj _ rfl (show ∀ a : Fin 2, 0 < S1088x1024.size a by decide) fun β => by
    have b0 : (β (0 : Fin 2)).val < 8 := lt_of_lt_of_eq (β (0 : Fin 2)).isLt (show (8704 + 1088 - 1) / 1088 = 8 by decide)
    have b1 : (β (1 : Fin 2)).val < 12 := lt_of_lt_of_eq (β (1 : Fin 2)).isLt (show (12288 + 1024 - 1) / 1024 = 12 by decide)
    have hN : (β (1 : Fin 2)).val * 8 + (β (0 : Fin 2)).val < grid0.N := by
      have : grid0.N = 96 := by decide
      omega
    refine ⟨⟨(β (1 : Fin 2)).val * 8 + (β (0 : Fin 2)).val, hN⟩, fun a => ?_⟩
    match a with
    | ⟨0, _⟩ => exact (places_out ⟨_, hN⟩).1.trans (by show _ % 8 = (β (0 : Fin 2)).val; dsimp only; omega)
    | ⟨1, _⟩ => exact (places_out ⟨_, hN⟩).2.trans (by show _ / 8 = (β (1 : Fin 2)).val; dsimp only; omega)

theorem arr_eq (c : Dev nD) : (dats m 0 c).arrAt 2 cfg0.N = prod (m ((c : Thread nD τ).loc main_arg0)) (m ((c : Thread nD τ).loc main_arg1)) := by
  refine (dats m 0 c).arrAt_eq_of_covers 2 _ covers fun t hf y => ?_
  blk_simp
  have q0 := (places_out t).1
  have q1 := (places_out t).2
  rw [after0_2]
  refine out_apply m c t y _ ?_ ?_
  · show cc0_transform_2 (grid0.coords t) 0 * 1088 + 1 * (y (0 : Fin 2)).val = _
    rw [q0]; omega
  · show cc0_transform_2 (grid0.coords t) 1 * 1024 + 1 * (y (1 : Fin 2)).val = _
    rw [q1]; omega

/-- The kernel runs, leaves the product and changes no argument. -/
theorem run (g : Dev nD → PrngReg) : θ_run defs (onTc (τ := τ) (main (F := Ideal))) ⟨m, fun _ => 0, g⟩ (fun r => ∀ c : Dev nD,
      r.2.mem ((c.tc : Thread nD τ).loc main_v0) = prod (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (arr_eq m c), (h c).2⟩) (Value.run_blocks (F := Ideal) m g)

end Cert.GmlpInIdeal.Hand

/-! ## The reference -/

namespace Cert.GmlpInRefIdeal.Hand

open Cert.GmlpInRefIdeal Cert.GmlpInRefIdeal.Gen Cert.GmlpInRefIdeal.Read Idealize.ShloMosaic Idealize.ShloMosaic.TcCoe Idealize.SL.Sem
open Cert.GmlpInIdeal.Hand (prod)

theorem result_eq (x : S8704x2048.Idx → EReal) (w : S1x2048x12288.Idx → EReal) : val_main_v2 (F := Ideal) x w = prod x w := by
  funext j
  rw [val_main_v2_apply]
  unfold prod
  refine Finset.sum_congr rfl fun k _ => congrArg₂ (· * ·) ?_ ?_
  · refine (val_main_v0_apply (F := Ideal) x _).trans (congrArg x (funext fun a => Fin.ext ?_))
    match a with
    | ⟨0, _⟩ => rfl
    | ⟨1, _⟩ => rfl
  · rw [val_main_v1_apply]
    refine congrArg w (funext fun a => Fin.ext ?_)
    have hk := k.isLt
    have hj : (j 1).val < 12288 := (j 1).isLt
    match a with
    | ⟨0, _⟩ => rfl
    | ⟨1, _⟩ => show (k.val * 12288 + (j 1).val) / 12288 % 2048 = k.val; omega
    | ⟨2, _⟩ => show (k.val * 12288 + (j 1).val) % 12288 = (j 1).val; omega

end Cert.GmlpInRefIdeal.Hand
-- ==== Proof.RetIn.Value.lean ====
/-
  The rows' product with the retention layer's four matrices side by side, over the extended reals, read at an index.
-/
module

public import proofs.«01_k».proof.Proof.Mat.Shared
public import proofs.«01_k».proof.Proof.Gen.RetInIdeal.Frame
public import proofs.«01_k».proof.Proof.Gen.RetInIdeal.Value
public import proofs.«01_k».proof.Proof.Gen.RetInRefIdeal.Read

@[expose] public section

set_option maxRecDepth 16384

noncomputable section

namespace Cert.RetInIdeal.Hand

open Cert.RetInIdeal Cert.RetInIdeal.Gen Cert.Mat Idealize.ShloMosaic Idealize.ShloMosaic.TcCoe Idealize.SL.Sem
open Idealize.ShloMosaic.Tactic

/-! ## The operations -/

theorem pay1_apply (v : Vec Ideal S1x2048x1024 .f32) (y : S2048x1024.Idx) : k0_pay1 (F := Ideal) v y = v (ix3 (0 : Fin 1) (y 0) (y 1)) := by
  unfold_payloads
  pointwise

theorem pay2_apply (w : Vec Ideal S2048x1024 .bf16) (x : Vec Ideal S1088x2048 .bf16) (y : S1088x1024.Idx) :
    k0_pay2 (F := Ideal) w x y = ∑ k : Fin 2048, (x (ix2 (y 0) k) * w (ix2 k (y 1)) : EReal) := by
  unfold_payloads
  pointwise

/-! ## What a point leaves -/

section Point
variable (c : Dev nD) (i : grid0.Coords) (arg2 : Memref sig .tc .vmem S1088x2048 .bf16) (harg2 : arg2.IsWhole)
  (arg3 : Memref sig .tc .vmem S1x2048x1024 .f32) (harg3 : arg3.IsWhole)
  (arg4 : Memref sig .tc .vmem S1088x1024 .f32) (harg4 : arg4.IsWhole) (arg5 : Memref sig .tc .vmem S2048x1024 .bf16) (harg5 : arg5.IsWhole)
  (x0 : Vec Ideal S1088x2048 .bf16) (x1 : Vec Ideal S1x2048x1024 .f32) (xs : Vec Ideal S2048x1024 .bf16)

theorem carry_first (h : cond0_0 i) : sout0_A_0 (F := Ideal) c i arg2 harg2 arg3 harg3 arg4 harg4 arg5 harg5 h x0 x1 = k0_pay1 (F := Ideal) x1 := by
  unfold sout0_A_0
  rw [View.read_writes_junk_eq_canon]
  unfold kernelRun0_A
  dsimp only
  sl_unfold_words
  rw [load_whole arg3 harg3 x1 _ _ zero3]
  exact View.canon_cons_unit_lit _ _ _ (congrFun zero2)

theorem out_first (h : cond0_0 i) : out0_A_2 (F := Ideal) c i arg2 harg2 arg3 harg3 arg4 harg4 arg5 harg5 h x0 x1 = k0_pay2 (F := Ideal) (k0_pay1 (F := Ideal) x1) x0 := by
  unfold out0_A_2
  rw [View.read_writes_junk_eq_canon]
  unfold kernelRun0_A
  dsimp only
  sl_unfold_words
  rw [load_whole arg2 harg2 x0 _ _ zero2, load_whole arg3 harg3 x1 _ _ zero3]
  refine (View.canon_cons_unit_lit _ _ _ (congrFun zero2)).trans ?_
  exact congrArg (fun z => k0_pay2 (F := Ideal) z x0) (View.readCov_unit_lit _ _ _ (congrFun zero2))

theorem out_later (h : ¬cond0_0 i) : out0_B_2 (F := Ideal) c i arg2 harg2 arg3 harg3 arg4 harg4 arg5 harg5 h x0 x1 xs = k0_pay2 (F := Ideal) xs x0 := by
  unfold out0_B_2
  rw [View.read_writes_junk_eq_canon]
  unfold kernelRun0_B
  dsimp only
  sl_unfold_words
  rw [load_whole arg2 harg2 x0 _ _ zero2, load_whole arg5 harg5 xs _ _ zero2]
  exact View.canon_cons_unit_lit _ _ _ (congrFun zero2)

end Point

/-! ## The operands -/

variable (m : (ℓ : Loc nD τ sig) → Buf (Elt Ideal) ℓ)

theorem places : ∀ t : Fin grid0.N, cc0_transform_0 (grid0.coords t) 0 = t.val % 8 ∧ cc0_transform_0 (grid0.coords t) 1 = 0
    ∧ cc0_transform_1 (grid0.coords t) 0 = 1 ∧ cc0_transform_1 (grid0.coords t) 1 = 0 ∧ cc0_transform_1 (grid0.coords t) 2 = t.val / 8
    ∧ cc0_transform_2 (grid0.coords t) 0 = t.val % 8 ∧ cc0_transform_2 (grid0.coords t) 1 = t.val / 8 := by decide +kernel

/-- A block of the rows. -/
theorem rows_apply (c : Dev nD) (t : Fin cfg0.N) (r : Fin 1088) (k : Fin 2048) (i : Fin 8704) (hi : i.val = t.val % 8 * 1088 + r.val) :
    iblk m c 0 t (ix2 r k) = m ((c : Thread nD τ).loc main_arg0) (ix2 i k) := by
  have h0 := (places t).1
  have h1 := (places t).2.1
  blk_simp [iblk]
  refine congrArg (m ((c : Thread nD τ).loc main_arg0)) (funext fun a => Fin.ext ?_)
  match a with
  | ⟨0, _⟩ =>
    show cc0_transform_0 (grid0.coords t) 0 * 1088 + 1 * r.val = i.val
    rw [h0, hi]; omega
  | ⟨1, _⟩ =>
    show cc0_transform_0 (grid0.coords t) 1 * 2048 + 1 * k.val = k.val
    rw [h1]; omega

/-- A block of the matrix. -/
theorem mat_apply (c : Dev nD) (t : Fin cfg0.N) (k : Fin 2048) (q : Fin 1024) (n : Fin 12288) (hn : n.val = t.val / 8 * 1024 + q.val) :
    iblk m c 1 t (ix3 (0 : Fin 1) k q) = m ((c : Thread nD τ).loc main_arg1) (ix3 (1 : Fin 2) k n) := by
  have h0 := (places t).2.2.1
  have h1 := (places t).2.2.2.1
  have h2 := (places t).2.2.2.2.1
  blk_simp [iblk]
  refine congrArg (m ((c : Thread nD τ).loc main_arg1)) (funext fun a => Fin.ext ?_)
  match a with
  | ⟨0, _⟩ =>
    show cc0_transform_1 (grid0.coords t) 0 * 1 + 1 * 0 = 1
    rw [h0]
  | ⟨1, _⟩ =>
    show cc0_transform_1 (grid0.coords t) 1 * 2048 + 1 * k.val = k.val
    rw [h1]; omega
  | ⟨2, _⟩ =>
    show cc0_transform_1 (grid0.coords t) 2 * 1024 + 1 * q.val = n.val
    rw [h2, hn]; omega

/-- What the points carry: the matrix's block of the column of blocks they are in. -/
theorem carried (c : Dev nD) : ∀ (n : ℕ) (h : n < cfg0.N) (k : Fin 2048) (q : Fin 1024) (j : Fin 12288), j.val = n / 8 * 1024 + q.val →
    (outsAt0 m c n h).2 (ix2 k q) = m ((c : Thread nD τ).loc main_arg1) (ix3 (1 : Fin 2) k j) := by
  refine carried_of 8 (fun n h => (outsAt0 m c n h).2)
    (fun b s => ∀ (k : Fin 2048) (q : Fin 1024) (j : Fin 12288), j.val = b * 1024 + q.val →
      s (ix2 k q) = m ((c : Thread nD τ).loc main_arg1) (ix3 (1 : Fin 2) k j)) (fun n h h0 k q j hj => ?_) (fun n h h0 => ?_)
  · rw [show outsAt0 m c n h = _ from outsAt0_A m c ⟨n, h⟩ h0]
    dsimp only
    rw [carry_first, pay1_apply]
    exact mat_apply m c ⟨n, h⟩ k q j hj
  · rw [show outsAt0 m c (n + 1) h = _ from outsAt0_B m c ⟨n + 1, h⟩ h0]
    rfl

/-! ## The result -/

/-- The rows' product with the matrix. -/
def prod (x : S8704x2048.Idx → EReal) (w : S2x2048x12288.Idx → EReal) (i : S8704x12288.Idx) : EReal :=
  ∑ k : Fin 2048, x (ix2 (i 0) k) * w (ix3 (1 : Fin 2) k (i 1))

/-- The block a point leaves. -/
theorem out_apply (c : Dev nD) (t : Fin cfg0.N) (y : S1088x1024.Idx) (i : S8704x12288.Idx)
    (h0 : (i 0).val = t.val % 8 * 1088 + (y 0).val) (h1 : (i 1).val = t.val / 8 * 1024 + (y 1).val) :
    (outsAt0 m c t.val t.isLt).1 y = prod (m ((c : Thread nD τ).loc main_arg0)) (m ((c : Thread nD τ).loc main_arg1)) i := by
  by_cases h : t.val % 8 = 0
  · rw [outsAt0_A m c t h]
    dsimp only
    rw [out_first, pay2_apply]
    unfold prod
    refine Finset.sum_congr rfl fun k _ => congrArg₂ (· * ·) (rows_apply m c t _ k (i 0) h0) ?_
    exact (pay1_apply _ _).trans (mat_apply m c t k _ (i 1) h1)
  · rw [outsAt0_B m c t h]
    dsimp only
    rw [out_later, pay2_apply]
    unfold prod
    refine Finset.sum_congr rfl fun k _ => congrArg₂ (· * ·) (rows_apply m c t _ k (i 0) h0) ?_
    exact carried m c (t.val - 1) _ k _ (i 1) (by omega)

theorem places_out : ∀ t : Fin grid0.N, cc0_transform_2 (grid0.coords t) 0 = t.val % 8 ∧ cc0_transform_2 (grid0.coords t) 1 = t.val / 8 := by decide +kernel

theorem covers : (cfg0.win 2).Covers :=
  Pipeline.Window.covers_of_index_surj _ rfl (show ∀ a : Fin 2, 0 < S1088x1024.size a by decide) fun β => by
    have b0 : (β (0 : Fin 2)).val < 8 := lt_of_lt_of_eq (β (0 : Fin 2)).isLt (show (8704 + 1088 - 1) / 1088 = 8 by decide)
    have b1 : (β (1 : Fin 2)).val < 12 := lt_of_lt_of_eq (β (1 : Fin 2)).isLt (show (12288 + 1024 - 1) / 1024 = 12 by decide)
    have hN : (β (1 : Fin 2)).val * 8 + (β (0 : Fin 2)).val < grid0.N := by
      have : grid0.N = 96 := by decide
      omega
    refine ⟨⟨(β (1 : Fin 2)).val * 8 + (β (0 : Fin 2)).val, hN⟩, fun a => ?_⟩
    match a with
    | ⟨0, _⟩ => exact (places_out ⟨_, hN⟩).1.trans (by show _ % 8 = (β (0 : Fin 2)).val; dsimp only; omega)
    | ⟨1, _⟩ => exact (places_out ⟨_, hN⟩).2.trans (by show _ / 8 = (β (1 : Fin 2)).val; dsimp only; omega)

theorem arr_eq (c : Dev nD) : (dats m 0 c).arrAt 2 cfg0.N = prod (m ((c : Thread nD τ).loc main_arg0)) (m ((c : Thread nD τ).loc main_arg1)) := by
  refine (dats m 0 c).arrAt_eq_of_covers 2 _ covers fun t hf y => ?_
  blk_simp
  have q0 := (places_out t).1
  have q1 := (places_out t).2
  rw [after0_2]
  refine out_apply m c t y _ ?_ ?_
  · show cc0_transform_2 (grid0.coords t) 0 * 1088 + 1 * (y (0 : Fin 2)).val = _
    rw [q0]; omega
  · show cc0_transform_2 (grid0.coords t) 1 * 1024 + 1 * (y (1 : Fin 2)).val = _
    rw [q1]; omega

/-- The kernel runs, leaves the product and changes no argument. -/
theorem run (g : Dev nD → PrngReg) : θ_run defs (onTc (τ := τ) (main (F := Ideal))) ⟨m, fun _ => 0, g⟩ (fun r => ∀ c : Dev nD,
      r.2.mem ((c.tc : Thread nD τ).loc main_v0) = prod (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (arr_eq m c), (h c).2⟩) (Value.run_blocks (F := Ideal) m g)

end Cert.RetInIdeal.Hand

/-! ## The reference -/

namespace Cert.RetInRefIdeal.Hand

open Cert.RetInRefIdeal Cert.RetInRefIdeal.Gen Cert.RetInRefIdeal.Read Idealize.ShloMosaic Idealize.ShloMosaic.TcCoe Idealize.SL.Sem
open Cert.RetInIdeal.Hand (prod)

theorem result_eq (x : S8704x2048.Idx → EReal) (w : S2x2048x12288.Idx → EReal) : val_main_v3 (F := Ideal) x w = prod x w := by
  funext j
  rw [val_main_v3_apply]
  unfold prod
  refine Finset.sum_congr rfl fun k _ => congrArg₂ (· * ·) ?_ ?_
  · refine (val_main_v0_apply (F := Ideal) x _).trans (congrArg x (funext fun a => Fin.ext ?_))
    match a with
    | ⟨0, _⟩ => rfl
    | ⟨1, _⟩ => rfl
  · rw [val_main_v2_apply, val_main_v1_apply]
    refine congrArg w (funext fun a => Fin.ext ?_)
    have hk := k.isLt
    have hj : (j 1).val < 12288 := (j 1).isLt
    match a with
    | ⟨0, _⟩ => rfl
    | ⟨1, _⟩ => show (k.val * 12288 + (j 1).val) / 12288 % 2048 = k.val; omega
    | ⟨2, _⟩ => show (k.val * 12288 + (j 1).val) % 12288 = (j 1).val; omega

end Cert.RetInRefIdeal.Hand
-- ==== Proof.Att.Gather.lean ====
/- Rows of a matrix taken by a matrix of row numbers. -/
module

public import proofs.«01_k».proof.Proof.Att.Spec
public import Idealize.ShloMosaic.Lib.StableHlo.Predicate

@[expose] public section

noncomputable section

namespace Cert.Att

open Idealize.ShloMosaic

/-- `table[idx]` over the rows of a matrix, for a matrix `idx` of row numbers inside the table: entry `(r, c, y)` is
    the table's row `idx[r, c]` at column `y`. -/
theorem gather_rows_matrix {α : Type} {N M R C : Nat}
    (d : GatherDims ⟨2, ![N, M]⟩ ⟨3, ![R, C, 1]⟩ ⟨3, ![R, C, M]⟩) (hoff : d.offsetDims = [2])
    (hcoll : d.collapsedSliceDims = [0]) (hob : d.operandBatchingDims = [])
    (hsim : d.startIndexMap = [0]) (hivd : d.indexVectorDim = 2) (x : (⟨2, ![N, M]⟩ : Shape).Idx → α)
    (idx : IVec ⟨3, ![R, C, 1]⟩ 32) (r : Fin R) (c : Fin C) (y : Fin M) (b : Fin N)
    (hb : idx (ix3 r c (0 : Fin 1)) = BitVec.ofNat 32 b.val) (hN : N < 2 ^ 31) :
    Host.gather d x idx (ix3 r c y) = x (ix2 b y) := by
  obtain ⟨od, cd, ob, sib, sm, iv, ss, wf⟩ := d
  dsimp only at hoff hcoll hob hsim hivd
  subst hoff hcoll hob hsim hivd
  unfold Host.gather
  congr 1
  funext a
  refine Fin.ext ?_
  match a with
  | ⟨0, _⟩ =>
    show GatherDims.start _ (ix3 r c y) idx 0 + GatherDims.batchCoord _ (ix3 r c y) 0 + GatherDims.offCoord _ (ix3 r c y) 0 = b.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsl : ss 0 = 1 := GatherDims.slice_collapsed ⟨[2], [0], [], sib, [0], 2, ss, wf⟩ 0 (List.mem_singleton.mpr rfl)
    have hsi : GatherDims.siIdx ⟨[2], [0], [], sib, [0], 2, ss, wf⟩ (ix3 r c y) ⟨List.idxOf (0 : Fin 2) [0],
        List.idxOf_lt_length_iff.2 (List.mem_singleton.mpr rfl)⟩ = ix3 r c (0 : Fin 1) := by
      funext b'; refine Fin.ext ?_
      match b' with
      | ⟨0, _⟩ => rfl
      | ⟨1, _⟩ => rfl
      | ⟨2, _⟩ => rfl
    have hbl := b.isLt
    show min (idx (GatherDims.siIdx ⟨[2], [0], [], sib, [0], 2, ss, wf⟩ (ix3 r c y) ⟨List.idxOf (0 : Fin 2) [0], _⟩)).toInt.toNat
      (N - ss 0) = b.val
    rw [hsi, hb, hsl, StableHlo.Predicate.toInt_ofNat_small _ (by omega)]
    show min ((b.val : Int)).toNat (N - 1) = b.val
    omega
  | ⟨1, _⟩ =>
    show GatherDims.start _ (ix3 r c y) idx 1 + GatherDims.batchCoord _ (ix3 r c y) 1 + GatherDims.offCoord _ (ix3 r c y) 1 = y.val
    rw [GatherDims.batchCoord_eq_zero _ _ _ List.not_mem_nil]
    unfold GatherDims.start
    rw [dif_neg (by show ¬((1 : Fin 2) ∈ ([0] : List (Fin 2))); decide)]
    simp only [Nat.zero_add, Nat.add_zero]
    unfold GatherDims.offCoord
    rw [dif_pos ((GatherDims.mem_sKept _ 1).2 ⟨by show ¬((1 : Fin 2) ∈ ([0] : List (Fin 2))); decide, List.not_mem_nil⟩)]
    rfl

/-- The same at an index of the result, its coordinates named as numbers. -/
theorem gather_rows_at {N M R C : Nat}
    (d : GatherDims ⟨2, ![N, M]⟩ ⟨3, ![R, C, 1]⟩ ⟨3, ![R, C, M]⟩) (hoff : d.offsetDims = [2])
    (hcoll : d.collapsedSliceDims = [0]) (hob : d.operandBatchingDims = [])
    (hsim : d.startIndexMap = [0]) (hivd : d.indexVectorDim = 2) (x : (⟨2, ![N, M]⟩ : Shape).Idx → EReal)
    (idx : IVec ⟨3, ![R, C, 1]⟩ 32) (i : (⟨3, ![R, C, M]⟩ : Shape).Idx) (b y : Nat) (hbN : b < N) (hy : (i 2).val = y)
    (hb : idx (ix3 (i 0) (i 1) (0 : Fin 1)) = BitVec.ofNat 32 b) (hN : N < 2 ^ 31) :
    Host.gather d x idx i = at2 x b y := by
  have e : i = ix3 (i 0) (i 1) (i 2) := by
    funext k
    match k with
    | ⟨0, _⟩ => rfl
    | ⟨1, _⟩ => rfl
    | ⟨2, _⟩ => rfl
  refine (congrArg (Host.gather d x idx) e).trans ?_
  refine (gather_rows_matrix d hoff hcoll hob hsim hivd x idx (i 0) (i 1) (i 2) ⟨b, hbN⟩ hb hN).trans ?_
  exact at2_eq x _ rfl hy

end Cert.Att
-- ==== Proof.Att.Ref.lean ====
/- What the reference computes, index by index. -/
module

public import proofs.«01_k».proof.Proof.Gen.ReferenceIdeal.Read
public import proofs.«01_k».proof.Proof.Att.Gather
public import Idealize.ShloMosaic.Lib.WordCmp
public import Idealize.ShloMosaic.Lib.KernelVsHost

@[expose] public section

set_option maxRecDepth 16384

noncomputable section

namespace Cert.ReferenceIdeal.Att

open Cert.ReferenceIdeal Cert.ReferenceIdeal.Gen Cert.ReferenceIdeal.Read Idealize.ShloMosaic Idealize.ShloMosaic.TcCoe Idealize.SL.Sem
open Idealize.ShloMosaic.Tactic Cert.Att

/-- The row maximum of the scores. -/
theorem max_apply (x : S128x16x64x576.Idx → EReal) (init : S_.Idx → EReal) (j : S128x16x64.Idx) :
    Host.reduce (FloatOps.maximumf (F := Ideal) (φ := .f32)) x init reducesTo_S128x16x64x576_S128x16x64_d3 h_S_ j
      = (Finset.univ : Finset (Fin 576)).fold max (init (Shape.Idx.first h_S_)) (fun k => x (ix4 (j 0) (j 1) (j 2) k)) := by
  simp only [pointwise]

/-- The band's row numbers. -/
theorem rows_apply (i : S128x576.Idx) :
    val_main_v13 (F := Ideal) i = BitVec.ofNat 32 (64 * (i 0).val + (i 1).val) := by
  rw [val_main_v13_apply, val_main_v11_apply, val_main_v8_apply, val_main_v6_apply, val_main_v7_apply, val_main_v12_apply, val_main_v10_apply]
  rw [val_main_v5_apply, val_main_v9_apply, val_main_c_apply]
  show BitVec.ofNat 32 (i 0).val * 64#32 + BitVec.ofNat 32 (i 1).val = _
  rw [← BitVec.ofNat_mul, ← BitVec.ofNat_add, Nat.mul_comm]

theorem ofBits_bot : Ideal.ofBits .f32 0xFF800000#32 = ⊥ := by simp [Ideal.ofBits, Ideal.ieee]

/-- A row of the band is valid from row 512 on. -/
theorem valid_apply (i : S128x576.Idx) :
    val_main_v21 (F := Ideal) i = if 512 ≤ 64 * (i 0).val + (i 1).val then 1#1 else 0#1 := by
  rw [val_main_v21_apply, rows_apply, val_main_v20_apply, val_main_c_2_apply]
  have h0 : (i 0).val < 128 := (i 0).isLt
  have h1 : (i 1).val < 576 := (i 1).isLt
  generalize (i 0).val = a at *
  generalize (i 1).val = b at *
  rw [WordCmp.cmpi_sge_ofNat (by omega) (by omega)]
  by_cases h : 512 ≤ 64 * a + b
  · rw [if_pos h, decide_eq_true h]; rfl
  · rw [if_neg h, decide_eq_false h]; rfl

/-- 512 rows of zeros before the rows of `y`. -/
theorem pad_rows (y : S8192x2048.Idx → EReal) (z : S_.Idx → EReal) (hz : ∀ i, z i = 0) (i : S8704x2048.Idx) :
    pad S8704x2048 ![512, 0] ![0, 0] ![0, 0] y z pads_S8192x2048_S8704x2048_51200_000 h_S_ i
      = if (i 0).val < 512 then 0 else at2 y ((i 0).val - 512) (i 1).val := by
  have h0 : (i 0).val < 8704 := (i 0).isLt
  have h1 : (i 1).val < 2048 := (i 1).isLt
  by_cases h : (i 0).val < 512
  · rw [if_pos h, pad_apply_of_not_inside _ _ _ _ _ _ _ i 0, hz]
    show ¬(512 ≤ (i 0).val ∧ _)
    omega
  · rw [if_neg h, pad_apply_of_inside _ _ _ _ _ _ _ i (ix2 ⟨(i 0).val - 512, by omega⟩ ⟨(i 1).val, h1⟩)]
    · exact at2_eq y _ rfl rfl
    · intro a
      match a with
      | ⟨0, _⟩ => show (i 0).val = 512 + ((i 0).val - 512) * (0 + 1); omega
      | ⟨1, _⟩ => show (i 1).val = 0 + (i 1).val * (0 + 1); omega

theorem zero_word : FloatOps.sitofp (F := Ideal) (w := 32) .f32 0#32 = (0 : EReal) := by
  show (((0#32).toInt : ℝ) : EReal) = 0
  simp

theorem k_pad_apply (x0 : (⟨S8704x6144, .f32⟩ : BufTy).Contents (Elt Ideal)) (i : S8704x2048.Idx) :
    val_main_v14 (F := Ideal) x0 i = band x0 2048 (i 0).val (i 1).val := by
  unfold val_main_v14
  rw [pad_rows _ _ (fun i => by rw [val_main_call0_v0_apply, val_main_c_0_apply]; exact zero_word)]
  have h0 : (i 0).val < 8704 := (i 0).isLt
  have h1 : (i 1).val < 2048 := (i 1).isLt
  unfold band
  by_cases h : (i 0).val < 512
  · rw [if_pos h, if_pos h]
  · rw [if_neg h, if_neg h]
    rw [at2_mk (val_main_v2 (F := Ideal) x0) (by omega) h1, val_main_v2_apply, val_main_v0_apply]
    exact at2_eq x0 _ rfl rfl

theorem v_pad_apply (x0 : (⟨S8704x6144, .f32⟩ : BufTy).Contents (Elt Ideal)) (i : S8704x2048.Idx) :
    val_main_v17 (F := Ideal) x0 i = band x0 4096 (i 0).val (i 1).val := by
  unfold val_main_v17
  rw [pad_rows _ _ (fun i => by rw [val_main_call2_v0_apply, val_main_c_1_apply]; exact zero_word)]
  have h0 : (i 0).val < 8704 := (i 0).isLt
  have h1 : (i 1).val < 2048 := (i 1).isLt
  unfold band
  by_cases h : (i 0).val < 512
  · rw [if_pos h, if_pos h]
  · rw [if_neg h, if_neg h]
    rw [at2_mk (val_main_v3 (F := Ideal) x0) (by omega) h1, val_main_v3_apply, val_main_v0_apply]
    exact at2_eq x0 _ rfl rfl

theorem k_gather_apply (x0 : (⟨S8704x6144, .f32⟩ : BufTy).Contents (Elt Ideal)) (i : S128x576x2048.Idx) :
    val_main_v15 (F := Ideal) x0 i = band x0 2048 (64 * (i 0).val + (i 1).val) (i 2).val := by
  have h0 : (i 0).val < 128 := (i 0).isLt
  have h1 : (i 1).val < 576 := (i 1).isLt
  have h2 : (i 2).val < 2048 := (i 2).isLt
  unfold val_main_v15
  refine (gather_rows_at _ rfl rfl rfl rfl rfl _ _ i (64 * (i 0).val + (i 1).val) (i 2).val (by omega) rfl
    (by rw [val_main_call1_v0_apply, rows_apply]; rfl) (by omega)).trans ?_
  rw [at2_mk (val_main_v14 (F := Ideal) x0) (by omega) h2, k_pad_apply]
  rfl

theorem v_gather_apply (x0 : (⟨S8704x6144, .f32⟩ : BufTy).Contents (Elt Ideal)) (i : S128x576x2048.Idx) :
    val_main_v18 (F := Ideal) x0 i = band x0 4096 (64 * (i 0).val + (i 1).val) (i 2).val := by
  have h0 : (i 0).val < 128 := (i 0).isLt
  have h1 : (i 1).val < 576 := (i 1).isLt
  have h2 : (i 2).val < 2048 := (i 2).isLt
  unfold val_main_v18
  refine (gather_rows_at _ rfl rfl rfl rfl rfl _ _ i (64 * (i 0).val + (i 1).val) (i 2).val (by omega) rfl
    (by rw [val_main_call3_v0_apply, rows_apply]; rfl) (by omega)).trans ?_
  rw [at2_mk (val_main_v17 (F := Ideal) x0) (by omega) h2, v_pad_apply]
  rfl

/-- The clipped distance, as a word. -/
theorem clip_word (a b : Nat) (ha : a < 64) (hb : b < 576) :
    IntOp.addi (IntOp.minsi 128#32 (IntOp.maxsi 4294967168#32 (IntOp.subi (IntOp.addi 512#32 (BitVec.ofNat 32 a)) (BitVec.ofNat 32 b)))) 128#32
      = BitVec.ofNat 32 (min (640 + a - b) 256) := by
  have h : ∀ n : Fin 640, IntOp.addi (IntOp.minsi 128#32 (IntOp.maxsi 4294967168#32 (BitVec.ofNat 32 n.val - 64#32))) 128#32
      = BitVec.ofNat 32 (min (64 + n.val) 256) := by decide +kernel
  have e : IntOp.subi (IntOp.addi 512#32 (BitVec.ofNat 32 a)) (BitVec.ofNat 32 b) = BitVec.ofNat 32 (576 + a - b) - 64#32 := by
    show 512#32 + BitVec.ofNat 32 a - BitVec.ofNat 32 b = _
    apply BitVec.eq_of_toNat_eq
    simp only [BitVec.toNat_sub, BitVec.toNat_add, BitVec.toNat_ofNat]
    omega
  rw [e, h ⟨576 + a - b, by omega⟩]
  congr 2
  show 64 + (576 + a - b) = _
  omega

theorem rel_apply (i : S64x576.Idx) :
    val_main_v33 (F := Ideal) i = BitVec.ofNat 32 (min (640 + (i 0).val - (i 1).val) 256) := by
  rw [val_main_v33_apply, val_main_v31_apply, val_main_call4_v4_apply, val_main_call4_v3_apply, val_main_c_5_apply,
    val_main_call4_v2_apply, val_main_call4_v1_apply, val_main_call4_v0_apply, val_main_c_4_apply, val_main_v30_apply,
    val_main_v28_apply, val_main_v25_apply, val_main_v24_apply, val_main_c_3_apply, val_main_v23_apply, val_main_v22_apply,
    val_main_v29_apply, val_main_v27_apply, val_main_v26_apply, val_main_v32_apply, val_main_c_6_apply]
  exact clip_word _ _ (i 0).isLt (i 1).isLt

theorem bias_apply (x1 : (⟨S257x16, .f32⟩ : BufTy).Contents (Elt Ideal)) (i : S16x64x576.Idx) :
    val_main_v35 (F := Ideal) x1 i = biasAt x1 (i 0).val (i 1).val (i 2).val := by
  rw [val_main_v35_apply]
  unfold val_main_v34
  have h1 : (i 1).val < 64 := (i 1).isLt
  have h2 : (i 2).val < 576 := (i 2).isLt
  exact gather_rows_at _ rfl rfl rfl rfl rfl _ _ (idx_main_v35 i) (min (640 + (i 1).val - (i 2).val) 256) (i 0).val (by omega) rfl
    (by rw [val_main_call5_v0_apply, rel_apply]; rfl) (by omega)

theorem q_apply (x0 : (⟨S8704x6144, .f32⟩ : BufTy).Contents (Elt Ideal)) (i : S128x64x16x128.Idx) :
    val_main_v4 (F := Ideal) x0 i = at2 x0 (64 * (i 0).val + (i 1).val) (128 * (i 2).val + (i 3).val) := by
  have h0 : (i 0).val < 128 := (i 0).isLt
  have h1 : (i 1).val < 64 := (i 1).isLt
  have h2 : (i 2).val < 16 := (i 2).isLt
  have h3 : (i 3).val < 128 := (i 3).isLt
  rw [val_main_v4_apply, val_main_v1_apply, val_main_v0_apply]
  refine at2_eq x0 _ ?_ ?_
  · show ((((i 0).val * 64 + (i 1).val) * 16 + (i 2).val) * 128 + (i 3).val) / 2048 = _
    omega
  · show ((((i 0).val * 64 + (i 1).val) * 16 + (i 2).val) * 128 + (i 3).val) % 2048 = _
    omega

theorem kb_apply (x0 : (⟨S8704x6144, .f32⟩ : BufTy).Contents (Elt Ideal)) (i : S128x576x16x128.Idx) :
    val_main_v16 (F := Ideal) x0 i = band x0 2048 (64 * (i 0).val + (i 1).val) (128 * (i 2).val + (i 3).val) := by
  have h0 : (i 0).val < 128 := (i 0).isLt
  have h1 : (i 1).val < 576 := (i 1).isLt
  have h2 : (i 2).val < 16 := (i 2).isLt
  have h3 : (i 3).val < 128 := (i 3).isLt
  rw [val_main_v16_apply, k_gather_apply]
  have e0 : ((((i 0).val * 576 + (i 1).val) * 16 + (i 2).val) * 128 + (i 3).val) / 1179648 = (i 0).val := by omega
  have e1 : ((((i 0).val * 576 + (i 1).val) * 16 + (i 2).val) * 128 + (i 3).val) / 2048 % 576 = (i 1).val := by omega
  have e2 : ((((i 0).val * 576 + (i 1).val) * 16 + (i 2).val) * 128 + (i 3).val) % 2048 = 128 * (i 2).val + (i 3).val := by omega
  show band x0 2048 (64 * (((((i 0).val * 576 + (i 1).val) * 16 + (i 2).val) * 128 + (i 3).val) / 1179648)
    + ((((i 0).val * 576 + (i 1).val) * 16 + (i 2).val) * 128 + (i 3).val) / 2048 % 576)
    (((((i 0).val * 576 + (i 1).val) * 16 + (i 2).val) * 128 + (i 3).val) % 2048) = _
  rw [e0, e1, e2]

theorem vb_apply (x0 : (⟨S8704x6144, .f32⟩ : BufTy).Contents (Elt Ideal)) (i : S128x576x16x128.Idx) :
    val_main_v19 (F := Ideal) x0 i = band x0 4096 (64 * (i 0).val + (i 1).val) (128 * (i 2).val + (i 3).val) := by
  have h0 : (i 0).val < 128 := (i 0).isLt
  have h1 : (i 1).val < 576 := (i 1).isLt
  have h2 : (i 2).val < 16 := (i 2).isLt
  have h3 : (i 3).val < 128 := (i 3).isLt
  rw [val_main_v19_apply, v_gather_apply]
  have e0 : ((((i 0).val * 576 + (i 1).val) * 16 + (i 2).val) * 128 + (i 3).val) / 1179648 = (i 0).val := by omega
  have e1 : ((((i 0).val * 576 + (i 1).val) * 16 + (i 2).val) * 128 + (i 3).val) / 2048 % 576 = (i 1).val := by omega
  have e2 : ((((i 0).val * 576 + (i 1).val) * 16 + (i 2).val) * 128 + (i 3).val) % 2048 = 128 * (i 2).val + (i 3).val := by omega
  show band x0 4096 (64 * (((((i 0).val * 576 + (i 1).val) * 16 + (i 2).val) * 128 + (i 3).val) / 1179648)
    + ((((i 0).val * 576 + (i 1).val) * 16 + (i 2).val) * 128 + (i 3).val) / 2048 % 576)
    (((((i 0).val * 576 + (i 1).val) * 16 + (i 2).val) * 128 + (i 3).val) % 2048) = _
  rw [e0, e1, e2]

/-- A masked score of the reference. -/
theorem score_apply (x0 : (⟨S8704x6144, .f32⟩ : BufTy).Contents (Elt Ideal)) (x1 : (⟨S257x16, .f32⟩ : BufTy).Contents (Elt Ideal))
    (i : S128x16x64x576.Idx) :
    val_main_v43 (F := Ideal) x0 x1 i = scoreR x0 x1 (i 0).val (i 1).val (i 2).val (i 3).val := by
  rw [val_main_v43_apply, val_main_call6_v1_apply, val_main_v42_apply, valid_apply, val_main_v41_apply, val_main_v38_apply,
    val_main_v36_apply, val_main_v37_apply, val_main_cst_apply, val_main_v40_apply, val_main_v39_apply, bias_apply,
    val_main_call6_v2_apply, val_main_call6_v0_apply, val_main_cst_7_apply]
  simp only [q_apply, kb_apply]
  unfold scoreR dotAt
  by_cases h : 512 ≤ 64 * (i 0).val + (i 3).val
  · simp only [if_pos h]
    rfl
  · simp only [if_neg h]
    exact ofBits_bot

/-- A row's maximum. -/
theorem rowmax_apply (x0 : (⟨S8704x6144, .f32⟩ : BufTy).Contents (Elt Ideal)) (x1 : (⟨S257x16, .f32⟩ : BufTy).Contents (Elt Ideal))
    (i : S128x16x64.Idx) :
    val_main_v46 (F := Ideal) x0 x1 i = rowMax fun k : Fin 576 => scoreR x0 x1 (i 0).val (i 1).val (i 2).val k.val := by
  rw [val_main_v46_apply, val_main_v45_apply, val_main_cst_9_apply]
  unfold val_main_v44
  rw [max_apply, val_main_cst_8_apply]
  simp only [score_apply]
  unfold rowMax
  show max (Ideal.ofBits .f32 0xFF800000#32) (Finset.fold max (Ideal.ofBits .f32 0xFF800000#32) _ _) = _
  rw [ofBits_bot]
  exact max_eq_right bot_le

theorem exp_apply (x0 : (⟨S8704x6144, .f32⟩ : BufTy).Contents (Elt Ideal)) (x1 : (⟨S257x16, .f32⟩ : BufTy).Contents (Elt Ideal))
    (i : S128x16x64x576.Idx) :
    val_main_v50 (F := Ideal) x0 x1 i = Ideal.exp (scoreR x0 x1 (i 0).val (i 1).val (i 2).val (i 3).val
      - rowMax fun k : Fin 576 => scoreR x0 x1 (i 0).val (i 1).val (i 2).val k.val) := by
  rw [val_main_v50_apply, val_main_v49_apply, val_main_v48_apply, val_main_v47_apply, rowmax_apply, score_apply]
  rfl

theorem weight_apply (x0 : (⟨S8704x6144, .f32⟩ : BufTy).Contents (Elt Ideal)) (x1 : (⟨S257x16, .f32⟩ : BufTy).Contents (Elt Ideal))
    (i : S128x16x64x576.Idx) :
    val_main_v54 (F := Ideal) x0 x1 i = Ideal.div (Ideal.exp (scoreR x0 x1 (i 0).val (i 1).val (i 2).val (i 3).val
        - rowMax fun k : Fin 576 => scoreR x0 x1 (i 0).val (i 1).val (i 2).val k.val))
      (∑ l : Fin 576, Ideal.exp (scoreR x0 x1 (i 0).val (i 1).val (i 2).val l.val
        - rowMax fun k : Fin 576 => scoreR x0 x1 (i 0).val (i 1).val (i 2).val k.val)) := by
  rw [val_main_v54_apply, val_main_v53_apply, val_main_v52_apply, val_main_v51_apply, exp_apply]
  simp only [exp_apply]
  rw [val_main_cst_10_apply]
  show Ideal.div _ (Ideal.ofBits .f32 0x00000000#32 + _) = _
  rw [Ideal.ofBits_zero_f32, zero_add]

/-- THE REFERENCE's result, index by index. -/
theorem result_apply (x0 : (⟨S8704x6144, .f32⟩ : BufTy).Contents (Elt Ideal)) (x1 : (⟨S257x16, .f32⟩ : BufTy).Contents (Elt Ideal))
    (i : S8192x2048.Idx) :
    val_main_v58 (F := Ideal) x0 x1 i = attR x0 x1 ((i 0).val / 64) ((i 1).val / 128) ((i 0).val % 64) ((i 1).val % 128) := by
  have h0 : (i 0).val < 8192 := (i 0).isLt
  have h1 : (i 1).val < 2048 := (i 1).isLt
  rw [val_main_v58_apply, val_main_v57_apply, val_main_v56_apply, val_main_v55_apply]
  simp only [weight_apply, vb_apply]
  unfold attR
  have e0 : ((i 0).val * 2048 + (i 1).val) / 131072 = (i 0).val / 64 := by omega
  have e1 : ((i 0).val * 2048 + (i 1).val) / 2048 % 64 = (i 0).val % 64 := by omega
  have e2 : ((i 0).val * 2048 + (i 1).val) / 128 % 16 = (i 1).val / 128 := by omega
  have e3 : ((i 0).val * 2048 + (i 1).val) % 128 = (i 1).val % 128 := by omega
  simp only [e0, e1, e2, e3]
  rfl

end Cert.ReferenceIdeal.Att
-- ==== Proof.Att.Soft.lean ====
/- The two ways of writing the attention agree when the scores are finite. -/
module

public import proofs.«01_k».proof.Proof.Att.Spec
public import Idealize.ShloMosaic.PureOps

@[expose] public section

noncomputable section

namespace Cert.Att

open Idealize.ShloMosaic

/-- A finite value. -/
def Fine (e : EReal) : Prop := ∃ r : ℝ, e = (r : EReal)

theorem fine_zero : Fine 0 := ⟨0, rfl⟩
theorem fine_mul {a b : EReal} (ha : Fine a) (hb : Fine b) : Fine (a * b) := by
  obtain ⟨r, rfl⟩ := ha
  obtain ⟨s, rfl⟩ := hb
  exact ⟨r * s, (EReal.coe_mul r s).symm⟩
theorem fine_add {a b : EReal} (ha : Fine a) (hb : Fine b) : Fine (a + b) := by
  obtain ⟨r, rfl⟩ := ha
  obtain ⟨s, rfl⟩ := hb
  exact ⟨r + s, (EReal.coe_add r s).symm⟩
theorem fine_sum {ι : Type} (s : Finset ι) (f : ι → EReal) (h : ∀ i, Fine (f i)) : Fine (∑ i ∈ s, f i) := by
  induction s using Finset.cons_induction with
  | empty => exact ⟨0, by simp⟩
  | cons a s ha ih => rw [Finset.sum_cons]; exact fine_add (h a) ih
theorem fine_scale : Fine (Ideal.ofBits .f32 0x3DB504F3#32) := by
  simp only [Ideal.ofBits, Ideal.ieee]
  rw [if_neg (by decide), if_neg (by decide)]
  exact ⟨_, rfl⟩
theorem fine_of_ne {e : EReal} (h1 : e ≠ ⊤) (h2 : e ≠ ⊥) : Fine e := ⟨e.toReal, (EReal.coe_toReal h1 h2).symm⟩

/-- A finite factor that is not negative moves into a finite sum. -/
theorem sum_mul_fine {ι : Type} (s : Finset ι) (f : ι → EReal) (r : ℝ) (hr : 0 ≤ r) :
    (∑ i ∈ s, f i) * (r : EReal) = ∑ i ∈ s, f i * (r : EReal) := by
  induction s using Finset.cons_induction with
  | empty => simp
  | cons a s ha ih =>
    rw [Finset.sum_cons, Finset.sum_cons, EReal.right_distrib_of_nonneg_of_ne_top (by exact_mod_cast hr) (EReal.coe_ne_top r), ih]

theorem coe_sum_real {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

theorem exp_bot_sub (M : EReal) : Ideal.exp (⊥ - M) = 0 := by
  have : (⊥ : EReal) - M = ⊥ := EReal.bot_sub M
  rw [this]; rfl

/-- Dividing the weights before the sum, or the sum after, is the same, when some score is finite and none is `⊤`. -/
theorem div_sum {n : Nat} (s v : Fin n → EReal) (k₀ : Fin n) (h₀ : Fine (s k₀)) (hs : ∀ k, s k ≠ ⊤) :
    Ideal.div (∑ k, Ideal.exp (s k - rowMax s) * v k) (∑ k, Ideal.exp (s k - rowMax s))
      = ∑ k, v k * Ideal.div (Ideal.exp (s k - rowMax s)) (∑ l, Ideal.exp (s l - rowMax s)) := by
  have hle : ∀ k, s k ≤ rowMax s := fun k => Finset.le_sup (f := s) (Finset.mem_univ k)
  obtain ⟨r₀, hr₀⟩ := h₀
  have hM : Fine (rowMax s) := by
    refine fine_of_ne ?_ ?_
    · have : rowMax s < ⊤ := (Finset.sup_lt_iff (f := s) (s := Finset.univ) bot_lt_top).2 fun k _ => lt_top_iff_ne_top.2 (hs k)
      exact this.ne
    · intro h
      have := hle k₀
      rw [h, hr₀] at this
      exact absurd (le_bot_iff.1 this) (EReal.coe_ne_bot r₀)
  obtain ⟨M, hMe⟩ := hM
  have hexp : ∀ k, ∃ a : ℝ, Ideal.exp (s k - rowMax s) = (a : EReal) ∧ 0 ≤ a := by
    intro k
    by_cases hb : s k = ⊥
    · exact ⟨0, by rw [hb, exp_bot_sub]; rfl, le_refl _⟩
    · obtain ⟨r, hr⟩ := fine_of_ne (hs k) hb
      refine ⟨Real.exp (r - M), ?_, (Real.exp_pos _).le⟩
      rw [hr, hMe, ← EReal.coe_sub]
      rfl
  choose a ha ha0 using hexp
  have hD : (∑ k, Ideal.exp (s k - rowMax s)) = ((∑ k, a k : ℝ) : EReal) := by
    rw [coe_sum_real]
    exact Finset.sum_congr rfl fun k _ => ha k
  have hpos : 0 < ∑ k, a k := by
    refine Finset.sum_pos' (fun k _ => ha0 k) ⟨k₀, Finset.mem_univ _, ?_⟩
    have h1 := ha k₀
    rw [hr₀, hMe, ← EReal.coe_sub] at h1
    have h2 : ((Real.exp (r₀ - M) : ℝ) : EReal) = (a k₀ : EReal) := h1
    rw [← EReal.coe_eq_coe_iff.1 h2]
    exact Real.exp_pos _
  have hne : (((∑ k, a k : ℝ)) : EReal) ≠ 0 := fun h => hpos.ne' (by exact_mod_cast h)
  rw [hD]
  unfold Ideal.div
  rw [if_neg hne, ← EReal.coe_inv, sum_mul_fine _ _ _ (inv_nonneg.2 hpos.le)]
  refine Finset.sum_congr rfl fun k _ => ?_
  rw [if_neg hne, mul_comm (Ideal.exp _) (v k), mul_assoc]

/-- The place in a block's window of the keys of one chunk's band. -/
def place (i : Nat) (hi : i < 256) (k : Fin 576) : Fin 768 := ⟨64 * (i / 64) + k.val, by have := k.isLt; omega⟩

theorem place_inj (i : Nat) (hi : i < 256) : Function.Injective (place i hi) := by
  intro a b h
  have := congrArg Fin.val h
  change 64 * (i / 64) + a.val = 64 * (i / 64) + b.val at this
  exact Fin.ext (by omega)

section
variable (x : (⟨2, ![8704, 6144]⟩ : Shape).Idx → EReal) (t : (⟨2, ![257, 16]⟩ : Shape).Idx → EReal)

/-- Inside the band the window's score is the band's. -/
theorem score_in (n h i : Nat) (hi : i < 256) (k : Fin 576) :
    scoreK x t n h i (place i hi k).val = scoreR x t (4 * n + i / 64) h (i % 64) k.val := by
  have hk := k.isLt
  unfold scoreK scoreR biasAt place
  have e1 : 256 * n + (64 * (i / 64) + k.val) = 64 * (4 * n + i / 64) + k.val := by omega
  have e2 : 256 * n + i = 64 * (4 * n + i / 64) + i % 64 := by omega
  have e3 : 640 + i - (64 * (i / 64) + k.val) = 640 + i % 64 - k.val := by omega
  dsimp only
  rw [e1, e2, e3]
  refine if_congr ?_ rfl rfl
  unfold seen
  omega

/-- Outside the band the window's score is `⊥`. -/
theorem score_out (n h i : Nat) (hi : i < 256) (j : Fin 768) (hj : ∀ k, place i hi k ≠ j) : scoreK x t n h i j.val = ⊥ := by
  unfold scoreK
  refine if_neg fun hs => ?_
  unfold seen at hs
  exact hj ⟨j.val - 64 * (i / 64), by omega⟩ (Fin.ext (by unfold place; dsimp only; omega))

theorem max_eq (n h i : Nat) (hi : i < 256) :
    rowMax (fun j : Fin 768 => scoreK x t n h i j.val) = rowMax fun k : Fin 576 => scoreR x t (4 * n + i / 64) h (i % 64) k.val := by
  refine le_antisymm (Finset.sup_le (α := EReal) fun j _ => ?_) (Finset.sup_le (α := EReal) fun k _ => ?_)
  · by_cases hj : ∃ k, place i hi k = j
    · obtain ⟨k, rfl⟩ := hj
      rw [score_in]
      exact Finset.le_sup (f := fun k : Fin 576 => scoreR x t (4 * n + i / 64) h (i % 64) k.val) (Finset.mem_univ k)
    · rw [score_out x t n h i hi j fun k e => hj ⟨k, e⟩]
      exact bot_le
  · rw [← score_in x t n h i hi k]
    exact Finset.le_sup (f := fun j : Fin 768 => scoreK x t n h i j.val) (Finset.mem_univ (place i hi k))

/-- A sum over the window of a weighted row is the sum over the band. -/
theorem sum_eq (n h i : Nat) (hi : i < 256) (v : Fin 768 → EReal) (w : Fin 576 → EReal) (hv : ∀ k, v (place i hi k) = w k) (M : EReal) :
    ∑ j : Fin 768, Ideal.exp (scoreK x t n h i j.val - M) * v j
      = ∑ k : Fin 576, Ideal.exp (scoreR x t (4 * n + i / 64) h (i % 64) k.val - M) * w k := by
  refine (Finset.sum_of_injOn (place i hi) (place_inj i hi).injOn (fun _ _ => Finset.mem_coe.2 (Finset.mem_univ _)) ?_ ?_).symm
  · intro j _ hj
    rw [score_out x t n h i hi j fun k e => hj ⟨k, Finset.mem_coe.2 (Finset.mem_univ k), e⟩, exp_bot_sub, zero_mul]
  · intro k _
    rw [score_in, hv]

theorem fine_at2 {a b : Nat} (y : (⟨2, ![a, b]⟩ : Shape).Idx → EReal) (hy : ∀ i, Fine (y i)) (r c : Nat) : Fine (at2 y r c) := by
  unfold at2
  split
  · exact hy _
  · exact fine_zero

/-- The kernel's attention is the reference's. -/
theorem att_eq (hx : ∀ r c : Nat, r < 8192 → c < 4096 → Fine (at2 x r c)) (ht : ∀ i, Fine (t i)) (n h i d : Nat)
    (hn : n < 32) (hh : h < 16) (hi : i < 256) :
    attK x t n h i d = attR x t (4 * n + i / 64) h (i % 64) d := by
  have hband : ∀ w c : Nat, w < 8704 → c < 2048 → Fine (band x 2048 w c) := by
    intro w c hw hc
    unfold band
    split
    · exact fine_zero
    · exact hx _ _ (by omega) (by omega)
  have hdot : ∀ k : Fin 576, Fine (dotAt x h (64 * (4 * n + i / 64) + i % 64) (64 * (4 * n + i / 64) + k.val)) := by
    intro k
    have := k.isLt
    unfold dotAt
    refine fine_mul (fine_sum _ _ fun d => ?_) fine_scale
    have := d.isLt
    exact fine_mul (hx _ _ (by omega) (by omega)) (hband _ _ (by omega) (by omega))
  have hval : ∀ k : Fin 576, Fine (dotAt x h (64 * (4 * n + i / 64) + i % 64) (64 * (4 * n + i / 64) + k.val) + biasAt t h (i % 64) k.val) :=
    fun k => fine_add (hdot k) (fine_at2 t ht _ _)
  unfold attK attR
  rw [max_eq x t n h i hi, sum_eq x t n h i hi (fun j => band x 4096 (256 * n + j.val) (128 * h + d))
    (fun k => band x 4096 (64 * (4 * n + i / 64) + k.val) (128 * h + d)) (fun k => by
      have e : 256 * n + (place i hi k).val = 64 * (4 * n + i / 64) + k.val := by unfold place; dsimp only; omega
      rw [e])]
  generalize hS : (fun k : Fin 576 => scoreR x t (4 * n + i / 64) h (i % 64) k.val) = s
  have hs : ∀ k : Fin 576, scoreR x t (4 * n + i / 64) h (i % 64) k.val = s k := fun k => congrFun hS k
  have hone := sum_eq x t n h i hi (fun _ => 1) (fun _ => 1) (fun _ => rfl)
    (rowMax s)
  simp only [mul_one] at hone
  rw [hone]
  simp only [hs]
  refine div_sum s _ ⟨512, by decide⟩ ?_ ?_
  · rw [← hs]
    unfold scoreR
    rw [if_pos (by dsimp only; omega)]
    exact hval _
  · intro k
    rw [← hs]
    unfold scoreR
    split
    · obtain ⟨r, hr⟩ := hval k
      rw [hr]
      exact EReal.coe_ne_top r
    · exact bot_ne_top

end

end Cert.Att
-- ==== Proof.Att.Pre.lean ====
/-
  The precondition read back: the predicate's word being one says that each of the queries' and keys' columns the
  attention reads, and each entry of the bias table, is a real number.
-/
module

public import proofs.«01_k».proof.Proof.Gen.Pre_finite
public import proofs.«01_k».proof.Proof.Att.Soft
public import Idealize.ShloMosaic.Lib.ReduceAll

@[expose] public section

noncomputable section

namespace Cert.Pre_finite.Att

open Idealize.ShloMosaic Cert.Pre_finite Cert.Pre_finite.Gen Cert.Att

/-- The predicate's bound is infinity. -/
theorem bound_eq : Ideal.ofBits .f32 0x7F800000#32 = (⊤ : EReal) := by
  show Ideal.ieee 8 23 0x7F800000#32 = _
  unfold Ideal.ieee
  simp only []
  rw [if_pos (by decide), if_pos (by decide), if_neg (by decide)]

/-- An element whose magnitude is below infinity is a real number. -/
theorem fine_of_word (e : EReal) (h : Ideal.cmp .olt (max e (-e)) (Ideal.ofBits .f32 0x7F800000#32) = 1#1) : Fine e := by
  rw [bound_eq] at h
  refine fine_of_ne ?_ ?_
  · rintro rfl
    revert h
    simp [Ideal.cmp]
  · rintro rfl
    revert h
    simp [Ideal.cmp]

/-- The same, of an array's element compared as the predicate compares it. -/
theorem fine_of_array {s : Shape} (y b : FVec Ideal s .f32) (hb : ∀ i, b i = Ideal.ofBits .f32 0x7F800000#32) (i : s.Idx)
    (h : cmpf .olt (Host.absf y) b i = 1#1) : Fine (y i) := by
  refine fine_of_word (y i) ?_
  rw [← hb i]
  exact h

instance : Subsingleton S_.Idx := ⟨fun a b => funext fun k => k.elim0⟩

/-- What the precondition says of the two arrays. -/
theorem pre_read (x : FVec Ideal S8704x6144 .f32) (t : FVec Ideal S257x16 .f32) (h : Cert.Pre_finite.fn (F := Ideal) x t = fun _ => 1#1) :
    (∀ r c, r < 8192 → c < 4096 → Fine (at2 x r c)) ∧ ∀ i, Fine (t i) := by
  have h0 := congrFun h (fun k => k.elim0)
  dsimp only [Cert.Pre_finite.fn] at h0
  obtain ⟨h1, h2⟩ := IntOp.andi_eq_one.1 h0
  constructor
  · intro r c hr hc
    have h3 := Host.reduce_andi_all _ _ _ _ _ h1 (Idealize.ShloMosaic.ix2 (⟨r, hr⟩ : Fin 8192) (⟨c, hc⟩ : Fin 4096))
    have h5 := fine_of_array _ _ (fun _ => rfl) _ h3
    rwa [show extractStridedSlice S8192x4096 ![0, 0] x Facts.slices_S8704x6144_S8192x4096_0_0
      (Idealize.ShloMosaic.ix2 (⟨r, hr⟩ : Fin 8192) (⟨c, hc⟩ : Fin 4096)) = at2 x r c from
      at2_eq x _ (Nat.zero_add r) (Nat.zero_add c)] at h5
  · intro i
    exact fine_of_array t _ (fun _ => rfl) i (Host.reduce_andi_all _ _ _ _ _ h2 i)

end Cert.Pre_finite.Att

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.ReferenceIdeal.Run
public import proofs.«01_k».proof.Proof.Gen.Pre_finite
public import proofs.«01_k».proof.Proof.Gen.Down
public import proofs.«01_k».proof.Proof.Gen.Down.Skeleton
public import proofs.«01_k».proof.Proof.Gen.Down.Launch
public import proofs.«01_k».proof.Proof.Gen.DownIdeal
public import proofs.«01_k».proof.Proof.Gen.DownIdeal.Skeleton
public import proofs.«01_k».proof.Proof.Gen.DownIdeal.Launch
public import proofs.«01_k».proof.Proof.Gen.DownRefIdeal
public import proofs.«01_k».proof.Proof.Gen.DownRefIdeal.Read
public import proofs.«01_k».proof.Proof.Gen.DownRefIdeal.Run
public import proofs.«01_k».proof.Proof.Gen.Pre_planned
public import proofs.«01_k».proof.Proof.Gen.Pre_padded
public import proofs.«01_k».proof.Proof.Gen.Up
public import proofs.«01_k».proof.Proof.Gen.Up.Skeleton
public import proofs.«01_k».proof.Proof.Gen.Up.Launch
public import proofs.«01_k».proof.Proof.Gen.UpIdeal
public import proofs.«01_k».proof.Proof.Gen.UpIdeal.Skeleton
public import proofs.«01_k».proof.Proof.Gen.UpIdeal.Launch
public import proofs.«01_k».proof.Proof.Gen.UpRefIdeal
public import proofs.«01_k».proof.Proof.Gen.UpRefIdeal.Read
public import proofs.«01_k».proof.Proof.Gen.UpRefIdeal.Run
public import proofs.«01_k».proof.Proof.Gen.Pre_planned_up
public import proofs.«01_k».proof.Proof.Gen.Pre_padded_up
public import proofs.«01_k».proof.Proof.Gen.Rows
public import proofs.«01_k».proof.Proof.Gen.Rows.Skeleton
public import proofs.«01_k».proof.Proof.Gen.Rows.Launch
public import proofs.«01_k».proof.Proof.Gen.Rows.Points
public import proofs.«01_k».proof.Proof.Gen.Rows.Frame
public import proofs.«01_k».proof.Proof.Gen.RowsIdeal
public import proofs.«01_k».proof.Proof.Gen.RowsIdeal.Skeleton
public import proofs.«01_k».proof.Proof.Gen.RowsIdeal.Launch
public import proofs.«01_k».proof.Proof.Gen.RowsIdeal.Points
public import proofs.«01_k».proof.Proof.Gen.RowsIdeal.Frame
public import proofs.«01_k».proof.Proof.Gen.RowsRefIdeal
public import proofs.«01_k».proof.Proof.Gen.RowsRefIdeal.Read
public import proofs.«01_k».proof.Proof.Gen.RowsRefIdeal.Run
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalRefIdeal
public import proofs.«01_k».proof.Proof.Gen.FinalRefIdeal.Read
public import proofs.«01_k».proof.Proof.Gen.FinalRefIdeal.Run
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.GateRefIdeal.Read
public import proofs.«01_k».proof.Proof.Gen.GateRefIdeal.Run
public import proofs.«01_k».proof.Proof.Gen.RetIn
public import proofs.«01_k».proof.Proof.Gen.RetIn.Skeleton
public import proofs.«01_k».proof.Proof.Gen.RetIn.Launch
public import proofs.«01_k».proof.Proof.Gen.RetIn.Points
public import proofs.«01_k».proof.Proof.Gen.RetIn.Frame
public import proofs.«01_k».proof.Proof.Gen.RetInIdeal
public import proofs.«01_k».proof.Proof.Gen.RetInIdeal.Skeleton
public import proofs.«01_k».proof.Proof.Gen.RetInIdeal.Launch
public import proofs.«01_k».proof.Proof.Gen.RetInIdeal.Points
public import proofs.«01_k».proof.Proof.Gen.RetInIdeal.Frame
public import proofs.«01_k».proof.Proof.Gen.RetInRefIdeal
public import proofs.«01_k».proof.Proof.Gen.RetInRefIdeal.Read
public import proofs.«01_k».proof.Proof.Gen.RetInRefIdeal.Run
public import proofs.«01_k».proof.Proof.Gen.RetInIdeal.Value
public import proofs.«01_k».proof.Proof.Gen.GmlpIn
public import proofs.«01_k».proof.Proof.Gen.GmlpIn.Skeleton
public import proofs.«01_k».proof.Proof.Gen.GmlpIn.Launch
public import proofs.«01_k».proof.Proof.Gen.GmlpIn.Points
public import proofs.«01_k».proof.Proof.Gen.GmlpIn.Frame
public import proofs.«01_k».proof.Proof.Gen.GmlpInIdeal
public import proofs.«01_k».proof.Proof.Gen.GmlpInIdeal.Skeleton
public import proofs.«01_k».proof.Proof.Gen.GmlpInIdeal.Launch
public import proofs.«01_k».proof.Proof.Gen.GmlpInIdeal.Points
public import proofs.«01_k».proof.Proof.Gen.GmlpInIdeal.Frame
public import proofs.«01_k».proof.Proof.Gen.GmlpInRefIdeal
public import proofs.«01_k».proof.Proof.Gen.GmlpInRefIdeal.Read
public import proofs.«01_k».proof.Proof.Gen.GmlpInRefIdeal.Run
public import proofs.«01_k».proof.Proof.Gen.GmlpInIdeal.Value
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownRefIdeal
public import proofs.«01_k».proof.Proof.Gen.FfnDownRefIdeal.Read
public import proofs.«01_k».proof.Proof.Gen.FfnDownRefIdeal.Run
public import proofs.«01_k».proof.Proof.Gen.FfnDownIdeal.Value
public import proofs.«01_k».proof.Proof.Gen.Ret
public import proofs.«01_k».proof.Proof.Gen.Ret.Skeleton
public import proofs.«01_k».proof.Proof.Gen.Ret.Launch
public import proofs.«01_k».proof.Proof.Gen.Ret.Points
public import proofs.«01_k».proof.Proof.Gen.Ret.Frame
public import proofs.«01_k».proof.Proof.Gen.RetIdeal
public import proofs.«01_k».proof.Proof.Gen.RetIdeal.Skeleton
public import proofs.«01_k».proof.Proof.Gen.RetIdeal.Launch
public import proofs.«01_k».proof.Proof.Gen.RetIdeal.Points
public import proofs.«01_k».proof.Proof.Gen.RetIdeal.Frame
public import proofs.«01_k».proof.Proof.Gen.RetRefIdeal
public import proofs.«01_k».proof.Proof.Gen.RetRefIdeal.Read
public import proofs.«01_k».proof.Proof.Gen.RetRefIdeal.Run
public import proofs.«01_k».proof.Proof.Gen.RetIdeal.Value
public import proofs.«01_k».proof.Proof.Gen.GmlpOut
public import proofs.«01_k».proof.Proof.Gen.GmlpOut.Skeleton
public import proofs.«01_k».proof.Proof.Gen.GmlpOut.Launch
public import proofs.«01_k».proof.Proof.Gen.GmlpOut.Points
public import proofs.«01_k».proof.Proof.Gen.GmlpOut.Frame
public import proofs.«01_k».proof.Proof.Gen.GmlpOutIdeal
public import proofs.«01_k».proof.Proof.Gen.GmlpOutIdeal.Skeleton
public import proofs.«01_k».proof.Proof.Gen.GmlpOutIdeal.Launch
public import proofs.«01_k».proof.Proof.Gen.GmlpOutIdeal.Points
public import proofs.«01_k».proof.Proof.Gen.GmlpOutIdeal.Frame
public import proofs.«01_k».proof.Proof.Gen.GmlpOutRefIdeal
public import proofs.«01_k».proof.Proof.Gen.GmlpOutRefIdeal.Read
public import proofs.«01_k».proof.Proof.Gen.GmlpOutRefIdeal.Run
public import proofs.«01_k».proof.Proof.Gen.GmlpOutIdeal.Value
public import proofs.«01_k».proof.Proof.Gen.RetOut
public import proofs.«01_k».proof.Proof.Gen.RetOut.Skeleton
public import proofs.«01_k».proof.Proof.Gen.RetOut.Launch
public import proofs.«01_k».proof.Proof.Gen.RetOut.Points
public import proofs.«01_k».proof.Proof.Gen.RetOut.Frame
public import proofs.«01_k».proof.Proof.Gen.RetOutIdeal
public import proofs.«01_k».proof.Proof.Gen.RetOutIdeal.Skeleton
public import proofs.«01_k».proof.Proof.Gen.RetOutIdeal.Launch
public import proofs.«01_k».proof.Proof.Gen.RetOutIdeal.Points
public import proofs.«01_k».proof.Proof.Gen.RetOutIdeal.Frame
public import proofs.«01_k».proof.Proof.Gen.RetOutRefIdeal
public import proofs.«01_k».proof.Proof.Gen.RetOutRefIdeal.Read
public import proofs.«01_k».proof.Proof.Gen.RetOutRefIdeal.Run
public import proofs.«01_k».proof.Proof.Gen.RetOutIdeal.Value
public import proofs.«01_k».proof.Proof.Gen.AttOut
public import proofs.«01_k».proof.Proof.Gen.AttOut.Skeleton
public import proofs.«01_k».proof.Proof.Gen.AttOut.Launch
public import proofs.«01_k».proof.Proof.Gen.AttOut.Points
public import proofs.«01_k».proof.Proof.Gen.AttOut.Frame
public import proofs.«01_k».proof.Proof.Gen.AttOutIdeal
public import proofs.«01_k».proof.Proof.Gen.AttOutIdeal.Skeleton
public import proofs.«01_k».proof.Proof.Gen.AttOutIdeal.Launch
public import proofs.«01_k».proof.Proof.Gen.AttOutIdeal.Points
public import proofs.«01_k».proof.Proof.Gen.AttOutIdeal.Frame
public import proofs.«01_k».proof.Proof.Gen.AttOutRefIdeal
public import proofs.«01_k».proof.Proof.Gen.AttOutRefIdeal.Read
public import proofs.«01_k».proof.Proof.Gen.AttOutRefIdeal.Run
public import proofs.«01_k».proof.Proof.Gen.AttOutIdeal.Value
public import proofs.«01_k».proof.Proof.Att.Arr
public import proofs.«01_k».proof.Proof.Down.Same
public import proofs.«01_k».proof.Proof.Down.Value
public import proofs.«01_k».proof.Proof.Up.Same
public import proofs.«01_k».proof.Proof.Up.Value
public import proofs.«01_k».proof.Proof.Rows.Value
public import proofs.«01_k».proof.Proof.Final.Value
public import proofs.«01_k».proof.Proof.Gate.Value
public import proofs.«01_k».proof.Proof.Ret.Value
public import proofs.«01_k».proof.Proof.AttOut.Value
public import proofs.«01_k».proof.Proof.RetOut.Value
public import proofs.«01_k».proof.Proof.GmlpOut.Value
public import proofs.«01_k».proof.Proof.FfnDown.Value
public import proofs.«01_k».proof.Proof.GmlpIn.Value
public import proofs.«01_k».proof.Proof.RetIn.Value
public import proofs.«01_k».proof.Proof.Att.Ref
public import proofs.«01_k».proof.Proof.Att.Pre
public import Idealize.ShloMosaic.Adequacy
public import Idealize.ShloMosaic.Init

@[expose] public section

noncomputable section

namespace Cert.Proof

open Idealize.ShloMosaic Idealize.SL.Sem

/-- The kernel's result array is the reference's, under the precondition. -/
theorem value_eq (x : FVec Ideal Cert.Pre_finite.S8704x6144 .f32) (t : FVec Ideal Cert.Pre_finite.S257x16 .f32)
    (h : Cert.Pre_finite.fn (F := Ideal) x t = fun _ => 1#1) :
    (fun i : Cert.KernelIdeal.S8192x2048.Idx =>
      Cert.Att.attK x t ((i 0).val / 256) ((i 1).val / 128) ((i 0).val % 256) ((i 1).val % 128))
      = Cert.ReferenceIdeal.Read.val_main_v58 (F := Ideal) x t := by
  obtain ⟨hx, ht⟩ := Cert.Pre_finite.Att.pre_read x t h
  funext i
  have h0 : (i 0).val < 8192 := (i 0).isLt
  have h1 : (i 1).val < 2048 := (i 1).isLt
  refine Eq.trans ?_ (Cert.ReferenceIdeal.Att.result_apply x t i).symm
  refine (Cert.Att.att_eq x t hx ht _ _ _ _ (by omega) (by omega) (by omega)).trans ?_
  have e1 : 4 * ((i 0).val / 256) + (i 0).val % 256 / 64 = (i 0).val / 64 := by omega
  have e2 : (i 0).val % 256 % 64 = (i 0).val % 64 := by omega
  rw [e1, e2]

/-- The reference runs, leaves its arguments and every counter as they were. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => (h c).2, sem_eq_zero_of_no_sems (by decide) r.2⟩)
    (Cert.ReferenceIdeal.Value.run (F := Ideal) m g)

/-- The attention over the extended reals: both programs run and end with one result. -/
theorem attention : Cert.algebraic_KernelIdeal_ReferenceIdeal_pre_finite := by
  intro m g m' g' hp ha
  refine ⟨fun c => Cert.ReferenceIdeal.Read.val_main_v58 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · refine (θ_run Cert.KernelIdeal.defs _ _).mono (fun r h c => ?_) (Cert.KernelIdeal.Value.run_blocks (F := Ideal) m g)
    obtain ⟨h1, h2⟩ := h c
    exact ⟨h1.trans ((Cert.KernelIdeal.Att.arr_eq m c).trans (value_eq _ _ (hp c))), h2⟩
  · refine (θ_run Cert.ReferenceIdeal.defs _ _).mono (fun r h c => ?_) (Cert.ReferenceIdeal.Value.run (F := Ideal) m' g')
    obtain ⟨h1, h2⟩ := h c
    refine ⟨h1.trans ((Cert.ReferenceIdeal.Read.val_main_v58_eq m' c).trans ?_), h2⟩
    rw [(ha c).1, (ha c).2]

/-- The down projection's reference runs, leaves its arguments and every counter as they were. -/
theorem frame_down_reference (m : (ℓ : Loc Cert.DownRefIdeal.nD Cert.DownRefIdeal.τ Cert.DownRefIdeal.sig) → Buf (Elt Ideal) ℓ)
    (g : Dev Cert.DownRefIdeal.nD → PrngReg) :
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6))
      ∧ r.2.sem = fun _ => 0) :=
  (θ_run Cert.DownRefIdeal.defs _ _).mono
    (fun r h => ⟨fun c => (h c).2, sem_eq_zero_of_no_sems (by decide) r.2⟩)
    (Cert.DownRefIdeal.Value.run (F := Ideal) m g)

/-- The experts' down projection over the extended reals: both programs run and end with one result. -/
theorem down : Cert.algebraic_DownIdeal_DownRefIdeal_pre_padded := by
  intro m g m' g' hp ha
  have hq := fun c => Cert.Pre_padded.Hand.parts _ _ _ _ _ _ _ (hp c)
  refine ⟨fun c => Cert.DownIdeal.Hand.prod
    (m ((c.tc : Thread Cert.DownIdeal.nD Cert.DownIdeal.τ).loc Cert.DownIdeal.main_arg0))
    (m ((c.tc : Thread Cert.DownIdeal.nD Cert.DownIdeal.τ).loc Cert.DownIdeal.main_arg5))
    (m ((c.tc : Thread Cert.DownIdeal.nD Cert.DownIdeal.τ).loc Cert.DownIdeal.main_arg6)), ?_, ?_⟩
  · refine (θ_run Cert.DownIdeal.defs _ _).mono (fun r h c => ?_) (Cert.DownIdeal.Hand.run_reads (F := Ideal) m g fun c => (hq c).1)
    obtain ⟨h1, h2⟩ := h.1 c
    exact ⟨h2.trans (Cert.DownIdeal.Hand.arr_eq m c (hq c).1 (hq c).2), h1⟩
  · refine (θ_run Cert.DownRefIdeal.defs _ _).mono (fun r h c => ?_) (Cert.DownRefIdeal.Value.run (F := Ideal) m' g')
    obtain ⟨h1, h2⟩ := h c
    refine ⟨h1.trans ((Cert.DownRefIdeal.Read.val_main_v4_eq _ _ _).trans ?_), h2⟩
    obtain ⟨a0, -, -, -, -, a5, a6⟩ := ha c
    rw [a0, a5, a6]
    exact Cert.DownRefIdeal.Hand.result_eq _ _ _ (hq c).1.te_lt

/-- The up projection's reference runs, leaves its arguments and every counter as they were. -/
theorem frame_up_reference (m : (ℓ : Loc Cert.UpRefIdeal.nD Cert.UpRefIdeal.τ Cert.UpRefIdeal.sig) → Buf (Elt Ideal) ℓ)
    (g : Dev Cert.UpRefIdeal.nD → PrngReg) :
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6))
      ∧ r.2.sem = fun _ => 0) :=
  (θ_run Cert.UpRefIdeal.defs _ _).mono
    (fun r h => ⟨fun c => (h c).2, sem_eq_zero_of_no_sems (by decide) r.2⟩)
    (Cert.UpRefIdeal.Value.run (F := Ideal) m g)

/-- The experts' up projection over the extended reals: both programs run and end with one result. -/
theorem up : Cert.algebraic_UpIdeal_UpRefIdeal_pre_padded_up := by
  intro m g m' g' hp ha
  have hq := fun c => Cert.Pre_padded_up.Hand.parts _ _ _ _ _ _ _ (hp c)
  refine ⟨fun c => Cert.UpIdeal.Hand.gate
    (m ((c.tc : Thread Cert.UpIdeal.nD Cert.UpIdeal.τ).loc Cert.UpIdeal.main_arg0))
    (m ((c.tc : Thread Cert.UpIdeal.nD Cert.UpIdeal.τ).loc Cert.UpIdeal.main_arg5))
    (m ((c.tc : Thread Cert.UpIdeal.nD Cert.UpIdeal.τ).loc Cert.UpIdeal.main_arg6)), ?_, ?_⟩
  · refine (θ_run Cert.UpIdeal.defs _ _).mono (fun r h c => ?_) (Cert.UpIdeal.Hand.run_reads (F := Ideal) m g fun c => (hq c).1)
    obtain ⟨h1, h2⟩ := h.1 c
    exact ⟨h2.trans (Cert.UpIdeal.Hand.arr_eq m c (hq c).1 (hq c).2), h1⟩
  · refine (θ_run Cert.UpRefIdeal.defs _ _).mono (fun r h c => ?_) (Cert.UpRefIdeal.Value.run (F := Ideal) m' g')
    obtain ⟨h1, h2⟩ := h c
    refine ⟨h1.trans ((Cert.UpRefIdeal.Read.val_main_v9_eq _ _ _).trans ?_), h2⟩
    obtain ⟨a0, -, -, -, -, a5, a6⟩ := ha c
    rw [a0, a5, a6]
    exact Cert.UpRefIdeal.Hand.result_eq _ _ _ (hq c).1.te_lt

/-- The reference runs, leaves its arguments and every counter as they were. -/
theorem frame_rows_reference (m : (ℓ : Loc Cert.RowsRefIdeal.nD Cert.RowsRefIdeal.τ Cert.RowsRefIdeal.sig) → Buf (Elt Ideal) ℓ)
    (g : Dev Cert.RowsRefIdeal.nD → PrngReg) :
    θ_run (Cert.RowsRefIdeal.defs (F := Ideal)) (onTc (τ := Cert.RowsRefIdeal.τ) (Cert.RowsRefIdeal.main (F := Ideal))) ⟨m, fun _ => 0, g⟩ (fun r => (∀ c : Dev Cert.RowsRefIdeal.nD,
      r.2.mem ((c.tc : Thread Cert.RowsRefIdeal.nD Cert.RowsRefIdeal.τ).loc Cert.RowsRefIdeal.main_arg0) = m ((c.tc : Thread Cert.RowsRefIdeal.nD Cert.RowsRefIdeal.τ).loc Cert.RowsRefIdeal.main_arg0)
      ∧ r.2.mem ((c.tc : Thread Cert.RowsRefIdeal.nD Cert.RowsRefIdeal.τ).loc Cert.RowsRefIdeal.main_arg1) = m ((c.tc : Thread Cert.RowsRefIdeal.nD Cert.RowsRefIdeal.τ).loc Cert.RowsRefIdeal.main_arg1))
      ∧ r.2.sem = fun _ => 0) :=
  (θ_run Cert.RowsRefIdeal.defs _ _).mono
    (fun r h => ⟨fun c => (h c).2.2.2.2, sem_eq_zero_of_no_sems (by decide) r.2⟩)
    (Cert.RowsRefIdeal.Value.run (F := Ideal) m g)

/-- The projection of the normalised rows over the extended reals: both programs run and end with the same four results. -/
theorem rows : Cert.algebraic_RowsIdeal_RowsRefIdeal := by
  intro m g m' g' hp ha
  refine ⟨fun c => Cert.RowsIdeal.Hand.partP 2048 (by decide) (Cert.RowsIdeal.Hand.prod (m ((c.tc : Thread Cert.RowsIdeal.nD Cert.RowsIdeal.τ).loc Cert.RowsIdeal.main_arg0)) (m ((c.tc : Thread Cert.RowsIdeal.nD Cert.RowsIdeal.τ).loc Cert.RowsIdeal.main_arg1))),
    fun c => Cert.RowsIdeal.Hand.partP 4096 (by decide) (Cert.RowsIdeal.Hand.prod (m ((c.tc : Thread Cert.RowsIdeal.nD Cert.RowsIdeal.τ).loc Cert.RowsIdeal.main_arg0)) (m ((c.tc : Thread Cert.RowsIdeal.nD Cert.RowsIdeal.τ).loc Cert.RowsIdeal.main_arg1))),
    fun c => Cert.RowsIdeal.Hand.partS 2048 (by decide) (Cert.RowsIdeal.Hand.prod (m ((c.tc : Thread Cert.RowsIdeal.nD Cert.RowsIdeal.τ).loc Cert.RowsIdeal.main_arg0)) (m ((c.tc : Thread Cert.RowsIdeal.nD Cert.RowsIdeal.τ).loc Cert.RowsIdeal.main_arg1))),
    fun c => Cert.RowsIdeal.Hand.partS 4096 (by decide) (Cert.RowsIdeal.Hand.prod (m ((c.tc : Thread Cert.RowsIdeal.nD Cert.RowsIdeal.τ).loc Cert.RowsIdeal.main_arg0)) (m ((c.tc : Thread Cert.RowsIdeal.nD Cert.RowsIdeal.τ).loc Cert.RowsIdeal.main_arg1))),
    (θ_run Cert.RowsIdeal.defs _ _).mono (fun r h c => h c) (Cert.RowsIdeal.Hand.run m g), ?_⟩
  refine (θ_run Cert.RowsRefIdeal.defs _ _).mono (fun r h c => ?_) (Cert.RowsRefIdeal.Value.run (F := Ideal) m' g')
  obtain ⟨a0, a1⟩ := ha c
  obtain ⟨h0, h1, h2, h3, h4⟩ := h c
  refine ⟨h0.trans ((Cert.RowsRefIdeal.Read.val_main_v8_eq _ _).trans ?_), h1.trans ((Cert.RowsRefIdeal.Read.val_main_v11_eq _ _).trans ?_),
    h2.trans ((Cert.RowsRefIdeal.Read.val_main_v13_eq _ _).trans ?_), h3.trans ((Cert.RowsRefIdeal.Read.val_main_v15_eq _ _).trans ?_), h4⟩
  · rw [a0, a1]; exact Cert.RowsRefIdeal.Hand.keysP _ _
  · rw [a0, a1]; exact Cert.RowsRefIdeal.Hand.valuesP _ _
  · rw [a0, a1]; exact Cert.RowsRefIdeal.Hand.keysS _ _
  · rw [a0, a1]; exact Cert.RowsRefIdeal.Hand.valuesS _ _

/-- The reference runs, leaves its arguments and every counter as they were. -/
theorem frame_final_reference (m : (ℓ : Loc Cert.FinalRefIdeal.nD Cert.FinalRefIdeal.τ Cert.FinalRefIdeal.sig) → Buf (Elt Ideal) ℓ)
    (g : Dev Cert.FinalRefIdeal.nD → PrngReg) :
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4)
      ∧ r.2.mem ((c.tc : Thread Cert.FinalRefIdeal.nD Cert.FinalRefIdeal.τ).loc Cert.FinalRefIdeal.main_arg5) = m ((c.tc : Thread Cert.FinalRefIdeal.nD Cert.FinalRefIdeal.τ).loc Cert.FinalRefIdeal.main_arg5))
      ∧ r.2.sem = fun _ => 0) :=
  (θ_run Cert.FinalRefIdeal.defs _ _).mono
    (fun r h => ⟨fun c => (h c).2.2, sem_eq_zero_of_no_sems (by decide) r.2⟩)
    (Cert.FinalRefIdeal.Value.run (F := Ideal) m g)

/-- The layer's last rows over the extended reals: both programs run and end with the same two results. -/
theorem final : Cert.algebraic_FinalIdeal_FinalRefIdeal := by
  intro m g m' g' hp ha
  refine ⟨fun c => Cert.FinalIdeal.Hand.partP (Cert.FinalIdeal.Hand.finalAt m c), fun c => Cert.FinalIdeal.Hand.partS (Cert.FinalIdeal.Hand.finalAt m c),
    (θ_run Cert.FinalIdeal.defs _ _).mono (fun r h c => h c) (Cert.FinalIdeal.Hand.run m g), ?_⟩
  refine (θ_run Cert.FinalRefIdeal.defs _ _).mono (fun r h c => ?_) (Cert.FinalRefIdeal.Value.run (F := Ideal) m' g')
  obtain ⟨a0, a1, a2, a3, a4, a5⟩ := ha c
  obtain ⟨h0, h1, h2⟩ := h c
  refine ⟨h0.trans ((Cert.FinalRefIdeal.Read.val_main_v31_eq _ _ _ _ _ _).trans ?_),
    h1.trans ((Cert.FinalRefIdeal.Read.val_main_v33_eq _ _ _ _ _ _).trans ?_), h2⟩
  · rw [a0, a1, a2, a3, a4, a5]; exact Cert.FinalRefIdeal.Hand.prompt_eq _ _ _ _ _ _
  · rw [a0, a1, a2, a3, a4, a5]; exact Cert.FinalRefIdeal.Hand.samples_eq _ _ _ _ _ _

/-- The reference runs, leaves its arguments and every counter as they were. -/
theorem frame_gate_reference (m : (ℓ : Loc Cert.GateRefIdeal.nD Cert.GateRefIdeal.τ Cert.GateRefIdeal.sig) → Buf (Elt Ideal) ℓ)
    (g : Dev Cert.GateRefIdeal.nD → PrngReg) :
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0) :=
  (θ_run Cert.GateRefIdeal.defs _ _).mono
    (fun r h => ⟨fun c => (h c).2.2, sem_eq_zero_of_no_sems (by decide) r.2⟩)
    (Cert.GateRefIdeal.Value.run (F := Ideal) m g)

/-- The gated layer's normalised rows over the extended reals: both programs run and end with the same two results. -/
theorem gate : Cert.algebraic_GateIdeal_GateRefIdeal := by
  intro m g m' g' hp ha
  refine ⟨fun c => Cert.GateIdeal.Hand.partP (m ((c.tc : Thread Cert.GateIdeal.nD Cert.GateIdeal.τ).loc Cert.GateIdeal.main_arg0)) (m ((c.tc : Thread Cert.GateIdeal.nD Cert.GateIdeal.τ).loc Cert.GateIdeal.main_arg1)), fun c => Cert.GateIdeal.Hand.partS (m ((c.tc : Thread Cert.GateIdeal.nD Cert.GateIdeal.τ).loc Cert.GateIdeal.main_arg0)) (m ((c.tc : Thread Cert.GateIdeal.nD Cert.GateIdeal.τ).loc Cert.GateIdeal.main_arg1)),
    (θ_run Cert.GateIdeal.defs _ _).mono (fun r h c => h c) (Cert.GateIdeal.Hand.run m g), ?_⟩
  refine (θ_run Cert.GateRefIdeal.defs _ _).mono (fun r h c => ?_) (Cert.GateRefIdeal.Value.run (F := Ideal) m' g')
  obtain ⟨a0, a1, -, -⟩ := ha c
  obtain ⟨h0, h1, h2⟩ := h c
  refine ⟨h0.trans ((Cert.GateRefIdeal.Read.val_main_v39_eq _ _).trans ?_), h1.trans ((Cert.GateRefIdeal.Read.val_main_v41_eq _ _).trans ?_), h2⟩
  · rw [a0, a1]; exact Cert.GateRefIdeal.Hand.prompt_eq _ _
  · rw [a0, a1]; exact Cert.GateRefIdeal.Hand.samples_eq _ _

/-- The reference runs, leaves its arguments and every counter as they were. -/
theorem frame_ret_in_reference (m : (ℓ : Loc Cert.RetInRefIdeal.nD Cert.RetInRefIdeal.τ Cert.RetInRefIdeal.sig) → Buf (Elt Ideal) ℓ)
    (g : Dev Cert.RetInRefIdeal.nD → PrngReg) :
    θ_run (Cert.RetInRefIdeal.defs (F := Ideal)) (onTc (τ := Cert.RetInRefIdeal.τ) (Cert.RetInRefIdeal.main (F := Ideal))) ⟨m, fun _ => 0, g⟩ (fun r => (∀ c : Dev Cert.RetInRefIdeal.nD,
      r.2.mem ((c.tc : Thread Cert.RetInRefIdeal.nD Cert.RetInRefIdeal.τ).loc Cert.RetInRefIdeal.main_arg0) = m ((c.tc : Thread Cert.RetInRefIdeal.nD Cert.RetInRefIdeal.τ).loc Cert.RetInRefIdeal.main_arg0)
      ∧ r.2.mem ((c.tc : Thread Cert.RetInRefIdeal.nD Cert.RetInRefIdeal.τ).loc Cert.RetInRefIdeal.main_arg1) = m ((c.tc : Thread Cert.RetInRefIdeal.nD Cert.RetInRefIdeal.τ).loc Cert.RetInRefIdeal.main_arg1))
      ∧ r.2.sem = fun _ => 0) :=
  (θ_run Cert.RetInRefIdeal.defs _ _).mono
    (fun r h => ⟨fun c => (h c).2, sem_eq_zero_of_no_sems (by decide) r.2⟩)
    (Cert.RetInRefIdeal.Value.run (F := Ideal) m g)

/-- The retention layer's projection over the extended reals: both programs run and end with the same product. -/
theorem ret_in : Cert.algebraic_RetInIdeal_RetInRefIdeal := by
  intro m g m' g' hp ha
  refine ⟨fun c => Cert.RetInIdeal.Hand.prod (m ((c.tc : Thread Cert.RetInIdeal.nD Cert.RetInIdeal.τ).loc Cert.RetInIdeal.main_arg0))
    (m ((c.tc : Thread Cert.RetInIdeal.nD Cert.RetInIdeal.τ).loc Cert.RetInIdeal.main_arg1)),
    (θ_run Cert.RetInIdeal.defs _ _).mono (fun r h c => h c) (Cert.RetInIdeal.Hand.run m g), ?_⟩
  refine (θ_run Cert.RetInRefIdeal.defs _ _).mono (fun r h c => ?_) (Cert.RetInRefIdeal.Value.run (F := Ideal) m' g')
  obtain ⟨a0, a1⟩ := ha c
  refine ⟨(h c).1.trans ((Cert.RetInRefIdeal.Read.val_main_v3_eq _ _).trans ?_), (h c).2⟩
  rw [a0, a1]
  exact Cert.RetInRefIdeal.Hand.result_eq _ _

/-- The reference runs, leaves its arguments and every counter as they were. -/
theorem frame_gmlp_in_reference (m : (ℓ : Loc Cert.GmlpInRefIdeal.nD Cert.GmlpInRefIdeal.τ Cert.GmlpInRefIdeal.sig) → Buf (Elt Ideal) ℓ)
    (g : Dev Cert.GmlpInRefIdeal.nD → PrngReg) :
    θ_run (Cert.GmlpInRefIdeal.defs (F := Ideal)) (onTc (τ := Cert.GmlpInRefIdeal.τ) (Cert.GmlpInRefIdeal.main (F := Ideal))) ⟨m, fun _ => 0, g⟩ (fun r => (∀ c : Dev Cert.GmlpInRefIdeal.nD,
      r.2.mem ((c.tc : Thread Cert.GmlpInRefIdeal.nD Cert.GmlpInRefIdeal.τ).loc Cert.GmlpInRefIdeal.main_arg0) = m ((c.tc : Thread Cert.GmlpInRefIdeal.nD Cert.GmlpInRefIdeal.τ).loc Cert.GmlpInRefIdeal.main_arg0)
      ∧ r.2.mem ((c.tc : Thread Cert.GmlpInRefIdeal.nD Cert.GmlpInRefIdeal.τ).loc Cert.GmlpInRefIdeal.main_arg1) = m ((c.tc : Thread Cert.GmlpInRefIdeal.nD Cert.GmlpInRefIdeal.τ).loc Cert.GmlpInRefIdeal.main_arg1))
      ∧ r.2.sem = fun _ => 0) :=
  (θ_run Cert.GmlpInRefIdeal.defs _ _).mono
    (fun r h => ⟨fun c => (h c).2, sem_eq_zero_of_no_sems (by decide) r.2⟩)
    (Cert.GmlpInRefIdeal.Value.run (F := Ideal) m g)

/-- The gated layer's first projection over the extended reals: both programs run and end with the same product. -/
theorem gmlp_in : Cert.algebraic_GmlpInIdeal_GmlpInRefIdeal := by
  intro m g m' g' hp ha
  refine ⟨fun c => Cert.GmlpInIdeal.Hand.prod (m ((c.tc : Thread Cert.GmlpInIdeal.nD Cert.GmlpInIdeal.τ).loc Cert.GmlpInIdeal.main_arg0))
    (m ((c.tc : Thread Cert.GmlpInIdeal.nD Cert.GmlpInIdeal.τ).loc Cert.GmlpInIdeal.main_arg1)),
    (θ_run Cert.GmlpInIdeal.defs _ _).mono (fun r h c => h c) (Cert.GmlpInIdeal.Hand.run m g), ?_⟩
  refine (θ_run Cert.GmlpInRefIdeal.defs _ _).mono (fun r h c => ?_) (Cert.GmlpInRefIdeal.Value.run (F := Ideal) m' g')
  obtain ⟨a0, a1⟩ := ha c
  refine ⟨(h c).1.trans ((Cert.GmlpInRefIdeal.Read.val_main_v2_eq _ _).trans ?_), (h c).2⟩
  rw [a0, a1]
  exact Cert.GmlpInRefIdeal.Hand.result_eq _ _

/-- The reference runs, leaves its arguments and every counter as they were. -/
theorem frame_ffn_down_reference (m : (ℓ : Loc Cert.FfnDownRefIdeal.nD Cert.FfnDownRefIdeal.τ Cert.FfnDownRefIdeal.sig) → Buf (Elt Ideal) ℓ)
    (g : Dev Cert.FfnDownRefIdeal.nD → PrngReg) :
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0) :=
  (θ_run Cert.FfnDownRefIdeal.defs _ _).mono
    (fun r h => ⟨fun c => (h c).2, sem_eq_zero_of_no_sems (by decide) r.2⟩)
    (Cert.FfnDownRefIdeal.Value.run (F := Ideal) m g)

/-- The feed-forward layer's down projection over the extended reals: both programs run and end with the same rows. -/
theorem ffn_down : Cert.algebraic_FfnDownIdeal_FfnDownRefIdeal := by
  intro m g m' g' hp ha
  refine ⟨fun c => Cert.FfnDownIdeal.Hand.prod (m ((c.tc : Thread Cert.FfnDownIdeal.nD Cert.FfnDownIdeal.τ).loc Cert.FfnDownIdeal.main_arg0))
    (m ((c.tc : Thread Cert.FfnDownIdeal.nD Cert.FfnDownIdeal.τ).loc Cert.FfnDownIdeal.main_arg1))
    (m ((c.tc : Thread Cert.FfnDownIdeal.nD Cert.FfnDownIdeal.τ).loc Cert.FfnDownIdeal.main_arg2)),
    (θ_run Cert.FfnDownIdeal.defs _ _).mono (fun r h c => h c) (Cert.FfnDownIdeal.Hand.run m g), ?_⟩
  refine (θ_run Cert.FfnDownRefIdeal.defs _ _).mono (fun r h c => ?_) (Cert.FfnDownRefIdeal.Value.run (F := Ideal) m' g')
  obtain ⟨a0, a1, a2⟩ := ha c
  refine ⟨(h c).1.trans ((Cert.FfnDownRefIdeal.Read.val_main_v4_eq _ _ _).trans ?_), (h c).2⟩
  rw [a0, a1, a2]
  exact Cert.FfnDownRefIdeal.Hand.result_eq _ _ _

/-- The reference runs, leaves its arguments and every counter as they were. -/
theorem frame_gmlp_out_reference (m : (ℓ : Loc Cert.GmlpOutRefIdeal.nD Cert.GmlpOutRefIdeal.τ Cert.GmlpOutRefIdeal.sig) → Buf (Elt Ideal) ℓ)
    (g : Dev Cert.GmlpOutRefIdeal.nD → PrngReg) :
    θ_run (Cert.GmlpOutRefIdeal.defs (F := Ideal)) (onTc (τ := Cert.GmlpOutRefIdeal.τ) (Cert.GmlpOutRefIdeal.main (F := Ideal))) ⟨m, fun _ => 0, g⟩ (fun r => (∀ c : Dev Cert.GmlpOutRefIdeal.nD,
      r.2.mem ((c.tc : Thread Cert.GmlpOutRefIdeal.nD Cert.GmlpOutRefIdeal.τ).loc Cert.GmlpOutRefIdeal.main_arg0) = m ((c.tc : Thread Cert.GmlpOutRefIdeal.nD Cert.GmlpOutRefIdeal.τ).loc Cert.GmlpOutRefIdeal.main_arg0)
      ∧ r.2.mem ((c.tc : Thread Cert.GmlpOutRefIdeal.nD Cert.GmlpOutRefIdeal.τ).loc Cert.GmlpOutRefIdeal.main_arg1) = m ((c.tc : Thread Cert.GmlpOutRefIdeal.nD Cert.GmlpOutRefIdeal.τ).loc Cert.GmlpOutRefIdeal.main_arg1)
      ∧ r.2.mem ((c.tc : Thread Cert.GmlpOutRefIdeal.nD Cert.GmlpOutRefIdeal.τ).loc Cert.GmlpOutRefIdeal.main_arg2) = m ((c.tc : Thread Cert.GmlpOutRefIdeal.nD Cert.GmlpOutRefIdeal.τ).loc Cert.GmlpOutRefIdeal.main_arg2))
      ∧ r.2.sem = fun _ => 0) :=
  (θ_run Cert.GmlpOutRefIdeal.defs _ _).mono
    (fun r h => ⟨fun c => (h c).2, sem_eq_zero_of_no_sems (by decide) r.2⟩)
    (Cert.GmlpOutRefIdeal.Value.run (F := Ideal) m g)

/-- The gated layer's last projection over the extended reals: both programs run and end with the same rows. -/
theorem gmlp_out : Cert.algebraic_GmlpOutIdeal_GmlpOutRefIdeal := by
  intro m g m' g' hp ha
  refine ⟨fun c => Cert.GmlpOutIdeal.Hand.prod (m ((c.tc : Thread Cert.GmlpOutIdeal.nD Cert.GmlpOutIdeal.τ).loc Cert.GmlpOutIdeal.main_arg0))
    (m ((c.tc : Thread Cert.GmlpOutIdeal.nD Cert.GmlpOutIdeal.τ).loc Cert.GmlpOutIdeal.main_arg1))
    (m ((c.tc : Thread Cert.GmlpOutIdeal.nD Cert.GmlpOutIdeal.τ).loc Cert.GmlpOutIdeal.main_arg2)),
    (θ_run Cert.GmlpOutIdeal.defs _ _).mono (fun r h c => h c) (Cert.GmlpOutIdeal.Hand.run m g), ?_⟩
  refine (θ_run Cert.GmlpOutRefIdeal.defs _ _).mono (fun r h c => ?_) (Cert.GmlpOutRefIdeal.Value.run (F := Ideal) m' g')
  obtain ⟨a0, a1, a2⟩ := ha c
  refine ⟨(h c).1.trans ((Cert.GmlpOutRefIdeal.Read.val_main_v3_eq _ _ _).trans ?_), (h c).2⟩
  rw [a0, a1, a2]
  exact Cert.GmlpOutRefIdeal.Hand.result_eq _ _ _

/-- The reference runs, leaves its arguments and every counter as they were. -/
theorem frame_ret_out_reference (m : (ℓ : Loc Cert.RetOutRefIdeal.nD Cert.RetOutRefIdeal.τ Cert.RetOutRefIdeal.sig) → Buf (Elt Ideal) ℓ)
    (g : Dev Cert.RetOutRefIdeal.nD → PrngReg) :
    θ_run (Cert.RetOutRefIdeal.defs (F := Ideal)) (onTc (τ := Cert.RetOutRefIdeal.τ) (Cert.RetOutRefIdeal.main (F := Ideal))) ⟨m, fun _ => 0, g⟩ (fun r => (∀ c : Dev Cert.RetOutRefIdeal.nD,
      r.2.mem ((c.tc : Thread Cert.RetOutRefIdeal.nD Cert.RetOutRefIdeal.τ).loc Cert.RetOutRefIdeal.main_arg0) = m ((c.tc : Thread Cert.RetOutRefIdeal.nD Cert.RetOutRefIdeal.τ).loc Cert.RetOutRefIdeal.main_arg0)
      ∧ r.2.mem ((c.tc : Thread Cert.RetOutRefIdeal.nD Cert.RetOutRefIdeal.τ).loc Cert.RetOutRefIdeal.main_arg1) = m ((c.tc : Thread Cert.RetOutRefIdeal.nD Cert.RetOutRefIdeal.τ).loc Cert.RetOutRefIdeal.main_arg1)
      ∧ r.2.mem ((c.tc : Thread Cert.RetOutRefIdeal.nD Cert.RetOutRefIdeal.τ).loc Cert.RetOutRefIdeal.main_arg2) = m ((c.tc : Thread Cert.RetOutRefIdeal.nD Cert.RetOutRefIdeal.τ).loc Cert.RetOutRefIdeal.main_arg2)
      ∧ r.2.mem ((c.tc : Thread Cert.RetOutRefIdeal.nD Cert.RetOutRefIdeal.τ).loc Cert.RetOutRefIdeal.main_arg3) = m ((c.tc : Thread Cert.RetOutRefIdeal.nD Cert.RetOutRefIdeal.τ).loc Cert.RetOutRefIdeal.main_arg3))
      ∧ r.2.sem = fun _ => 0) :=
  (θ_run Cert.RetOutRefIdeal.defs _ _).mono
    (fun r h => ⟨fun c => (h c).2, sem_eq_zero_of_no_sems (by decide) r.2⟩)
    (Cert.RetOutRefIdeal.Value.run (F := Ideal) m g)

/-- The retention layer's last projection over the extended reals: both programs run and end with the same rows. -/
theorem ret_out : Cert.algebraic_RetOutIdeal_RetOutRefIdeal := by
  intro m g m' g' hp ha
  refine ⟨fun c => Cert.RetOutIdeal.Hand.prod (m ((c.tc : Thread Cert.RetOutIdeal.nD Cert.RetOutIdeal.τ).loc Cert.RetOutIdeal.main_arg0))
    (m ((c.tc : Thread Cert.RetOutIdeal.nD Cert.RetOutIdeal.τ).loc Cert.RetOutIdeal.main_arg1))
    (m ((c.tc : Thread Cert.RetOutIdeal.nD Cert.RetOutIdeal.τ).loc Cert.RetOutIdeal.main_arg2))
    (m ((c.tc : Thread Cert.RetOutIdeal.nD Cert.RetOutIdeal.τ).loc Cert.RetOutIdeal.main_arg3)),
    (θ_run Cert.RetOutIdeal.defs _ _).mono (fun r h c => h c) (Cert.RetOutIdeal.Hand.run m g), ?_⟩
  refine (θ_run Cert.RetOutRefIdeal.defs _ _).mono (fun r h c => ?_) (Cert.RetOutRefIdeal.Value.run (F := Ideal) m' g')
  obtain ⟨a0, a1, a2, a3⟩ := ha c
  refine ⟨(h c).1.trans ((Cert.RetOutRefIdeal.Read.val_main_v5_eq _ _ _ _).trans ?_), (h c).2⟩
  rw [a0, a1, a2, a3]
  exact Cert.RetOutRefIdeal.Hand.result_eq _ _ _ _

/-- The reference runs, leaves its arguments and every counter as they were. -/
theorem frame_att_out_reference (m : (ℓ : Loc Cert.AttOutRefIdeal.nD Cert.AttOutRefIdeal.τ Cert.AttOutRefIdeal.sig) → Buf (Elt Ideal) ℓ)
    (g : Dev Cert.AttOutRefIdeal.nD → PrngReg) :
    θ_run (Cert.AttOutRefIdeal.defs (F := Ideal)) (onTc (τ := Cert.AttOutRefIdeal.τ) (Cert.AttOutRefIdeal.main (F := Ideal))) ⟨m, fun _ => 0, g⟩ (fun r => (∀ c : Dev Cert.AttOutRefIdeal.nD,
      r.2.mem ((c.tc : Thread Cert.AttOutRefIdeal.nD Cert.AttOutRefIdeal.τ).loc Cert.AttOutRefIdeal.main_arg0) = m ((c.tc : Thread Cert.AttOutRefIdeal.nD Cert.AttOutRefIdeal.τ).loc Cert.AttOutRefIdeal.main_arg0)
      ∧ r.2.mem ((c.tc : Thread Cert.AttOutRefIdeal.nD Cert.AttOutRefIdeal.τ).loc Cert.AttOutRefIdeal.main_arg1) = m ((c.tc : Thread Cert.AttOutRefIdeal.nD Cert.AttOutRefIdeal.τ).loc Cert.AttOutRefIdeal.main_arg1)
      ∧ r.2.mem ((c.tc : Thread Cert.AttOutRefIdeal.nD Cert.AttOutRefIdeal.τ).loc Cert.AttOutRefIdeal.main_arg2) = m ((c.tc : Thread Cert.AttOutRefIdeal.nD Cert.AttOutRefIdeal.τ).loc Cert.AttOutRefIdeal.main_arg2)
      ∧ r.2.mem ((c.tc : Thread Cert.AttOutRefIdeal.nD Cert.AttOutRefIdeal.τ).loc Cert.AttOutRefIdeal.main_arg3) = m ((c.tc : Thread Cert.AttOutRefIdeal.nD Cert.AttOutRefIdeal.τ).loc Cert.AttOutRefIdeal.main_arg3))
      ∧ r.2.sem = fun _ => 0) :=
  (θ_run Cert.AttOutRefIdeal.defs _ _).mono
    (fun r h => ⟨fun c => (h c).2, sem_eq_zero_of_no_sems (by decide) r.2⟩)
    (Cert.AttOutRefIdeal.Value.run (F := Ideal) m g)

/-- The attention layer's last projection over the extended reals: both programs run and end with the same rows. -/
theorem att_out : Cert.algebraic_AttOutIdeal_AttOutRefIdeal := by
  intro m g m' g' hp ha
  refine ⟨fun c => Cert.AttOutIdeal.Hand.prod (m ((c.tc : Thread Cert.AttOutIdeal.nD Cert.AttOutIdeal.τ).loc Cert.AttOutIdeal.main_arg0))
    (m ((c.tc : Thread Cert.AttOutIdeal.nD Cert.AttOutIdeal.τ).loc Cert.AttOutIdeal.main_arg1))
    (m ((c.tc : Thread Cert.AttOutIdeal.nD Cert.AttOutIdeal.τ).loc Cert.AttOutIdeal.main_arg2))
    (m ((c.tc : Thread Cert.AttOutIdeal.nD Cert.AttOutIdeal.τ).loc Cert.AttOutIdeal.main_arg3)),
    (θ_run Cert.AttOutIdeal.defs _ _).mono (fun r h c => h c) (Cert.AttOutIdeal.Hand.run m g), ?_⟩
  refine (θ_run Cert.AttOutRefIdeal.defs _ _).mono (fun r h c => ?_) (Cert.AttOutRefIdeal.Value.run (F := Ideal) m' g')
  obtain ⟨a0, a1, a2, a3⟩ := ha c
  refine ⟨(h c).1.trans ((Cert.AttOutRefIdeal.Read.val_main_v4_eq _ _ _ _).trans ?_), (h c).2⟩
  rw [a0, a1, a2, a3]
  exact Cert.AttOutRefIdeal.Hand.result_eq _ _ _ _

/-- The reference runs, leaves its arguments and every counter as they were. -/
theorem frame_ret_reference (m : (ℓ : Loc Cert.RetRefIdeal.nD Cert.RetRefIdeal.τ Cert.RetRefIdeal.sig) → Buf (Elt Ideal) ℓ)
    (g : Dev Cert.RetRefIdeal.nD → PrngReg) :
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3)
      ∧ r.2.mem ((c.tc : Thread Cert.RetRefIdeal.nD Cert.RetRefIdeal.τ).loc Cert.RetRefIdeal.main_arg4) = m ((c.tc : Thread Cert.RetRefIdeal.nD Cert.RetRefIdeal.τ).loc Cert.RetRefIdeal.main_arg4)
      ∧ r.2.mem ((c.tc : Thread Cert.RetRefIdeal.nD Cert.RetRefIdeal.τ).loc Cert.RetRefIdeal.main_arg5) = m ((c.tc : Thread Cert.RetRefIdeal.nD Cert.RetRefIdeal.τ).loc Cert.RetRefIdeal.main_arg5))
      ∧ r.2.sem = fun _ => 0) :=
  (θ_run Cert.RetRefIdeal.defs _ _).mono
    (fun r h => ⟨fun c => (h c).2, sem_eq_zero_of_no_sems (by decide) r.2⟩)
    (Cert.RetRefIdeal.Value.run (F := Ideal) m g)

/-- The samples' retention leaves the reference's states. -/
theorem ret : Cert.algebraic_RetIdeal_RetRefIdeal := by
  intro m g m' g' hp ha
  refine ⟨fun c => Cert.RetIdeal.Hand.prod (m ((c.tc : Thread Cert.RetIdeal.nD Cert.RetIdeal.τ).loc Cert.RetIdeal.main_arg0))
    (m ((c.tc : Thread Cert.RetIdeal.nD Cert.RetIdeal.τ).loc Cert.RetIdeal.main_arg1))
    (m ((c.tc : Thread Cert.RetIdeal.nD Cert.RetIdeal.τ).loc Cert.RetIdeal.main_arg2))
    (m ((c.tc : Thread Cert.RetIdeal.nD Cert.RetIdeal.τ).loc Cert.RetIdeal.main_arg3))
    (m ((c.tc : Thread Cert.RetIdeal.nD Cert.RetIdeal.τ).loc Cert.RetIdeal.main_arg4))
    (m ((c.tc : Thread Cert.RetIdeal.nD Cert.RetIdeal.τ).loc Cert.RetIdeal.main_arg5)),
    (θ_run Cert.RetIdeal.defs _ _).mono (fun r h c => h c) (Cert.RetIdeal.Hand.run m g), ?_⟩
  refine (θ_run Cert.RetRefIdeal.defs _ _).mono (fun r h c => ?_) (Cert.RetRefIdeal.Value.run (F := Ideal) m' g')
  obtain ⟨a0, a1, a2, a3, a4, a5⟩ := ha c
  refine ⟨(h c).1.trans ((Cert.RetRefIdeal.Read.val_main_v48_eq _ _ _ _ _ _).trans ?_), (h c).2⟩
  rw [a0, a1, a2, a3, a4, a5]
  exact Cert.RetRefIdeal.Hand.result_eq _ _ _ _ _ _

theorem claim : Cert.Claim :=
  ⟨Cert.Kernel.Gen.facts, Cert.KernelIdeal.Gen.facts, Cert.ReferenceIdeal.Gen.facts, Cert.Down.Gen.facts, Cert.DownIdeal.Gen.facts,
    Cert.DownRefIdeal.Gen.facts, Cert.Up.Gen.facts, Cert.UpIdeal.Gen.facts, Cert.UpRefIdeal.Gen.facts,
    Cert.Rows.Gen.facts, Cert.RowsIdeal.Gen.facts, Cert.RowsRefIdeal.Gen.facts, Cert.Final.Gen.facts, Cert.FinalIdeal.Gen.facts, Cert.FinalRefIdeal.Gen.facts,
    Cert.Gate.Gen.facts, Cert.GateIdeal.Gen.facts, Cert.GateRefIdeal.Gen.facts,
    Cert.RetIn.Gen.facts, Cert.RetInIdeal.Gen.facts, Cert.RetInRefIdeal.Gen.facts,
    Cert.GmlpIn.Gen.facts, Cert.GmlpInIdeal.Gen.facts, Cert.GmlpInRefIdeal.Gen.facts,
    Cert.FfnDown.Gen.facts, Cert.FfnDownIdeal.Gen.facts, Cert.FfnDownRefIdeal.Gen.facts,
    Cert.GmlpOut.Gen.facts, Cert.GmlpOutIdeal.Gen.facts, Cert.GmlpOutRefIdeal.Gen.facts,
    Cert.RetOut.Gen.facts, Cert.RetOutIdeal.Gen.facts, Cert.RetOutRefIdeal.Gen.facts,
    Cert.AttOut.Gen.facts, Cert.AttOutIdeal.Gen.facts, Cert.AttOutRefIdeal.Gen.facts,
    Cert.Ret.Gen.facts, Cert.RetIdeal.Gen.facts, Cert.RetRefIdeal.Gen.facts,
    Cert.Pre_finite.Gen.facts,
    Cert.Pre_planned.Gen.facts, Cert.Pre_padded.Gen.facts, Cert.Pre_planned_up.Gen.facts, Cert.Pre_padded_up.Gen.facts,
    fun m ρ _ => Cert.Kernel.Gen.frame m ρ,
    fun m ρ _ => Cert.KernelIdeal.Gen.frame m ρ,
    fun m ρ _ => Cert.KernelIdeal.Gen.frame m ρ,
    fun m ρ _ => frame_reference m ρ,
    fun m ρ _ => frame_reference m ρ,
    fun m ρ h => Cert.Down.Hand.frame (F := Bits) m ρ fun c => Cert.Pre_planned.Hand.plan_of _ _ _ _ _ _ _ (h c),
    fun m ρ h => Cert.DownIdeal.Hand.frame (F := Ideal) m ρ fun c => Cert.Pre_planned.Hand.plan_of _ _ _ _ _ _ _ (h c),
    fun m ρ h => Cert.DownIdeal.Hand.frame (F := Ideal) m ρ fun c => (Cert.Pre_padded.Hand.parts _ _ _ _ _ _ _ (h c)).1,
    fun m ρ _ => frame_down_reference m ρ,
    fun m ρ _ => frame_down_reference m ρ,
    fun m ρ h => Cert.Up.Hand.frame (F := Bits) m ρ fun c => Cert.Pre_planned_up.Hand.plan_of _ _ _ _ _ _ _ (h c),
    fun m ρ h => Cert.UpIdeal.Hand.frame (F := Ideal) m ρ fun c => Cert.Pre_planned_up.Hand.plan_of _ _ _ _ _ _ _ (h c),
    fun m ρ h => Cert.UpIdeal.Hand.frame (F := Ideal) m ρ fun c => (Cert.Pre_padded_up.Hand.parts _ _ _ _ _ _ _ (h c)).1,
    fun m ρ _ => frame_up_reference m ρ,
    fun m ρ _ => frame_up_reference m ρ,
    fun m ρ _ => Cert.Rows.Gen.frame m ρ,
    fun m ρ _ => Cert.RowsIdeal.Gen.frame m ρ,
    fun m ρ _ => frame_rows_reference m ρ,
    fun m ρ _ => Cert.Final.Gen.frame m ρ,
    fun m ρ _ => Cert.FinalIdeal.Gen.frame m ρ,
    fun m ρ _ => frame_final_reference m ρ,
    fun m ρ _ => Cert.Gate.Gen.frame m ρ,
    fun m ρ _ => Cert.GateIdeal.Gen.frame m ρ,
    fun m ρ _ => frame_gate_reference m ρ,
    fun m ρ _ => Cert.RetIn.Gen.frame m ρ,
    fun m ρ _ => Cert.RetInIdeal.Gen.frame m ρ,
    fun m ρ _ => frame_ret_in_reference m ρ,
    fun m ρ _ => Cert.GmlpIn.Gen.frame m ρ,
    fun m ρ _ => Cert.GmlpInIdeal.Gen.frame m ρ,
    fun m ρ _ => frame_gmlp_in_reference m ρ,
    fun m ρ _ => Cert.FfnDown.Gen.frame m ρ,
    fun m ρ _ => Cert.FfnDownIdeal.Gen.frame m ρ,
    fun m ρ _ => frame_ffn_down_reference m ρ,
    fun m ρ _ => Cert.GmlpOut.Gen.frame m ρ,
    fun m ρ _ => Cert.GmlpOutIdeal.Gen.frame m ρ,
    fun m ρ _ => frame_gmlp_out_reference m ρ,
    fun m ρ _ => Cert.RetOut.Gen.frame m ρ,
    fun m ρ _ => Cert.RetOutIdeal.Gen.frame m ρ,
    fun m ρ _ => frame_ret_out_reference m ρ,
    fun m ρ _ => Cert.AttOut.Gen.frame m ρ,
    fun m ρ _ => Cert.AttOutIdeal.Gen.frame m ρ,
    fun m ρ _ => frame_att_out_reference m ρ,
    fun m ρ _ => Cert.Ret.Gen.frame m ρ,
    fun m ρ _ => Cert.RetIdeal.Gen.frame m ρ,
    fun m ρ _ => frame_ret_reference m ρ,
    IdealRules.named_const.statement Cert.KernelIdeal.κ "mask" .f32 0xF149F2CA#32 ⊥ rfl,
    attention,
    trivial,
    down,
    trivial,
    up,
    trivial,
    rows,
    trivial,
    final,
    trivial,
    gate,
    trivial,
    ret_in,
    trivial,
    gmlp_in,
    trivial,
    ffn_down,
    trivial,
    gmlp_out,
    trivial,
    ret_out,
    trivial,
    att_out,
    trivial,
    ret⟩

end Cert.Proof
